-- ==== Defs.lean ====
def Pre_AttnDq (m : (ℓ : Loc Cert.AttnDq.nD Cert.AttnDq.τ Cert.AttnDq.sig) → Buf (Elt Bits) ℓ) : Prop :=
  True

def Pre_AttnDqIdeal (m : (ℓ : Loc Cert.AttnDqIdeal.nD Cert.AttnDqIdeal.τ Cert.AttnDqIdeal.sig) → Buf (Elt Ideal) ℓ) : Prop :=
  True

def Pre_AttnDqIdeal_finite_ct [hPre_finite_ct : Cert.Pre_finite_ct.Facts] (m : (ℓ : Loc Cert.AttnDqIdeal.nD Cert.AttnDqIdeal.τ Cert.AttnDqIdeal.sig) → Buf (Elt Ideal) ℓ) : Prop :=
  ∀ c : Dev Cert.AttnDqIdeal.nD,
    (Cert.Pre_finite_ct.fn (F := Ideal) (m ((c.tc : Thread Cert.AttnDqIdeal.nD Cert.AttnDqIdeal.τ).loc Cert.AttnDqIdeal.main_arg0)) (m ((c.tc : Thread Cert.AttnDqIdeal.nD Cert.AttnDqIdeal.τ).loc Cert.AttnDqIdeal.main_arg1)) (m ((c.tc : Thread Cert.AttnDqIdeal.nD Cert.AttnDqIdeal.τ).loc Cert.AttnDqIdeal.main_arg2)) (m ((c.tc : Thread Cert.AttnDqIdeal.nD Cert.AttnDqIdeal.τ).loc Cert.AttnDqIdeal.main_arg3))).1 = (fun _ => 1#1)
    ∧ (Cert.Pre_finite_ct.fn (F := Ideal) (m ((c.tc : Thread Cert.AttnDqIdeal.nD Cert.AttnDqIdeal.τ).loc Cert.AttnDqIdeal.main_arg0)) (m ((c.tc : Thread Cert.AttnDqIdeal.nD Cert.AttnDqIdeal.τ).loc Cert.AttnDqIdeal.main_arg1)) (m ((c.tc : Thread Cert.AttnDqIdeal.nD Cert.AttnDqIdeal.τ).loc Cert.AttnDqIdeal.main_arg2)) (m ((c.tc : Thread Cert.AttnDqIdeal.nD Cert.AttnDqIdeal.τ).loc Cert.AttnDqIdeal.main_arg3))).2.1 = (fun _ => 1#1)
    ∧ (Cert.Pre_finite_ct.fn (F := Ideal) (m ((c.tc : Thread Cert.AttnDqIdeal.nD Cert.AttnDqIdeal.τ).loc Cert.AttnDqIdeal.main_arg0)) (m ((c.tc : Thread Cert.AttnDqIdeal.nD Cert.AttnDqIdeal.τ).loc Cert.AttnDqIdeal.main_arg1)) (m ((c.tc : Thread Cert.AttnDqIdeal.nD Cert.AttnDqIdeal.τ).loc Cert.AttnDqIdeal.main_arg2)) (m ((c.tc : Thread Cert.AttnDqIdeal.nD Cert.AttnDqIdeal.τ).loc Cert.AttnDqIdeal.main_arg3))).2.2.1 = (fun _ => 1#1)
    ∧ (Cert.Pre_finite_ct.fn (F := Ideal) (m ((c.tc : Thread Cert.AttnDqIdeal.nD Cert.AttnDqIdeal.τ).loc Cert.AttnDqIdeal.main_arg0)) (m ((c.tc : Thread Cert.AttnDqIdeal.nD Cert.AttnDqIdeal.τ).loc Cert.AttnDqIdeal.main_arg1)) (m ((c.tc : Thread Cert.AttnDqIdeal.nD Cert.AttnDqIdeal.τ).loc Cert.AttnDqIdeal.main_arg2)) (m ((c.tc : Thread Cert.AttnDqIdeal.nD Cert.AttnDqIdeal.τ).loc Cert.AttnDqIdeal.main_arg3))).2.2.2 = (fun _ => 1#1)

def Pre_RefAttnDqIdeal (m : (ℓ : Loc Cert.RefAttnDqIdeal.nD Cert.RefAttnDqIdeal.τ Cert.RefAttnDqIdeal.sig) → Buf (Elt Ideal) ℓ) : Prop :=
  True

def Pre_RefAttnDqIdeal_finite_ct [hPre_finite_ct : Cert.Pre_finite_ct.Facts] (m : (ℓ : Loc Cert.RefAttnDqIdeal.nD Cert.RefAttnDqIdeal.τ Cert.RefAttnDqIdeal.sig) → Buf (Elt Ideal) ℓ) : Prop :=
  ∀ c : Dev Cert.RefAttnDqIdeal.nD,
    (Cert.Pre_finite_ct.fn (F := Ideal) (m ((c.tc : Thread Cert.RefAttnDqIdeal.nD Cert.RefAttnDqIdeal.τ).loc Cert.RefAttnDqIdeal.main_arg0)) (m ((c.tc : Thread Cert.RefAttnDqIdeal.nD Cert.RefAttnDqIdeal.τ).loc Cert.RefAttnDqIdeal.main_arg1)) (m ((c.tc : Thread Cert.RefAttnDqIdeal.nD Cert.RefAttnDqIdeal.τ).loc Cert.RefAttnDqIdeal.main_arg2)) (m ((c.tc : Thread Cert.RefAttnDqIdeal.nD Cert.RefAttnDqIdeal.τ).loc Cert.RefAttnDqIdeal.main_arg3))).1 = (fun _ => 1#1)
    ∧ (Cert.Pre_finite_ct.fn (F := Ideal) (m ((c.tc : Thread Cert.RefAttnDqIdeal.nD Cert.RefAttnDqIdeal.τ).loc Cert.RefAttnDqIdeal.main_arg0)) (m ((c.tc : Thread Cert.RefAttnDqIdeal.nD Cert.RefAttnDqIdeal.τ).loc Cert.RefAttnDqIdeal.main_arg1)) (m ((c.tc : Thread Cert.RefAttnDqIdeal.nD Cert.RefAttnDqIdeal.τ).loc Cert.RefAttnDqIdeal.main_arg2)) (m ((c.tc : Thread Cert.RefAttnDqIdeal.nD Cert.RefAttnDqIdeal.τ).loc Cert.RefAttnDqIdeal.main_arg3))).2.1 = (fun _ => 1#1)
    ∧ (Cert.Pre_finite_ct.fn (F := Ideal) (m ((c.tc : Thread Cert.RefAttnDqIdeal.nD Cert.RefAttnDqIdeal.τ).loc Cert.RefAttnDqIdeal.main_arg0)) (m ((c.tc : Thread Cert.RefAttnDqIdeal.nD Cert.RefAttnDqIdeal.τ).loc Cert.RefAttnDqIdeal.main_arg1)) (m ((c.tc : Thread Cert.RefAttnDqIdeal.nD Cert.RefAttnDqIdeal.τ).loc Cert.RefAttnDqIdeal.main_arg2)) (m ((c.tc : Thread Cert.RefAttnDqIdeal.nD Cert.RefAttnDqIdeal.τ).loc Cert.RefAttnDqIdeal.main_arg3))).2.2.1 = (fun _ => 1#1)
    ∧ (Cert.Pre_finite_ct.fn (F := Ideal) (m ((c.tc : Thread Cert.RefAttnDqIdeal.nD Cert.RefAttnDqIdeal.τ).loc Cert.RefAttnDqIdeal.main_arg0)) (m ((c.tc : Thread Cert.RefAttnDqIdeal.nD Cert.RefAttnDqIdeal.τ).loc Cert.RefAttnDqIdeal.main_arg1)) (m ((c.tc : Thread Cert.RefAttnDqIdeal.nD Cert.RefAttnDqIdeal.τ).loc Cert.RefAttnDqIdeal.main_arg2)) (m ((c.tc : Thread Cert.RefAttnDqIdeal.nD Cert.RefAttnDqIdeal.τ).loc Cert.RefAttnDqIdeal.main_arg3))).2.2.2 = (fun _ => 1#1)

def Pre_AttnDkv (m : (ℓ : Loc Cert.AttnDkv.nD Cert.AttnDkv.τ Cert.AttnDkv.sig) → Buf (Elt Bits) ℓ) : Prop :=
  True

def Pre_AttnDkvIdeal (m : (ℓ : Loc Cert.AttnDkvIdeal.nD Cert.AttnDkvIdeal.τ Cert.AttnDkvIdeal.sig) → Buf (Elt Ideal) ℓ) : Prop :=
  True

def Pre_AttnDkvIdeal_finite_ct [hPre_finite_ct : Cert.Pre_finite_ct.Facts] (m : (ℓ : Loc Cert.AttnDkvIdeal.nD Cert.AttnDkvIdeal.τ Cert.AttnDkvIdeal.sig) → Buf (Elt Ideal) ℓ) : Prop :=
  ∀ c : Dev Cert.AttnDkvIdeal.nD,
    (Cert.Pre_finite_ct.fn (F := Ideal) (m ((c.tc : Thread Cert.AttnDkvIdeal.nD Cert.AttnDkvIdeal.τ).loc Cert.AttnDkvIdeal.main_arg0)) (m ((c.tc : Thread Cert.AttnDkvIdeal.nD Cert.AttnDkvIdeal.τ).loc Cert.AttnDkvIdeal.main_arg1)) (m ((c.tc : Thread Cert.AttnDkvIdeal.nD Cert.AttnDkvIdeal.τ).loc Cert.AttnDkvIdeal.main_arg2)) (m ((c.tc : Thread Cert.AttnDkvIdeal.nD Cert.AttnDkvIdeal.τ).loc Cert.AttnDkvIdeal.main_arg3))).1 = (fun _ => 1#1)
    ∧ (Cert.Pre_finite_ct.fn (F := Ideal) (m ((c.tc : Thread Cert.AttnDkvIdeal.nD Cert.AttnDkvIdeal.τ).loc Cert.AttnDkvIdeal.main_arg0)) (m ((c.tc : Thread Cert.AttnDkvIdeal.nD Cert.AttnDkvIdeal.τ).loc Cert.AttnDkvIdeal.main_arg1)) (m ((c.tc : Thread Cert.AttnDkvIdeal.nD Cert.AttnDkvIdeal.τ).loc Cert.AttnDkvIdeal.main_arg2)) (m ((c.tc : Thread Cert.AttnDkvIdeal.nD Cert.AttnDkvIdeal.τ).loc Cert.AttnDkvIdeal.main_arg3))).2.1 = (fun _ => 1#1)
    ∧ (Cert.Pre_finite_ct.fn (F := Ideal) (m ((c.tc : Thread Cert.AttnDkvIdeal.nD Cert.AttnDkvIdeal.τ).loc Cert.AttnDkvIdeal.main_arg0)) (m ((c.tc : Thread Cert.AttnDkvIdeal.nD Cert.AttnDkvIdeal.τ).loc Cert.AttnDkvIdeal.main_arg1)) (m ((c.tc : Thread Cert.AttnDkvIdeal.nD Cert.AttnDkvIdeal.τ).loc Cert.AttnDkvIdeal.main_arg2)) (m ((c.tc : Thread Cert.AttnDkvIdeal.nD Cert.AttnDkvIdeal.τ).loc Cert.AttnDkvIdeal.main_arg3))).2.2.1 = (fun _ => 1#1)
    ∧ (Cert.Pre_finite_ct.fn (F := Ideal) (m ((c.tc : Thread Cert.AttnDkvIdeal.nD Cert.AttnDkvIdeal.τ).loc Cert.AttnDkvIdeal.main_arg0)) (m ((c.tc : Thread Cert.AttnDkvIdeal.nD Cert.AttnDkvIdeal.τ).loc Cert.AttnDkvIdeal.main_arg1)) (m ((c.tc : Thread Cert.AttnDkvIdeal.nD Cert.AttnDkvIdeal.τ).loc Cert.AttnDkvIdeal.main_arg2)) (m ((c.tc : Thread Cert.AttnDkvIdeal.nD Cert.AttnDkvIdeal.τ).loc Cert.AttnDkvIdeal.main_arg3))).2.2.2 = (fun _ => 1#1)

def Pre_RefAttnDkvIdeal (m : (ℓ : Loc Cert.RefAttnDkvIdeal.nD Cert.RefAttnDkvIdeal.τ Cert.RefAttnDkvIdeal.sig) → Buf (Elt Ideal) ℓ) : Prop :=
  True

def Pre_RefAttnDkvIdeal_finite_ct [hPre_finite_ct : Cert.Pre_finite_ct.Facts] (m : (ℓ : Loc Cert.RefAttnDkvIdeal.nD Cert.RefAttnDkvIdeal.τ Cert.RefAttnDkvIdeal.sig) → Buf (Elt Ideal) ℓ) : Prop :=
  ∀ c : Dev Cert.RefAttnDkvIdeal.nD,
    (Cert.Pre_finite_ct.fn (F := Ideal) (m ((c.tc : Thread Cert.RefAttnDkvIdeal.nD Cert.RefAttnDkvIdeal.τ).loc Cert.RefAttnDkvIdeal.main_arg0)) (m ((c.tc : Thread Cert.RefAttnDkvIdeal.nD Cert.RefAttnDkvIdeal.τ).loc Cert.RefAttnDkvIdeal.main_arg1)) (m ((c.tc : Thread Cert.RefAttnDkvIdeal.nD Cert.RefAttnDkvIdeal.τ).loc Cert.RefAttnDkvIdeal.main_arg2)) (m ((c.tc : Thread Cert.RefAttnDkvIdeal.nD Cert.RefAttnDkvIdeal.τ).loc Cert.RefAttnDkvIdeal.main_arg3))).1 = (fun _ => 1#1)
    ∧ (Cert.Pre_finite_ct.fn (F := Ideal) (m ((c.tc : Thread Cert.RefAttnDkvIdeal.nD Cert.RefAttnDkvIdeal.τ).loc Cert.RefAttnDkvIdeal.main_arg0)) (m ((c.tc : Thread Cert.RefAttnDkvIdeal.nD Cert.RefAttnDkvIdeal.τ).loc Cert.RefAttnDkvIdeal.main_arg1)) (m ((c.tc : Thread Cert.RefAttnDkvIdeal.nD Cert.RefAttnDkvIdeal.τ).loc Cert.RefAttnDkvIdeal.main_arg2)) (m ((c.tc : Thread Cert.RefAttnDkvIdeal.nD Cert.RefAttnDkvIdeal.τ).loc Cert.RefAttnDkvIdeal.main_arg3))).2.1 = (fun _ => 1#1)
    ∧ (Cert.Pre_finite_ct.fn (F := Ideal) (m ((c.tc : Thread Cert.RefAttnDkvIdeal.nD Cert.RefAttnDkvIdeal.τ).loc Cert.RefAttnDkvIdeal.main_arg0)) (m ((c.tc : Thread Cert.RefAttnDkvIdeal.nD Cert.RefAttnDkvIdeal.τ).loc Cert.RefAttnDkvIdeal.main_arg1)) (m ((c.tc : Thread Cert.RefAttnDkvIdeal.nD Cert.RefAttnDkvIdeal.τ).loc Cert.RefAttnDkvIdeal.main_arg2)) (m ((c.tc : Thread Cert.RefAttnDkvIdeal.nD Cert.RefAttnDkvIdeal.τ).loc Cert.RefAttnDkvIdeal.main_arg3))).2.2.1 = (fun _ => 1#1)
    ∧ (Cert.Pre_finite_ct.fn (F := Ideal) (m ((c.tc : Thread Cert.RefAttnDkvIdeal.nD Cert.RefAttnDkvIdeal.τ).loc Cert.RefAttnDkvIdeal.main_arg0)) (m ((c.tc : Thread Cert.RefAttnDkvIdeal.nD Cert.RefAttnDkvIdeal.τ).loc Cert.RefAttnDkvIdeal.main_arg1)) (m ((c.tc : Thread Cert.RefAttnDkvIdeal.nD Cert.RefAttnDkvIdeal.τ).loc Cert.RefAttnDkvIdeal.main_arg2)) (m ((c.tc : Thread Cert.RefAttnDkvIdeal.nD Cert.RefAttnDkvIdeal.τ).loc Cert.RefAttnDkvIdeal.main_arg3))).2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2 = (fun _ => 1#1)

def Pre_RefAttnIdeal (m : (ℓ : Loc Cert.RefAttnIdeal.nD Cert.RefAttnIdeal.τ Cert.RefAttnIdeal.sig) → Buf (Elt Ideal) ℓ) : Prop :=
  True

def Pre_RefAttnIdeal_finite [hPre_finite : Cert.Pre_finite.Facts] (m : (ℓ : Loc Cert.RefAttnIdeal.nD Cert.RefAttnIdeal.τ Cert.RefAttnIdeal.sig) → Buf (Elt Ideal) ℓ) : Prop :=
  ∀ c : Dev Cert.RefAttnIdeal.nD,
    (Cert.Pre_finite.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2))).1 = (fun _ => 1#1)
    ∧ (Cert.Pre_finite.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2))).2.1 = (fun _ => 1#1)
    ∧ (Cert.Pre_finite.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2))).2.2 = (fun _ => 1#1)

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_RefInFwdIdeal (m : (ℓ : Loc Cert.RefInFwdIdeal.nD Cert.RefInFwdIdeal.τ Cert.RefInFwdIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_RefUpFwdIdeal (m : (ℓ : Loc Cert.RefUpFwdIdeal.nD Cert.RefUpFwdIdeal.τ Cert.RefUpFwdIdeal.sig) → Buf (Elt Ideal) ℓ) : Prop :=
  True

def Pre_BranchFwd (m : (ℓ : Loc Cert.BranchFwd.nD Cert.BranchFwd.τ Cert.BranchFwd.sig) → Buf (Elt Bits) ℓ) : Prop :=
  True

def Pre_BranchFwdIdeal (m : (ℓ : Loc Cert.BranchFwdIdeal.nD Cert.BranchFwdIdeal.τ Cert.BranchFwdIdeal.sig) → Buf (Elt Ideal) ℓ) : Prop :=
  True

def Pre_RefBranchFwdIdeal (m : (ℓ : Loc Cert.RefBranchFwdIdeal.nD Cert.RefBranchFwdIdeal.τ Cert.RefBranchFwdIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_RefOutFwdIdeal (m : (ℓ : Loc Cert.RefOutFwdIdeal.nD Cert.RefOutFwdIdeal.τ Cert.RefOutFwdIdeal.sig) → Buf (Elt Ideal) ℓ) : Prop :=
  True

def Pre_InWgrad (m : (ℓ : Loc Cert.InWgrad.nD Cert.InWgrad.τ Cert.InWgrad.sig) → Buf (Elt Bits) ℓ) : Prop :=
  True

def Pre_InWgradIdeal (m : (ℓ : Loc Cert.InWgradIdeal.nD Cert.InWgradIdeal.τ Cert.InWgradIdeal.sig) → Buf (Elt Ideal) ℓ) : Prop :=
  True

def Pre_RefInWgradIdeal (m : (ℓ : Loc Cert.RefInWgradIdeal.nD Cert.RefInWgradIdeal.τ Cert.RefInWgradIdeal.sig) → Buf (Elt Ideal) ℓ) : Prop :=
  True

def Pre_InDgrad (m : (ℓ : Loc Cert.InDgrad.nD Cert.InDgrad.τ Cert.InDgrad.sig) → Buf (Elt Bits) ℓ) : Prop :=
  True

def Pre_InDgradIdeal (m : (ℓ : Loc Cert.InDgradIdeal.nD Cert.InDgradIdeal.τ Cert.InDgradIdeal.sig) → Buf (Elt Ideal) ℓ) : Prop :=
  True

def Pre_RefInDgradIdeal (m : (ℓ : Loc Cert.RefInDgradIdeal.nD Cert.RefInDgradIdeal.τ Cert.RefInDgradIdeal.sig) → Buf (Elt Ideal) ℓ) : Prop :=
  True

def Pre_UpWgrad (m : (ℓ : Loc Cert.UpWgrad.nD Cert.UpWgrad.τ Cert.UpWgrad.sig) → Buf (Elt Bits) ℓ) : Prop :=
  True

def Pre_UpWgradIdeal (m : (ℓ : Loc Cert.UpWgradIdeal.nD Cert.UpWgradIdeal.τ Cert.UpWgradIdeal.sig) → Buf (Elt Ideal) ℓ) : Prop :=
  True

def Pre_RefUpWgradIdeal (m : (ℓ : Loc Cert.RefUpWgradIdeal.nD Cert.RefUpWgradIdeal.τ Cert.RefUpWgradIdeal.sig) → Buf (Elt Ideal) ℓ) : Prop :=
  True

def Pre_UpDgrad (m : (ℓ : Loc Cert.UpDgrad.nD Cert.UpDgrad.τ Cert.UpDgrad.sig) → Buf (Elt Bits) ℓ) : Prop :=
  True

def Pre_UpDgradIdeal (m : (ℓ : Loc Cert.UpDgradIdeal.nD Cert.UpDgradIdeal.τ Cert.UpDgradIdeal.sig) → Buf (Elt Ideal) ℓ) : Prop :=
  True

def Pre_RefUpDgradIdeal (m : (ℓ : Loc Cert.RefUpDgradIdeal.nD Cert.RefUpDgradIdeal.τ Cert.RefUpDgradIdeal.sig) → Buf (Elt Ideal) ℓ) : Prop :=
  True

def Pre_DownWgrad (m : (ℓ : Loc Cert.DownWgrad.nD Cert.DownWgrad.τ Cert.DownWgrad.sig) → Buf (Elt Bits) ℓ) : Prop :=
  True

def Pre_DownWgradIdeal (m : (ℓ : Loc Cert.DownWgradIdeal.nD Cert.DownWgradIdeal.τ Cert.DownWgradIdeal.sig) → Buf (Elt Ideal) ℓ) : Prop :=
  True

def Pre_RefDownWgradIdeal (m : (ℓ : Loc Cert.RefDownWgradIdeal.nD Cert.RefDownWgradIdeal.τ Cert.RefDownWgradIdeal.sig) → Buf (Elt Ideal) ℓ) : Prop :=
  True

def Pre_DownDgrad (m : (ℓ : Loc Cert.DownDgrad.nD Cert.DownDgrad.τ Cert.DownDgrad.sig) → Buf (Elt Bits) ℓ) : Prop :=
  True

def Pre_DownDgradIdeal (m : (ℓ : Loc Cert.DownDgradIdeal.nD Cert.DownDgradIdeal.τ Cert.DownDgradIdeal.sig) → Buf (Elt Ideal) ℓ) : Prop :=
  True

def Pre_RefDownDgradIdeal (m : (ℓ : Loc Cert.RefDownDgradIdeal.nD Cert.RefDownDgradIdeal.τ Cert.RefDownDgradIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_RefDownFwdIdeal (m : (ℓ : Loc Cert.RefDownFwdIdeal.nD Cert.RefDownFwdIdeal.τ Cert.RefDownFwdIdeal.sig) → Buf (Elt Ideal) ℓ) : Prop :=
  True

def Pre_BranchWgrad (m : (ℓ : Loc Cert.BranchWgrad.nD Cert.BranchWgrad.τ Cert.BranchWgrad.sig) → Buf (Elt Bits) ℓ) : Prop :=
  True

def Pre_BranchWgradIdeal (m : (ℓ : Loc Cert.BranchWgradIdeal.nD Cert.BranchWgradIdeal.τ Cert.BranchWgradIdeal.sig) → Buf (Elt Ideal) ℓ) : Prop :=
  True

def Pre_RefBranchWgradIdeal (m : (ℓ : Loc Cert.RefBranchWgradIdeal.nD Cert.RefBranchWgradIdeal.τ Cert.RefBranchWgradIdeal.sig) → Buf (Elt Ideal) ℓ) : Prop :=
  True

def Pre_BranchDgrad (m : (ℓ : Loc Cert.BranchDgrad.nD Cert.BranchDgrad.τ Cert.BranchDgrad.sig) → Buf (Elt Bits) ℓ) : Prop :=
  True

def Pre_BranchDgradIdeal (m : (ℓ : Loc Cert.BranchDgradIdeal.nD Cert.BranchDgradIdeal.τ Cert.BranchDgradIdeal.sig) → Buf (Elt Ideal) ℓ) : Prop :=
  True

def Pre_RefBranchDgradIdeal (m : (ℓ : Loc Cert.RefBranchDgradIdeal.nD Cert.RefBranchDgradIdeal.τ Cert.RefBranchDgradIdeal.sig) → Buf (Elt Ideal) ℓ) : Prop :=
  True

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_RefOutWgradIdeal (m : (ℓ : Loc Cert.RefOutWgradIdeal.nD Cert.RefOutWgradIdeal.τ Cert.RefOutWgradIdeal.sig) → Buf (Elt Ideal) ℓ) : Prop :=
  True

def Pre_OutDgrad (m : (ℓ : Loc Cert.OutDgrad.nD Cert.OutDgrad.τ Cert.OutDgrad.sig) → Buf (Elt Bits) ℓ) : Prop :=
  True

def Pre_OutDgradIdeal (m : (ℓ : Loc Cert.OutDgradIdeal.nD Cert.OutDgradIdeal.τ Cert.OutDgradIdeal.sig) → Buf (Elt Ideal) ℓ) : Prop :=
  True

def Pre_RefOutDgradIdeal (m : (ℓ : Loc Cert.RefOutDgradIdeal.nD Cert.RefOutDgradIdeal.τ Cert.RefOutDgradIdeal.sig) → Buf (Elt Ideal) ℓ) : Prop :=
  True

def Pre_GateDgrad (m : (ℓ : Loc Cert.GateDgrad.nD Cert.GateDgrad.τ Cert.GateDgrad.sig) → Buf (Elt Bits) ℓ) : Prop :=
  True

def Pre_GateDgradIdeal (m : (ℓ : Loc Cert.GateDgradIdeal.nD Cert.GateDgradIdeal.τ Cert.GateDgradIdeal.sig) → Buf (Elt Ideal) ℓ) : Prop :=
  True

def Pre_RefGateDgradIdeal (m : (ℓ : Loc Cert.RefGateDgradIdeal.nD Cert.RefGateDgradIdeal.τ Cert.RefGateDgradIdeal.sig) → Buf (Elt Ideal) ℓ) : Prop :=
  True

def Pre_GateWgrad (m : (ℓ : Loc Cert.GateWgrad.nD Cert.GateWgrad.τ Cert.GateWgrad.sig) → Buf (Elt Bits) ℓ) : Prop :=
  True

def Pre_GateWgradIdeal (m : (ℓ : Loc Cert.GateWgradIdeal.nD Cert.GateWgradIdeal.τ Cert.GateWgradIdeal.sig) → Buf (Elt Ideal) ℓ) : Prop :=
  True

def Pre_RefGateWgradIdeal (m : (ℓ : Loc Cert.RefGateWgradIdeal.nD Cert.RefGateWgradIdeal.τ Cert.RefGateWgradIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_RefGateFwdIdeal (m : (ℓ : Loc Cert.RefGateFwdIdeal.nD Cert.RefGateFwdIdeal.τ Cert.RefGateFwdIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_RefNormFwdIdeal (m : (ℓ : Loc Cert.RefNormFwdIdeal.nD Cert.RefNormFwdIdeal.τ Cert.RefNormFwdIdeal.sig) → Buf (Elt Ideal) ℓ) : Prop :=
  True

def Pre_ModFwd (m : (ℓ : Loc Cert.ModFwd.nD Cert.ModFwd.τ Cert.ModFwd.sig) → Buf (Elt Bits) ℓ) : Prop :=
  True

def Pre_ModFwdIdeal (m : (ℓ : Loc Cert.ModFwdIdeal.nD Cert.ModFwdIdeal.τ Cert.ModFwdIdeal.sig) → Buf (Elt Ideal) ℓ) : Prop :=
  True

def Pre_RefModFwdIdeal (m : (ℓ : Loc Cert.RefModFwdIdeal.nD Cert.RefModFwdIdeal.τ Cert.RefModFwdIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_RefNormBwdIdeal (m : (ℓ : Loc Cert.RefNormBwdIdeal.nD Cert.RefNormBwdIdeal.τ Cert.RefNormBwdIdeal.sig) → Buf (Elt Ideal) ℓ) : Prop :=
  True

def quiescent_AttnDq [hAttnDq : Cert.AttnDq.Facts] : Prop :=
  ∀ (m : (ℓ : Loc Cert.AttnDq.nD Cert.AttnDq.τ Cert.AttnDq.sig) → Buf (Elt Bits) ℓ) (g : Dev Cert.AttnDq.nD → PrngReg), Pre_AttnDq m →
    θ_run (Cert.AttnDq.defs (F := Bits)) (onTc (τ := Cert.AttnDq.τ) (Cert.AttnDq.main (F := Bits))) ⟨m, fun _ => 0, g⟩ (fun r => (∀ c : Dev Cert.AttnDq.nD,
      r.2.mem ((c.tc : Thread Cert.AttnDq.nD Cert.AttnDq.τ).loc Cert.AttnDq.main_arg0) = m ((c.tc : Thread Cert.AttnDq.nD Cert.AttnDq.τ).loc Cert.AttnDq.main_arg0)
      ∧ r.2.mem ((c.tc : Thread Cert.AttnDq.nD Cert.AttnDq.τ).loc Cert.AttnDq.main_arg1) = m ((c.tc : Thread Cert.AttnDq.nD Cert.AttnDq.τ).loc Cert.AttnDq.main_arg1)
      ∧ r.2.mem ((c.tc : Thread Cert.AttnDq.nD Cert.AttnDq.τ).loc Cert.AttnDq.main_arg2) = m ((c.tc : Thread Cert.AttnDq.nD Cert.AttnDq.τ).loc Cert.AttnDq.main_arg2)
      ∧ r.2.mem ((c.tc : Thread Cert.AttnDq.nD Cert.AttnDq.τ).loc Cert.AttnDq.main_arg3) = m ((c.tc : Thread Cert.AttnDq.nD Cert.AttnDq.τ).loc Cert.AttnDq.main_arg3))
      ∧ r.2.sem = fun _ => 0)

def quiescent_AttnDqIdeal [hAttnDqIdeal : Cert.AttnDqIdeal.Facts] : Prop :=
  ∀ (m : (ℓ : Loc Cert.AttnDqIdeal.nD Cert.AttnDqIdeal.τ Cert.AttnDqIdeal.sig) → Buf (Elt Ideal) ℓ) (g : Dev Cert.AttnDqIdeal.nD → PrngReg), Pre_AttnDqIdeal m →
    θ_run (Cert.AttnDqIdeal.defs (F := Ideal)) (onTc (τ := Cert.AttnDqIdeal.τ) (Cert.AttnDqIdeal.main (F := Ideal))) ⟨m, fun _ => 0, g⟩ (fun r => (∀ c : Dev Cert.AttnDqIdeal.nD,
      r.2.mem ((c.tc : Thread Cert.AttnDqIdeal.nD Cert.AttnDqIdeal.τ).loc Cert.AttnDqIdeal.main_arg0) = m ((c.tc : Thread Cert.AttnDqIdeal.nD Cert.AttnDqIdeal.τ).loc Cert.AttnDqIdeal.main_arg0)
      ∧ r.2.mem ((c.tc : Thread Cert.AttnDqIdeal.nD Cert.AttnDqIdeal.τ).loc Cert.AttnDqIdeal.main_arg1) = m ((c.tc : Thread Cert.AttnDqIdeal.nD Cert.AttnDqIdeal.τ).loc Cert.AttnDqIdeal.main_arg1)
      ∧ r.2.mem ((c.tc : Thread Cert.AttnDqIdeal.nD Cert.AttnDqIdeal.τ).loc Cert.AttnDqIdeal.main_arg2) = m ((c.tc : Thread Cert.AttnDqIdeal.nD Cert.AttnDqIdeal.τ).loc Cert.AttnDqIdeal.main_arg2)
      ∧ r.2.mem ((c.tc : Thread Cert.AttnDqIdeal.nD Cert.AttnDqIdeal.τ).loc Cert.AttnDqIdeal.main_arg3) = m ((c.tc : Thread Cert.AttnDqIdeal.nD Cert.AttnDqIdeal.τ).loc Cert.AttnDqIdeal.main_arg3))
      ∧ r.2.sem = fun _ => 0)

def quiescent_AttnDqIdeal_pre_finite_ct [hAttnDqIdeal : Cert.AttnDqIdeal.Facts] [hPre_finite_ct : Cert.Pre_finite_ct.Facts] : Prop :=
  ∀ (m : (ℓ : Loc Cert.AttnDqIdeal.nD Cert.AttnDqIdeal.τ Cert.AttnDqIdeal.sig) → Buf (Elt Ideal) ℓ) (g : Dev Cert.AttnDqIdeal.nD → PrngReg), Pre_AttnDqIdeal_finite_ct m →
    θ_run (Cert.AttnDqIdeal.defs (F := Ideal)) (onTc (τ := Cert.AttnDqIdeal.τ) (Cert.AttnDqIdeal.main (F := Ideal))) ⟨m, fun _ => 0, g⟩ (fun r => (∀ c : Dev Cert.AttnDqIdeal.nD,
      r.2.mem ((c.tc : Thread Cert.AttnDqIdeal.nD Cert.AttnDqIdeal.τ).loc Cert.AttnDqIdeal.main_arg0) = m ((c.tc : Thread Cert.AttnDqIdeal.nD Cert.AttnDqIdeal.τ).loc Cert.AttnDqIdeal.main_arg0)
      ∧ r.2.mem ((c.tc : Thread Cert.AttnDqIdeal.nD Cert.AttnDqIdeal.τ).loc Cert.AttnDqIdeal.main_arg1) = m ((c.tc : Thread Cert.AttnDqIdeal.nD Cert.AttnDqIdeal.τ).loc Cert.AttnDqIdeal.main_arg1)
      ∧ r.2.mem ((c.tc : Thread Cert.AttnDqIdeal.nD Cert.AttnDqIdeal.τ).loc Cert.AttnDqIdeal.main_arg2) = m ((c.tc : Thread Cert.AttnDqIdeal.nD Cert.AttnDqIdeal.τ).loc Cert.AttnDqIdeal.main_arg2)
      ∧ r.2.mem ((c.tc : Thread Cert.AttnDqIdeal.nD Cert.AttnDqIdeal.τ).loc Cert.AttnDqIdeal.main_arg3) = m ((c.tc : Thread Cert.AttnDqIdeal.nD Cert.AttnDqIdeal.τ).loc Cert.AttnDqIdeal.main_arg3))
      ∧ r.2.sem = fun _ => 0)

def quiescent_RefAttnDqIdeal [hRefAttnDqIdeal : Cert.RefAttnDqIdeal.Facts] : Prop :=
  ∀ (m : (ℓ : Loc Cert.RefAttnDqIdeal.nD Cert.RefAttnDqIdeal.τ Cert.RefAttnDqIdeal.sig) → Buf (Elt Ideal) ℓ) (g : Dev Cert.RefAttnDqIdeal.nD → PrngReg), Pre_RefAttnDqIdeal m →
    θ_run (Cert.RefAttnDqIdeal.defs (F := Ideal)) (onTc (τ := Cert.RefAttnDqIdeal.τ) (Cert.RefAttnDqIdeal.main (F := Ideal))) ⟨m, fun _ => 0, g⟩ (fun r => (∀ c : Dev Cert.RefAttnDqIdeal.nD,
      r.2.mem ((c.tc : Thread Cert.RefAttnDqIdeal.nD Cert.RefAttnDqIdeal.τ).loc Cert.RefAttnDqIdeal.main_arg0) = m ((c.tc : Thread Cert.RefAttnDqIdeal.nD Cert.RefAttnDqIdeal.τ).loc Cert.RefAttnDqIdeal.main_arg0)
      ∧ r.2.mem ((c.tc : Thread Cert.RefAttnDqIdeal.nD Cert.RefAttnDqIdeal.τ).loc Cert.RefAttnDqIdeal.main_arg1) = m ((c.tc : Thread Cert.RefAttnDqIdeal.nD Cert.RefAttnDqIdeal.τ).loc Cert.RefAttnDqIdeal.main_arg1)
      ∧ r.2.mem ((c.tc : Thread Cert.RefAttnDqIdeal.nD Cert.RefAttnDqIdeal.τ).loc Cert.RefAttnDqIdeal.main_arg2) = m ((c.tc : Thread Cert.RefAttnDqIdeal.nD Cert.RefAttnDqIdeal.τ).loc Cert.RefAttnDqIdeal.main_arg2)
      ∧ r.2.mem ((c.tc : Thread Cert.RefAttnDqIdeal.nD Cert.RefAttnDqIdeal.τ).loc Cert.RefAttnDqIdeal.main_arg3) = m ((c.tc : Thread Cert.RefAttnDqIdeal.nD Cert.RefAttnDqIdeal.τ).loc Cert.RefAttnDqIdeal.main_arg3))
      ∧ r.2.sem = fun _ => 0)

def quiescent_RefAttnDqIdeal_pre_finite_ct [hRefAttnDqIdeal : Cert.RefAttnDqIdeal.Facts] [hPre_finite_ct : Cert.Pre_finite_ct.Facts] : Prop :=
  ∀ (m : (ℓ : Loc Cert.RefAttnDqIdeal.nD Cert.RefAttnDqIdeal.τ Cert.RefAttnDqIdeal.sig) → Buf (Elt Ideal) ℓ) (g : Dev Cert.RefAttnDqIdeal.nD → PrngReg), Pre_RefAttnDqIdeal_finite_ct m →
    θ_run (Cert.RefAttnDqIdeal.defs (F := Ideal)) (onTc (τ := Cert.RefAttnDqIdeal.τ) (Cert.RefAttnDqIdeal.main (F := Ideal))) ⟨m, fun _ => 0, g⟩ (fun r => (∀ c : Dev Cert.RefAttnDqIdeal.nD,
      r.2.mem ((c.tc : Thread Cert.RefAttnDqIdeal.nD Cert.RefAttnDqIdeal.τ).loc Cert.RefAttnDqIdeal.main_arg0) = m ((c.tc : Thread Cert.RefAttnDqIdeal.nD Cert.RefAttnDqIdeal.τ).loc Cert.RefAttnDqIdeal.main_arg0)
      ∧ r.2.mem ((c.tc : Thread Cert.RefAttnDqIdeal.nD Cert.RefAttnDqIdeal.τ).loc Cert.RefAttnDqIdeal.main_arg1) = m ((c.tc : Thread Cert.RefAttnDqIdeal.nD Cert.RefAttnDqIdeal.τ).loc Cert.RefAttnDqIdeal.main_arg1)
      ∧ r.2.mem ((c.tc : Thread Cert.RefAttnDqIdeal.nD Cert.RefAttnDqIdeal.τ).loc Cert.RefAttnDqIdeal.main_arg2) = m ((c.tc : Thread Cert.RefAttnDqIdeal.nD Cert.RefAttnDqIdeal.τ).loc Cert.RefAttnDqIdeal.main_arg2)
      ∧ r.2.mem ((c.tc : Thread Cert.RefAttnDqIdeal.nD Cert.RefAttnDqIdeal.τ).loc Cert.RefAttnDqIdeal.main_arg3) = m ((c.tc : Thread Cert.RefAttnDqIdeal.nD Cert.RefAttnDqIdeal.τ).loc Cert.RefAttnDqIdeal.main_arg3))
      ∧ r.2.sem = fun _ => 0)

def quiescent_AttnDkv [hAttnDkv : Cert.AttnDkv.Facts] : Prop :=
  ∀ (m : (ℓ : Loc Cert.AttnDkv.nD Cert.AttnDkv.τ Cert.AttnDkv.sig) → Buf (Elt Bits) ℓ) (g : Dev Cert.AttnDkv.nD → PrngReg), Pre_AttnDkv m →
    θ_run (Cert.AttnDkv.defs (F := Bits)) (onTc (τ := Cert.AttnDkv.τ) (Cert.AttnDkv.main (F := Bits))) ⟨m, fun _ => 0, g⟩ (fun r => (∀ c : Dev Cert.AttnDkv.nD,
      r.2.mem ((c.tc : Thread Cert.AttnDkv.nD Cert.AttnDkv.τ).loc Cert.AttnDkv.main_arg0) = m ((c.tc : Thread Cert.AttnDkv.nD Cert.AttnDkv.τ).loc Cert.AttnDkv.main_arg0)
      ∧ r.2.mem ((c.tc : Thread Cert.AttnDkv.nD Cert.AttnDkv.τ).loc Cert.AttnDkv.main_arg1) = m ((c.tc : Thread Cert.AttnDkv.nD Cert.AttnDkv.τ).loc Cert.AttnDkv.main_arg1)
      ∧ r.2.mem ((c.tc : Thread Cert.AttnDkv.nD Cert.AttnDkv.τ).loc Cert.AttnDkv.main_arg2) = m ((c.tc : Thread Cert.AttnDkv.nD Cert.AttnDkv.τ).loc Cert.AttnDkv.main_arg2)
      ∧ r.2.mem ((c.tc : Thread Cert.AttnDkv.nD Cert.AttnDkv.τ).loc Cert.AttnDkv.main_arg3) = m ((c.tc : Thread Cert.AttnDkv.nD Cert.AttnDkv.τ).loc Cert.AttnDkv.main_arg3))
      ∧ r.2.sem = fun _ => 0)

def quiescent_AttnDkvIdeal [hAttnDkvIdeal : Cert.AttnDkvIdeal.Facts] : Prop :=
  ∀ (m : (ℓ : Loc Cert.AttnDkvIdeal.nD Cert.AttnDkvIdeal.τ Cert.AttnDkvIdeal.sig) → Buf (Elt Ideal) ℓ) (g : Dev Cert.AttnDkvIdeal.nD → PrngReg), Pre_AttnDkvIdeal m →
    θ_run (Cert.AttnDkvIdeal.defs (F := Ideal)) (onTc (τ := Cert.AttnDkvIdeal.τ) (Cert.AttnDkvIdeal.main (F := Ideal))) ⟨m, fun _ => 0, g⟩ (fun r => (∀ c : Dev Cert.AttnDkvIdeal.nD,
      r.2.mem ((c.tc : Thread Cert.AttnDkvIdeal.nD Cert.AttnDkvIdeal.τ).loc Cert.AttnDkvIdeal.main_arg0) = m ((c.tc : Thread Cert.AttnDkvIdeal.nD Cert.AttnDkvIdeal.τ).loc Cert.AttnDkvIdeal.main_arg0)
      ∧ r.2.mem ((c.tc : Thread Cert.AttnDkvIdeal.nD Cert.AttnDkvIdeal.τ).loc Cert.AttnDkvIdeal.main_arg1) = m ((c.tc : Thread Cert.AttnDkvIdeal.nD Cert.AttnDkvIdeal.τ).loc Cert.AttnDkvIdeal.main_arg1)
      ∧ r.2.mem ((c.tc : Thread Cert.AttnDkvIdeal.nD Cert.AttnDkvIdeal.τ).loc Cert.AttnDkvIdeal.main_arg2) = m ((c.tc : Thread Cert.AttnDkvIdeal.nD Cert.AttnDkvIdeal.τ).loc Cert.AttnDkvIdeal.main_arg2)
      ∧ r.2.mem ((c.tc : Thread Cert.AttnDkvIdeal.nD Cert.AttnDkvIdeal.τ).loc Cert.AttnDkvIdeal.main_arg3) = m ((c.tc : Thread Cert.AttnDkvIdeal.nD Cert.AttnDkvIdeal.τ).loc Cert.AttnDkvIdeal.main_arg3))
      ∧ r.2.sem = fun _ => 0)

def quiescent_AttnDkvIdeal_pre_finite_ct [hAttnDkvIdeal : Cert.AttnDkvIdeal.Facts] [hPre_finite_ct : Cert.Pre_finite_ct.Facts] : Prop :=
  ∀ (m : (ℓ : Loc Cert.AttnDkvIdeal.nD Cert.AttnDkvIdeal.τ Cert.AttnDkvIdeal.sig) → Buf (Elt Ideal) ℓ) (g : Dev Cert.AttnDkvIdeal.nD → PrngReg), Pre_AttnDkvIdeal_finite_ct m →
    θ_run (Cert.AttnDkvIdeal.defs (F := Ideal)) (onTc (τ := Cert.AttnDkvIdeal.τ) (Cert.AttnDkvIdeal.main (F := Ideal))) ⟨m, fun _ => 0, g⟩ (fun r => (∀ c : Dev Cert.AttnDkvIdeal.nD,
      r.2.mem ((c.tc : Thread Cert.AttnDkvIdeal.nD Cert.AttnDkvIdeal.τ).loc Cert.AttnDkvIdeal.main_arg0) = m ((c.tc : Thread Cert.AttnDkvIdeal.nD Cert.AttnDkvIdeal.τ).loc Cert.AttnDkvIdeal.main_arg0)
      ∧ r.2.mem ((c.tc : Thread Cert.AttnDkvIdeal.nD Cert.AttnDkvIdeal.τ).loc Cert.AttnDkvIdeal.main_arg1) = m ((c.tc : Thread Cert.AttnDkvIdeal.nD Cert.AttnDkvIdeal.τ).loc Cert.AttnDkvIdeal.main_arg1)
      ∧ r.2.mem ((c.tc : Thread Cert.AttnDkvIdeal.nD Cert.AttnDkvIdeal.τ).loc Cert.AttnDkvIdeal.main_arg2) = m ((c.tc : Thread Cert.AttnDkvIdeal.nD Cert.AttnDkvIdeal.τ).loc Cert.AttnDkvIdeal.main_arg2)
      ∧ r.2.mem ((c.tc : Thread Cert.AttnDkvIdeal.nD Cert.AttnDkvIdeal.τ).loc Cert.AttnDkvIdeal.main_arg3) = m ((c.tc : Thread Cert.AttnDkvIdeal.nD Cert.AttnDkvIdeal.τ).loc Cert.AttnDkvIdeal.main_arg3))
      ∧ r.2.sem = fun _ => 0)

def quiescent_RefAttnDkvIdeal [hRefAttnDkvIdeal : Cert.RefAttnDkvIdeal.Facts] : Prop :=
  ∀ (m : (ℓ : Loc Cert.RefAttnDkvIdeal.nD Cert.RefAttnDkvIdeal.τ Cert.RefAttnDkvIdeal.sig) → Buf (Elt Ideal) ℓ) (g : Dev Cert.RefAttnDkvIdeal.nD → PrngReg), Pre_RefAttnDkvIdeal m →
    θ_run (Cert.RefAttnDkvIdeal.defs (F := Ideal)) (onTc (τ := Cert.RefAttnDkvIdeal.τ) (Cert.RefAttnDkvIdeal.main (F := Ideal))) ⟨m, fun _ => 0, g⟩ (fun r => (∀ c : Dev Cert.RefAttnDkvIdeal.nD,
      r.2.mem ((c.tc : Thread Cert.RefAttnDkvIdeal.nD Cert.RefAttnDkvIdeal.τ).loc Cert.RefAttnDkvIdeal.main_arg0) = m ((c.tc : Thread Cert.RefAttnDkvIdeal.nD Cert.RefAttnDkvIdeal.τ).loc Cert.RefAttnDkvIdeal.main_arg0)
      ∧ r.2.mem ((c.tc : Thread Cert.RefAttnDkvIdeal.nD Cert.RefAttnDkvIdeal.τ).loc Cert.RefAttnDkvIdeal.main_arg1) = m ((c.tc : Thread Cert.RefAttnDkvIdeal.nD Cert.RefAttnDkvIdeal.τ).loc Cert.RefAttnDkvIdeal.main_arg1)
      ∧ r.2.mem ((c.tc : Thread Cert.RefAttnDkvIdeal.nD Cert.RefAttnDkvIdeal.τ).loc Cert.RefAttnDkvIdeal.main_arg2) = m ((c.tc : Thread Cert.RefAttnDkvIdeal.nD Cert.RefAttnDkvIdeal.τ).loc Cert.RefAttnDkvIdeal.main_arg2)
      ∧ r.2.mem ((c.tc : Thread Cert.RefAttnDkvIdeal.nD Cert.RefAttnDkvIdeal.τ).loc Cert.RefAttnDkvIdeal.main_arg3) = m ((c.tc : Thread Cert.RefAttnDkvIdeal.nD Cert.RefAttnDkvIdeal.τ).loc Cert.RefAttnDkvIdeal.main_arg3))
      ∧ r.2.sem = fun _ => 0)

def quiescent_RefAttnDkvIdeal_pre_finite_ct [hRefAttnDkvIdeal : Cert.RefAttnDkvIdeal.Facts] [hPre_finite_ct : Cert.Pre_finite_ct.Facts] : Prop :=
  ∀ (m : (ℓ : Loc Cert.RefAttnDkvIdeal.nD Cert.RefAttnDkvIdeal.τ Cert.RefAttnDkvIdeal.sig) → Buf (Elt Ideal) ℓ) (g : Dev Cert.RefAttnDkvIdeal.nD → PrngReg), Pre_RefAttnDkvIdeal_finite_ct m →
    θ_run (Cert.RefAttnDkvIdeal.defs (F := Ideal)) (onTc (τ := Cert.RefAttnDkvIdeal.τ) (Cert.RefAttnDkvIdeal.main (F := Ideal))) ⟨m, fun _ => 0, g⟩ (fun r => (∀ c : Dev Cert.RefAttnDkvIdeal.nD,
      r.2.mem ((c.tc : Thread Cert.RefAttnDkvIdeal.nD Cert.RefAttnDkvIdeal.τ).loc Cert.RefAttnDkvIdeal.main_arg0) = m ((c.tc : Thread Cert.RefAttnDkvIdeal.nD Cert.RefAttnDkvIdeal.τ).loc Cert.RefAttnDkvIdeal.main_arg0)
      ∧ r.2.mem ((c.tc : Thread Cert.RefAttnDkvIdeal.nD Cert.RefAttnDkvIdeal.τ).loc Cert.RefAttnDkvIdeal.main_arg1) = m ((c.tc : Thread Cert.RefAttnDkvIdeal.nD Cert.RefAttnDkvIdeal.τ).loc Cert.RefAttnDkvIdeal.main_arg1)
      ∧ r.2.mem ((c.tc : Thread Cert.RefAttnDkvIdeal.nD Cert.RefAttnDkvIdeal.τ).loc Cert.RefAttnDkvIdeal.main_arg2) = m ((c.tc : Thread Cert.RefAttnDkvIdeal.nD Cert.RefAttnDkvIdeal.τ).loc Cert.RefAttnDkvIdeal.main_arg2)
      ∧ r.2.mem ((c.tc : Thread Cert.RefAttnDkvIdeal.nD Cert.RefAttnDkvIdeal.τ).loc Cert.RefAttnDkvIdeal.main_arg3) = m ((c.tc : Thread Cert.RefAttnDkvIdeal.nD Cert.RefAttnDkvIdeal.τ).loc Cert.RefAttnDkvIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_RefAttnIdeal [hRefAttnIdeal : Cert.RefAttnIdeal.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1)
      ∧ r.2.mem ((c.tc : Thread Cert.RefAttnIdeal.nD Cert.RefAttnIdeal.τ).loc Cert.RefAttnIdeal.main_arg2) = m ((c.tc : Thread Cert.RefAttnIdeal.nD Cert.RefAttnIdeal.τ).loc Cert.RefAttnIdeal.main_arg2))
      ∧ r.2.sem = fun _ => 0)

def quiescent_RefAttnIdeal_pre_finite [hRefAttnIdeal : Cert.RefAttnIdeal.Facts] [hPre_finite : Cert.Pre_finite.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal_finite m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1)
      ∧ r.2.mem ((c.tc : Thread Cert.RefAttnIdeal.nD Cert.RefAttnIdeal.τ).loc Cert.RefAttnIdeal.main_arg2) = m ((c.tc : Thread Cert.RefAttnIdeal.nD Cert.RefAttnIdeal.τ).loc Cert.RefAttnIdeal.main_arg2))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_RefInFwdIdeal [hRefInFwdIdeal : Cert.RefInFwdIdeal.Facts] : Prop :=
  ∀ (m : (ℓ : Loc Cert.RefInFwdIdeal.nD Cert.RefInFwdIdeal.τ Cert.RefInFwdIdeal.sig) → Buf (Elt Ideal) ℓ) (g : Dev Cert.RefInFwdIdeal.nD → PrngReg), Pre_RefInFwdIdeal m →
    θ_run (Cert.RefInFwdIdeal.defs (F := Ideal)) (onTc (τ := Cert.RefInFwdIdeal.τ) (Cert.RefInFwdIdeal.main (F := Ideal))) ⟨m, fun _ => 0, g⟩ (fun r => (∀ c : Dev Cert.RefInFwdIdeal.nD,
      r.2.mem ((c.tc : Thread Cert.RefInFwdIdeal.nD Cert.RefInFwdIdeal.τ).loc Cert.RefInFwdIdeal.main_arg0) = m ((c.tc : Thread Cert.RefInFwdIdeal.nD Cert.RefInFwdIdeal.τ).loc Cert.RefInFwdIdeal.main_arg0)
      ∧ r.2.mem ((c.tc : Thread Cert.RefInFwdIdeal.nD Cert.RefInFwdIdeal.τ).loc Cert.RefInFwdIdeal.main_arg1) = m ((c.tc : Thread Cert.RefInFwdIdeal.nD Cert.RefInFwdIdeal.τ).loc Cert.RefInFwdIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_RefUpFwdIdeal [hRefUpFwdIdeal : Cert.RefUpFwdIdeal.Facts] : Prop :=
  ∀ (m : (ℓ : Loc Cert.RefUpFwdIdeal.nD Cert.RefUpFwdIdeal.τ Cert.RefUpFwdIdeal.sig) → Buf (Elt Ideal) ℓ) (g : Dev Cert.RefUpFwdIdeal.nD → PrngReg), Pre_RefUpFwdIdeal m →
    θ_run (Cert.RefUpFwdIdeal.defs (F := Ideal)) (onTc (τ := Cert.RefUpFwdIdeal.τ) (Cert.RefUpFwdIdeal.main (F := Ideal))) ⟨m, fun _ => 0, g⟩ (fun r => (∀ c : Dev Cert.RefUpFwdIdeal.nD,
      r.2.mem ((c.tc : Thread Cert.RefUpFwdIdeal.nD Cert.RefUpFwdIdeal.τ).loc Cert.RefUpFwdIdeal.main_arg0) = m ((c.tc : Thread Cert.RefUpFwdIdeal.nD Cert.RefUpFwdIdeal.τ).loc Cert.RefUpFwdIdeal.main_arg0)
      ∧ r.2.mem ((c.tc : Thread Cert.RefUpFwdIdeal.nD Cert.RefUpFwdIdeal.τ).loc Cert.RefUpFwdIdeal.main_arg1) = m ((c.tc : Thread Cert.RefUpFwdIdeal.nD Cert.RefUpFwdIdeal.τ).loc Cert.RefUpFwdIdeal.main_arg1))
      ∧ r.2.sem = fun _ => 0)

def quiescent_BranchFwd [hBranchFwd : Cert.BranchFwd.Facts] : Prop :=
  ∀ (m : (ℓ : Loc Cert.BranchFwd.nD Cert.BranchFwd.τ Cert.BranchFwd.sig) → Buf (Elt Bits) ℓ) (g : Dev Cert.BranchFwd.nD → PrngReg), Pre_BranchFwd m →
    θ_run (Cert.BranchFwd.defs (F := Bits)) (onTc (τ := Cert.BranchFwd.τ) (Cert.BranchFwd.main (F := Bits))) ⟨m, fun _ => 0, g⟩ (fun r => (∀ c : Dev Cert.BranchFwd.nD,
      r.2.mem ((c.tc : Thread Cert.BranchFwd.nD Cert.BranchFwd.τ).loc Cert.BranchFwd.main_arg0) = m ((c.tc : Thread Cert.BranchFwd.nD Cert.BranchFwd.τ).loc Cert.BranchFwd.main_arg0)
      ∧ r.2.mem ((c.tc : Thread Cert.BranchFwd.nD Cert.BranchFwd.τ).loc Cert.BranchFwd.main_arg1) = m ((c.tc : Thread Cert.BranchFwd.nD Cert.BranchFwd.τ).loc Cert.BranchFwd.main_arg1))
      ∧ r.2.sem = fun _ => 0)

def quiescent_BranchFwdIdeal [hBranchFwdIdeal : Cert.BranchFwdIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg), Pre_BranchFwdIdeal m →
    θ_run (Cert.BranchFwdIdeal.defs (F := Ideal)) (onTc (τ := Cert.BranchFwdIdeal.τ) (Cert.BranchFwdIdeal.main (F := Ideal))) ⟨m, fun _ => 0, g⟩ (fun r => (∀ c : Dev Cert.BranchFwdIdeal.nD,
      r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
      ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1))
      ∧ r.2.sem = fun _ => 0)

def quiescent_RefBranchFwdIdeal [hRefBranchFwdIdeal : Cert.RefBranchFwdIdeal.Facts] : Prop :=
  ∀ (m : (ℓ : Loc Cert.RefBranchFwdIdeal.nD Cert.RefBranchFwdIdeal.τ Cert.RefBranchFwdIdeal.sig) → Buf (Elt Ideal) ℓ) (g : Dev Cert.RefBranchFwdIdeal.nD → PrngReg), Pre_RefBranchFwdIdeal m →
    θ_run (Cert.RefBranchFwdIdeal.defs (F := Ideal)) (onTc (τ := Cert.RefBranchFwdIdeal.τ) (Cert.RefBranchFwdIdeal.main (F := Ideal))) ⟨m, fun _ => 0, g⟩ (fun r => (∀ c : Dev Cert.RefBranchFwdIdeal.nD,
      r.2.mem ((c.tc : Thread Cert.RefBranchFwdIdeal.nD Cert.RefBranchFwdIdeal.τ).loc Cert.RefBranchFwdIdeal.main_arg0) = m ((c.tc : Thread Cert.RefBranchFwdIdeal.nD Cert.RefBranchFwdIdeal.τ).loc Cert.RefBranchFwdIdeal.main_arg0)
      ∧ r.2.mem ((c.tc : Thread Cert.RefBranchFwdIdeal.nD Cert.RefBranchFwdIdeal.τ).loc Cert.RefBranchFwdIdeal.main_arg1) = m ((c.tc : Thread Cert.RefBranchFwdIdeal.nD Cert.RefBranchFwdIdeal.τ).loc Cert.RefBranchFwdIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ r.2.sem = fun _ => 0)

def quiescent_RefOutFwdIdeal [hRefOutFwdIdeal : Cert.RefOutFwdIdeal.Facts] : Prop :=
  ∀ (m : (ℓ : Loc Cert.RefOutFwdIdeal.nD Cert.RefOutFwdIdeal.τ Cert.RefOutFwdIdeal.sig) → Buf (Elt Ideal) ℓ) (g : Dev Cert.RefOutFwdIdeal.nD → PrngReg), Pre_RefOutFwdIdeal m →
    θ_run (Cert.RefOutFwdIdeal.defs (F := Ideal)) (onTc (τ := Cert.RefOutFwdIdeal.τ) (Cert.RefOutFwdIdeal.main (F := Ideal))) ⟨m, fun _ => 0, g⟩ (fun r => (∀ c : Dev Cert.RefOutFwdIdeal.nD,
      r.2.mem ((c.tc : Thread Cert.RefOutFwdIdeal.nD Cert.RefOutFwdIdeal.τ).loc Cert.RefOutFwdIdeal.main_arg0) = m ((c.tc : Thread Cert.RefOutFwdIdeal.nD Cert.RefOutFwdIdeal.τ).loc Cert.RefOutFwdIdeal.main_arg0)
      ∧ r.2.mem ((c.tc : Thread Cert.RefOutFwdIdeal.nD Cert.RefOutFwdIdeal.τ).loc Cert.RefOutFwdIdeal.main_arg1) = m ((c.tc : Thread Cert.RefOutFwdIdeal.nD Cert.RefOutFwdIdeal.τ).loc Cert.RefOutFwdIdeal.main_arg1))
      ∧ r.2.sem = fun _ => 0)

def quiescent_InWgrad [hInWgrad : Cert.InWgrad.Facts] : Prop :=
  ∀ (m : (ℓ : Loc Cert.InWgrad.nD Cert.InWgrad.τ Cert.InWgrad.sig) → Buf (Elt Bits) ℓ) (g : Dev Cert.InWgrad.nD → PrngReg), Pre_InWgrad m →
    θ_run (Cert.InWgrad.defs (F := Bits)) (onTc (τ := Cert.InWgrad.τ) (Cert.InWgrad.main (F := Bits))) ⟨m, fun _ => 0, g⟩ (fun r => (∀ c : Dev Cert.InWgrad.nD,
      r.2.mem ((c.tc : Thread Cert.InWgrad.nD Cert.InWgrad.τ).loc Cert.InWgrad.main_arg0) = m ((c.tc : Thread Cert.InWgrad.nD Cert.InWgrad.τ).loc Cert.InWgrad.main_arg0)
      ∧ r.2.mem ((c.tc : Thread Cert.InWgrad.nD Cert.InWgrad.τ).loc Cert.InWgrad.main_arg1) = m ((c.tc : Thread Cert.InWgrad.nD Cert.InWgrad.τ).loc Cert.InWgrad.main_arg1)
      ∧ r.2.mem ((c.tc : Thread Cert.InWgrad.nD Cert.InWgrad.τ).loc Cert.InWgrad.main_arg2) = m ((c.tc : Thread Cert.InWgrad.nD Cert.InWgrad.τ).loc Cert.InWgrad.main_arg2))
      ∧ r.2.sem = fun _ => 0)

def quiescent_InWgradIdeal [hInWgradIdeal : Cert.InWgradIdeal.Facts] : Prop :=
  ∀ (m : (ℓ : Loc Cert.InWgradIdeal.nD Cert.InWgradIdeal.τ Cert.InWgradIdeal.sig) → Buf (Elt Ideal) ℓ) (g : Dev Cert.InWgradIdeal.nD → PrngReg), Pre_InWgradIdeal m →
    θ_run (Cert.InWgradIdeal.defs (F := Ideal)) (onTc (τ := Cert.InWgradIdeal.τ) (Cert.InWgradIdeal.main (F := Ideal))) ⟨m, fun _ => 0, g⟩ (fun r => (∀ c : Dev Cert.InWgradIdeal.nD,
      r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
      ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1)
      ∧ r.2.mem ((c.tc : Thread Cert.InWgradIdeal.nD Cert.InWgradIdeal.τ).loc Cert.InWgradIdeal.main_arg2) = m ((c.tc : Thread Cert.InWgradIdeal.nD Cert.InWgradIdeal.τ).loc Cert.InWgradIdeal.main_arg2))
      ∧ r.2.sem = fun _ => 0)

def quiescent_RefInWgradIdeal [hRefInWgradIdeal : Cert.RefInWgradIdeal.Facts] : Prop :=
  ∀ (m : (ℓ : Loc Cert.RefInWgradIdeal.nD Cert.RefInWgradIdeal.τ Cert.RefInWgradIdeal.sig) → Buf (Elt Ideal) ℓ) (g : Dev Cert.RefInWgradIdeal.nD → PrngReg), Pre_RefInWgradIdeal m →
    θ_run (Cert.RefInWgradIdeal.defs (F := Ideal)) (onTc (τ := Cert.RefInWgradIdeal.τ) (Cert.RefInWgradIdeal.main (F := Ideal))) ⟨m, fun _ => 0, g⟩ (fun r => (∀ c : Dev Cert.RefInWgradIdeal.nD,
      r.2.mem ((c.tc : Thread Cert.RefInWgradIdeal.nD Cert.RefInWgradIdeal.τ).loc Cert.RefInWgradIdeal.main_arg0) = m ((c.tc : Thread Cert.RefInWgradIdeal.nD Cert.RefInWgradIdeal.τ).loc Cert.RefInWgradIdeal.main_arg0)
      ∧ r.2.mem ((c.tc : Thread Cert.RefInWgradIdeal.nD Cert.RefInWgradIdeal.τ).loc Cert.RefInWgradIdeal.main_arg1) = m ((c.tc : Thread Cert.RefInWgradIdeal.nD Cert.RefInWgradIdeal.τ).loc Cert.RefInWgradIdeal.main_arg1)
      ∧ r.2.mem ((c.tc : Thread Cert.RefInWgradIdeal.nD Cert.RefInWgradIdeal.τ).loc Cert.RefInWgradIdeal.main_arg2) = m ((c.tc : Thread Cert.RefInWgradIdeal.nD Cert.RefInWgradIdeal.τ).loc Cert.RefInWgradIdeal.main_arg2))
      ∧ r.2.sem = fun _ => 0)

def quiescent_InDgrad [hInDgrad : Cert.InDgrad.Facts] : Prop :=
  ∀ (m : (ℓ : Loc Cert.InDgrad.nD Cert.InDgrad.τ Cert.InDgrad.sig) → Buf (Elt Bits) ℓ) (g : Dev Cert.InDgrad.nD → PrngReg), Pre_InDgrad m →
    θ_run (Cert.InDgrad.defs (F := Bits)) (onTc (τ := Cert.InDgrad.τ) (Cert.InDgrad.main (F := Bits))) ⟨m, fun _ => 0, g⟩ (fun r => (∀ c : Dev Cert.InDgrad.nD,
      r.2.mem ((c.tc : Thread Cert.InDgrad.nD Cert.InDgrad.τ).loc Cert.InDgrad.main_arg0) = m ((c.tc : Thread Cert.InDgrad.nD Cert.InDgrad.τ).loc Cert.InDgrad.main_arg0)
      ∧ r.2.mem ((c.tc : Thread Cert.InDgrad.nD Cert.InDgrad.τ).loc Cert.InDgrad.main_arg1) = m ((c.tc : Thread Cert.InDgrad.nD Cert.InDgrad.τ).loc Cert.InDgrad.main_arg1)
      ∧ r.2.mem ((c.tc : Thread Cert.InDgrad.nD Cert.InDgrad.τ).loc Cert.InDgrad.main_arg2) = m ((c.tc : Thread Cert.InDgrad.nD Cert.InDgrad.τ).loc Cert.InDgrad.main_arg2))
      ∧ r.2.sem = fun _ => 0)

def quiescent_InDgradIdeal [hInDgradIdeal : Cert.InDgradIdeal.Facts] : Prop :=
  ∀ (m : (ℓ : Loc Cert.InDgradIdeal.nD Cert.InDgradIdeal.τ Cert.InDgradIdeal.sig) → Buf (Elt Ideal) ℓ) (g : Dev Cert.InDgradIdeal.nD → PrngReg), Pre_InDgradIdeal m →
    θ_run (Cert.InDgradIdeal.defs (F := Ideal)) (onTc (τ := Cert.InDgradIdeal.τ) (Cert.InDgradIdeal.main (F := Ideal))) ⟨m, fun _ => 0, g⟩ (fun r => (∀ c : Dev Cert.InDgradIdeal.nD,
      r.2.mem ((c.tc : Thread Cert.InDgradIdeal.nD Cert.InDgradIdeal.τ).loc Cert.InDgradIdeal.main_arg0) = m ((c.tc : Thread Cert.InDgradIdeal.nD Cert.InDgradIdeal.τ).loc Cert.InDgradIdeal.main_arg0)
      ∧ r.2.mem ((c.tc : Thread Cert.InDgradIdeal.nD Cert.InDgradIdeal.τ).loc Cert.InDgradIdeal.main_arg1) = m ((c.tc : Thread Cert.InDgradIdeal.nD Cert.InDgradIdeal.τ).loc Cert.InDgradIdeal.main_arg1)
      ∧ r.2.mem ((c.tc : Thread Cert.InDgradIdeal.nD Cert.InDgradIdeal.τ).loc Cert.InDgradIdeal.main_arg2) = m ((c.tc : Thread Cert.InDgradIdeal.nD Cert.InDgradIdeal.τ).loc Cert.InDgradIdeal.main_arg2))
      ∧ r.2.sem = fun _ => 0)

def quiescent_RefInDgradIdeal [hRefInDgradIdeal : Cert.RefInDgradIdeal.Facts] : Prop :=
  ∀ (m : (ℓ : Loc Cert.RefInDgradIdeal.nD Cert.RefInDgradIdeal.τ Cert.RefInDgradIdeal.sig) → Buf (Elt Ideal) ℓ) (g : Dev Cert.RefInDgradIdeal.nD → PrngReg), Pre_RefInDgradIdeal m →
    θ_run (Cert.RefInDgradIdeal.defs (F := Ideal)) (onTc (τ := Cert.RefInDgradIdeal.τ) (Cert.RefInDgradIdeal.main (F := Ideal))) ⟨m, fun _ => 0, g⟩ (fun r => (∀ c : Dev Cert.RefInDgradIdeal.nD,
      r.2.mem ((c.tc : Thread Cert.RefInDgradIdeal.nD Cert.RefInDgradIdeal.τ).loc Cert.RefInDgradIdeal.main_arg0) = m ((c.tc : Thread Cert.RefInDgradIdeal.nD Cert.RefInDgradIdeal.τ).loc Cert.RefInDgradIdeal.main_arg0)
      ∧ r.2.mem ((c.tc : Thread Cert.RefInDgradIdeal.nD Cert.RefInDgradIdeal.τ).loc Cert.RefInDgradIdeal.main_arg1) = m ((c.tc : Thread Cert.RefInDgradIdeal.nD Cert.RefInDgradIdeal.τ).loc Cert.RefInDgradIdeal.main_arg1)
      ∧ r.2.mem ((c.tc : Thread Cert.RefInDgradIdeal.nD Cert.RefInDgradIdeal.τ).loc Cert.RefInDgradIdeal.main_arg2) = m ((c.tc : Thread Cert.RefInDgradIdeal.nD Cert.RefInDgradIdeal.τ).loc Cert.RefInDgradIdeal.main_arg2))
      ∧ r.2.sem = fun _ => 0)

def quiescent_UpWgrad [hUpWgrad : Cert.UpWgrad.Facts] : Prop :=
  ∀ (m : (ℓ : Loc Cert.UpWgrad.nD Cert.UpWgrad.τ Cert.UpWgrad.sig) → Buf (Elt Bits) ℓ) (g : Dev Cert.UpWgrad.nD → PrngReg), Pre_UpWgrad m →
    θ_run (Cert.UpWgrad.defs (F := Bits)) (onTc (τ := Cert.UpWgrad.τ) (Cert.UpWgrad.main (F := Bits))) ⟨m, fun _ => 0, g⟩ (fun r => (∀ c : Dev Cert.UpWgrad.nD,
      r.2.mem ((c.tc : Thread Cert.UpWgrad.nD Cert.UpWgrad.τ).loc Cert.UpWgrad.main_arg0) = m ((c.tc : Thread Cert.UpWgrad.nD Cert.UpWgrad.τ).loc Cert.UpWgrad.main_arg0)
      ∧ r.2.mem ((c.tc : Thread Cert.UpWgrad.nD Cert.UpWgrad.τ).loc Cert.UpWgrad.main_arg1) = m ((c.tc : Thread Cert.UpWgrad.nD Cert.UpWgrad.τ).loc Cert.UpWgrad.main_arg1)
      ∧ r.2.mem ((c.tc : Thread Cert.UpWgrad.nD Cert.UpWgrad.τ).loc Cert.UpWgrad.main_arg2) = m ((c.tc : Thread Cert.UpWgrad.nD Cert.UpWgrad.τ).loc Cert.UpWgrad.main_arg2))
      ∧ r.2.sem = fun _ => 0)

def quiescent_UpWgradIdeal [hUpWgradIdeal : Cert.UpWgradIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg), Pre_UpWgradIdeal m →
    θ_run (Cert.UpWgradIdeal.defs (F := Ideal)) (onTc (τ := Cert.UpWgradIdeal.τ) (Cert.UpWgradIdeal.main (F := Ideal))) ⟨m, fun _ => 0, g⟩ (fun r => (∀ c : Dev Cert.UpWgradIdeal.nD,
      r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
      ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1)
      ∧ r.2.mem ((c.tc : Thread Cert.UpWgradIdeal.nD Cert.UpWgradIdeal.τ).loc Cert.UpWgradIdeal.main_arg2) = m ((c.tc : Thread Cert.UpWgradIdeal.nD Cert.UpWgradIdeal.τ).loc Cert.UpWgradIdeal.main_arg2))
      ∧ r.2.sem = fun _ => 0)

def quiescent_RefUpWgradIdeal [hRefUpWgradIdeal : Cert.RefUpWgradIdeal.Facts] : Prop :=
  ∀ (m : (ℓ : Loc Cert.RefUpWgradIdeal.nD Cert.RefUpWgradIdeal.τ Cert.RefUpWgradIdeal.sig) → Buf (Elt Ideal) ℓ) (g : Dev Cert.RefUpWgradIdeal.nD → PrngReg), Pre_RefUpWgradIdeal m →
    θ_run (Cert.RefUpWgradIdeal.defs (F := Ideal)) (onTc (τ := Cert.RefUpWgradIdeal.τ) (Cert.RefUpWgradIdeal.main (F := Ideal))) ⟨m, fun _ => 0, g⟩ (fun r => (∀ c : Dev Cert.RefUpWgradIdeal.nD,
      r.2.mem ((c.tc : Thread Cert.RefUpWgradIdeal.nD Cert.RefUpWgradIdeal.τ).loc Cert.RefUpWgradIdeal.main_arg0) = m ((c.tc : Thread Cert.RefUpWgradIdeal.nD Cert.RefUpWgradIdeal.τ).loc Cert.RefUpWgradIdeal.main_arg0)
      ∧ r.2.mem ((c.tc : Thread Cert.RefUpWgradIdeal.nD Cert.RefUpWgradIdeal.τ).loc Cert.RefUpWgradIdeal.main_arg1) = m ((c.tc : Thread Cert.RefUpWgradIdeal.nD Cert.RefUpWgradIdeal.τ).loc Cert.RefUpWgradIdeal.main_arg1)
      ∧ r.2.mem ((c.tc : Thread Cert.RefUpWgradIdeal.nD Cert.RefUpWgradIdeal.τ).loc Cert.RefUpWgradIdeal.main_arg2) = m ((c.tc : Thread Cert.RefUpWgradIdeal.nD Cert.RefUpWgradIdeal.τ).loc Cert.RefUpWgradIdeal.main_arg2))
      ∧ r.2.sem = fun _ => 0)

def quiescent_UpDgrad [hUpDgrad : Cert.UpDgrad.Facts] : Prop :=
  ∀ (m : (ℓ : Loc Cert.UpDgrad.nD Cert.UpDgrad.τ Cert.UpDgrad.sig) → Buf (Elt Bits) ℓ) (g : Dev Cert.UpDgrad.nD → PrngReg), Pre_UpDgrad m →
    θ_run (Cert.UpDgrad.defs (F := Bits)) (onTc (τ := Cert.UpDgrad.τ) (Cert.UpDgrad.main (F := Bits))) ⟨m, fun _ => 0, g⟩ (fun r => (∀ c : Dev Cert.UpDgrad.nD,
      r.2.mem ((c.tc : Thread Cert.UpDgrad.nD Cert.UpDgrad.τ).loc Cert.UpDgrad.main_arg0) = m ((c.tc : Thread Cert.UpDgrad.nD Cert.UpDgrad.τ).loc Cert.UpDgrad.main_arg0)
      ∧ r.2.mem ((c.tc : Thread Cert.UpDgrad.nD Cert.UpDgrad.τ).loc Cert.UpDgrad.main_arg1) = m ((c.tc : Thread Cert.UpDgrad.nD Cert.UpDgrad.τ).loc Cert.UpDgrad.main_arg1)
      ∧ r.2.mem ((c.tc : Thread Cert.UpDgrad.nD Cert.UpDgrad.τ).loc Cert.UpDgrad.main_arg2) = m ((c.tc : Thread Cert.UpDgrad.nD Cert.UpDgrad.τ).loc Cert.UpDgrad.main_arg2))
      ∧ r.2.sem = fun _ => 0)

def quiescent_UpDgradIdeal [hUpDgradIdeal : Cert.UpDgradIdeal.Facts] : Prop :=
  ∀ (m : (ℓ : Loc Cert.UpDgradIdeal.nD Cert.UpDgradIdeal.τ Cert.UpDgradIdeal.sig) → Buf (Elt Ideal) ℓ) (g : Dev Cert.UpDgradIdeal.nD → PrngReg), Pre_UpDgradIdeal m →
    θ_run (Cert.UpDgradIdeal.defs (F := Ideal)) (onTc (τ := Cert.UpDgradIdeal.τ) (Cert.UpDgradIdeal.main (F := Ideal))) ⟨m, fun _ => 0, g⟩ (fun r => (∀ c : Dev Cert.UpDgradIdeal.nD,
      r.2.mem ((c.tc : Thread Cert.UpDgradIdeal.nD Cert.UpDgradIdeal.τ).loc Cert.UpDgradIdeal.main_arg0) = m ((c.tc : Thread Cert.UpDgradIdeal.nD Cert.UpDgradIdeal.τ).loc Cert.UpDgradIdeal.main_arg0)
      ∧ r.2.mem ((c.tc : Thread Cert.UpDgradIdeal.nD Cert.UpDgradIdeal.τ).loc Cert.UpDgradIdeal.main_arg1) = m ((c.tc : Thread Cert.UpDgradIdeal.nD Cert.UpDgradIdeal.τ).loc Cert.UpDgradIdeal.main_arg1)
      ∧ r.2.mem ((c.tc : Thread Cert.UpDgradIdeal.nD Cert.UpDgradIdeal.τ).loc Cert.UpDgradIdeal.main_arg2) = m ((c.tc : Thread Cert.UpDgradIdeal.nD Cert.UpDgradIdeal.τ).loc Cert.UpDgradIdeal.main_arg2))
      ∧ r.2.sem = fun _ => 0)

def quiescent_RefUpDgradIdeal [hRefUpDgradIdeal : Cert.RefUpDgradIdeal.Facts] : Prop :=
  ∀ (m : (ℓ : Loc Cert.RefUpDgradIdeal.nD Cert.RefUpDgradIdeal.τ Cert.RefUpDgradIdeal.sig) → Buf (Elt Ideal) ℓ) (g : Dev Cert.RefUpDgradIdeal.nD → PrngReg), Pre_RefUpDgradIdeal m →
    θ_run (Cert.RefUpDgradIdeal.defs (F := Ideal)) (onTc (τ := Cert.RefUpDgradIdeal.τ) (Cert.RefUpDgradIdeal.main (F := Ideal))) ⟨m, fun _ => 0, g⟩ (fun r => (∀ c : Dev Cert.RefUpDgradIdeal.nD,
      r.2.mem ((c.tc : Thread Cert.RefUpDgradIdeal.nD Cert.RefUpDgradIdeal.τ).loc Cert.RefUpDgradIdeal.main_arg0) = m ((c.tc : Thread Cert.RefUpDgradIdeal.nD Cert.RefUpDgradIdeal.τ).loc Cert.RefUpDgradIdeal.main_arg0)
      ∧ r.2.mem ((c.tc : Thread Cert.RefUpDgradIdeal.nD Cert.RefUpDgradIdeal.τ).loc Cert.RefUpDgradIdeal.main_arg1) = m ((c.tc : Thread Cert.RefUpDgradIdeal.nD Cert.RefUpDgradIdeal.τ).loc Cert.RefUpDgradIdeal.main_arg1)
      ∧ r.2.mem ((c.tc : Thread Cert.RefUpDgradIdeal.nD Cert.RefUpDgradIdeal.τ).loc Cert.RefUpDgradIdeal.main_arg2) = m ((c.tc : Thread Cert.RefUpDgradIdeal.nD Cert.RefUpDgradIdeal.τ).loc Cert.RefUpDgradIdeal.main_arg2))
      ∧ r.2.sem = fun _ => 0)

def quiescent_DownWgrad [hDownWgrad : Cert.DownWgrad.Facts] : Prop :=
  ∀ (m : (ℓ : Loc Cert.DownWgrad.nD Cert.DownWgrad.τ Cert.DownWgrad.sig) → Buf (Elt Bits) ℓ) (g : Dev Cert.DownWgrad.nD → PrngReg), Pre_DownWgrad m →
    θ_run (Cert.DownWgrad.defs (F := Bits)) (onTc (τ := Cert.DownWgrad.τ) (Cert.DownWgrad.main (F := Bits))) ⟨m, fun _ => 0, g⟩ (fun r => (∀ c : Dev Cert.DownWgrad.nD,
      r.2.mem ((c.tc : Thread Cert.DownWgrad.nD Cert.DownWgrad.τ).loc Cert.DownWgrad.main_arg0) = m ((c.tc : Thread Cert.DownWgrad.nD Cert.DownWgrad.τ).loc Cert.DownWgrad.main_arg0)
      ∧ r.2.mem ((c.tc : Thread Cert.DownWgrad.nD Cert.DownWgrad.τ).loc Cert.DownWgrad.main_arg1) = m ((c.tc : Thread Cert.DownWgrad.nD Cert.DownWgrad.τ).loc Cert.DownWgrad.main_arg1)
      ∧ r.2.mem ((c.tc : Thread Cert.DownWgrad.nD Cert.DownWgrad.τ).loc Cert.DownWgrad.main_arg2) = m ((c.tc : Thread Cert.DownWgrad.nD Cert.DownWgrad.τ).loc Cert.DownWgrad.main_arg2))
      ∧ r.2.sem = fun _ => 0)

def quiescent_DownWgradIdeal [hDownWgradIdeal : Cert.DownWgradIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg), Pre_DownWgradIdeal m →
    θ_run (Cert.DownWgradIdeal.defs (F := Ideal)) (onTc (τ := Cert.DownWgradIdeal.τ) (Cert.DownWgradIdeal.main (F := Ideal))) ⟨m, fun _ => 0, g⟩ (fun r => (∀ c : Dev Cert.DownWgradIdeal.nD,
      r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
      ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1)
      ∧ r.2.mem ((c.tc : Thread Cert.DownWgradIdeal.nD Cert.DownWgradIdeal.τ).loc Cert.DownWgradIdeal.main_arg2) = m ((c.tc : Thread Cert.DownWgradIdeal.nD Cert.DownWgradIdeal.τ).loc Cert.DownWgradIdeal.main_arg2))
      ∧ r.2.sem = fun _ => 0)

def quiescent_RefDownWgradIdeal [hRefDownWgradIdeal : Cert.RefDownWgradIdeal.Facts] : Prop :=
  ∀ (m : (ℓ : Loc Cert.RefDownWgradIdeal.nD Cert.RefDownWgradIdeal.τ Cert.RefDownWgradIdeal.sig) → Buf (Elt Ideal) ℓ) (g : Dev Cert.RefDownWgradIdeal.nD → PrngReg), Pre_RefDownWgradIdeal m →
    θ_run (Cert.RefDownWgradIdeal.defs (F := Ideal)) (onTc (τ := Cert.RefDownWgradIdeal.τ) (Cert.RefDownWgradIdeal.main (F := Ideal))) ⟨m, fun _ => 0, g⟩ (fun r => (∀ c : Dev Cert.RefDownWgradIdeal.nD,
      r.2.mem ((c.tc : Thread Cert.RefDownWgradIdeal.nD Cert.RefDownWgradIdeal.τ).loc Cert.RefDownWgradIdeal.main_arg0) = m ((c.tc : Thread Cert.RefDownWgradIdeal.nD Cert.RefDownWgradIdeal.τ).loc Cert.RefDownWgradIdeal.main_arg0)
      ∧ r.2.mem ((c.tc : Thread Cert.RefDownWgradIdeal.nD Cert.RefDownWgradIdeal.τ).loc Cert.RefDownWgradIdeal.main_arg1) = m ((c.tc : Thread Cert.RefDownWgradIdeal.nD Cert.RefDownWgradIdeal.τ).loc Cert.RefDownWgradIdeal.main_arg1)
      ∧ r.2.mem ((c.tc : Thread Cert.RefDownWgradIdeal.nD Cert.RefDownWgradIdeal.τ).loc Cert.RefDownWgradIdeal.main_arg2) = m ((c.tc : Thread Cert.RefDownWgradIdeal.nD Cert.RefDownWgradIdeal.τ).loc Cert.RefDownWgradIdeal.main_arg2))
      ∧ r.2.sem = fun _ => 0)

def quiescent_DownDgrad [hDownDgrad : Cert.DownDgrad.Facts] : Prop :=
  ∀ (m : (ℓ : Loc Cert.DownDgrad.nD Cert.DownDgrad.τ Cert.DownDgrad.sig) → Buf (Elt Bits) ℓ) (g : Dev Cert.DownDgrad.nD → PrngReg), Pre_DownDgrad m →
    θ_run (Cert.DownDgrad.defs (F := Bits)) (onTc (τ := Cert.DownDgrad.τ) (Cert.DownDgrad.main (F := Bits))) ⟨m, fun _ => 0, g⟩ (fun r => (∀ c : Dev Cert.DownDgrad.nD,
      r.2.mem ((c.tc : Thread Cert.DownDgrad.nD Cert.DownDgrad.τ).loc Cert.DownDgrad.main_arg0) = m ((c.tc : Thread Cert.DownDgrad.nD Cert.DownDgrad.τ).loc Cert.DownDgrad.main_arg0)
      ∧ r.2.mem ((c.tc : Thread Cert.DownDgrad.nD Cert.DownDgrad.τ).loc Cert.DownDgrad.main_arg1) = m ((c.tc : Thread Cert.DownDgrad.nD Cert.DownDgrad.τ).loc Cert.DownDgrad.main_arg1)
      ∧ r.2.mem ((c.tc : Thread Cert.DownDgrad.nD Cert.DownDgrad.τ).loc Cert.DownDgrad.main_arg2) = m ((c.tc : Thread Cert.DownDgrad.nD Cert.DownDgrad.τ).loc Cert.DownDgrad.main_arg2))
      ∧ r.2.sem = fun _ => 0)

def quiescent_DownDgradIdeal [hDownDgradIdeal : Cert.DownDgradIdeal.Facts] : Prop :=
  ∀ (m : (ℓ : Loc Cert.DownDgradIdeal.nD Cert.DownDgradIdeal.τ Cert.DownDgradIdeal.sig) → Buf (Elt Ideal) ℓ) (g : Dev Cert.DownDgradIdeal.nD → PrngReg), Pre_DownDgradIdeal m →
    θ_run (Cert.DownDgradIdeal.defs (F := Ideal)) (onTc (τ := Cert.DownDgradIdeal.τ) (Cert.DownDgradIdeal.main (F := Ideal))) ⟨m, fun _ => 0, g⟩ (fun r => (∀ c : Dev Cert.DownDgradIdeal.nD,
      r.2.mem ((c.tc : Thread Cert.DownDgradIdeal.nD Cert.DownDgradIdeal.τ).loc Cert.DownDgradIdeal.main_arg0) = m ((c.tc : Thread Cert.DownDgradIdeal.nD Cert.DownDgradIdeal.τ).loc Cert.DownDgradIdeal.main_arg0)
      ∧ r.2.mem ((c.tc : Thread Cert.DownDgradIdeal.nD Cert.DownDgradIdeal.τ).loc Cert.DownDgradIdeal.main_arg1) = m ((c.tc : Thread Cert.DownDgradIdeal.nD Cert.DownDgradIdeal.τ).loc Cert.DownDgradIdeal.main_arg1)
      ∧ r.2.mem ((c.tc : Thread Cert.DownDgradIdeal.nD Cert.DownDgradIdeal.τ).loc Cert.DownDgradIdeal.main_arg2) = m ((c.tc : Thread Cert.DownDgradIdeal.nD Cert.DownDgradIdeal.τ).loc Cert.DownDgradIdeal.main_arg2))
      ∧ r.2.sem = fun _ => 0)

def quiescent_RefDownDgradIdeal [hRefDownDgradIdeal : Cert.RefDownDgradIdeal.Facts] : Prop :=
  ∀ (m : (ℓ : Loc Cert.RefDownDgradIdeal.nD Cert.RefDownDgradIdeal.τ Cert.RefDownDgradIdeal.sig) → Buf (Elt Ideal) ℓ) (g : Dev Cert.RefDownDgradIdeal.nD → PrngReg), Pre_RefDownDgradIdeal m →
    θ_run (Cert.RefDownDgradIdeal.defs (F := Ideal)) (onTc (τ := Cert.RefDownDgradIdeal.τ) (Cert.RefDownDgradIdeal.main (F := Ideal))) ⟨m, fun _ => 0, g⟩ (fun r => (∀ c : Dev Cert.RefDownDgradIdeal.nD,
      r.2.mem ((c.tc : Thread Cert.RefDownDgradIdeal.nD Cert.RefDownDgradIdeal.τ).loc Cert.RefDownDgradIdeal.main_arg0) = m ((c.tc : Thread Cert.RefDownDgradIdeal.nD Cert.RefDownDgradIdeal.τ).loc Cert.RefDownDgradIdeal.main_arg0)
      ∧ r.2.mem ((c.tc : Thread Cert.RefDownDgradIdeal.nD Cert.RefDownDgradIdeal.τ).loc Cert.RefDownDgradIdeal.main_arg1) = m ((c.tc : Thread Cert.RefDownDgradIdeal.nD Cert.RefDownDgradIdeal.τ).loc Cert.RefDownDgradIdeal.main_arg1)
      ∧ r.2.mem ((c.tc : Thread Cert.RefDownDgradIdeal.nD Cert.RefDownDgradIdeal.τ).loc Cert.RefDownDgradIdeal.main_arg2) = m ((c.tc : Thread Cert.RefDownDgradIdeal.nD Cert.RefDownDgradIdeal.τ).loc Cert.RefDownDgradIdeal.main_arg2))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_RefDownFwdIdeal [hRefDownFwdIdeal : Cert.RefDownFwdIdeal.Facts] : Prop :=
  ∀ (m : (ℓ : Loc Cert.RefDownFwdIdeal.nD Cert.RefDownFwdIdeal.τ Cert.RefDownFwdIdeal.sig) → Buf (Elt Ideal) ℓ) (g : Dev Cert.RefDownFwdIdeal.nD → PrngReg), Pre_RefDownFwdIdeal m →
    θ_run (Cert.RefDownFwdIdeal.defs (F := Ideal)) (onTc (τ := Cert.RefDownFwdIdeal.τ) (Cert.RefDownFwdIdeal.main (F := Ideal))) ⟨m, fun _ => 0, g⟩ (fun r => (∀ c : Dev Cert.RefDownFwdIdeal.nD,
      r.2.mem ((c.tc : Thread Cert.RefDownFwdIdeal.nD Cert.RefDownFwdIdeal.τ).loc Cert.RefDownFwdIdeal.main_arg0) = m ((c.tc : Thread Cert.RefDownFwdIdeal.nD Cert.RefDownFwdIdeal.τ).loc Cert.RefDownFwdIdeal.main_arg0)
      ∧ r.2.mem ((c.tc : Thread Cert.RefDownFwdIdeal.nD Cert.RefDownFwdIdeal.τ).loc Cert.RefDownFwdIdeal.main_arg1) = m ((c.tc : Thread Cert.RefDownFwdIdeal.nD Cert.RefDownFwdIdeal.τ).loc Cert.RefDownFwdIdeal.main_arg1))
      ∧ r.2.sem = fun _ => 0)

def quiescent_BranchWgrad [hBranchWgrad : Cert.BranchWgrad.Facts] : Prop :=
  ∀ (m : (ℓ : Loc Cert.BranchWgrad.nD Cert.BranchWgrad.τ Cert.BranchWgrad.sig) → Buf (Elt Bits) ℓ) (g : Dev Cert.BranchWgrad.nD → PrngReg), Pre_BranchWgrad m →
    θ_run (Cert.BranchWgrad.defs (F := Bits)) (onTc (τ := Cert.BranchWgrad.τ) (Cert.BranchWgrad.main (F := Bits))) ⟨m, fun _ => 0, g⟩ (fun r => (∀ c : Dev Cert.BranchWgrad.nD,
      r.2.mem ((c.tc : Thread Cert.BranchWgrad.nD Cert.BranchWgrad.τ).loc Cert.BranchWgrad.main_arg0) = m ((c.tc : Thread Cert.BranchWgrad.nD Cert.BranchWgrad.τ).loc Cert.BranchWgrad.main_arg0)
      ∧ r.2.mem ((c.tc : Thread Cert.BranchWgrad.nD Cert.BranchWgrad.τ).loc Cert.BranchWgrad.main_arg1) = m ((c.tc : Thread Cert.BranchWgrad.nD Cert.BranchWgrad.τ).loc Cert.BranchWgrad.main_arg1)
      ∧ r.2.mem ((c.tc : Thread Cert.BranchWgrad.nD Cert.BranchWgrad.τ).loc Cert.BranchWgrad.main_arg2) = m ((c.tc : Thread Cert.BranchWgrad.nD Cert.BranchWgrad.τ).loc Cert.BranchWgrad.main_arg2))
      ∧ r.2.sem = fun _ => 0)

def quiescent_BranchWgradIdeal [hBranchWgradIdeal : Cert.BranchWgradIdeal.Facts] : Prop :=
  ∀ (m : (ℓ : Loc Cert.BranchWgradIdeal.nD Cert.BranchWgradIdeal.τ Cert.BranchWgradIdeal.sig) → Buf (Elt Ideal) ℓ) (g : Dev Cert.BranchWgradIdeal.nD → PrngReg), Pre_BranchWgradIdeal m →
    θ_run (Cert.BranchWgradIdeal.defs (F := Ideal)) (onTc (τ := Cert.BranchWgradIdeal.τ) (Cert.BranchWgradIdeal.main (F := Ideal))) ⟨m, fun _ => 0, g⟩ (fun r => (∀ c : Dev Cert.BranchWgradIdeal.nD,
      r.2.mem ((c.tc : Thread Cert.BranchWgradIdeal.nD Cert.BranchWgradIdeal.τ).loc Cert.BranchWgradIdeal.main_arg0) = m ((c.tc : Thread Cert.BranchWgradIdeal.nD Cert.BranchWgradIdeal.τ).loc Cert.BranchWgradIdeal.main_arg0)
      ∧ r.2.mem ((c.tc : Thread Cert.BranchWgradIdeal.nD Cert.BranchWgradIdeal.τ).loc Cert.BranchWgradIdeal.main_arg1) = m ((c.tc : Thread Cert.BranchWgradIdeal.nD Cert.BranchWgradIdeal.τ).loc Cert.BranchWgradIdeal.main_arg1)
      ∧ r.2.mem ((c.tc : Thread Cert.BranchWgradIdeal.nD Cert.BranchWgradIdeal.τ).loc Cert.BranchWgradIdeal.main_arg2) = m ((c.tc : Thread Cert.BranchWgradIdeal.nD Cert.BranchWgradIdeal.τ).loc Cert.BranchWgradIdeal.main_arg2))
      ∧ r.2.sem = fun _ => 0)

def quiescent_RefBranchWgradIdeal [hRefBranchWgradIdeal : Cert.RefBranchWgradIdeal.Facts] : Prop :=
  ∀ (m : (ℓ : Loc Cert.RefBranchWgradIdeal.nD Cert.RefBranchWgradIdeal.τ Cert.RefBranchWgradIdeal.sig) → Buf (Elt Ideal) ℓ) (g : Dev Cert.RefBranchWgradIdeal.nD → PrngReg), Pre_RefBranchWgradIdeal m →
    θ_run (Cert.RefBranchWgradIdeal.defs (F := Ideal)) (onTc (τ := Cert.RefBranchWgradIdeal.τ) (Cert.RefBranchWgradIdeal.main (F := Ideal))) ⟨m, fun _ => 0, g⟩ (fun r => (∀ c : Dev Cert.RefBranchWgradIdeal.nD,
      r.2.mem ((c.tc : Thread Cert.RefBranchWgradIdeal.nD Cert.RefBranchWgradIdeal.τ).loc Cert.RefBranchWgradIdeal.main_arg0) = m ((c.tc : Thread Cert.RefBranchWgradIdeal.nD Cert.RefBranchWgradIdeal.τ).loc Cert.RefBranchWgradIdeal.main_arg0)
      ∧ r.2.mem ((c.tc : Thread Cert.RefBranchWgradIdeal.nD Cert.RefBranchWgradIdeal.τ).loc Cert.RefBranchWgradIdeal.main_arg1) = m ((c.tc : Thread Cert.RefBranchWgradIdeal.nD Cert.RefBranchWgradIdeal.τ).loc Cert.RefBranchWgradIdeal.main_arg1)
      ∧ r.2.mem ((c.tc : Thread Cert.RefBranchWgradIdeal.nD Cert.RefBranchWgradIdeal.τ).loc Cert.RefBranchWgradIdeal.main_arg2) = m ((c.tc : Thread Cert.RefBranchWgradIdeal.nD Cert.RefBranchWgradIdeal.τ).loc Cert.RefBranchWgradIdeal.main_arg2))
      ∧ r.2.sem = fun _ => 0)

def quiescent_BranchDgrad [hBranchDgrad : Cert.BranchDgrad.Facts] : Prop :=
  ∀ (m : (ℓ : Loc Cert.BranchDgrad.nD Cert.BranchDgrad.τ Cert.BranchDgrad.sig) → Buf (Elt Bits) ℓ) (g : Dev Cert.BranchDgrad.nD → PrngReg), Pre_BranchDgrad m →
    θ_run (Cert.BranchDgrad.defs (F := Bits)) (onTc (τ := Cert.BranchDgrad.τ) (Cert.BranchDgrad.main (F := Bits))) ⟨m, fun _ => 0, g⟩ (fun r => (∀ c : Dev Cert.BranchDgrad.nD,
      r.2.mem ((c.tc : Thread Cert.BranchDgrad.nD Cert.BranchDgrad.τ).loc Cert.BranchDgrad.main_arg0) = m ((c.tc : Thread Cert.BranchDgrad.nD Cert.BranchDgrad.τ).loc Cert.BranchDgrad.main_arg0)
      ∧ r.2.mem ((c.tc : Thread Cert.BranchDgrad.nD Cert.BranchDgrad.τ).loc Cert.BranchDgrad.main_arg1) = m ((c.tc : Thread Cert.BranchDgrad.nD Cert.BranchDgrad.τ).loc Cert.BranchDgrad.main_arg1)
      ∧ r.2.mem ((c.tc : Thread Cert.BranchDgrad.nD Cert.BranchDgrad.τ).loc Cert.BranchDgrad.main_arg2) = m ((c.tc : Thread Cert.BranchDgrad.nD Cert.BranchDgrad.τ).loc Cert.BranchDgrad.main_arg2))
      ∧ r.2.sem = fun _ => 0)

def quiescent_BranchDgradIdeal [hBranchDgradIdeal : Cert.BranchDgradIdeal.Facts] : Prop :=
  ∀ (m : (ℓ : Loc Cert.BranchDgradIdeal.nD Cert.BranchDgradIdeal.τ Cert.BranchDgradIdeal.sig) → Buf (Elt Ideal) ℓ) (g : Dev Cert.BranchDgradIdeal.nD → PrngReg), Pre_BranchDgradIdeal m →
    θ_run (Cert.BranchDgradIdeal.defs (F := Ideal)) (onTc (τ := Cert.BranchDgradIdeal.τ) (Cert.BranchDgradIdeal.main (F := Ideal))) ⟨m, fun _ => 0, g⟩ (fun r => (∀ c : Dev Cert.BranchDgradIdeal.nD,
      r.2.mem ((c.tc : Thread Cert.BranchDgradIdeal.nD Cert.BranchDgradIdeal.τ).loc Cert.BranchDgradIdeal.main_arg0) = m ((c.tc : Thread Cert.BranchDgradIdeal.nD Cert.BranchDgradIdeal.τ).loc Cert.BranchDgradIdeal.main_arg0)
      ∧ r.2.mem ((c.tc : Thread Cert.BranchDgradIdeal.nD Cert.BranchDgradIdeal.τ).loc Cert.BranchDgradIdeal.main_arg1) = m ((c.tc : Thread Cert.BranchDgradIdeal.nD Cert.BranchDgradIdeal.τ).loc Cert.BranchDgradIdeal.main_arg1)
      ∧ r.2.mem ((c.tc : Thread Cert.BranchDgradIdeal.nD Cert.BranchDgradIdeal.τ).loc Cert.BranchDgradIdeal.main_arg2) = m ((c.tc : Thread Cert.BranchDgradIdeal.nD Cert.BranchDgradIdeal.τ).loc Cert.BranchDgradIdeal.main_arg2))
      ∧ r.2.sem = fun _ => 0)

def quiescent_RefBranchDgradIdeal [hRefBranchDgradIdeal : Cert.RefBranchDgradIdeal.Facts] : Prop :=
  ∀ (m : (ℓ : Loc Cert.RefBranchDgradIdeal.nD Cert.RefBranchDgradIdeal.τ Cert.RefBranchDgradIdeal.sig) → Buf (Elt Ideal) ℓ) (g : Dev Cert.RefBranchDgradIdeal.nD → PrngReg), Pre_RefBranchDgradIdeal m →
    θ_run (Cert.RefBranchDgradIdeal.defs (F := Ideal)) (onTc (τ := Cert.RefBranchDgradIdeal.τ) (Cert.RefBranchDgradIdeal.main (F := Ideal))) ⟨m, fun _ => 0, g⟩ (fun r => (∀ c : Dev Cert.RefBranchDgradIdeal.nD,
      r.2.mem ((c.tc : Thread Cert.RefBranchDgradIdeal.nD Cert.RefBranchDgradIdeal.τ).loc Cert.RefBranchDgradIdeal.main_arg0) = m ((c.tc : Thread Cert.RefBranchDgradIdeal.nD Cert.RefBranchDgradIdeal.τ).loc Cert.RefBranchDgradIdeal.main_arg0)
      ∧ r.2.mem ((c.tc : Thread Cert.RefBranchDgradIdeal.nD Cert.RefBranchDgradIdeal.τ).loc Cert.RefBranchDgradIdeal.main_arg1) = m ((c.tc : Thread Cert.RefBranchDgradIdeal.nD Cert.RefBranchDgradIdeal.τ).loc Cert.RefBranchDgradIdeal.main_arg1)
      ∧ r.2.mem ((c.tc : Thread Cert.RefBranchDgradIdeal.nD Cert.RefBranchDgradIdeal.τ).loc Cert.RefBranchDgradIdeal.main_arg2) = m ((c.tc : Thread Cert.RefBranchDgradIdeal.nD Cert.RefBranchDgradIdeal.τ).loc Cert.RefBranchDgradIdeal.main_arg2))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1)
      ∧ r.2.mem ((c.tc : Thread Cert.OutWgrad.nD Cert.OutWgrad.τ).loc Cert.OutWgrad.main_arg2) = m ((c.tc : Thread Cert.OutWgrad.nD Cert.OutWgrad.τ).loc Cert.OutWgrad.main_arg2))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1)
      ∧ r.2.mem ((c.tc : Thread Cert.OutWgradIdeal.nD Cert.OutWgradIdeal.τ).loc Cert.OutWgradIdeal.main_arg2) = m ((c.tc : Thread Cert.OutWgradIdeal.nD Cert.OutWgradIdeal.τ).loc Cert.OutWgradIdeal.main_arg2))
      ∧ r.2.sem = fun _ => 0)

def quiescent_RefOutWgradIdeal [hRefOutWgradIdeal : Cert.RefOutWgradIdeal.Facts] : Prop :=
  ∀ (m : (ℓ : Loc Cert.RefOutWgradIdeal.nD Cert.RefOutWgradIdeal.τ Cert.RefOutWgradIdeal.sig) → Buf (Elt Ideal) ℓ) (g : Dev Cert.RefOutWgradIdeal.nD → PrngReg), Pre_RefOutWgradIdeal m →
    θ_run (Cert.RefOutWgradIdeal.defs (F := Ideal)) (onTc (τ := Cert.RefOutWgradIdeal.τ) (Cert.RefOutWgradIdeal.main (F := Ideal))) ⟨m, fun _ => 0, g⟩ (fun r => (∀ c : Dev Cert.RefOutWgradIdeal.nD,
      r.2.mem ((c.tc : Thread Cert.RefOutWgradIdeal.nD Cert.RefOutWgradIdeal.τ).loc Cert.RefOutWgradIdeal.main_arg0) = m ((c.tc : Thread Cert.RefOutWgradIdeal.nD Cert.RefOutWgradIdeal.τ).loc Cert.RefOutWgradIdeal.main_arg0)
      ∧ r.2.mem ((c.tc : Thread Cert.RefOutWgradIdeal.nD Cert.RefOutWgradIdeal.τ).loc Cert.RefOutWgradIdeal.main_arg1) = m ((c.tc : Thread Cert.RefOutWgradIdeal.nD Cert.RefOutWgradIdeal.τ).loc Cert.RefOutWgradIdeal.main_arg1)
      ∧ r.2.mem ((c.tc : Thread Cert.RefOutWgradIdeal.nD Cert.RefOutWgradIdeal.τ).loc Cert.RefOutWgradIdeal.main_arg2) = m ((c.tc : Thread Cert.RefOutWgradIdeal.nD Cert.RefOutWgradIdeal.τ).loc Cert.RefOutWgradIdeal.main_arg2))
      ∧ r.2.sem = fun _ => 0)

def quiescent_OutDgrad [hOutDgrad : Cert.OutDgrad.Facts] : Prop :=
  ∀ (m : (ℓ : Loc Cert.OutDgrad.nD Cert.OutDgrad.τ Cert.OutDgrad.sig) → Buf (Elt Bits) ℓ) (g : Dev Cert.OutDgrad.nD → PrngReg), Pre_OutDgrad m →
    θ_run (Cert.OutDgrad.defs (F := Bits)) (onTc (τ := Cert.OutDgrad.τ) (Cert.OutDgrad.main (F := Bits))) ⟨m, fun _ => 0, g⟩ (fun r => (∀ c : Dev Cert.OutDgrad.nD,
      r.2.mem ((c.tc : Thread Cert.OutDgrad.nD Cert.OutDgrad.τ).loc Cert.OutDgrad.main_arg0) = m ((c.tc : Thread Cert.OutDgrad.nD Cert.OutDgrad.τ).loc Cert.OutDgrad.main_arg0)
      ∧ r.2.mem ((c.tc : Thread Cert.OutDgrad.nD Cert.OutDgrad.τ).loc Cert.OutDgrad.main_arg1) = m ((c.tc : Thread Cert.OutDgrad.nD Cert.OutDgrad.τ).loc Cert.OutDgrad.main_arg1)
      ∧ r.2.mem ((c.tc : Thread Cert.OutDgrad.nD Cert.OutDgrad.τ).loc Cert.OutDgrad.main_arg2) = m ((c.tc : Thread Cert.OutDgrad.nD Cert.OutDgrad.τ).loc Cert.OutDgrad.main_arg2))
      ∧ r.2.sem = fun _ => 0)

def quiescent_OutDgradIdeal [hOutDgradIdeal : Cert.OutDgradIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg), Pre_OutDgradIdeal m →
    θ_run (Cert.OutDgradIdeal.defs (F := Ideal)) (onTc (τ := Cert.OutDgradIdeal.τ) (Cert.OutDgradIdeal.main (F := Ideal))) ⟨m, fun _ => 0, g⟩ (fun r => (∀ c : Dev Cert.OutDgradIdeal.nD,
      r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
      ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1)
      ∧ r.2.mem ((c.tc : Thread Cert.OutDgradIdeal.nD Cert.OutDgradIdeal.τ).loc Cert.OutDgradIdeal.main_arg2) = m ((c.tc : Thread Cert.OutDgradIdeal.nD Cert.OutDgradIdeal.τ).loc Cert.OutDgradIdeal.main_arg2))
      ∧ r.2.sem = fun _ => 0)

def quiescent_RefOutDgradIdeal [hRefOutDgradIdeal : Cert.RefOutDgradIdeal.Facts] : Prop :=
  ∀ (m : (ℓ : Loc Cert.RefOutDgradIdeal.nD Cert.RefOutDgradIdeal.τ Cert.RefOutDgradIdeal.sig) → Buf (Elt Ideal) ℓ) (g : Dev Cert.RefOutDgradIdeal.nD → PrngReg), Pre_RefOutDgradIdeal m →
    θ_run (Cert.RefOutDgradIdeal.defs (F := Ideal)) (onTc (τ := Cert.RefOutDgradIdeal.τ) (Cert.RefOutDgradIdeal.main (F := Ideal))) ⟨m, fun _ => 0, g⟩ (fun r => (∀ c : Dev Cert.RefOutDgradIdeal.nD,
      r.2.mem ((c.tc : Thread Cert.RefOutDgradIdeal.nD Cert.RefOutDgradIdeal.τ).loc Cert.RefOutDgradIdeal.main_arg0) = m ((c.tc : Thread Cert.RefOutDgradIdeal.nD Cert.RefOutDgradIdeal.τ).loc Cert.RefOutDgradIdeal.main_arg0)
      ∧ r.2.mem ((c.tc : Thread Cert.RefOutDgradIdeal.nD Cert.RefOutDgradIdeal.τ).loc Cert.RefOutDgradIdeal.main_arg1) = m ((c.tc : Thread Cert.RefOutDgradIdeal.nD Cert.RefOutDgradIdeal.τ).loc Cert.RefOutDgradIdeal.main_arg1)
      ∧ r.2.mem ((c.tc : Thread Cert.RefOutDgradIdeal.nD Cert.RefOutDgradIdeal.τ).loc Cert.RefOutDgradIdeal.main_arg2) = m ((c.tc : Thread Cert.RefOutDgradIdeal.nD Cert.RefOutDgradIdeal.τ).loc Cert.RefOutDgradIdeal.main_arg2))
      ∧ r.2.sem = fun _ => 0)

def quiescent_GateDgrad [hGateDgrad : Cert.GateDgrad.Facts] : Prop :=
  ∀ (m : (ℓ : Loc Cert.GateDgrad.nD Cert.GateDgrad.τ Cert.GateDgrad.sig) → Buf (Elt Bits) ℓ) (g : Dev Cert.GateDgrad.nD → PrngReg), Pre_GateDgrad m →
    θ_run (Cert.GateDgrad.defs (F := Bits)) (onTc (τ := Cert.GateDgrad.τ) (Cert.GateDgrad.main (F := Bits))) ⟨m, fun _ => 0, g⟩ (fun r => (∀ c : Dev Cert.GateDgrad.nD,
      r.2.mem ((c.tc : Thread Cert.GateDgrad.nD Cert.GateDgrad.τ).loc Cert.GateDgrad.main_arg0) = m ((c.tc : Thread Cert.GateDgrad.nD Cert.GateDgrad.τ).loc Cert.GateDgrad.main_arg0)
      ∧ r.2.mem ((c.tc : Thread Cert.GateDgrad.nD Cert.GateDgrad.τ).loc Cert.GateDgrad.main_arg1) = m ((c.tc : Thread Cert.GateDgrad.nD Cert.GateDgrad.τ).loc Cert.GateDgrad.main_arg1)
      ∧ r.2.mem ((c.tc : Thread Cert.GateDgrad.nD Cert.GateDgrad.τ).loc Cert.GateDgrad.main_arg2) = m ((c.tc : Thread Cert.GateDgrad.nD Cert.GateDgrad.τ).loc Cert.GateDgrad.main_arg2))
      ∧ r.2.sem = fun _ => 0)

def quiescent_GateDgradIdeal [hGateDgradIdeal : Cert.GateDgradIdeal.Facts] : Prop :=
  ∀ (m : (ℓ : Loc Cert.GateDgradIdeal.nD Cert.GateDgradIdeal.τ Cert.GateDgradIdeal.sig) → Buf (Elt Ideal) ℓ) (g : Dev Cert.GateDgradIdeal.nD → PrngReg), Pre_GateDgradIdeal m →
    θ_run (Cert.GateDgradIdeal.defs (F := Ideal)) (onTc (τ := Cert.GateDgradIdeal.τ) (Cert.GateDgradIdeal.main (F := Ideal))) ⟨m, fun _ => 0, g⟩ (fun r => (∀ c : Dev Cert.GateDgradIdeal.nD,
      r.2.mem ((c.tc : Thread Cert.GateDgradIdeal.nD Cert.GateDgradIdeal.τ).loc Cert.GateDgradIdeal.main_arg0) = m ((c.tc : Thread Cert.GateDgradIdeal.nD Cert.GateDgradIdeal.τ).loc Cert.GateDgradIdeal.main_arg0)
      ∧ r.2.mem ((c.tc : Thread Cert.GateDgradIdeal.nD Cert.GateDgradIdeal.τ).loc Cert.GateDgradIdeal.main_arg1) = m ((c.tc : Thread Cert.GateDgradIdeal.nD Cert.GateDgradIdeal.τ).loc Cert.GateDgradIdeal.main_arg1)
      ∧ r.2.mem ((c.tc : Thread Cert.GateDgradIdeal.nD Cert.GateDgradIdeal.τ).loc Cert.GateDgradIdeal.main_arg2) = m ((c.tc : Thread Cert.GateDgradIdeal.nD Cert.GateDgradIdeal.τ).loc Cert.GateDgradIdeal.main_arg2))
      ∧ r.2.sem = fun _ => 0)

def quiescent_RefGateDgradIdeal [hRefGateDgradIdeal : Cert.RefGateDgradIdeal.Facts] : Prop :=
  ∀ (m : (ℓ : Loc Cert.RefGateDgradIdeal.nD Cert.RefGateDgradIdeal.τ Cert.RefGateDgradIdeal.sig) → Buf (Elt Ideal) ℓ) (g : Dev Cert.RefGateDgradIdeal.nD → PrngReg), Pre_RefGateDgradIdeal m →
    θ_run (Cert.RefGateDgradIdeal.defs (F := Ideal)) (onTc (τ := Cert.RefGateDgradIdeal.τ) (Cert.RefGateDgradIdeal.main (F := Ideal))) ⟨m, fun _ => 0, g⟩ (fun r => (∀ c : Dev Cert.RefGateDgradIdeal.nD,
      r.2.mem ((c.tc : Thread Cert.RefGateDgradIdeal.nD Cert.RefGateDgradIdeal.τ).loc Cert.RefGateDgradIdeal.main_arg0) = m ((c.tc : Thread Cert.RefGateDgradIdeal.nD Cert.RefGateDgradIdeal.τ).loc Cert.RefGateDgradIdeal.main_arg0)
      ∧ r.2.mem ((c.tc : Thread Cert.RefGateDgradIdeal.nD Cert.RefGateDgradIdeal.τ).loc Cert.RefGateDgradIdeal.main_arg1) = m ((c.tc : Thread Cert.RefGateDgradIdeal.nD Cert.RefGateDgradIdeal.τ).loc Cert.RefGateDgradIdeal.main_arg1)
      ∧ r.2.mem ((c.tc : Thread Cert.RefGateDgradIdeal.nD Cert.RefGateDgradIdeal.τ).loc Cert.RefGateDgradIdeal.main_arg2) = m ((c.tc : Thread Cert.RefGateDgradIdeal.nD Cert.RefGateDgradIdeal.τ).loc Cert.RefGateDgradIdeal.main_arg2))
      ∧ r.2.sem = fun _ => 0)

def quiescent_GateWgrad [hGateWgrad : Cert.GateWgrad.Facts] : Prop :=
  ∀ (m : (ℓ : Loc Cert.GateWgrad.nD Cert.GateWgrad.τ Cert.GateWgrad.sig) → Buf (Elt Bits) ℓ) (g : Dev Cert.GateWgrad.nD → PrngReg), Pre_GateWgrad m →
    θ_run (Cert.GateWgrad.defs (F := Bits)) (onTc (τ := Cert.GateWgrad.τ) (Cert.GateWgrad.main (F := Bits))) ⟨m, fun _ => 0, g⟩ (fun r => (∀ c : Dev Cert.GateWgrad.nD,
      r.2.mem ((c.tc : Thread Cert.GateWgrad.nD Cert.GateWgrad.τ).loc Cert.GateWgrad.main_arg0) = m ((c.tc : Thread Cert.GateWgrad.nD Cert.GateWgrad.τ).loc Cert.GateWgrad.main_arg0)
      ∧ r.2.mem ((c.tc : Thread Cert.GateWgrad.nD Cert.GateWgrad.τ).loc Cert.GateWgrad.main_arg1) = m ((c.tc : Thread Cert.GateWgrad.nD Cert.GateWgrad.τ).loc Cert.GateWgrad.main_arg1)
      ∧ r.2.mem ((c.tc : Thread Cert.GateWgrad.nD Cert.GateWgrad.τ).loc Cert.GateWgrad.main_arg2) = m ((c.tc : Thread Cert.GateWgrad.nD Cert.GateWgrad.τ).loc Cert.GateWgrad.main_arg2))
      ∧ r.2.sem = fun _ => 0)

def quiescent_GateWgradIdeal [hGateWgradIdeal : Cert.GateWgradIdeal.Facts] : Prop :=
  ∀ (m : (ℓ : Loc Cert.GateWgradIdeal.nD Cert.GateWgradIdeal.τ Cert.GateWgradIdeal.sig) → Buf (Elt Ideal) ℓ) (g : Dev Cert.GateWgradIdeal.nD → PrngReg), Pre_GateWgradIdeal m →
    θ_run (Cert.GateWgradIdeal.defs (F := Ideal)) (onTc (τ := Cert.GateWgradIdeal.τ) (Cert.GateWgradIdeal.main (F := Ideal))) ⟨m, fun _ => 0, g⟩ (fun r => (∀ c : Dev Cert.GateWgradIdeal.nD,
      r.2.mem ((c.tc : Thread Cert.GateWgradIdeal.nD Cert.GateWgradIdeal.τ).loc Cert.GateWgradIdeal.main_arg0) = m ((c.tc : Thread Cert.GateWgradIdeal.nD Cert.GateWgradIdeal.τ).loc Cert.GateWgradIdeal.main_arg0)
      ∧ r.2.mem ((c.tc : Thread Cert.GateWgradIdeal.nD Cert.GateWgradIdeal.τ).loc Cert.GateWgradIdeal.main_arg1) = m ((c.tc : Thread Cert.GateWgradIdeal.nD Cert.GateWgradIdeal.τ).loc Cert.GateWgradIdeal.main_arg1)
      ∧ r.2.mem ((c.tc : Thread Cert.GateWgradIdeal.nD Cert.GateWgradIdeal.τ).loc Cert.GateWgradIdeal.main_arg2) = m ((c.tc : Thread Cert.GateWgradIdeal.nD Cert.GateWgradIdeal.τ).loc Cert.GateWgradIdeal.main_arg2))
      ∧ r.2.sem = fun _ => 0)

def quiescent_RefGateWgradIdeal [hRefGateWgradIdeal : Cert.RefGateWgradIdeal.Facts] : Prop :=
  ∀ (m : (ℓ : Loc Cert.RefGateWgradIdeal.nD Cert.RefGateWgradIdeal.τ Cert.RefGateWgradIdeal.sig) → Buf (Elt Ideal) ℓ) (g : Dev Cert.RefGateWgradIdeal.nD → PrngReg), Pre_RefGateWgradIdeal m →
    θ_run (Cert.RefGateWgradIdeal.defs (F := Ideal)) (onTc (τ := Cert.RefGateWgradIdeal.τ) (Cert.RefGateWgradIdeal.main (F := Ideal))) ⟨m, fun _ => 0, g⟩ (fun r => (∀ c : Dev Cert.RefGateWgradIdeal.nD,
      r.2.mem ((c.tc : Thread Cert.RefGateWgradIdeal.nD Cert.RefGateWgradIdeal.τ).loc Cert.RefGateWgradIdeal.main_arg0) = m ((c.tc : Thread Cert.RefGateWgradIdeal.nD Cert.RefGateWgradIdeal.τ).loc Cert.RefGateWgradIdeal.main_arg0)
      ∧ r.2.mem ((c.tc : Thread Cert.RefGateWgradIdeal.nD Cert.RefGateWgradIdeal.τ).loc Cert.RefGateWgradIdeal.main_arg1) = m ((c.tc : Thread Cert.RefGateWgradIdeal.nD Cert.RefGateWgradIdeal.τ).loc Cert.RefGateWgradIdeal.main_arg1)
      ∧ r.2.mem ((c.tc : Thread Cert.RefGateWgradIdeal.nD Cert.RefGateWgradIdeal.τ).loc Cert.RefGateWgradIdeal.main_arg2) = m ((c.tc : Thread Cert.RefGateWgradIdeal.nD Cert.RefGateWgradIdeal.τ).loc Cert.RefGateWgradIdeal.main_arg2))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ r.2.sem = fun _ => 0)

def quiescent_RefGateFwdIdeal [hRefGateFwdIdeal : Cert.RefGateFwdIdeal.Facts] : Prop :=
  ∀ (m : (ℓ : Loc Cert.RefGateFwdIdeal.nD Cert.RefGateFwdIdeal.τ Cert.RefGateFwdIdeal.sig) → Buf (Elt Ideal) ℓ) (g : Dev Cert.RefGateFwdIdeal.nD → PrngReg), Pre_RefGateFwdIdeal m →
    θ_run (Cert.RefGateFwdIdeal.defs (F := Ideal)) (onTc (τ := Cert.RefGateFwdIdeal.τ) (Cert.RefGateFwdIdeal.main (F := Ideal))) ⟨m, fun _ => 0, g⟩ (fun r => (∀ c : Dev Cert.RefGateFwdIdeal.nD,
      r.2.mem ((c.tc : Thread Cert.RefGateFwdIdeal.nD Cert.RefGateFwdIdeal.τ).loc Cert.RefGateFwdIdeal.main_arg0) = m ((c.tc : Thread Cert.RefGateFwdIdeal.nD Cert.RefGateFwdIdeal.τ).loc Cert.RefGateFwdIdeal.main_arg0)
      ∧ r.2.mem ((c.tc : Thread Cert.RefGateFwdIdeal.nD Cert.RefGateFwdIdeal.τ).loc Cert.RefGateFwdIdeal.main_arg1) = m ((c.tc : Thread Cert.RefGateFwdIdeal.nD Cert.RefGateFwdIdeal.τ).loc Cert.RefGateFwdIdeal.main_arg1))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_RefNormFwdIdeal [hRefNormFwdIdeal : Cert.RefNormFwdIdeal.Facts] : Prop :=
  ∀ (m : (ℓ : Loc Cert.RefNormFwdIdeal.nD Cert.RefNormFwdIdeal.τ Cert.RefNormFwdIdeal.sig) → Buf (Elt Ideal) ℓ) (g : Dev Cert.RefNormFwdIdeal.nD → PrngReg), Pre_RefNormFwdIdeal m →
    θ_run (Cert.RefNormFwdIdeal.defs (F := Ideal)) (onTc (τ := Cert.RefNormFwdIdeal.τ) (Cert.RefNormFwdIdeal.main (F := Ideal))) ⟨m, fun _ => 0, g⟩ (fun r => (∀ c : Dev Cert.RefNormFwdIdeal.nD,
      r.2.mem ((c.tc : Thread Cert.RefNormFwdIdeal.nD Cert.RefNormFwdIdeal.τ).loc Cert.RefNormFwdIdeal.main_arg0) = m ((c.tc : Thread Cert.RefNormFwdIdeal.nD Cert.RefNormFwdIdeal.τ).loc Cert.RefNormFwdIdeal.main_arg0)
      ∧ r.2.mem ((c.tc : Thread Cert.RefNormFwdIdeal.nD Cert.RefNormFwdIdeal.τ).loc Cert.RefNormFwdIdeal.main_arg1) = m ((c.tc : Thread Cert.RefNormFwdIdeal.nD Cert.RefNormFwdIdeal.τ).loc Cert.RefNormFwdIdeal.main_arg1))
      ∧ r.2.sem = fun _ => 0)

def quiescent_ModFwd [hModFwd : Cert.ModFwd.Facts] : Prop :=
  ∀ (m : (ℓ : Loc Cert.ModFwd.nD Cert.ModFwd.τ Cert.ModFwd.sig) → Buf (Elt Bits) ℓ) (g : Dev Cert.ModFwd.nD → PrngReg), Pre_ModFwd m →
    θ_run (Cert.ModFwd.defs (F := Bits)) (onTc (τ := Cert.ModFwd.τ) (Cert.ModFwd.main (F := Bits))) ⟨m, fun _ => 0, g⟩ (fun r => (∀ c : Dev Cert.ModFwd.nD,
      r.2.mem ((c.tc : Thread Cert.ModFwd.nD Cert.ModFwd.τ).loc Cert.ModFwd.main_arg0) = m ((c.tc : Thread Cert.ModFwd.nD Cert.ModFwd.τ).loc Cert.ModFwd.main_arg0)
      ∧ r.2.mem ((c.tc : Thread Cert.ModFwd.nD Cert.ModFwd.τ).loc Cert.ModFwd.main_arg1) = m ((c.tc : Thread Cert.ModFwd.nD Cert.ModFwd.τ).loc Cert.ModFwd.main_arg1)
      ∧ r.2.mem ((c.tc : Thread Cert.ModFwd.nD Cert.ModFwd.τ).loc Cert.ModFwd.main_arg2) = m ((c.tc : Thread Cert.ModFwd.nD Cert.ModFwd.τ).loc Cert.ModFwd.main_arg2)
      ∧ r.2.mem ((c.tc : Thread Cert.ModFwd.nD Cert.ModFwd.τ).loc Cert.ModFwd.main_arg3) = m ((c.tc : Thread Cert.ModFwd.nD Cert.ModFwd.τ).loc Cert.ModFwd.main_arg3))
      ∧ r.2.sem = fun _ => 0)

def quiescent_ModFwdIdeal [hModFwdIdeal : Cert.ModFwdIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg), Pre_ModFwdIdeal m →
    θ_run (Cert.ModFwdIdeal.defs (F := Ideal)) (onTc (τ := Cert.ModFwdIdeal.τ) (Cert.ModFwdIdeal.main (F := Ideal))) ⟨m, fun _ => 0, g⟩ (fun r => (∀ c : Dev Cert.ModFwdIdeal.nD,
      r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
      ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
      ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2)
      ∧ r.2.mem ((c.tc : Thread Cert.ModFwdIdeal.nD Cert.ModFwdIdeal.τ).loc Cert.ModFwdIdeal.main_arg3) = m ((c.tc : Thread Cert.ModFwdIdeal.nD Cert.ModFwdIdeal.τ).loc Cert.ModFwdIdeal.main_arg3))
      ∧ r.2.sem = fun _ => 0)

def quiescent_RefModFwdIdeal [hRefModFwdIdeal : Cert.RefModFwdIdeal.Facts] : Prop :=
  ∀ (m : (ℓ : Loc Cert.RefModFwdIdeal.nD Cert.RefModFwdIdeal.τ Cert.RefModFwdIdeal.sig) → Buf (Elt Ideal) ℓ) (g : Dev Cert.RefModFwdIdeal.nD → PrngReg), Pre_RefModFwdIdeal m →
    θ_run (Cert.RefModFwdIdeal.defs (F := Ideal)) (onTc (τ := Cert.RefModFwdIdeal.τ) (Cert.RefModFwdIdeal.main (F := Ideal))) ⟨m, fun _ => 0, g⟩ (fun r => (∀ c : Dev Cert.RefModFwdIdeal.nD,
      r.2.mem ((c.tc : Thread Cert.RefModFwdIdeal.nD Cert.RefModFwdIdeal.τ).loc Cert.RefModFwdIdeal.main_arg0) = m ((c.tc : Thread Cert.RefModFwdIdeal.nD Cert.RefModFwdIdeal.τ).loc Cert.RefModFwdIdeal.main_arg0)
      ∧ r.2.mem ((c.tc : Thread Cert.RefModFwdIdeal.nD Cert.RefModFwdIdeal.τ).loc Cert.RefModFwdIdeal.main_arg1) = m ((c.tc : Thread Cert.RefModFwdIdeal.nD Cert.RefModFwdIdeal.τ).loc Cert.RefModFwdIdeal.main_arg1)
      ∧ r.2.mem ((c.tc : Thread Cert.RefModFwdIdeal.nD Cert.RefModFwdIdeal.τ).loc Cert.RefModFwdIdeal.main_arg2) = m ((c.tc : Thread Cert.RefModFwdIdeal.nD Cert.RefModFwdIdeal.τ).loc Cert.RefModFwdIdeal.main_arg2)
      ∧ r.2.mem ((c.tc : Thread Cert.RefModFwdIdeal.nD Cert.RefModFwdIdeal.τ).loc Cert.RefModFwdIdeal.main_arg3) = m ((c.tc : Thread Cert.RefModFwdIdeal.nD Cert.RefModFwdIdeal.τ).loc Cert.RefModFwdIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ r.2.sem = fun _ => 0)

def quiescent_RefNormBwdIdeal [hRefNormBwdIdeal : Cert.RefNormBwdIdeal.Facts] : Prop :=
  ∀ (m : (ℓ : Loc Cert.RefNormBwdIdeal.nD Cert.RefNormBwdIdeal.τ Cert.RefNormBwdIdeal.sig) → Buf (Elt Ideal) ℓ) (g : Dev Cert.RefNormBwdIdeal.nD → PrngReg), Pre_RefNormBwdIdeal m →
    θ_run (Cert.RefNormBwdIdeal.defs (F := Ideal)) (onTc (τ := Cert.RefNormBwdIdeal.τ) (Cert.RefNormBwdIdeal.main (F := Ideal))) ⟨m, fun _ => 0, g⟩ (fun r => (∀ c : Dev Cert.RefNormBwdIdeal.nD,
      r.2.mem ((c.tc : Thread Cert.RefNormBwdIdeal.nD Cert.RefNormBwdIdeal.τ).loc Cert.RefNormBwdIdeal.main_arg0) = m ((c.tc : Thread Cert.RefNormBwdIdeal.nD Cert.RefNormBwdIdeal.τ).loc Cert.RefNormBwdIdeal.main_arg0)
      ∧ r.2.mem ((c.tc : Thread Cert.RefNormBwdIdeal.nD Cert.RefNormBwdIdeal.τ).loc Cert.RefNormBwdIdeal.main_arg1) = m ((c.tc : Thread Cert.RefNormBwdIdeal.nD Cert.RefNormBwdIdeal.τ).loc Cert.RefNormBwdIdeal.main_arg1)
      ∧ r.2.mem ((c.tc : Thread Cert.RefNormBwdIdeal.nD Cert.RefNormBwdIdeal.τ).loc Cert.RefNormBwdIdeal.main_arg2) = m ((c.tc : Thread Cert.RefNormBwdIdeal.nD Cert.RefNormBwdIdeal.τ).loc Cert.RefNormBwdIdeal.main_arg2))
      ∧ r.2.sem = fun _ => 0)

def preserves_AttnDq_AttnDqIdeal : Prop :=
  True

def algebraic_AttnDqIdeal_RefAttnDqIdeal_pre_finite_ct [hAttnDqIdeal : Cert.AttnDqIdeal.Facts] [hRefAttnDqIdeal : Cert.RefAttnDqIdeal.Facts] [hPre_finite_ct : Cert.Pre_finite_ct.Facts] : Prop :=
  ∀ (m : (ℓ : Loc Cert.AttnDqIdeal.nD Cert.AttnDqIdeal.τ Cert.AttnDqIdeal.sig) → Buf (Elt Ideal) ℓ) (g : Dev Cert.AttnDqIdeal.nD → PrngReg)
    (m' : (ℓ : Loc Cert.RefAttnDqIdeal.nD Cert.RefAttnDqIdeal.τ Cert.RefAttnDqIdeal.sig) → Buf (Elt Ideal) ℓ) (g' : Dev Cert.RefAttnDqIdeal.nD → PrngReg), Pre_AttnDqIdeal_finite_ct m →
    (∀ c : Dev Cert.AttnDqIdeal.nD,
      m' ((c.tc : Thread Cert.RefAttnDqIdeal.nD Cert.RefAttnDqIdeal.τ).loc Cert.RefAttnDqIdeal.main_arg0) = m ((c.tc : Thread Cert.AttnDqIdeal.nD Cert.AttnDqIdeal.τ).loc Cert.AttnDqIdeal.main_arg0)
      ∧ m' ((c.tc : Thread Cert.RefAttnDqIdeal.nD Cert.RefAttnDqIdeal.τ).loc Cert.RefAttnDqIdeal.main_arg1) = m ((c.tc : Thread Cert.AttnDqIdeal.nD Cert.AttnDqIdeal.τ).loc Cert.AttnDqIdeal.main_arg1)
      ∧ m' ((c.tc : Thread Cert.RefAttnDqIdeal.nD Cert.RefAttnDqIdeal.τ).loc Cert.RefAttnDqIdeal.main_arg2) = m ((c.tc : Thread Cert.AttnDqIdeal.nD Cert.AttnDqIdeal.τ).loc Cert.AttnDqIdeal.main_arg2)
      ∧ m' ((c.tc : Thread Cert.RefAttnDqIdeal.nD Cert.RefAttnDqIdeal.τ).loc Cert.RefAttnDqIdeal.main_arg3) = m ((c.tc : Thread Cert.AttnDqIdeal.nD Cert.AttnDqIdeal.τ).loc Cert.AttnDqIdeal.main_arg3)) →
    ∃ (v0 : (c : Dev Cert.AttnDqIdeal.nD) → Buf (Elt Ideal) ((c.tc : Thread Cert.AttnDqIdeal.nD Cert.AttnDqIdeal.τ).loc Cert.AttnDqIdeal.main_v30)),
      θ_run (Cert.AttnDqIdeal.defs (F := Ideal)) (onTc (τ := Cert.AttnDqIdeal.τ) (Cert.AttnDqIdeal.main (F := Ideal))) ⟨m, fun _ => 0, g⟩ (fun r => ∀ c : Dev Cert.AttnDqIdeal.nD,
          r.2.mem ((c.tc : Thread Cert.AttnDqIdeal.nD Cert.AttnDqIdeal.τ).loc Cert.AttnDqIdeal.main_v30) = v0 c
          ∧ r.2.mem ((c.tc : Thread Cert.AttnDqIdeal.nD Cert.AttnDqIdeal.τ).loc Cert.AttnDqIdeal.main_arg0) = m ((c.tc : Thread Cert.AttnDqIdeal.nD Cert.AttnDqIdeal.τ).loc Cert.AttnDqIdeal.main_arg0)
          ∧ r.2.mem ((c.tc : Thread Cert.AttnDqIdeal.nD Cert.AttnDqIdeal.τ).loc Cert.AttnDqIdeal.main_arg1) = m ((c.tc : Thread Cert.AttnDqIdeal.nD Cert.AttnDqIdeal.τ).loc Cert.AttnDqIdeal.main_arg1)
          ∧ r.2.mem ((c.tc : Thread Cert.AttnDqIdeal.nD Cert.AttnDqIdeal.τ).loc Cert.AttnDqIdeal.main_arg2) = m ((c.tc : Thread Cert.AttnDqIdeal.nD Cert.AttnDqIdeal.τ).loc Cert.AttnDqIdeal.main_arg2)
          ∧ r.2.mem ((c.tc : Thread Cert.AttnDqIdeal.nD Cert.AttnDqIdeal.τ).loc Cert.AttnDqIdeal.main_arg3) = m ((c.tc : Thread Cert.AttnDqIdeal.nD Cert.AttnDqIdeal.τ).loc Cert.AttnDqIdeal.main_arg3))
      ∧ θ_run (Cert.RefAttnDqIdeal.defs (F := Ideal)) (onTc (τ := Cert.RefAttnDqIdeal.τ) (Cert.RefAttnDqIdeal.main (F := Ideal))) ⟨m', fun _ => 0, g'⟩ (fun r => ∀ c : Dev Cert.RefAttnDqIdeal.nD,
          r.2.mem ((c.tc : Thread Cert.RefAttnDqIdeal.nD Cert.RefAttnDqIdeal.τ).loc Cert.RefAttnDqIdeal.main_v50) = v0 c
          ∧ r.2.mem ((c.tc : Thread Cert.RefAttnDqIdeal.nD Cert.RefAttnDqIdeal.τ).loc Cert.RefAttnDqIdeal.main_arg0) = m' ((c.tc : Thread Cert.RefAttnDqIdeal.nD Cert.RefAttnDqIdeal.τ).loc Cert.RefAttnDqIdeal.main_arg0)
          ∧ r.2.mem ((c.tc : Thread Cert.RefAttnDqIdeal.nD Cert.RefAttnDqIdeal.τ).loc Cert.RefAttnDqIdeal.main_arg1) = m' ((c.tc : Thread Cert.RefAttnDqIdeal.nD Cert.RefAttnDqIdeal.τ).loc Cert.RefAttnDqIdeal.main_arg1)
          ∧ r.2.mem ((c.tc : Thread Cert.RefAttnDqIdeal.nD Cert.RefAttnDqIdeal.τ).loc Cert.RefAttnDqIdeal.main_arg2) = m' ((c.tc : Thread Cert.RefAttnDqIdeal.nD Cert.RefAttnDqIdeal.τ).loc Cert.RefAttnDqIdeal.main_arg2)
          ∧ r.2.mem ((c.tc : Thread Cert.RefAttnDqIdeal.nD Cert.RefAttnDqIdeal.τ).loc Cert.RefAttnDqIdeal.main_arg3) = m' ((c.tc : Thread Cert.RefAttnDqIdeal.nD Cert.RefAttnDqIdeal.τ).loc Cert.RefAttnDqIdeal.main_arg3))

def preserves_AttnDkv_AttnDkvIdeal : Prop :=
  True

def algebraic_AttnDkvIdeal_RefAttnDkvIdeal_pre_finite_ct [hAttnDkvIdeal : Cert.AttnDkvIdeal.Facts] [hRefAttnDkvIdeal : Cert.RefAttnDkvIdeal.Facts] [hPre_finite_ct : Cert.Pre_finite_ct.Facts] : Prop :=
  ∀ (m : (ℓ : Loc Cert.AttnDkvIdeal.nD Cert.AttnDkvIdeal.τ Cert.AttnDkvIdeal.sig) → Buf (Elt Ideal) ℓ) (g : Dev Cert.AttnDkvIdeal.nD → PrngReg)
    (m' : (ℓ : Loc Cert.RefAttnDkvIdeal.nD Cert.RefAttnDkvIdeal.τ Cert.RefAttnDkvIdeal.sig) → Buf (Elt Ideal) ℓ) (g' : Dev Cert.RefAttnDkvIdeal.nD → PrngReg), Pre_AttnDkvIdeal_finite_ct m →
    (∀ c : Dev Cert.AttnDkvIdeal.nD,
      m' ((c.tc : Thread Cert.RefAttnDkvIdeal.nD Cert.RefAttnDkvIdeal.τ).loc Cert.RefAttnDkvIdeal.main_arg0) = m ((c.tc : Thread Cert.AttnDkvIdeal.nD Cert.AttnDkvIdeal.τ).loc Cert.AttnDkvIdeal.main_arg0)
      ∧ m' ((c.tc : Thread Cert.RefAttnDkvIdeal.nD Cert.RefAttnDkvIdeal.τ).loc Cert.RefAttnDkvIdeal.main_arg1) = m ((c.tc : Thread Cert.AttnDkvIdeal.nD Cert.AttnDkvIdeal.τ).loc Cert.AttnDkvIdeal.main_arg1)
      ∧ m' ((c.tc : Thread Cert.RefAttnDkvIdeal.nD Cert.RefAttnDkvIdeal.τ).loc Cert.RefAttnDkvIdeal.main_arg2) = m ((c.tc : Thread Cert.AttnDkvIdeal.nD Cert.AttnDkvIdeal.τ).loc Cert.AttnDkvIdeal.main_arg2)
      ∧ m' ((c.tc : Thread Cert.RefAttnDkvIdeal.nD Cert.RefAttnDkvIdeal.τ).loc Cert.RefAttnDkvIdeal.main_arg3) = m ((c.tc : Thread Cert.AttnDkvIdeal.nD Cert.AttnDkvIdeal.τ).loc Cert.AttnDkvIdeal.main_arg3)) →
    ∃ (v0 : (c : Dev Cert.AttnDkvIdeal.nD) → Buf (Elt Ideal) ((c.tc : Thread Cert.AttnDkvIdeal.nD Cert.AttnDkvIdeal.τ).loc Cert.AttnDkvIdeal.main_v32_0)) (v1 : (c : Dev Cert.AttnDkvIdeal.nD) → Buf (Elt Ideal) ((c.tc : Thread Cert.AttnDkvIdeal.nD Cert.AttnDkvIdeal.τ).loc Cert.AttnDkvIdeal.main_v32_1)),
      θ_run (Cert.AttnDkvIdeal.defs (F := Ideal)) (onTc (τ := Cert.AttnDkvIdeal.τ) (Cert.AttnDkvIdeal.main (F := Ideal))) ⟨m, fun _ => 0, g⟩ (fun r => ∀ c : Dev Cert.AttnDkvIdeal.nD,
          r.2.mem ((c.tc : Thread Cert.AttnDkvIdeal.nD Cert.AttnDkvIdeal.τ).loc Cert.AttnDkvIdeal.main_v32_0) = v0 c
          ∧ r.2.mem ((c.tc : Thread Cert.AttnDkvIdeal.nD Cert.AttnDkvIdeal.τ).loc Cert.AttnDkvIdeal.main_v32_1) = v1 c
          ∧ r.2.mem ((c.tc : Thread Cert.AttnDkvIdeal.nD Cert.AttnDkvIdeal.τ).loc Cert.AttnDkvIdeal.main_arg0) = m ((c.tc : Thread Cert.AttnDkvIdeal.nD Cert.AttnDkvIdeal.τ).loc Cert.AttnDkvIdeal.main_arg0)
          ∧ r.2.mem ((c.tc : Thread Cert.AttnDkvIdeal.nD Cert.AttnDkvIdeal.τ).loc Cert.AttnDkvIdeal.main_arg1) = m ((c.tc : Thread Cert.AttnDkvIdeal.nD Cert.AttnDkvIdeal.τ).loc Cert.AttnDkvIdeal.main_arg1)
          ∧ r.2.mem ((c.tc : Thread Cert.AttnDkvIdeal.nD Cert.AttnDkvIdeal.τ).loc Cert.AttnDkvIdeal.main_arg2) = m ((c.tc : Thread Cert.AttnDkvIdeal.nD Cert.AttnDkvIdeal.τ).loc Cert.AttnDkvIdeal.main_arg2)
          ∧ r.2.mem ((c.tc : Thread Cert.AttnDkvIdeal.nD Cert.AttnDkvIdeal.τ).loc Cert.AttnDkvIdeal.main_arg3) = m ((c.tc : Thread Cert.AttnDkvIdeal.nD Cert.AttnDkvIdeal.τ).loc Cert.AttnDkvIdeal.main_arg3))
      ∧ θ_run (Cert.RefAttnDkvIdeal.defs (F := Ideal)) (onTc (τ := Cert.RefAttnDkvIdeal.τ) (Cert.RefAttnDkvIdeal.main (F := Ideal))) ⟨m', fun _ => 0, g'⟩ (fun r => ∀ c : Dev Cert.RefAttnDkvIdeal.nD,
          r.2.mem ((c.tc : Thread Cert.RefAttnDkvIdeal.nD Cert.RefAttnDkvIdeal.τ).loc Cert.RefAttnDkvIdeal.main_v49) = v0 c
          ∧ r.2.mem ((c.tc : Thread Cert.RefAttnDkvIdeal.nD Cert.RefAttnDkvIdeal.τ).loc Cert.RefAttnDkvIdeal.main_v33) = v1 c
          ∧ r.2.mem ((c.tc : Thread Cert.RefAttnDkvIdeal.nD Cert.RefAttnDkvIdeal.τ).loc Cert.RefAttnDkvIdeal.main_arg0) = m' ((c.tc : Thread Cert.RefAttnDkvIdeal.nD Cert.RefAttnDkvIdeal.τ).loc Cert.RefAttnDkvIdeal.main_arg0)
          ∧ r.2.mem ((c.tc : Thread Cert.RefAttnDkvIdeal.nD Cert.RefAttnDkvIdeal.τ).loc Cert.RefAttnDkvIdeal.main_arg1) = m' ((c.tc : Thread Cert.RefAttnDkvIdeal.nD Cert.RefAttnDkvIdeal.τ).loc Cert.RefAttnDkvIdeal.main_arg1)
          ∧ r.2.mem ((c.tc : Thread Cert.RefAttnDkvIdeal.nD Cert.RefAttnDkvIdeal.τ).loc Cert.RefAttnDkvIdeal.main_arg2) = m' ((c.tc : Thread Cert.RefAttnDkvIdeal.nD Cert.RefAttnDkvIdeal.τ).loc Cert.RefAttnDkvIdeal.main_arg2)
          ∧ r.2.mem ((c.tc : Thread Cert.RefAttnDkvIdeal.nD Cert.RefAttnDkvIdeal.τ).loc Cert.RefAttnDkvIdeal.main_arg3) = m' ((c.tc : Thread Cert.RefAttnDkvIdeal.nD Cert.RefAttnDkvIdeal.τ).loc Cert.RefAttnDkvIdeal.main_arg3))

def preserves_Attn_AttnIdeal : Prop :=
  True

def algebraic_AttnIdeal_RefAttnIdeal_pre_finite [hAttnIdeal : Cert.AttnIdeal.Facts] [hRefAttnIdeal : Cert.RefAttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.RefAttnIdeal.nD Cert.RefAttnIdeal.τ Cert.RefAttnIdeal.sig) → Buf (Elt Ideal) ℓ) (g' : Dev Cert.RefAttnIdeal.nD → PrngReg), Pre_AttnIdeal_finite m →
    (∀ c : Dev Cert.AttnIdeal.nD,
      m' ((c.tc : Thread Cert.RefAttnIdeal.nD Cert.RefAttnIdeal.τ).loc Cert.RefAttnIdeal.main_arg0) = m ((c.tc : Thread Cert.AttnIdeal.nD Cert.AttnIdeal.τ).loc Cert.AttnIdeal.main_arg0)
      ∧ m' ((c.tc : Thread Cert.RefAttnIdeal.nD Cert.RefAttnIdeal.τ).loc Cert.RefAttnIdeal.main_arg1) = m ((c.tc : Thread Cert.AttnIdeal.nD Cert.AttnIdeal.τ).loc Cert.AttnIdeal.main_arg1)
      ∧ m' ((c.tc : Thread Cert.RefAttnIdeal.nD Cert.RefAttnIdeal.τ).loc Cert.RefAttnIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.RefAttnIdeal.defs (F := Ideal)) (onTc (τ := Cert.RefAttnIdeal.τ) (Cert.RefAttnIdeal.main (F := Ideal))) ⟨m', fun _ => 0, g'⟩ (fun r => ∀ c : Dev Cert.RefAttnIdeal.nD,
          r.2.mem ((c.tc : Thread Cert.RefAttnIdeal.nD Cert.RefAttnIdeal.τ).loc Cert.RefAttnIdeal.main_v14) = v0 c
          ∧ r.2.mem ((c.tc : Thread Cert.RefAttnIdeal.nD Cert.RefAttnIdeal.τ).loc Cert.RefAttnIdeal.main_v26) = v1 c
          ∧ r.2.mem ((c.tc : Thread Cert.RefAttnIdeal.nD Cert.RefAttnIdeal.τ).loc Cert.RefAttnIdeal.main_arg0) = m' ((c.tc : Thread Cert.RefAttnIdeal.nD Cert.RefAttnIdeal.τ).loc Cert.RefAttnIdeal.main_arg0)
          ∧ r.2.mem ((c.tc : Thread Cert.RefAttnIdeal.nD Cert.RefAttnIdeal.τ).loc Cert.RefAttnIdeal.main_arg1) = m' ((c.tc : Thread Cert.RefAttnIdeal.nD Cert.RefAttnIdeal.τ).loc Cert.RefAttnIdeal.main_arg1)
          ∧ r.2.mem ((c.tc : Thread Cert.RefAttnIdeal.nD Cert.RefAttnIdeal.τ).loc Cert.RefAttnIdeal.main_arg2) = m' ((c.tc : Thread Cert.RefAttnIdeal.nD Cert.RefAttnIdeal.τ).loc Cert.RefAttnIdeal.main_arg2))

def preserves_InFwd_InFwdIdeal : Prop :=
  True

def algebraic_InFwdIdeal_RefInFwdIdeal [hInFwdIdeal : Cert.InFwdIdeal.Facts] [hRefInFwdIdeal : Cert.RefInFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.RefInFwdIdeal.nD Cert.RefInFwdIdeal.τ Cert.RefInFwdIdeal.sig) → Buf (Elt Ideal) ℓ) (g' : Dev Cert.RefInFwdIdeal.nD → PrngReg), Pre_InFwdIdeal m →
    (∀ c : Dev Cert.InFwdIdeal.nD,
      m' ((c.tc : Thread Cert.RefInFwdIdeal.nD Cert.RefInFwdIdeal.τ).loc Cert.RefInFwdIdeal.main_arg0) = m ((c.tc : Thread Cert.InFwdIdeal.nD Cert.InFwdIdeal.τ).loc Cert.InFwdIdeal.main_arg0)
      ∧ m' ((c.tc : Thread Cert.RefInFwdIdeal.nD Cert.RefInFwdIdeal.τ).loc Cert.RefInFwdIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0_0)) (v1 : (c : Dev Cert.InFwdIdeal.nD) → Buf (Elt Ideal) ((c.tc : Thread Cert.InFwdIdeal.nD Cert.InFwdIdeal.τ).loc Cert.InFwdIdeal.main_v0_1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0_0) = v0 c
          ∧ r.2.mem ((c.tc : Thread Cert.InFwdIdeal.nD Cert.InFwdIdeal.τ).loc Cert.InFwdIdeal.main_v0_1) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.RefInFwdIdeal.defs (F := Ideal)) (onTc (τ := Cert.RefInFwdIdeal.τ) (Cert.RefInFwdIdeal.main (F := Ideal))) ⟨m', fun _ => 0, g'⟩ (fun r => ∀ c : Dev Cert.RefInFwdIdeal.nD,
          r.2.mem ((c.tc : Thread Cert.RefInFwdIdeal.nD Cert.RefInFwdIdeal.τ).loc Cert.RefInFwdIdeal.main_v0) = v0 c
          ∧ r.2.mem ((c.tc : Thread Cert.RefInFwdIdeal.nD Cert.RefInFwdIdeal.τ).loc Cert.RefInFwdIdeal.main_v1) = v1 c
          ∧ r.2.mem ((c.tc : Thread Cert.RefInFwdIdeal.nD Cert.RefInFwdIdeal.τ).loc Cert.RefInFwdIdeal.main_arg0) = m' ((c.tc : Thread Cert.RefInFwdIdeal.nD Cert.RefInFwdIdeal.τ).loc Cert.RefInFwdIdeal.main_arg0)
          ∧ r.2.mem ((c.tc : Thread Cert.RefInFwdIdeal.nD Cert.RefInFwdIdeal.τ).loc Cert.RefInFwdIdeal.main_arg1) = m' ((c.tc : Thread Cert.RefInFwdIdeal.nD Cert.RefInFwdIdeal.τ).loc Cert.RefInFwdIdeal.main_arg1))

def preserves_UpFwd_UpFwdIdeal : Prop :=
  True

def algebraic_UpFwdIdeal_RefUpFwdIdeal [hUpFwdIdeal : Cert.UpFwdIdeal.Facts] [hRefUpFwdIdeal : Cert.RefUpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.RefUpFwdIdeal.nD Cert.RefUpFwdIdeal.τ Cert.RefUpFwdIdeal.sig) → Buf (Elt Ideal) ℓ) (g' : Dev Cert.RefUpFwdIdeal.nD → PrngReg), Pre_UpFwdIdeal m →
    (∀ c : Dev Cert.UpFwdIdeal.nD,
      m' ((c.tc : Thread Cert.RefUpFwdIdeal.nD Cert.RefUpFwdIdeal.τ).loc Cert.RefUpFwdIdeal.main_arg0) = m ((c.tc : Thread Cert.UpFwdIdeal.nD Cert.UpFwdIdeal.τ).loc Cert.UpFwdIdeal.main_arg0)
      ∧ m' ((c.tc : Thread Cert.RefUpFwdIdeal.nD Cert.RefUpFwdIdeal.τ).loc Cert.RefUpFwdIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v0_0)) (v1 : (c : Dev Cert.UpFwdIdeal.nD) → Buf (Elt Ideal) ((c.tc : Thread Cert.UpFwdIdeal.nD Cert.UpFwdIdeal.τ).loc Cert.UpFwdIdeal.main_v0_1)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0_0) = v0 c
          ∧ r.2.mem ((c.tc : Thread Cert.UpFwdIdeal.nD Cert.UpFwdIdeal.τ).loc Cert.UpFwdIdeal.main_v0_1) = v1 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.RefUpFwdIdeal.defs (F := Ideal)) (onTc (τ := Cert.RefUpFwdIdeal.τ) (Cert.RefUpFwdIdeal.main (F := Ideal))) ⟨m', fun _ => 0, g'⟩ (fun r => ∀ c : Dev Cert.RefUpFwdIdeal.nD,
          r.2.mem ((c.tc : Thread Cert.RefUpFwdIdeal.nD Cert.RefUpFwdIdeal.τ).loc Cert.RefUpFwdIdeal.main_v0) = v0 c
          ∧ r.2.mem ((c.tc : Thread Cert.RefUpFwdIdeal.nD Cert.RefUpFwdIdeal.τ).loc Cert.RefUpFwdIdeal.main_v1) = v1 c
          ∧ r.2.mem ((c.tc : Thread Cert.RefUpFwdIdeal.nD Cert.RefUpFwdIdeal.τ).loc Cert.RefUpFwdIdeal.main_arg0) = m' ((c.tc : Thread Cert.RefUpFwdIdeal.nD Cert.RefUpFwdIdeal.τ).loc Cert.RefUpFwdIdeal.main_arg0)
          ∧ r.2.mem ((c.tc : Thread Cert.RefUpFwdIdeal.nD Cert.RefUpFwdIdeal.τ).loc Cert.RefUpFwdIdeal.main_arg1) = m' ((c.tc : Thread Cert.RefUpFwdIdeal.nD Cert.RefUpFwdIdeal.τ).loc Cert.RefUpFwdIdeal.main_arg1))

def preserves_BranchFwd_BranchFwdIdeal : Prop :=
  True

def algebraic_BranchFwdIdeal_RefBranchFwdIdeal [hBranchFwdIdeal : Cert.BranchFwdIdeal.Facts] [hRefBranchFwdIdeal : Cert.RefBranchFwdIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg)
    (m' : (ℓ : Loc Cert.RefBranchFwdIdeal.nD Cert.RefBranchFwdIdeal.τ Cert.RefBranchFwdIdeal.sig) → Buf (Elt Ideal) ℓ) (g' : Dev Cert.RefBranchFwdIdeal.nD → PrngReg), Pre_BranchFwdIdeal m →
    (∀ c : Dev Cert.BranchFwdIdeal.nD,
      m' ((c.tc : Thread Cert.RefBranchFwdIdeal.nD Cert.RefBranchFwdIdeal.τ).loc Cert.RefBranchFwdIdeal.main_arg0) = m ((c.tc : Thread Cert.BranchFwdIdeal.nD Cert.BranchFwdIdeal.τ).loc Cert.BranchFwdIdeal.main_arg0)
      ∧ m' ((c.tc : Thread Cert.RefBranchFwdIdeal.nD Cert.RefBranchFwdIdeal.τ).loc Cert.RefBranchFwdIdeal.main_arg1) = m ((c.tc : Thread Cert.BranchFwdIdeal.nD Cert.BranchFwdIdeal.τ).loc Cert.BranchFwdIdeal.main_arg1)) →
    ∃ (v0 : (c : Dev Cert.BranchFwdIdeal.nD) → Buf (Elt Ideal) ((c.tc : Thread Cert.BranchFwdIdeal.nD Cert.BranchFwdIdeal.τ).loc Cert.BranchFwdIdeal.main_v0_0)) (v1 : (c : Dev Cert.BranchFwdIdeal.nD) → Buf (Elt Ideal) ((c.tc : Thread Cert.BranchFwdIdeal.nD Cert.BranchFwdIdeal.τ).loc Cert.BranchFwdIdeal.main_v0_1)),
      θ_run (Cert.BranchFwdIdeal.defs (F := Ideal)) (onTc (τ := Cert.BranchFwdIdeal.τ) (Cert.BranchFwdIdeal.main (F := Ideal))) ⟨m, fun _ => 0, g⟩ (fun r => ∀ c : Dev Cert.BranchFwdIdeal.nD,
          r.2.mem ((c.tc : Thread Cert.BranchFwdIdeal.nD Cert.BranchFwdIdeal.τ).loc Cert.BranchFwdIdeal.main_v0_0) = v0 c
          ∧ r.2.mem ((c.tc : Thread Cert.BranchFwdIdeal.nD Cert.BranchFwdIdeal.τ).loc Cert.BranchFwdIdeal.main_v0_1) = v1 c
          ∧ r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
          ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1))
      ∧ θ_run (Cert.RefBranchFwdIdeal.defs (F := Ideal)) (onTc (τ := Cert.RefBranchFwdIdeal.τ) (Cert.RefBranchFwdIdeal.main (F := Ideal))) ⟨m', fun _ => 0, g'⟩ (fun r => ∀ c : Dev Cert.RefBranchFwdIdeal.nD,
          r.2.mem ((c.tc : Thread Cert.RefBranchFwdIdeal.nD Cert.RefBranchFwdIdeal.τ).loc Cert.RefBranchFwdIdeal.main_v0) = v0 c
          ∧ r.2.mem ((c.tc : Thread Cert.RefBranchFwdIdeal.nD Cert.RefBranchFwdIdeal.τ).loc Cert.RefBranchFwdIdeal.main_v1) = v1 c
          ∧ r.2.mem ((c.tc : Thread Cert.RefBranchFwdIdeal.nD Cert.RefBranchFwdIdeal.τ).loc Cert.RefBranchFwdIdeal.main_arg0) = m' ((c.tc : Thread Cert.RefBranchFwdIdeal.nD Cert.RefBranchFwdIdeal.τ).loc Cert.RefBranchFwdIdeal.main_arg0)
          ∧ r.2.mem ((c.tc : Thread Cert.RefBranchFwdIdeal.nD Cert.RefBranchFwdIdeal.τ).loc Cert.RefBranchFwdIdeal.main_arg1) = m' ((c.tc : Thread Cert.RefBranchFwdIdeal.nD Cert.RefBranchFwdIdeal.τ).loc Cert.RefBranchFwdIdeal.main_arg1))

def preserves_OutFwd_OutFwdIdeal : Prop :=
  True

def algebraic_OutFwdIdeal_RefOutFwdIdeal [hOutFwdIdeal : Cert.OutFwdIdeal.Facts] [hRefOutFwdIdeal : Cert.RefOutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.RefOutFwdIdeal.nD Cert.RefOutFwdIdeal.τ Cert.RefOutFwdIdeal.sig) → Buf (Elt Ideal) ℓ) (g' : Dev Cert.RefOutFwdIdeal.nD → PrngReg), Pre_OutFwdIdeal m →
    (∀ c : Dev Cert.OutFwdIdeal.nD,
      m' ((c.tc : Thread Cert.RefOutFwdIdeal.nD Cert.RefOutFwdIdeal.τ).loc Cert.RefOutFwdIdeal.main_arg0) = m ((c.tc : Thread Cert.OutFwdIdeal.nD Cert.OutFwdIdeal.τ).loc Cert.OutFwdIdeal.main_arg0)
      ∧ m' ((c.tc : Thread Cert.RefOutFwdIdeal.nD Cert.RefOutFwdIdeal.τ).loc Cert.RefOutFwdIdeal.main_arg1) = m ((c.tc : Thread Cert.OutFwdIdeal.nD Cert.OutFwdIdeal.τ).loc Cert.OutFwdIdeal.main_arg1)) →
    ∃ (v0 : (c : Dev Cert.OutFwdIdeal.nD) → Buf (Elt Ideal) ((c.tc : Thread Cert.OutFwdIdeal.nD Cert.OutFwdIdeal.τ).loc Cert.OutFwdIdeal.main_v0_0)) (v1 : (c : Dev Cert.OutFwdIdeal.nD) → Buf (Elt Ideal) ((c.tc : Thread Cert.OutFwdIdeal.nD Cert.OutFwdIdeal.τ).loc Cert.OutFwdIdeal.main_v0_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0_0) = v0 c
          ∧ r.2.mem ((c.tc : Thread Cert.OutFwdIdeal.nD Cert.OutFwdIdeal.τ).loc Cert.OutFwdIdeal.main_v0_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ θ_run (Cert.RefOutFwdIdeal.defs (F := Ideal)) (onTc (τ := Cert.RefOutFwdIdeal.τ) (Cert.RefOutFwdIdeal.main (F := Ideal))) ⟨m', fun _ => 0, g'⟩ (fun r => ∀ c : Dev Cert.RefOutFwdIdeal.nD,
          r.2.mem ((c.tc : Thread Cert.RefOutFwdIdeal.nD Cert.RefOutFwdIdeal.τ).loc Cert.RefOutFwdIdeal.main_v0) = v0 c
          ∧ r.2.mem ((c.tc : Thread Cert.RefOutFwdIdeal.nD Cert.RefOutFwdIdeal.τ).loc Cert.RefOutFwdIdeal.main_v1) = v1 c
          ∧ r.2.mem ((c.tc : Thread Cert.RefOutFwdIdeal.nD Cert.RefOutFwdIdeal.τ).loc Cert.RefOutFwdIdeal.main_arg0) = m' ((c.tc : Thread Cert.RefOutFwdIdeal.nD Cert.RefOutFwdIdeal.τ).loc Cert.RefOutFwdIdeal.main_arg0)
          ∧ r.2.mem ((c.tc : Thread Cert.RefOutFwdIdeal.nD Cert.RefOutFwdIdeal.τ).loc Cert.RefOutFwdIdeal.main_arg1) = m' ((c.tc : Thread Cert.RefOutFwdIdeal.nD Cert.RefOutFwdIdeal.τ).loc Cert.RefOutFwdIdeal.main_arg1))

def preserves_InWgrad_InWgradIdeal : Prop :=
  True

def algebraic_InWgradIdeal_RefInWgradIdeal [hInWgradIdeal : Cert.InWgradIdeal.Facts] [hRefInWgradIdeal : Cert.RefInWgradIdeal.Facts] : Prop :=
  ∀ (m : (ℓ : Loc Cert.InWgradIdeal.nD Cert.InWgradIdeal.τ Cert.InWgradIdeal.sig) → Buf (Elt Ideal) ℓ) (g : Dev Cert.InWgradIdeal.nD → PrngReg)
    (m' : (ℓ : Loc Cert.RefInWgradIdeal.nD Cert.RefInWgradIdeal.τ Cert.RefInWgradIdeal.sig) → Buf (Elt Ideal) ℓ) (g' : Dev Cert.RefInWgradIdeal.nD → PrngReg), Pre_InWgradIdeal m →
    (∀ c : Dev Cert.InWgradIdeal.nD,
      m' ((c.tc : Thread Cert.RefInWgradIdeal.nD Cert.RefInWgradIdeal.τ).loc Cert.RefInWgradIdeal.main_arg0) = m ((c.tc : Thread Cert.InWgradIdeal.nD Cert.InWgradIdeal.τ).loc Cert.InWgradIdeal.main_arg0)
      ∧ m' ((c.tc : Thread Cert.RefInWgradIdeal.nD Cert.RefInWgradIdeal.τ).loc Cert.RefInWgradIdeal.main_arg1) = m ((c.tc : Thread Cert.InWgradIdeal.nD Cert.InWgradIdeal.τ).loc Cert.InWgradIdeal.main_arg1)
      ∧ m' ((c.tc : Thread Cert.RefInWgradIdeal.nD Cert.RefInWgradIdeal.τ).loc Cert.RefInWgradIdeal.main_arg2) = m ((c.tc : Thread Cert.InWgradIdeal.nD Cert.InWgradIdeal.τ).loc Cert.InWgradIdeal.main_arg2)) →
    ∃ (v0 : (c : Dev Cert.InWgradIdeal.nD) → Buf (Elt Ideal) ((c.tc : Thread Cert.InWgradIdeal.nD Cert.InWgradIdeal.τ).loc Cert.InWgradIdeal.main_v1)),
      θ_run (Cert.InWgradIdeal.defs (F := Ideal)) (onTc (τ := Cert.InWgradIdeal.τ) (Cert.InWgradIdeal.main (F := Ideal))) ⟨m, fun _ => 0, g⟩ (fun r => ∀ c : Dev Cert.InWgradIdeal.nD,
          r.2.mem ((c.tc : Thread Cert.InWgradIdeal.nD Cert.InWgradIdeal.τ).loc Cert.InWgradIdeal.main_v1) = v0 c
          ∧ r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
          ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1)
          ∧ r.2.mem ((c.tc : Thread Cert.InWgradIdeal.nD Cert.InWgradIdeal.τ).loc Cert.InWgradIdeal.main_arg2) = m ((c.tc : Thread Cert.InWgradIdeal.nD Cert.InWgradIdeal.τ).loc Cert.InWgradIdeal.main_arg2))
      ∧ θ_run (Cert.RefInWgradIdeal.defs (F := Ideal)) (onTc (τ := Cert.RefInWgradIdeal.τ) (Cert.RefInWgradIdeal.main (F := Ideal))) ⟨m', fun _ => 0, g'⟩ (fun r => ∀ c : Dev Cert.RefInWgradIdeal.nD,
          r.2.mem ((c.tc : Thread Cert.RefInWgradIdeal.nD Cert.RefInWgradIdeal.τ).loc Cert.RefInWgradIdeal.main_v2) = v0 c
          ∧ r.2.mem ((c.tc : Thread Cert.RefInWgradIdeal.nD Cert.RefInWgradIdeal.τ).loc Cert.RefInWgradIdeal.main_arg0) = m' ((c.tc : Thread Cert.RefInWgradIdeal.nD Cert.RefInWgradIdeal.τ).loc Cert.RefInWgradIdeal.main_arg0)
          ∧ r.2.mem ((c.tc : Thread Cert.RefInWgradIdeal.nD Cert.RefInWgradIdeal.τ).loc Cert.RefInWgradIdeal.main_arg1) = m' ((c.tc : Thread Cert.RefInWgradIdeal.nD Cert.RefInWgradIdeal.τ).loc Cert.RefInWgradIdeal.main_arg1)
          ∧ r.2.mem ((c.tc : Thread Cert.RefInWgradIdeal.nD Cert.RefInWgradIdeal.τ).loc Cert.RefInWgradIdeal.main_arg2) = m' ((c.tc : Thread Cert.RefInWgradIdeal.nD Cert.RefInWgradIdeal.τ).loc Cert.RefInWgradIdeal.main_arg2))

def preserves_InDgrad_InDgradIdeal : Prop :=
  True

def algebraic_InDgradIdeal_RefInDgradIdeal [hInDgradIdeal : Cert.InDgradIdeal.Facts] [hRefInDgradIdeal : Cert.RefInDgradIdeal.Facts] : Prop :=
  ∀ (m : (ℓ : Loc Cert.InDgradIdeal.nD Cert.InDgradIdeal.τ Cert.InDgradIdeal.sig) → Buf (Elt Ideal) ℓ) (g : Dev Cert.InDgradIdeal.nD → PrngReg)
    (m' : (ℓ : Loc Cert.RefInDgradIdeal.nD Cert.RefInDgradIdeal.τ Cert.RefInDgradIdeal.sig) → Buf (Elt Ideal) ℓ) (g' : Dev Cert.RefInDgradIdeal.nD → PrngReg), Pre_InDgradIdeal m →
    (∀ c : Dev Cert.InDgradIdeal.nD,
      m' ((c.tc : Thread Cert.RefInDgradIdeal.nD Cert.RefInDgradIdeal.τ).loc Cert.RefInDgradIdeal.main_arg0) = m ((c.tc : Thread Cert.InDgradIdeal.nD Cert.InDgradIdeal.τ).loc Cert.InDgradIdeal.main_arg0)
      ∧ m' ((c.tc : Thread Cert.RefInDgradIdeal.nD Cert.RefInDgradIdeal.τ).loc Cert.RefInDgradIdeal.main_arg1) = m ((c.tc : Thread Cert.InDgradIdeal.nD Cert.InDgradIdeal.τ).loc Cert.InDgradIdeal.main_arg1)
      ∧ m' ((c.tc : Thread Cert.RefInDgradIdeal.nD Cert.RefInDgradIdeal.τ).loc Cert.RefInDgradIdeal.main_arg2) = m ((c.tc : Thread Cert.InDgradIdeal.nD Cert.InDgradIdeal.τ).loc Cert.InDgradIdeal.main_arg2)) →
    ∃ (v0 : (c : Dev Cert.InDgradIdeal.nD) → Buf (Elt Ideal) ((c.tc : Thread Cert.InDgradIdeal.nD Cert.InDgradIdeal.τ).loc Cert.InDgradIdeal.main_v0)),
      θ_run (Cert.InDgradIdeal.defs (F := Ideal)) (onTc (τ := Cert.InDgradIdeal.τ) (Cert.InDgradIdeal.main (F := Ideal))) ⟨m, fun _ => 0, g⟩ (fun r => ∀ c : Dev Cert.InDgradIdeal.nD,
          r.2.mem ((c.tc : Thread Cert.InDgradIdeal.nD Cert.InDgradIdeal.τ).loc Cert.InDgradIdeal.main_v0) = v0 c
          ∧ r.2.mem ((c.tc : Thread Cert.InDgradIdeal.nD Cert.InDgradIdeal.τ).loc Cert.InDgradIdeal.main_arg0) = m ((c.tc : Thread Cert.InDgradIdeal.nD Cert.InDgradIdeal.τ).loc Cert.InDgradIdeal.main_arg0)
          ∧ r.2.mem ((c.tc : Thread Cert.InDgradIdeal.nD Cert.InDgradIdeal.τ).loc Cert.InDgradIdeal.main_arg1) = m ((c.tc : Thread Cert.InDgradIdeal.nD Cert.InDgradIdeal.τ).loc Cert.InDgradIdeal.main_arg1)
          ∧ r.2.mem ((c.tc : Thread Cert.InDgradIdeal.nD Cert.InDgradIdeal.τ).loc Cert.InDgradIdeal.main_arg2) = m ((c.tc : Thread Cert.InDgradIdeal.nD Cert.InDgradIdeal.τ).loc Cert.InDgradIdeal.main_arg2))
      ∧ θ_run (Cert.RefInDgradIdeal.defs (F := Ideal)) (onTc (τ := Cert.RefInDgradIdeal.τ) (Cert.RefInDgradIdeal.main (F := Ideal))) ⟨m', fun _ => 0, g'⟩ (fun r => ∀ c : Dev Cert.RefInDgradIdeal.nD,
          r.2.mem ((c.tc : Thread Cert.RefInDgradIdeal.nD Cert.RefInDgradIdeal.τ).loc Cert.RefInDgradIdeal.main_v3) = v0 c
          ∧ r.2.mem ((c.tc : Thread Cert.RefInDgradIdeal.nD Cert.RefInDgradIdeal.τ).loc Cert.RefInDgradIdeal.main_arg0) = m' ((c.tc : Thread Cert.RefInDgradIdeal.nD Cert.RefInDgradIdeal.τ).loc Cert.RefInDgradIdeal.main_arg0)
          ∧ r.2.mem ((c.tc : Thread Cert.RefInDgradIdeal.nD Cert.RefInDgradIdeal.τ).loc Cert.RefInDgradIdeal.main_arg1) = m' ((c.tc : Thread Cert.RefInDgradIdeal.nD Cert.RefInDgradIdeal.τ).loc Cert.RefInDgradIdeal.main_arg1)
          ∧ r.2.mem ((c.tc : Thread Cert.RefInDgradIdeal.nD Cert.RefInDgradIdeal.τ).loc Cert.RefInDgradIdeal.main_arg2) = m' ((c.tc : Thread Cert.RefInDgradIdeal.nD Cert.RefInDgradIdeal.τ).loc Cert.RefInDgradIdeal.main_arg2))

def preserves_UpWgrad_UpWgradIdeal : Prop :=
  True

def algebraic_UpWgradIdeal_RefUpWgradIdeal [hUpWgradIdeal : Cert.UpWgradIdeal.Facts] [hRefUpWgradIdeal : Cert.RefUpWgradIdeal.Facts] : Prop :=
  ∀ (m : (ℓ : Loc Cert.UpWgradIdeal.nD Cert.UpWgradIdeal.τ Cert.UpWgradIdeal.sig) → Buf (Elt Ideal) ℓ) (g : Dev Cert.UpWgradIdeal.nD → PrngReg)
    (m' : (ℓ : Loc Cert.RefUpWgradIdeal.nD Cert.RefUpWgradIdeal.τ Cert.RefUpWgradIdeal.sig) → Buf (Elt Ideal) ℓ) (g' : Dev Cert.RefUpWgradIdeal.nD → PrngReg), Pre_UpWgradIdeal m →
    (∀ c : Dev Cert.UpWgradIdeal.nD,
      m' ((c.tc : Thread Cert.RefUpWgradIdeal.nD Cert.RefUpWgradIdeal.τ).loc Cert.RefUpWgradIdeal.main_arg0) = m ((c.tc : Thread Cert.UpWgradIdeal.nD Cert.UpWgradIdeal.τ).loc Cert.UpWgradIdeal.main_arg0)
      ∧ m' ((c.tc : Thread Cert.RefUpWgradIdeal.nD Cert.RefUpWgradIdeal.τ).loc Cert.RefUpWgradIdeal.main_arg1) = m ((c.tc : Thread Cert.UpWgradIdeal.nD Cert.UpWgradIdeal.τ).loc Cert.UpWgradIdeal.main_arg1)
      ∧ m' ((c.tc : Thread Cert.RefUpWgradIdeal.nD Cert.RefUpWgradIdeal.τ).loc Cert.RefUpWgradIdeal.main_arg2) = m ((c.tc : Thread Cert.UpWgradIdeal.nD Cert.UpWgradIdeal.τ).loc Cert.UpWgradIdeal.main_arg2)) →
    ∃ (v0 : (c : Dev Cert.UpWgradIdeal.nD) → Buf (Elt Ideal) ((c.tc : Thread Cert.UpWgradIdeal.nD Cert.UpWgradIdeal.τ).loc Cert.UpWgradIdeal.main_v1)),
      θ_run (Cert.UpWgradIdeal.defs (F := Ideal)) (onTc (τ := Cert.UpWgradIdeal.τ) (Cert.UpWgradIdeal.main (F := Ideal))) ⟨m, fun _ => 0, g⟩ (fun r => ∀ c : Dev Cert.UpWgradIdeal.nD,
          r.2.mem ((c.tc : Thread Cert.UpWgradIdeal.nD Cert.UpWgradIdeal.τ).loc Cert.UpWgradIdeal.main_v1) = v0 c
          ∧ r.2.mem ((c.tc : Thread Cert.UpWgradIdeal.nD Cert.UpWgradIdeal.τ).loc Cert.UpWgradIdeal.main_arg0) = m ((c.tc : Thread Cert.UpWgradIdeal.nD Cert.UpWgradIdeal.τ).loc Cert.UpWgradIdeal.main_arg0)
          ∧ r.2.mem ((c.tc : Thread Cert.UpWgradIdeal.nD Cert.UpWgradIdeal.τ).loc Cert.UpWgradIdeal.main_arg1) = m ((c.tc : Thread Cert.UpWgradIdeal.nD Cert.UpWgradIdeal.τ).loc Cert.UpWgradIdeal.main_arg1)
          ∧ r.2.mem ((c.tc : Thread Cert.UpWgradIdeal.nD Cert.UpWgradIdeal.τ).loc Cert.UpWgradIdeal.main_arg2) = m ((c.tc : Thread Cert.UpWgradIdeal.nD Cert.UpWgradIdeal.τ).loc Cert.UpWgradIdeal.main_arg2))
      ∧ θ_run (Cert.RefUpWgradIdeal.defs (F := Ideal)) (onTc (τ := Cert.RefUpWgradIdeal.τ) (Cert.RefUpWgradIdeal.main (F := Ideal))) ⟨m', fun _ => 0, g'⟩ (fun r => ∀ c : Dev Cert.RefUpWgradIdeal.nD,
          r.2.mem ((c.tc : Thread Cert.RefUpWgradIdeal.nD Cert.RefUpWgradIdeal.τ).loc Cert.RefUpWgradIdeal.main_v2) = v0 c
          ∧ r.2.mem ((c.tc : Thread Cert.RefUpWgradIdeal.nD Cert.RefUpWgradIdeal.τ).loc Cert.RefUpWgradIdeal.main_arg0) = m' ((c.tc : Thread Cert.RefUpWgradIdeal.nD Cert.RefUpWgradIdeal.τ).loc Cert.RefUpWgradIdeal.main_arg0)
          ∧ r.2.mem ((c.tc : Thread Cert.RefUpWgradIdeal.nD Cert.RefUpWgradIdeal.τ).loc Cert.RefUpWgradIdeal.main_arg1) = m' ((c.tc : Thread Cert.RefUpWgradIdeal.nD Cert.RefUpWgradIdeal.τ).loc Cert.RefUpWgradIdeal.main_arg1)
          ∧ r.2.mem ((c.tc : Thread Cert.RefUpWgradIdeal.nD Cert.RefUpWgradIdeal.τ).loc Cert.RefUpWgradIdeal.main_arg2) = m' ((c.tc : Thread Cert.RefUpWgradIdeal.nD Cert.RefUpWgradIdeal.τ).loc Cert.RefUpWgradIdeal.main_arg2))

def preserves_UpDgrad_UpDgradIdeal : Prop :=
  True

def algebraic_UpDgradIdeal_RefUpDgradIdeal [hUpDgradIdeal : Cert.UpDgradIdeal.Facts] [hRefUpDgradIdeal : Cert.RefUpDgradIdeal.Facts] : Prop :=
  ∀ (m : (ℓ : Loc Cert.UpDgradIdeal.nD Cert.UpDgradIdeal.τ Cert.UpDgradIdeal.sig) → Buf (Elt Ideal) ℓ) (g : Dev Cert.UpDgradIdeal.nD → PrngReg)
    (m' : (ℓ : Loc Cert.RefUpDgradIdeal.nD Cert.RefUpDgradIdeal.τ Cert.RefUpDgradIdeal.sig) → Buf (Elt Ideal) ℓ) (g' : Dev Cert.RefUpDgradIdeal.nD → PrngReg), Pre_UpDgradIdeal m →
    (∀ c : Dev Cert.UpDgradIdeal.nD,
      m' ((c.tc : Thread Cert.RefUpDgradIdeal.nD Cert.RefUpDgradIdeal.τ).loc Cert.RefUpDgradIdeal.main_arg0) = m ((c.tc : Thread Cert.UpDgradIdeal.nD Cert.UpDgradIdeal.τ).loc Cert.UpDgradIdeal.main_arg0)
      ∧ m' ((c.tc : Thread Cert.RefUpDgradIdeal.nD Cert.RefUpDgradIdeal.τ).loc Cert.RefUpDgradIdeal.main_arg1) = m ((c.tc : Thread Cert.UpDgradIdeal.nD Cert.UpDgradIdeal.τ).loc Cert.UpDgradIdeal.main_arg1)
      ∧ m' ((c.tc : Thread Cert.RefUpDgradIdeal.nD Cert.RefUpDgradIdeal.τ).loc Cert.RefUpDgradIdeal.main_arg2) = m ((c.tc : Thread Cert.UpDgradIdeal.nD Cert.UpDgradIdeal.τ).loc Cert.UpDgradIdeal.main_arg2)) →
    ∃ (v0 : (c : Dev Cert.UpDgradIdeal.nD) → Buf (Elt Ideal) ((c.tc : Thread Cert.UpDgradIdeal.nD Cert.UpDgradIdeal.τ).loc Cert.UpDgradIdeal.main_v0)),
      θ_run (Cert.UpDgradIdeal.defs (F := Ideal)) (onTc (τ := Cert.UpDgradIdeal.τ) (Cert.UpDgradIdeal.main (F := Ideal))) ⟨m, fun _ => 0, g⟩ (fun r => ∀ c : Dev Cert.UpDgradIdeal.nD,
          r.2.mem ((c.tc : Thread Cert.UpDgradIdeal.nD Cert.UpDgradIdeal.τ).loc Cert.UpDgradIdeal.main_v0) = v0 c
          ∧ r.2.mem ((c.tc : Thread Cert.UpDgradIdeal.nD Cert.UpDgradIdeal.τ).loc Cert.UpDgradIdeal.main_arg0) = m ((c.tc : Thread Cert.UpDgradIdeal.nD Cert.UpDgradIdeal.τ).loc Cert.UpDgradIdeal.main_arg0)
          ∧ r.2.mem ((c.tc : Thread Cert.UpDgradIdeal.nD Cert.UpDgradIdeal.τ).loc Cert.UpDgradIdeal.main_arg1) = m ((c.tc : Thread Cert.UpDgradIdeal.nD Cert.UpDgradIdeal.τ).loc Cert.UpDgradIdeal.main_arg1)
          ∧ r.2.mem ((c.tc : Thread Cert.UpDgradIdeal.nD Cert.UpDgradIdeal.τ).loc Cert.UpDgradIdeal.main_arg2) = m ((c.tc : Thread Cert.UpDgradIdeal.nD Cert.UpDgradIdeal.τ).loc Cert.UpDgradIdeal.main_arg2))
      ∧ θ_run (Cert.RefUpDgradIdeal.defs (F := Ideal)) (onTc (τ := Cert.RefUpDgradIdeal.τ) (Cert.RefUpDgradIdeal.main (F := Ideal))) ⟨m', fun _ => 0, g'⟩ (fun r => ∀ c : Dev Cert.RefUpDgradIdeal.nD,
          r.2.mem ((c.tc : Thread Cert.RefUpDgradIdeal.nD Cert.RefUpDgradIdeal.τ).loc Cert.RefUpDgradIdeal.main_v3) = v0 c
          ∧ r.2.mem ((c.tc : Thread Cert.RefUpDgradIdeal.nD Cert.RefUpDgradIdeal.τ).loc Cert.RefUpDgradIdeal.main_arg0) = m' ((c.tc : Thread Cert.RefUpDgradIdeal.nD Cert.RefUpDgradIdeal.τ).loc Cert.RefUpDgradIdeal.main_arg0)
          ∧ r.2.mem ((c.tc : Thread Cert.RefUpDgradIdeal.nD Cert.RefUpDgradIdeal.τ).loc Cert.RefUpDgradIdeal.main_arg1) = m' ((c.tc : Thread Cert.RefUpDgradIdeal.nD Cert.RefUpDgradIdeal.τ).loc Cert.RefUpDgradIdeal.main_arg1)
          ∧ r.2.mem ((c.tc : Thread Cert.RefUpDgradIdeal.nD Cert.RefUpDgradIdeal.τ).loc Cert.RefUpDgradIdeal.main_arg2) = m' ((c.tc : Thread Cert.RefUpDgradIdeal.nD Cert.RefUpDgradIdeal.τ).loc Cert.RefUpDgradIdeal.main_arg2))

def preserves_DownWgrad_DownWgradIdeal : Prop :=
  True

def algebraic_DownWgradIdeal_RefDownWgradIdeal [hDownWgradIdeal : Cert.DownWgradIdeal.Facts] [hRefDownWgradIdeal : Cert.RefDownWgradIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg)
    (m' : (ℓ : Loc Cert.RefDownWgradIdeal.nD Cert.RefDownWgradIdeal.τ Cert.RefDownWgradIdeal.sig) → Buf (Elt Ideal) ℓ) (g' : Dev Cert.RefDownWgradIdeal.nD → PrngReg), Pre_DownWgradIdeal m →
    (∀ c : Dev Cert.DownWgradIdeal.nD,
      m' ((c.tc : Thread Cert.RefDownWgradIdeal.nD Cert.RefDownWgradIdeal.τ).loc Cert.RefDownWgradIdeal.main_arg0) = m ((c.tc : Thread Cert.DownWgradIdeal.nD Cert.DownWgradIdeal.τ).loc Cert.DownWgradIdeal.main_arg0)
      ∧ m' ((c.tc : Thread Cert.RefDownWgradIdeal.nD Cert.RefDownWgradIdeal.τ).loc Cert.RefDownWgradIdeal.main_arg1) = m ((c.tc : Thread Cert.DownWgradIdeal.nD Cert.DownWgradIdeal.τ).loc Cert.DownWgradIdeal.main_arg1)
      ∧ m' ((c.tc : Thread Cert.RefDownWgradIdeal.nD Cert.RefDownWgradIdeal.τ).loc Cert.RefDownWgradIdeal.main_arg2) = m ((c.tc : Thread Cert.DownWgradIdeal.nD Cert.DownWgradIdeal.τ).loc Cert.DownWgradIdeal.main_arg2)) →
    ∃ (v0 : (c : Dev Cert.DownWgradIdeal.nD) → Buf (Elt Ideal) ((c.tc : Thread Cert.DownWgradIdeal.nD Cert.DownWgradIdeal.τ).loc Cert.DownWgradIdeal.main_v1)),
      θ_run (Cert.DownWgradIdeal.defs (F := Ideal)) (onTc (τ := Cert.DownWgradIdeal.τ) (Cert.DownWgradIdeal.main (F := Ideal))) ⟨m, fun _ => 0, g⟩ (fun r => ∀ c : Dev Cert.DownWgradIdeal.nD,
          r.2.mem ((c.tc : Thread Cert.DownWgradIdeal.nD Cert.DownWgradIdeal.τ).loc Cert.DownWgradIdeal.main_v1) = v0 c
          ∧ r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
          ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1)
          ∧ r.2.mem ((c.tc : Thread Cert.DownWgradIdeal.nD Cert.DownWgradIdeal.τ).loc Cert.DownWgradIdeal.main_arg2) = m ((c.tc : Thread Cert.DownWgradIdeal.nD Cert.DownWgradIdeal.τ).loc Cert.DownWgradIdeal.main_arg2))
      ∧ θ_run (Cert.RefDownWgradIdeal.defs (F := Ideal)) (onTc (τ := Cert.RefDownWgradIdeal.τ) (Cert.RefDownWgradIdeal.main (F := Ideal))) ⟨m', fun _ => 0, g'⟩ (fun r => ∀ c : Dev Cert.RefDownWgradIdeal.nD,
          r.2.mem ((c.tc : Thread Cert.RefDownWgradIdeal.nD Cert.RefDownWgradIdeal.τ).loc Cert.RefDownWgradIdeal.main_v2) = v0 c
          ∧ r.2.mem ((c.tc : Thread Cert.RefDownWgradIdeal.nD Cert.RefDownWgradIdeal.τ).loc Cert.RefDownWgradIdeal.main_arg0) = m' ((c.tc : Thread Cert.RefDownWgradIdeal.nD Cert.RefDownWgradIdeal.τ).loc Cert.RefDownWgradIdeal.main_arg0)
          ∧ r.2.mem ((c.tc : Thread Cert.RefDownWgradIdeal.nD Cert.RefDownWgradIdeal.τ).loc Cert.RefDownWgradIdeal.main_arg1) = m' ((c.tc : Thread Cert.RefDownWgradIdeal.nD Cert.RefDownWgradIdeal.τ).loc Cert.RefDownWgradIdeal.main_arg1)
          ∧ r.2.mem ((c.tc : Thread Cert.RefDownWgradIdeal.nD Cert.RefDownWgradIdeal.τ).loc Cert.RefDownWgradIdeal.main_arg2) = m' ((c.tc : Thread Cert.RefDownWgradIdeal.nD Cert.RefDownWgradIdeal.τ).loc Cert.RefDownWgradIdeal.main_arg2))

def preserves_DownDgrad_DownDgradIdeal : Prop :=
  True

def algebraic_DownDgradIdeal_RefDownDgradIdeal [hDownDgradIdeal : Cert.DownDgradIdeal.Facts] [hRefDownDgradIdeal : Cert.RefDownDgradIdeal.Facts] : Prop :=
  ∀ (m : (ℓ : Loc Cert.DownDgradIdeal.nD Cert.DownDgradIdeal.τ Cert.DownDgradIdeal.sig) → Buf (Elt Ideal) ℓ) (g : Dev Cert.DownDgradIdeal.nD → PrngReg)
    (m' : (ℓ : Loc Cert.RefDownDgradIdeal.nD Cert.RefDownDgradIdeal.τ Cert.RefDownDgradIdeal.sig) → Buf (Elt Ideal) ℓ) (g' : Dev Cert.RefDownDgradIdeal.nD → PrngReg), Pre_DownDgradIdeal m →
    (∀ c : Dev Cert.DownDgradIdeal.nD,
      m' ((c.tc : Thread Cert.RefDownDgradIdeal.nD Cert.RefDownDgradIdeal.τ).loc Cert.RefDownDgradIdeal.main_arg0) = m ((c.tc : Thread Cert.DownDgradIdeal.nD Cert.DownDgradIdeal.τ).loc Cert.DownDgradIdeal.main_arg0)
      ∧ m' ((c.tc : Thread Cert.RefDownDgradIdeal.nD Cert.RefDownDgradIdeal.τ).loc Cert.RefDownDgradIdeal.main_arg1) = m ((c.tc : Thread Cert.DownDgradIdeal.nD Cert.DownDgradIdeal.τ).loc Cert.DownDgradIdeal.main_arg1)
      ∧ m' ((c.tc : Thread Cert.RefDownDgradIdeal.nD Cert.RefDownDgradIdeal.τ).loc Cert.RefDownDgradIdeal.main_arg2) = m ((c.tc : Thread Cert.DownDgradIdeal.nD Cert.DownDgradIdeal.τ).loc Cert.DownDgradIdeal.main_arg2)) →
    ∃ (v0 : (c : Dev Cert.DownDgradIdeal.nD) → Buf (Elt Ideal) ((c.tc : Thread Cert.DownDgradIdeal.nD Cert.DownDgradIdeal.τ).loc Cert.DownDgradIdeal.main_v0)),
      θ_run (Cert.DownDgradIdeal.defs (F := Ideal)) (onTc (τ := Cert.DownDgradIdeal.τ) (Cert.DownDgradIdeal.main (F := Ideal))) ⟨m, fun _ => 0, g⟩ (fun r => ∀ c : Dev Cert.DownDgradIdeal.nD,
          r.2.mem ((c.tc : Thread Cert.DownDgradIdeal.nD Cert.DownDgradIdeal.τ).loc Cert.DownDgradIdeal.main_v0) = v0 c
          ∧ r.2.mem ((c.tc : Thread Cert.DownDgradIdeal.nD Cert.DownDgradIdeal.τ).loc Cert.DownDgradIdeal.main_arg0) = m ((c.tc : Thread Cert.DownDgradIdeal.nD Cert.DownDgradIdeal.τ).loc Cert.DownDgradIdeal.main_arg0)
          ∧ r.2.mem ((c.tc : Thread Cert.DownDgradIdeal.nD Cert.DownDgradIdeal.τ).loc Cert.DownDgradIdeal.main_arg1) = m ((c.tc : Thread Cert.DownDgradIdeal.nD Cert.DownDgradIdeal.τ).loc Cert.DownDgradIdeal.main_arg1)
          ∧ r.2.mem ((c.tc : Thread Cert.DownDgradIdeal.nD Cert.DownDgradIdeal.τ).loc Cert.DownDgradIdeal.main_arg2) = m ((c.tc : Thread Cert.DownDgradIdeal.nD Cert.DownDgradIdeal.τ).loc Cert.DownDgradIdeal.main_arg2))
      ∧ θ_run (Cert.RefDownDgradIdeal.defs (F := Ideal)) (onTc (τ := Cert.RefDownDgradIdeal.τ) (Cert.RefDownDgradIdeal.main (F := Ideal))) ⟨m', fun _ => 0, g'⟩ (fun r => ∀ c : Dev Cert.RefDownDgradIdeal.nD,
          r.2.mem ((c.tc : Thread Cert.RefDownDgradIdeal.nD Cert.RefDownDgradIdeal.τ).loc Cert.RefDownDgradIdeal.main_v3) = v0 c
          ∧ r.2.mem ((c.tc : Thread Cert.RefDownDgradIdeal.nD Cert.RefDownDgradIdeal.τ).loc Cert.RefDownDgradIdeal.main_arg0) = m' ((c.tc : Thread Cert.RefDownDgradIdeal.nD Cert.RefDownDgradIdeal.τ).loc Cert.RefDownDgradIdeal.main_arg0)
          ∧ r.2.mem ((c.tc : Thread Cert.RefDownDgradIdeal.nD Cert.RefDownDgradIdeal.τ).loc Cert.RefDownDgradIdeal.main_arg1) = m' ((c.tc : Thread Cert.RefDownDgradIdeal.nD Cert.RefDownDgradIdeal.τ).loc Cert.RefDownDgradIdeal.main_arg1)
          ∧ r.2.mem ((c.tc : Thread Cert.RefDownDgradIdeal.nD Cert.RefDownDgradIdeal.τ).loc Cert.RefDownDgradIdeal.main_arg2) = m' ((c.tc : Thread Cert.RefDownDgradIdeal.nD Cert.RefDownDgradIdeal.τ).loc Cert.RefDownDgradIdeal.main_arg2))

def preserves_DownFwd_DownFwdIdeal : Prop :=
  True

def algebraic_DownFwdIdeal_RefDownFwdIdeal [hDownFwdIdeal : Cert.DownFwdIdeal.Facts] [hRefDownFwdIdeal : Cert.RefDownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.RefDownFwdIdeal.nD Cert.RefDownFwdIdeal.τ Cert.RefDownFwdIdeal.sig) → Buf (Elt Ideal) ℓ) (g' : Dev Cert.RefDownFwdIdeal.nD → PrngReg), Pre_DownFwdIdeal m →
    (∀ c : Dev Cert.DownFwdIdeal.nD,
      m' ((c.tc : Thread Cert.RefDownFwdIdeal.nD Cert.RefDownFwdIdeal.τ).loc Cert.RefDownFwdIdeal.main_arg0) = m ((c.tc : Thread Cert.DownFwdIdeal.nD Cert.DownFwdIdeal.τ).loc Cert.DownFwdIdeal.main_arg0)
      ∧ m' ((c.tc : Thread Cert.RefDownFwdIdeal.nD Cert.RefDownFwdIdeal.τ).loc Cert.RefDownFwdIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.RefDownFwdIdeal.defs (F := Ideal)) (onTc (τ := Cert.RefDownFwdIdeal.τ) (Cert.RefDownFwdIdeal.main (F := Ideal))) ⟨m', fun _ => 0, g'⟩ (fun r => ∀ c : Dev Cert.RefDownFwdIdeal.nD,
          r.2.mem ((c.tc : Thread Cert.RefDownFwdIdeal.nD Cert.RefDownFwdIdeal.τ).loc Cert.RefDownFwdIdeal.main_v0) = v0 c
          ∧ r.2.mem ((c.tc : Thread Cert.RefDownFwdIdeal.nD Cert.RefDownFwdIdeal.τ).loc Cert.RefDownFwdIdeal.main_arg0) = m' ((c.tc : Thread Cert.RefDownFwdIdeal.nD Cert.RefDownFwdIdeal.τ).loc Cert.RefDownFwdIdeal.main_arg0)
          ∧ r.2.mem ((c.tc : Thread Cert.RefDownFwdIdeal.nD Cert.RefDownFwdIdeal.τ).loc Cert.RefDownFwdIdeal.main_arg1) = m' ((c.tc : Thread Cert.RefDownFwdIdeal.nD Cert.RefDownFwdIdeal.τ).loc Cert.RefDownFwdIdeal.main_arg1))

def preserves_BranchWgrad_BranchWgradIdeal : Prop :=
  True

def algebraic_BranchWgradIdeal_RefBranchWgradIdeal [hBranchWgradIdeal : Cert.BranchWgradIdeal.Facts] [hRefBranchWgradIdeal : Cert.RefBranchWgradIdeal.Facts] : Prop :=
  ∀ (m : (ℓ : Loc Cert.BranchWgradIdeal.nD Cert.BranchWgradIdeal.τ Cert.BranchWgradIdeal.sig) → Buf (Elt Ideal) ℓ) (g : Dev Cert.BranchWgradIdeal.nD → PrngReg)
    (m' : (ℓ : Loc Cert.RefBranchWgradIdeal.nD Cert.RefBranchWgradIdeal.τ Cert.RefBranchWgradIdeal.sig) → Buf (Elt Ideal) ℓ) (g' : Dev Cert.RefBranchWgradIdeal.nD → PrngReg), Pre_BranchWgradIdeal m →
    (∀ c : Dev Cert.BranchWgradIdeal.nD,
      m' ((c.tc : Thread Cert.RefBranchWgradIdeal.nD Cert.RefBranchWgradIdeal.τ).loc Cert.RefBranchWgradIdeal.main_arg0) = m ((c.tc : Thread Cert.BranchWgradIdeal.nD Cert.BranchWgradIdeal.τ).loc Cert.BranchWgradIdeal.main_arg0)
      ∧ m' ((c.tc : Thread Cert.RefBranchWgradIdeal.nD Cert.RefBranchWgradIdeal.τ).loc Cert.RefBranchWgradIdeal.main_arg1) = m ((c.tc : Thread Cert.BranchWgradIdeal.nD Cert.BranchWgradIdeal.τ).loc Cert.BranchWgradIdeal.main_arg1)
      ∧ m' ((c.tc : Thread Cert.RefBranchWgradIdeal.nD Cert.RefBranchWgradIdeal.τ).loc Cert.RefBranchWgradIdeal.main_arg2) = m ((c.tc : Thread Cert.BranchWgradIdeal.nD Cert.BranchWgradIdeal.τ).loc Cert.BranchWgradIdeal.main_arg2)) →
    ∃ (v0 : (c : Dev Cert.BranchWgradIdeal.nD) → Buf (Elt Ideal) ((c.tc : Thread Cert.BranchWgradIdeal.nD Cert.BranchWgradIdeal.τ).loc Cert.BranchWgradIdeal.main_v1)),
      θ_run (Cert.BranchWgradIdeal.defs (F := Ideal)) (onTc (τ := Cert.BranchWgradIdeal.τ) (Cert.BranchWgradIdeal.main (F := Ideal))) ⟨m, fun _ => 0, g⟩ (fun r => ∀ c : Dev Cert.BranchWgradIdeal.nD,
          r.2.mem ((c.tc : Thread Cert.BranchWgradIdeal.nD Cert.BranchWgradIdeal.τ).loc Cert.BranchWgradIdeal.main_v1) = v0 c
          ∧ r.2.mem ((c.tc : Thread Cert.BranchWgradIdeal.nD Cert.BranchWgradIdeal.τ).loc Cert.BranchWgradIdeal.main_arg0) = m ((c.tc : Thread Cert.BranchWgradIdeal.nD Cert.BranchWgradIdeal.τ).loc Cert.BranchWgradIdeal.main_arg0)
          ∧ r.2.mem ((c.tc : Thread Cert.BranchWgradIdeal.nD Cert.BranchWgradIdeal.τ).loc Cert.BranchWgradIdeal.main_arg1) = m ((c.tc : Thread Cert.BranchWgradIdeal.nD Cert.BranchWgradIdeal.τ).loc Cert.BranchWgradIdeal.main_arg1)
          ∧ r.2.mem ((c.tc : Thread Cert.BranchWgradIdeal.nD Cert.BranchWgradIdeal.τ).loc Cert.BranchWgradIdeal.main_arg2) = m ((c.tc : Thread Cert.BranchWgradIdeal.nD Cert.BranchWgradIdeal.τ).loc Cert.BranchWgradIdeal.main_arg2))
      ∧ θ_run (Cert.RefBranchWgradIdeal.defs (F := Ideal)) (onTc (τ := Cert.RefBranchWgradIdeal.τ) (Cert.RefBranchWgradIdeal.main (F := Ideal))) ⟨m', fun _ => 0, g'⟩ (fun r => ∀ c : Dev Cert.RefBranchWgradIdeal.nD,
          r.2.mem ((c.tc : Thread Cert.RefBranchWgradIdeal.nD Cert.RefBranchWgradIdeal.τ).loc Cert.RefBranchWgradIdeal.main_v2) = v0 c
          ∧ r.2.mem ((c.tc : Thread Cert.RefBranchWgradIdeal.nD Cert.RefBranchWgradIdeal.τ).loc Cert.RefBranchWgradIdeal.main_arg0) = m' ((c.tc : Thread Cert.RefBranchWgradIdeal.nD Cert.RefBranchWgradIdeal.τ).loc Cert.RefBranchWgradIdeal.main_arg0)
          ∧ r.2.mem ((c.tc : Thread Cert.RefBranchWgradIdeal.nD Cert.RefBranchWgradIdeal.τ).loc Cert.RefBranchWgradIdeal.main_arg1) = m' ((c.tc : Thread Cert.RefBranchWgradIdeal.nD Cert.RefBranchWgradIdeal.τ).loc Cert.RefBranchWgradIdeal.main_arg1)
          ∧ r.2.mem ((c.tc : Thread Cert.RefBranchWgradIdeal.nD Cert.RefBranchWgradIdeal.τ).loc Cert.RefBranchWgradIdeal.main_arg2) = m' ((c.tc : Thread Cert.RefBranchWgradIdeal.nD Cert.RefBranchWgradIdeal.τ).loc Cert.RefBranchWgradIdeal.main_arg2))

def preserves_BranchDgrad_BranchDgradIdeal : Prop :=
  True

def algebraic_BranchDgradIdeal_RefBranchDgradIdeal [hBranchDgradIdeal : Cert.BranchDgradIdeal.Facts] [hRefBranchDgradIdeal : Cert.RefBranchDgradIdeal.Facts] : Prop :=
  ∀ (m : (ℓ : Loc Cert.BranchDgradIdeal.nD Cert.BranchDgradIdeal.τ Cert.BranchDgradIdeal.sig) → Buf (Elt Ideal) ℓ) (g : Dev Cert.BranchDgradIdeal.nD → PrngReg)
    (m' : (ℓ : Loc Cert.RefBranchDgradIdeal.nD Cert.RefBranchDgradIdeal.τ Cert.RefBranchDgradIdeal.sig) → Buf (Elt Ideal) ℓ) (g' : Dev Cert.RefBranchDgradIdeal.nD → PrngReg), Pre_BranchDgradIdeal m →
    (∀ c : Dev Cert.BranchDgradIdeal.nD,
      m' ((c.tc : Thread Cert.RefBranchDgradIdeal.nD Cert.RefBranchDgradIdeal.τ).loc Cert.RefBranchDgradIdeal.main_arg0) = m ((c.tc : Thread Cert.BranchDgradIdeal.nD Cert.BranchDgradIdeal.τ).loc Cert.BranchDgradIdeal.main_arg0)
      ∧ m' ((c.tc : Thread Cert.RefBranchDgradIdeal.nD Cert.RefBranchDgradIdeal.τ).loc Cert.RefBranchDgradIdeal.main_arg1) = m ((c.tc : Thread Cert.BranchDgradIdeal.nD Cert.BranchDgradIdeal.τ).loc Cert.BranchDgradIdeal.main_arg1)
      ∧ m' ((c.tc : Thread Cert.RefBranchDgradIdeal.nD Cert.RefBranchDgradIdeal.τ).loc Cert.RefBranchDgradIdeal.main_arg2) = m ((c.tc : Thread Cert.BranchDgradIdeal.nD Cert.BranchDgradIdeal.τ).loc Cert.BranchDgradIdeal.main_arg2)) →
    ∃ (v0 : (c : Dev Cert.BranchDgradIdeal.nD) → Buf (Elt Ideal) ((c.tc : Thread Cert.BranchDgradIdeal.nD Cert.BranchDgradIdeal.τ).loc Cert.BranchDgradIdeal.main_v0)),
      θ_run (Cert.BranchDgradIdeal.defs (F := Ideal)) (onTc (τ := Cert.BranchDgradIdeal.τ) (Cert.BranchDgradIdeal.main (F := Ideal))) ⟨m, fun _ => 0, g⟩ (fun r => ∀ c : Dev Cert.BranchDgradIdeal.nD,
          r.2.mem ((c.tc : Thread Cert.BranchDgradIdeal.nD Cert.BranchDgradIdeal.τ).loc Cert.BranchDgradIdeal.main_v0) = v0 c
          ∧ r.2.mem ((c.tc : Thread Cert.BranchDgradIdeal.nD Cert.BranchDgradIdeal.τ).loc Cert.BranchDgradIdeal.main_arg0) = m ((c.tc : Thread Cert.BranchDgradIdeal.nD Cert.BranchDgradIdeal.τ).loc Cert.BranchDgradIdeal.main_arg0)
          ∧ r.2.mem ((c.tc : Thread Cert.BranchDgradIdeal.nD Cert.BranchDgradIdeal.τ).loc Cert.BranchDgradIdeal.main_arg1) = m ((c.tc : Thread Cert.BranchDgradIdeal.nD Cert.BranchDgradIdeal.τ).loc Cert.BranchDgradIdeal.main_arg1)
          ∧ r.2.mem ((c.tc : Thread Cert.BranchDgradIdeal.nD Cert.BranchDgradIdeal.τ).loc Cert.BranchDgradIdeal.main_arg2) = m ((c.tc : Thread Cert.BranchDgradIdeal.nD Cert.BranchDgradIdeal.τ).loc Cert.BranchDgradIdeal.main_arg2))
      ∧ θ_run (Cert.RefBranchDgradIdeal.defs (F := Ideal)) (onTc (τ := Cert.RefBranchDgradIdeal.τ) (Cert.RefBranchDgradIdeal.main (F := Ideal))) ⟨m', fun _ => 0, g'⟩ (fun r => ∀ c : Dev Cert.RefBranchDgradIdeal.nD,
          r.2.mem ((c.tc : Thread Cert.RefBranchDgradIdeal.nD Cert.RefBranchDgradIdeal.τ).loc Cert.RefBranchDgradIdeal.main_v3) = v0 c
          ∧ r.2.mem ((c.tc : Thread Cert.RefBranchDgradIdeal.nD Cert.RefBranchDgradIdeal.τ).loc Cert.RefBranchDgradIdeal.main_arg0) = m' ((c.tc : Thread Cert.RefBranchDgradIdeal.nD Cert.RefBranchDgradIdeal.τ).loc Cert.RefBranchDgradIdeal.main_arg0)
          ∧ r.2.mem ((c.tc : Thread Cert.RefBranchDgradIdeal.nD Cert.RefBranchDgradIdeal.τ).loc Cert.RefBranchDgradIdeal.main_arg1) = m' ((c.tc : Thread Cert.RefBranchDgradIdeal.nD Cert.RefBranchDgradIdeal.τ).loc Cert.RefBranchDgradIdeal.main_arg1)
          ∧ r.2.mem ((c.tc : Thread Cert.RefBranchDgradIdeal.nD Cert.RefBranchDgradIdeal.τ).loc Cert.RefBranchDgradIdeal.main_arg2) = m' ((c.tc : Thread Cert.RefBranchDgradIdeal.nD Cert.RefBranchDgradIdeal.τ).loc Cert.RefBranchDgradIdeal.main_arg2))

def preserves_OutWgrad_OutWgradIdeal : Prop :=
  True

def algebraic_OutWgradIdeal_RefOutWgradIdeal [hOutWgradIdeal : Cert.OutWgradIdeal.Facts] [hRefOutWgradIdeal : Cert.RefOutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.RefOutWgradIdeal.nD Cert.RefOutWgradIdeal.τ Cert.RefOutWgradIdeal.sig) → Buf (Elt Ideal) ℓ) (g' : Dev Cert.RefOutWgradIdeal.nD → PrngReg), Pre_OutWgradIdeal m →
    (∀ c : Dev Cert.OutWgradIdeal.nD,
      m' ((c.tc : Thread Cert.RefOutWgradIdeal.nD Cert.RefOutWgradIdeal.τ).loc Cert.RefOutWgradIdeal.main_arg0) = m ((c.tc : Thread Cert.OutWgradIdeal.nD Cert.OutWgradIdeal.τ).loc Cert.OutWgradIdeal.main_arg0)
      ∧ m' ((c.tc : Thread Cert.RefOutWgradIdeal.nD Cert.RefOutWgradIdeal.τ).loc Cert.RefOutWgradIdeal.main_arg1) = m ((c.tc : Thread Cert.OutWgradIdeal.nD Cert.OutWgradIdeal.τ).loc Cert.OutWgradIdeal.main_arg1)
      ∧ m' ((c.tc : Thread Cert.RefOutWgradIdeal.nD Cert.RefOutWgradIdeal.τ).loc Cert.RefOutWgradIdeal.main_arg2) = m ((c.tc : Thread Cert.OutWgradIdeal.nD Cert.OutWgradIdeal.τ).loc Cert.OutWgradIdeal.main_arg2)) →
    ∃ (v0 : (c : Dev Cert.OutWgradIdeal.nD) → Buf (Elt Ideal) ((c.tc : Thread Cert.OutWgradIdeal.nD Cert.OutWgradIdeal.τ).loc Cert.OutWgradIdeal.main_v1)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v1) = v0 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1)
          ∧ r.2.mem ((c.tc : Thread Cert.OutWgradIdeal.nD Cert.OutWgradIdeal.τ).loc Cert.OutWgradIdeal.main_arg2) = m ((c.tc : Thread Cert.OutWgradIdeal.nD Cert.OutWgradIdeal.τ).loc Cert.OutWgradIdeal.main_arg2))
      ∧ θ_run (Cert.RefOutWgradIdeal.defs (F := Ideal)) (onTc (τ := Cert.RefOutWgradIdeal.τ) (Cert.RefOutWgradIdeal.main (F := Ideal))) ⟨m', fun _ => 0, g'⟩ (fun r => ∀ c : Dev Cert.RefOutWgradIdeal.nD,
          r.2.mem ((c.tc : Thread Cert.RefOutWgradIdeal.nD Cert.RefOutWgradIdeal.τ).loc Cert.RefOutWgradIdeal.main_v2) = v0 c
          ∧ r.2.mem ((c.tc : Thread Cert.RefOutWgradIdeal.nD Cert.RefOutWgradIdeal.τ).loc Cert.RefOutWgradIdeal.main_arg0) = m' ((c.tc : Thread Cert.RefOutWgradIdeal.nD Cert.RefOutWgradIdeal.τ).loc Cert.RefOutWgradIdeal.main_arg0)
          ∧ r.2.mem ((c.tc : Thread Cert.RefOutWgradIdeal.nD Cert.RefOutWgradIdeal.τ).loc Cert.RefOutWgradIdeal.main_arg1) = m' ((c.tc : Thread Cert.RefOutWgradIdeal.nD Cert.RefOutWgradIdeal.τ).loc Cert.RefOutWgradIdeal.main_arg1)
          ∧ r.2.mem ((c.tc : Thread Cert.RefOutWgradIdeal.nD Cert.RefOutWgradIdeal.τ).loc Cert.RefOutWgradIdeal.main_arg2) = m' ((c.tc : Thread Cert.RefOutWgradIdeal.nD Cert.RefOutWgradIdeal.τ).loc Cert.RefOutWgradIdeal.main_arg2))

def preserves_OutDgrad_OutDgradIdeal : Prop :=
  True

def algebraic_OutDgradIdeal_RefOutDgradIdeal [hOutDgradIdeal : Cert.OutDgradIdeal.Facts] [hRefOutDgradIdeal : Cert.RefOutDgradIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg)
    (m' : (ℓ : Loc Cert.RefOutDgradIdeal.nD Cert.RefOutDgradIdeal.τ Cert.RefOutDgradIdeal.sig) → Buf (Elt Ideal) ℓ) (g' : Dev Cert.RefOutDgradIdeal.nD → PrngReg), Pre_OutDgradIdeal m →
    (∀ c : Dev Cert.OutDgradIdeal.nD,
      m' ((c.tc : Thread Cert.RefOutDgradIdeal.nD Cert.RefOutDgradIdeal.τ).loc Cert.RefOutDgradIdeal.main_arg0) = m ((c.tc : Thread Cert.OutDgradIdeal.nD Cert.OutDgradIdeal.τ).loc Cert.OutDgradIdeal.main_arg0)
      ∧ m' ((c.tc : Thread Cert.RefOutDgradIdeal.nD Cert.RefOutDgradIdeal.τ).loc Cert.RefOutDgradIdeal.main_arg1) = m ((c.tc : Thread Cert.OutDgradIdeal.nD Cert.OutDgradIdeal.τ).loc Cert.OutDgradIdeal.main_arg1)
      ∧ m' ((c.tc : Thread Cert.RefOutDgradIdeal.nD Cert.RefOutDgradIdeal.τ).loc Cert.RefOutDgradIdeal.main_arg2) = m ((c.tc : Thread Cert.OutDgradIdeal.nD Cert.OutDgradIdeal.τ).loc Cert.OutDgradIdeal.main_arg2)) →
    ∃ (v0 : (c : Dev Cert.OutDgradIdeal.nD) → Buf (Elt Ideal) ((c.tc : Thread Cert.OutDgradIdeal.nD Cert.OutDgradIdeal.τ).loc Cert.OutDgradIdeal.main_v0)),
      θ_run (Cert.OutDgradIdeal.defs (F := Ideal)) (onTc (τ := Cert.OutDgradIdeal.τ) (Cert.OutDgradIdeal.main (F := Ideal))) ⟨m, fun _ => 0, g⟩ (fun r => ∀ c : Dev Cert.OutDgradIdeal.nD,
          r.2.mem ((c.tc : Thread Cert.OutDgradIdeal.nD Cert.OutDgradIdeal.τ).loc Cert.OutDgradIdeal.main_v0) = v0 c
          ∧ r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
          ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1)
          ∧ r.2.mem ((c.tc : Thread Cert.OutDgradIdeal.nD Cert.OutDgradIdeal.τ).loc Cert.OutDgradIdeal.main_arg2) = m ((c.tc : Thread Cert.OutDgradIdeal.nD Cert.OutDgradIdeal.τ).loc Cert.OutDgradIdeal.main_arg2))
      ∧ θ_run (Cert.RefOutDgradIdeal.defs (F := Ideal)) (onTc (τ := Cert.RefOutDgradIdeal.τ) (Cert.RefOutDgradIdeal.main (F := Ideal))) ⟨m', fun _ => 0, g'⟩ (fun r => ∀ c : Dev Cert.RefOutDgradIdeal.nD,
          r.2.mem ((c.tc : Thread Cert.RefOutDgradIdeal.nD Cert.RefOutDgradIdeal.τ).loc Cert.RefOutDgradIdeal.main_v3) = v0 c
          ∧ r.2.mem ((c.tc : Thread Cert.RefOutDgradIdeal.nD Cert.RefOutDgradIdeal.τ).loc Cert.RefOutDgradIdeal.main_arg0) = m' ((c.tc : Thread Cert.RefOutDgradIdeal.nD Cert.RefOutDgradIdeal.τ).loc Cert.RefOutDgradIdeal.main_arg0)
          ∧ r.2.mem ((c.tc : Thread Cert.RefOutDgradIdeal.nD Cert.RefOutDgradIdeal.τ).loc Cert.RefOutDgradIdeal.main_arg1) = m' ((c.tc : Thread Cert.RefOutDgradIdeal.nD Cert.RefOutDgradIdeal.τ).loc Cert.RefOutDgradIdeal.main_arg1)
          ∧ r.2.mem ((c.tc : Thread Cert.RefOutDgradIdeal.nD Cert.RefOutDgradIdeal.τ).loc Cert.RefOutDgradIdeal.main_arg2) = m' ((c.tc : Thread Cert.RefOutDgradIdeal.nD Cert.RefOutDgradIdeal.τ).loc Cert.RefOutDgradIdeal.main_arg2))

def preserves_GateDgrad_GateDgradIdeal : Prop :=
  True

def algebraic_GateDgradIdeal_RefGateDgradIdeal [hGateDgradIdeal : Cert.GateDgradIdeal.Facts] [hRefGateDgradIdeal : Cert.RefGateDgradIdeal.Facts] : Prop :=
  ∀ (m : (ℓ : Loc Cert.GateDgradIdeal.nD Cert.GateDgradIdeal.τ Cert.GateDgradIdeal.sig) → Buf (Elt Ideal) ℓ) (g : Dev Cert.GateDgradIdeal.nD → PrngReg)
    (m' : (ℓ : Loc Cert.RefGateDgradIdeal.nD Cert.RefGateDgradIdeal.τ Cert.RefGateDgradIdeal.sig) → Buf (Elt Ideal) ℓ) (g' : Dev Cert.RefGateDgradIdeal.nD → PrngReg), Pre_GateDgradIdeal m →
    (∀ c : Dev Cert.GateDgradIdeal.nD,
      m' ((c.tc : Thread Cert.RefGateDgradIdeal.nD Cert.RefGateDgradIdeal.τ).loc Cert.RefGateDgradIdeal.main_arg0) = m ((c.tc : Thread Cert.GateDgradIdeal.nD Cert.GateDgradIdeal.τ).loc Cert.GateDgradIdeal.main_arg0)
      ∧ m' ((c.tc : Thread Cert.RefGateDgradIdeal.nD Cert.RefGateDgradIdeal.τ).loc Cert.RefGateDgradIdeal.main_arg1) = m ((c.tc : Thread Cert.GateDgradIdeal.nD Cert.GateDgradIdeal.τ).loc Cert.GateDgradIdeal.main_arg1)
      ∧ m' ((c.tc : Thread Cert.RefGateDgradIdeal.nD Cert.RefGateDgradIdeal.τ).loc Cert.RefGateDgradIdeal.main_arg2) = m ((c.tc : Thread Cert.GateDgradIdeal.nD Cert.GateDgradIdeal.τ).loc Cert.GateDgradIdeal.main_arg2)) →
    ∃ (v0 : (c : Dev Cert.GateDgradIdeal.nD) → Buf (Elt Ideal) ((c.tc : Thread Cert.GateDgradIdeal.nD Cert.GateDgradIdeal.τ).loc Cert.GateDgradIdeal.main_v1)),
      θ_run (Cert.GateDgradIdeal.defs (F := Ideal)) (onTc (τ := Cert.GateDgradIdeal.τ) (Cert.GateDgradIdeal.main (F := Ideal))) ⟨m, fun _ => 0, g⟩ (fun r => ∀ c : Dev Cert.GateDgradIdeal.nD,
          r.2.mem ((c.tc : Thread Cert.GateDgradIdeal.nD Cert.GateDgradIdeal.τ).loc Cert.GateDgradIdeal.main_v1) = v0 c
          ∧ r.2.mem ((c.tc : Thread Cert.GateDgradIdeal.nD Cert.GateDgradIdeal.τ).loc Cert.GateDgradIdeal.main_arg0) = m ((c.tc : Thread Cert.GateDgradIdeal.nD Cert.GateDgradIdeal.τ).loc Cert.GateDgradIdeal.main_arg0)
          ∧ r.2.mem ((c.tc : Thread Cert.GateDgradIdeal.nD Cert.GateDgradIdeal.τ).loc Cert.GateDgradIdeal.main_arg1) = m ((c.tc : Thread Cert.GateDgradIdeal.nD Cert.GateDgradIdeal.τ).loc Cert.GateDgradIdeal.main_arg1)
          ∧ r.2.mem ((c.tc : Thread Cert.GateDgradIdeal.nD Cert.GateDgradIdeal.τ).loc Cert.GateDgradIdeal.main_arg2) = m ((c.tc : Thread Cert.GateDgradIdeal.nD Cert.GateDgradIdeal.τ).loc Cert.GateDgradIdeal.main_arg2))
      ∧ θ_run (Cert.RefGateDgradIdeal.defs (F := Ideal)) (onTc (τ := Cert.RefGateDgradIdeal.τ) (Cert.RefGateDgradIdeal.main (F := Ideal))) ⟨m', fun _ => 0, g'⟩ (fun r => ∀ c : Dev Cert.RefGateDgradIdeal.nD,
          r.2.mem ((c.tc : Thread Cert.RefGateDgradIdeal.nD Cert.RefGateDgradIdeal.τ).loc Cert.RefGateDgradIdeal.main_v10) = v0 c
          ∧ r.2.mem ((c.tc : Thread Cert.RefGateDgradIdeal.nD Cert.RefGateDgradIdeal.τ).loc Cert.RefGateDgradIdeal.main_arg0) = m' ((c.tc : Thread Cert.RefGateDgradIdeal.nD Cert.RefGateDgradIdeal.τ).loc Cert.RefGateDgradIdeal.main_arg0)
          ∧ r.2.mem ((c.tc : Thread Cert.RefGateDgradIdeal.nD Cert.RefGateDgradIdeal.τ).loc Cert.RefGateDgradIdeal.main_arg1) = m' ((c.tc : Thread Cert.RefGateDgradIdeal.nD Cert.RefGateDgradIdeal.τ).loc Cert.RefGateDgradIdeal.main_arg1)
          ∧ r.2.mem ((c.tc : Thread Cert.RefGateDgradIdeal.nD Cert.RefGateDgradIdeal.τ).loc Cert.RefGateDgradIdeal.main_arg2) = m' ((c.tc : Thread Cert.RefGateDgradIdeal.nD Cert.RefGateDgradIdeal.τ).loc Cert.RefGateDgradIdeal.main_arg2))

def preserves_GateWgrad_GateWgradIdeal : Prop :=
  True

def algebraic_GateWgradIdeal_RefGateWgradIdeal [hGateWgradIdeal : Cert.GateWgradIdeal.Facts] [hRefGateWgradIdeal : Cert.RefGateWgradIdeal.Facts] : Prop :=
  ∀ (m : (ℓ : Loc Cert.GateWgradIdeal.nD Cert.GateWgradIdeal.τ Cert.GateWgradIdeal.sig) → Buf (Elt Ideal) ℓ) (g : Dev Cert.GateWgradIdeal.nD → PrngReg)
    (m' : (ℓ : Loc Cert.RefGateWgradIdeal.nD Cert.RefGateWgradIdeal.τ Cert.RefGateWgradIdeal.sig) → Buf (Elt Ideal) ℓ) (g' : Dev Cert.RefGateWgradIdeal.nD → PrngReg), Pre_GateWgradIdeal m →
    (∀ c : Dev Cert.GateWgradIdeal.nD,
      m' ((c.tc : Thread Cert.RefGateWgradIdeal.nD Cert.RefGateWgradIdeal.τ).loc Cert.RefGateWgradIdeal.main_arg0) = m ((c.tc : Thread Cert.GateWgradIdeal.nD Cert.GateWgradIdeal.τ).loc Cert.GateWgradIdeal.main_arg0)
      ∧ m' ((c.tc : Thread Cert.RefGateWgradIdeal.nD Cert.RefGateWgradIdeal.τ).loc Cert.RefGateWgradIdeal.main_arg1) = m ((c.tc : Thread Cert.GateWgradIdeal.nD Cert.GateWgradIdeal.τ).loc Cert.GateWgradIdeal.main_arg1)
      ∧ m' ((c.tc : Thread Cert.RefGateWgradIdeal.nD Cert.RefGateWgradIdeal.τ).loc Cert.RefGateWgradIdeal.main_arg2) = m ((c.tc : Thread Cert.GateWgradIdeal.nD Cert.GateWgradIdeal.τ).loc Cert.GateWgradIdeal.main_arg2)) →
    ∃ (v0 : (c : Dev Cert.GateWgradIdeal.nD) → Buf (Elt Ideal) ((c.tc : Thread Cert.GateWgradIdeal.nD Cert.GateWgradIdeal.τ).loc Cert.GateWgradIdeal.main_v0)),
      θ_run (Cert.GateWgradIdeal.defs (F := Ideal)) (onTc (τ := Cert.GateWgradIdeal.τ) (Cert.GateWgradIdeal.main (F := Ideal))) ⟨m, fun _ => 0, g⟩ (fun r => ∀ c : Dev Cert.GateWgradIdeal.nD,
          r.2.mem ((c.tc : Thread Cert.GateWgradIdeal.nD Cert.GateWgradIdeal.τ).loc Cert.GateWgradIdeal.main_v0) = v0 c
          ∧ r.2.mem ((c.tc : Thread Cert.GateWgradIdeal.nD Cert.GateWgradIdeal.τ).loc Cert.GateWgradIdeal.main_arg0) = m ((c.tc : Thread Cert.GateWgradIdeal.nD Cert.GateWgradIdeal.τ).loc Cert.GateWgradIdeal.main_arg0)
          ∧ r.2.mem ((c.tc : Thread Cert.GateWgradIdeal.nD Cert.GateWgradIdeal.τ).loc Cert.GateWgradIdeal.main_arg1) = m ((c.tc : Thread Cert.GateWgradIdeal.nD Cert.GateWgradIdeal.τ).loc Cert.GateWgradIdeal.main_arg1)
          ∧ r.2.mem ((c.tc : Thread Cert.GateWgradIdeal.nD Cert.GateWgradIdeal.τ).loc Cert.GateWgradIdeal.main_arg2) = m ((c.tc : Thread Cert.GateWgradIdeal.nD Cert.GateWgradIdeal.τ).loc Cert.GateWgradIdeal.main_arg2))
      ∧ θ_run (Cert.RefGateWgradIdeal.defs (F := Ideal)) (onTc (τ := Cert.RefGateWgradIdeal.τ) (Cert.RefGateWgradIdeal.main (F := Ideal))) ⟨m', fun _ => 0, g'⟩ (fun r => ∀ c : Dev Cert.RefGateWgradIdeal.nD,
          r.2.mem ((c.tc : Thread Cert.RefGateWgradIdeal.nD Cert.RefGateWgradIdeal.τ).loc Cert.RefGateWgradIdeal.main_v9) = v0 c
          ∧ r.2.mem ((c.tc : Thread Cert.RefGateWgradIdeal.nD Cert.RefGateWgradIdeal.τ).loc Cert.RefGateWgradIdeal.main_arg0) = m' ((c.tc : Thread Cert.RefGateWgradIdeal.nD Cert.RefGateWgradIdeal.τ).loc Cert.RefGateWgradIdeal.main_arg0)
          ∧ r.2.mem ((c.tc : Thread Cert.RefGateWgradIdeal.nD Cert.RefGateWgradIdeal.τ).loc Cert.RefGateWgradIdeal.main_arg1) = m' ((c.tc : Thread Cert.RefGateWgradIdeal.nD Cert.RefGateWgradIdeal.τ).loc Cert.RefGateWgradIdeal.main_arg1)
          ∧ r.2.mem ((c.tc : Thread Cert.RefGateWgradIdeal.nD Cert.RefGateWgradIdeal.τ).loc Cert.RefGateWgradIdeal.main_arg2) = m' ((c.tc : Thread Cert.RefGateWgradIdeal.nD Cert.RefGateWgradIdeal.τ).loc Cert.RefGateWgradIdeal.main_arg2))

def preserves_GateFwd_GateFwdIdeal : Prop :=
  True

def algebraic_GateFwdIdeal_RefGateFwdIdeal [hGateFwdIdeal : Cert.GateFwdIdeal.Facts] [hRefGateFwdIdeal : Cert.RefGateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.RefGateFwdIdeal.nD Cert.RefGateFwdIdeal.τ Cert.RefGateFwdIdeal.sig) → Buf (Elt Ideal) ℓ) (g' : Dev Cert.RefGateFwdIdeal.nD → PrngReg), Pre_GateFwdIdeal m →
    (∀ c : Dev Cert.GateFwdIdeal.nD,
      m' ((c.tc : Thread Cert.RefGateFwdIdeal.nD Cert.RefGateFwdIdeal.τ).loc Cert.RefGateFwdIdeal.main_arg0) = m ((c.tc : Thread Cert.GateFwdIdeal.nD Cert.GateFwdIdeal.τ).loc Cert.GateFwdIdeal.main_arg0)
      ∧ m' ((c.tc : Thread Cert.RefGateFwdIdeal.nD Cert.RefGateFwdIdeal.τ).loc Cert.RefGateFwdIdeal.main_arg1) = m ((c.tc : Thread Cert.GateFwdIdeal.nD Cert.GateFwdIdeal.τ).loc Cert.GateFwdIdeal.main_arg1)) →
    ∃ (v0 : (c : Dev Cert.GateFwdIdeal.nD) → Buf (Elt Ideal) ((c.tc : Thread Cert.GateFwdIdeal.nD Cert.GateFwdIdeal.τ).loc Cert.GateFwdIdeal.main_v0)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ θ_run (Cert.RefGateFwdIdeal.defs (F := Ideal)) (onTc (τ := Cert.RefGateFwdIdeal.τ) (Cert.RefGateFwdIdeal.main (F := Ideal))) ⟨m', fun _ => 0, g'⟩ (fun r => ∀ c : Dev Cert.RefGateFwdIdeal.nD,
          r.2.mem ((c.tc : Thread Cert.RefGateFwdIdeal.nD Cert.RefGateFwdIdeal.τ).loc Cert.RefGateFwdIdeal.main_v3) = v0 c
          ∧ r.2.mem ((c.tc : Thread Cert.RefGateFwdIdeal.nD Cert.RefGateFwdIdeal.τ).loc Cert.RefGateFwdIdeal.main_arg0) = m' ((c.tc : Thread Cert.RefGateFwdIdeal.nD Cert.RefGateFwdIdeal.τ).loc Cert.RefGateFwdIdeal.main_arg0)
          ∧ r.2.mem ((c.tc : Thread Cert.RefGateFwdIdeal.nD Cert.RefGateFwdIdeal.τ).loc Cert.RefGateFwdIdeal.main_arg1) = m' ((c.tc : Thread Cert.RefGateFwdIdeal.nD Cert.RefGateFwdIdeal.τ).loc Cert.RefGateFwdIdeal.main_arg1))

def preserves_NormFwd_NormFwdIdeal : Prop :=
  True

def algebraic_NormFwdIdeal_RefNormFwdIdeal [hNormFwdIdeal : Cert.NormFwdIdeal.Facts] [hRefNormFwdIdeal : Cert.RefNormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.RefNormFwdIdeal.nD Cert.RefNormFwdIdeal.τ Cert.RefNormFwdIdeal.sig) → Buf (Elt Ideal) ℓ) (g' : Dev Cert.RefNormFwdIdeal.nD → PrngReg), Pre_NormFwdIdeal m →
    (∀ c : Dev Cert.NormFwdIdeal.nD,
      m' ((c.tc : Thread Cert.RefNormFwdIdeal.nD Cert.RefNormFwdIdeal.τ).loc Cert.RefNormFwdIdeal.main_arg0) = m ((c.tc : Thread Cert.NormFwdIdeal.nD Cert.NormFwdIdeal.τ).loc Cert.NormFwdIdeal.main_arg0)
      ∧ m' ((c.tc : Thread Cert.RefNormFwdIdeal.nD Cert.RefNormFwdIdeal.τ).loc Cert.RefNormFwdIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v4)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v4) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.RefNormFwdIdeal.defs (F := Ideal)) (onTc (τ := Cert.RefNormFwdIdeal.τ) (Cert.RefNormFwdIdeal.main (F := Ideal))) ⟨m', fun _ => 0, g'⟩ (fun r => ∀ c : Dev Cert.RefNormFwdIdeal.nD,
          r.2.mem ((c.tc : Thread Cert.RefNormFwdIdeal.nD Cert.RefNormFwdIdeal.τ).loc Cert.RefNormFwdIdeal.main_v12) = v0 c
          ∧ r.2.mem ((c.tc : Thread Cert.RefNormFwdIdeal.nD Cert.RefNormFwdIdeal.τ).loc Cert.RefNormFwdIdeal.main_arg0) = m' ((c.tc : Thread Cert.RefNormFwdIdeal.nD Cert.RefNormFwdIdeal.τ).loc Cert.RefNormFwdIdeal.main_arg0)
          ∧ r.2.mem ((c.tc : Thread Cert.RefNormFwdIdeal.nD Cert.RefNormFwdIdeal.τ).loc Cert.RefNormFwdIdeal.main_arg1) = m' ((c.tc : Thread Cert.RefNormFwdIdeal.nD Cert.RefNormFwdIdeal.τ).loc Cert.RefNormFwdIdeal.main_arg1))

def preserves_ModFwd_ModFwdIdeal : Prop :=
  True

def algebraic_ModFwdIdeal_RefModFwdIdeal [hModFwdIdeal : Cert.ModFwdIdeal.Facts] [hRefModFwdIdeal : Cert.RefModFwdIdeal.Facts] : Prop :=
  ∀ (m : (ℓ : Loc Cert.ModFwdIdeal.nD Cert.ModFwdIdeal.τ Cert.ModFwdIdeal.sig) → Buf (Elt Ideal) ℓ) (g : Dev Cert.ModFwdIdeal.nD → PrngReg)
    (m' : (ℓ : Loc Cert.RefModFwdIdeal.nD Cert.RefModFwdIdeal.τ Cert.RefModFwdIdeal.sig) → Buf (Elt Ideal) ℓ) (g' : Dev Cert.RefModFwdIdeal.nD → PrngReg), Pre_ModFwdIdeal m →
    (∀ c : Dev Cert.ModFwdIdeal.nD,
      m' ((c.tc : Thread Cert.RefModFwdIdeal.nD Cert.RefModFwdIdeal.τ).loc Cert.RefModFwdIdeal.main_arg0) = m ((c.tc : Thread Cert.ModFwdIdeal.nD Cert.ModFwdIdeal.τ).loc Cert.ModFwdIdeal.main_arg0)
      ∧ m' ((c.tc : Thread Cert.RefModFwdIdeal.nD Cert.RefModFwdIdeal.τ).loc Cert.RefModFwdIdeal.main_arg1) = m ((c.tc : Thread Cert.ModFwdIdeal.nD Cert.ModFwdIdeal.τ).loc Cert.ModFwdIdeal.main_arg1)
      ∧ m' ((c.tc : Thread Cert.RefModFwdIdeal.nD Cert.RefModFwdIdeal.τ).loc Cert.RefModFwdIdeal.main_arg2) = m ((c.tc : Thread Cert.ModFwdIdeal.nD Cert.ModFwdIdeal.τ).loc Cert.ModFwdIdeal.main_arg2)
      ∧ m' ((c.tc : Thread Cert.RefModFwdIdeal.nD Cert.RefModFwdIdeal.τ).loc Cert.RefModFwdIdeal.main_arg3) = m ((c.tc : Thread Cert.ModFwdIdeal.nD Cert.ModFwdIdeal.τ).loc Cert.ModFwdIdeal.main_arg3)) →
    ∃ (v0 : (c : Dev Cert.ModFwdIdeal.nD) → Buf (Elt Ideal) ((c.tc : Thread Cert.ModFwdIdeal.nD Cert.ModFwdIdeal.τ).loc Cert.ModFwdIdeal.main_v3)),
      θ_run (Cert.ModFwdIdeal.defs (F := Ideal)) (onTc (τ := Cert.ModFwdIdeal.τ) (Cert.ModFwdIdeal.main (F := Ideal))) ⟨m, fun _ => 0, g⟩ (fun r => ∀ c : Dev Cert.ModFwdIdeal.nD,
          r.2.mem ((c.tc : Thread Cert.ModFwdIdeal.nD Cert.ModFwdIdeal.τ).loc Cert.ModFwdIdeal.main_v3) = v0 c
          ∧ r.2.mem ((c.tc : Thread Cert.ModFwdIdeal.nD Cert.ModFwdIdeal.τ).loc Cert.ModFwdIdeal.main_arg0) = m ((c.tc : Thread Cert.ModFwdIdeal.nD Cert.ModFwdIdeal.τ).loc Cert.ModFwdIdeal.main_arg0)
          ∧ r.2.mem ((c.tc : Thread Cert.ModFwdIdeal.nD Cert.ModFwdIdeal.τ).loc Cert.ModFwdIdeal.main_arg1) = m ((c.tc : Thread Cert.ModFwdIdeal.nD Cert.ModFwdIdeal.τ).loc Cert.ModFwdIdeal.main_arg1)
          ∧ r.2.mem ((c.tc : Thread Cert.ModFwdIdeal.nD Cert.ModFwdIdeal.τ).loc Cert.ModFwdIdeal.main_arg2) = m ((c.tc : Thread Cert.ModFwdIdeal.nD Cert.ModFwdIdeal.τ).loc Cert.ModFwdIdeal.main_arg2)
          ∧ r.2.mem ((c.tc : Thread Cert.ModFwdIdeal.nD Cert.ModFwdIdeal.τ).loc Cert.ModFwdIdeal.main_arg3) = m ((c.tc : Thread Cert.ModFwdIdeal.nD Cert.ModFwdIdeal.τ).loc Cert.ModFwdIdeal.main_arg3))
      ∧ θ_run (Cert.RefModFwdIdeal.defs (F := Ideal)) (onTc (τ := Cert.RefModFwdIdeal.τ) (Cert.RefModFwdIdeal.main (F := Ideal))) ⟨m', fun _ => 0, g'⟩ (fun r => ∀ c : Dev Cert.RefModFwdIdeal.nD,
          r.2.mem ((c.tc : Thread Cert.RefModFwdIdeal.nD Cert.RefModFwdIdeal.τ).loc Cert.RefModFwdIdeal.main_v52) = v0 c
          ∧ r.2.mem ((c.tc : Thread Cert.RefModFwdIdeal.nD Cert.RefModFwdIdeal.τ).loc Cert.RefModFwdIdeal.main_arg0) = m' ((c.tc : Thread Cert.RefModFwdIdeal.nD Cert.RefModFwdIdeal.τ).loc Cert.RefModFwdIdeal.main_arg0)
          ∧ r.2.mem ((c.tc : Thread Cert.RefModFwdIdeal.nD Cert.RefModFwdIdeal.τ).loc Cert.RefModFwdIdeal.main_arg1) = m' ((c.tc : Thread Cert.RefModFwdIdeal.nD Cert.RefModFwdIdeal.τ).loc Cert.RefModFwdIdeal.main_arg1)
          ∧ r.2.mem ((c.tc : Thread Cert.RefModFwdIdeal.nD Cert.RefModFwdIdeal.τ).loc Cert.RefModFwdIdeal.main_arg2) = m' ((c.tc : Thread Cert.RefModFwdIdeal.nD Cert.RefModFwdIdeal.τ).loc Cert.RefModFwdIdeal.main_arg2)
          ∧ r.2.mem ((c.tc : Thread Cert.RefModFwdIdeal.nD Cert.RefModFwdIdeal.τ).loc Cert.RefModFwdIdeal.main_arg3) = m' ((c.tc : Thread Cert.RefModFwdIdeal.nD Cert.RefModFwdIdeal.τ).loc Cert.RefModFwdIdeal.main_arg3))

def preserves_NormBwd_NormBwdIdeal : Prop :=
  True

def algebraic_NormBwdIdeal_RefNormBwdIdeal [hNormBwdIdeal : Cert.NormBwdIdeal.Facts] [hRefNormBwdIdeal : Cert.RefNormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.RefNormBwdIdeal.nD Cert.RefNormBwdIdeal.τ Cert.RefNormBwdIdeal.sig) → Buf (Elt Ideal) ℓ) (g' : Dev Cert.RefNormBwdIdeal.nD → PrngReg), Pre_NormBwdIdeal m →
    (∀ c : Dev Cert.NormBwdIdeal.nD,
      m' ((c.tc : Thread Cert.RefNormBwdIdeal.nD Cert.RefNormBwdIdeal.τ).loc Cert.RefNormBwdIdeal.main_arg0) = m ((c.tc : Thread Cert.NormBwdIdeal.nD Cert.NormBwdIdeal.τ).loc Cert.NormBwdIdeal.main_arg0)
      ∧ m' ((c.tc : Thread Cert.RefNormBwdIdeal.nD Cert.RefNormBwdIdeal.τ).loc Cert.RefNormBwdIdeal.main_arg1) = m ((c.tc : Thread Cert.NormBwdIdeal.nD Cert.NormBwdIdeal.τ).loc Cert.NormBwdIdeal.main_arg1)
      ∧ m' ((c.tc : Thread Cert.RefNormBwdIdeal.nD Cert.RefNormBwdIdeal.τ).loc Cert.RefNormBwdIdeal.main_arg2) = m ((c.tc : Thread Cert.NormBwdIdeal.nD Cert.NormBwdIdeal.τ).loc Cert.NormBwdIdeal.main_arg2)) →
    ∃ (v0 : (c : Dev Cert.NormBwdIdeal.nD) → Buf (Elt Ideal) ((c.tc : Thread Cert.NormBwdIdeal.nD Cert.NormBwdIdeal.τ).loc Cert.NormBwdIdeal.main_v3_0)) (v1 : (c : Dev Cert.NormBwdIdeal.nD) → Buf (Elt Ideal) ((c.tc : Thread Cert.NormBwdIdeal.nD Cert.NormBwdIdeal.τ).loc Cert.NormBwdIdeal.main_v3_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v3_0) = v0 c
          ∧ r.2.mem ((c.tc : Thread Cert.NormBwdIdeal.nD Cert.NormBwdIdeal.τ).loc Cert.NormBwdIdeal.main_v3_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ θ_run (Cert.RefNormBwdIdeal.defs (F := Ideal)) (onTc (τ := Cert.RefNormBwdIdeal.τ) (Cert.RefNormBwdIdeal.main (F := Ideal))) ⟨m', fun _ => 0, g'⟩ (fun r => ∀ c : Dev Cert.RefNormBwdIdeal.nD,
          r.2.mem ((c.tc : Thread Cert.RefNormBwdIdeal.nD Cert.RefNormBwdIdeal.τ).loc Cert.RefNormBwdIdeal.main_v35) = v0 c
          ∧ r.2.mem ((c.tc : Thread Cert.RefNormBwdIdeal.nD Cert.RefNormBwdIdeal.τ).loc Cert.RefNormBwdIdeal.main_v36) = v1 c
          ∧ r.2.mem ((c.tc : Thread Cert.RefNormBwdIdeal.nD Cert.RefNormBwdIdeal.τ).loc Cert.RefNormBwdIdeal.main_arg0) = m' ((c.tc : Thread Cert.RefNormBwdIdeal.nD Cert.RefNormBwdIdeal.τ).loc Cert.RefNormBwdIdeal.main_arg0)
          ∧ r.2.mem ((c.tc : Thread Cert.RefNormBwdIdeal.nD Cert.RefNormBwdIdeal.τ).loc Cert.RefNormBwdIdeal.main_arg1) = m' ((c.tc : Thread Cert.RefNormBwdIdeal.nD Cert.RefNormBwdIdeal.τ).loc Cert.RefNormBwdIdeal.main_arg1)
          ∧ r.2.mem ((c.tc : Thread Cert.RefNormBwdIdeal.nD Cert.RefNormBwdIdeal.τ).loc Cert.RefNormBwdIdeal.main_arg2) = m' ((c.tc : Thread Cert.RefNormBwdIdeal.nD Cert.RefNormBwdIdeal.τ).loc Cert.RefNormBwdIdeal.main_arg2))

def Claim : Prop :=
  ∃ (hAttnDq : Cert.AttnDq.Facts) (hAttnDqIdeal : Cert.AttnDqIdeal.Facts) (hRefAttnDqIdeal : Cert.RefAttnDqIdeal.Facts) (hAttnDkv : Cert.AttnDkv.Facts) (hAttnDkvIdeal : Cert.AttnDkvIdeal.Facts) (hRefAttnDkvIdeal : Cert.RefAttnDkvIdeal.Facts) (hAttn : Cert.Attn.Facts) (hAttnIdeal : Cert.AttnIdeal.Facts) (hRefAttnIdeal : Cert.RefAttnIdeal.Facts) (hInFwd : Cert.InFwd.Facts) (hInFwdIdeal : Cert.InFwdIdeal.Facts) (hRefInFwdIdeal : Cert.RefInFwdIdeal.Facts) (hUpFwd : Cert.UpFwd.Facts) (hUpFwdIdeal : Cert.UpFwdIdeal.Facts) (hRefUpFwdIdeal : Cert.RefUpFwdIdeal.Facts) (hBranchFwd : Cert.BranchFwd.Facts) (hBranchFwdIdeal : Cert.BranchFwdIdeal.Facts) (hRefBranchFwdIdeal : Cert.RefBranchFwdIdeal.Facts) (hOutFwd : Cert.OutFwd.Facts) (hOutFwdIdeal : Cert.OutFwdIdeal.Facts) (hRefOutFwdIdeal : Cert.RefOutFwdIdeal.Facts) (hInWgrad : Cert.InWgrad.Facts) (hInWgradIdeal : Cert.InWgradIdeal.Facts) (hRefInWgradIdeal : Cert.RefInWgradIdeal.Facts) (hInDgrad : Cert.InDgrad.Facts) (hInDgradIdeal : Cert.InDgradIdeal.Facts) (hRefInDgradIdeal : Cert.RefInDgradIdeal.Facts) (hUpWgrad : Cert.UpWgrad.Facts) (hUpWgradIdeal : Cert.UpWgradIdeal.Facts) (hRefUpWgradIdeal : Cert.RefUpWgradIdeal.Facts) (hUpDgrad : Cert.UpDgrad.Facts) (hUpDgradIdeal : Cert.UpDgradIdeal.Facts) (hRefUpDgradIdeal : Cert.RefUpDgradIdeal.Facts) (hDownWgrad : Cert.DownWgrad.Facts) (hDownWgradIdeal : Cert.DownWgradIdeal.Facts) (hRefDownWgradIdeal : Cert.RefDownWgradIdeal.Facts) (hDownDgrad : Cert.DownDgrad.Facts) (hDownDgradIdeal : Cert.DownDgradIdeal.Facts) (hRefDownDgradIdeal : Cert.RefDownDgradIdeal.Facts) (hDownFwd : Cert.DownFwd.Facts) (hDownFwdIdeal : Cert.DownFwdIdeal.Facts) (hRefDownFwdIdeal : Cert.RefDownFwdIdeal.Facts) (hBranchWgrad : Cert.BranchWgrad.Facts) (hBranchWgradIdeal : Cert.BranchWgradIdeal.Facts) (hRefBranchWgradIdeal : Cert.RefBranchWgradIdeal.Facts) (hBranchDgrad : Cert.BranchDgrad.Facts) (hBranchDgradIdeal : Cert.BranchDgradIdeal.Facts) (hRefBranchDgradIdeal : Cert.RefBranchDgradIdeal.Facts) (hOutWgrad : Cert.OutWgrad.Facts) (hOutWgradIdeal : Cert.OutWgradIdeal.Facts) (hRefOutWgradIdeal : Cert.RefOutWgradIdeal.Facts) (hOutDgrad : Cert.OutDgrad.Facts) (hOutDgradIdeal : Cert.OutDgradIdeal.Facts) (hRefOutDgradIdeal : Cert.RefOutDgradIdeal.Facts) (hGateDgrad : Cert.GateDgrad.Facts) (hGateDgradIdeal : Cert.GateDgradIdeal.Facts) (hRefGateDgradIdeal : Cert.RefGateDgradIdeal.Facts) (hGateWgrad : Cert.GateWgrad.Facts) (hGateWgradIdeal : Cert.GateWgradIdeal.Facts) (hRefGateWgradIdeal : Cert.RefGateWgradIdeal.Facts) (hGateFwd : Cert.GateFwd.Facts) (hGateFwdIdeal : Cert.GateFwdIdeal.Facts) (hRefGateFwdIdeal : Cert.RefGateFwdIdeal.Facts) (hNormFwd : Cert.NormFwd.Facts) (hNormFwdIdeal : Cert.NormFwdIdeal.Facts) (hRefNormFwdIdeal : Cert.RefNormFwdIdeal.Facts) (hModFwd : Cert.ModFwd.Facts) (hModFwdIdeal : Cert.ModFwdIdeal.Facts) (hRefModFwdIdeal : Cert.RefModFwdIdeal.Facts) (hNormBwd : Cert.NormBwd.Facts) (hNormBwdIdeal : Cert.NormBwdIdeal.Facts) (hRefNormBwdIdeal : Cert.RefNormBwdIdeal.Facts) (hPre_finite_ct : Cert.Pre_finite_ct.Facts) (hPre_finite : Cert.Pre_finite.Facts),
    quiescent_AttnDq (hAttnDq := hAttnDq)
    ∧ quiescent_AttnDqIdeal (hAttnDqIdeal := hAttnDqIdeal)
    ∧ quiescent_AttnDqIdeal_pre_finite_ct (hAttnDqIdeal := hAttnDqIdeal) (hPre_finite_ct := hPre_finite_ct)
    ∧ quiescent_RefAttnDqIdeal (hRefAttnDqIdeal := hRefAttnDqIdeal)
    ∧ quiescent_RefAttnDqIdeal_pre_finite_ct (hRefAttnDqIdeal := hRefAttnDqIdeal) (hPre_finite_ct := hPre_finite_ct)
    ∧ quiescent_AttnDkv (hAttnDkv := hAttnDkv)
    ∧ quiescent_AttnDkvIdeal (hAttnDkvIdeal := hAttnDkvIdeal)
    ∧ quiescent_AttnDkvIdeal_pre_finite_ct (hAttnDkvIdeal := hAttnDkvIdeal) (hPre_finite_ct := hPre_finite_ct)
    ∧ quiescent_RefAttnDkvIdeal (hRefAttnDkvIdeal := hRefAttnDkvIdeal)
    ∧ quiescent_RefAttnDkvIdeal_pre_finite_ct (hRefAttnDkvIdeal := hRefAttnDkvIdeal) (hPre_finite_ct := hPre_finite_ct)
    ∧ quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_RefAttnIdeal (hRefAttnIdeal := hRefAttnIdeal)
    ∧ quiescent_RefAttnIdeal_pre_finite (hRefAttnIdeal := hRefAttnIdeal) (hPre_finite := hPre_finite)
    ∧ quiescent_InFwd (hInFwd := hInFwd)
    ∧ quiescent_InFwdIdeal (hInFwdIdeal := hInFwdIdeal)
    ∧ quiescent_RefInFwdIdeal (hRefInFwdIdeal := hRefInFwdIdeal)
    ∧ quiescent_UpFwd (hUpFwd := hUpFwd)
    ∧ quiescent_UpFwdIdeal (hUpFwdIdeal := hUpFwdIdeal)
    ∧ quiescent_RefUpFwdIdeal (hRefUpFwdIdeal := hRefUpFwdIdeal)
    ∧ quiescent_BranchFwd (hBranchFwd := hBranchFwd)
    ∧ quiescent_BranchFwdIdeal (hBranchFwdIdeal := hBranchFwdIdeal)
    ∧ quiescent_RefBranchFwdIdeal (hRefBranchFwdIdeal := hRefBranchFwdIdeal)
    ∧ quiescent_OutFwd (hOutFwd := hOutFwd)
    ∧ quiescent_OutFwdIdeal (hOutFwdIdeal := hOutFwdIdeal)
    ∧ quiescent_RefOutFwdIdeal (hRefOutFwdIdeal := hRefOutFwdIdeal)
    ∧ quiescent_InWgrad (hInWgrad := hInWgrad)
    ∧ quiescent_InWgradIdeal (hInWgradIdeal := hInWgradIdeal)
    ∧ quiescent_RefInWgradIdeal (hRefInWgradIdeal := hRefInWgradIdeal)
    ∧ quiescent_InDgrad (hInDgrad := hInDgrad)
    ∧ quiescent_InDgradIdeal (hInDgradIdeal := hInDgradIdeal)
    ∧ quiescent_RefInDgradIdeal (hRefInDgradIdeal := hRefInDgradIdeal)
    ∧ quiescent_UpWgrad (hUpWgrad := hUpWgrad)
    ∧ quiescent_UpWgradIdeal (hUpWgradIdeal := hUpWgradIdeal)
    ∧ quiescent_RefUpWgradIdeal (hRefUpWgradIdeal := hRefUpWgradIdeal)
    ∧ quiescent_UpDgrad (hUpDgrad := hUpDgrad)
    ∧ quiescent_UpDgradIdeal (hUpDgradIdeal := hUpDgradIdeal)
    ∧ quiescent_RefUpDgradIdeal (hRefUpDgradIdeal := hRefUpDgradIdeal)
    ∧ quiescent_DownWgrad (hDownWgrad := hDownWgrad)
    ∧ quiescent_DownWgradIdeal (hDownWgradIdeal := hDownWgradIdeal)
    ∧ quiescent_RefDownWgradIdeal (hRefDownWgradIdeal := hRefDownWgradIdeal)
    ∧ quiescent_DownDgrad (hDownDgrad := hDownDgrad)
    ∧ quiescent_DownDgradIdeal (hDownDgradIdeal := hDownDgradIdeal)
    ∧ quiescent_RefDownDgradIdeal (hRefDownDgradIdeal := hRefDownDgradIdeal)
    ∧ quiescent_DownFwd (hDownFwd := hDownFwd)
    ∧ quiescent_DownFwdIdeal (hDownFwdIdeal := hDownFwdIdeal)
    ∧ quiescent_RefDownFwdIdeal (hRefDownFwdIdeal := hRefDownFwdIdeal)
    ∧ quiescent_BranchWgrad (hBranchWgrad := hBranchWgrad)
    ∧ quiescent_BranchWgradIdeal (hBranchWgradIdeal := hBranchWgradIdeal)
    ∧ quiescent_RefBranchWgradIdeal (hRefBranchWgradIdeal := hRefBranchWgradIdeal)
    ∧ quiescent_BranchDgrad (hBranchDgrad := hBranchDgrad)
    ∧ quiescent_BranchDgradIdeal (hBranchDgradIdeal := hBranchDgradIdeal)
    ∧ quiescent_RefBranchDgradIdeal (hRefBranchDgradIdeal := hRefBranchDgradIdeal)
    ∧ quiescent_OutWgrad (hOutWgrad := hOutWgrad)
    ∧ quiescent_OutWgradIdeal (hOutWgradIdeal := hOutWgradIdeal)
    ∧ quiescent_RefOutWgradIdeal (hRefOutWgradIdeal := hRefOutWgradIdeal)
    ∧ quiescent_OutDgrad (hOutDgrad := hOutDgrad)
    ∧ quiescent_OutDgradIdeal (hOutDgradIdeal := hOutDgradIdeal)
    ∧ quiescent_RefOutDgradIdeal (hRefOutDgradIdeal := hRefOutDgradIdeal)
    ∧ quiescent_GateDgrad (hGateDgrad := hGateDgrad)
    ∧ quiescent_GateDgradIdeal (hGateDgradIdeal := hGateDgradIdeal)
    ∧ quiescent_RefGateDgradIdeal (hRefGateDgradIdeal := hRefGateDgradIdeal)
    ∧ quiescent_GateWgrad (hGateWgrad := hGateWgrad)
    ∧ quiescent_GateWgradIdeal (hGateWgradIdeal := hGateWgradIdeal)
    ∧ quiescent_RefGateWgradIdeal (hRefGateWgradIdeal := hRefGateWgradIdeal)
    ∧ quiescent_GateFwd (hGateFwd := hGateFwd)
    ∧ quiescent_GateFwdIdeal (hGateFwdIdeal := hGateFwdIdeal)
    ∧ quiescent_RefGateFwdIdeal (hRefGateFwdIdeal := hRefGateFwdIdeal)
    ∧ quiescent_NormFwd (hNormFwd := hNormFwd)
    ∧ quiescent_NormFwdIdeal (hNormFwdIdeal := hNormFwdIdeal)
    ∧ quiescent_RefNormFwdIdeal (hRefNormFwdIdeal := hRefNormFwdIdeal)
    ∧ quiescent_ModFwd (hModFwd := hModFwd)
    ∧ quiescent_ModFwdIdeal (hModFwdIdeal := hModFwdIdeal)
    ∧ quiescent_RefModFwdIdeal (hRefModFwdIdeal := hRefModFwdIdeal)
    ∧ quiescent_NormBwd (hNormBwd := hNormBwd)
    ∧ quiescent_NormBwdIdeal (hNormBwdIdeal := hNormBwdIdeal)
    ∧ quiescent_RefNormBwdIdeal (hRefNormBwdIdeal := hRefNormBwdIdeal)
    ∧ preserves_AttnDq_AttnDqIdeal
    ∧ algebraic_AttnDqIdeal_RefAttnDqIdeal_pre_finite_ct (hAttnDqIdeal := hAttnDqIdeal) (hRefAttnDqIdeal := hRefAttnDqIdeal) (hPre_finite_ct := hPre_finite_ct)
    ∧ preserves_AttnDkv_AttnDkvIdeal
    ∧ algebraic_AttnDkvIdeal_RefAttnDkvIdeal_pre_finite_ct (hAttnDkvIdeal := hAttnDkvIdeal) (hRefAttnDkvIdeal := hRefAttnDkvIdeal) (hPre_finite_ct := hPre_finite_ct)
    ∧ preserves_Attn_AttnIdeal
    ∧ algebraic_AttnIdeal_RefAttnIdeal_pre_finite (hAttnIdeal := hAttnIdeal) (hRefAttnIdeal := hRefAttnIdeal) (hPre_finite := hPre_finite)
    ∧ preserves_InFwd_InFwdIdeal
    ∧ algebraic_InFwdIdeal_RefInFwdIdeal (hInFwdIdeal := hInFwdIdeal) (hRefInFwdIdeal := hRefInFwdIdeal)
    ∧ preserves_UpFwd_UpFwdIdeal
    ∧ algebraic_UpFwdIdeal_RefUpFwdIdeal (hUpFwdIdeal := hUpFwdIdeal) (hRefUpFwdIdeal := hRefUpFwdIdeal)
    ∧ preserves_BranchFwd_BranchFwdIdeal
    ∧ algebraic_BranchFwdIdeal_RefBranchFwdIdeal (hBranchFwdIdeal := hBranchFwdIdeal) (hRefBranchFwdIdeal := hRefBranchFwdIdeal)
    ∧ preserves_OutFwd_OutFwdIdeal
    ∧ algebraic_OutFwdIdeal_RefOutFwdIdeal (hOutFwdIdeal := hOutFwdIdeal) (hRefOutFwdIdeal := hRefOutFwdIdeal)
    ∧ preserves_InWgrad_InWgradIdeal
    ∧ algebraic_InWgradIdeal_RefInWgradIdeal (hInWgradIdeal := hInWgradIdeal) (hRefInWgradIdeal := hRefInWgradIdeal)
    ∧ preserves_InDgrad_InDgradIdeal
    ∧ algebraic_InDgradIdeal_RefInDgradIdeal (hInDgradIdeal := hInDgradIdeal) (hRefInDgradIdeal := hRefInDgradIdeal)
    ∧ preserves_UpWgrad_UpWgradIdeal
    ∧ algebraic_UpWgradIdeal_RefUpWgradIdeal (hUpWgradIdeal := hUpWgradIdeal) (hRefUpWgradIdeal := hRefUpWgradIdeal)
    ∧ preserves_UpDgrad_UpDgradIdeal
    ∧ algebraic_UpDgradIdeal_RefUpDgradIdeal (hUpDgradIdeal := hUpDgradIdeal) (hRefUpDgradIdeal := hRefUpDgradIdeal)
    ∧ preserves_DownWgrad_DownWgradIdeal
    ∧ algebraic_DownWgradIdeal_RefDownWgradIdeal (hDownWgradIdeal := hDownWgradIdeal) (hRefDownWgradIdeal := hRefDownWgradIdeal)
    ∧ preserves_DownDgrad_DownDgradIdeal
    ∧ algebraic_DownDgradIdeal_RefDownDgradIdeal (hDownDgradIdeal := hDownDgradIdeal) (hRefDownDgradIdeal := hRefDownDgradIdeal)
    ∧ preserves_DownFwd_DownFwdIdeal
    ∧ algebraic_DownFwdIdeal_RefDownFwdIdeal (hDownFwdIdeal := hDownFwdIdeal) (hRefDownFwdIdeal := hRefDownFwdIdeal)
    ∧ preserves_BranchWgrad_BranchWgradIdeal
    ∧ algebraic_BranchWgradIdeal_RefBranchWgradIdeal (hBranchWgradIdeal := hBranchWgradIdeal) (hRefBranchWgradIdeal := hRefBranchWgradIdeal)
    ∧ preserves_BranchDgrad_BranchDgradIdeal
    ∧ algebraic_BranchDgradIdeal_RefBranchDgradIdeal (hBranchDgradIdeal := hBranchDgradIdeal) (hRefBranchDgradIdeal := hRefBranchDgradIdeal)
    ∧ preserves_OutWgrad_OutWgradIdeal
    ∧ algebraic_OutWgradIdeal_RefOutWgradIdeal (hOutWgradIdeal := hOutWgradIdeal) (hRefOutWgradIdeal := hRefOutWgradIdeal)
    ∧ preserves_OutDgrad_OutDgradIdeal
    ∧ algebraic_OutDgradIdeal_RefOutDgradIdeal (hOutDgradIdeal := hOutDgradIdeal) (hRefOutDgradIdeal := hRefOutDgradIdeal)
    ∧ preserves_GateDgrad_GateDgradIdeal
    ∧ algebraic_GateDgradIdeal_RefGateDgradIdeal (hGateDgradIdeal := hGateDgradIdeal) (hRefGateDgradIdeal := hRefGateDgradIdeal)
    ∧ preserves_GateWgrad_GateWgradIdeal
    ∧ algebraic_GateWgradIdeal_RefGateWgradIdeal (hGateWgradIdeal := hGateWgradIdeal) (hRefGateWgradIdeal := hRefGateWgradIdeal)
    ∧ preserves_GateFwd_GateFwdIdeal
    ∧ algebraic_GateFwdIdeal_RefGateFwdIdeal (hGateFwdIdeal := hGateFwdIdeal) (hRefGateFwdIdeal := hRefGateFwdIdeal)
    ∧ preserves_NormFwd_NormFwdIdeal
    ∧ algebraic_NormFwdIdeal_RefNormFwdIdeal (hNormFwdIdeal := hNormFwdIdeal) (hRefNormFwdIdeal := hRefNormFwdIdeal)
    ∧ preserves_ModFwd_ModFwdIdeal
    ∧ algebraic_ModFwdIdeal_RefModFwdIdeal (hModFwdIdeal := hModFwdIdeal) (hRefModFwdIdeal := hRefModFwdIdeal)
    ∧ preserves_NormBwd_NormBwdIdeal
    ∧ algebraic_NormBwdIdeal_RefNormBwdIdeal (hNormBwdIdeal := hNormBwdIdeal) (hRefNormBwdIdeal := hRefNormBwdIdeal)
-- ==== Pre_finite.lean ====
abbrev S8x4096x192 : Shape := ⟨3, ![8, 4096, 192]⟩
abbrev S8x4352x192 : Shape := ⟨3, ![8, 4352, 192]⟩
abbrev S8x4352x128 : Shape := ⟨3, ![8, 4352, 128]⟩
abbrev S_ : Shape := ⟨0, ![]⟩

class Facts : Prop where
  bcast_S_S8x4096x192 : S_.BroadcastsInDim S8x4096x192 (![] : Fin 0 → Fin S8x4096x192.rank)
  bcast_S_S8x4352x192 : S_.BroadcastsInDim S8x4352x192 (![] : Fin 0 → Fin S8x4352x192.rank)
  bcast_S_S8x4352x128 : S_.BroadcastsInDim S8x4352x128 (![] : Fin 0 → Fin S8x4352x128.rank)

variable [Facts]

def fn {F : FTy → Type} [FloatOps F] (main_arg0 : FVec F S8x4096x192 .f32) (main_arg1 : FVec F S8x4352x192 .f32) (main_arg2 : FVec F S8x4352x128 .f32) : IVec S8x4096x192 1 × IVec S8x4352x192 1 × IVec S8x4352x128 1 :=
  let main_v0 : FVec F S8x4096x192 .f32 := Host.absf main_arg0
  let main_cst : FVec F S_ .f32 := constant S_ .f32 0x7F800000#32
  let main_v1 : FVec F S8x4096x192 .f32 := broadcastInDim S8x4096x192 ![] bcast_S_S8x4096x192 main_cst
  let main_v2 : IVec S8x4096x192 1 := cmpf .olt main_v0 main_v1
  let main_v3 : FVec F S8x4352x192 .f32 := Host.absf main_arg1
  let main_cst_0 : FVec F S_ .f32 := constant S_ .f32 0x7F800000#32
  let main_v4 : FVec F S8x4352x192 .f32 := broadcastInDim S8x4352x192 ![] bcast_S_S8x4352x192 main_cst_0
  let main_v5 : IVec S8x4352x192 1 := cmpf .olt main_v3 main_v4
  let main_v6 : FVec F S8x4352x128 .f32 := Host.absf main_arg2
  let main_cst_1 : FVec F S_ .f32 := constant S_ .f32 0x7F800000#32
  let main_v7 : FVec F S8x4352x128 .f32 := broadcastInDim S8x4352x128 ![] bcast_S_S8x4352x128 main_cst_1
  let main_v8 : IVec S8x4352x128 1 := cmpf .olt main_v6 main_v7
  (main_v2, main_v5, main_v8)
-- ==== Pre_finite_ct.lean ====
abbrev S8x4096x192 : Shape := ⟨3, ![8, 4096, 192]⟩
abbrev S8x4352x192 : Shape := ⟨3, ![8, 4352, 192]⟩
abbrev S8x4352x128 : Shape := ⟨3, ![8, 4352, 128]⟩
abbrev S8x4096x128 : Shape := ⟨3, ![8, 4096, 128]⟩
abbrev S_ : Shape := ⟨0, ![]⟩

class Facts : Prop where
  bcast_S_S8x4096x192 : S_.BroadcastsInDim S8x4096x192 (![] : Fin 0 → Fin S8x4096x192.rank)
  bcast_S_S8x4352x192 : S_.BroadcastsInDim S8x4352x192 (![] : Fin 0 → Fin S8x4352x192.rank)
  bcast_S_S8x4352x128 : S_.BroadcastsInDim S8x4352x128 (![] : Fin 0 → Fin S8x4352x128.rank)
  bcast_S_S8x4096x128 : S_.BroadcastsInDim S8x4096x128 (![] : Fin 0 → Fin S8x4096x128.rank)

variable [Facts]

def fn {F : FTy → Type} [FloatOps F] (main_arg0 : FVec F S8x4096x192 .f32) (main_arg1 : FVec F S8x4352x192 .f32) (main_arg2 : FVec F S8x4352x128 .f32) (main_arg3 : FVec F S8x4096x128 .f32) : IVec S8x4096x192 1 × IVec S8x4352x192 1 × IVec S8x4352x128 1 × IVec S8x4096x128 1 :=
  let main_v0 : FVec F S8x4096x192 .f32 := Host.absf main_arg0
  let main_cst : FVec F S_ .f32 := constant S_ .f32 0x7F800000#32
  let main_v1 : FVec F S8x4096x192 .f32 := broadcastInDim S8x4096x192 ![] bcast_S_S8x4096x192 main_cst
  let main_v2 : IVec S8x4096x192 1 := cmpf .olt main_v0 main_v1
  let main_v3 : FVec F S8x4352x192 .f32 := Host.absf main_arg1
  let main_cst_0 : FVec F S_ .f32 := constant S_ .f32 0x7F800000#32
  let main_v4 : FVec F S8x4352x192 .f32 := broadcastInDim S8x4352x192 ![] bcast_S_S8x4352x192 main_cst_0
  let main_v5 : IVec S8x4352x192 1 := cmpf .olt main_v3 main_v4
  let main_v6 : FVec F S8x4352x128 .f32 := Host.absf main_arg2
  let main_cst_1 : FVec F S_ .f32 := constant S_ .f32 0x7F800000#32
  let main_v7 : FVec F S8x4352x128 .f32 := broadcastInDim S8x4352x128 ![] bcast_S_S8x4352x128 main_cst_1
  let main_v8 : IVec S8x4352x128 1 := cmpf .olt main_v6 main_v7
  let main_v9 : FVec F S8x4096x128 .f32 := Host.absf main_arg3
  let main_cst_2 : FVec F S_ .f32 := constant S_ .f32 0x7F800000#32
  let main_v10 : FVec F S8x4096x128 .f32 := broadcastInDim S8x4096x128 ![] bcast_S_S8x4096x128 main_cst_2
  let main_v11 : IVec S8x4096x128 1 := cmpf .olt main_v9 main_v10
  (main_v2, main_v5, main_v8, main_v11)
-- ==== AttnDq.lean ====
abbrev S8x4096x192 : Shape := ⟨3, ![8, 4096, 192]⟩
abbrev S8x4352x192 : Shape := ⟨3, ![8, 4352, 192]⟩
abbrev S8x4352x128 : Shape := ⟨3, ![8, 4352, 128]⟩
abbrev S8x4096x128 : Shape := ⟨3, ![8, 4096, 128]⟩
abbrev S8x4096x4352 : Shape := ⟨3, ![8, 4096, 4352]⟩
abbrev S_ : Shape := ⟨0, ![]⟩
abbrev S8x4096 : Shape := ⟨2, ![8, 4096]⟩
abbrev S8x4096x1 : Shape := ⟨3, ![8, 4096, 1]⟩
abbrev S1x256x192 : Shape := ⟨3, ![1, 256, 192]⟩
abbrev S1x4352x192 : Shape := ⟨3, ![1, 4352, 192]⟩
abbrev S1x4352x128 : Shape := ⟨3, ![1, 4352, 128]⟩
abbrev S1x256x128 : Shape := ⟨3, ![1, 256, 128]⟩
abbrev S1x256x1 : Shape := ⟨3, ![1, 256, 1]⟩
abbrev S4352x192 : Shape := ⟨2, ![4352, 192]⟩
abbrev S4352x128 : Shape := ⟨2, ![4352, 128]⟩
abbrev S256x192 : Shape := ⟨2, ![256, 192]⟩
abbrev S256x4352 : Shape := ⟨2, ![256, 4352]⟩
abbrev S256x1 : Shape := ⟨2, ![256, 1]⟩
abbrev S256x128 : Shape := ⟨2, ![256, 128]⟩

abbrev nBuf : Space → Nat
  | .hbm => 43
  | .vmem => 16
  | .smem => 0
  | _ => 0

abbrev bufTy : (tb : Table) → Fin (tcTables nBuf tb) → BufTy
  | .hbm, ⟨0, _⟩ => ⟨S8x4096x192, .f32⟩
  | .hbm, ⟨1, _⟩ => ⟨S8x4352x192, .f32⟩
  | .hbm, ⟨2, _⟩ => ⟨S8x4352x128, .f32⟩
  | .hbm, ⟨3, _⟩ => ⟨S8x4096x128, .f32⟩
  | .hbm, ⟨4, _⟩ => ⟨S8x4096x4352, .f32⟩
  | .hbm, ⟨5, _⟩ => ⟨S_, .f32⟩
  | .hbm, ⟨6, _⟩ => ⟨S8x4096x4352, .f32⟩
  | .hbm, ⟨7, _⟩ => ⟨S8x4096x4352, .f32⟩
  | .hbm, ⟨8, _⟩ => ⟨S_, .f32⟩
  | .hbm, ⟨9, _⟩ => ⟨S8x4096, .f32⟩
  | .hbm, ⟨10, _⟩ => ⟨S_, .f32⟩
  | .hbm, ⟨11, _⟩ => ⟨S8x4096, .f32⟩
  | .hbm, ⟨12, _⟩ => ⟨S8x4096, .f32⟩
  | .hbm, ⟨13, _⟩ => ⟨S8x4096x1, .f32⟩
  | .hbm, ⟨14, _⟩ => ⟨S8x4096x4352, .f32⟩
  | .hbm, ⟨15, _⟩ => ⟨S8x4096x4352, .f32⟩
  | .hbm, ⟨16, _⟩ => ⟨S8x4096x4352, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S8x4096x4352, .f32⟩
  | .hbm, ⟨21, _⟩ => ⟨S8x4096x4352, .f32⟩
  | .hbm, ⟨22, _⟩ => ⟨S8x4096x128, .f32⟩
  | .hbm, ⟨23, _⟩ => ⟨S8x4096x4352, .f32⟩
  | .hbm, ⟨24, _⟩ => ⟨S_, .f32⟩
  | .hbm, ⟨25, _⟩ => ⟨S8x4096x4352, .f32⟩
  | .hbm, ⟨26, _⟩ => ⟨S8x4096x4352, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S8x4096x4352, .f32⟩
  | .hbm, ⟨31, _⟩ => ⟨S8x4096x4352, .f32⟩
  | .hbm, ⟨32, _⟩ => ⟨S8x4096x4352, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x1, .f32⟩
  | .hbm, ⟨37, _⟩ => ⟨S8x4096x1, .f32⟩
  | .hbm, ⟨38, _⟩ => ⟨S8x4096x128, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S8x4096x192, .f32⟩
  | .local _ .vmem, ⟨0, _⟩ => ⟨S1x256x192, .f32⟩
  | .local _ .vmem, ⟨1, _⟩ => ⟨S1x256x192, .f32⟩
  | .local _ .vmem, ⟨2, _⟩ => ⟨S1x4352x192, .f32⟩
  | .local _ .vmem, ⟨3, _⟩ => ⟨S1x4352x192, .f32⟩
  | .local _ .vmem, ⟨4, _⟩ => ⟨S1x4352x128, .f32⟩
  | .local _ .vmem, ⟨5, _⟩ => ⟨S1x4352x128, .f32⟩
  | .local _ .vmem, ⟨6, _⟩ => ⟨S1x256x128, .f32⟩
  | .local _ .vmem, ⟨7, _⟩ => ⟨S1x256x128, .f32⟩
  | .local _ .vmem, ⟨8, _⟩ => ⟨S1x256x1, .f32⟩
  | .local _ .vmem, ⟨9, _⟩ => ⟨S1x256x1, .f32⟩
  | .local _ .vmem, ⟨10, _⟩ => ⟨S1x256x1, .f32⟩
  | .local _ .vmem, ⟨11, _⟩ => ⟨S1x256x1, .f32⟩
  | .local _ .vmem, ⟨12, _⟩ => ⟨S1x256x192, .f32⟩
  | .local _ .vmem, ⟨13, _⟩ => ⟨S1x256x192, .f32⟩
  | .local _ .vmem, ⟨14, _⟩ => ⟨S4352x192, .bf16⟩
  | .local _ .vmem, ⟨15, _⟩ => ⟨S4352x128, .bf16⟩
  | _, _ => ⟨S8x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4352x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefAttnDqIdeal.lean ====
abbrev S8x4096x192 : Shape := ⟨3, ![8, 4096, 192]⟩
abbrev S8x4352x192 : Shape := ⟨3, ![8, 4352, 192]⟩
abbrev S8x4352x128 : Shape := ⟨3, ![8, 4352, 128]⟩
abbrev S8x4096x128 : Shape := ⟨3, ![8, 4096, 128]⟩
abbrev S8x4096x4352 : Shape := ⟨3, ![8, 4096, 4352]⟩
abbrev S_ : Shape := ⟨0, ![]⟩
abbrev S8x4096 : Shape := ⟨2, ![8, 4096]⟩
abbrev S8x4096x1 : Shape := ⟨3, ![8, 4096, 1]⟩
abbrev S8x128x4352 : Shape := ⟨3, ![8, 128, 4352]⟩

abbrev nBuf : Space → Nat
  | .hbm => 69
  | .vmem => 0
  | .smem => 0
  | _ => 0

abbrev bufTy : (tb : Table) → Fin (tcTables nBuf tb) → BufTy
  | .hbm, ⟨0, _⟩ => ⟨S8x4096x192, .f32⟩
  | .hbm, ⟨1, _⟩ => ⟨S8x4352x192, .f32⟩
  | .hbm, ⟨2, _⟩ => ⟨S8x4352x128, .f32⟩
  | .hbm, ⟨3, _⟩ => ⟨S8x4096x128, .f32⟩
  | .hbm, ⟨4, _⟩ => ⟨S8x4096x4352, .f32⟩
  | .hbm, ⟨5, _⟩ => ⟨S_, .f32⟩
  | .hbm, ⟨6, _⟩ => ⟨S8x4096x4352, .f32⟩
  | .hbm, ⟨7, _⟩ => ⟨S8x4096x4352, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S8x4096x4352, .f32⟩
  | .hbm, ⟨12, _⟩ => ⟨S8x4096x4352, .i1⟩
  | .hbm, ⟨13, _⟩ => ⟨S8x4096x4352, .f32⟩
  | .hbm, ⟨14, _⟩ => ⟨S_, .f32⟩
  | .hbm, ⟨15, _⟩ => ⟨S8x4096, .f32⟩
  | .hbm, ⟨16, _⟩ => ⟨S_, .f32⟩
  | .hbm, ⟨17, _⟩ => ⟨S8x4096, .f32⟩
  | .hbm, ⟨18, _⟩ => ⟨S8x4096, .f32⟩
  | .hbm, ⟨19, _⟩ => ⟨S_, .f32⟩
  | .hbm, ⟨20, _⟩ => ⟨S8x4096, .f32⟩
  | .hbm, ⟨21, _⟩ => ⟨S8x4096, .i1⟩
  | .hbm, ⟨22, _⟩ => ⟨S_, .f32⟩
  | .hbm, ⟨23, _⟩ => ⟨S8x4096, .f32⟩
  | .hbm, ⟨24, _⟩ => ⟨S8x4096, .i1⟩
  | .hbm, ⟨25, _⟩ => ⟨S_, .f32⟩
  | .hbm, ⟨26, _⟩ => ⟨S8x4096, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .f32⟩
  | .hbm, ⟨32, _⟩ => ⟨S8x4096, .f32⟩
  | .hbm, ⟨33, _⟩ => ⟨S8x4096x1, .f32⟩
  | .hbm, ⟨34, _⟩ => ⟨S8x4096x4352, .f32⟩
  | .hbm, ⟨35, _⟩ => ⟨S8x4096x4352, .f32⟩
  | .hbm, ⟨36, _⟩ => ⟨S8x4096x4352, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S8x4096x4352, .f32⟩
  | .hbm, ⟨41, _⟩ => ⟨S8x4096x4352, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x128, .f32⟩
  | .hbm, ⟨47, _⟩ => ⟨S8x128x4352, .f32⟩
  | .hbm, ⟨48, _⟩ => ⟨S8x4352x128, .f32⟩
  | .hbm, ⟨49, _⟩ => ⟨S8x4096x4352, .f32⟩
  | .hbm, ⟨50, _⟩ => ⟨S8x4096x4352, .f32⟩
  | .hbm, ⟨51, _⟩ => ⟨S8x4096x4352, .f32⟩
  | .hbm, ⟨52, _⟩ => ⟨S8x4096x4352, .f32⟩
  | .hbm, ⟨53, _⟩ => ⟨S_, .f32⟩
  | .hbm, ⟨54, _⟩ => ⟨S8x4096, .f32⟩
  | .hbm, ⟨55, _⟩ => ⟨S8x4096x1, .f32⟩
  | .hbm, ⟨56, _⟩ => ⟨S8x4096x1, .f32⟩
  | .hbm, ⟨57, _⟩ => ⟨S8x4096x4352, .f32⟩
  | .hbm, ⟨58, _⟩ => ⟨S8x4096x4352, .f32⟩
  | .hbm, ⟨59, _⟩ => ⟨S_, .f32⟩
  | .hbm, ⟨60, _⟩ => ⟨S8x4096, .f32⟩
  | .hbm, ⟨61, _⟩ => ⟨S8x4096x4352, .f32⟩
  | .hbm, ⟨62, _⟩ => ⟨S8x4096x4352, .f32⟩
  | .hbm, ⟨63, _⟩ => ⟨S8x4096x4352, .f32⟩
  | .hbm, ⟨64, _⟩ => ⟨S_, .f32⟩
  | .hbm, ⟨65, _⟩ => ⟨S8x4096x4352, .f32⟩
  | .hbm, ⟨66, _⟩ => ⟨S8x4096x4352, .f32⟩
  | .hbm, ⟨67, _⟩ => ⟨S8x4352x192, .f32⟩
  | .hbm, ⟨68, _⟩ => ⟨S8x4096x192, .f32⟩
  | _, _ => ⟨S8x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== AttnDkv.lean ====
abbrev S8x4096x192 : Shape := ⟨3, ![8, 4096, 192]⟩
abbrev S8x4352x192 : Shape := ⟨3, ![8, 4352, 192]⟩
abbrev S8x4352x128 : Shape := ⟨3, ![8, 4352, 128]⟩
abbrev S8x4096x128 : Shape := ⟨3, ![8, 4096, 128]⟩
abbrev S8x4096x4352 : Shape := ⟨3, ![8, 4096, 4352]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S1x4096x192 : Shape := ⟨3, ![1, 4096, 192]⟩
abbrev S1x256x192 : Shape := ⟨3, ![1, 256, 192]⟩
abbrev S1x256x128 : Shape := ⟨3, ![1, 256, 128]⟩
abbrev S1x4096x128 : Shape := ⟨3, ![1, 4096, 128]⟩
abbrev S1x1x4096 : Shape := ⟨3, ![1, 1, 4096]⟩
abbrev S4096x192 : Shape := ⟨2, ![4096, 192]⟩
abbrev S4096x128 : Shape := ⟨2, ![4096, 128]⟩
abbrev S256x192 : Shape := ⟨2, ![256, 192]⟩
abbrev S256x4096 : Shape := ⟨2, ![256, 4096]⟩
abbrev S1x4096 : Shape := ⟨2, ![1, 4096]⟩
abbrev S256x128 : Shape := ⟨2, ![256, 128]⟩

abbrev nBuf : Space → Nat
  | .hbm => 46
  | .vmem => 18
  | .smem => 0
  | _ => 0

abbrev bufTy : (tb : Table) → Fin (tcTables nBuf tb) → BufTy
  | .hbm, ⟨0, _⟩ => ⟨S8x4096x192, .f32⟩
  | .hbm, ⟨1, _⟩ => ⟨S8x4352x192, .f32⟩
  | .hbm, ⟨2, _⟩ => ⟨S8x4352x128, .f32⟩
  | .hbm, ⟨3, _⟩ => ⟨S8x4096x128, .f32⟩
  | .hbm, ⟨4, _⟩ => ⟨S8x4096x4352, .f32⟩
  | .hbm, ⟨5, _⟩ => ⟨S_, .f32⟩
  | .hbm, ⟨6, _⟩ => ⟨S8x4096x4352, .f32⟩
  | .hbm, ⟨7, _⟩ => ⟨S8x4096x4352, .f32⟩
  | .hbm, ⟨8, _⟩ => ⟨S_, .f32⟩
  | .hbm, ⟨9, _⟩ => ⟨S8x4096, .f32⟩
  | .hbm, ⟨10, _⟩ => ⟨S_, .f32⟩
  | .hbm, ⟨11, _⟩ => ⟨S8x4096, .f32⟩
  | .hbm, ⟨12, _⟩ => ⟨S8x4096, .f32⟩
  | .hbm, ⟨13, _⟩ => ⟨S8x4096x1, .f32⟩
  | .hbm, ⟨14, _⟩ => ⟨S8x4096x4352, .f32⟩
  | .hbm, ⟨15, _⟩ => ⟨S8x4096x4352, .f32⟩
  | .hbm, ⟨16, _⟩ => ⟨S8x4096x4352, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S8x4096x4352, .f32⟩
  | .hbm, ⟨21, _⟩ => ⟨S8x4096x4352, .f32⟩
  | .hbm, ⟨22, _⟩ => ⟨S8x4096x128, .f32⟩
  | .hbm, ⟨23, _⟩ => ⟨S8x4096x4352, .f32⟩
  | .hbm, ⟨24, _⟩ => ⟨S_, .f32⟩
  | .hbm, ⟨25, _⟩ => ⟨S8x4096x4352, .f32⟩
  | .hbm, ⟨26, _⟩ => ⟨S8x4096x4352, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S8x4096x4352, .f32⟩
  | .hbm, ⟨31, _⟩ => ⟨S8x4096x4352, .f32⟩
  | .hbm, ⟨32, _⟩ => ⟨S8x4096x4352, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x1, .f32⟩
  | .hbm, ⟨37, _⟩ => ⟨S8x4096x1, .f32⟩
  | .hbm, ⟨38, _⟩ => ⟨S8x4096x128, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S8x1x4096, .f32⟩
  | .hbm, ⟨43, _⟩ => ⟨S8x1x4096, .f32⟩
  | .hbm, ⟨44, _⟩ => ⟨S8x4352x192, .f32⟩
  | .hbm, ⟨45, _⟩ => ⟨S8x4352x128, .f32⟩
  | .local _ .vmem, ⟨0, _⟩ => ⟨S1x4096x192, .f32⟩
  | .local _ .vmem, ⟨1, _⟩ => ⟨S1x4096x192, .f32⟩
  | .local _ .vmem, ⟨2, _⟩ => ⟨S1x256x192, .f32⟩
  | .local _ .vmem, ⟨3, _⟩ => ⟨S1x256x192, .f32⟩
  | .local _ .vmem, ⟨4, _⟩ => ⟨S1x256x128, .f32⟩
  | .local _ .vmem, ⟨5, _⟩ => ⟨S1x256x128, .f32⟩
  | .local _ .vmem, ⟨6, _⟩ => ⟨S1x4096x128, .f32⟩
  | .local _ .vmem, ⟨7, _⟩ => ⟨S1x4096x128, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x256x192, .f32⟩
  | .local _ .vmem, ⟨13, _⟩ => ⟨S1x256x192, .f32⟩
  | .local _ .vmem, ⟨14, _⟩ => ⟨S1x256x128, .f32⟩
  | .local _ .vmem, ⟨15, _⟩ => ⟨S1x256x128, .f32⟩
  | .local _ .vmem, ⟨16, _⟩ => ⟨S4096x192, .bf16⟩
  | .local _ .vmem, ⟨17, _⟩ => ⟨S4096x128, .bf16⟩
  | _, _ => ⟨S8x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefAttnDkvIdeal.lean ====
abbrev S8x4096x192 : Shape := ⟨3, ![8, 4096, 192]⟩
abbrev S8x4352x192 : Shape := ⟨3, ![8, 4352, 192]⟩
abbrev S8x4352x128 : Shape := ⟨3, ![8, 4352, 128]⟩
abbrev S8x4096x128 : Shape := ⟨3, ![8, 4096, 128]⟩
abbrev S8x4096x4352 : Shape := ⟨3, ![8, 4096, 4352]⟩
abbrev S_ : Shape := ⟨0, ![]⟩
abbrev S8x4096 : Shape := ⟨2, ![8, 4096]⟩
abbrev S8x4096x1 : Shape := ⟨3, ![8, 4096, 1]⟩
abbrev S8x128x4352 : Shape := ⟨3, ![8, 128, 4352]⟩

abbrev nBuf : Space → Nat
  | .hbm => 69
  | .vmem => 0
  | .smem => 0
  | _ => 0

abbrev bufTy : (tb : Table) → Fin (tcTables nBuf tb) → BufTy
  | .hbm, ⟨0, _⟩ => ⟨S8x4096x192, .f32⟩
  | .hbm, ⟨1, _⟩ => ⟨S8x4352x192, .f32⟩
  | .hbm, ⟨2, _⟩ => ⟨S8x4352x128, .f32⟩
  | .hbm, ⟨3, _⟩ => ⟨S8x4096x128, .f32⟩
  | .hbm, ⟨4, _⟩ => ⟨S8x4096x4352, .f32⟩
  | .hbm, ⟨5, _⟩ => ⟨S_, .f32⟩
  | .hbm, ⟨6, _⟩ => ⟨S8x4096x4352, .f32⟩
  | .hbm, ⟨7, _⟩ => ⟨S8x4096x4352, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S8x4096x4352, .f32⟩
  | .hbm, ⟨12, _⟩ => ⟨S8x4096x4352, .i1⟩
  | .hbm, ⟨13, _⟩ => ⟨S8x4096x4352, .f32⟩
  | .hbm, ⟨14, _⟩ => ⟨S_, .f32⟩
  | .hbm, ⟨15, _⟩ => ⟨S8x4096, .f32⟩
  | .hbm, ⟨16, _⟩ => ⟨S_, .f32⟩
  | .hbm, ⟨17, _⟩ => ⟨S8x4096, .f32⟩
  | .hbm, ⟨18, _⟩ => ⟨S8x4096, .f32⟩
  | .hbm, ⟨19, _⟩ => ⟨S_, .f32⟩
  | .hbm, ⟨20, _⟩ => ⟨S8x4096, .f32⟩
  | .hbm, ⟨21, _⟩ => ⟨S8x4096, .i1⟩
  | .hbm, ⟨22, _⟩ => ⟨S_, .f32⟩
  | .hbm, ⟨23, _⟩ => ⟨S8x4096, .f32⟩
  | .hbm, ⟨24, _⟩ => ⟨S8x4096, .i1⟩
  | .hbm, ⟨25, _⟩ => ⟨S_, .f32⟩
  | .hbm, ⟨26, _⟩ => ⟨S8x4096, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .f32⟩
  | .hbm, ⟨32, _⟩ => ⟨S8x4096, .f32⟩
  | .hbm, ⟨33, _⟩ => ⟨S8x4096x1, .f32⟩
  | .hbm, ⟨34, _⟩ => ⟨S8x4096x4352, .f32⟩
  | .hbm, ⟨35, _⟩ => ⟨S8x4096x4352, .f32⟩
  | .hbm, ⟨36, _⟩ => ⟨S8x4096x4352, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S8x4096x4352, .f32⟩
  | .hbm, ⟨41, _⟩ => ⟨S8x4096x4352, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x128, .f32⟩
  | .hbm, ⟨47, _⟩ => ⟨S8x128x4352, .f32⟩
  | .hbm, ⟨48, _⟩ => ⟨S8x4352x128, .f32⟩
  | .hbm, ⟨49, _⟩ => ⟨S8x4096x4352, .f32⟩
  | .hbm, ⟨50, _⟩ => ⟨S8x4096x4352, .f32⟩
  | .hbm, ⟨51, _⟩ => ⟨S8x4096x4352, .f32⟩
  | .hbm, ⟨52, _⟩ => ⟨S8x4096x4352, .f32⟩
  | .hbm, ⟨53, _⟩ => ⟨S_, .f32⟩
  | .hbm, ⟨54, _⟩ => ⟨S8x4096, .f32⟩
  | .hbm, ⟨55, _⟩ => ⟨S8x4096x1, .f32⟩
  | .hbm, ⟨56, _⟩ => ⟨S8x4096x1, .f32⟩
  | .hbm, ⟨57, _⟩ => ⟨S8x4096x4352, .f32⟩
  | .hbm, ⟨58, _⟩ => ⟨S8x4096x4352, .f32⟩
  | .hbm, ⟨59, _⟩ => ⟨S_, .f32⟩
  | .hbm, ⟨60, _⟩ => ⟨S8x4096, .f32⟩
  | .hbm, ⟨61, _⟩ => ⟨S8x4096x4352, .f32⟩
  | .hbm, ⟨62, _⟩ => ⟨S8x4096x4352, .f32⟩
  | .hbm, ⟨63, _⟩ => ⟨S8x4096x4352, .f32⟩
  | .hbm, ⟨64, _⟩ => ⟨S_, .f32⟩
  | .hbm, ⟨65, _⟩ => ⟨S8x4096x4352, .f32⟩
  | .hbm, ⟨66, _⟩ => ⟨S8x4096x4352, .f32⟩
  | .hbm, ⟨67, _⟩ => ⟨S8x4352x192, .f32⟩
  | .hbm, ⟨68, _⟩ => ⟨S8x4096x192, .f32⟩
  | _, _ => ⟨S8x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Attn.lean ====
abbrev S8x4096x192 : Shape := ⟨3, ![8, 4096, 192]⟩
abbrev S8x4352x192 : Shape := ⟨3, ![8, 4352, 192]⟩
abbrev S8x4352x128 : Shape := ⟨3, ![8, 4352, 128]⟩
abbrev S8x4096x128 : Shape := ⟨3, ![8, 4096, 128]⟩
abbrev S8x4096x1 : Shape := ⟨3, ![8, 4096, 1]⟩
abbrev S1x256x192 : Shape := ⟨3, ![1, 256, 192]⟩
abbrev S1x4352x192 : Shape := ⟨3, ![1, 4352, 192]⟩
abbrev S1x4352x128 : Shape := ⟨3, ![1, 4352, 128]⟩
abbrev S1x256x128 : Shape := ⟨3, ![1, 256, 128]⟩
abbrev S1x256x1 : Shape := ⟨3, ![1, 256, 1]⟩
abbrev S4352x192 : Shape := ⟨2, ![4352, 192]⟩
abbrev S4352x128 : Shape := ⟨2, ![4352, 128]⟩
abbrev S256x192 : Shape := ⟨2, ![256, 192]⟩
abbrev S256x4352 : Shape := ⟨2, ![256, 4352]⟩
abbrev S256 : Shape := ⟨1, ![256]⟩
abbrev S256x1 : Shape := ⟨2, ![256, 1]⟩
abbrev S256x128 : Shape := ⟨2, ![256, 128]⟩

abbrev nBuf : Space → Nat
  | .hbm => 5
  | .vmem => 12
  | .smem => 0
  | _ => 0

abbrev bufTy : (tb : Table) → Fin (tcTables nBuf tb) → BufTy
  | .hbm, ⟨0, _⟩ => ⟨S8x4096x192, .f32⟩
  | .hbm, ⟨1, _⟩ => ⟨S8x4352x192, .f32⟩
  | .hbm, ⟨2, _⟩ => ⟨S8x4352x128, .f32⟩
  | .hbm, ⟨3, _⟩ => ⟨S8x4096x128, .f32⟩
  | .hbm, ⟨4, _⟩ => ⟨S8x4096x1, .f32⟩
  | .local _ .vmem, ⟨0, _⟩ => ⟨S1x256x192, .f32⟩
  | .local _ .vmem, ⟨1, _⟩ => ⟨S1x256x192, .f32⟩
  | .local _ .vmem, ⟨2, _⟩ => ⟨S1x4352x192, .f32⟩
  | .local _ .vmem, ⟨3, _⟩ => ⟨S1x4352x192, .f32⟩
  | .local _ .vmem, ⟨4, _⟩ => ⟨S1x4352x128, .f32⟩
  | .local _ .vmem, ⟨5, _⟩ => ⟨S1x4352x128, .f32⟩
  | .local _ .vmem, ⟨6, _⟩ => ⟨S1x256x128, .f32⟩
  | .local _ .vmem, ⟨7, _⟩ => ⟨S1x256x128, .f32⟩
  | .local _ .vmem, ⟨8, _⟩ => ⟨S1x256x1, .f32⟩
  | .local _ .vmem, ⟨9, _⟩ => ⟨S1x256x1, .f32⟩
  | .local _ .vmem, ⟨10, _⟩ => ⟨S4352x192, .bf16⟩
  | .local _ .vmem, ⟨11, _⟩ => ⟨S4352x128, .bf16⟩
  | _, _ => ⟨S8x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4352x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefAttnIdeal.lean ====
abbrev S8x4096x192 : Shape := ⟨3, ![8, 4096, 192]⟩
abbrev S8x4352x192 : Shape := ⟨3, ![8, 4352, 192]⟩
abbrev S8x4352x128 : Shape := ⟨3, ![8, 4352, 128]⟩
abbrev S8x4096x4352 : Shape := ⟨3, ![8, 4096, 4352]⟩
abbrev S_ : Shape := ⟨0, ![]⟩
abbrev S8x4096 : Shape := ⟨2, ![8, 4096]⟩
abbrev S8x4096x1 : Shape := ⟨3, ![8, 4096, 1]⟩
abbrev S8x4096x128 : Shape := ⟨3, ![8, 4096, 128]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x192, .f32⟩
  | .hbm, ⟨1, _⟩ => ⟨S8x4352x192, .f32⟩
  | .hbm, ⟨2, _⟩ => ⟨S8x4352x128, .f32⟩
  | .hbm, ⟨3, _⟩ => ⟨S8x4096x4352, .f32⟩
  | .hbm, ⟨4, _⟩ => ⟨S_, .f32⟩
  | .hbm, ⟨5, _⟩ => ⟨S8x4096x4352, .f32⟩
  | .hbm, ⟨6, _⟩ => ⟨S8x4096x4352, .f32⟩
  | .hbm, ⟨7, _⟩ => ⟨S_, .f32⟩
  | .hbm, ⟨8, _⟩ => ⟨S8x4096, .f32⟩
  | .hbm, ⟨9, _⟩ => ⟨S_, .f32⟩
  | .hbm, ⟨10, _⟩ => ⟨S8x4096, .f32⟩
  | .hbm, ⟨11, _⟩ => ⟨S8x4096, .f32⟩
  | .hbm, ⟨12, _⟩ => ⟨S8x4096x1, .f32⟩
  | .hbm, ⟨13, _⟩ => ⟨S8x4096x4352, .f32⟩
  | .hbm, ⟨14, _⟩ => ⟨S8x4096x4352, .f32⟩
  | .hbm, ⟨15, _⟩ => ⟨S8x4096x4352, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S8x4096x4352, .f32⟩
  | .hbm, ⟨20, _⟩ => ⟨S8x4096x4352, .f32⟩
  | .hbm, ⟨21, _⟩ => ⟨S8x4096x128, .f32⟩
  | .hbm, ⟨22, _⟩ => ⟨S8x4096x4352, .f32⟩
  | .hbm, ⟨23, _⟩ => ⟨S_, .f32⟩
  | .hbm, ⟨24, _⟩ => ⟨S8x4096x4352, .f32⟩
  | .hbm, ⟨25, _⟩ => ⟨S8x4096x4352, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x4352, .f32⟩
  | .hbm, ⟨30, _⟩ => ⟨S8x4096x4352, .f32⟩
  | .hbm, ⟨31, _⟩ => ⟨S8x4096x4352, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x1, .f32⟩
  | .hbm, ⟨36, _⟩ => ⟨S8x4096x1, .f32⟩
  | _, _ => ⟨S8x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== InFwd.lean ====
abbrev S4352x2048 : Shape := ⟨2, ![4352, 2048]⟩
abbrev S2048x12160 : Shape := ⟨2, ![2048, 12160]⟩
abbrev S4352x12160 : Shape := ⟨2, ![4352, 12160]⟩
abbrev S1088x2048 : Shape := ⟨2, ![1088, 2048]⟩
abbrev S2048x640 : Shape := ⟨2, ![2048, 640]⟩
abbrev S1088x640 : Shape := ⟨2, ![1088, 640]⟩

abbrev nBuf : Space → Nat
  | .hbm => 4
  | .vmem => 9
  | .smem => 0
  | _ => 0

abbrev bufTy : (tb : Table) → Fin (tcTables nBuf tb) → BufTy
  | .hbm, ⟨0, _⟩ => ⟨S4352x2048, .f32⟩
  | .hbm, ⟨1, _⟩ => ⟨S2048x12160, .f32⟩
  | .hbm, ⟨2, _⟩ => ⟨S4352x12160, .f32⟩
  | .hbm, ⟨3, _⟩ => ⟨S4352x2048, .bf16⟩
  | .local _ .vmem, ⟨0, _⟩ => ⟨S1088x2048, .f32⟩
  | .local _ .vmem, ⟨1, _⟩ => ⟨S1088x2048, .f32⟩
  | .local _ .vmem, ⟨2, _⟩ => ⟨S2048x640, .f32⟩
  | .local _ .vmem, ⟨3, _⟩ => ⟨S2048x640, .f32⟩
  | .local _ .vmem, ⟨4, _⟩ => ⟨S1088x640, .f32⟩
  | .local _ .vmem, ⟨5, _⟩ => ⟨S1088x640, .f32⟩
  | .local _ .vmem, ⟨6, _⟩ => ⟨S1088x2048, .bf16⟩
  | .local _ .vmem, ⟨7, _⟩ => ⟨S1088x2048, .bf16⟩
  | .local _ .vmem, ⟨8, _⟩ => ⟨S1088x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 19], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== InFwdIdeal.lean ====
abbrev S4352x2048 : Shape := ⟨2, ![4352, 2048]⟩
abbrev S2048x12160 : Shape := ⟨2, ![2048, 12160]⟩
abbrev S4352x12160 : Shape := ⟨2, ![4352, 12160]⟩
abbrev S1088x2048 : Shape := ⟨2, ![1088, 2048]⟩
abbrev S2048x640 : Shape := ⟨2, ![2048, 640]⟩
abbrev S1088x640 : Shape := ⟨2, ![1088, 640]⟩

abbrev nBuf : Space → Nat
  | .hbm => 4
  | .vmem => 9
  | .smem => 0
  | _ => 0

abbrev bufTy : (tb : Table) → Fin (tcTables nBuf tb) → BufTy
  | .hbm, ⟨0, _⟩ => ⟨S4352x2048, .f32⟩
  | .hbm, ⟨1, _⟩ => ⟨S2048x12160, .f32⟩
  | .hbm, ⟨2, _⟩ => ⟨S4352x12160, .f32⟩
  | .hbm, ⟨3, _⟩ => ⟨S4352x2048, .bf16⟩
  | .local _ .vmem, ⟨0, _⟩ => ⟨S1088x2048, .f32⟩
  | .local _ .vmem, ⟨1, _⟩ => ⟨S1088x2048, .f32⟩
  | .local _ .vmem, ⟨2, _⟩ => ⟨S2048x640, .f32⟩
  | .local _ .vmem, ⟨3, _⟩ => ⟨S2048x640, .f32⟩
  | .local _ .vmem, ⟨4, _⟩ => ⟨S1088x640, .f32⟩
  | .local _ .vmem, ⟨5, _⟩ => ⟨S1088x640, .f32⟩
  | .local _ .vmem, ⟨6, _⟩ => ⟨S1088x2048, .bf16⟩
  | .local _ .vmem, ⟨7, _⟩ => ⟨S1088x2048, .bf16⟩
  | .local _ .vmem, ⟨8, _⟩ => ⟨S1088x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 19], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== RefInFwdIdeal.lean ====
abbrev S4352x2048 : Shape := ⟨2, ![4352, 2048]⟩
abbrev S2048x12160 : Shape := ⟨2, ![2048, 12160]⟩
abbrev S4352x12160 : Shape := ⟨2, ![4352, 12160]⟩

abbrev nBuf : Space → Nat
  | .hbm => 4
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x12160, .f32⟩
  | .hbm, ⟨2, _⟩ => ⟨S4352x12160, .f32⟩
  | .hbm, ⟨3, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UpFwd.lean ====
abbrev S4352x2048 : Shape := ⟨2, ![4352, 2048]⟩
abbrev S2048x5632 : Shape := ⟨2, ![2048, 5632]⟩
abbrev S4352x5632 : Shape := ⟨2, ![4352, 5632]⟩
abbrev S1088x2048 : Shape := ⟨2, ![1088, 2048]⟩
abbrev S2048x512 : Shape := ⟨2, ![2048, 512]⟩
abbrev S1088x512 : Shape := ⟨2, ![1088, 512]⟩

abbrev nBuf : Space → Nat
  | .hbm => 4
  | .vmem => 9
  | .smem => 0
  | _ => 0

abbrev bufTy : (tb : Table) → Fin (tcTables nBuf tb) → BufTy
  | .hbm, ⟨0, _⟩ => ⟨S4352x2048, .f32⟩
  | .hbm, ⟨1, _⟩ => ⟨S2048x5632, .f32⟩
  | .hbm, ⟨2, _⟩ => ⟨S4352x5632, .f32⟩
  | .hbm, ⟨3, _⟩ => ⟨S4352x2048, .bf16⟩
  | .local _ .vmem, ⟨0, _⟩ => ⟨S1088x2048, .f32⟩
  | .local _ .vmem, ⟨1, _⟩ => ⟨S1088x2048, .f32⟩
  | .local _ .vmem, ⟨2, _⟩ => ⟨S2048x512, .f32⟩
  | .local _ .vmem, ⟨3, _⟩ => ⟨S2048x512, .f32⟩
  | .local _ .vmem, ⟨4, _⟩ => ⟨S1088x512, .f32⟩
  | .local _ .vmem, ⟨5, _⟩ => ⟨S1088x512, .f32⟩
  | .local _ .vmem, ⟨6, _⟩ => ⟨S1088x2048, .bf16⟩
  | .local _ .vmem, ⟨7, _⟩ => ⟨S1088x2048, .bf16⟩
  | .local _ .vmem, ⟨8, _⟩ => ⟨S1088x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== UpFwdIdeal.lean ====
abbrev S4352x2048 : Shape := ⟨2, ![4352, 2048]⟩
abbrev S2048x5632 : Shape := ⟨2, ![2048, 5632]⟩
abbrev S4352x5632 : Shape := ⟨2, ![4352, 5632]⟩
abbrev S1088x2048 : Shape := ⟨2, ![1088, 2048]⟩
abbrev S2048x512 : Shape := ⟨2, ![2048, 512]⟩
abbrev S1088x512 : Shape := ⟨2, ![1088, 512]⟩

abbrev nBuf : Space → Nat
  | .hbm => 4
  | .vmem => 9
  | .smem => 0
  | _ => 0

abbrev bufTy : (tb : Table) → Fin (tcTables nBuf tb) → BufTy
  | .hbm, ⟨0, _⟩ => ⟨S4352x2048, .f32⟩
  | .hbm, ⟨1, _⟩ => ⟨S2048x5632, .f32⟩
  | .hbm, ⟨2, _⟩ => ⟨S4352x5632, .f32⟩
  | .hbm, ⟨3, _⟩ => ⟨S4352x2048, .bf16⟩
  | .local _ .vmem, ⟨0, _⟩ => ⟨S1088x2048, .f32⟩
  | .local _ .vmem, ⟨1, _⟩ => ⟨S1088x2048, .f32⟩
  | .local _ .vmem, ⟨2, _⟩ => ⟨S2048x512, .f32⟩
  | .local _ .vmem, ⟨3, _⟩ => ⟨S2048x512, .f32⟩
  | .local _ .vmem, ⟨4, _⟩ => ⟨S1088x512, .f32⟩
  | .local _ .vmem, ⟨5, _⟩ => ⟨S1088x512, .f32⟩
  | .local _ .vmem, ⟨6, _⟩ => ⟨S1088x2048, .bf16⟩
  | .local _ .vmem, ⟨7, _⟩ => ⟨S1088x2048, .bf16⟩
  | .local _ .vmem, ⟨8, _⟩ => ⟨S1088x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== RefUpFwdIdeal.lean ====
abbrev S4352x2048 : Shape := ⟨2, ![4352, 2048]⟩
abbrev S2048x5632 : Shape := ⟨2, ![2048, 5632]⟩
abbrev S4352x5632 : Shape := ⟨2, ![4352, 5632]⟩

abbrev nBuf : Space → Nat
  | .hbm => 4
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x5632, .f32⟩
  | .hbm, ⟨2, _⟩ => ⟨S4352x5632, .f32⟩
  | .hbm, ⟨3, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== BranchFwd.lean ====
abbrev S4352x1024 : Shape := ⟨2, ![4352, 1024]⟩
abbrev S1024x2048 : Shape := ⟨2, ![1024, 2048]⟩
abbrev S4352x2048 : Shape := ⟨2, ![4352, 2048]⟩
abbrev S1088x1024 : Shape := ⟨2, ![1088, 1024]⟩
abbrev S1024x512 : Shape := ⟨2, ![1024, 512]⟩
abbrev S1088x512 : Shape := ⟨2, ![1088, 512]⟩

abbrev nBuf : Space → Nat
  | .hbm => 4
  | .vmem => 9
  | .smem => 0
  | _ => 0

abbrev bufTy : (tb : Table) → Fin (tcTables nBuf tb) → BufTy
  | .hbm, ⟨0, _⟩ => ⟨S4352x1024, .f32⟩
  | .hbm, ⟨1, _⟩ => ⟨S1024x2048, .f32⟩
  | .hbm, ⟨2, _⟩ => ⟨S4352x2048, .f32⟩
  | .hbm, ⟨3, _⟩ => ⟨S4352x1024, .bf16⟩
  | .local _ .vmem, ⟨0, _⟩ => ⟨S1088x1024, .f32⟩
  | .local _ .vmem, ⟨1, _⟩ => ⟨S1088x1024, .f32⟩
  | .local _ .vmem, ⟨2, _⟩ => ⟨S1024x512, .f32⟩
  | .local _ .vmem, ⟨3, _⟩ => ⟨S1024x512, .f32⟩
  | .local _ .vmem, ⟨4, _⟩ => ⟨S1088x512, .f32⟩
  | .local _ .vmem, ⟨5, _⟩ => ⟨S1088x512, .f32⟩
  | .local _ .vmem, ⟨6, _⟩ => ⟨S1088x1024, .bf16⟩
  | .local _ .vmem, ⟨7, _⟩ => ⟨S1088x1024, .bf16⟩
  | .local _ .vmem, ⟨8, _⟩ => ⟨S1088x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== BranchFwdIdeal.lean ====
abbrev S4352x1024 : Shape := ⟨2, ![4352, 1024]⟩
abbrev S1024x2048 : Shape := ⟨2, ![1024, 2048]⟩
abbrev S4352x2048 : Shape := ⟨2, ![4352, 2048]⟩
abbrev S1088x1024 : Shape := ⟨2, ![1088, 1024]⟩
abbrev S1024x512 : Shape := ⟨2, ![1024, 512]⟩
abbrev S1088x512 : Shape := ⟨2, ![1088, 512]⟩

abbrev nBuf : Space → Nat
  | .hbm => 4
  | .vmem => 9
  | .smem => 0
  | _ => 0

abbrev bufTy : (tb : Table) → Fin (tcTables nBuf tb) → BufTy
  | .hbm, ⟨0, _⟩ => ⟨S4352x1024, .f32⟩
  | .hbm, ⟨1, _⟩ => ⟨S1024x2048, .f32⟩
  | .hbm, ⟨2, _⟩ => ⟨S4352x2048, .f32⟩
  | .hbm, ⟨3, _⟩ => ⟨S4352x1024, .bf16⟩
  | .local _ .vmem, ⟨0, _⟩ => ⟨S1088x1024, .f32⟩
  | .local _ .vmem, ⟨1, _⟩ => ⟨S1088x1024, .f32⟩
  | .local _ .vmem, ⟨2, _⟩ => ⟨S1024x512, .f32⟩
  | .local _ .vmem, ⟨3, _⟩ => ⟨S1024x512, .f32⟩
  | .local _ .vmem, ⟨4, _⟩ => ⟨S1088x512, .f32⟩
  | .local _ .vmem, ⟨5, _⟩ => ⟨S1088x512, .f32⟩
  | .local _ .vmem, ⟨6, _⟩ => ⟨S1088x1024, .bf16⟩
  | .local _ .vmem, ⟨7, _⟩ => ⟨S1088x1024, .bf16⟩
  | .local _ .vmem, ⟨8, _⟩ => ⟨S1088x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== RefBranchFwdIdeal.lean ====
abbrev S4352x1024 : Shape := ⟨2, ![4352, 1024]⟩
abbrev S1024x2048 : Shape := ⟨2, ![1024, 2048]⟩
abbrev S4352x2048 : Shape := ⟨2, ![4352, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x2048, .f32⟩
  | .hbm, ⟨2, _⟩ => ⟨S4352x2048, .f32⟩
  | .hbm, ⟨3, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutFwd.lean ====
abbrev S4352x2048 : Shape := ⟨2, ![4352, 2048]⟩
abbrev S2048x2048 : Shape := ⟨2, ![2048, 2048]⟩
abbrev S1088x2048 : Shape := ⟨2, ![1088, 2048]⟩
abbrev S2048x512 : Shape := ⟨2, ![2048, 512]⟩
abbrev S1088x512 : Shape := ⟨2, ![1088, 512]⟩

abbrev nBuf : Space → Nat
  | .hbm => 4
  | .vmem => 9
  | .smem => 0
  | _ => 0

abbrev bufTy : (tb : Table) → Fin (tcTables nBuf tb) → BufTy
  | .hbm, ⟨0, _⟩ => ⟨S4352x2048, .f32⟩
  | .hbm, ⟨1, _⟩ => ⟨S2048x2048, .f32⟩
  | .hbm, ⟨2, _⟩ => ⟨S4352x2048, .f32⟩
  | .hbm, ⟨3, _⟩ => ⟨S4352x2048, .bf16⟩
  | .local _ .vmem, ⟨0, _⟩ => ⟨S1088x2048, .f32⟩
  | .local _ .vmem, ⟨1, _⟩ => ⟨S1088x2048, .f32⟩
  | .local _ .vmem, ⟨2, _⟩ => ⟨S2048x512, .f32⟩
  | .local _ .vmem, ⟨3, _⟩ => ⟨S2048x512, .f32⟩
  | .local _ .vmem, ⟨4, _⟩ => ⟨S1088x512, .f32⟩
  | .local _ .vmem, ⟨5, _⟩ => ⟨S1088x512, .f32⟩
  | .local _ .vmem, ⟨6, _⟩ => ⟨S1088x2048, .bf16⟩
  | .local _ .vmem, ⟨7, _⟩ => ⟨S1088x2048, .bf16⟩
  | .local _ .vmem, ⟨8, _⟩ => ⟨S1088x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== RefOutFwdIdeal.lean ====
abbrev S4352x2048 : Shape := ⟨2, ![4352, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x2048, .f32⟩
  | .hbm, ⟨2, _⟩ => ⟨S4352x2048, .f32⟩
  | .hbm, ⟨3, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InWgrad.lean ====
abbrev S4352x2048 : Shape := ⟨2, ![4352, 2048]⟩
abbrev S2048x12160 : Shape := ⟨2, ![2048, 12160]⟩
abbrev S4352x12160 : Shape := ⟨2, ![4352, 12160]⟩
abbrev S1088x2048 : Shape := ⟨2, ![1088, 2048]⟩
abbrev S1088x640 : Shape := ⟨2, ![1088, 640]⟩
abbrev S2048x640 : Shape := ⟨2, ![2048, 640]⟩

abbrev nBuf : Space → Nat
  | .hbm => 5
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S2048x12160, .f32⟩
  | .hbm, ⟨2, _⟩ => ⟨S4352x12160, .f32⟩
  | .hbm, ⟨3, _⟩ => ⟨S4352x2048, .bf16⟩
  | .hbm, ⟨4, _⟩ => ⟨S2048x12160, .f32⟩
  | .local _ .vmem, ⟨0, _⟩ => ⟨S1088x2048, .bf16⟩
  | .local _ .vmem, ⟨1, _⟩ => ⟨S1088x2048, .bf16⟩
  | .local _ .vmem, ⟨2, _⟩ => ⟨S1088x640, .f32⟩
  | .local _ .vmem, ⟨3, _⟩ => ⟨S1088x640, .f32⟩
  | .local _ .vmem, ⟨4, _⟩ => ⟨S2048x640, .f32⟩
  | .local _ .vmem, ⟨5, _⟩ => ⟨S2048x640, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 19, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWgradIdeal.lean ====
abbrev S4352x2048 : Shape := ⟨2, ![4352, 2048]⟩
abbrev S2048x12160 : Shape := ⟨2, ![2048, 12160]⟩
abbrev S4352x12160 : Shape := ⟨2, ![4352, 12160]⟩
abbrev S1088x2048 : Shape := ⟨2, ![1088, 2048]⟩
abbrev S1088x640 : Shape := ⟨2, ![1088, 640]⟩
abbrev S2048x640 : Shape := ⟨2, ![2048, 640]⟩

abbrev nBuf : Space → Nat
  | .hbm => 5
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S2048x12160, .f32⟩
  | .hbm, ⟨2, _⟩ => ⟨S4352x12160, .f32⟩
  | .hbm, ⟨3, _⟩ => ⟨S4352x2048, .bf16⟩
  | .hbm, ⟨4, _⟩ => ⟨S2048x12160, .f32⟩
  | .local _ .vmem, ⟨0, _⟩ => ⟨S1088x2048, .bf16⟩
  | .local _ .vmem, ⟨1, _⟩ => ⟨S1088x2048, .bf16⟩
  | .local _ .vmem, ⟨2, _⟩ => ⟨S1088x640, .f32⟩
  | .local _ .vmem, ⟨3, _⟩ => ⟨S1088x640, .f32⟩
  | .local _ .vmem, ⟨4, _⟩ => ⟨S2048x640, .f32⟩
  | .local _ .vmem, ⟨5, _⟩ => ⟨S2048x640, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 19, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInWgradIdeal.lean ====
abbrev S4352x2048 : Shape := ⟨2, ![4352, 2048]⟩
abbrev S2048x12160 : Shape := ⟨2, ![2048, 12160]⟩
abbrev S4352x12160 : Shape := ⟨2, ![4352, 12160]⟩
abbrev S12160x2048 : Shape := ⟨2, ![12160, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x12160, .f32⟩
  | .hbm, ⟨2, _⟩ => ⟨S4352x12160, .f32⟩
  | .hbm, ⟨3, _⟩ => ⟨S4352x12160, .f32⟩
  | .hbm, ⟨4, _⟩ => ⟨S12160x2048, .f32⟩
  | .hbm, ⟨5, _⟩ => ⟨S2048x12160, .f32⟩
  | .hbm, ⟨6, _⟩ => ⟨S4352x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InDgrad.lean ====
abbrev S4352x2048 : Shape := ⟨2, ![4352, 2048]⟩
abbrev S2048x12160 : Shape := ⟨2, ![2048, 12160]⟩
abbrev S4352x12160 : Shape := ⟨2, ![4352, 12160]⟩
abbrev S1088x640 : Shape := ⟨2, ![1088, 640]⟩
abbrev S2048x640 : Shape := ⟨2, ![2048, 640]⟩
abbrev S1088x2048 : Shape := ⟨2, ![1088, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S2048x12160, .f32⟩
  | .hbm, ⟨2, _⟩ => ⟨S4352x12160, .f32⟩
  | .hbm, ⟨3, _⟩ => ⟨S4352x2048, .f32⟩
  | .local _ .vmem, ⟨0, _⟩ => ⟨S1088x640, .f32⟩
  | .local _ .vmem, ⟨1, _⟩ => ⟨S1088x640, .f32⟩
  | .local _ .vmem, ⟨2, _⟩ => ⟨S2048x640, .f32⟩
  | .local _ .vmem, ⟨3, _⟩ => ⟨S2048x640, .f32⟩
  | .local _ .vmem, ⟨4, _⟩ => ⟨S1088x2048, .f32⟩
  | .local _ .vmem, ⟨5, _⟩ => ⟨S1088x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 19], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDgradIdeal.lean ====
abbrev S4352x2048 : Shape := ⟨2, ![4352, 2048]⟩
abbrev S2048x12160 : Shape := ⟨2, ![2048, 12160]⟩
abbrev S4352x12160 : Shape := ⟨2, ![4352, 12160]⟩
abbrev S1088x640 : Shape := ⟨2, ![1088, 640]⟩
abbrev S2048x640 : Shape := ⟨2, ![2048, 640]⟩
abbrev S1088x2048 : Shape := ⟨2, ![1088, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S2048x12160, .f32⟩
  | .hbm, ⟨2, _⟩ => ⟨S4352x12160, .f32⟩
  | .hbm, ⟨3, _⟩ => ⟨S4352x2048, .f32⟩
  | .local _ .vmem, ⟨0, _⟩ => ⟨S1088x640, .f32⟩
  | .local _ .vmem, ⟨1, _⟩ => ⟨S1088x640, .f32⟩
  | .local _ .vmem, ⟨2, _⟩ => ⟨S2048x640, .f32⟩
  | .local _ .vmem, ⟨3, _⟩ => ⟨S2048x640, .f32⟩
  | .local _ .vmem, ⟨4, _⟩ => ⟨S1088x2048, .f32⟩
  | .local _ .vmem, ⟨5, _⟩ => ⟨S1088x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 19], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInDgradIdeal.lean ====
abbrev S4352x2048 : Shape := ⟨2, ![4352, 2048]⟩
abbrev S2048x12160 : Shape := ⟨2, ![2048, 12160]⟩
abbrev S4352x12160 : Shape := ⟨2, ![4352, 12160]⟩
abbrev S12160x2048 : Shape := ⟨2, ![12160, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x12160, .f32⟩
  | .hbm, ⟨2, _⟩ => ⟨S4352x12160, .f32⟩
  | .hbm, ⟨3, _⟩ => ⟨S4352x12160, .f32⟩
  | .hbm, ⟨4, _⟩ => ⟨S12160x2048, .f32⟩
  | .hbm, ⟨5, _⟩ => ⟨S2048x12160, .f32⟩
  | .hbm, ⟨6, _⟩ => ⟨S4352x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpWgrad.lean ====
abbrev S4352x2048 : Shape := ⟨2, ![4352, 2048]⟩
abbrev S2048x5632 : Shape := ⟨2, ![2048, 5632]⟩
abbrev S4352x5632 : Shape := ⟨2, ![4352, 5632]⟩
abbrev S1088x2048 : Shape := ⟨2, ![1088, 2048]⟩
abbrev S1088x512 : Shape := ⟨2, ![1088, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S2048x5632, .f32⟩
  | .hbm, ⟨2, _⟩ => ⟨S4352x5632, .f32⟩
  | .hbm, ⟨3, _⟩ => ⟨S4352x2048, .bf16⟩
  | .hbm, ⟨4, _⟩ => ⟨S2048x5632, .f32⟩
  | .local _ .vmem, ⟨0, _⟩ => ⟨S1088x2048, .bf16⟩
  | .local _ .vmem, ⟨1, _⟩ => ⟨S1088x2048, .bf16⟩
  | .local _ .vmem, ⟨2, _⟩ => ⟨S1088x512, .f32⟩
  | .local _ .vmem, ⟨3, _⟩ => ⟨S1088x512, .f32⟩
  | .local _ .vmem, ⟨4, _⟩ => ⟨S2048x512, .f32⟩
  | .local _ .vmem, ⟨5, _⟩ => ⟨S2048x512, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWgradIdeal.lean ====
abbrev S4352x2048 : Shape := ⟨2, ![4352, 2048]⟩
abbrev S2048x5632 : Shape := ⟨2, ![2048, 5632]⟩
abbrev S4352x5632 : Shape := ⟨2, ![4352, 5632]⟩
abbrev S1088x2048 : Shape := ⟨2, ![1088, 2048]⟩
abbrev S1088x512 : Shape := ⟨2, ![1088, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S2048x5632, .f32⟩
  | .hbm, ⟨2, _⟩ => ⟨S4352x5632, .f32⟩
  | .hbm, ⟨3, _⟩ => ⟨S4352x2048, .bf16⟩
  | .hbm, ⟨4, _⟩ => ⟨S2048x5632, .f32⟩
  | .local _ .vmem, ⟨0, _⟩ => ⟨S1088x2048, .bf16⟩
  | .local _ .vmem, ⟨1, _⟩ => ⟨S1088x2048, .bf16⟩
  | .local _ .vmem, ⟨2, _⟩ => ⟨S1088x512, .f32⟩
  | .local _ .vmem, ⟨3, _⟩ => ⟨S1088x512, .f32⟩
  | .local _ .vmem, ⟨4, _⟩ => ⟨S2048x512, .f32⟩
  | .local _ .vmem, ⟨5, _⟩ => ⟨S2048x512, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpWgradIdeal.lean ====
abbrev S4352x2048 : Shape := ⟨2, ![4352, 2048]⟩
abbrev S2048x5632 : Shape := ⟨2, ![2048, 5632]⟩
abbrev S4352x5632 : Shape := ⟨2, ![4352, 5632]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x5632, .f32⟩
  | .hbm, ⟨2, _⟩ => ⟨S4352x5632, .f32⟩
  | .hbm, ⟨3, _⟩ => ⟨S4352x5632, .f32⟩
  | .hbm, ⟨4, _⟩ => ⟨S5632x2048, .f32⟩
  | .hbm, ⟨5, _⟩ => ⟨S2048x5632, .f32⟩
  | .hbm, ⟨6, _⟩ => ⟨S4352x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpDgrad.lean ====
abbrev S4352x2048 : Shape := ⟨2, ![4352, 2048]⟩
abbrev S2048x5632 : Shape := ⟨2, ![2048, 5632]⟩
abbrev S4352x5632 : Shape := ⟨2, ![4352, 5632]⟩
abbrev S1088x512 : Shape := ⟨2, ![1088, 512]⟩
abbrev S2048x512 : Shape := ⟨2, ![2048, 512]⟩
abbrev S1088x2048 : Shape := ⟨2, ![1088, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S2048x5632, .f32⟩
  | .hbm, ⟨2, _⟩ => ⟨S4352x5632, .f32⟩
  | .hbm, ⟨3, _⟩ => ⟨S4352x2048, .f32⟩
  | .local _ .vmem, ⟨0, _⟩ => ⟨S1088x512, .f32⟩
  | .local _ .vmem, ⟨1, _⟩ => ⟨S1088x512, .f32⟩
  | .local _ .vmem, ⟨2, _⟩ => ⟨S2048x512, .f32⟩
  | .local _ .vmem, ⟨3, _⟩ => ⟨S2048x512, .f32⟩
  | .local _ .vmem, ⟨4, _⟩ => ⟨S1088x2048, .f32⟩
  | .local _ .vmem, ⟨5, _⟩ => ⟨S1088x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpDgradIdeal.lean ====
abbrev S4352x2048 : Shape := ⟨2, ![4352, 2048]⟩
abbrev S2048x5632 : Shape := ⟨2, ![2048, 5632]⟩
abbrev S4352x5632 : Shape := ⟨2, ![4352, 5632]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x5632, .f32⟩
  | .hbm, ⟨2, _⟩ => ⟨S4352x5632, .f32⟩
  | .hbm, ⟨3, _⟩ => ⟨S4352x5632, .f32⟩
  | .hbm, ⟨4, _⟩ => ⟨S5632x2048, .f32⟩
  | .hbm, ⟨5, _⟩ => ⟨S2048x5632, .f32⟩
  | .hbm, ⟨6, _⟩ => ⟨S4352x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownWgrad.lean ====
abbrev S4352x5632 : Shape := ⟨2, ![4352, 5632]⟩
abbrev S5632x2048 : Shape := ⟨2, ![5632, 2048]⟩
abbrev S4352x2048 : Shape := ⟨2, ![4352, 2048]⟩
abbrev S1088x1408 : Shape := ⟨2, ![1088, 1408]⟩
abbrev S1088x512 : Shape := ⟨2, ![1088, 512]⟩
abbrev S1408x512 : Shape := ⟨2, ![1408, 512]⟩

abbrev nBuf : Space → Nat
  | .hbm => 5
  | .vmem => 6
  | .smem => 0
  | _ => 0

abbrev bufTy : (tb : Table) → Fin (tcTables nBuf tb) → BufTy
  | .hbm, ⟨0, _⟩ => ⟨S4352x5632, .f32⟩
  | .hbm, ⟨1, _⟩ => ⟨S5632x2048, .f32⟩
  | .hbm, ⟨2, _⟩ => ⟨S4352x2048, .f32⟩
  | .hbm, ⟨3, _⟩ => ⟨S4352x5632, .bf16⟩
  | .hbm, ⟨4, _⟩ => ⟨S5632x2048, .f32⟩
  | .local _ .vmem, ⟨0, _⟩ => ⟨S1088x1408, .bf16⟩
  | .local _ .vmem, ⟨1, _⟩ => ⟨S1088x1408, .bf16⟩
  | .local _ .vmem, ⟨2, _⟩ => ⟨S1088x512, .f32⟩
  | .local _ .vmem, ⟨3, _⟩ => ⟨S1088x512, .f32⟩
  | .local _ .vmem, ⟨4, _⟩ => ⟨S1408x512, .f32⟩
  | .local _ .vmem, ⟨5, _⟩ => ⟨S1408x512, .f32⟩
  | _, _ => ⟨S4352x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWgradIdeal.lean ====
abbrev S4352x5632 : Shape := ⟨2, ![4352, 5632]⟩
abbrev S5632x2048 : Shape := ⟨2, ![5632, 2048]⟩
abbrev S4352x2048 : Shape := ⟨2, ![4352, 2048]⟩
abbrev S1088x1408 : Shape := ⟨2, ![1088, 1408]⟩
abbrev S1088x512 : Shape := ⟨2, ![1088, 512]⟩
abbrev S1408x512 : Shape := ⟨2, ![1408, 512]⟩

abbrev nBuf : Space → Nat
  | .hbm => 5
  | .vmem => 6
  | .smem => 0
  | _ => 0

abbrev bufTy : (tb : Table) → Fin (tcTables nBuf tb) → BufTy
  | .hbm, ⟨0, _⟩ => ⟨S4352x5632, .f32⟩
  | .hbm, ⟨1, _⟩ => ⟨S5632x2048, .f32⟩
  | .hbm, ⟨2, _⟩ => ⟨S4352x2048, .f32⟩
  | .hbm, ⟨3, _⟩ => ⟨S4352x5632, .bf16⟩
  | .hbm, ⟨4, _⟩ => ⟨S5632x2048, .f32⟩
  | .local _ .vmem, ⟨0, _⟩ => ⟨S1088x1408, .bf16⟩
  | .local _ .vmem, ⟨1, _⟩ => ⟨S1088x1408, .bf16⟩
  | .local _ .vmem, ⟨2, _⟩ => ⟨S1088x512, .f32⟩
  | .local _ .vmem, ⟨3, _⟩ => ⟨S1088x512, .f32⟩
  | .local _ .vmem, ⟨4, _⟩ => ⟨S1408x512, .f32⟩
  | .local _ .vmem, ⟨5, _⟩ => ⟨S1408x512, .f32⟩
  | _, _ => ⟨S4352x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownWgradIdeal.lean ====
abbrev S4352x5632 : Shape := ⟨2, ![4352, 5632]⟩
abbrev S5632x2048 : Shape := ⟨2, ![5632, 2048]⟩
abbrev S4352x2048 : Shape := ⟨2, ![4352, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4352x5632, .f32⟩
  | .hbm, ⟨1, _⟩ => ⟨S5632x2048, .f32⟩
  | .hbm, ⟨2, _⟩ => ⟨S4352x2048, .f32⟩
  | .hbm, ⟨3, _⟩ => ⟨S4352x2048, .f32⟩
  | .hbm, ⟨4, _⟩ => ⟨S2048x5632, .f32⟩
  | .hbm, ⟨5, _⟩ => ⟨S5632x2048, .f32⟩
  | .hbm, ⟨6, _⟩ => ⟨S4352x5632, .f32⟩
  | _, _ => ⟨S4352x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDgrad.lean ====
abbrev S4352x5632 : Shape := ⟨2, ![4352, 5632]⟩
abbrev S5632x2048 : Shape := ⟨2, ![5632, 2048]⟩
abbrev S4352x2048 : Shape := ⟨2, ![4352, 2048]⟩
abbrev S1088x2048 : Shape := ⟨2, ![1088, 2048]⟩
abbrev S512x2048 : Shape := ⟨2, ![512, 2048]⟩
abbrev S1088x512 : Shape := ⟨2, ![1088, 512]⟩

abbrev nBuf : Space → Nat
  | .hbm => 4
  | .vmem => 7
  | .smem => 0
  | _ => 0

abbrev bufTy : (tb : Table) → Fin (tcTables nBuf tb) → BufTy
  | .hbm, ⟨0, _⟩ => ⟨S4352x5632, .f32⟩
  | .hbm, ⟨1, _⟩ => ⟨S5632x2048, .f32⟩
  | .hbm, ⟨2, _⟩ => ⟨S4352x2048, .f32⟩
  | .hbm, ⟨3, _⟩ => ⟨S4352x5632, .f32⟩
  | .local _ .vmem, ⟨0, _⟩ => ⟨S1088x2048, .f32⟩
  | .local _ .vmem, ⟨1, _⟩ => ⟨S1088x2048, .f32⟩
  | .local _ .vmem, ⟨2, _⟩ => ⟨S512x2048, .f32⟩
  | .local _ .vmem, ⟨3, _⟩ => ⟨S512x2048, .f32⟩
  | .local _ .vmem, ⟨4, _⟩ => ⟨S1088x512, .f32⟩
  | .local _ .vmem, ⟨5, _⟩ => ⟨S1088x512, .f32⟩
  | .local _ .vmem, ⟨6, _⟩ => ⟨S1088x2048, .bf16⟩
  | _, _ => ⟨S4352x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDgradIdeal.lean ====
abbrev S4352x5632 : Shape := ⟨2, ![4352, 5632]⟩
abbrev S5632x2048 : Shape := ⟨2, ![5632, 2048]⟩
abbrev S4352x2048 : Shape := ⟨2, ![4352, 2048]⟩
abbrev S1088x2048 : Shape := ⟨2, ![1088, 2048]⟩
abbrev S512x2048 : Shape := ⟨2, ![512, 2048]⟩
abbrev S1088x512 : Shape := ⟨2, ![1088, 512]⟩

abbrev nBuf : Space → Nat
  | .hbm => 4
  | .vmem => 7
  | .smem => 0
  | _ => 0

abbrev bufTy : (tb : Table) → Fin (tcTables nBuf tb) → BufTy
  | .hbm, ⟨0, _⟩ => ⟨S4352x5632, .f32⟩
  | .hbm, ⟨1, _⟩ => ⟨S5632x2048, .f32⟩
  | .hbm, ⟨2, _⟩ => ⟨S4352x2048, .f32⟩
  | .hbm, ⟨3, _⟩ => ⟨S4352x5632, .f32⟩
  | .local _ .vmem, ⟨0, _⟩ => ⟨S1088x2048, .f32⟩
  | .local _ .vmem, ⟨1, _⟩ => ⟨S1088x2048, .f32⟩
  | .local _ .vmem, ⟨2, _⟩ => ⟨S512x2048, .f32⟩
  | .local _ .vmem, ⟨3, _⟩ => ⟨S512x2048, .f32⟩
  | .local _ .vmem, ⟨4, _⟩ => ⟨S1088x512, .f32⟩
  | .local _ .vmem, ⟨5, _⟩ => ⟨S1088x512, .f32⟩
  | .local _ .vmem, ⟨6, _⟩ => ⟨S1088x2048, .bf16⟩
  | _, _ => ⟨S4352x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefDownDgradIdeal.lean ====
abbrev S4352x5632 : Shape := ⟨2, ![4352, 5632]⟩
abbrev S5632x2048 : Shape := ⟨2, ![5632, 2048]⟩
abbrev S4352x2048 : Shape := ⟨2, ![4352, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4352x5632, .f32⟩
  | .hbm, ⟨1, _⟩ => ⟨S5632x2048, .f32⟩
  | .hbm, ⟨2, _⟩ => ⟨S4352x2048, .f32⟩
  | .hbm, ⟨3, _⟩ => ⟨S4352x2048, .f32⟩
  | .hbm, ⟨4, _⟩ => ⟨S2048x5632, .f32⟩
  | .hbm, ⟨5, _⟩ => ⟨S5632x2048, .f32⟩
  | .hbm, ⟨6, _⟩ => ⟨S4352x5632, .f32⟩
  | _, _ => ⟨S4352x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownFwd.lean ====
abbrev S4352x5632 : Shape := ⟨2, ![4352, 5632]⟩
abbrev S5632x2048 : Shape := ⟨2, ![5632, 2048]⟩
abbrev S4352x2048 : Shape := ⟨2, ![4352, 2048]⟩
abbrev S1088x512 : Shape := ⟨2, ![1088, 512]⟩
abbrev S512x2048 : Shape := ⟨2, ![512, 2048]⟩
abbrev S1088x2048 : Shape := ⟨2, ![1088, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4352x5632, .f32⟩
  | .hbm, ⟨1, _⟩ => ⟨S5632x2048, .f32⟩
  | .hbm, ⟨2, _⟩ => ⟨S4352x2048, .f32⟩
  | .local _ .vmem, ⟨0, _⟩ => ⟨S1088x512, .f32⟩
  | .local _ .vmem, ⟨1, _⟩ => ⟨S1088x512, .f32⟩
  | .local _ .vmem, ⟨2, _⟩ => ⟨S512x2048, .f32⟩
  | .local _ .vmem, ⟨3, _⟩ => ⟨S512x2048, .f32⟩
  | .local _ .vmem, ⟨4, _⟩ => ⟨S1088x2048, .f32⟩
  | .local _ .vmem, ⟨5, _⟩ => ⟨S1088x2048, .f32⟩
  | _, _ => ⟨S4352x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDownFwdIdeal.lean ====
abbrev S4352x5632 : Shape := ⟨2, ![4352, 5632]⟩
abbrev S5632x2048 : Shape := ⟨2, ![5632, 2048]⟩
abbrev S4352x2048 : Shape := ⟨2, ![4352, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4352x5632, .f32⟩
  | .hbm, ⟨1, _⟩ => ⟨S5632x2048, .f32⟩
  | .hbm, ⟨2, _⟩ => ⟨S4352x2048, .f32⟩
  | _, _ => ⟨S4352x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BranchWgrad.lean ====
abbrev S4352x1024 : Shape := ⟨2, ![4352, 1024]⟩
abbrev S1024x2048 : Shape := ⟨2, ![1024, 2048]⟩
abbrev S4352x2048 : Shape := ⟨2, ![4352, 2048]⟩
abbrev S1088x1024 : Shape := ⟨2, ![1088, 1024]⟩
abbrev S1088x512 : Shape := ⟨2, ![1088, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S1024x2048, .f32⟩
  | .hbm, ⟨2, _⟩ => ⟨S4352x2048, .f32⟩
  | .hbm, ⟨3, _⟩ => ⟨S4352x1024, .bf16⟩
  | .hbm, ⟨4, _⟩ => ⟨S1024x2048, .f32⟩
  | .local _ .vmem, ⟨0, _⟩ => ⟨S1088x1024, .bf16⟩
  | .local _ .vmem, ⟨1, _⟩ => ⟨S1088x1024, .bf16⟩
  | .local _ .vmem, ⟨2, _⟩ => ⟨S1088x512, .f32⟩
  | .local _ .vmem, ⟨3, _⟩ => ⟨S1088x512, .f32⟩
  | .local _ .vmem, ⟨4, _⟩ => ⟨S1024x512, .f32⟩
  | .local _ .vmem, ⟨5, _⟩ => ⟨S1024x512, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchWgradIdeal.lean ====
abbrev S4352x1024 : Shape := ⟨2, ![4352, 1024]⟩
abbrev S1024x2048 : Shape := ⟨2, ![1024, 2048]⟩
abbrev S4352x2048 : Shape := ⟨2, ![4352, 2048]⟩
abbrev S1088x1024 : Shape := ⟨2, ![1088, 1024]⟩
abbrev S1088x512 : Shape := ⟨2, ![1088, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S1024x2048, .f32⟩
  | .hbm, ⟨2, _⟩ => ⟨S4352x2048, .f32⟩
  | .hbm, ⟨3, _⟩ => ⟨S4352x1024, .bf16⟩
  | .hbm, ⟨4, _⟩ => ⟨S1024x2048, .f32⟩
  | .local _ .vmem, ⟨0, _⟩ => ⟨S1088x1024, .bf16⟩
  | .local _ .vmem, ⟨1, _⟩ => ⟨S1088x1024, .bf16⟩
  | .local _ .vmem, ⟨2, _⟩ => ⟨S1088x512, .f32⟩
  | .local _ .vmem, ⟨3, _⟩ => ⟨S1088x512, .f32⟩
  | .local _ .vmem, ⟨4, _⟩ => ⟨S1024x512, .f32⟩
  | .local _ .vmem, ⟨5, _⟩ => ⟨S1024x512, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefBranchWgradIdeal.lean ====
abbrev S4352x1024 : Shape := ⟨2, ![4352, 1024]⟩
abbrev S1024x2048 : Shape := ⟨2, ![1024, 2048]⟩
abbrev S4352x2048 : Shape := ⟨2, ![4352, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x2048, .f32⟩
  | .hbm, ⟨2, _⟩ => ⟨S4352x2048, .f32⟩
  | .hbm, ⟨3, _⟩ => ⟨S4352x2048, .f32⟩
  | .hbm, ⟨4, _⟩ => ⟨S2048x1024, .f32⟩
  | .hbm, ⟨5, _⟩ => ⟨S1024x2048, .f32⟩
  | .hbm, ⟨6, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== BranchDgrad.lean ====
abbrev S4352x1024 : Shape := ⟨2, ![4352, 1024]⟩
abbrev S1024x2048 : Shape := ⟨2, ![1024, 2048]⟩
abbrev S4352x2048 : Shape := ⟨2, ![4352, 2048]⟩
abbrev S1088x2048 : Shape := ⟨2, ![1088, 2048]⟩
abbrev S512x2048 : Shape := ⟨2, ![512, 2048]⟩
abbrev S1088x512 : Shape := ⟨2, ![1088, 512]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .f32⟩
  | .hbm, ⟨1, _⟩ => ⟨S1024x2048, .f32⟩
  | .hbm, ⟨2, _⟩ => ⟨S4352x2048, .f32⟩
  | .hbm, ⟨3, _⟩ => ⟨S4352x1024, .f32⟩
  | .local _ .vmem, ⟨0, _⟩ => ⟨S1088x2048, .f32⟩
  | .local _ .vmem, ⟨1, _⟩ => ⟨S1088x2048, .f32⟩
  | .local _ .vmem, ⟨2, _⟩ => ⟨S512x2048, .f32⟩
  | .local _ .vmem, ⟨3, _⟩ => ⟨S512x2048, .f32⟩
  | .local _ .vmem, ⟨4, _⟩ => ⟨S1088x512, .f32⟩
  | .local _ .vmem, ⟨5, _⟩ => ⟨S1088x512, .f32⟩
  | .local _ .vmem, ⟨6, _⟩ => ⟨S1088x2048, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BranchDgradIdeal.lean ====
abbrev S4352x1024 : Shape := ⟨2, ![4352, 1024]⟩
abbrev S1024x2048 : Shape := ⟨2, ![1024, 2048]⟩
abbrev S4352x2048 : Shape := ⟨2, ![4352, 2048]⟩
abbrev S1088x2048 : Shape := ⟨2, ![1088, 2048]⟩
abbrev S512x2048 : Shape := ⟨2, ![512, 2048]⟩
abbrev S1088x512 : Shape := ⟨2, ![1088, 512]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .f32⟩
  | .hbm, ⟨1, _⟩ => ⟨S1024x2048, .f32⟩
  | .hbm, ⟨2, _⟩ => ⟨S4352x2048, .f32⟩
  | .hbm, ⟨3, _⟩ => ⟨S4352x1024, .f32⟩
  | .local _ .vmem, ⟨0, _⟩ => ⟨S1088x2048, .f32⟩
  | .local _ .vmem, ⟨1, _⟩ => ⟨S1088x2048, .f32⟩
  | .local _ .vmem, ⟨2, _⟩ => ⟨S512x2048, .f32⟩
  | .local _ .vmem, ⟨3, _⟩ => ⟨S512x2048, .f32⟩
  | .local _ .vmem, ⟨4, _⟩ => ⟨S1088x512, .f32⟩
  | .local _ .vmem, ⟨5, _⟩ => ⟨S1088x512, .f32⟩
  | .local _ .vmem, ⟨6, _⟩ => ⟨S1088x2048, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefBranchDgradIdeal.lean ====
abbrev S4352x1024 : Shape := ⟨2, ![4352, 1024]⟩
abbrev S1024x2048 : Shape := ⟨2, ![1024, 2048]⟩
abbrev S4352x2048 : Shape := ⟨2, ![4352, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x2048, .f32⟩
  | .hbm, ⟨2, _⟩ => ⟨S4352x2048, .f32⟩
  | .hbm, ⟨3, _⟩ => ⟨S4352x2048, .f32⟩
  | .hbm, ⟨4, _⟩ => ⟨S2048x1024, .f32⟩
  | .hbm, ⟨5, _⟩ => ⟨S1024x2048, .f32⟩
  | .hbm, ⟨6, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutWgrad.lean ====
abbrev S4352x2048 : Shape := ⟨2, ![4352, 2048]⟩
abbrev S2048x2048 : Shape := ⟨2, ![2048, 2048]⟩
abbrev S1088x2048 : Shape := ⟨2, ![1088, 2048]⟩
abbrev S1088x512 : Shape := ⟨2, ![1088, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S4352x2048, .f32⟩
  | .hbm, ⟨1, _⟩ => ⟨S2048x2048, .f32⟩
  | .hbm, ⟨2, _⟩ => ⟨S4352x2048, .f32⟩
  | .hbm, ⟨3, _⟩ => ⟨S4352x2048, .bf16⟩
  | .hbm, ⟨4, _⟩ => ⟨S2048x2048, .f32⟩
  | .local _ .vmem, ⟨0, _⟩ => ⟨S1088x2048, .bf16⟩
  | .local _ .vmem, ⟨1, _⟩ => ⟨S1088x2048, .bf16⟩
  | .local _ .vmem, ⟨2, _⟩ => ⟨S1088x512, .f32⟩
  | .local _ .vmem, ⟨3, _⟩ => ⟨S1088x512, .f32⟩
  | .local _ .vmem, ⟨4, _⟩ => ⟨S2048x512, .f32⟩
  | .local _ .vmem, ⟨5, _⟩ => ⟨S2048x512, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOutWgradIdeal.lean ====
abbrev S4352x2048 : Shape := ⟨2, ![4352, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x2048, .f32⟩
  | .hbm, ⟨2, _⟩ => ⟨S4352x2048, .f32⟩
  | .hbm, ⟨3, _⟩ => ⟨S4352x2048, .f32⟩
  | .hbm, ⟨4, _⟩ => ⟨S2048x2048, .f32⟩
  | .hbm, ⟨5, _⟩ => ⟨S2048x2048, .f32⟩
  | .hbm, ⟨6, _⟩ => ⟨S4352x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDgrad.lean ====
abbrev S4352x2048 : Shape := ⟨2, ![4352, 2048]⟩
abbrev S2048x2048 : Shape := ⟨2, ![2048, 2048]⟩
abbrev S1088x2048 : Shape := ⟨2, ![1088, 2048]⟩
abbrev S512x2048 : Shape := ⟨2, ![512, 2048]⟩
abbrev S1088x512 : Shape := ⟨2, ![1088, 512]⟩

abbrev nBuf : Space → Nat
  | .hbm => 4
  | .vmem => 7
  | .smem => 0
  | _ => 0

abbrev bufTy : (tb : Table) → Fin (tcTables nBuf tb) → BufTy
  | .hbm, ⟨0, _⟩ => ⟨S4352x2048, .f32⟩
  | .hbm, ⟨1, _⟩ => ⟨S2048x2048, .f32⟩
  | .hbm, ⟨2, _⟩ => ⟨S4352x2048, .f32⟩
  | .hbm, ⟨3, _⟩ => ⟨S4352x2048, .f32⟩
  | .local _ .vmem, ⟨0, _⟩ => ⟨S1088x2048, .f32⟩
  | .local _ .vmem, ⟨1, _⟩ => ⟨S1088x2048, .f32⟩
  | .local _ .vmem, ⟨2, _⟩ => ⟨S512x2048, .f32⟩
  | .local _ .vmem, ⟨3, _⟩ => ⟨S512x2048, .f32⟩
  | .local _ .vmem, ⟨4, _⟩ => ⟨S1088x512, .f32⟩
  | .local _ .vmem, ⟨5, _⟩ => ⟨S1088x512, .f32⟩
  | .local _ .vmem, ⟨6, _⟩ => ⟨S1088x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefOutDgradIdeal.lean ====
abbrev S4352x2048 : Shape := ⟨2, ![4352, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048x2048, .f32⟩
  | .hbm, ⟨2, _⟩ => ⟨S4352x2048, .f32⟩
  | .hbm, ⟨3, _⟩ => ⟨S4352x2048, .f32⟩
  | .hbm, ⟨4, _⟩ => ⟨S2048x2048, .f32⟩
  | .hbm, ⟨5, _⟩ => ⟨S2048x2048, .f32⟩
  | .hbm, ⟨6, _⟩ => ⟨S4352x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GateDgrad.lean ====
abbrev S4352x1024 : Shape := ⟨2, ![4352, 1024]⟩
abbrev S8x128x128 : Shape := ⟨3, ![8, 128, 128]⟩
abbrev S1088x128 : Shape := ⟨2, ![1088, 128]⟩
abbrev S1x128x128 : Shape := ⟨3, ![1, 128, 128]⟩
abbrev S128x128 : Shape := ⟨2, ![128, 128]⟩

abbrev nBuf : Space → Nat
  | .hbm => 5
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S8x128x128, .f32⟩
  | .hbm, ⟨2, _⟩ => ⟨S4352x1024, .f32⟩
  | .hbm, ⟨3, _⟩ => ⟨S8x128x128, .f32⟩
  | .hbm, ⟨4, _⟩ => ⟨S4352x1024, .f32⟩
  | .local _ .vmem, ⟨0, _⟩ => ⟨S1088x128, .f32⟩
  | .local _ .vmem, ⟨1, _⟩ => ⟨S1088x128, .f32⟩
  | .local _ .vmem, ⟨2, _⟩ => ⟨S1x128x128, .f32⟩
  | .local _ .vmem, ⟨3, _⟩ => ⟨S1x128x128, .f32⟩
  | .local _ .vmem, ⟨4, _⟩ => ⟨S1088x128, .f32⟩
  | .local _ .vmem, ⟨5, _⟩ => ⟨S1088x128, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefGateDgradIdeal.lean ====
abbrev S4352x1024 : Shape := ⟨2, ![4352, 1024]⟩
abbrev S8x128x128 : Shape := ⟨3, ![8, 128, 128]⟩
abbrev S4352x8x128 : Shape := ⟨3, ![4352, 8, 128]⟩
abbrev S8x128x4352 : Shape := ⟨3, ![8, 128, 4352]⟩
abbrev S8x4352x128 : Shape := ⟨3, ![8, 4352, 128]⟩

abbrev nBuf : Space → Nat
  | .hbm => 14
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S8x128x128, .f32⟩
  | .hbm, ⟨2, _⟩ => ⟨S4352x1024, .f32⟩
  | .hbm, ⟨3, _⟩ => ⟨S4352x8x128, .f32⟩
  | .hbm, ⟨4, _⟩ => ⟨S8x128x4352, .f32⟩
  | .hbm, ⟨5, _⟩ => ⟨S4352x8x128, .f32⟩
  | .hbm, ⟨6, _⟩ => ⟨S4352x1024, .f32⟩
  | .hbm, ⟨7, _⟩ => ⟨S4352x8x128, .f32⟩
  | .hbm, ⟨8, _⟩ => ⟨S8x128x4352, .f32⟩
  | .hbm, ⟨9, _⟩ => ⟨S8x4352x128, .f32⟩
  | .hbm, ⟨10, _⟩ => ⟨S4352x8x128, .f32⟩
  | .hbm, ⟨11, _⟩ => ⟨S8x128x128, .f32⟩
  | .hbm, ⟨12, _⟩ => ⟨S8x128x128, .f32⟩
  | .hbm, ⟨13, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== GateWgrad.lean ====
abbrev S4352x1024 : Shape := ⟨2, ![4352, 1024]⟩
abbrev S8x128x128 : Shape := ⟨3, ![8, 128, 128]⟩
abbrev S1088x128 : Shape := ⟨2, ![1088, 128]⟩
abbrev S1x128x128 : Shape := ⟨3, ![1, 128, 128]⟩
abbrev S128x1088 : Shape := ⟨2, ![128, 1088]⟩
abbrev S128x128 : Shape := ⟨2, ![128, 128]⟩

abbrev nBuf : Space → Nat
  | .hbm => 4
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S8x128x128, .f32⟩
  | .hbm, ⟨2, _⟩ => ⟨S4352x1024, .f32⟩
  | .hbm, ⟨3, _⟩ => ⟨S8x128x128, .f32⟩
  | .local _ .vmem, ⟨0, _⟩ => ⟨S1088x128, .f32⟩
  | .local _ .vmem, ⟨1, _⟩ => ⟨S1088x128, .f32⟩
  | .local _ .vmem, ⟨2, _⟩ => ⟨S1088x128, .f32⟩
  | .local _ .vmem, ⟨3, _⟩ => ⟨S1088x128, .f32⟩
  | .local _ .vmem, ⟨4, _⟩ => ⟨S1x128x128, .f32⟩
  | .local _ .vmem, ⟨5, _⟩ => ⟨S1x128x128, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1088x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1088x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefGateWgradIdeal.lean ====
abbrev S4352x1024 : Shape := ⟨2, ![4352, 1024]⟩
abbrev S8x128x128 : Shape := ⟨3, ![8, 128, 128]⟩
abbrev S4352x8x128 : Shape := ⟨3, ![4352, 8, 128]⟩
abbrev S8x128x4352 : Shape := ⟨3, ![8, 128, 4352]⟩
abbrev S8x4352x128 : Shape := ⟨3, ![8, 4352, 128]⟩

abbrev nBuf : Space → Nat
  | .hbm => 14
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S8x128x128, .f32⟩
  | .hbm, ⟨2, _⟩ => ⟨S4352x1024, .f32⟩
  | .hbm, ⟨3, _⟩ => ⟨S4352x8x128, .f32⟩
  | .hbm, ⟨4, _⟩ => ⟨S8x128x4352, .f32⟩
  | .hbm, ⟨5, _⟩ => ⟨S4352x8x128, .f32⟩
  | .hbm, ⟨6, _⟩ => ⟨S4352x1024, .f32⟩
  | .hbm, ⟨7, _⟩ => ⟨S4352x8x128, .f32⟩
  | .hbm, ⟨8, _⟩ => ⟨S8x128x4352, .f32⟩
  | .hbm, ⟨9, _⟩ => ⟨S8x4352x128, .f32⟩
  | .hbm, ⟨10, _⟩ => ⟨S4352x8x128, .f32⟩
  | .hbm, ⟨11, _⟩ => ⟨S8x128x128, .f32⟩
  | .hbm, ⟨12, _⟩ => ⟨S8x128x128, .f32⟩
  | .hbm, ⟨13, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== GateFwd.lean ====
abbrev S4352x1024 : Shape := ⟨2, ![4352, 1024]⟩
abbrev S8x128x128 : Shape := ⟨3, ![8, 128, 128]⟩
abbrev S1088x128 : Shape := ⟨2, ![1088, 128]⟩
abbrev S1x128x128 : Shape := ⟨3, ![1, 128, 128]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S8x128x128, .f32⟩
  | .hbm, ⟨2, _⟩ => ⟨S4352x1024, .f32⟩
  | .local _ .vmem, ⟨0, _⟩ => ⟨S1088x128, .f32⟩
  | .local _ .vmem, ⟨1, _⟩ => ⟨S1088x128, .f32⟩
  | .local _ .vmem, ⟨2, _⟩ => ⟨S1x128x128, .f32⟩
  | .local _ .vmem, ⟨3, _⟩ => ⟨S1x128x128, .f32⟩
  | .local _ .vmem, ⟨4, _⟩ => ⟨S1088x128, .f32⟩
  | .local _ .vmem, ⟨5, _⟩ => ⟨S1088x128, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefGateFwdIdeal.lean ====
abbrev S4352x1024 : Shape := ⟨2, ![4352, 1024]⟩
abbrev S8x128x128 : Shape := ⟨3, ![8, 128, 128]⟩
abbrev S4352x8x128 : Shape := ⟨3, ![4352, 8, 128]⟩
abbrev S8x128x4352 : Shape := ⟨3, ![8, 128, 4352]⟩

abbrev nBuf : Space → Nat
  | .hbm => 6
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S8x128x128, .f32⟩
  | .hbm, ⟨2, _⟩ => ⟨S4352x8x128, .f32⟩
  | .hbm, ⟨3, _⟩ => ⟨S8x128x4352, .f32⟩
  | .hbm, ⟨4, _⟩ => ⟨S4352x8x128, .f32⟩
  | .hbm, ⟨5, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== NormFwd.lean ====
abbrev S4352x512 : Shape := ⟨2, ![4352, 512]⟩
abbrev S512 : Shape := ⟨1, ![512]⟩
abbrev S_ : Shape := ⟨0, ![]⟩
abbrev S1x512 : Shape := ⟨2, ![1, 512]⟩
abbrev S1x1x512 : Shape := ⟨3, ![1, 1, 512]⟩
abbrev S256x512 : Shape := ⟨2, ![256, 512]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S4352x512, .f32⟩
  | .hbm, ⟨1, _⟩ => ⟨S512, .f32⟩
  | .hbm, ⟨2, _⟩ => ⟨S_, .f32⟩
  | .hbm, ⟨3, _⟩ => ⟨S1x512, .f32⟩
  | .hbm, ⟨4, _⟩ => ⟨S1x512, .f32⟩
  | .hbm, ⟨5, _⟩ => ⟨S1x1x512, .f32⟩
  | .hbm, ⟨6, _⟩ => ⟨S1x1x512, .f32⟩
  | .hbm, ⟨7, _⟩ => ⟨S4352x512, .f32⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S256x512, .f32⟩
  | .local _ .vmem, ⟨8, _⟩ => ⟨S256x512, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.minsi v16 c0_i32_4
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.minsi v16 c0_i32_4
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefNormFwdIdeal.lean ====
abbrev S4352x512 : Shape := ⟨2, ![4352, 512]⟩
abbrev S512 : Shape := ⟨1, ![512]⟩
abbrev S_ : Shape := ⟨0, ![]⟩
abbrev S4352 : Shape := ⟨1, ![4352]⟩
abbrev S4352x1 : Shape := ⟨2, ![4352, 1]⟩
abbrev S1x512 : Shape := ⟨2, ![1, 512]⟩

abbrev nBuf : Space → Nat
  | .hbm => 18
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S512, .f32⟩
  | .hbm, ⟨2, _⟩ => ⟨S4352x512, .f32⟩
  | .hbm, ⟨3, _⟩ => ⟨S_, .f32⟩
  | .hbm, ⟨4, _⟩ => ⟨S4352, .f32⟩
  | .hbm, ⟨5, _⟩ => ⟨S4352x1, .f32⟩
  | .hbm, ⟨6, _⟩ => ⟨S_, .f32⟩
  | .hbm, ⟨7, _⟩ => ⟨S4352x1, .f32⟩
  | .hbm, ⟨8, _⟩ => ⟨S4352x1, .f32⟩
  | .hbm, ⟨9, _⟩ => ⟨S_, .f32⟩
  | .hbm, ⟨10, _⟩ => ⟨S4352x1, .f32⟩
  | .hbm, ⟨11, _⟩ => ⟨S4352x1, .f32⟩
  | .hbm, ⟨12, _⟩ => ⟨S4352x1, .f32⟩
  | .hbm, ⟨13, _⟩ => ⟨S4352x512, .f32⟩
  | .hbm, ⟨14, _⟩ => ⟨S4352x512, .f32⟩
  | .hbm, ⟨15, _⟩ => ⟨S1x512, .f32⟩
  | .hbm, ⟨16, _⟩ => ⟨S4352x512, .f32⟩
  | .hbm, ⟨17, _⟩ => ⟨S4352x512, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ModFwd.lean ====
abbrev S4352x2048 : Shape := ⟨2, ![4352, 2048]⟩
abbrev S2048 : Shape := ⟨1, ![2048]⟩
abbrev S2x2048 : Shape := ⟨2, ![2, 2048]⟩
abbrev S1x2048 : Shape := ⟨2, ![1, 2048]⟩
abbrev S2x1x2048 : Shape := ⟨3, ![2, 1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S4352x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S1x2048, .f32⟩
  | .hbm, ⟨5, _⟩ => ⟨S2x1x2048, .f32⟩
  | .hbm, ⟨6, _⟩ => ⟨S2x1x2048, .f32⟩
  | .hbm, ⟨7, _⟩ => ⟨S4352x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S256x2048, .f32⟩
  | .local _ .vmem, ⟨8, _⟩ => ⟨S256x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.minsi v16 c1_i32_4
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefModFwdIdeal.lean ====
abbrev S4352x2048 : Shape := ⟨2, ![4352, 2048]⟩
abbrev S2048 : Shape := ⟨1, ![2048]⟩
abbrev S2x2048 : Shape := ⟨2, ![2, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 65
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S2048, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S256x2048, .f32⟩
  | .hbm, ⟨35, _⟩ => ⟨S256x2048, .f32⟩
  | .hbm, ⟨36, _⟩ => ⟨S_, .f32⟩
  | .hbm, ⟨37, _⟩ => ⟨S256, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S_, .f32⟩
  | .hbm, ⟨43, _⟩ => ⟨S256x1, .f32⟩
  | .hbm, ⟨44, _⟩ => ⟨S256x1, .f32⟩
  | .hbm, ⟨45, _⟩ => ⟨S256x1, .f32⟩
  | .hbm, ⟨46, _⟩ => ⟨S256x2048, .f32⟩
  | .hbm, ⟨47, _⟩ => ⟨S256x2048, .f32⟩
  | .hbm, ⟨48, _⟩ => ⟨S1x2048, .f32⟩
  | .hbm, ⟨49, _⟩ => ⟨S256x2048, .f32⟩
  | .hbm, ⟨50, _⟩ => ⟨S256x2048, .f32⟩
  | .hbm, ⟨51, _⟩ => ⟨S1x2048, .f32⟩
  | .hbm, ⟨52, _⟩ => ⟨S2048, .f32⟩
  | .hbm, ⟨53, _⟩ => ⟨S1x2048, .f32⟩
  | .hbm, ⟨54, _⟩ => ⟨S2048, .f32⟩
  | .hbm, ⟨55, _⟩ => ⟨S_, .f32⟩
  | .hbm, ⟨56, _⟩ => ⟨S2048, .f32⟩
  | .hbm, ⟨57, _⟩ => ⟨S2048, .f32⟩
  | .hbm, ⟨58, _⟩ => ⟨S1x2048, .f32⟩
  | .hbm, ⟨59, _⟩ => ⟨S256x2048, .f32⟩
  | .hbm, ⟨60, _⟩ => ⟨S256x2048, .f32⟩
  | .hbm, ⟨61, _⟩ => ⟨S1x2048, .f32⟩
  | .hbm, ⟨62, _⟩ => ⟨S256x2048, .f32⟩
  | .hbm, ⟨63, _⟩ => ⟨S256x2048, .f32⟩
  | .hbm, ⟨64, _⟩ => ⟨S4352x2048, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== NormBwd.lean ====
abbrev S4352x512 : Shape := ⟨2, ![4352, 512]⟩
abbrev S512 : Shape := ⟨1, ![512]⟩
abbrev S_ : Shape := ⟨0, ![]⟩
abbrev S1x512 : Shape := ⟨2, ![1, 512]⟩
abbrev S1x1x512 : Shape := ⟨3, ![1, 1, 512]⟩
abbrev S256x512 : Shape := ⟨2, ![256, 512]⟩
abbrev S256 : Shape := ⟨1, ![256]⟩
abbrev S256x1 : Shape := ⟨2, ![256, 1]⟩

abbrev nBuf : Space → Nat
  | .hbm => 11
  | .vmem => 14
  | .smem => 0
  | _ => 0

abbrev bufTy : (tb : Table) → Fin (tcTables nBuf tb) → BufTy
  | .hbm, ⟨0, _⟩ => ⟨S4352x512, .f32⟩
  | .hbm, ⟨1, _⟩ => ⟨S512, .f32⟩
  | .hbm, ⟨2, _⟩ => ⟨S4352x512, .f32⟩
  | .hbm, ⟨3, _⟩ => ⟨S_, .f32⟩
  | .hbm, ⟨4, _⟩ => ⟨S1x512, .f32⟩
  | .hbm, ⟨5, _⟩ => ⟨S1x512, .f32⟩
  | .hbm, ⟨6, _⟩ => ⟨S1x1x512, .f32⟩
  | .hbm, ⟨7, _⟩ => ⟨S4352x512, .f32⟩
  | .hbm, ⟨8, _⟩ => ⟨S1x512, .f32⟩
  | .hbm, ⟨9, _⟩ => ⟨S1x1x512, .f32⟩
  | .hbm, ⟨10, _⟩ => ⟨S1x1x512, .f32⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S1x1x512, .f32⟩
  | .local _ .vmem, ⟨4, _⟩ => ⟨S1x1x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S1x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.minsi v16 c0_i32_4
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.minsi v16 c0_i32_4
  let c0_i32_5 : BitVec 32 := 0#32
  let c0_i32_6 : BitVec 32 := 0#32
  let c0_i32_7 : BitVec 32 := 0#32
  ![v17.toNat, c0_i32_5.toNat, c0_i32_6.toNat]

def cc0_transform_7 (i : grid0.Coords) : Fin 3 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.minsi v16 c0_i32_4
  let c0_i32_5 : BitVec 32 := 0#32
  let c0_i32_6 : BitVec 32 := 0#32
  let c0_i32_7 : BitVec 32 := 0#32
  ![v17.toNat, c0_i32_5.toNat, c0_i32_6.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefNormBwdIdeal.lean ====
abbrev S4352x512 : Shape := ⟨2, ![4352, 512]⟩
abbrev S512 : Shape := ⟨1, ![512]⟩
abbrev S_ : Shape := ⟨0, ![]⟩
abbrev S4352 : Shape := ⟨1, ![4352]⟩
abbrev S4352x1 : Shape := ⟨2, ![4352, 1]⟩
abbrev S1x512 : Shape := ⟨2, ![1, 512]⟩

abbrev nBuf : Space → Nat
  | .hbm => 49
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S512, .f32⟩
  | .hbm, ⟨2, _⟩ => ⟨S4352x512, .f32⟩
  | .hbm, ⟨3, _⟩ => ⟨S4352x512, .f32⟩
  | .hbm, ⟨4, _⟩ => ⟨S_, .f32⟩
  | .hbm, ⟨5, _⟩ => ⟨S4352, .f32⟩
  | .hbm, ⟨6, _⟩ => ⟨S4352x1, .f32⟩
  | .hbm, ⟨7, _⟩ => ⟨S_, .f32⟩
  | .hbm, ⟨8, _⟩ => ⟨S4352x1, .f32⟩
  | .hbm, ⟨9, _⟩ => ⟨S4352x1, .f32⟩
  | .hbm, ⟨10, _⟩ => ⟨S_, .f32⟩
  | .hbm, ⟨11, _⟩ => ⟨S4352x1, .f32⟩
  | .hbm, ⟨12, _⟩ => ⟨S4352x1, .f32⟩
  | .hbm, ⟨13, _⟩ => ⟨S4352x1, .f32⟩
  | .hbm, ⟨14, _⟩ => ⟨S4352x1, .f32⟩
  | .hbm, ⟨15, _⟩ => ⟨S_, .f32⟩
  | .hbm, ⟨16, _⟩ => ⟨S4352x1, .f32⟩
  | .hbm, ⟨17, _⟩ => ⟨S4352x1, .f32⟩
  | .hbm, ⟨18, _⟩ => ⟨S4352x512, .f32⟩
  | .hbm, ⟨19, _⟩ => ⟨S4352x512, .f32⟩
  | .hbm, ⟨20, _⟩ => ⟨S1x512, .f32⟩
  | .hbm, ⟨21, _⟩ => ⟨S4352x512, .f32⟩
  | .hbm, ⟨22, _⟩ => ⟨S4352x512, .f32⟩
  | .hbm, ⟨23, _⟩ => ⟨S4352x512, .f32⟩
  | .hbm, ⟨24, _⟩ => ⟨S_, .f32⟩
  | .hbm, ⟨25, _⟩ => ⟨S512, .f32⟩
  | .hbm, ⟨26, _⟩ => ⟨S1x512, .f32⟩
  | .hbm, ⟨27, _⟩ => ⟨S4352x512, .f32⟩
  | .hbm, ⟨28, _⟩ => ⟨S4352x512, .f32⟩
  | .hbm, ⟨29, _⟩ => ⟨S_, .f32⟩
  | .hbm, ⟨30, _⟩ => ⟨S512, .f32⟩
  | .hbm, ⟨31, _⟩ => ⟨S4352x512, .f32⟩
  | .hbm, ⟨32, _⟩ => ⟨S_, .f32⟩
  | .hbm, ⟨33, _⟩ => ⟨S4352, .f32⟩
  | .hbm, ⟨34, _⟩ => ⟨S4352x1, .f32⟩
  | .hbm, ⟨35, _⟩ => ⟨S4352x512, .f32⟩
  | .hbm, ⟨36, _⟩ => ⟨S4352x512, .f32⟩
  | .hbm, ⟨37, _⟩ => ⟨S4352x1, .f32⟩
  | .hbm, ⟨38, _⟩ => ⟨S_, .f32⟩
  | .hbm, ⟨39, _⟩ => ⟨S4352x1, .f32⟩
  | .hbm, ⟨40, _⟩ => ⟨S4352x1, .f32⟩
  | .hbm, ⟨41, _⟩ => ⟨S_, .f32⟩
  | .hbm, ⟨42, _⟩ => ⟨S4352, .f32⟩
  | .hbm, ⟨43, _⟩ => ⟨S4352x512, .f32⟩
  | .hbm, ⟨44, _⟩ => ⟨S4352x512, .f32⟩
  | .hbm, ⟨45, _⟩ => ⟨S4352x512, .f32⟩
  | .hbm, ⟨46, _⟩ => ⟨S4352x512, .f32⟩
  | .hbm, ⟨47, _⟩ => ⟨S4352x512, .f32⟩
  | .hbm, ⟨48, _⟩ => ⟨S1x512, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.Product.lean ====
/-
  A product accumulated tile by tile along its contracted axis, as one sum: whatever the tiles' number and width.
-/
module

public import Idealize.ShloMosaic.Lib.Pipeline.Value
public import Idealize.ShloMosaic.Lib.Pointwise

@[expose] public section

noncomputable section

namespace Cert.Product

open Idealize.ShloMosaic

/-- Position `t` of tile `j`, of `J` tiles of width `T`. -/
abbrev place {J T K : ℕ} (hK : J * T = K) (j : Fin J) (t : Fin T) : Fin K := ⟨j.val * T + t.val, by
  have hj := j.isLt
  have ht := t.isLt
  subst hK
  calc j.val * T + t.val < (j.val + 1) * T := by rw [Nat.add_mul, Nat.one_mul]; omega
    _ ≤ J * T := Nat.mul_le_mul_right _ (by omega)⟩

/-- A run of `J` grid points from `b`: the first leaves zero plus its addend, each later one adds its own. When the
    addend of point `b + j` at an entry is tile `j` of the sum of `f`, the run leaves the sum of `f` there. -/
theorem fold_tiles {N : ℕ} {ι : Type} (reset : (n : ℕ) → n < N → ι → EReal) (step : (n : ℕ) → n < N → (ι → EReal) → ι → EReal)
    (addend : (n : ℕ) → n < N → ι → EReal) (hreset : ∀ n h i, reset n h i = 0 + addend n h i)
    (hstep : ∀ n h acc i, step n h acc i = acc i + addend n h i) {J T K b e : ℕ} (hK : J * T = K) (he : e + 1 = J)
    (h : b + e < N) (i : ι) (f : Fin K → EReal)
    (htile : ∀ (j : Fin J) (hn : b + j.val < N), addend (b + j.val) hn i = ∑ t : Fin T, f (place hK j t)) :
    Pipeline.accAt reset step b e h i = ∑ k : Fin K, f k := by
  rw [Pipeline.accAt_add_apply reset step (fun _ => 0) (fun n i => if hn : n < N then addend n hn i else 0) b e
    (fun h i => by rw [hreset, dif_pos h]) (fun n h acc i _ _ => by rw [hstep, dif_pos h]) e le_rfl h i, zero_add,
    Fin.sum_univ_tiles J T hK f, he, ← Fin.sum_univ_eq_sum_range (fun s => if hn : b + s < N then addend (b + s) hn i else 0)]
  refine Finset.sum_congr rfl fun j _ => ?_
  have hj : b + j.val < N := by have := j.isLt; omega
  rw [dif_pos hj]
  exact htile j hj

/-- Two equal places of an array. -/
theorem at_eq {s : Shape} {ε : Type} (A : s.Idx → ε) (i j : s.Idx) (h : ∀ a, (i a).val = (j a).val) : A i = A j :=
  congrArg A (funext fun a => Fin.ext (h a))

/-- The product of `A`, transposed, with `B`, by blocks: the grid goes over `nI` blocks of rows, `nJ` blocks of columns
    and `J` tiles of the contracted axis, the last fastest; a point multiplies its blocks and adds them to what its run
    has accumulated. Each run leaves the product at the entries of its block. -/
theorem of_blocks {N J T K R C M P nI nJ e : ℕ} (hK : J * T = K) (he : e + 1 = J) (hR : nI * R = M) (hC : nJ * C = P) (hN : N = nI * nJ * J)
    {reset : (n : ℕ) → n < N → (⟨2, ![R, C]⟩ : Shape).Idx → EReal}
    {step : (n : ℕ) → n < N → ((⟨2, ![R, C]⟩ : Shape).Idx → EReal) → (⟨2, ![R, C]⟩ : Shape).Idx → EReal}
    {L : Fin N → Fin T → Fin R → EReal} {B : Fin N → Fin T → Fin C → EReal} (A : Fin K → Fin M → EReal) (G : Fin K → Fin P → EReal)
    (hreset : ∀ n h x z, reset n h (ix2 x z) = 0 + ∑ y, L ⟨n, h⟩ y x * B ⟨n, h⟩ y z)
    (hstep : ∀ n h acc x z, step n h acc (ix2 x z) = acc (ix2 x z) + ∑ y, L ⟨n, h⟩ y x * B ⟨n, h⟩ y z)
    (hL : ∀ t y x k p, k.val = t.val % J * T + y.val → p.val = t.val / J / nJ * R + x.val → L t y x = A k p)
    (hB : ∀ t y z k q, k.val = t.val % J * T + y.val → q.val = t.val / J % nJ * C + z.val → B t y z = G k q)
    {run : ℕ} (p : Fin M) (q : Fin P) (hrun : run = nJ * (p.val / R) + q.val / C)
    (i : (⟨2, ![R, C]⟩ : Shape).Idx) (hi0 : (i 0).val = p.val % R) (hi1 : (i 1).val = q.val % C) (other : EReal) :
    (if h : J * run + e < N then Pipeline.accAt reset step (J * run) e h i else other) = ∑ k, A k p * G k q := by
  have hJ : 0 < J := by omega
  have hp : p.val / R < nI := Nat.div_lt_of_lt_mul (by rw [Nat.mul_comm, hR]; exact p.isLt)
  have hq : q.val / C < nJ := Nat.div_lt_of_lt_mul (by rw [Nat.mul_comm, hC]; exact q.isLt)
  have hlt : run + 1 ≤ nI * nJ := by
    calc run + 1 ≤ nJ * (p.val / R) + nJ := by omega
      _ = nJ * (p.val / R + 1) := by rw [Nat.mul_add, Nat.mul_one]
      _ ≤ nJ * nI := Nat.mul_le_mul_left _ hp
      _ = nI * nJ := Nat.mul_comm _ _
  have hin : J * run + e < N := by
    calc J * run + e < J * run + J := by omega
      _ = J * (run + 1) := by rw [Nat.mul_add, Nat.mul_one]
      _ ≤ J * (nI * nJ) := Nat.mul_le_mul_left _ hlt
      _ = N := by rw [hN, Nat.mul_comm]
  obtain ⟨x, z, rfl⟩ : ∃ (x : Fin R) (z : Fin C), i = ix2 x z := ⟨i 0, i 1, funext fun a => match a with | ⟨0, _⟩ => rfl | ⟨1, _⟩ => rfl⟩
  rw [dif_pos hin]
  refine fold_tiles (fun n h i => reset n h i) (fun n h acc i => step n h acc i)
    (fun n h i => ∑ y, L ⟨n, h⟩ y (i 0) * B ⟨n, h⟩ y (i 1)) (fun n h i => ?_) (fun n h acc i => ?_) hK he hin _ _ fun j hn => ?_
  · obtain ⟨x, z, rfl⟩ : ∃ (x : Fin R) (z : Fin C), i = ix2 x z := ⟨i 0, i 1, funext fun a => match a with | ⟨0, _⟩ => rfl | ⟨1, _⟩ => rfl⟩
    exact hreset n h x z
  · obtain ⟨x, z, rfl⟩ : ∃ (x : Fin R) (z : Fin C), i = ix2 x z := ⟨i 0, i 1, funext fun a => match a with | ⟨0, _⟩ => rfl | ⟨1, _⟩ => rfl⟩
    exact hstep n h acc x z
  · have hmod : (J * run + j.val) % J = j.val := by rw [Nat.mul_add_mod, Nat.mod_eq_of_lt j.isLt]
    have hdiv : (J * run + j.val) / J = run := by rw [Nat.mul_add_div hJ, Nat.div_eq_of_lt j.isLt, Nat.add_zero]
    have hrow : run / nJ = p.val / R := by rw [hrun, Nat.mul_add_div (Nat.zero_lt_of_lt hq), Nat.div_eq_of_lt hq, Nat.add_zero]
    have hcol : run % nJ = q.val / C := by rw [hrun, Nat.mul_add_mod, Nat.mod_eq_of_lt hq]
    refine Finset.sum_congr rfl fun y _ => congrArg₂ (· * ·) (hL _ _ _ _ _ ?_ ?_) (hB _ _ _ _ _ ?_ ?_)
    · show j.val * T + y.val = (J * run + j.val) % J * T + y.val
      rw [hmod]
    · show p.val = (J * run + j.val) / J / nJ * R + x.val
      rw [hdiv, hrow, show x.val = p.val % R from hi0, Nat.mul_comm]
      exact (Nat.div_add_mod _ _).symm
    · show j.val * T + y.val = (J * run + j.val) % J * T + y.val
      rw [hmod]
    · show q.val = (J * run + j.val) / J % nJ * C + z.val
      rw [hdiv, hcol, show z.val = q.val % C from hi1, Nat.mul_comm]
      exact (Nat.div_add_mod _ _).symm

/-- What a body leaves after each point, when it stores `s` at the first of every run of `J` points and otherwise keeps what it
    stored, and makes its block from that: with `s` the same over a run, the block of the point and `s` there. -/
theorem kept {N J : ℕ} {α β : Type} (outs : (n : ℕ) → n < N → α × β) (make : Fin N → β → α) (s : Fin N → β)
    (hfirst : ∀ t : Fin N, t.val % J = 0 → outs t.val t.isLt = (make t (s t), s t))
    (hlater : ∀ n (h : n + 1 < N), ¬(n + 1) % J = 0 → outs (n + 1) h = (make ⟨n + 1, h⟩ (outs n (Nat.lt_of_succ_lt h)).2, (outs n (Nat.lt_of_succ_lt h)).2))
    (hs : ∀ t t' : Fin N, t.val / J = t'.val / J → s t = s t') (n : ℕ) (h : n < N) : outs n h = (make ⟨n, h⟩ (s ⟨n, h⟩), s ⟨n, h⟩) := by
  induction n with
  | zero => exact hfirst ⟨0, h⟩ (Nat.zero_mod J)
  | succ n ih =>
    by_cases h0 : (n + 1) % J = 0
    · exact hfirst ⟨n + 1, h⟩ h0
    · rw [hlater n h h0, ih, hs ⟨n, Nat.lt_of_succ_lt h⟩ ⟨n + 1, h⟩ (by rw [Nat.succ_div, if_neg fun hd => h0 (Nat.mod_eq_zero_of_dvd hd), Nat.add_zero])]

end Cert.Product

end
-- ==== Proof.Emit.lean ====
/-
  A result a kernel stores at the first of every run of `J` grid points and the pipeline writes back after the last: what
  its staging buffer holds in between, and the product a kernel makes block by block.
-/
module

public import Idealize.ShloMosaic.Lib.Pipeline.Value
public import Idealize.ShloMosaic.Lib.Pointwise
public import Idealize.ShloMosaic.Lib.VecWindow

@[expose] public section

noncomputable section

namespace Cert.Emit

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {nD : Nat} {τ : Topo} {sig : RefSig} {Val : EltTy → Type} [∀ e, Nonempty (Val e)]
variable {Ix : Type} [DecidableEq Ix] {Name : Type} [DecidableEq Name] {U : Type} [URA U] {Lvl : Type}

/-- What is known of a memref's elements is owning it at what they read. -/
theorem owned (c : Thread nD τ) {sp : Space} {sh : Shape} {e : EltTy} (m : Memref sig c.2.kind sp sh e) {X : sh.Idx → Val e}
    {f : m.view.ty.Contents Val} (h : m.view.read Val f = X) :
    (m.view.loc c ↦[m.view.set]{fullShare} f : sProp (MT nD τ sig Ix Val Name U Lvl)) ⊢ iprop(∃ f, ⌜m.view.read Val f = X⌝ ∗ (m.view.loc c ↦[m.view.set]{fullShare} f)) := by
  iintro H; iexists _; isplitr; · ipureintro; exact h
  iexact H

theorem anything (c : Thread nD τ) {sp : Space} {sh : Shape} {e : EltTy} (m : Memref sig c.2.kind sp sh e) (X : sh.Idx → Val e) :
    (owns c m fullShare X : sProp (MT nD τ sig Ix Val Name U Lvl)) ⊢ iprop(∃ d, owns c m fullShare d) := by
  iintro H; iexists _; iexact H

section Window

variable {L : Labels} {cfg : Cfg sig L} {c : Dev nD} (dat : Dat τ Val Ix Name U Lvl cfg c) (w : Fin cfg.W) {J : ℕ}
  (hidle : ∀ t : Fin cfg.N, cfg.idle w (cfg.grid.coords t) = !decide (t.val % J = 0))
  (hflush : ∀ t : Fin cfg.N, ¬t.val % J = J - 1 → (cfg.win w).flush t = false)
  (hfetch : ∀ t : Fin cfg.N, (cfg.win w).fetch t = false)
  (hclip : ∀ (i : cfg.grid.Coords) a, (cfg.win w).clip i a = none)
  (hsame : ∀ t t' : Fin cfg.N, t.val / J = t'.val / J → dat.after w t = dat.after w t')

include hidle hflush hfetch hclip hsame in
/-- At a later point of a run the buffer holds what the run's first point stored. -/
theorem before_later (hJ : 0 < J) (n : ℕ) (t : Fin cfg.N) (hn : t.val % J = n + 1) (d) : dat.before w t d = dat.after w t := by
  have hlt := Nat.mod_lt t.val hJ
  have hdm := Nat.div_add_mod t.val J
  have hpos : t.val ≠ 0 := fun h => by rw [h, Nat.zero_mod] at hn; omega
  have hdiv : (t.val - 1) / J = t.val / J := by
    rw [show t.val - 1 = J * (t.val / J) + n by omega, Nat.mul_add_div hJ, Nat.div_eq_of_lt (show n < J by omega), Nat.add_zero]
  have hmod : (t.val - 1) % J = n := by
    rw [show t.val - 1 = J * (t.val / J) + n by omega, Nat.mul_add_mod, Nat.mod_eq_of_lt (show n < J by omega)]
  have same : dat.after w ⟨t.val - 1, by omega⟩ = dat.after w t := hsame _ _ hdiv
  rw [Dat.before_of_pos _ w t hpos (hfetch t), hflush ⟨t.val - 1, by omega⟩ (by show ¬(t.val - 1) % J = _; omega), if_neg Bool.false_ne_true]
  unfold Dat.left
  rw [hidle]
  cases n with
  | zero =>
    rw [show decide ((t.val - 1) % J = 0) = true from decide_eq_true hmod]
    show dat.kept w _ d = _
    unfold Dat.kept
    rw [Pipeline.fill_of_clip_none (cfg := cfg) w _ (hclip _) d (dat.after w _), Window.fill_cut, same]
  | succ n =>
    rw [show decide ((t.val - 1) % J = 0) = false from decide_eq_false (by omega)]
    exact (before_later hJ n ⟨t.val - 1, by omega⟩ hmod d).trans same

include hidle hflush hfetch hclip hsame in
/-- A buffer that holds that after every point is left as the pipeline asks. -/
theorem leaves (hJ : 0 < J) (hloose : cfg.loose w = false) (t : Fin cfg.N) :
    owns (c : Thread nD τ) ((cfg.win w).stage (cfg.slots t w)) fullShare (dat.after w t) ⊢ (dat.leavesExact w t : sProp (MT nD τ sig Ix Val Name U Lvl)) := by
  unfold Dat.leavesExact
  rw [hidle]
  by_cases h0 : t.val % J = 0
  · rw [show decide (t.val % J = 0) = true from decide_eq_true h0]
    exact .rfl
  · rw [show decide (t.val % J = 0) = false from decide_eq_false h0]
    cases (cfg.win w).flush t
    · show _ ⊢ iprop(∃ d, owns (c : Thread nD τ) ((cfg.win w).stage (cfg.slots t w)) fullShare (dat.before w t d))
      simp only [before_later dat w hidle hflush hfetch hclip hsame hJ (t.val % J - 1) t (by omega)]
      iintro H; iexists fun _ => Classical.arbitrary _; iexact H
    · exact .rfl

end Window

/-! A body's triple between two points, whatever the assertions: of the scratch (`S`), of what travels with it (`G`),
    of the pipeline (`O`), of the two inputs (`P₀`, `P₁`), of the product's window (`Q₂`, `R₂`) and of the emitted one (`Q₃`, `R₃`). -/

section Point

variable {M : Type} [URA M] {Φ G O P₀ P₁ s q₂ q₃ leave body : sProp M} {D₀ D₁ D₂ D₃ : Type} {S Q₂ Q₃ : sProp M}
  {R₂ : D₂ → sProp M} {R₃ : D₃ → sProp M}

/-- The first point of a run stores the scratch and the emitted block, -/
theorem point_first (hold : Φ ⊢ iprop(S ∗ G)) (h₂ : ∀ d, R₂ d ⊢ Q₂) (h₃ : ∀ d, R₃ d ⊢ Q₃)
    (run : iprop(P₀ ∗ P₁ ∗ Q₂ ∗ Q₃ ∗ S
      ∗ (iprop(P₀ ∗ P₁ ∗ q₂ ∗ q₃ ∗ s) -∗ iprop((s ∗ G) ∗ O ∗ P₀ ∗ P₁ ∗ q₂ ∗ leave))) ⊢ body) (hleave : q₃ ⊢ leave) :
    iprop(Φ ∗ O ∗ (∃ _ : D₀, P₀) ∗ (∃ _ : D₁, P₁) ∗ (∃ d, R₂ d) ∗ (∃ d, R₃ d)) ⊢ body := by
  iintro ⟨HΦ, HO, ⟨%d0, H0⟩, ⟨%d1, H1⟩, ⟨%d2, H2⟩, ⟨%d3, H3⟩⟩
  ihave HΦ' := hold $$ HΦ
  icases HΦ' with ⟨HS, HG⟩
  iapply run
  isplitl [H0]; · iexact H0
  isplitl [H1]; · iexact H1
  isplitl [H2]; · iapply (h₂ d2); iexact H2
  isplitl [H3]; · iapply (h₃ d3); iexact H3
  isplitl [HS]; · iexact HS
  iintro ⟨H0, H1, H2, H3, HS⟩
  isplitl [HS HG]
  · isplitl [HS]; · iexact HS
    iexact HG
  isplitl [HO]; · iexact HO
  isplitl [H0]; · iexact H0
  isplitl [H1]; · iexact H1
  isplitl [H2]; · iexact H2
  iapply hleave; iexact H3

/-- and a later one reads the scratch, and leaves both. -/
theorem point_later (h₂ : ∀ d, R₂ d ⊢ Q₂)
    (run : iprop(P₀ ∗ P₁ ∗ Q₂ ∗ s
      ∗ (iprop(P₀ ∗ P₁ ∗ q₂ ∗ s) -∗ iprop((s ∗ G) ∗ O ∗ P₀ ∗ P₁ ∗ q₂ ∗ leave))) ⊢ body) (hleave : q₃ ⊢ leave) :
    iprop((s ∗ G) ∗ O ∗ (∃ _ : D₀, P₀) ∗ (∃ _ : D₁, P₁) ∗ (∃ d, R₂ d) ∗ (∃ _ : D₃, q₃)) ⊢ body := by
  iintro ⟨⟨HS, HG⟩, HO, ⟨%d0, H0⟩, ⟨%d1, H1⟩, ⟨%d2, H2⟩, ⟨%d3, H3⟩⟩
  iapply run
  isplitl [H0]; · iexact H0
  isplitl [H1]; · iexact H1
  isplitl [H2]; · iapply (h₂ d2); iexact H2
  isplitl [HS]; · iexact HS
  iintro ⟨H0, H1, H2, HS⟩
  isplitl [HS HG]
  · isplitl [HS]; · iexact HS
    iexact HG
  isplitl [HO]; · iexact HO
  isplitl [H0]; · iexact H0
  isplitl [H1]; · iexact H1
  isplitl [H2]; · iexact H2
  iapply hleave; iexact H3

end Point

end Cert.Emit

end
-- ==== Proof.EmitBody.lean ====
/-
  The forward product's body, for blocks of any size: at the first block of a row of blocks it stores the activation's
  rows, cast, in scratch and in its second result, and at every block it multiplies the scratch with a block of the
  weight's columns. A program's body is this one at its own sizes.
-/
module

public import proofs.«01_k».proof.Proof.Emit
public import Idealize.ShloMosaic.PureOps
public import Idealize.ShloMosaic.Lib.Pipeline.Frame
public import Idealize.ShloMosaic.Lib.Tactic
public import Idealize.ShloMosaic.Lib.Claim

@[expose] public section

set_option maxRecDepth 16384

noncomputable section

namespace Cert.Emit

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

/-! What holds between two points: something before the first, and afterwards what the point before left. -/

section Held

variable {M : Type} [URA M] {N : ℕ} (start : sProp M) (inv : Fin N → sProp M)

def held : (n : ℕ) → n ≤ N → sProp M
  | 0, _ => start
  | n + 1, hn => inv ⟨n, hn⟩

theorem held_pos (n : ℕ) (h : n ≤ N) (hz : n ≠ 0) : held start inv n h = inv ⟨n - 1, by omega⟩ := by
  cases n with
  | zero => exact absurd rfl hz
  | succ n => rfl

theorem held_elim {P : sProp M} (h₀ : start ⊢ P) (h₁ : ∀ t, inv t ⊢ P) (n : ℕ) (h : n ≤ N) : held start inv n h ⊢ P := by
  cases n with
  | zero => exact h₀
  | succ n => exact h₁ _

end Held

section Body

variable {F : FTy → Type} [FloatOps F] {nD : Nat} {τ : Topo} {sig : RefSig} {L : Labels} {R K C : ℕ}

/-- Arrays of two axes. -/
abbrev Mat (a b : ℕ) : Shape := ⟨2, ![a, b]⟩

/-- The evidence a body's loads and stores carry: each access is of the whole buffer, and a buffer holds something. -/
structure Whole (a b : ℕ) : Prop where
  inb : ∀ d, (![0, 0] : Fin 2 → Nat) d + (Mat a b).size d ≤ (Mat a b).size d
  pos : 0 < (Mat a b).numel

variable (wx : Whole R K) (ww : Whole K C) (wo : Whole R C)
  (packed : (Rect.unit (s := Mat R K) ![0, 0] (Mat R K).size wx.inb).PackedRows (EltTy.packing .bf16))
  (stored : Vec F (Mat R K) .f32 → Vec F (Mat R K) .bf16) (multiplied : Vec F (Mat R K) .bf16 → Vec F (Mat K C) .f32 → Vec F (Mat R C) .f32)
  (first : Prop) [Decidable first]
  (a2 : Memref sig .tc .vmem (Mat R K) .f32) (a3 : Memref sig .tc .vmem (Mat K C) .f32) (a4 : Memref sig .tc .vmem (Mat R C) .f32)
  (a5 : Memref sig .tc .vmem (Mat R K) .bf16) (h5 : a5.IsWhole) (a6 : Memref sig .tc .vmem (Mat R K) .bf16) (h6 : a6.IsWhole)

/-- The body over what it stores and multiplies. -/
def body : Prog (TpuEff nD τ sig (Elt F) L .tc) PUnit := do
  if _h : first then do
    let x : Vec F (Mat R K) .f32 ← Prog.lift (.load a2 (Rect.unit (s := Mat R K) ![0, 0] (Mat R K).size wx.inb).toLoadRect (View.loadsAt_vmem wx.pos))
    let _ : Vec F (Mat R K) .bf16 ← Prog.lift (.load a6 (Rect.unit (s := Mat R K) ![0, 0] (Mat R K).size wx.inb).toLoadRect (View.loadsAt_vmem wx.pos))
    Prog.lift (.store a6 (Rect.unit (s := Mat R K) ![0, 0] (Mat R K).size wx.inb) (stored x) Finset.univ (View.stores_vmem wx.pos (h6.storeExact_slice rfl _ packed) (fun _ => rfl)) (.inl rfl))
    let s : Vec F (Mat R K) .bf16 ← Prog.lift (.load a6 (Rect.unit (s := Mat R K) ![0, 0] (Mat R K).size wx.inb).toLoadRect (View.loadsAt_vmem wx.pos))
    let _ : Vec F (Mat R K) .bf16 ← Prog.lift (.load a5 (Rect.unit (s := Mat R K) ![0, 0] (Mat R K).size wx.inb).toLoadRect (View.loadsAt_vmem wx.pos))
    Prog.lift (.store a5 (Rect.unit (s := Mat R K) ![0, 0] (Mat R K).size wx.inb) s Finset.univ (View.stores_vmem wx.pos (h5.storeExact_slice rfl _ packed) (fun _ => rfl)) (.inl rfl))
    pure ⟨⟩
  else do
    pure ⟨⟩
  let s : Vec F (Mat R K) .bf16 ← Prog.lift (.load a6 (Rect.unit (s := Mat R K) ![0, 0] (Mat R K).size wx.inb).toLoadRect (View.loadsAt_vmem wx.pos))
  let w : Vec F (Mat K C) .f32 ← Prog.lift (.load a3 (Rect.unit (s := Mat K C) ![0, 0] (Mat K C).size ww.inb).toLoadRect (View.loadsAt_vmem ww.pos))
  let _ : Vec F (Mat R C) .f32 ← Prog.lift (.load a4 (Rect.unit (s := Mat R C) ![0, 0] (Mat R C).size wo.inb).toLoadRect (View.loadsAt_vmem wo.pos))
  Prog.lift (.store a4 (Rect.unit (s := Mat R C) ![0, 0] (Mat R C).size wo.inb) (multiplied s w) Finset.univ (View.stores_vmem_bits_univ wo.pos rfl) (.inl rfl))
  pure ⟨⟩

variable (D : Defs nD τ sig (Elt F) L) (c : Dev nD) (h2 : a2.IsWhole) (h3 : a3.IsWhole) (h4 : a4.IsWhole)
  (x0 : Vec F (Mat R K) .f32) (x1 : Vec F (Mat K C) .f32) (E : Set ℕ) (Q : PUnit → sProp (MT nD τ sig Unit (Elt F) ℕ (UR sig nD τ) ℕ))

set_option maxHeartbeats 1000000 in
include h2 h3 h4 in
/-- The body at the first block of a row of blocks, -/
theorem body_first (hc : first) :
    iprop(owns (c : Thread nD τ) a2 fullShare x0 ∗ owns (c : Thread nD τ) a3 fullShare x1 ∗ (∃ d, owns (c : Thread nD τ) a4 fullShare d)
        ∗ (∃ d, owns (c : Thread nD τ) a5 fullShare d) ∗ (∃ d, owns (c : Thread nD τ) a6 fullShare d)
        ∗ (iprop(owns (c : Thread nD τ) a2 fullShare x0 ∗ owns (c : Thread nD τ) a3 fullShare x1
            ∗ owns (c : Thread nD τ) a4 fullShare (multiplied (stored x0) x1) ∗ owns (c : Thread nD τ) a5 fullShare (stored x0)
            ∗ owns (c : Thread nD τ) a6 fullShare (stored x0)) -∗ Q ⟨⟩))
      ⊢ wp frame (wpE D Variants.none c none) E (body wx ww wo packed stored multiplied first a2 a3 a4 a5 h5 a6 h6) Q := by
  unfold body
  unfold owns
  iintro ⟨⟨%f0, %hf0, H0⟩, ⟨%f1, %hf1, H1⟩, ⟨%d2, %f2, -, H2⟩, ⟨%d3, %f3, -, H3⟩, ⟨%ds, %fs, -, HS⟩, Hk⟩
  obtain rfl := h2.eq_unread hf0; obtain rfl := h3.eq_unread hf1
  sl_exec (disch := first | sl_exact hc)
  sl_step
  iapply Hk
  isplitl [H0]
  · iapply (owned c _ (h2.read_unread _)); iexact H0
  isplitl [H1]
  · iapply (owned c _ (h3.read_unread _)); iexact H1
  isplitl [H2]
  · iexists _; isplitr
    swap; · iexact H2
    ipureintro
    sl_unfold_words
    rw [View.read_writes_full]
    simp only [View.readAt_full (s := Mat R K), View.readAt_full (s := Mat K C), View.readCov_full (s := Mat R K), h2.read_unread, h3.read_unread]
    exact congrArg (multiplied · x1) (View.read_writes_full ..)
  isplitl [H3]
  · iexists _; isplitr
    swap; · iexact H3
    ipureintro
    sl_unfold_words
    rw [View.read_writes_full]
    simp only [View.readAt_full (s := Mat R K), View.readCov_full (s := Mat R K), h2.read_unread]
    exact View.read_writes_full ..
  iexists _; isplitr
  swap; · iexact HS
  ipureintro
  sl_unfold_words
  rw [View.read_writes_full]
  simp only [View.readAt_full (s := Mat R K), h2.read_unread]

set_option maxHeartbeats 1000000 in
include h3 h4 in
/-- … and at a later block. -/
theorem body_later (hc : ¬first) (xs : Vec F (Mat R K) .bf16) :
    iprop(owns (c : Thread nD τ) a2 fullShare x0 ∗ owns (c : Thread nD τ) a3 fullShare x1 ∗ (∃ d, owns (c : Thread nD τ) a4 fullShare d)
        ∗ owns (c : Thread nD τ) a6 fullShare xs
        ∗ (iprop(owns (c : Thread nD τ) a2 fullShare x0 ∗ owns (c : Thread nD τ) a3 fullShare x1
            ∗ owns (c : Thread nD τ) a4 fullShare (multiplied xs x1) ∗ owns (c : Thread nD τ) a6 fullShare xs) -∗ Q ⟨⟩))
      ⊢ wp frame (wpE D Variants.none c none) E (body wx ww wo packed stored multiplied first a2 a3 a4 a5 h5 a6 h6) Q := by
  unfold body
  unfold owns
  iintro ⟨H0, ⟨%f1, %hf1, H1⟩, ⟨%d2, %f2, -, H2⟩, ⟨%fs, %hfs, HS⟩, Hk⟩
  obtain rfl := h3.eq_unread hf1; obtain rfl := h6.eq_unread hfs
  sl_exec (disch := first | sl_exact hc)
  sl_step
  iapply Hk
  isplitl [H0]
  · iexact H0
  isplitl [H1]
  · iapply (owned c _ (h3.read_unread _)); iexact H1
  isplitl [H2]
  · iexists _; isplitr
    swap; · iexact H2
    ipureintro
    sl_unfold_words
    rw [View.read_writes_full]
    simp only [View.readAt_full (s := Mat R K), View.readAt_full (s := Mat K C), h3.read_unread, h6.read_unread]
  iapply (owned c _ (h6.read_unread _)); iexact HS

end Body

/-! The obligation of a pipeline whose body, at the first of every run of `J` points, stores the scratch and the emitted block, and at
    a later one reads the scratch: from the body's two triples. -/

section Obligation

variable {F : FTy → Type} [FloatOps F] {nD : Nat} {τ : Topo} {sig : RefSig} {L : Labels} {cfg : Cfg sig L} {c : Dev nD}
  (dat : Dat τ (Elt F) Unit ℕ (UR sig nD τ) ℕ cfg c) (D : Defs nD τ sig (Elt F) L) {J : ℕ} (w₀ w₁ w₂ w₃ : Fin cfg.W)
  {s : Shape} {e : EltTy} (scratch : Memref sig .tc .vmem s e) (rows : Fin cfg.N → s.Idx → Elt F e)
  (start G : sProp (MT nD τ sig Unit (Elt F) ℕ (UR sig nD τ) ℕ))

/-- A window's current buffer, and what owning it at `X` is. -/
abbrev cur (c : Dev nD) (w : Fin cfg.W) (t : Fin cfg.N) (X : (cfg.win w).block.Idx → Elt F (cfg.win w).elt) : sProp (MT nD τ sig Unit (Elt F) ℕ (UR sig nD τ) ℕ) :=
  owns (c : Thread nD τ) ((cfg.win w).stage (cfg.slots t w)) fullShare X

variable (hsep : ∀ f : Fin cfg.W → sProp (MT nD τ sig Unit (Elt F) ℕ (UR sig nD τ) ℕ), bigSep Finset.univ f = iprop(f w₀ ∗ f w₁ ∗ f w₂ ∗ f w₃))
  (hΦ : ∀ t, dat.Φ t = held start (fun t => iprop(owns (c : Thread nD τ) scratch fullShare (rows t) ∗ G)) t.val (Nat.le_of_lt_succ t.isLt))
  (hstart : start ⊢ iprop((∃ d, owns (c : Thread nD τ) scratch fullShare d) ∗ G))
  (howed : ∀ t, dat.owed t = dat.owed 0) (hrec : ∀ t, dat.recorded t = dat.recorded 0)
  (h₀ : ∀ t d, dat.before w₀ t d = dat.after w₀ t) (h₁ : ∀ t d, dat.before w₁ t d = dat.after w₁ t)
  (hrows : ∀ t t', t.val / J = t'.val / J → rows t = rows t')
  (hsame : ∀ t t' : Fin cfg.N, t.val / J = t'.val / J → dat.after w₃ t = dat.after w₃ t')
  (i₀ : ∀ t, cfg.idle w₀ t = false) (i₁ : ∀ t, cfg.idle w₁ t = false) (i₂ : ∀ t, cfg.idle w₂ t = false)
  (hidle : ∀ t : Fin cfg.N, cfg.idle w₃ (cfg.grid.coords t) = !decide (t.val % J = 0))
  (hflush : ∀ t : Fin cfg.N, ¬t.val % J = J - 1 → (cfg.win w₃).flush t = false) (hfetch : ∀ t : Fin cfg.N, (cfg.win w₃).fetch t = false)
  (hclip : ∀ (i : cfg.grid.Coords) a, (cfg.win w₃).clip i a = none) (hloose : cfg.loose w₃ = false) (hJ : 0 < J)
  (hfirst : ∀ (t : Fin cfg.N) (Q : sProp (MT nD τ sig Unit (Elt F) ℕ (UR sig nD τ) ℕ)), t.val % J = 0 →
    iprop(cur c w₀ t (dat.after w₀ t) ∗ cur c w₁ t (dat.after w₁ t) ∗ (∃ d, cur c w₂ t d) ∗ (∃ d, cur c w₃ t d)
        ∗ (∃ d, owns (c : Thread nD τ) scratch fullShare d)
        ∗ (iprop(cur c w₀ t (dat.after w₀ t) ∗ cur c w₁ t (dat.after w₁ t) ∗ cur c w₂ t (dat.after w₂ t) ∗ cur c w₃ t (dat.after w₃ t)
            ∗ owns (c : Thread nD τ) scratch fullShare (rows t)) -∗ Q))
      ⊢ wp frame (wpE D Variants.none c none) Set.univ (D .tc cfg.body (cfg.bodyArgs t (cfg.slots t))) fun _ => Q)
  (hlater : ∀ (t : Fin cfg.N) (Q : sProp (MT nD τ sig Unit (Elt F) ℕ (UR sig nD τ) ℕ)), ¬t.val % J = 0 →
    iprop(cur c w₀ t (dat.after w₀ t) ∗ cur c w₁ t (dat.after w₁ t) ∗ (∃ d, cur c w₂ t d)
        ∗ owns (c : Thread nD τ) scratch fullShare (rows t)
        ∗ (iprop(cur c w₀ t (dat.after w₀ t) ∗ cur c w₁ t (dat.after w₁ t) ∗ cur c w₂ t (dat.after w₂ t)
            ∗ owns (c : Thread nD τ) scratch fullShare (rows t)) -∗ Q))
      ⊢ wp frame (wpE D Variants.none c none) Set.univ (D .tc cfg.body (cfg.bodyArgs t (cfg.slots t))) fun _ => Q)

theorem exact_at (w : Fin cfg.W) (t : Fin cfg.N) (h : cfg.idle w (cfg.grid.coords t) = false) :
    (dat.leavesExact w t : sProp (MT nD τ sig Unit (Elt F) ℕ (UR sig nD τ) ℕ)) = cur c w t (dat.after w t) := by
  unfold Dat.leavesExact; rw [h]

include hsep hΦ hstart howed hrec h₀ h₁ hrows hsame i₀ i₁ i₂ hidle hflush hfetch hclip hloose hJ hfirst hlater in
theorem obligation : BodyObligation dat D Variants.none () Set.univ := fun t => by
  have hleave := leaves dat w₃ hidle hflush hfetch hclip hsame hJ hloose t
  have howes : dat.owesAt () t.succ = (dat.owesAt () t.castSucc : sProp (MT nD τ sig Unit (Elt F) ℕ (UR sig nD τ) ℕ)) := by
    unfold Dat.owesAt Dat.bound; rw [howed t.succ, howed t.castSucc, hrec t.succ, hrec t.castSucc]
  have post : ∀ R : sProp (MT nD τ sig Unit (Elt F) ℕ (UR sig nD τ) ℕ), R = iprop(dat.Φ t.succ ∗ dat.owesAt () t.succ
      ∗ bigSep Finset.univ fun w => dat.leavesExact w t) → R = iprop((owns (c : Thread nD τ) scratch fullShare (rows t) ∗ G) ∗ dat.owesAt () t.castSucc
      ∗ cur c w₀ t (dat.after w₀ t) ∗ cur c w₁ t (dat.after w₁ t) ∗ cur c w₂ t (dat.after w₂ t) ∗ dat.leavesExact w₃ t) := fun R hR => by
    rw [hR, hsep, hΦ, howes, exact_at dat w₀ t (i₀ _), exact_at dat w₁ t (i₁ _), exact_at dat w₂ t (i₂ _)]; rfl
  have hpost := post _ rfl
  refine triple_restated (P := iprop(dat.Φ t.castSucc ∗ dat.owesAt () t.castSucc ∗ bigSep Finset.univ fun w : Fin cfg.W => iprop(∃ d, cur c w t (dat.before w t d))))
    (Q := fun _ => iprop(dat.Φ t.succ ∗ dat.owesAt () t.succ ∗ bigSep Finset.univ fun w => dat.leavesExact w t)) ?_ rfl .rfl fun _ => .rfl
  rw [hpost, hsep, hΦ]
  simp only [h₀, h₁]
  by_cases hz : t.val % J = 0
  · exact point_first (held_elim _ _ hstart (fun t => sep_mono (anything _ _ _) .rfl) _ _) (fun _ => anything _ _ _) (fun _ => anything _ _ _)
      (hfirst t iprop((owns (c : Thread nD τ) scratch fullShare (rows t) ∗ G) ∗ dat.owesAt () t.castSucc
        ∗ cur c w₀ t (dat.after w₀ t) ∗ cur c w₁ t (dat.after w₁ t) ∗ cur c w₂ t (dat.after w₂ t) ∗ dat.leavesExact w₃ t) hz) hleave
  · have hne : t.val ≠ 0 := fun h => hz (by rw [h, Nat.zero_mod])
    have hdiv : (t.val - 1) / J = t.val / J := by
      have hm := Nat.div_add_mod t.val J
      have hl := Nat.mod_lt t.val hJ
      rw [show t.val - 1 = J * (t.val / J) + (t.val % J - 1) by omega, Nat.mul_add_div hJ, Nat.div_eq_of_lt (show t.val % J - 1 < J by omega), Nat.add_zero]
    simp only [before_later dat w₃ hidle hflush hfetch hclip hsame hJ (t.val % J - 1) t (by omega)]
    rw [show held start (fun t => iprop(owns (c : Thread nD τ) scratch fullShare (rows t) ∗ G)) t.castSucc.val (Nat.le_of_lt_succ t.castSucc.isLt)
        = iprop(owns (c : Thread nD τ) scratch fullShare (rows t) ∗ G) by
      refine (held_pos _ _ t.val _ hne).trans ?_
      rw [hrows ⟨t.val - 1, _⟩ t hdiv]]
    exact point_later (fun _ => anything _ _ _)
      (hlater t iprop((owns (c : Thread nD τ) scratch fullShare (rows t) ∗ G) ∗ dat.owesAt () t.castSucc
        ∗ cur c w₀ t (dat.after w₀ t) ∗ cur c w₁ t (dat.after w₁ t) ∗ cur c w₂ t (dat.after w₂ t) ∗ dat.leavesExact w₃ t) hz) hleave

end Obligation

end Cert.Emit

end
-- ==== Proof.InFwd.lean ====
/-
  The input projection, forwards: at the first block of a row of blocks the kernel stores the activation's rows,
  cast, in scratch and in its second result, and every block of the first result is the product of the scratch with a block of the weight's
  columns.  The run is proved here: what every window and the scratch hold after a grid point is named by the point's own blocks.
-/
module

public import proofs.«01_k».proof.Proof.Gen.InFwdIdeal.Frame
public import proofs.«01_k».proof.Proof.Gen.InFwdIdeal.Skeleton
public import proofs.«01_k».proof.Proof.Gen.RefInFwdIdeal.Read
public import proofs.«01_k».proof.Proof.Gen.InFwd
public import proofs.«01_k».proof.Proof.Product
public import proofs.«01_k».proof.Proof.EmitBody
public import Idealize.ShloMosaic.Lib.Claim
public import Idealize.ShloMosaic.Lib.Pipeline.ValueKit.Geometry

@[expose] public section

set_option maxRecDepth 16384

noncomputable section

namespace Cert.InFwdIdeal.Block

open Cert.InFwdIdeal Cert.InFwdIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the runs are stated in. -/
abbrev Res (F : FTy → Type) [FloatOps F] : Type := MT nD τ sig Unit (Elt F) ℕ (UR sig nD τ) ℕ

/-- What the body stores in scratch, and the block it writes. -/
abbrev stored (x : Vec F S1088x2048 .f32) : Vec F S1088x2048 .bf16 := k0_pay1 x
abbrev multiplied (s : Vec F S1088x2048 .bf16) (w : Vec F S2048x640 .f32) : Vec F S1088x640 .f32 := k0_pay2 s w

/-- The condition under which the body stores: the first block of a row of blocks. -/
abbrev first (i : grid0.Coords) : Prop := k0_cond1 i = 1#1

theorem first_iff (t : Fin cfg0.N) : first (grid0.coords t) ↔ t.val % 19 = 0 := by
  have ht : t.val < 76 := Nat.lt_of_lt_of_eq t.isLt N_0
  have e1 : (grid0.coords t 1).val = t.val / 1 % 19 := Pipeline.Grid.coords_val t 1 (by decide) rfl
  simp only [first, k0_cond1, e1]
  word_cmp

abbrev ms0 (t : Fin cfg0.N) : Memref sig .tc .vmem S1088x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x640 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1088x640 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1088x2048 .bf16 := win0_3.stage (cfg0.slots t 3)
abbrev hs3 (t : Fin cfg0.N) : (ms3 t).IsWhole := hstage0_3 ((cfg0.slots t 3).cast nbuf0_3)
abbrev scratch : Memref sig .tc .vmem S1088x2048 .bf16 := Memref.whole cc0_scratch0

theorem phi_eq (c : Dev nD) : (Pipeline.ΦA spec0 c : sProp (Res F)) = iprop(iprop((∃ d, owns (c : Thread nD τ) scratch fullShare d)) ∗ (∃ r, prngReg c r)) := by
  unfold Pipeline.ΦA; rw [scopedRest0_eq]; simp only [scratch, owns_whole]; rfl

theorem whole0 : Emit.Whole 1088 2048 := ⟨inb_S1088x2048_S1088x2048_0_0, h_S1088x2048⟩
theorem whole1 : Emit.Whole 2048 640 := ⟨inb_S2048x640_S2048x640_0_0, h_S2048x640⟩
theorem whole2 : Emit.Whole 1088 640 := ⟨inb_S1088x640_S1088x640_0_0, h_S1088x640⟩

/-- The body is the one over these blocks. -/
theorem bodyAt (t : Fin cfg0.N) : defs₀ (F := F) .tc cfg0.body (cfg0.bodyArgs t (cfg0.slots t)) = Emit.body whole0 whole1 whole2
    packedbf16_S1088x2048_S1088x2048_0_0 stored multiplied (first (grid0.coords t)) (ms0 t) (ms1 t) (ms2 t) (ms3 t) (hs3 t) scratch (Memref.isWhole_whole _) := by
  unfold defs₀; rw [Defs.onTc_tc]
  show cc0_mm_fwd (F := F) _ _ _ _ _ _ _ _ _ _ _ = _
  rw [cc0_mm_fwd_eq_skeleton]; rfl

/-! What the windows and the scratch hold after a point, and the run. -/

variable (m : (ℓ : Loc nD τ sig) → Buf (Elt F) ℓ) (ρ : Dev nD → PrngReg) (c : Dev nD)

/-- What the scratch holds after a point: its row of blocks, cast. -/
abbrev rows (t : Fin cfg0.N) : Vec F S1088x2048 .bf16 := stored (iblk m c 0 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => multiplied (rows m c t) (iblk m c 1 t)
    | ⟨3, _⟩ => rows m c t
  Φ t := Emit.held (Pipeline.ΦA spec0 c) (fun t => iprop(owns (c : Thread nD τ) scratch fullShare (rows m c t) ∗ (∃ r, prngReg c r))) t.val (Nat.le_of_lt_succ t.isLt)
  q _ := fullShare
  owed _ := 0

theorem A_eq (w : Fin cfg0.W) : (dats m 0 c).A w = V m c (Pipeline.arrRef spec0 w) := by dsimp only [dats]

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = multiplied (rows m c t) (iblk m c 1 t) := by dsimp only [dats]
theorem after3 (t : Fin cfg0.N) : (dats m 0 c).after 3 t = rows m c t := by dsimp only [dats]
theorem before0 (t : Fin cfg0.N) (d) : (dats m 0 c).before 0 t d = (dats m 0 c).after 0 t := before0_0_of m (dats m 0 c) (A_eq m c 0) (after0 m c) t d
theorem before1 (t : Fin cfg0.N) (d) : (dats m 0 c).before 1 t d = (dats m 0 c).after 1 t := before0_1_of m (dats m 0 c) (A_eq m c 1) (after1 m c) t d

theorem index0 : ∀ t : Fin grid0.N, win0_0.index t 0 = t.val / 19 ∧ win0_0.index t 1 = 0 := by decide +kernel

/-- Within a row of blocks the activation's rows are the same. -/
theorem rows_same (t t' : Fin cfg0.N) (h : t.val / 19 = t'.val / 19) : rows m c t = rows m c t' := by
  obtain ⟨e0, e1⟩ := index0 t
  obtain ⟨e0', e1'⟩ := index0 t'
  refine congrArg stored (funext fun j => ?_)
  unfold iblk
  rw [View.read_apply, View.read_apply]
  exact congrArg (V m c main_arg0) (funext fun
    | ⟨0, _⟩ => Fin.ext (by show win0_0.index t 0 * 1088 + 1 * (j 0).val = win0_0.index t' 0 * 1088 + 1 * (j 0).val; rw [e0, e0', h])
    | ⟨1, _⟩ => Fin.ext (by show win0_0.index t 1 * 2048 + 1 * (j 1).val = win0_0.index t' 1 * 2048 + 1 * (j 1).val; rw [e1, e1']))

theorem idle3 (t : Fin cfg0.N) : cfg0.idle 3 (cfg0.grid.coords t) = !decide (t.val % 19 = 0) := by
  rw [Bool.eq_iff_iff]
  show (!(k0_cond1 (grid0.coords t) == 1#1)) = true ↔ _
  have e : (k0_cond1 (grid0.coords t) = 1#1) ↔ t.val % 19 = 0 := first_iff t
  simp only [Bool.not_eq_true', beq_eq_false_iff_ne, ne_eq, e, decide_eq_false_iff_not]

theorem flush3 (t : Fin cfg0.N) (h : ¬t.val % 19 = 19 - 1) : (cfg0.win 3).flush t = false :=
  Bool.eq_false_iff.mpr fun h' => h ((flush0_3 t).mp h')

theorem after3_same (t t' : Fin cfg0.N) (h : t.val / 19 = t'.val / 19) : (dats m 0 c).after 3 t = (dats m 0 c).after 3 t' := by
  rw [after3, after3, rows_same m c t t' h]

theorem held_at (t : Fin (cfg0.N + 1)) : (dats (F := F) m 0 c).Φ t = Emit.held (Pipeline.ΦA spec0 c)
    (fun t => iprop(owns (c : Thread nD τ) scratch fullShare (rows m c t) ∗ (∃ r, prngReg c r))) t.val (Nat.le_of_lt_succ t.isLt) := by dsimp only [dats]

theorem phi_held : (Pipeline.ΦA spec0 c : sProp (Res F)) ⊢ iprop((∃ d, owns (c : Thread nD τ) scratch fullShare d) ∗ (∃ r, prngReg c r)) := by rw [phi_eq]

theorem obligation : BodyObligation (dats (F := F) m 0 c) (defs₀ (F := F)) Variants.none () Set.univ := by
  refine Emit.obligation (dats (F := F) m 0 c) (defs₀ (F := F)) (J := 19) 0 1 2 3 scratch (rows m c) (Pipeline.ΦA spec0 c) iprop(∃ r, prngReg c r)
    bigSep_W0 (held_at m c) (phi_held c) (fun _ => rfl) (fun _ => rfl) (before0 m c) (before1 m c) (rows_same m c) (after3_same m c)
    (fun _ => rfl) (fun _ => rfl) (fun _ => rfl) idle3 flush3 (fun _ => rfl) (fun _ _ => rfl) rfl (by decide) (fun t Q h0 => ?_) (fun t Q h0 => ?_)
  · have run := Emit.body_first whole0 whole1 whole2 packedbf16_S1088x2048_S1088x2048_0_0 stored multiplied (first (grid0.coords t)) (ms0 t) (ms1 t) (ms2 t) (ms3 t)
      (hs3 t) scratch (Memref.isWhole_whole _) (defs₀ (F := F)) c (hs0 t) (hs1 t) (hs2 t) (iblk m c 0 t) (iblk m c 1 t) Set.univ (fun _ => Q) ((first_iff t).mpr h0)
    rw [bodyAt]
    exact run
  · have run := Emit.body_later whole0 whole1 whole2 packedbf16_S1088x2048_S1088x2048_0_0 stored multiplied (first (grid0.coords t)) (ms0 t) (ms1 t) (ms2 t) (ms3 t)
      (hs3 t) scratch (Memref.isWhole_whole _) (defs₀ (F := F)) c (hs1 t) (hs2 t) (iblk m c 0 t) (iblk m c 1 t) Set.univ (fun _ => Q)
      (fun h => h0 ((first_iff t).mp h)) (rows m c t)
    rw [bodyAt]
    exact run

theorem enter : Pipeline.ΦA spec0 c ⊢ (dats m 0 c).Φ 0 := by
  rw [show (dats m 0 c).Φ 0 = Pipeline.ΦA spec0 c from rfl]

theorem leave : (dats (F := F) m 0 c).Φ (Fin.last cfg0.N) ⊢ Pipeline.ΦA spec0 c := by
  rw [held_at, phi_eq]
  exact Emit.held_elim _ _ .rfl (fun _ => sep_mono (Emit.anything _ _ _) .rfl) _ _

set_option backward.isDefEq.respectTransparency.types false in
theorem launched : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) ((θ_run defs _ _).mono (fun _ h => h.1) (launched m ρ))

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (launched m ρ))

/-! What the arrays hold after the run. -/

section Value

variable (m : (ℓ : Loc nD τ sig) → Buf (Elt Ideal) ℓ) (ρ : Dev nD → PrngReg) (c : Dev nD)

theorem index1 : ∀ t : Fin grid0.N, win0_1.index t 0 = 0 ∧ win0_1.index t 1 = t.val % 19 := by decide +kernel
theorem index2 : ∀ t : Fin grid0.N, win0_2.index t 0 = t.val / 19 ∧ win0_2.index t 1 = t.val % 19 := by decide +kernel
theorem index3 : ∀ t : Fin grid0.N, win0_3.index t 0 = t.val / 19 ∧ win0_3.index t 1 = 0 := by decide +kernel

/-- The two factors, a grid point's blocks of them, and the product. -/
abbrev left : S4352x2048.Idx → EReal := m ((c : Thread nD τ).loc main_arg0)
abbrev right : S2048x12160.Idx → EReal := m ((c : Thread nD τ).loc main_arg1)
abbrev leftBlock (t : Fin cfg0.N) : S1088x2048.Idx → EReal := iblk m c 0 t
abbrev rightBlock (t : Fin cfg0.N) : S2048x640.Idx → EReal := iblk m c 1 t
abbrev prod : S4352x12160.Idx → EReal := fun i => ∑ k : Fin 2048, left m c (ix2 (i 0) k) * right m c (ix2 k (i 1))

theorem left_at (t : Fin cfg0.N) (x : Fin 1088) (k : Fin 2048) (p : Fin 4352)
    (hp : p.val = t.val / 19 * 1088 + x.val) : leftBlock m c t (ix2 x k) = left m c (ix2 p k) := by
  obtain ⟨e0, e1⟩ := index0 t
  unfold leftBlock iblk; rw [View.read_apply]
  show V m c main_arg0 _ = _
  rw [V_main_arg0]
  exact Product.at_eq (left m c) _ _ fun
    | ⟨0, _⟩ => by show win0_0.index t 0 * 1088 + 1 * x.val = p.val; omega
    | ⟨1, _⟩ => by show win0_0.index t 1 * 2048 + 1 * k.val = k.val; omega

theorem right_at (t : Fin cfg0.N) (x : Fin 640) (k : Fin 2048) (q : Fin 12160)
    (hq : q.val = t.val % 19 * 640 + x.val) : rightBlock m c t (ix2 k x) = right m c (ix2 k q) := by
  obtain ⟨e0, e1⟩ := index1 t
  unfold rightBlock iblk; rw [View.read_apply]
  show V m c main_arg1 _ = _
  rw [V_main_arg1]
  exact Product.at_eq (right m c) _ _ fun
    | ⟨0, _⟩ => by show win0_1.index t 0 * 2048 + 1 * k.val = k.val; omega
    | ⟨1, _⟩ => by show win0_1.index t 1 * 640 + 1 * x.val = q.val; omega

theorem stored_at (x : S1088x2048.Idx → EReal) (a : Fin 1088) (b : Fin 2048) : stored (F := Ideal) x (ix2 a b) = x (ix2 a b) := by
  pointwise [stored, k0_pay1]

theorem block_at (t : Fin cfg0.N) (x : Fin 1088) (z : Fin 640) (p : Fin 4352) (q : Fin 12160) (hp : p.val = t.val / 19 * 1088 + x.val)
    (hq : q.val = t.val % 19 * 640 + z.val) :
    multiplied (F := Ideal) (stored (leftBlock m c t)) (rightBlock m c t) (ix2 x z) = ∑ k : Fin 2048, left m c (ix2 p k) * right m c (ix2 k q) := by
  pointwise [multiplied, stored, k0_pay2, k0_pay1]
  exact Finset.sum_congr rfl fun k _ => congrArg₂ (· * ·) (left_at m c t x k p hp) (right_at m c t z k q hq)

theorem final2 : (dats m 0 c).arrAt 2 cfg0.N = prod m c := by
  refine (dats m 0 c).arrAt_eq_of_covers 2 _ (by decide +kernel) fun t _ y => ?_
  obtain ⟨e0, e1⟩ := index2 t
  refine (congrFun (after2 m c t) _).trans ((Product.at_eq (multiplied (F := Ideal) (stored (leftBlock m c t)) (rightBlock m c t)) _ (ix2 (y 0) (y 1)) ?_).trans
    (block_at m c t (y 0) (y 1) (((cfg0.win 2).blk t).view.emb y 0) (((cfg0.win 2).blk t).view.emb y 1) ?_ ?_))
  · exact fun | ⟨0, _⟩ => rfl | ⟨1, _⟩ => rfl
  · show win0_2.index t 0 * 1088 + 1 * (y 0).val = _; omega
  · show win0_2.index t 1 * 640 + 1 * (y 1).val = _; omega

theorem final3 : (dats m 0 c).arrAt 3 cfg0.N = left m c := by
  refine (dats m 0 c).arrAt_eq_of_covers 3 _ (by decide +kernel) fun t _ y => ?_
  obtain ⟨e0, e1⟩ := index3 t
  refine (congrFun (after3 m c t) _).trans ((Product.at_eq (stored (F := Ideal) (leftBlock m c t)) _ (ix2 (y 0) (y 1)) ?_).trans
    ((stored_at _ _ _).trans ((left_at m c t (y 0) (y 1) (((cfg0.win 3).blk t).view.emb y 0) ?_).trans (Product.at_eq (left m c) _ _ ?_))))
  · exact fun | ⟨0, _⟩ => rfl | ⟨1, _⟩ => rfl
  · show win0_3.index t 0 * 1088 + 1 * (y 0).val = _; omega
  · exact fun
      | ⟨0, _⟩ => rfl
      | ⟨1, _⟩ => by show (y 1).val = win0_3.index t 1 * 2048 + 1 * (y 1).val; omega

/-- The run, with both results named. -/
theorem run : θ_run defs (onTc (τ := τ) (main (F := Ideal))) ⟨m, fun _ => 0, ρ⟩ fun r => ∀ c : Dev nD,
      r.2.mem ((c : Thread nD τ).loc main_v0_0) = prod m c ∧ r.2.mem ((c : Thread nD τ).loc main_v0_1) = left m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 2).trans (final2 m c), ((h.1 c).1 3).trans (final3 m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩)
    (launched m ρ)

theorem agree : Cert.RefInFwdIdeal.Read.val_main_v0 (F := Ideal) (left m c) (right m c) = prod m c := by
  funext j
  rw [Cert.RefInFwdIdeal.Read.val_main_v0_apply]
  refine Finset.sum_congr rfl fun k _ => congrArg₂ (· * ·) (Product.at_eq (left m c) _ _ ?_) (Product.at_eq (right m c) _ _ ?_) <;>
    exact fun | ⟨0, _⟩ => rfl | ⟨1, _⟩ => rfl

theorem agree_cast : Cert.RefInFwdIdeal.Read.val_main_v1 (F := Ideal) (left m c) = left m c := rfl

end Value

end Cert.InFwdIdeal.Block

/-! The program as the machine runs it differs from the one above by its name only. -/

namespace Cert.InFwd.Block

open Cert.InFwd Idealize.ShloMosaic Idealize.ShloMosaic.TcCoe Idealize.SL.Sem

variable {F : FTy → Type} [FloatOps F]

theorem defs_eq : defs (F := F) = Cert.InFwdIdeal.defs (F := F) := by
  refine congrArg (Pipeline.defs _) (congrArg Defs.onTc (funext fun l => funext fun x => ?_))
  match l, x with
  | 0, (t, s) => rfl

theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq]
  exact Cert.InFwdIdeal.Block.frame m ρ

end Cert.InFwd.Block

end
-- ==== Proof.UpFwd.lean ====
/-
  The first product of the feed-forward block, forwards: at the first block of a row of blocks the kernel stores the activation's rows,
  cast, in scratch and in its second result, and every block of the first result is the product of the scratch with a block of the weight's
  columns.  The run is proved here: what every window and the scratch hold after a grid point is named by the point's own blocks.
-/
module

public import proofs.«01_k».proof.Proof.Gen.UpFwdIdeal.Frame
public import proofs.«01_k».proof.Proof.Gen.UpFwdIdeal.Skeleton
public import proofs.«01_k».proof.Proof.Gen.RefUpFwdIdeal.Read
public import proofs.«01_k».proof.Proof.Gen.UpFwd
public import proofs.«01_k».proof.Proof.Product
public import proofs.«01_k».proof.Proof.EmitBody
public import Idealize.ShloMosaic.Lib.Claim
public import Idealize.ShloMosaic.Lib.Pipeline.ValueKit.Geometry

@[expose] public section

set_option maxRecDepth 16384

noncomputable section

namespace Cert.UpFwdIdeal.Block

open Cert.UpFwdIdeal Cert.UpFwdIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the runs are stated in. -/
abbrev Res (F : FTy → Type) [FloatOps F] : Type := MT nD τ sig Unit (Elt F) ℕ (UR sig nD τ) ℕ

/-- What the body stores in scratch, and the block it writes. -/
abbrev stored (x : Vec F S1088x2048 .f32) : Vec F S1088x2048 .bf16 := k0_pay1 x
abbrev multiplied (s : Vec F S1088x2048 .bf16) (w : Vec F S2048x512 .f32) : Vec F S1088x512 .f32 := k0_pay2 s w

/-- The condition under which the body stores: the first block of a row of blocks. -/
abbrev first (i : grid0.Coords) : Prop := k0_cond1 i = 1#1

theorem first_iff (t : Fin cfg0.N) : first (grid0.coords t) ↔ t.val % 11 = 0 := by
  have ht : t.val < 44 := Nat.lt_of_lt_of_eq t.isLt N_0
  have e1 : (grid0.coords t 1).val = t.val / 1 % 11 := Pipeline.Grid.coords_val t 1 (by decide) rfl
  simp only [first, k0_cond1, e1]
  word_cmp

abbrev ms0 (t : Fin cfg0.N) : Memref sig .tc .vmem S1088x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1088x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1088x2048 .bf16 := win0_3.stage (cfg0.slots t 3)
abbrev hs3 (t : Fin cfg0.N) : (ms3 t).IsWhole := hstage0_3 ((cfg0.slots t 3).cast nbuf0_3)
abbrev scratch : Memref sig .tc .vmem S1088x2048 .bf16 := Memref.whole cc0_scratch0

theorem phi_eq (c : Dev nD) : (Pipeline.ΦA spec0 c : sProp (Res F)) = iprop(iprop((∃ d, owns (c : Thread nD τ) scratch fullShare d)) ∗ (∃ r, prngReg c r)) := by
  unfold Pipeline.ΦA; rw [scopedRest0_eq]; simp only [scratch, owns_whole]; rfl

theorem whole0 : Emit.Whole 1088 2048 := ⟨inb_S1088x2048_S1088x2048_0_0, h_S1088x2048⟩
theorem whole1 : Emit.Whole 2048 512 := ⟨inb_S2048x512_S2048x512_0_0, h_S2048x512⟩
theorem whole2 : Emit.Whole 1088 512 := ⟨inb_S1088x512_S1088x512_0_0, h_S1088x512⟩

/-- The body is the one over these blocks. -/
theorem bodyAt (t : Fin cfg0.N) : defs₀ (F := F) .tc cfg0.body (cfg0.bodyArgs t (cfg0.slots t)) = Emit.body whole0 whole1 whole2
    packedbf16_S1088x2048_S1088x2048_0_0 stored multiplied (first (grid0.coords t)) (ms0 t) (ms1 t) (ms2 t) (ms3 t) (hs3 t) scratch (Memref.isWhole_whole _) := by
  unfold defs₀; rw [Defs.onTc_tc]
  show cc0_mm_fwd (F := F) _ _ _ _ _ _ _ _ _ _ _ = _
  rw [cc0_mm_fwd_eq_skeleton]; rfl

/-! What the windows and the scratch hold after a point, and the run. -/

variable (m : (ℓ : Loc nD τ sig) → Buf (Elt F) ℓ) (ρ : Dev nD → PrngReg) (c : Dev nD)

/-- What the scratch holds after a point: its row of blocks, cast. -/
abbrev rows (t : Fin cfg0.N) : Vec F S1088x2048 .bf16 := stored (iblk m c 0 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => multiplied (rows m c t) (iblk m c 1 t)
    | ⟨3, _⟩ => rows m c t
  Φ t := Emit.held (Pipeline.ΦA spec0 c) (fun t => iprop(owns (c : Thread nD τ) scratch fullShare (rows m c t) ∗ (∃ r, prngReg c r))) t.val (Nat.le_of_lt_succ t.isLt)
  q _ := fullShare
  owed _ := 0

theorem A_eq (w : Fin cfg0.W) : (dats m 0 c).A w = V m c (Pipeline.arrRef spec0 w) := by dsimp only [dats]

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = multiplied (rows m c t) (iblk m c 1 t) := by dsimp only [dats]
theorem after3 (t : Fin cfg0.N) : (dats m 0 c).after 3 t = rows m c t := by dsimp only [dats]
theorem before0 (t : Fin cfg0.N) (d) : (dats m 0 c).before 0 t d = (dats m 0 c).after 0 t := before0_0_of m (dats m 0 c) (A_eq m c 0) (after0 m c) t d
theorem before1 (t : Fin cfg0.N) (d) : (dats m 0 c).before 1 t d = (dats m 0 c).after 1 t := before0_1_of m (dats m 0 c) (A_eq m c 1) (after1 m c) t d

theorem index0 : ∀ t : Fin grid0.N, win0_0.index t 0 = t.val / 11 ∧ win0_0.index t 1 = 0 := by decide +kernel

/-- Within a row of blocks the activation's rows are the same. -/
theorem rows_same (t t' : Fin cfg0.N) (h : t.val / 11 = t'.val / 11) : rows m c t = rows m c t' := by
  obtain ⟨e0, e1⟩ := index0 t
  obtain ⟨e0', e1'⟩ := index0 t'
  refine congrArg stored (funext fun j => ?_)
  unfold iblk
  rw [View.read_apply, View.read_apply]
  exact congrArg (V m c main_arg0) (funext fun
    | ⟨0, _⟩ => Fin.ext (by show win0_0.index t 0 * 1088 + 1 * (j 0).val = win0_0.index t' 0 * 1088 + 1 * (j 0).val; rw [e0, e0', h])
    | ⟨1, _⟩ => Fin.ext (by show win0_0.index t 1 * 2048 + 1 * (j 1).val = win0_0.index t' 1 * 2048 + 1 * (j 1).val; rw [e1, e1']))

theorem idle3 (t : Fin cfg0.N) : cfg0.idle 3 (cfg0.grid.coords t) = !decide (t.val % 11 = 0) := by
  rw [Bool.eq_iff_iff]
  show (!(k0_cond1 (grid0.coords t) == 1#1)) = true ↔ _
  have e : (k0_cond1 (grid0.coords t) = 1#1) ↔ t.val % 11 = 0 := first_iff t
  simp only [Bool.not_eq_true', beq_eq_false_iff_ne, ne_eq, e, decide_eq_false_iff_not]

theorem flush3 (t : Fin cfg0.N) (h : ¬t.val % 11 = 11 - 1) : (cfg0.win 3).flush t = false :=
  Bool.eq_false_iff.mpr fun h' => h ((flush0_3 t).mp h')

theorem after3_same (t t' : Fin cfg0.N) (h : t.val / 11 = t'.val / 11) : (dats m 0 c).after 3 t = (dats m 0 c).after 3 t' := by
  rw [after3, after3, rows_same m c t t' h]

theorem held_at (t : Fin (cfg0.N + 1)) : (dats (F := F) m 0 c).Φ t = Emit.held (Pipeline.ΦA spec0 c)
    (fun t => iprop(owns (c : Thread nD τ) scratch fullShare (rows m c t) ∗ (∃ r, prngReg c r))) t.val (Nat.le_of_lt_succ t.isLt) := by dsimp only [dats]

theorem phi_held : (Pipeline.ΦA spec0 c : sProp (Res F)) ⊢ iprop((∃ d, owns (c : Thread nD τ) scratch fullShare d) ∗ (∃ r, prngReg c r)) := by rw [phi_eq]

theorem obligation : BodyObligation (dats (F := F) m 0 c) (defs₀ (F := F)) Variants.none () Set.univ := by
  refine Emit.obligation (dats (F := F) m 0 c) (defs₀ (F := F)) (J := 11) 0 1 2 3 scratch (rows m c) (Pipeline.ΦA spec0 c) iprop(∃ r, prngReg c r)
    bigSep_W0 (held_at m c) (phi_held c) (fun _ => rfl) (fun _ => rfl) (before0 m c) (before1 m c) (rows_same m c) (after3_same m c)
    (fun _ => rfl) (fun _ => rfl) (fun _ => rfl) idle3 flush3 (fun _ => rfl) (fun _ _ => rfl) rfl (by decide) (fun t Q h0 => ?_) (fun t Q h0 => ?_)
  · have run := Emit.body_first whole0 whole1 whole2 packedbf16_S1088x2048_S1088x2048_0_0 stored multiplied (first (grid0.coords t)) (ms0 t) (ms1 t) (ms2 t) (ms3 t)
      (hs3 t) scratch (Memref.isWhole_whole _) (defs₀ (F := F)) c (hs0 t) (hs1 t) (hs2 t) (iblk m c 0 t) (iblk m c 1 t) Set.univ (fun _ => Q) ((first_iff t).mpr h0)
    rw [bodyAt]
    exact run
  · have run := Emit.body_later whole0 whole1 whole2 packedbf16_S1088x2048_S1088x2048_0_0 stored multiplied (first (grid0.coords t)) (ms0 t) (ms1 t) (ms2 t) (ms3 t)
      (hs3 t) scratch (Memref.isWhole_whole _) (defs₀ (F := F)) c (hs1 t) (hs2 t) (iblk m c 0 t) (iblk m c 1 t) Set.univ (fun _ => Q)
      (fun h => h0 ((first_iff t).mp h)) (rows m c t)
    rw [bodyAt]
    exact run

theorem enter : Pipeline.ΦA spec0 c ⊢ (dats m 0 c).Φ 0 := by
  rw [show (dats m 0 c).Φ 0 = Pipeline.ΦA spec0 c from rfl]

theorem leave : (dats (F := F) m 0 c).Φ (Fin.last cfg0.N) ⊢ Pipeline.ΦA spec0 c := by
  rw [held_at, phi_eq]
  exact Emit.held_elim _ _ .rfl (fun _ => sep_mono (Emit.anything _ _ _) .rfl) _ _

set_option backward.isDefEq.respectTransparency.types false in
theorem launched : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) ((θ_run defs _ _).mono (fun _ h => h.1) (launched m ρ))

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (launched m ρ))

/-! What the arrays hold after the run. -/

section Value

variable (m : (ℓ : Loc nD τ sig) → Buf (Elt Ideal) ℓ) (ρ : Dev nD → PrngReg) (c : Dev nD)

theorem index1 : ∀ t : Fin grid0.N, win0_1.index t 0 = 0 ∧ win0_1.index t 1 = t.val % 11 := by decide +kernel
theorem index2 : ∀ t : Fin grid0.N, win0_2.index t 0 = t.val / 11 ∧ win0_2.index t 1 = t.val % 11 := by decide +kernel
theorem index3 : ∀ t : Fin grid0.N, win0_3.index t 0 = t.val / 11 ∧ win0_3.index t 1 = 0 := by decide +kernel

/-- The two factors, a grid point's blocks of them, and the product. -/
abbrev left : S4352x2048.Idx → EReal := m ((c : Thread nD τ).loc main_arg0)
abbrev right : S2048x5632.Idx → EReal := m ((c : Thread nD τ).loc main_arg1)
abbrev leftBlock (t : Fin cfg0.N) : S1088x2048.Idx → EReal := iblk m c 0 t
abbrev rightBlock (t : Fin cfg0.N) : S2048x512.Idx → EReal := iblk m c 1 t
abbrev prod : S4352x5632.Idx → EReal := fun i => ∑ k : Fin 2048, left m c (ix2 (i 0) k) * right m c (ix2 k (i 1))

theorem left_at (t : Fin cfg0.N) (x : Fin 1088) (k : Fin 2048) (p : Fin 4352)
    (hp : p.val = t.val / 11 * 1088 + x.val) : leftBlock m c t (ix2 x k) = left m c (ix2 p k) := by
  obtain ⟨e0, e1⟩ := index0 t
  unfold leftBlock iblk; rw [View.read_apply]
  show V m c main_arg0 _ = _
  rw [V_main_arg0]
  exact Product.at_eq (left m c) _ _ fun
    | ⟨0, _⟩ => by show win0_0.index t 0 * 1088 + 1 * x.val = p.val; omega
    | ⟨1, _⟩ => by show win0_0.index t 1 * 2048 + 1 * k.val = k.val; omega

theorem right_at (t : Fin cfg0.N) (x : Fin 512) (k : Fin 2048) (q : Fin 5632)
    (hq : q.val = t.val % 11 * 512 + x.val) : rightBlock m c t (ix2 k x) = right m c (ix2 k q) := by
  obtain ⟨e0, e1⟩ := index1 t
  unfold rightBlock iblk; rw [View.read_apply]
  show V m c main_arg1 _ = _
  rw [V_main_arg1]
  exact Product.at_eq (right m c) _ _ fun
    | ⟨0, _⟩ => by show win0_1.index t 0 * 2048 + 1 * k.val = k.val; omega
    | ⟨1, _⟩ => by show win0_1.index t 1 * 512 + 1 * x.val = q.val; omega

theorem stored_at (x : S1088x2048.Idx → EReal) (a : Fin 1088) (b : Fin 2048) : stored (F := Ideal) x (ix2 a b) = x (ix2 a b) := by
  pointwise [stored, k0_pay1]

theorem block_at (t : Fin cfg0.N) (x : Fin 1088) (z : Fin 512) (p : Fin 4352) (q : Fin 5632) (hp : p.val = t.val / 11 * 1088 + x.val)
    (hq : q.val = t.val % 11 * 512 + z.val) :
    multiplied (F := Ideal) (stored (leftBlock m c t)) (rightBlock m c t) (ix2 x z) = ∑ k : Fin 2048, left m c (ix2 p k) * right m c (ix2 k q) := by
  pointwise [multiplied, stored, k0_pay2, k0_pay1]
  exact Finset.sum_congr rfl fun k _ => congrArg₂ (· * ·) (left_at m c t x k p hp) (right_at m c t z k q hq)

theorem final2 : (dats m 0 c).arrAt 2 cfg0.N = prod m c := by
  refine (dats m 0 c).arrAt_eq_of_covers 2 _ (by decide +kernel) fun t _ y => ?_
  obtain ⟨e0, e1⟩ := index2 t
  refine (congrFun (after2 m c t) _).trans ((Product.at_eq (multiplied (F := Ideal) (stored (leftBlock m c t)) (rightBlock m c t)) _ (ix2 (y 0) (y 1)) ?_).trans
    (block_at m c t (y 0) (y 1) (((cfg0.win 2).blk t).view.emb y 0) (((cfg0.win 2).blk t).view.emb y 1) ?_ ?_))
  · exact fun | ⟨0, _⟩ => rfl | ⟨1, _⟩ => rfl
  · show win0_2.index t 0 * 1088 + 1 * (y 0).val = _; omega
  · show win0_2.index t 1 * 512 + 1 * (y 1).val = _; omega

theorem final3 : (dats m 0 c).arrAt 3 cfg0.N = left m c := by
  refine (dats m 0 c).arrAt_eq_of_covers 3 _ (by decide +kernel) fun t _ y => ?_
  obtain ⟨e0, e1⟩ := index3 t
  refine (congrFun (after3 m c t) _).trans ((Product.at_eq (stored (F := Ideal) (leftBlock m c t)) _ (ix2 (y 0) (y 1)) ?_).trans
    ((stored_at _ _ _).trans ((left_at m c t (y 0) (y 1) (((cfg0.win 3).blk t).view.emb y 0) ?_).trans (Product.at_eq (left m c) _ _ ?_))))
  · exact fun | ⟨0, _⟩ => rfl | ⟨1, _⟩ => rfl
  · show win0_3.index t 0 * 1088 + 1 * (y 0).val = _; omega
  · exact fun
      | ⟨0, _⟩ => rfl
      | ⟨1, _⟩ => by show (y 1).val = win0_3.index t 1 * 2048 + 1 * (y 1).val; omega

/-- The run, with both results named. -/
theorem run : θ_run defs (onTc (τ := τ) (main (F := Ideal))) ⟨m, fun _ => 0, ρ⟩ fun r => ∀ c : Dev nD,
      r.2.mem ((c : Thread nD τ).loc main_v0_0) = prod m c ∧ r.2.mem ((c : Thread nD τ).loc main_v0_1) = left m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 2).trans (final2 m c), ((h.1 c).1 3).trans (final3 m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩)
    (launched m ρ)

theorem agree : Cert.RefUpFwdIdeal.Read.val_main_v0 (F := Ideal) (left m c) (right m c) = prod m c := by
  funext j
  rw [Cert.RefUpFwdIdeal.Read.val_main_v0_apply]
  refine Finset.sum_congr rfl fun k _ => congrArg₂ (· * ·) (Product.at_eq (left m c) _ _ ?_) (Product.at_eq (right m c) _ _ ?_) <;>
    exact fun | ⟨0, _⟩ => rfl | ⟨1, _⟩ => rfl

theorem agree_cast : Cert.RefUpFwdIdeal.Read.val_main_v1 (F := Ideal) (left m c) = left m c := rfl

end Value

end Cert.UpFwdIdeal.Block

/-! The program as the machine runs it differs from the one above by its name only. -/

namespace Cert.UpFwd.Block

open Cert.UpFwd Idealize.ShloMosaic Idealize.ShloMosaic.TcCoe Idealize.SL.Sem

variable {F : FTy → Type} [FloatOps F]

theorem defs_eq : defs (F := F) = Cert.UpFwdIdeal.defs (F := F) := by
  refine congrArg (Pipeline.defs _) (congrArg Defs.onTc (funext fun l => funext fun x => ?_))
  match l, x with
  | 0, (t, s) => rfl

theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq]
  exact Cert.UpFwdIdeal.Block.frame m ρ

end Cert.UpFwd.Block

end
-- ==== Proof.BranchFwd.lean ====
/-
  The projection of a branch's output, forwards: at the first block of a row of blocks the kernel stores the activation's rows,
  cast, in scratch and in its second result, and every block of the first result is the product of the scratch with a block of the weight's
  columns.  The run is proved here: what every window and the scratch hold after a grid point is named by the point's own blocks.
-/
module

public import proofs.«01_k».proof.Proof.Gen.BranchFwdIdeal.Frame
public import proofs.«01_k».proof.Proof.Gen.BranchFwdIdeal.Skeleton
public import proofs.«01_k».proof.Proof.Gen.RefBranchFwdIdeal.Read
public import proofs.«01_k».proof.Proof.Gen.BranchFwd
public import proofs.«01_k».proof.Proof.Product
public import proofs.«01_k».proof.Proof.EmitBody
public import Idealize.ShloMosaic.Lib.Claim
public import Idealize.ShloMosaic.Lib.Pipeline.ValueKit.Geometry

@[expose] public section

set_option maxRecDepth 16384

noncomputable section

namespace Cert.BranchFwdIdeal.Block

open Cert.BranchFwdIdeal Cert.BranchFwdIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the runs are stated in. -/
abbrev Res (F : FTy → Type) [FloatOps F] : Type := MT nD τ sig Unit (Elt F) ℕ (UR sig nD τ) ℕ

/-- What the body stores in scratch, and the block it writes. -/
abbrev stored (x : Vec F S1088x1024 .f32) : Vec F S1088x1024 .bf16 := k0_pay1 x
abbrev multiplied (s : Vec F S1088x1024 .bf16) (w : Vec F S1024x512 .f32) : Vec F S1088x512 .f32 := k0_pay2 s w

/-- The condition under which the body stores: the first block of a row of blocks. -/
abbrev first (i : grid0.Coords) : Prop := k0_cond1 i = 1#1

theorem first_iff (t : Fin cfg0.N) : first (grid0.coords t) ↔ t.val % 4 = 0 := by
  have ht : t.val < 16 := Nat.lt_of_lt_of_eq t.isLt N_0
  have e1 : (grid0.coords t 1).val = t.val / 1 % 4 := Pipeline.Grid.coords_val t 1 (by decide) rfl
  simp only [first, k0_cond1, e1]
  word_cmp

abbrev ms0 (t : Fin cfg0.N) : Memref sig .tc .vmem S1088x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1088x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1088x1024 .bf16 := win0_3.stage (cfg0.slots t 3)
abbrev hs3 (t : Fin cfg0.N) : (ms3 t).IsWhole := hstage0_3 ((cfg0.slots t 3).cast nbuf0_3)
abbrev scratch : Memref sig .tc .vmem S1088x1024 .bf16 := Memref.whole cc0_scratch0

theorem phi_eq (c : Dev nD) : (Pipeline.ΦA spec0 c : sProp (Res F)) = iprop(iprop((∃ d, owns (c : Thread nD τ) scratch fullShare d)) ∗ (∃ r, prngReg c r)) := by
  unfold Pipeline.ΦA; rw [scopedRest0_eq]; simp only [scratch, owns_whole]; rfl

theorem whole0 : Emit.Whole 1088 1024 := ⟨inb_S1088x1024_S1088x1024_0_0, h_S1088x1024⟩
theorem whole1 : Emit.Whole 1024 512 := ⟨inb_S1024x512_S1024x512_0_0, h_S1024x512⟩
theorem whole2 : Emit.Whole 1088 512 := ⟨inb_S1088x512_S1088x512_0_0, h_S1088x512⟩

/-- The body is the one over these blocks. -/
theorem bodyAt (t : Fin cfg0.N) : defs₀ (F := F) .tc cfg0.body (cfg0.bodyArgs t (cfg0.slots t)) = Emit.body whole0 whole1 whole2
    packedbf16_S1088x1024_S1088x1024_0_0 stored multiplied (first (grid0.coords t)) (ms0 t) (ms1 t) (ms2 t) (ms3 t) (hs3 t) scratch (Memref.isWhole_whole _) := by
  unfold defs₀; rw [Defs.onTc_tc]
  show cc0_mm_fwd (F := F) _ _ _ _ _ _ _ _ _ _ _ = _
  rw [cc0_mm_fwd_eq_skeleton]; rfl

/-! What the windows and the scratch hold after a point, and the run. -/

variable (m : (ℓ : Loc nD τ sig) → Buf (Elt F) ℓ) (ρ : Dev nD → PrngReg) (c : Dev nD)

/-- What the scratch holds after a point: its row of blocks, cast. -/
abbrev rows (t : Fin cfg0.N) : Vec F S1088x1024 .bf16 := stored (iblk m c 0 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => multiplied (rows m c t) (iblk m c 1 t)
    | ⟨3, _⟩ => rows m c t
  Φ t := Emit.held (Pipeline.ΦA spec0 c) (fun t => iprop(owns (c : Thread nD τ) scratch fullShare (rows m c t) ∗ (∃ r, prngReg c r))) t.val (Nat.le_of_lt_succ t.isLt)
  q _ := fullShare
  owed _ := 0

theorem A_eq (w : Fin cfg0.W) : (dats m 0 c).A w = V m c (Pipeline.arrRef spec0 w) := by dsimp only [dats]

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = multiplied (rows m c t) (iblk m c 1 t) := by dsimp only [dats]
theorem after3 (t : Fin cfg0.N) : (dats m 0 c).after 3 t = rows m c t := by dsimp only [dats]
theorem before0 (t : Fin cfg0.N) (d) : (dats m 0 c).before 0 t d = (dats m 0 c).after 0 t := before0_0_of m (dats m 0 c) (A_eq m c 0) (after0 m c) t d
theorem before1 (t : Fin cfg0.N) (d) : (dats m 0 c).before 1 t d = (dats m 0 c).after 1 t := before0_1_of m (dats m 0 c) (A_eq m c 1) (after1 m c) t d

theorem index0 : ∀ t : Fin grid0.N, win0_0.index t 0 = t.val / 4 ∧ win0_0.index t 1 = 0 := by decide +kernel

/-- Within a row of blocks the activation's rows are the same. -/
theorem rows_same (t t' : Fin cfg0.N) (h : t.val / 4 = t'.val / 4) : rows m c t = rows m c t' := by
  obtain ⟨e0, e1⟩ := index0 t
  obtain ⟨e0', e1'⟩ := index0 t'
  refine congrArg stored (funext fun j => ?_)
  unfold iblk
  rw [View.read_apply, View.read_apply]
  exact congrArg (V m c main_arg0) (funext fun
    | ⟨0, _⟩ => Fin.ext (by show win0_0.index t 0 * 1088 + 1 * (j 0).val = win0_0.index t' 0 * 1088 + 1 * (j 0).val; rw [e0, e0', h])
    | ⟨1, _⟩ => Fin.ext (by show win0_0.index t 1 * 1024 + 1 * (j 1).val = win0_0.index t' 1 * 1024 + 1 * (j 1).val; rw [e1, e1']))

theorem idle3 (t : Fin cfg0.N) : cfg0.idle 3 (cfg0.grid.coords t) = !decide (t.val % 4 = 0) := by
  rw [Bool.eq_iff_iff]
  show (!(k0_cond1 (grid0.coords t) == 1#1)) = true ↔ _
  have e : (k0_cond1 (grid0.coords t) = 1#1) ↔ t.val % 4 = 0 := first_iff t
  simp only [Bool.not_eq_true', beq_eq_false_iff_ne, ne_eq, e, decide_eq_false_iff_not]

theorem flush3 (t : Fin cfg0.N) (h : ¬t.val % 4 = 4 - 1) : (cfg0.win 3).flush t = false :=
  Bool.eq_false_iff.mpr fun h' => h ((flush0_3 t).mp h')

theorem after3_same (t t' : Fin cfg0.N) (h : t.val / 4 = t'.val / 4) : (dats m 0 c).after 3 t = (dats m 0 c).after 3 t' := by
  rw [after3, after3, rows_same m c t t' h]

theorem held_at (t : Fin (cfg0.N + 1)) : (dats (F := F) m 0 c).Φ t = Emit.held (Pipeline.ΦA spec0 c)
    (fun t => iprop(owns (c : Thread nD τ) scratch fullShare (rows m c t) ∗ (∃ r, prngReg c r))) t.val (Nat.le_of_lt_succ t.isLt) := by dsimp only [dats]

theorem phi_held : (Pipeline.ΦA spec0 c : sProp (Res F)) ⊢ iprop((∃ d, owns (c : Thread nD τ) scratch fullShare d) ∗ (∃ r, prngReg c r)) := by rw [phi_eq]

theorem obligation : BodyObligation (dats (F := F) m 0 c) (defs₀ (F := F)) Variants.none () Set.univ := by
  refine Emit.obligation (dats (F := F) m 0 c) (defs₀ (F := F)) (J := 4) 0 1 2 3 scratch (rows m c) (Pipeline.ΦA spec0 c) iprop(∃ r, prngReg c r)
    bigSep_W0 (held_at m c) (phi_held c) (fun _ => rfl) (fun _ => rfl) (before0 m c) (before1 m c) (rows_same m c) (after3_same m c)
    (fun _ => rfl) (fun _ => rfl) (fun _ => rfl) idle3 flush3 (fun _ => rfl) (fun _ _ => rfl) rfl (by decide) (fun t Q h0 => ?_) (fun t Q h0 => ?_)
  · have run := Emit.body_first whole0 whole1 whole2 packedbf16_S1088x1024_S1088x1024_0_0 stored multiplied (first (grid0.coords t)) (ms0 t) (ms1 t) (ms2 t) (ms3 t)
      (hs3 t) scratch (Memref.isWhole_whole _) (defs₀ (F := F)) c (hs0 t) (hs1 t) (hs2 t) (iblk m c 0 t) (iblk m c 1 t) Set.univ (fun _ => Q) ((first_iff t).mpr h0)
    rw [bodyAt]
    exact run
  · have run := Emit.body_later whole0 whole1 whole2 packedbf16_S1088x1024_S1088x1024_0_0 stored multiplied (first (grid0.coords t)) (ms0 t) (ms1 t) (ms2 t) (ms3 t)
      (hs3 t) scratch (Memref.isWhole_whole _) (defs₀ (F := F)) c (hs1 t) (hs2 t) (iblk m c 0 t) (iblk m c 1 t) Set.univ (fun _ => Q)
      (fun h => h0 ((first_iff t).mp h)) (rows m c t)
    rw [bodyAt]
    exact run

theorem enter : Pipeline.ΦA spec0 c ⊢ (dats m 0 c).Φ 0 := by
  rw [show (dats m 0 c).Φ 0 = Pipeline.ΦA spec0 c from rfl]

theorem leave : (dats (F := F) m 0 c).Φ (Fin.last cfg0.N) ⊢ Pipeline.ΦA spec0 c := by
  rw [held_at, phi_eq]
  exact Emit.held_elim _ _ .rfl (fun _ => sep_mono (Emit.anything _ _ _) .rfl) _ _

set_option backward.isDefEq.respectTransparency.types false in
theorem launched : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) ((θ_run defs _ _).mono (fun _ h => h.1) (launched m ρ))

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (launched m ρ))

/-! What the arrays hold after the run. -/

section Value

variable (m : (ℓ : Loc nD τ sig) → Buf (Elt Ideal) ℓ) (ρ : Dev nD → PrngReg) (c : Dev nD)

theorem index1 : ∀ t : Fin grid0.N, win0_1.index t 0 = 0 ∧ win0_1.index t 1 = t.val % 4 := by decide +kernel
theorem index2 : ∀ t : Fin grid0.N, win0_2.index t 0 = t.val / 4 ∧ win0_2.index t 1 = t.val % 4 := by decide +kernel
theorem index3 : ∀ t : Fin grid0.N, win0_3.index t 0 = t.val / 4 ∧ win0_3.index t 1 = 0 := by decide +kernel

/-- The two factors, a grid point's blocks of them, and the product. -/
abbrev left : S4352x1024.Idx → EReal := m ((c : Thread nD τ).loc main_arg0)
abbrev right : S1024x2048.Idx → EReal := m ((c : Thread nD τ).loc main_arg1)
abbrev leftBlock (t : Fin cfg0.N) : S1088x1024.Idx → EReal := iblk m c 0 t
abbrev rightBlock (t : Fin cfg0.N) : S1024x512.Idx → EReal := iblk m c 1 t
abbrev prod : S4352x2048.Idx → EReal := fun i => ∑ k : Fin 1024, left m c (ix2 (i 0) k) * right m c (ix2 k (i 1))

theorem left_at (t : Fin cfg0.N) (x : Fin 1088) (k : Fin 1024) (p : Fin 4352)
    (hp : p.val = t.val / 4 * 1088 + x.val) : leftBlock m c t (ix2 x k) = left m c (ix2 p k) := by
  obtain ⟨e0, e1⟩ := index0 t
  unfold leftBlock iblk; rw [View.read_apply]
  show V m c main_arg0 _ = _
  rw [V_main_arg0]
  exact Product.at_eq (left m c) _ _ fun
    | ⟨0, _⟩ => by show win0_0.index t 0 * 1088 + 1 * x.val = p.val; omega
    | ⟨1, _⟩ => by show win0_0.index t 1 * 1024 + 1 * k.val = k.val; omega

theorem right_at (t : Fin cfg0.N) (x : Fin 512) (k : Fin 1024) (q : Fin 2048)
    (hq : q.val = t.val % 4 * 512 + x.val) : rightBlock m c t (ix2 k x) = right m c (ix2 k q) := by
  obtain ⟨e0, e1⟩ := index1 t
  unfold rightBlock iblk; rw [View.read_apply]
  show V m c main_arg1 _ = _
  rw [V_main_arg1]
  exact Product.at_eq (right m c) _ _ fun
    | ⟨0, _⟩ => by show win0_1.index t 0 * 1024 + 1 * k.val = k.val; omega
    | ⟨1, _⟩ => by show win0_1.index t 1 * 512 + 1 * x.val = q.val; omega

theorem stored_at (x : S1088x1024.Idx → EReal) (a : Fin 1088) (b : Fin 1024) : stored (F := Ideal) x (ix2 a b) = x (ix2 a b) := by
  pointwise [stored, k0_pay1]

theorem block_at (t : Fin cfg0.N) (x : Fin 1088) (z : Fin 512) (p : Fin 4352) (q : Fin 2048) (hp : p.val = t.val / 4 * 1088 + x.val)
    (hq : q.val = t.val % 4 * 512 + z.val) :
    multiplied (F := Ideal) (stored (leftBlock m c t)) (rightBlock m c t) (ix2 x z) = ∑ k : Fin 1024, left m c (ix2 p k) * right m c (ix2 k q) := by
  pointwise [multiplied, stored, k0_pay2, k0_pay1]
  exact Finset.sum_congr rfl fun k _ => congrArg₂ (· * ·) (left_at m c t x k p hp) (right_at m c t z k q hq)

theorem final2 : (dats m 0 c).arrAt 2 cfg0.N = prod m c := by
  refine (dats m 0 c).arrAt_eq_of_covers 2 _ (by decide +kernel) fun t _ y => ?_
  obtain ⟨e0, e1⟩ := index2 t
  refine (congrFun (after2 m c t) _).trans ((Product.at_eq (multiplied (F := Ideal) (stored (leftBlock m c t)) (rightBlock m c t)) _ (ix2 (y 0) (y 1)) ?_).trans
    (block_at m c t (y 0) (y 1) (((cfg0.win 2).blk t).view.emb y 0) (((cfg0.win 2).blk t).view.emb y 1) ?_ ?_))
  · exact fun | ⟨0, _⟩ => rfl | ⟨1, _⟩ => rfl
  · show win0_2.index t 0 * 1088 + 1 * (y 0).val = _; omega
  · show win0_2.index t 1 * 512 + 1 * (y 1).val = _; omega

theorem final3 : (dats m 0 c).arrAt 3 cfg0.N = left m c := by
  refine (dats m 0 c).arrAt_eq_of_covers 3 _ (by decide +kernel) fun t _ y => ?_
  obtain ⟨e0, e1⟩ := index3 t
  refine (congrFun (after3 m c t) _).trans ((Product.at_eq (stored (F := Ideal) (leftBlock m c t)) _ (ix2 (y 0) (y 1)) ?_).trans
    ((stored_at _ _ _).trans ((left_at m c t (y 0) (y 1) (((cfg0.win 3).blk t).view.emb y 0) ?_).trans (Product.at_eq (left m c) _ _ ?_))))
  · exact fun | ⟨0, _⟩ => rfl | ⟨1, _⟩ => rfl
  · show win0_3.index t 0 * 1088 + 1 * (y 0).val = _; omega
  · exact fun
      | ⟨0, _⟩ => rfl
      | ⟨1, _⟩ => by show (y 1).val = win0_3.index t 1 * 1024 + 1 * (y 1).val; omega

/-- The run, with both results named. -/
theorem run : θ_run defs (onTc (τ := τ) (main (F := Ideal))) ⟨m, fun _ => 0, ρ⟩ fun r => ∀ c : Dev nD,
      r.2.mem ((c : Thread nD τ).loc main_v0_0) = prod m c ∧ r.2.mem ((c : Thread nD τ).loc main_v0_1) = left m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 2).trans (final2 m c), ((h.1 c).1 3).trans (final3 m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩)
    (launched m ρ)

theorem agree : Cert.RefBranchFwdIdeal.Read.val_main_v0 (F := Ideal) (left m c) (right m c) = prod m c := by
  funext j
  rw [Cert.RefBranchFwdIdeal.Read.val_main_v0_apply]
  refine Finset.sum_congr rfl fun k _ => congrArg₂ (· * ·) (Product.at_eq (left m c) _ _ ?_) (Product.at_eq (right m c) _ _ ?_) <;>
    exact fun | ⟨0, _⟩ => rfl | ⟨1, _⟩ => rfl

theorem agree_cast : Cert.RefBranchFwdIdeal.Read.val_main_v1 (F := Ideal) (left m c) = left m c := rfl

end Value

end Cert.BranchFwdIdeal.Block

/-! The program as the machine runs it differs from the one above by its name only. -/

namespace Cert.BranchFwd.Block

open Cert.BranchFwd Idealize.ShloMosaic Idealize.ShloMosaic.TcCoe Idealize.SL.Sem

variable {F : FTy → Type} [FloatOps F]

theorem defs_eq : defs (F := F) = Cert.BranchFwdIdeal.defs (F := F) := by
  refine congrArg (Pipeline.defs _) (congrArg Defs.onTc (funext fun l => funext fun x => ?_))
  match l, x with
  | 0, (t, s) => rfl

theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq]
  exact Cert.BranchFwdIdeal.Block.frame m ρ

end Cert.BranchFwd.Block

end
-- ==== Proof.OutFwd.lean ====
/-
  The output projection, forwards: at the first block of a row of blocks the kernel stores the activation's rows,
  cast, in scratch and in its second result, and every block of the first result is the product of the scratch with a block of the weight's
  columns.  The run is proved here: what every window and the scratch hold after a grid point is named by the point's own blocks.
-/
module

public import proofs.«01_k».proof.Proof.Gen.OutFwdIdeal.Frame
public import proofs.«01_k».proof.Proof.Gen.OutFwdIdeal.Skeleton
public import proofs.«01_k».proof.Proof.Gen.RefOutFwdIdeal.Read
public import proofs.«01_k».proof.Proof.Gen.OutFwd
public import proofs.«01_k».proof.Proof.Product
public import proofs.«01_k».proof.Proof.EmitBody
public import Idealize.ShloMosaic.Lib.Claim
public import Idealize.ShloMosaic.Lib.Pipeline.ValueKit.Geometry

@[expose] public section

set_option maxRecDepth 16384

noncomputable section

namespace Cert.OutFwdIdeal.Block

open Cert.OutFwdIdeal Cert.OutFwdIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the runs are stated in. -/
abbrev Res (F : FTy → Type) [FloatOps F] : Type := MT nD τ sig Unit (Elt F) ℕ (UR sig nD τ) ℕ

/-- What the body stores in scratch, and the block it writes. -/
abbrev stored (x : Vec F S1088x2048 .f32) : Vec F S1088x2048 .bf16 := k0_pay1 x
abbrev multiplied (s : Vec F S1088x2048 .bf16) (w : Vec F S2048x512 .f32) : Vec F S1088x512 .f32 := k0_pay2 s w

/-- The condition under which the body stores: the first block of a row of blocks. -/
abbrev first (i : grid0.Coords) : Prop := k0_cond1 i = 1#1

theorem first_iff (t : Fin cfg0.N) : first (grid0.coords t) ↔ t.val % 4 = 0 := by
  have ht : t.val < 16 := Nat.lt_of_lt_of_eq t.isLt N_0
  have e1 : (grid0.coords t 1).val = t.val / 1 % 4 := Pipeline.Grid.coords_val t 1 (by decide) rfl
  simp only [first, k0_cond1, e1]
  word_cmp

abbrev ms0 (t : Fin cfg0.N) : Memref sig .tc .vmem S1088x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1088x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1088x2048 .bf16 := win0_3.stage (cfg0.slots t 3)
abbrev hs3 (t : Fin cfg0.N) : (ms3 t).IsWhole := hstage0_3 ((cfg0.slots t 3).cast nbuf0_3)
abbrev scratch : Memref sig .tc .vmem S1088x2048 .bf16 := Memref.whole cc0_scratch0

theorem phi_eq (c : Dev nD) : (Pipeline.ΦA spec0 c : sProp (Res F)) = iprop(iprop((∃ d, owns (c : Thread nD τ) scratch fullShare d)) ∗ (∃ r, prngReg c r)) := by
  unfold Pipeline.ΦA; rw [scopedRest0_eq]; simp only [scratch, owns_whole]; rfl

theorem whole0 : Emit.Whole 1088 2048 := ⟨inb_S1088x2048_S1088x2048_0_0, h_S1088x2048⟩
theorem whole1 : Emit.Whole 2048 512 := ⟨inb_S2048x512_S2048x512_0_0, h_S2048x512⟩
theorem whole2 : Emit.Whole 1088 512 := ⟨inb_S1088x512_S1088x512_0_0, h_S1088x512⟩

/-- The body is the one over these blocks. -/
theorem bodyAt (t : Fin cfg0.N) : defs₀ (F := F) .tc cfg0.body (cfg0.bodyArgs t (cfg0.slots t)) = Emit.body whole0 whole1 whole2
    packedbf16_S1088x2048_S1088x2048_0_0 stored multiplied (first (grid0.coords t)) (ms0 t) (ms1 t) (ms2 t) (ms3 t) (hs3 t) scratch (Memref.isWhole_whole _) := by
  unfold defs₀; rw [Defs.onTc_tc]
  show cc0_mm_fwd (F := F) _ _ _ _ _ _ _ _ _ _ _ = _
  rw [cc0_mm_fwd_eq_skeleton]; rfl

/-! What the windows and the scratch hold after a point, and the run. -/

variable (m : (ℓ : Loc nD τ sig) → Buf (Elt F) ℓ) (ρ : Dev nD → PrngReg) (c : Dev nD)

/-- What the scratch holds after a point: its row of blocks, cast. -/
abbrev rows (t : Fin cfg0.N) : Vec F S1088x2048 .bf16 := stored (iblk m c 0 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => multiplied (rows m c t) (iblk m c 1 t)
    | ⟨3, _⟩ => rows m c t
  Φ t := Emit.held (Pipeline.ΦA spec0 c) (fun t => iprop(owns (c : Thread nD τ) scratch fullShare (rows m c t) ∗ (∃ r, prngReg c r))) t.val (Nat.le_of_lt_succ t.isLt)
  q _ := fullShare
  owed _ := 0

theorem A_eq (w : Fin cfg0.W) : (dats m 0 c).A w = V m c (Pipeline.arrRef spec0 w) := by dsimp only [dats]

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = multiplied (rows m c t) (iblk m c 1 t) := by dsimp only [dats]
theorem after3 (t : Fin cfg0.N) : (dats m 0 c).after 3 t = rows m c t := by dsimp only [dats]
theorem before0 (t : Fin cfg0.N) (d) : (dats m 0 c).before 0 t d = (dats m 0 c).after 0 t := before0_0_of m (dats m 0 c) (A_eq m c 0) (after0 m c) t d
theorem before1 (t : Fin cfg0.N) (d) : (dats m 0 c).before 1 t d = (dats m 0 c).after 1 t := before0_1_of m (dats m 0 c) (A_eq m c 1) (after1 m c) t d

theorem index0 : ∀ t : Fin grid0.N, win0_0.index t 0 = t.val / 4 ∧ win0_0.index t 1 = 0 := by decide +kernel

/-- Within a row of blocks the activation's rows are the same. -/
theorem rows_same (t t' : Fin cfg0.N) (h : t.val / 4 = t'.val / 4) : rows m c t = rows m c t' := by
  obtain ⟨e0, e1⟩ := index0 t
  obtain ⟨e0', e1'⟩ := index0 t'
  refine congrArg stored (funext fun j => ?_)
  unfold iblk
  rw [View.read_apply, View.read_apply]
  exact congrArg (V m c main_arg0) (funext fun
    | ⟨0, _⟩ => Fin.ext (by show win0_0.index t 0 * 1088 + 1 * (j 0).val = win0_0.index t' 0 * 1088 + 1 * (j 0).val; rw [e0, e0', h])
    | ⟨1, _⟩ => Fin.ext (by show win0_0.index t 1 * 2048 + 1 * (j 1).val = win0_0.index t' 1 * 2048 + 1 * (j 1).val; rw [e1, e1']))

theorem idle3 (t : Fin cfg0.N) : cfg0.idle 3 (cfg0.grid.coords t) = !decide (t.val % 4 = 0) := by
  rw [Bool.eq_iff_iff]
  show (!(k0_cond1 (grid0.coords t) == 1#1)) = true ↔ _
  have e : (k0_cond1 (grid0.coords t) = 1#1) ↔ t.val % 4 = 0 := first_iff t
  simp only [Bool.not_eq_true', beq_eq_false_iff_ne, ne_eq, e, decide_eq_false_iff_not]

theorem flush3 (t : Fin cfg0.N) (h : ¬t.val % 4 = 4 - 1) : (cfg0.win 3).flush t = false :=
  Bool.eq_false_iff.mpr fun h' => h ((flush0_3 t).mp h')

theorem after3_same (t t' : Fin cfg0.N) (h : t.val / 4 = t'.val / 4) : (dats m 0 c).after 3 t = (dats m 0 c).after 3 t' := by
  rw [after3, after3, rows_same m c t t' h]

theorem held_at (t : Fin (cfg0.N + 1)) : (dats (F := F) m 0 c).Φ t = Emit.held (Pipeline.ΦA spec0 c)
    (fun t => iprop(owns (c : Thread nD τ) scratch fullShare (rows m c t) ∗ (∃ r, prngReg c r))) t.val (Nat.le_of_lt_succ t.isLt) := by dsimp only [dats]

theorem phi_held : (Pipeline.ΦA spec0 c : sProp (Res F)) ⊢ iprop((∃ d, owns (c : Thread nD τ) scratch fullShare d) ∗ (∃ r, prngReg c r)) := by rw [phi_eq]

theorem obligation : BodyObligation (dats (F := F) m 0 c) (defs₀ (F := F)) Variants.none () Set.univ := by
  refine Emit.obligation (dats (F := F) m 0 c) (defs₀ (F := F)) (J := 4) 0 1 2 3 scratch (rows m c) (Pipeline.ΦA spec0 c) iprop(∃ r, prngReg c r)
    bigSep_W0 (held_at m c) (phi_held c) (fun _ => rfl) (fun _ => rfl) (before0 m c) (before1 m c) (rows_same m c) (after3_same m c)
    (fun _ => rfl) (fun _ => rfl) (fun _ => rfl) idle3 flush3 (fun _ => rfl) (fun _ _ => rfl) rfl (by decide) (fun t Q h0 => ?_) (fun t Q h0 => ?_)
  · have run := Emit.body_first whole0 whole1 whole2 packedbf16_S1088x2048_S1088x2048_0_0 stored multiplied (first (grid0.coords t)) (ms0 t) (ms1 t) (ms2 t) (ms3 t)
      (hs3 t) scratch (Memref.isWhole_whole _) (defs₀ (F := F)) c (hs0 t) (hs1 t) (hs2 t) (iblk m c 0 t) (iblk m c 1 t) Set.univ (fun _ => Q) ((first_iff t).mpr h0)
    rw [bodyAt]
    exact run
  · have run := Emit.body_later whole0 whole1 whole2 packedbf16_S1088x2048_S1088x2048_0_0 stored multiplied (first (grid0.coords t)) (ms0 t) (ms1 t) (ms2 t) (ms3 t)
      (hs3 t) scratch (Memref.isWhole_whole _) (defs₀ (F := F)) c (hs1 t) (hs2 t) (iblk m c 0 t) (iblk m c 1 t) Set.univ (fun _ => Q)
      (fun h => h0 ((first_iff t).mp h)) (rows m c t)
    rw [bodyAt]
    exact run

theorem enter : Pipeline.ΦA spec0 c ⊢ (dats m 0 c).Φ 0 := by
  rw [show (dats m 0 c).Φ 0 = Pipeline.ΦA spec0 c from rfl]

theorem leave : (dats (F := F) m 0 c).Φ (Fin.last cfg0.N) ⊢ Pipeline.ΦA spec0 c := by
  rw [held_at, phi_eq]
  exact Emit.held_elim _ _ .rfl (fun _ => sep_mono (Emit.anything _ _ _) .rfl) _ _

set_option backward.isDefEq.respectTransparency.types false in
theorem launched : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) ((θ_run defs _ _).mono (fun _ h => h.1) (launched m ρ))

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (launched m ρ))

/-! What the arrays hold after the run. -/

section Value

variable (m : (ℓ : Loc nD τ sig) → Buf (Elt Ideal) ℓ) (ρ : Dev nD → PrngReg) (c : Dev nD)

theorem index1 : ∀ t : Fin grid0.N, win0_1.index t 0 = 0 ∧ win0_1.index t 1 = t.val % 4 := by decide +kernel
theorem index2 : ∀ t : Fin grid0.N, win0_2.index t 0 = t.val / 4 ∧ win0_2.index t 1 = t.val % 4 := by decide +kernel
theorem index3 : ∀ t : Fin grid0.N, win0_3.index t 0 = t.val / 4 ∧ win0_3.index t 1 = 0 := by decide +kernel

/-- The two factors, a grid point's blocks of them, and the product. -/
abbrev left : S4352x2048.Idx → EReal := m ((c : Thread nD τ).loc main_arg0)
abbrev right : S2048x2048.Idx → EReal := m ((c : Thread nD τ).loc main_arg1)
abbrev leftBlock (t : Fin cfg0.N) : S1088x2048.Idx → EReal := iblk m c 0 t
abbrev rightBlock (t : Fin cfg0.N) : S2048x512.Idx → EReal := iblk m c 1 t
abbrev prod : S4352x2048.Idx → EReal := fun i => ∑ k : Fin 2048, left m c (ix2 (i 0) k) * right m c (ix2 k (i 1))

theorem left_at (t : Fin cfg0.N) (x : Fin 1088) (k : Fin 2048) (p : Fin 4352)
    (hp : p.val = t.val / 4 * 1088 + x.val) : leftBlock m c t (ix2 x k) = left m c (ix2 p k) := by
  obtain ⟨e0, e1⟩ := index0 t
  unfold leftBlock iblk; rw [View.read_apply]
  show V m c main_arg0 _ = _
  rw [V_main_arg0]
  exact Product.at_eq (left m c) _ _ fun
    | ⟨0, _⟩ => by show win0_0.index t 0 * 1088 + 1 * x.val = p.val; omega
    | ⟨1, _⟩ => by show win0_0.index t 1 * 2048 + 1 * k.val = k.val; omega

theorem right_at (t : Fin cfg0.N) (x : Fin 512) (k : Fin 2048) (q : Fin 2048)
    (hq : q.val = t.val % 4 * 512 + x.val) : rightBlock m c t (ix2 k x) = right m c (ix2 k q) := by
  obtain ⟨e0, e1⟩ := index1 t
  unfold rightBlock iblk; rw [View.read_apply]
  show V m c main_arg1 _ = _
  rw [V_main_arg1]
  exact Product.at_eq (right m c) _ _ fun
    | ⟨0, _⟩ => by show win0_1.index t 0 * 2048 + 1 * k.val = k.val; omega
    | ⟨1, _⟩ => by show win0_1.index t 1 * 512 + 1 * x.val = q.val; omega

theorem stored_at (x : S1088x2048.Idx → EReal) (a : Fin 1088) (b : Fin 2048) : stored (F := Ideal) x (ix2 a b) = x (ix2 a b) := by
  pointwise [stored, k0_pay1]

theorem block_at (t : Fin cfg0.N) (x : Fin 1088) (z : Fin 512) (p : Fin 4352) (q : Fin 2048) (hp : p.val = t.val / 4 * 1088 + x.val)
    (hq : q.val = t.val % 4 * 512 + z.val) :
    multiplied (F := Ideal) (stored (leftBlock m c t)) (rightBlock m c t) (ix2 x z) = ∑ k : Fin 2048, left m c (ix2 p k) * right m c (ix2 k q) := by
  pointwise [multiplied, stored, k0_pay2, k0_pay1]
  exact Finset.sum_congr rfl fun k _ => congrArg₂ (· * ·) (left_at m c t x k p hp) (right_at m c t z k q hq)

theorem final2 : (dats m 0 c).arrAt 2 cfg0.N = prod m c := by
  refine (dats m 0 c).arrAt_eq_of_covers 2 _ (by decide +kernel) fun t _ y => ?_
  obtain ⟨e0, e1⟩ := index2 t
  refine (congrFun (after2 m c t) _).trans ((Product.at_eq (multiplied (F := Ideal) (stored (leftBlock m c t)) (rightBlock m c t)) _ (ix2 (y 0) (y 1)) ?_).trans
    (block_at m c t (y 0) (y 1) (((cfg0.win 2).blk t).view.emb y 0) (((cfg0.win 2).blk t).view.emb y 1) ?_ ?_))
  · exact fun | ⟨0, _⟩ => rfl | ⟨1, _⟩ => rfl
  · show win0_2.index t 0 * 1088 + 1 * (y 0).val = _; omega
  · show win0_2.index t 1 * 512 + 1 * (y 1).val = _; omega

theorem final3 : (dats m 0 c).arrAt 3 cfg0.N = left m c := by
  refine (dats m 0 c).arrAt_eq_of_covers 3 _ (by decide +kernel) fun t _ y => ?_
  obtain ⟨e0, e1⟩ := index3 t
  refine (congrFun (after3 m c t) _).trans ((Product.at_eq (stored (F := Ideal) (leftBlock m c t)) _ (ix2 (y 0) (y 1)) ?_).trans
    ((stored_at _ _ _).trans ((left_at m c t (y 0) (y 1) (((cfg0.win 3).blk t).view.emb y 0) ?_).trans (Product.at_eq (left m c) _ _ ?_))))
  · exact fun | ⟨0, _⟩ => rfl | ⟨1, _⟩ => rfl
  · show win0_3.index t 0 * 1088 + 1 * (y 0).val = _; omega
  · exact fun
      | ⟨0, _⟩ => rfl
      | ⟨1, _⟩ => by show (y 1).val = win0_3.index t 1 * 2048 + 1 * (y 1).val; omega

/-- The run, with both results named. -/
theorem run : θ_run defs (onTc (τ := τ) (main (F := Ideal))) ⟨m, fun _ => 0, ρ⟩ fun r => ∀ c : Dev nD,
      r.2.mem ((c : Thread nD τ).loc main_v0_0) = prod m c ∧ r.2.mem ((c : Thread nD τ).loc main_v0_1) = left m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 2).trans (final2 m c), ((h.1 c).1 3).trans (final3 m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩)
    (launched m ρ)

theorem agree : Cert.RefOutFwdIdeal.Read.val_main_v0 (F := Ideal) (left m c) (right m c) = prod m c := by
  funext j
  rw [Cert.RefOutFwdIdeal.Read.val_main_v0_apply]
  refine Finset.sum_congr rfl fun k _ => congrArg₂ (· * ·) (Product.at_eq (left m c) _ _ ?_) (Product.at_eq (right m c) _ _ ?_) <;>
    exact fun | ⟨0, _⟩ => rfl | ⟨1, _⟩ => rfl

theorem agree_cast : Cert.RefOutFwdIdeal.Read.val_main_v1 (F := Ideal) (left m c) = left m c := rfl

end Value

end Cert.OutFwdIdeal.Block

/-! The program as the machine runs it differs from the one above by its name only. -/

namespace Cert.OutFwd.Block

open Cert.OutFwd Idealize.ShloMosaic Idealize.ShloMosaic.TcCoe Idealize.SL.Sem

variable {F : FTy → Type} [FloatOps F]

theorem defs_eq : defs (F := F) = Cert.OutFwdIdeal.defs (F := F) := by
  refine congrArg (Pipeline.defs _) (congrArg Defs.onTc (funext fun l => funext fun x => ?_))
  match l, x with
  | 0, (t, s) => rfl

theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq]
  exact Cert.OutFwdIdeal.Block.frame m ρ

end Cert.OutFwd.Block

end
-- ==== Proof.InWgrad.lean ====
/-
  The weight gradient of the layer's input projection: the kernel's fold over blocks of tokens is the product of the transposed
  activations with the cotangent.
-/
module

public import proofs.«01_k».proof.Proof.Gen.InWgradIdeal.Value
public import proofs.«01_k».proof.Proof.Gen.RefInWgradIdeal.Read
public import proofs.«01_k».proof.Proof.Product

@[expose] public section

noncomputable section

namespace Cert.InWgradIdeal.Block

open Cert.InWgradIdeal Cert.InWgradIdeal.Gen Cert.InWgradIdeal.Value Idealize.ShloMosaic Idealize.ShloMosaic.TcCoe Idealize.SL.Sem

variable (m : (ℓ : Loc nD τ sig) → Buf (Elt Ideal) ℓ) (c : Dev nD)

theorem index0 : ∀ t : Fin grid0.N, win0_0.index t 0 = t.val % 4 ∧ win0_0.index t 1 = t.val / 4 / 19 := by decide +kernel
theorem index1 : ∀ t : Fin grid0.N, win0_1.index t 0 = t.val % 4 ∧ win0_1.index t 1 = t.val / 4 % 19 := by decide +kernel

/-- The two factors, and a grid point's blocks of them. -/
abbrev left : S4352x2048.Idx → EReal := m ((c : Thread nD τ).loc main_arg0)
abbrev right : S4352x12160.Idx → EReal := m ((c : Thread nD τ).loc main_arg2)
abbrev leftBlock (t : Fin cfg0.N) : S1088x2048.Idx → EReal := iblk m c 0 t
abbrev rightBlock (t : Fin cfg0.N) : S1088x640.Idx → EReal := iblk m c 1 t

theorem left_at (t : Fin cfg0.N) (y : Fin 1088) (x : Fin 2048) (k : Fin 4352) (p : Fin 2048) (hk : k.val = t.val % 4 * 1088 + y.val)
    (hp : p.val = t.val / 4 / 19 * 2048 + x.val) : leftBlock m c t (ix2 y x) = left m c (ix2 k p) := by
  obtain ⟨e0, e1⟩ := index0 t
  unfold leftBlock iblk; rw [View.read_apply]
  show V m c main_v0 _ = _
  unfold V
  after_results
  exact Product.at_eq (left m c) _ _ fun
    | ⟨0, _⟩ => by show win0_0.index t 0 * 1088 + 1 * y.val = k.val; omega
    | ⟨1, _⟩ => by show win0_0.index t 1 * 2048 + 1 * x.val = p.val; omega

theorem right_at (t : Fin cfg0.N) (y : Fin 1088) (x : Fin 640) (k : Fin 4352) (q : Fin 12160) (hk : k.val = t.val % 4 * 1088 + y.val)
    (hq : q.val = t.val / 4 % 19 * 640 + x.val) : rightBlock m c t (ix2 y x) = right m c (ix2 k q) := by
  obtain ⟨e0, e1⟩ := index1 t
  unfold rightBlock iblk; rw [View.read_apply]
  show V m c main_arg2 _ = _
  rw [V_main_arg2]
  exact Product.at_eq (right m c) _ _ fun
    | ⟨0, _⟩ => by show win0_1.index t 0 * 1088 + 1 * y.val = k.val; omega
    | ⟨1, _⟩ => by show win0_1.index t 1 * 640 + 1 * x.val = q.val; omega

theorem result_at (p : Fin 2048) (q : Fin 12160) :
    G2 m c (ix2 p q) = ∑ k : Fin 4352, left m c (ix2 k p) * right m c (ix2 k q) :=
  Product.of_blocks (N := cfg0.N) (nI := 1) (nJ := 19) (J := 4) (T := 1088) (R := 2048) (C := 640) (by decide) rfl (by decide) (by decide) N_0
    (reset := reset2 m c) (step := step2 m c)
    (L := fun t y x => leftBlock m c t (ix2 y x)) (B := fun t y x => rightBlock m c t (ix2 y x))
    (fun k p => left m c (ix2 k p)) (fun k q => right m c (ix2 k q))
    (fun n h x z => by unfold reset2; pointwise [k0_pay2, k0_pay1]) (fun n h acc x z => by unfold step2; pointwise [k0_pay2])
    (left_at m c) (right_at m c) p q (by show 19 * (p.val / 2048 - 0) + 1 * (q.val / 640 - 0) = _; omega) _ rfl rfl _

theorem reference_at (a : S4352x2048.Idx → EReal) (g : S4352x12160.Idx → EReal) (p : Fin 2048) (q : Fin 12160) :
    Cert.RefInWgradIdeal.Read.val_main_v2 (F := Ideal) a g (ix2 p q) = ∑ k : Fin 4352, a (ix2 k p) * g (ix2 k q) := by
  rw [Cert.RefInWgradIdeal.Read.val_main_v2_apply, Cert.RefInWgradIdeal.Read.val_main_v1_apply]
  refine Finset.sum_congr rfl fun k _ => (mul_comm _ _).trans (congrArg₂ (· * ·) (Product.at_eq a _ _ ?_) (Product.at_eq g _ _ ?_)) <;>
    exact fun | ⟨0, _⟩ => rfl | ⟨1, _⟩ => rfl

theorem agree : Cert.RefInWgradIdeal.Read.val_main_v2 (F := Ideal) (left m c) (right m c) = G2 m c := by
  funext j
  idx_vars j
  exact (reference_at _ _ _ _).trans (result_at m c _ _).symm

end Cert.InWgradIdeal.Block

end
-- ==== Proof.InDgrad.lean ====
/-
  The activation gradient of the layer's input projection: the kernel's fold over blocks of the projection's columns is the product of the
  cotangent with the transposed weight.
-/
module

public import proofs.«01_k».proof.Proof.Gen.InDgradIdeal.Value
public import proofs.«01_k».proof.Proof.Gen.RefInDgradIdeal.Read
public import proofs.«01_k».proof.Proof.Product

@[expose] public section

noncomputable section

namespace Cert.InDgradIdeal.Block

open Cert.InDgradIdeal Cert.InDgradIdeal.Gen Cert.InDgradIdeal.Value Idealize.ShloMosaic Idealize.ShloMosaic.TcCoe Idealize.SL.Sem

variable (m : (ℓ : Loc nD τ sig) → Buf (Elt Ideal) ℓ) (c : Dev nD)

theorem index0 : ∀ t : Fin grid0.N, win0_0.index t 0 = t.val / 19 / 1 ∧ win0_0.index t 1 = t.val % 19 := by decide +kernel
theorem index1 : ∀ t : Fin grid0.N, win0_1.index t 0 = t.val / 19 % 1 ∧ win0_1.index t 1 = t.val % 19 := by decide +kernel

/-- The two factors, and a grid point's blocks of them. -/
abbrev left : S4352x12160.Idx → EReal := m ((c : Thread nD τ).loc main_arg2)
abbrev right : S2048x12160.Idx → EReal := m ((c : Thread nD τ).loc main_arg1)
abbrev leftBlock (t : Fin cfg0.N) : S1088x640.Idx → EReal := iblk m c 0 t
abbrev rightBlock (t : Fin cfg0.N) : S2048x640.Idx → EReal := iblk m c 1 t

theorem left_at (t : Fin cfg0.N) (y : Fin 640) (x : Fin 1088) (k : Fin 12160) (p : Fin 4352) (hk : k.val = t.val % 19 * 640 + y.val)
    (hp : p.val = t.val / 19 / 1 * 1088 + x.val) : leftBlock m c t (ix2 x y) = left m c (ix2 p k) := by
  obtain ⟨e0, e1⟩ := index0 t
  unfold leftBlock iblk; rw [View.read_apply]
  show V m c main_arg2 _ = _
  rw [V_main_arg2]
  exact Product.at_eq (left m c) _ _ fun
    | ⟨0, _⟩ => by show win0_0.index t 0 * 1088 + 1 * x.val = p.val; omega
    | ⟨1, _⟩ => by show win0_0.index t 1 * 640 + 1 * y.val = k.val; omega

theorem right_at (t : Fin cfg0.N) (y : Fin 640) (x : Fin 2048) (k : Fin 12160) (q : Fin 2048) (hk : k.val = t.val % 19 * 640 + y.val)
    (hq : q.val = t.val / 19 % 1 * 2048 + x.val) : rightBlock m c t (ix2 x y) = right m c (ix2 q k) := by
  obtain ⟨e0, e1⟩ := index1 t
  unfold rightBlock iblk; rw [View.read_apply]
  show V m c main_arg1 _ = _
  rw [V_main_arg1]
  exact Product.at_eq (right m c) _ _ fun
    | ⟨0, _⟩ => by show win0_1.index t 0 * 2048 + 1 * x.val = q.val; omega
    | ⟨1, _⟩ => by show win0_1.index t 1 * 640 + 1 * y.val = k.val; omega

theorem result_at (p : Fin 4352) (q : Fin 2048) :
    G2 m c (ix2 p q) = ∑ k : Fin 12160, left m c (ix2 p k) * right m c (ix2 q k) :=
  Product.of_blocks (N := cfg0.N) (nI := 4) (nJ := 1) (J := 19) (T := 640) (R := 1088) (C := 2048) (by decide) rfl (by decide) (by decide) N_0
    (reset := reset2 m c) (step := step2 m c)
    (L := fun t y x => leftBlock m c t (ix2 x y)) (B := fun t y x => rightBlock m c t (ix2 x y))
    (fun k p => left m c (ix2 p k)) (fun k q => right m c (ix2 q k))
    (fun n h x z => by unfold reset2; pointwise [k0_pay2, k0_pay1]) (fun n h acc x z => by unfold step2; pointwise [k0_pay2])
    (left_at m c) (right_at m c) p q (by show 1 * (p.val / 1088 - 0) + 1 * (q.val / 2048 - 0) = _; omega) _ rfl rfl _

theorem reference_at (w : S2048x12160.Idx → EReal) (g : S4352x12160.Idx → EReal) (p : Fin 4352) (q : Fin 2048) :
    Cert.RefInDgradIdeal.Read.val_main_v3 (F := Ideal) w g (ix2 p q) = ∑ k : Fin 12160, g (ix2 p k) * w (ix2 q k) := by
  rw [Cert.RefInDgradIdeal.Read.val_main_v3_apply]
  refine Finset.sum_congr rfl fun k _ => congrArg₂ (· * ·) (Product.at_eq g _ _ ?_) (Product.at_eq w _ _ ?_) <;>
    exact fun | ⟨0, _⟩ => rfl | ⟨1, _⟩ => rfl

theorem agree : Cert.RefInDgradIdeal.Read.val_main_v3 (F := Ideal) (right m c) (left m c) = G2 m c := by
  funext j
  idx_vars j
  exact (reference_at _ _ _ _).trans (result_at m c _ _).symm

end Cert.InDgradIdeal.Block

end
-- ==== Proof.UpWgrad.lean ====
/-
  The weight gradient of the up projection: the kernel's fold over blocks of tokens is the product of the transposed
  activations with the cotangent.
-/
module

public import proofs.«01_k».proof.Proof.Gen.UpWgradIdeal.Value
public import proofs.«01_k».proof.Proof.Gen.RefUpWgradIdeal.Read
public import proofs.«01_k».proof.Proof.Product

@[expose] public section

noncomputable section

namespace Cert.UpWgradIdeal.Block

open Cert.UpWgradIdeal Cert.UpWgradIdeal.Gen Cert.UpWgradIdeal.Value Idealize.ShloMosaic Idealize.ShloMosaic.TcCoe Idealize.SL.Sem

variable (m : (ℓ : Loc nD τ sig) → Buf (Elt Ideal) ℓ) (c : Dev nD)

theorem index0 : ∀ t : Fin grid0.N, win0_0.index t 0 = t.val % 4 ∧ win0_0.index t 1 = t.val / 4 / 11 := by decide +kernel
theorem index1 : ∀ t : Fin grid0.N, win0_1.index t 0 = t.val % 4 ∧ win0_1.index t 1 = t.val / 4 % 11 := by decide +kernel

/-- The two factors, and a grid point's blocks of them. -/
abbrev left : S4352x2048.Idx → EReal := m ((c : Thread nD τ).loc main_arg0)
abbrev right : S4352x5632.Idx → EReal := m ((c : Thread nD τ).loc main_arg2)
abbrev leftBlock (t : Fin cfg0.N) : S1088x2048.Idx → EReal := iblk m c 0 t
abbrev rightBlock (t : Fin cfg0.N) : S1088x512.Idx → EReal := iblk m c 1 t

theorem left_at (t : Fin cfg0.N) (y : Fin 1088) (x : Fin 2048) (k : Fin 4352) (p : Fin 2048) (hk : k.val = t.val % 4 * 1088 + y.val)
    (hp : p.val = t.val / 4 / 11 * 2048 + x.val) : leftBlock m c t (ix2 y x) = left m c (ix2 k p) := by
  obtain ⟨e0, e1⟩ := index0 t
  unfold leftBlock iblk; rw [View.read_apply]
  show V m c main_v0 _ = _
  unfold V
  after_results
  exact Product.at_eq (left m c) _ _ fun
    | ⟨0, _⟩ => by show win0_0.index t 0 * 1088 + 1 * y.val = k.val; omega
    | ⟨1, _⟩ => by show win0_0.index t 1 * 2048 + 1 * x.val = p.val; omega

theorem right_at (t : Fin cfg0.N) (y : Fin 1088) (x : Fin 512) (k : Fin 4352) (q : Fin 5632) (hk : k.val = t.val % 4 * 1088 + y.val)
    (hq : q.val = t.val / 4 % 11 * 512 + x.val) : rightBlock m c t (ix2 y x) = right m c (ix2 k q) := by
  obtain ⟨e0, e1⟩ := index1 t
  unfold rightBlock iblk; rw [View.read_apply]
  show V m c main_arg2 _ = _
  rw [V_main_arg2]
  exact Product.at_eq (right m c) _ _ fun
    | ⟨0, _⟩ => by show win0_1.index t 0 * 1088 + 1 * y.val = k.val; omega
    | ⟨1, _⟩ => by show win0_1.index t 1 * 512 + 1 * x.val = q.val; omega

theorem result_at (p : Fin 2048) (q : Fin 5632) :
    G2 m c (ix2 p q) = ∑ k : Fin 4352, left m c (ix2 k p) * right m c (ix2 k q) :=
  Product.of_blocks (N := cfg0.N) (nI := 1) (nJ := 11) (J := 4) (T := 1088) (R := 2048) (C := 512) (by decide) rfl (by decide) (by decide) N_0
    (reset := reset2 m c) (step := step2 m c)
    (L := fun t y x => leftBlock m c t (ix2 y x)) (B := fun t y x => rightBlock m c t (ix2 y x))
    (fun k p => left m c (ix2 k p)) (fun k q => right m c (ix2 k q))
    (fun n h x z => by unfold reset2; pointwise [k0_pay2, k0_pay1]) (fun n h acc x z => by unfold step2; pointwise [k0_pay2])
    (left_at m c) (right_at m c) p q (by show 11 * (p.val / 2048 - 0) + 1 * (q.val / 512 - 0) = _; omega) _ rfl rfl _

theorem reference_at (a : S4352x2048.Idx → EReal) (g : S4352x5632.Idx → EReal) (p : Fin 2048) (q : Fin 5632) :
    Cert.RefUpWgradIdeal.Read.val_main_v2 (F := Ideal) a g (ix2 p q) = ∑ k : Fin 4352, a (ix2 k p) * g (ix2 k q) := by
  rw [Cert.RefUpWgradIdeal.Read.val_main_v2_apply, Cert.RefUpWgradIdeal.Read.val_main_v1_apply]
  refine Finset.sum_congr rfl fun k _ => (mul_comm _ _).trans (congrArg₂ (· * ·) (Product.at_eq a _ _ ?_) (Product.at_eq g _ _ ?_)) <;>
    exact fun | ⟨0, _⟩ => rfl | ⟨1, _⟩ => rfl

theorem agree : Cert.RefUpWgradIdeal.Read.val_main_v2 (F := Ideal) (left m c) (right m c) = G2 m c := by
  funext j
  idx_vars j
  exact (reference_at _ _ _ _).trans (result_at m c _ _).symm

end Cert.UpWgradIdeal.Block

end
-- ==== Proof.UpDgrad.lean ====
/-
  The activation gradient of the up projection: the kernel's fold over blocks of the projection's columns is the product of the
  cotangent with the transposed weight.
-/
module

public import proofs.«01_k».proof.Proof.Gen.UpDgradIdeal.Value
public import proofs.«01_k».proof.Proof.Gen.RefUpDgradIdeal.Read
public import proofs.«01_k».proof.Proof.Product

@[expose] public section

noncomputable section

namespace Cert.UpDgradIdeal.Block

open Cert.UpDgradIdeal Cert.UpDgradIdeal.Gen Cert.UpDgradIdeal.Value Idealize.ShloMosaic Idealize.ShloMosaic.TcCoe Idealize.SL.Sem

variable (m : (ℓ : Loc nD τ sig) → Buf (Elt Ideal) ℓ) (c : Dev nD)

theorem index0 : ∀ t : Fin grid0.N, win0_0.index t 0 = t.val / 11 / 1 ∧ win0_0.index t 1 = t.val % 11 := by decide +kernel
theorem index1 : ∀ t : Fin grid0.N, win0_1.index t 0 = t.val / 11 % 1 ∧ win0_1.index t 1 = t.val % 11 := by decide +kernel

/-- The two factors, and a grid point's blocks of them. -/
abbrev left : S4352x5632.Idx → EReal := m ((c : Thread nD τ).loc main_arg2)
abbrev right : S2048x5632.Idx → EReal := m ((c : Thread nD τ).loc main_arg1)
abbrev leftBlock (t : Fin cfg0.N) : S1088x512.Idx → EReal := iblk m c 0 t
abbrev rightBlock (t : Fin cfg0.N) : S2048x512.Idx → EReal := iblk m c 1 t

theorem left_at (t : Fin cfg0.N) (y : Fin 512) (x : Fin 1088) (k : Fin 5632) (p : Fin 4352) (hk : k.val = t.val % 11 * 512 + y.val)
    (hp : p.val = t.val / 11 / 1 * 1088 + x.val) : leftBlock m c t (ix2 x y) = left m c (ix2 p k) := by
  obtain ⟨e0, e1⟩ := index0 t
  unfold leftBlock iblk; rw [View.read_apply]
  show V m c main_arg2 _ = _
  rw [V_main_arg2]
  exact Product.at_eq (left m c) _ _ fun
    | ⟨0, _⟩ => by show win0_0.index t 0 * 1088 + 1 * x.val = p.val; omega
    | ⟨1, _⟩ => by show win0_0.index t 1 * 512 + 1 * y.val = k.val; omega

theorem right_at (t : Fin cfg0.N) (y : Fin 512) (x : Fin 2048) (k : Fin 5632) (q : Fin 2048) (hk : k.val = t.val % 11 * 512 + y.val)
    (hq : q.val = t.val / 11 % 1 * 2048 + x.val) : rightBlock m c t (ix2 x y) = right m c (ix2 q k) := by
  obtain ⟨e0, e1⟩ := index1 t
  unfold rightBlock iblk; rw [View.read_apply]
  show V m c main_arg1 _ = _
  rw [V_main_arg1]
  exact Product.at_eq (right m c) _ _ fun
    | ⟨0, _⟩ => by show win0_1.index t 0 * 2048 + 1 * x.val = q.val; omega
    | ⟨1, _⟩ => by show win0_1.index t 1 * 512 + 1 * y.val = k.val; omega

theorem result_at (p : Fin 4352) (q : Fin 2048) :
    G2 m c (ix2 p q) = ∑ k : Fin 5632, left m c (ix2 p k) * right m c (ix2 q k) :=
  Product.of_blocks (N := cfg0.N) (nI := 4) (nJ := 1) (J := 11) (T := 512) (R := 1088) (C := 2048) (by decide) rfl (by decide) (by decide) N_0
    (reset := reset2 m c) (step := step2 m c)
    (L := fun t y x => leftBlock m c t (ix2 x y)) (B := fun t y x => rightBlock m c t (ix2 x y))
    (fun k p => left m c (ix2 p k)) (fun k q => right m c (ix2 q k))
    (fun n h x z => by unfold reset2; pointwise [k0_pay2, k0_pay1]) (fun n h acc x z => by unfold step2; pointwise [k0_pay2])
    (left_at m c) (right_at m c) p q (by show 1 * (p.val / 1088 - 0) + 1 * (q.val / 2048 - 0) = _; omega) _ rfl rfl _

theorem reference_at (w : S2048x5632.Idx → EReal) (g : S4352x5632.Idx → EReal) (p : Fin 4352) (q : Fin 2048) :
    Cert.RefUpDgradIdeal.Read.val_main_v3 (F := Ideal) w g (ix2 p q) = ∑ k : Fin 5632, g (ix2 p k) * w (ix2 q k) := by
  rw [Cert.RefUpDgradIdeal.Read.val_main_v3_apply]
  refine Finset.sum_congr rfl fun k _ => congrArg₂ (· * ·) (Product.at_eq g _ _ ?_) (Product.at_eq w _ _ ?_) <;>
    exact fun | ⟨0, _⟩ => rfl | ⟨1, _⟩ => rfl

theorem agree : Cert.RefUpDgradIdeal.Read.val_main_v3 (F := Ideal) (right m c) (left m c) = G2 m c := by
  funext j
  idx_vars j
  exact (reference_at _ _ _ _).trans (result_at m c _ _).symm

end Cert.UpDgradIdeal.Block

end
-- ==== Proof.DownWgrad.lean ====
/-
  The weight gradient of the down projection: the kernel's fold over blocks of tokens is the product of the transposed
  activations with the cotangent.
-/
module

public import proofs.«01_k».proof.Proof.Gen.DownWgradIdeal.Value
public import proofs.«01_k».proof.Proof.Gen.RefDownWgradIdeal.Read
public import proofs.«01_k».proof.Proof.Product

@[expose] public section

noncomputable section

namespace Cert.DownWgradIdeal.Block

open Cert.DownWgradIdeal Cert.DownWgradIdeal.Gen Cert.DownWgradIdeal.Value Idealize.ShloMosaic Idealize.ShloMosaic.TcCoe Idealize.SL.Sem

variable (m : (ℓ : Loc nD τ sig) → Buf (Elt Ideal) ℓ) (c : Dev nD)

theorem index0 : ∀ t : Fin grid0.N, win0_0.index t 0 = t.val % 4 ∧ win0_0.index t 1 = t.val / 4 / 4 := by decide +kernel
theorem index1 : ∀ t : Fin grid0.N, win0_1.index t 0 = t.val % 4 ∧ win0_1.index t 1 = t.val / 4 % 4 := by decide +kernel

/-- The two factors, and a grid point's blocks of them. -/
abbrev left : S4352x5632.Idx → EReal := m ((c : Thread nD τ).loc main_arg0)
abbrev right : S4352x2048.Idx → EReal := m ((c : Thread nD τ).loc main_arg2)
abbrev leftBlock (t : Fin cfg0.N) : S1088x1408.Idx → EReal := iblk m c 0 t
abbrev rightBlock (t : Fin cfg0.N) : S1088x512.Idx → EReal := iblk m c 1 t

theorem left_at (t : Fin cfg0.N) (y : Fin 1088) (x : Fin 1408) (k : Fin 4352) (p : Fin 5632) (hk : k.val = t.val % 4 * 1088 + y.val)
    (hp : p.val = t.val / 4 / 4 * 1408 + x.val) : leftBlock m c t (ix2 y x) = left m c (ix2 k p) := by
  obtain ⟨e0, e1⟩ := index0 t
  unfold leftBlock iblk; rw [View.read_apply]
  show V m c main_v0 _ = _
  unfold V
  after_results
  exact Product.at_eq (left m c) _ _ fun
    | ⟨0, _⟩ => by show win0_0.index t 0 * 1088 + 1 * y.val = k.val; omega
    | ⟨1, _⟩ => by show win0_0.index t 1 * 1408 + 1 * x.val = p.val; omega

theorem right_at (t : Fin cfg0.N) (y : Fin 1088) (x : Fin 512) (k : Fin 4352) (q : Fin 2048) (hk : k.val = t.val % 4 * 1088 + y.val)
    (hq : q.val = t.val / 4 % 4 * 512 + x.val) : rightBlock m c t (ix2 y x) = right m c (ix2 k q) := by
  obtain ⟨e0, e1⟩ := index1 t
  unfold rightBlock iblk; rw [View.read_apply]
  show V m c main_arg2 _ = _
  rw [V_main_arg2]
  exact Product.at_eq (right m c) _ _ fun
    | ⟨0, _⟩ => by show win0_1.index t 0 * 1088 + 1 * y.val = k.val; omega
    | ⟨1, _⟩ => by show win0_1.index t 1 * 512 + 1 * x.val = q.val; omega

theorem result_at (p : Fin 5632) (q : Fin 2048) :
    G2 m c (ix2 p q) = ∑ k : Fin 4352, left m c (ix2 k p) * right m c (ix2 k q) :=
  Product.of_blocks (N := cfg0.N) (nI := 4) (nJ := 4) (J := 4) (T := 1088) (R := 1408) (C := 512) (by decide) rfl (by decide) (by decide) N_0
    (reset := reset2 m c) (step := step2 m c)
    (L := fun t y x => leftBlock m c t (ix2 y x)) (B := fun t y x => rightBlock m c t (ix2 y x))
    (fun k p => left m c (ix2 k p)) (fun k q => right m c (ix2 k q))
    (fun n h x z => by unfold reset2; pointwise [k0_pay2, k0_pay1]) (fun n h acc x z => by unfold step2; pointwise [k0_pay2])
    (left_at m c) (right_at m c) p q (by show 4 * (p.val / 1408 - 0) + 1 * (q.val / 512 - 0) = _; omega) _ rfl rfl _

theorem reference_at (a : S4352x5632.Idx → EReal) (g : S4352x2048.Idx → EReal) (p : Fin 5632) (q : Fin 2048) :
    Cert.RefDownWgradIdeal.Read.val_main_v2 (F := Ideal) a g (ix2 p q) = ∑ k : Fin 4352, a (ix2 k p) * g (ix2 k q) := by
  rw [Cert.RefDownWgradIdeal.Read.val_main_v2_apply, Cert.RefDownWgradIdeal.Read.val_main_v1_apply]
  refine Finset.sum_congr rfl fun k _ => (mul_comm _ _).trans (congrArg₂ (· * ·) (Product.at_eq a _ _ ?_) (Product.at_eq g _ _ ?_)) <;>
    exact fun | ⟨0, _⟩ => rfl | ⟨1, _⟩ => rfl

theorem agree : Cert.RefDownWgradIdeal.Read.val_main_v2 (F := Ideal) (left m c) (right m c) = G2 m c := by
  funext j
  idx_vars j
  exact (reference_at _ _ _ _).trans (result_at m c _ _).symm

end Cert.DownWgradIdeal.Block

end
-- ==== Proof.DownDgrad.lean ====
/-
  The activation gradient of the down projection: the kernel keeps a block of the cotangent's rows in scratch while it goes over
  the weight's rows, and every block it writes is the product of the two.
-/
module

public import proofs.«01_k».proof.Proof.Gen.DownDgradIdeal.Value
public import proofs.«01_k».proof.Proof.Gen.RefDownDgradIdeal.Read
public import proofs.«01_k».proof.Proof.Product
public import Idealize.ShloMosaic.Lib.Tactic
public import Idealize.ShloMosaic.Lib.VecWindow

@[expose] public section

noncomputable section

namespace Cert.DownDgradIdeal.Block

open Cert.DownDgradIdeal Cert.DownDgradIdeal.Gen Cert.DownDgradIdeal.Value Idealize.ShloMosaic Idealize.ShloMosaic.TcCoe Idealize.SL.Sem

/-- What the body stores in scratch, and the block it writes. -/
abbrev stored {F : FTy → Type} [FloatOps F] (x : Vec F S1088x2048 .f32) : Vec F S1088x2048 .bf16 := k0_pay1 x
abbrev multiplied {F : FTy → Type} [FloatOps F] (s : Vec F S1088x2048 .bf16) (w : Vec F S512x2048 .f32) : Vec F S1088x512 .f32 := k0_pay2 s w

section Body

variable {F : FTy → Type} [FloatOps F] (c : Dev nD) (i : grid0.Coords)
  (a2 : Memref sig .tc .vmem S1088x2048 .f32) (h2 : a2.IsWhole) (a3 : Memref sig .tc .vmem S512x2048 .f32) (h3 : a3.IsWhole)
  (a4 : Memref sig .tc .vmem S1088x512 .f32) (h4 : a4.IsWhole) (a5 : Memref sig .tc .vmem S1088x2048 .bf16) (h5 : a5.IsWhole)
  (x0 : Vec F S1088x2048 .f32) (x1 : Vec F S512x2048 .f32)

/-- At the first block of a row of blocks the body stores the cotangent's rows in scratch, … -/
theorem scratch_first (hc : cond0_0 i) : sout0_A_0 c i a2 h2 a3 h3 a4 h4 a5 h5 hc x0 x1 = stored x0 := by
  unfold sout0_A_0 kernelRun0_A; dsimp only; sl_unfold_words
  rw [View.read_writes_full]
  exact congrArg stored ((View.readAt_full ..).trans (h2.read_unread _))

/-- … multiplies what it has just stored, … -/
theorem product_first (hc : cond0_0 i) : out0_A_2 c i a2 h2 a3 h3 a4 h4 a5 h5 hc x0 x1 = multiplied (stored x0) x1 := by
  unfold out0_A_2 kernelRun0_A; dsimp only; sl_unfold_words
  rw [View.read_writes_full]
  simp only [View.readAt_full (s := S1088x2048), View.readAt_full (s := S512x2048), View.readCov_full (s := S1088x2048), h2.read_unread, h3.read_unread]

/-- … and at a later block multiplies what the scratch holds. -/
theorem product_later (hc : ¬cond0_0 i) (xs : Vec F S1088x2048 .bf16) : out0_B_2 c i a2 h2 a3 h3 a4 h4 a5 h5 hc x0 x1 xs = multiplied xs x1 := by
  unfold out0_B_2 kernelRun0_B; dsimp only; sl_unfold_words
  rw [View.read_writes_full]
  simp only [View.readAt_full (s := S1088x2048), View.readAt_full (s := S512x2048), h3.read_unread, h5.read_unread]

end Body

variable (m : (ℓ : Loc nD τ sig) → Buf (Elt Ideal) ℓ) (c : Dev nD)

theorem index0 : ∀ t : Fin grid0.N, win0_0.index t 0 = t.val / 11 ∧ win0_0.index t 1 = 0 := by decide +kernel
theorem index1 : ∀ t : Fin grid0.N, win0_1.index t 0 = t.val % 11 ∧ win0_1.index t 1 = 0 := by decide +kernel

/-- The two factors, and a grid point's blocks of them. -/
abbrev left : S4352x2048.Idx → EReal := m ((c : Thread nD τ).loc main_arg2)
abbrev right : S5632x2048.Idx → EReal := m ((c : Thread nD τ).loc main_arg1)
abbrev leftBlock (t : Fin cfg0.N) : S1088x2048.Idx → EReal := iblk m c 0 t
abbrev rightBlock (t : Fin cfg0.N) : S512x2048.Idx → EReal := iblk m c 1 t

theorem left_at (t : Fin cfg0.N) (x : Fin 1088) (k : Fin 2048) (p : Fin 4352)
    (hp : p.val = t.val / 11 * 1088 + x.val) : leftBlock m c t (ix2 x k) = left m c (ix2 p k) := by
  obtain ⟨e0, e1⟩ := index0 t
  unfold leftBlock iblk; rw [View.read_apply]
  show V m c main_arg2 _ = _
  rw [V_main_arg2]
  exact Product.at_eq (left m c) _ _ fun
    | ⟨0, _⟩ => by show win0_0.index t 0 * 1088 + 1 * x.val = p.val; omega
    | ⟨1, _⟩ => by show win0_0.index t 1 * 2048 + 1 * k.val = k.val; omega

theorem right_at (t : Fin cfg0.N) (x : Fin 512) (k : Fin 2048) (q : Fin 5632)
    (hq : q.val = t.val % 11 * 512 + x.val) : rightBlock m c t (ix2 x k) = right m c (ix2 q k) := by
  obtain ⟨e0, e1⟩ := index1 t
  unfold rightBlock iblk; rw [View.read_apply]
  show V m c main_arg1 _ = _
  rw [V_main_arg1]
  exact Product.at_eq (right m c) _ _ fun
    | ⟨0, _⟩ => by show win0_1.index t 0 * 512 + 1 * x.val = q.val; omega
    | ⟨1, _⟩ => by show win0_1.index t 1 * 2048 + 1 * k.val = k.val; omega

theorem left_same (t t' : Fin cfg0.N) (h : t.val / 11 = t'.val / 11) : leftBlock m c t = leftBlock m c t' := by
  have hN : t.val < 44 := lt_of_lt_of_eq t.isLt N_0
  funext j
  idx_vars j
  have hj := j0.isLt
  rw [left_at m c t j0 j1 ⟨t.val / 11 * 1088 + j0.val, by omega⟩ rfl, left_at m c t' j0 j1 ⟨t.val / 11 * 1088 + j0.val, by omega⟩ (by rw [← h])]

/-- What the body leaves after point `n`: the product of its blocks, and the row of blocks' scratch. -/
theorem outs (n : ℕ) (hn : n < cfg0.N) : outsAt0 m c n hn = (multiplied (F := Ideal) (stored (leftBlock m c ⟨n, hn⟩)) (rightBlock m c ⟨n, hn⟩), stored (leftBlock m c ⟨n, hn⟩)) :=
  Product.kept (J := 11) (outsAt0 m c) (fun t s => multiplied (F := Ideal) s (rightBlock m c t)) (fun t => stored (leftBlock m c t))
    (fun t h0 => by rw [outsAt0_A m c t h0, product_first, scratch_first]) (fun n h h0 => by rw [outsAt0_B m c ⟨n + 1, h⟩ h0, product_later]; rfl)
    (fun t t' h => congrArg stored (left_same m c t t' h)) n hn

theorem result_at (p : Fin 4352) (q : Fin 5632) :
    G2 m c (ix2 p q) = ∑ k : Fin 2048, left m c (ix2 p k) * right m c (ix2 q k) := by
  have hp := p.isLt
  have hq := q.isLt
  have hpt : pt2Of (ix2 p q) = 11 * (p.val / 1088) + q.val / 512 := by
    show 11 * (p.val / 1088 - 0) + 1 * (q.val / 512 - 0) = _
    omega
  have hlt : pt2Of (ix2 p q) < cfg0.N := by rw [hpt, show cfg0.N = 44 from N_0]; omega
  have hloc : loc2Of (ix2 p q) = ix2 ⟨p.val % 1088, Nat.mod_lt _ (by decide)⟩ ⟨q.val % 512, Nat.mod_lt _ (by decide)⟩ :=
    funext fun | ⟨0, _⟩ => rfl | ⟨1, _⟩ => rfl
  unfold G2
  rw [dif_pos hlt, ← outsAt0_sweep m c _ hlt, outs, hloc]
  show multiplied (F := Ideal) (stored (leftBlock m c ⟨pt2Of (ix2 p q), hlt⟩)) (rightBlock m c ⟨pt2Of (ix2 p q), hlt⟩) _ = _
  pointwise [multiplied, stored, k0_pay2, k0_pay1]
  exact Finset.sum_congr rfl fun k _ => congrArg₂ (· * ·)
    (left_at m c _ _ k p (by show p.val = pt2Of (ix2 p q) / 11 * 1088 + p.val % 1088; omega))
    (right_at m c _ _ k q (by show q.val = pt2Of (ix2 p q) % 11 * 512 + q.val % 512; omega))

theorem reference_at (w : S5632x2048.Idx → EReal) (g : S4352x2048.Idx → EReal) (p : Fin 4352) (q : Fin 5632) :
    Cert.RefDownDgradIdeal.Read.val_main_v3 (F := Ideal) w g (ix2 p q) = ∑ k : Fin 2048, g (ix2 p k) * w (ix2 q k) := by
  rw [Cert.RefDownDgradIdeal.Read.val_main_v3_apply]
  refine Finset.sum_congr rfl fun k _ => congrArg₂ (· * ·) (Product.at_eq g _ _ ?_) (Product.at_eq w _ _ ?_) <;>
    exact fun | ⟨0, _⟩ => rfl | ⟨1, _⟩ => rfl

theorem agree : Cert.RefDownDgradIdeal.Read.val_main_v3 (F := Ideal) (right m c) (left m c) = G2 m c := by
  funext j
  idx_vars j
  exact (reference_at _ _ _ _).trans (result_at m c _ _).symm

end Cert.DownDgradIdeal.Block

end
-- ==== Proof.DownFwd.lean ====
/-
  The down projection, forward: the kernel's fold over blocks of the contracted axis is the product.
-/
module

public import proofs.«01_k».proof.Proof.Gen.DownFwdIdeal.Value
public import proofs.«01_k».proof.Proof.Gen.RefDownFwdIdeal.Read
public import proofs.«01_k».proof.Proof.Product

@[expose] public section

noncomputable section

namespace Cert.DownFwdIdeal.Block

open Cert.DownFwdIdeal Cert.DownFwdIdeal.Gen Cert.DownFwdIdeal.Value Idealize.ShloMosaic Idealize.ShloMosaic.TcCoe Idealize.SL.Sem

variable (m : (ℓ : Loc nD τ sig) → Buf (Elt Ideal) ℓ) (c : Dev nD)

theorem index0 : ∀ t : Fin grid0.N, win0_0.index t 0 = t.val / 11 / 1 ∧ win0_0.index t 1 = t.val % 11 := by decide +kernel
theorem index1 : ∀ t : Fin grid0.N, win0_1.index t 0 = t.val % 11 ∧ win0_1.index t 1 = t.val / 11 % 1 := by decide +kernel

/-- The two factors, and a grid point's blocks of them. -/
abbrev left : S4352x5632.Idx → EReal := m ((c : Thread nD τ).loc main_arg0)
abbrev right : S5632x2048.Idx → EReal := m ((c : Thread nD τ).loc main_arg1)
abbrev leftBlock (t : Fin cfg0.N) : S1088x512.Idx → EReal := iblk m c 0 t
abbrev rightBlock (t : Fin cfg0.N) : S512x2048.Idx → EReal := iblk m c 1 t

theorem left_at (t : Fin cfg0.N) (y : Fin 512) (x : Fin 1088) (k : Fin 5632) (p : Fin 4352) (hk : k.val = t.val % 11 * 512 + y.val)
    (hp : p.val = t.val / 11 / 1 * 1088 + x.val) : leftBlock m c t (ix2 x y) = left m c (ix2 p k) := by
  obtain ⟨e0, e1⟩ := index0 t
  unfold leftBlock iblk; rw [View.read_apply]
  show V m c main_arg0 _ = _
  rw [V_main_arg0]
  exact Product.at_eq (left m c) _ _ fun
    | ⟨0, _⟩ => by show win0_0.index t 0 * 1088 + 1 * x.val = p.val; omega
    | ⟨1, _⟩ => by show win0_0.index t 1 * 512 + 1 * y.val = k.val; omega

theorem right_at (t : Fin cfg0.N) (y : Fin 512) (x : Fin 2048) (k : Fin 5632) (q : Fin 2048) (hk : k.val = t.val % 11 * 512 + y.val)
    (hq : q.val = t.val / 11 % 1 * 2048 + x.val) : rightBlock m c t (ix2 y x) = right m c (ix2 k q) := by
  obtain ⟨e0, e1⟩ := index1 t
  unfold rightBlock iblk; rw [View.read_apply]
  show V m c main_arg1 _ = _
  rw [V_main_arg1]
  exact Product.at_eq (right m c) _ _ fun
    | ⟨0, _⟩ => by show win0_1.index t 0 * 512 + 1 * y.val = k.val; omega
    | ⟨1, _⟩ => by show win0_1.index t 1 * 2048 + 1 * x.val = q.val; omega

theorem result_at (p : Fin 4352) (q : Fin 2048) :
    G2 m c (ix2 p q) = ∑ k : Fin 5632, left m c (ix2 p k) * right m c (ix2 k q) :=
  Product.of_blocks (N := cfg0.N) (nI := 4) (nJ := 1) (J := 11) (T := 512) (R := 1088) (C := 2048) (by decide) rfl (by decide) (by decide) N_0
    (reset := reset2 m c) (step := step2 m c)
    (L := fun t y x => leftBlock m c t (ix2 x y)) (B := fun t y x => rightBlock m c t (ix2 y x))
    (fun k p => left m c (ix2 p k)) (fun k q => right m c (ix2 k q))
    (fun n h x z => by unfold reset2; pointwise [k0_pay2, k0_pay1]) (fun n h acc x z => by unfold step2; pointwise [k0_pay2])
    (left_at m c) (right_at m c) p q (by show 1 * (p.val / 1088 - 0) + 1 * (q.val / 2048 - 0) = _; omega) _ rfl rfl _

theorem reference_at (a : S4352x5632.Idx → EReal) (w : S5632x2048.Idx → EReal) (p : Fin 4352) (q : Fin 2048) :
    Cert.RefDownFwdIdeal.Read.val_main_v0 (F := Ideal) a w (ix2 p q) = ∑ k : Fin 5632, a (ix2 p k) * w (ix2 k q) := by
  rw [Cert.RefDownFwdIdeal.Read.val_main_v0_apply]
  refine Finset.sum_congr rfl fun k _ => congrArg₂ (· * ·) (Product.at_eq a _ _ ?_) (Product.at_eq w _ _ ?_) <;>
    exact fun | ⟨0, _⟩ => rfl | ⟨1, _⟩ => rfl

theorem agree : Cert.RefDownFwdIdeal.Read.val_main_v0 (F := Ideal) (left m c) (right m c) = G2 m c := by
  funext j
  idx_vars j
  exact (reference_at _ _ _ _).trans (result_at m c _ _).symm

end Cert.DownFwdIdeal.Block

end
-- ==== Proof.BranchWgrad.lean ====
/-
  The weight gradient of a branch's output projection: the kernel's fold over blocks of tokens is the product of the transposed
  activations with the cotangent.
-/
module

public import proofs.«01_k».proof.Proof.Gen.BranchWgradIdeal.Value
public import proofs.«01_k».proof.Proof.Gen.RefBranchWgradIdeal.Read
public import proofs.«01_k».proof.Proof.Product

@[expose] public section

noncomputable section

namespace Cert.BranchWgradIdeal.Block

open Cert.BranchWgradIdeal Cert.BranchWgradIdeal.Gen Cert.BranchWgradIdeal.Value Idealize.ShloMosaic Idealize.ShloMosaic.TcCoe Idealize.SL.Sem

variable (m : (ℓ : Loc nD τ sig) → Buf (Elt Ideal) ℓ) (c : Dev nD)

theorem index0 : ∀ t : Fin grid0.N, win0_0.index t 0 = t.val % 4 ∧ win0_0.index t 1 = t.val / 4 / 4 := by decide +kernel
theorem index1 : ∀ t : Fin grid0.N, win0_1.index t 0 = t.val % 4 ∧ win0_1.index t 1 = t.val / 4 % 4 := by decide +kernel

/-- The two factors, and a grid point's blocks of them. -/
abbrev left : S4352x1024.Idx → EReal := m ((c : Thread nD τ).loc main_arg0)
abbrev right : S4352x2048.Idx → EReal := m ((c : Thread nD τ).loc main_arg2)
abbrev leftBlock (t : Fin cfg0.N) : S1088x1024.Idx → EReal := iblk m c 0 t
abbrev rightBlock (t : Fin cfg0.N) : S1088x512.Idx → EReal := iblk m c 1 t

theorem left_at (t : Fin cfg0.N) (y : Fin 1088) (x : Fin 1024) (k : Fin 4352) (p : Fin 1024) (hk : k.val = t.val % 4 * 1088 + y.val)
    (hp : p.val = t.val / 4 / 4 * 1024 + x.val) : leftBlock m c t (ix2 y x) = left m c (ix2 k p) := by
  obtain ⟨e0, e1⟩ := index0 t
  unfold leftBlock iblk; rw [View.read_apply]
  show V m c main_v0 _ = _
  unfold V
  after_results
  exact Product.at_eq (left m c) _ _ fun
    | ⟨0, _⟩ => by show win0_0.index t 0 * 1088 + 1 * y.val = k.val; omega
    | ⟨1, _⟩ => by show win0_0.index t 1 * 1024 + 1 * x.val = p.val; omega

theorem right_at (t : Fin cfg0.N) (y : Fin 1088) (x : Fin 512) (k : Fin 4352) (q : Fin 2048) (hk : k.val = t.val % 4 * 1088 + y.val)
    (hq : q.val = t.val / 4 % 4 * 512 + x.val) : rightBlock m c t (ix2 y x) = right m c (ix2 k q) := by
  obtain ⟨e0, e1⟩ := index1 t
  unfold rightBlock iblk; rw [View.read_apply]
  show V m c main_arg2 _ = _
  rw [V_main_arg2]
  exact Product.at_eq (right m c) _ _ fun
    | ⟨0, _⟩ => by show win0_1.index t 0 * 1088 + 1 * y.val = k.val; omega
    | ⟨1, _⟩ => by show win0_1.index t 1 * 512 + 1 * x.val = q.val; omega

theorem result_at (p : Fin 1024) (q : Fin 2048) :
    G2 m c (ix2 p q) = ∑ k : Fin 4352, left m c (ix2 k p) * right m c (ix2 k q) :=
  Product.of_blocks (N := cfg0.N) (nI := 1) (nJ := 4) (J := 4) (T := 1088) (R := 1024) (C := 512) (by decide) rfl (by decide) (by decide) N_0
    (reset := reset2 m c) (step := step2 m c)
    (L := fun t y x => leftBlock m c t (ix2 y x)) (B := fun t y x => rightBlock m c t (ix2 y x))
    (fun k p => left m c (ix2 k p)) (fun k q => right m c (ix2 k q))
    (fun n h x z => by unfold reset2; pointwise [k0_pay2, k0_pay1]) (fun n h acc x z => by unfold step2; pointwise [k0_pay2])
    (left_at m c) (right_at m c) p q (by show 4 * (p.val / 1024 - 0) + 1 * (q.val / 512 - 0) = _; omega) _ rfl rfl _

theorem reference_at (a : S4352x1024.Idx → EReal) (g : S4352x2048.Idx → EReal) (p : Fin 1024) (q : Fin 2048) :
    Cert.RefBranchWgradIdeal.Read.val_main_v2 (F := Ideal) a g (ix2 p q) = ∑ k : Fin 4352, a (ix2 k p) * g (ix2 k q) := by
  rw [Cert.RefBranchWgradIdeal.Read.val_main_v2_apply, Cert.RefBranchWgradIdeal.Read.val_main_v1_apply]
  refine Finset.sum_congr rfl fun k _ => (mul_comm _ _).trans (congrArg₂ (· * ·) (Product.at_eq a _ _ ?_) (Product.at_eq g _ _ ?_)) <;>
    exact fun | ⟨0, _⟩ => rfl | ⟨1, _⟩ => rfl

theorem agree : Cert.RefBranchWgradIdeal.Read.val_main_v2 (F := Ideal) (left m c) (right m c) = G2 m c := by
  funext j
  idx_vars j
  exact (reference_at _ _ _ _).trans (result_at m c _ _).symm

end Cert.BranchWgradIdeal.Block

end
-- ==== Proof.BranchDgrad.lean ====
/-
  The activation gradient of a branch's output projection: the kernel keeps a block of the cotangent's rows in scratch while it goes over
  the weight's rows, and every block it writes is the product of the two.
-/
module

public import proofs.«01_k».proof.Proof.Gen.BranchDgradIdeal.Value
public import proofs.«01_k».proof.Proof.Gen.RefBranchDgradIdeal.Read
public import proofs.«01_k».proof.Proof.Product
public import Idealize.ShloMosaic.Lib.Tactic
public import Idealize.ShloMosaic.Lib.VecWindow

@[expose] public section

noncomputable section

namespace Cert.BranchDgradIdeal.Block

open Cert.BranchDgradIdeal Cert.BranchDgradIdeal.Gen Cert.BranchDgradIdeal.Value Idealize.ShloMosaic Idealize.ShloMosaic.TcCoe Idealize.SL.Sem

/-- What the body stores in scratch, and the block it writes. -/
abbrev stored {F : FTy → Type} [FloatOps F] (x : Vec F S1088x2048 .f32) : Vec F S1088x2048 .bf16 := k0_pay1 x
abbrev multiplied {F : FTy → Type} [FloatOps F] (s : Vec F S1088x2048 .bf16) (w : Vec F S512x2048 .f32) : Vec F S1088x512 .f32 := k0_pay2 s w

section Body

variable {F : FTy → Type} [FloatOps F] (c : Dev nD) (i : grid0.Coords)
  (a2 : Memref sig .tc .vmem S1088x2048 .f32) (h2 : a2.IsWhole) (a3 : Memref sig .tc .vmem S512x2048 .f32) (h3 : a3.IsWhole)
  (a4 : Memref sig .tc .vmem S1088x512 .f32) (h4 : a4.IsWhole) (a5 : Memref sig .tc .vmem S1088x2048 .bf16) (h5 : a5.IsWhole)
  (x0 : Vec F S1088x2048 .f32) (x1 : Vec F S512x2048 .f32)

/-- At the first block of a row of blocks the body stores the cotangent's rows in scratch, … -/
theorem scratch_first (hc : cond0_0 i) : sout0_A_0 c i a2 h2 a3 h3 a4 h4 a5 h5 hc x0 x1 = stored x0 := by
  unfold sout0_A_0 kernelRun0_A; dsimp only; sl_unfold_words
  rw [View.read_writes_full]
  exact congrArg stored ((View.readAt_full ..).trans (h2.read_unread _))

/-- … multiplies what it has just stored, … -/
theorem product_first (hc : cond0_0 i) : out0_A_2 c i a2 h2 a3 h3 a4 h4 a5 h5 hc x0 x1 = multiplied (stored x0) x1 := by
  unfold out0_A_2 kernelRun0_A; dsimp only; sl_unfold_words
  rw [View.read_writes_full]
  simp only [View.readAt_full (s := S1088x2048), View.readAt_full (s := S512x2048), View.readCov_full (s := S1088x2048), h2.read_unread, h3.read_unread]

/-- … and at a later block multiplies what the scratch holds. -/
theorem product_later (hc : ¬cond0_0 i) (xs : Vec F S1088x2048 .bf16) : out0_B_2 c i a2 h2 a3 h3 a4 h4 a5 h5 hc x0 x1 xs = multiplied xs x1 := by
  unfold out0_B_2 kernelRun0_B; dsimp only; sl_unfold_words
  rw [View.read_writes_full]
  simp only [View.readAt_full (s := S1088x2048), View.readAt_full (s := S512x2048), h3.read_unread, h5.read_unread]

end Body

variable (m : (ℓ : Loc nD τ sig) → Buf (Elt Ideal) ℓ) (c : Dev nD)

theorem index0 : ∀ t : Fin grid0.N, win0_0.index t 0 = t.val / 2 ∧ win0_0.index t 1 = 0 := by decide +kernel
theorem index1 : ∀ t : Fin grid0.N, win0_1.index t 0 = t.val % 2 ∧ win0_1.index t 1 = 0 := by decide +kernel

/-- The two factors, and a grid point's blocks of them. -/
abbrev left : S4352x2048.Idx → EReal := m ((c : Thread nD τ).loc main_arg2)
abbrev right : S1024x2048.Idx → EReal := m ((c : Thread nD τ).loc main_arg1)
abbrev leftBlock (t : Fin cfg0.N) : S1088x2048.Idx → EReal := iblk m c 0 t
abbrev rightBlock (t : Fin cfg0.N) : S512x2048.Idx → EReal := iblk m c 1 t

theorem left_at (t : Fin cfg0.N) (x : Fin 1088) (k : Fin 2048) (p : Fin 4352)
    (hp : p.val = t.val / 2 * 1088 + x.val) : leftBlock m c t (ix2 x k) = left m c (ix2 p k) := by
  obtain ⟨e0, e1⟩ := index0 t
  unfold leftBlock iblk; rw [View.read_apply]
  show V m c main_arg2 _ = _
  rw [V_main_arg2]
  exact Product.at_eq (left m c) _ _ fun
    | ⟨0, _⟩ => by show win0_0.index t 0 * 1088 + 1 * x.val = p.val; omega
    | ⟨1, _⟩ => by show win0_0.index t 1 * 2048 + 1 * k.val = k.val; omega

theorem right_at (t : Fin cfg0.N) (x : Fin 512) (k : Fin 2048) (q : Fin 1024)
    (hq : q.val = t.val % 2 * 512 + x.val) : rightBlock m c t (ix2 x k) = right m c (ix2 q k) := by
  obtain ⟨e0, e1⟩ := index1 t
  unfold rightBlock iblk; rw [View.read_apply]
  show V m c main_arg1 _ = _
  rw [V_main_arg1]
  exact Product.at_eq (right m c) _ _ fun
    | ⟨0, _⟩ => by show win0_1.index t 0 * 512 + 1 * x.val = q.val; omega
    | ⟨1, _⟩ => by show win0_1.index t 1 * 2048 + 1 * k.val = k.val; omega

theorem left_same (t t' : Fin cfg0.N) (h : t.val / 2 = t'.val / 2) : leftBlock m c t = leftBlock m c t' := by
  have hN : t.val < 8 := lt_of_lt_of_eq t.isLt N_0
  funext j
  idx_vars j
  have hj := j0.isLt
  rw [left_at m c t j0 j1 ⟨t.val / 2 * 1088 + j0.val, by omega⟩ rfl, left_at m c t' j0 j1 ⟨t.val / 2 * 1088 + j0.val, by omega⟩ (by rw [← h])]

/-- What the body leaves after point `n`: the product of its blocks, and the row of blocks' scratch. -/
theorem outs (n : ℕ) (hn : n < cfg0.N) : outsAt0 m c n hn = (multiplied (F := Ideal) (stored (leftBlock m c ⟨n, hn⟩)) (rightBlock m c ⟨n, hn⟩), stored (leftBlock m c ⟨n, hn⟩)) :=
  Product.kept (J := 2) (outsAt0 m c) (fun t s => multiplied (F := Ideal) s (rightBlock m c t)) (fun t => stored (leftBlock m c t))
    (fun t h0 => by rw [outsAt0_A m c t h0, product_first, scratch_first]) (fun n h h0 => by rw [outsAt0_B m c ⟨n + 1, h⟩ h0, product_later]; rfl)
    (fun t t' h => congrArg stored (left_same m c t t' h)) n hn

theorem result_at (p : Fin 4352) (q : Fin 1024) :
    G2 m c (ix2 p q) = ∑ k : Fin 2048, left m c (ix2 p k) * right m c (ix2 q k) := by
  have hp := p.isLt
  have hq := q.isLt
  have hpt : pt2Of (ix2 p q) = 2 * (p.val / 1088) + q.val / 512 := by
    show 2 * (p.val / 1088 - 0) + 1 * (q.val / 512 - 0) = _
    omega
  have hlt : pt2Of (ix2 p q) < cfg0.N := by rw [hpt, show cfg0.N = 8 from N_0]; omega
  have hloc : loc2Of (ix2 p q) = ix2 ⟨p.val % 1088, Nat.mod_lt _ (by decide)⟩ ⟨q.val % 512, Nat.mod_lt _ (by decide)⟩ :=
    funext fun | ⟨0, _⟩ => rfl | ⟨1, _⟩ => rfl
  unfold G2
  rw [dif_pos hlt, ← outsAt0_sweep m c _ hlt, outs, hloc]
  show multiplied (F := Ideal) (stored (leftBlock m c ⟨pt2Of (ix2 p q), hlt⟩)) (rightBlock m c ⟨pt2Of (ix2 p q), hlt⟩) _ = _
  pointwise [multiplied, stored, k0_pay2, k0_pay1]
  exact Finset.sum_congr rfl fun k _ => congrArg₂ (· * ·)
    (left_at m c _ _ k p (by show p.val = pt2Of (ix2 p q) / 2 * 1088 + p.val % 1088; omega))
    (right_at m c _ _ k q (by show q.val = pt2Of (ix2 p q) % 2 * 512 + q.val % 512; omega))

theorem reference_at (w : S1024x2048.Idx → EReal) (g : S4352x2048.Idx → EReal) (p : Fin 4352) (q : Fin 1024) :
    Cert.RefBranchDgradIdeal.Read.val_main_v3 (F := Ideal) w g (ix2 p q) = ∑ k : Fin 2048, g (ix2 p k) * w (ix2 q k) := by
  rw [Cert.RefBranchDgradIdeal.Read.val_main_v3_apply]
  refine Finset.sum_congr rfl fun k _ => congrArg₂ (· * ·) (Product.at_eq g _ _ ?_) (Product.at_eq w _ _ ?_) <;>
    exact fun | ⟨0, _⟩ => rfl | ⟨1, _⟩ => rfl

theorem agree : Cert.RefBranchDgradIdeal.Read.val_main_v3 (F := Ideal) (right m c) (left m c) = G2 m c := by
  funext j
  idx_vars j
  exact (reference_at _ _ _ _).trans (result_at m c _ _).symm

end Cert.BranchDgradIdeal.Block

end
-- ==== Proof.OutWgrad.lean ====
/-
  The weight gradient of the layer's output projection: the kernel's fold over blocks of tokens is the product of the transposed
  activations with the cotangent.
-/
module

public import proofs.«01_k».proof.Proof.Gen.OutWgradIdeal.Value
public import proofs.«01_k».proof.Proof.Gen.RefOutWgradIdeal.Read
public import proofs.«01_k».proof.Proof.Product

@[expose] public section

noncomputable section

namespace Cert.OutWgradIdeal.Block

open Cert.OutWgradIdeal Cert.OutWgradIdeal.Gen Cert.OutWgradIdeal.Value Idealize.ShloMosaic Idealize.ShloMosaic.TcCoe Idealize.SL.Sem

variable (m : (ℓ : Loc nD τ sig) → Buf (Elt Ideal) ℓ) (c : Dev nD)

theorem index0 : ∀ t : Fin grid0.N, win0_0.index t 0 = t.val % 4 ∧ win0_0.index t 1 = t.val / 4 / 4 := by decide +kernel
theorem index1 : ∀ t : Fin grid0.N, win0_1.index t 0 = t.val % 4 ∧ win0_1.index t 1 = t.val / 4 % 4 := by decide +kernel

/-- The two factors, and a grid point's blocks of them. -/
abbrev left : S4352x2048.Idx → EReal := m ((c : Thread nD τ).loc main_arg0)
abbrev right : S4352x2048.Idx → EReal := m ((c : Thread nD τ).loc main_arg2)
abbrev leftBlock (t : Fin cfg0.N) : S1088x2048.Idx → EReal := iblk m c 0 t
abbrev rightBlock (t : Fin cfg0.N) : S1088x512.Idx → EReal := iblk m c 1 t

theorem left_at (t : Fin cfg0.N) (y : Fin 1088) (x : Fin 2048) (k : Fin 4352) (p : Fin 2048) (hk : k.val = t.val % 4 * 1088 + y.val)
    (hp : p.val = t.val / 4 / 4 * 2048 + x.val) : leftBlock m c t (ix2 y x) = left m c (ix2 k p) := by
  obtain ⟨e0, e1⟩ := index0 t
  unfold leftBlock iblk; rw [View.read_apply]
  show V m c main_v0 _ = _
  unfold V
  after_results
  exact Product.at_eq (left m c) _ _ fun
    | ⟨0, _⟩ => by show win0_0.index t 0 * 1088 + 1 * y.val = k.val; omega
    | ⟨1, _⟩ => by show win0_0.index t 1 * 2048 + 1 * x.val = p.val; omega

theorem right_at (t : Fin cfg0.N) (y : Fin 1088) (x : Fin 512) (k : Fin 4352) (q : Fin 2048) (hk : k.val = t.val % 4 * 1088 + y.val)
    (hq : q.val = t.val / 4 % 4 * 512 + x.val) : rightBlock m c t (ix2 y x) = right m c (ix2 k q) := by
  obtain ⟨e0, e1⟩ := index1 t
  unfold rightBlock iblk; rw [View.read_apply]
  show V m c main_arg2 _ = _
  rw [V_main_arg2]
  exact Product.at_eq (right m c) _ _ fun
    | ⟨0, _⟩ => by show win0_1.index t 0 * 1088 + 1 * y.val = k.val; omega
    | ⟨1, _⟩ => by show win0_1.index t 1 * 512 + 1 * x.val = q.val; omega

theorem result_at (p : Fin 2048) (q : Fin 2048) :
    G2 m c (ix2 p q) = ∑ k : Fin 4352, left m c (ix2 k p) * right m c (ix2 k q) :=
  Product.of_blocks (N := cfg0.N) (nI := 1) (nJ := 4) (J := 4) (T := 1088) (R := 2048) (C := 512) (by decide) rfl (by decide) (by decide) N_0
    (reset := reset2 m c) (step := step2 m c)
    (L := fun t y x => leftBlock m c t (ix2 y x)) (B := fun t y x => rightBlock m c t (ix2 y x))
    (fun k p => left m c (ix2 k p)) (fun k q => right m c (ix2 k q))
    (fun n h x z => by unfold reset2; pointwise [k0_pay2, k0_pay1]) (fun n h acc x z => by unfold step2; pointwise [k0_pay2])
    (left_at m c) (right_at m c) p q (by show 4 * (p.val / 2048 - 0) + 1 * (q.val / 512 - 0) = _; omega) _ rfl rfl _

theorem reference_at (a : S4352x2048.Idx → EReal) (g : S4352x2048.Idx → EReal) (p : Fin 2048) (q : Fin 2048) :
    Cert.RefOutWgradIdeal.Read.val_main_v2 (F := Ideal) a g (ix2 p q) = ∑ k : Fin 4352, a (ix2 k p) * g (ix2 k q) := by
  rw [Cert.RefOutWgradIdeal.Read.val_main_v2_apply, Cert.RefOutWgradIdeal.Read.val_main_v1_apply]
  refine Finset.sum_congr rfl fun k _ => (mul_comm _ _).trans (congrArg₂ (· * ·) (Product.at_eq a _ _ ?_) (Product.at_eq g _ _ ?_)) <;>
    exact fun | ⟨0, _⟩ => rfl | ⟨1, _⟩ => rfl

theorem agree : Cert.RefOutWgradIdeal.Read.val_main_v2 (F := Ideal) (left m c) (right m c) = G2 m c := by
  funext j
  idx_vars j
  exact (reference_at _ _ _ _).trans (result_at m c _ _).symm

end Cert.OutWgradIdeal.Block

end
-- ==== Proof.OutDgrad.lean ====
/-
  The activation gradient of the layer's output projection: the kernel keeps a block of the cotangent's rows in scratch while it goes over
  the weight's rows, and every block it writes is the product of the two.
-/
module

public import proofs.«01_k».proof.Proof.Gen.OutDgradIdeal.Value
public import proofs.«01_k».proof.Proof.Gen.RefOutDgradIdeal.Read
public import proofs.«01_k».proof.Proof.Product
public import Idealize.ShloMosaic.Lib.Tactic
public import Idealize.ShloMosaic.Lib.VecWindow

@[expose] public section

noncomputable section

namespace Cert.OutDgradIdeal.Block

open Cert.OutDgradIdeal Cert.OutDgradIdeal.Gen Cert.OutDgradIdeal.Value Idealize.ShloMosaic Idealize.ShloMosaic.TcCoe Idealize.SL.Sem

/-- What the body stores in scratch, and the block it writes. -/
abbrev stored {F : FTy → Type} [FloatOps F] (x : Vec F S1088x2048 .f32) : Vec F S1088x2048 .bf16 := k0_pay1 x
abbrev multiplied {F : FTy → Type} [FloatOps F] (s : Vec F S1088x2048 .bf16) (w : Vec F S512x2048 .f32) : Vec F S1088x512 .f32 := k0_pay2 s w

section Body

variable {F : FTy → Type} [FloatOps F] (c : Dev nD) (i : grid0.Coords)
  (a2 : Memref sig .tc .vmem S1088x2048 .f32) (h2 : a2.IsWhole) (a3 : Memref sig .tc .vmem S512x2048 .f32) (h3 : a3.IsWhole)
  (a4 : Memref sig .tc .vmem S1088x512 .f32) (h4 : a4.IsWhole) (a5 : Memref sig .tc .vmem S1088x2048 .bf16) (h5 : a5.IsWhole)
  (x0 : Vec F S1088x2048 .f32) (x1 : Vec F S512x2048 .f32)

/-- At the first block of a row of blocks the body stores the cotangent's rows in scratch, … -/
theorem scratch_first (hc : cond0_0 i) : sout0_A_0 c i a2 h2 a3 h3 a4 h4 a5 h5 hc x0 x1 = stored x0 := by
  unfold sout0_A_0 kernelRun0_A; dsimp only; sl_unfold_words
  rw [View.read_writes_full]
  exact congrArg stored ((View.readAt_full ..).trans (h2.read_unread _))

/-- … multiplies what it has just stored, … -/
theorem product_first (hc : cond0_0 i) : out0_A_2 c i a2 h2 a3 h3 a4 h4 a5 h5 hc x0 x1 = multiplied (stored x0) x1 := by
  unfold out0_A_2 kernelRun0_A; dsimp only; sl_unfold_words
  rw [View.read_writes_full]
  simp only [View.readAt_full (s := S1088x2048), View.readAt_full (s := S512x2048), View.readCov_full (s := S1088x2048), h2.read_unread, h3.read_unread]

/-- … and at a later block multiplies what the scratch holds. -/
theorem product_later (hc : ¬cond0_0 i) (xs : Vec F S1088x2048 .bf16) : out0_B_2 c i a2 h2 a3 h3 a4 h4 a5 h5 hc x0 x1 xs = multiplied xs x1 := by
  unfold out0_B_2 kernelRun0_B; dsimp only; sl_unfold_words
  rw [View.read_writes_full]
  simp only [View.readAt_full (s := S1088x2048), View.readAt_full (s := S512x2048), h3.read_unread, h5.read_unread]

end Body

variable (m : (ℓ : Loc nD τ sig) → Buf (Elt Ideal) ℓ) (c : Dev nD)

theorem index0 : ∀ t : Fin grid0.N, win0_0.index t 0 = t.val / 4 ∧ win0_0.index t 1 = 0 := by decide +kernel
theorem index1 : ∀ t : Fin grid0.N, win0_1.index t 0 = t.val % 4 ∧ win0_1.index t 1 = 0 := by decide +kernel

/-- The two factors, and a grid point's blocks of them. -/
abbrev left : S4352x2048.Idx → EReal := m ((c : Thread nD τ).loc main_arg2)
abbrev right : S2048x2048.Idx → EReal := m ((c : Thread nD τ).loc main_arg1)
abbrev leftBlock (t : Fin cfg0.N) : S1088x2048.Idx → EReal := iblk m c 0 t
abbrev rightBlock (t : Fin cfg0.N) : S512x2048.Idx → EReal := iblk m c 1 t

theorem left_at (t : Fin cfg0.N) (x : Fin 1088) (k : Fin 2048) (p : Fin 4352)
    (hp : p.val = t.val / 4 * 1088 + x.val) : leftBlock m c t (ix2 x k) = left m c (ix2 p k) := by
  obtain ⟨e0, e1⟩ := index0 t
  unfold leftBlock iblk; rw [View.read_apply]
  show V m c main_arg2 _ = _
  rw [V_main_arg2]
  exact Product.at_eq (left m c) _ _ fun
    | ⟨0, _⟩ => by show win0_0.index t 0 * 1088 + 1 * x.val = p.val; omega
    | ⟨1, _⟩ => by show win0_0.index t 1 * 2048 + 1 * k.val = k.val; omega

theorem right_at (t : Fin cfg0.N) (x : Fin 512) (k : Fin 2048) (q : Fin 2048)
    (hq : q.val = t.val % 4 * 512 + x.val) : rightBlock m c t (ix2 x k) = right m c (ix2 q k) := by
  obtain ⟨e0, e1⟩ := index1 t
  unfold rightBlock iblk; rw [View.read_apply]
  show V m c main_arg1 _ = _
  rw [V_main_arg1]
  exact Product.at_eq (right m c) _ _ fun
    | ⟨0, _⟩ => by show win0_1.index t 0 * 512 + 1 * x.val = q.val; omega
    | ⟨1, _⟩ => by show win0_1.index t 1 * 2048 + 1 * k.val = k.val; omega

theorem left_same (t t' : Fin cfg0.N) (h : t.val / 4 = t'.val / 4) : leftBlock m c t = leftBlock m c t' := by
  have hN : t.val < 16 := lt_of_lt_of_eq t.isLt N_0
  funext j
  idx_vars j
  have hj := j0.isLt
  rw [left_at m c t j0 j1 ⟨t.val / 4 * 1088 + j0.val, by omega⟩ rfl, left_at m c t' j0 j1 ⟨t.val / 4 * 1088 + j0.val, by omega⟩ (by rw [← h])]

/-- What the body leaves after point `n`: the product of its blocks, and the row of blocks' scratch. -/
theorem outs (n : ℕ) (hn : n < cfg0.N) : outsAt0 m c n hn = (multiplied (F := Ideal) (stored (leftBlock m c ⟨n, hn⟩)) (rightBlock m c ⟨n, hn⟩), stored (leftBlock m c ⟨n, hn⟩)) :=
  Product.kept (J := 4) (outsAt0 m c) (fun t s => multiplied (F := Ideal) s (rightBlock m c t)) (fun t => stored (leftBlock m c t))
    (fun t h0 => by rw [outsAt0_A m c t h0, product_first, scratch_first]) (fun n h h0 => by rw [outsAt0_B m c ⟨n + 1, h⟩ h0, product_later]; rfl)
    (fun t t' h => congrArg stored (left_same m c t t' h)) n hn

theorem result_at (p : Fin 4352) (q : Fin 2048) :
    G2 m c (ix2 p q) = ∑ k : Fin 2048, left m c (ix2 p k) * right m c (ix2 q k) := by
  have hp := p.isLt
  have hq := q.isLt
  have hpt : pt2Of (ix2 p q) = 4 * (p.val / 1088) + q.val / 512 := by
    show 4 * (p.val / 1088 - 0) + 1 * (q.val / 512 - 0) = _
    omega
  have hlt : pt2Of (ix2 p q) < cfg0.N := by rw [hpt, show cfg0.N = 16 from N_0]; omega
  have hloc : loc2Of (ix2 p q) = ix2 ⟨p.val % 1088, Nat.mod_lt _ (by decide)⟩ ⟨q.val % 512, Nat.mod_lt _ (by decide)⟩ :=
    funext fun | ⟨0, _⟩ => rfl | ⟨1, _⟩ => rfl
  unfold G2
  rw [dif_pos hlt, ← outsAt0_sweep m c _ hlt, outs, hloc]
  show multiplied (F := Ideal) (stored (leftBlock m c ⟨pt2Of (ix2 p q), hlt⟩)) (rightBlock m c ⟨pt2Of (ix2 p q), hlt⟩) _ = _
  pointwise [multiplied, stored, k0_pay2, k0_pay1]
  exact Finset.sum_congr rfl fun k _ => congrArg₂ (· * ·)
    (left_at m c _ _ k p (by show p.val = pt2Of (ix2 p q) / 4 * 1088 + p.val % 1088; omega))
    (right_at m c _ _ k q (by show q.val = pt2Of (ix2 p q) % 4 * 512 + q.val % 512; omega))

theorem reference_at (w : S2048x2048.Idx → EReal) (g : S4352x2048.Idx → EReal) (p : Fin 4352) (q : Fin 2048) :
    Cert.RefOutDgradIdeal.Read.val_main_v3 (F := Ideal) w g (ix2 p q) = ∑ k : Fin 2048, g (ix2 p k) * w (ix2 q k) := by
  rw [Cert.RefOutDgradIdeal.Read.val_main_v3_apply]
  refine Finset.sum_congr rfl fun k _ => congrArg₂ (· * ·) (Product.at_eq g _ _ ?_) (Product.at_eq w _ _ ?_) <;>
    exact fun | ⟨0, _⟩ => rfl | ⟨1, _⟩ => rfl

theorem agree : Cert.RefOutDgradIdeal.Read.val_main_v3 (F := Ideal) (right m c) (left m c) = G2 m c := by
  funext j
  idx_vars j
  exact (reference_at _ _ _ _).trans (result_at m c _ _).symm

end Cert.OutDgradIdeal.Block

end
-- ==== Proof.Gates.lean ====
/-
  The product of a matrix with a block-diagonal one, 8 blocks of 128 columns: an entry is a sum over the entry's own block.
-/
module

public import proofs.«01_k».proof.Proof.Product

@[expose] public section

noncomputable section

namespace Cert.Gates

open Idealize.ShloMosaic

/-- The block of a column, and the column's place in it. -/
abbrev blockOf (q : Fin 1024) : Fin 8 := ⟨q.val / 128, by have := q.isLt; omega⟩
abbrev inBlock (q : Fin 1024) : Fin 128 := ⟨q.val % 128, Nat.mod_lt _ (by decide)⟩
/-- Column `k` of block `b`. -/
abbrev column (b : Fin 8) (k : Fin 128) : Fin 1024 := Product.place (J := 8) (T := 128) rfl b k

/-- Entry `(p, q)` of the product of `x` with the block-diagonal matrix of the blocks `w`. -/
def product {M : ℕ} (x : Fin M → Fin 1024 → EReal) (w : Fin 8 → Fin 128 → Fin 128 → EReal) (p : Fin M) (q : Fin 1024) : EReal :=
  ∑ k : Fin 128, x p (column (blockOf q) k) * w (blockOf q) k (inBlock q)

/-- A block of rows and of columns, times the columns' block of the diagonal, is the product at the block's entries. -/
theorem product_of_block {M R : ℕ} (x : Fin M → Fin 1024 → EReal) (w : Fin 8 → Fin 128 → Fin 128 → EReal) (X : Fin R → Fin 128 → EReal)
    (W : Fin 128 → Fin 128 → EReal) (r b : ℕ) (hX : ∀ y k p q, p.val = r * R + y.val → q.val = b * 128 + k.val → X y k = x p q)
    (hW : ∀ (d : Fin 8) k z, d.val = b → W k z = w d k z) (y : Fin R) (z : Fin 128) (p : Fin M) (q : Fin 1024)
    (hp : p.val = r * R + y.val) (hq : q.val = b * 128 + z.val) : ∑ k, X y k * W k z = product x w p q := by
  have hz := z.isLt
  have hb : (blockOf q).val = b := by show q.val / 128 = b; omega
  have hi : inBlock q = z := Fin.ext (by show q.val % 128 = z.val; omega)
  refine Finset.sum_congr rfl fun k _ => congrArg₂ (· * ·) (hX y k p _ hp ?_) ?_
  · show (blockOf q).val * 128 + k.val = _
    rw [hb]
  · rw [hi]; exact hW _ _ _ hb

/-! Row-major places: entry `(p, q)` of the matrix is place `q % 128` of block `q / 128` of row `p`. -/

theorem blockOf_flat (p : ℕ) (q : Fin 1024) : (p * 1024 + q.val) / 128 % 8 = (blockOf q).val := by
  have := q.isLt
  show _ = q.val / 128
  omega

theorem inBlock_flat (p : ℕ) (q : Fin 1024) : (p * 1024 + q.val) % 128 = (inBlock q).val := by
  show _ = q.val % 128
  omega

theorem row_flat (p : ℕ) (q : Fin 1024) (k : Fin 128) : (((p * 1024 + q.val) / 1024 * 8 + (p * 1024 + q.val) / 128 % 8) * 128 + k.val) / 1024 = p := by
  have := q.isLt
  have := k.isLt
  omega

theorem column_flat (p : ℕ) (q : Fin 1024) (k : Fin 128) :
    (((p * 1024 + q.val) / 1024 * 8 + (p * 1024 + q.val) / 128 % 8) * 128 + k.val) % 1024 = (column (blockOf q) k).val := by
  have := q.isLt
  have := k.isLt
  show _ = q.val / 128 * 128 + k.val
  omega

end Cert.Gates

end
-- ==== Proof.GateFwd.lean ====
/-
  The gates of the linear recurrence, forward: every block the kernel writes is the product with the block-diagonal weight.
-/
module

public import proofs.«01_k».proof.Proof.Gen.GateFwdIdeal.Value
public import proofs.«01_k».proof.Proof.Gen.RefGateFwdIdeal.Read
public import proofs.«01_k».proof.Proof.Gates
public import Idealize.ShloMosaic.Lib.Pipeline.ValueKit.Geometry
public import Idealize.ShloMosaic.Lib.Tactic

@[expose] public section

noncomputable section

namespace Cert.GateFwdIdeal.Block

open Cert.GateFwdIdeal Cert.GateFwdIdeal.Gen Cert.GateFwdIdeal.Value Idealize.ShloMosaic Idealize.ShloMosaic.TcCoe Idealize.SL.Sem

/-- The block the body writes, from its two blocks. -/
theorem written (x0 : Vec Ideal S1088x128 .f32) (x1 : Vec Ideal S1x128x128 .f32) : out0_2 x0 x1 = k0_pay1 x0 x1 := by
  unfold out0_2
  rw [View.canon_unit_zero (funext fun a => by fin_cases a <;> rfl), View.ld_unit_zero (S := S1088x128) (funext fun a => by fin_cases a <;> rfl),
    View.ld_unit_zero (S := S1x128x128) (funext fun a => by fin_cases a <;> rfl)]

theorem written_at (x0 : Vec Ideal S1088x128 .f32) (x1 : Vec Ideal S1x128x128 .f32) (y : Fin 1088) (z : Fin 128) :
    k0_pay1 x0 x1 (ix2 y z) = ∑ k : Fin 128, (x0 (ix2 y k) : EReal) * (x1 (ix3 0 k z) : EReal) := by
  pointwise [k0_pay1]

variable (m : (ℓ : Loc nD τ sig) → Buf (Elt Ideal) ℓ) (c : Dev nD)

theorem index0 : ∀ t : Fin grid0.N, win0_0.index t 0 = t.val / 8 ∧ win0_0.index t 1 = t.val % 8 := by decide +kernel
theorem index1 : ∀ t : Fin grid0.N, win0_1.index t 0 = t.val % 8 ∧ win0_1.index t 1 = 0 ∧ win0_1.index t 2 = 0 := by decide +kernel
theorem index2 : ∀ t : Fin grid0.N, win0_2.index t 0 = t.val / 8 ∧ win0_2.index t 1 = t.val % 8 := by decide +kernel

/-- The two factors, and a grid point's blocks of them. -/
abbrev left : S4352x1024.Idx → EReal := m ((c : Thread nD τ).loc main_arg0)
abbrev right : S8x128x128.Idx → EReal := m ((c : Thread nD τ).loc main_arg1)
abbrev leftBlock (t : Fin cfg0.N) : S1088x128.Idx → EReal := iblk m c 0 t
abbrev rightBlock (t : Fin cfg0.N) : S1x128x128.Idx → EReal := iblk m c 1 t

theorem left_at (t : Fin cfg0.N) (y : Fin 1088) (k : Fin 128) (p : Fin 4352) (q : Fin 1024) (hp : p.val = t.val / 8 * 1088 + y.val)
    (hq : q.val = t.val % 8 * 128 + k.val) : leftBlock m c t (ix2 y k) = left m c (ix2 p q) := by
  obtain ⟨e0, e1⟩ := index0 t
  unfold leftBlock iblk; rw [View.read_apply]
  show V m c main_arg0 _ = _
  rw [V_main_arg0]
  exact Product.at_eq (left m c) _ _ fun
    | ⟨0, _⟩ => by show win0_0.index t 0 * 1088 + 1 * y.val = p.val; omega
    | ⟨1, _⟩ => by show win0_0.index t 1 * 128 + 1 * k.val = q.val; omega

theorem right_at (t : Fin cfg0.N) (b : Fin 8) (k z : Fin 128) (hb : b.val = t.val % 8) :
    rightBlock m c t (ix3 0 k z) = right m c (ix3 b k z) := by
  obtain ⟨e0, e1, e2⟩ := index1 t
  unfold rightBlock iblk; rw [View.read_apply]
  show V m c main_arg1 _ = _
  rw [V_main_arg1]
  exact Product.at_eq (right m c) _ _ fun
    | ⟨0, _⟩ => by show win0_1.index t 0 * 1 + 1 * 0 = b.val; omega
    | ⟨1, _⟩ => by show win0_1.index t 1 * 128 + 1 * k.val = k.val; omega
    | ⟨2, _⟩ => by show win0_1.index t 2 * 128 + 1 * z.val = z.val; omega

/-- The result. -/
abbrev result : S4352x1024.Idx → EReal := fun j =>
  Gates.product (fun p q => left m c (ix2 p q)) (fun b k z => right m c (ix3 b k z)) (j 0) (j 1)

theorem final2 : (dats m 0 c).arrAt 2 cfg0.N = result m c := by
  refine (dats m 0 c).arrAt_eq_of_covers 2 _ (by decide +kernel) fun t _ y => ?_
  obtain ⟨e0, e1⟩ := index2 t
  refine (congrFun ((after0_2 m c t).trans (written _ _)) _).trans ((Product.at_eq (k0_pay1 (F := Ideal) (leftBlock m c t) (rightBlock m c t)) _ (ix2 (y 0) (y 1)) ?_).trans
    ((written_at _ _ _ _).trans (Gates.product_of_block _ _ (fun y k => leftBlock m c t (ix2 y k)) (fun k z => rightBlock m c t (ix3 0 k z)) (t.val / 8) (t.val % 8)
      (left_at m c t) (right_at m c t) (y 0) (y 1) (((cfg0.win 2).blk t).view.emb y 0) (((cfg0.win 2).blk t).view.emb y 1) ?_ ?_)))
  · exact fun | ⟨0, _⟩ => rfl | ⟨1, _⟩ => rfl
  · show win0_2.index t 0 * 1088 + 1 * (y 0).val = _; omega
  · show win0_2.index t 1 * 128 + 1 * (y 1).val = _; omega

theorem reference_at (x : S4352x1024.Idx → EReal) (w : S8x128x128.Idx → EReal) (p : Fin 4352) (q : Fin 1024) :
    Cert.RefGateFwdIdeal.Read.val_main_v3 (F := Ideal) x w (ix2 p q)
      = Gates.product (fun p q => x (ix2 p q)) (fun b k z => w (ix3 b k z)) p q := by
  rw [Cert.RefGateFwdIdeal.Read.val_main_v3_apply, Cert.RefGateFwdIdeal.Read.val_main_v2_apply, Cert.RefGateFwdIdeal.Read.val_main_v1_apply]
  refine Finset.sum_congr rfl fun k _ => (mul_comm _ _).trans (congrArg₂ (· * ·) ?_ (Product.at_eq w _ _ ?_))
  · rw [Cert.RefGateFwdIdeal.Read.val_main_v0_apply]
    exact Product.at_eq x _ _ fun
      | ⟨0, _⟩ => Gates.row_flat p.val q k
      | ⟨1, _⟩ => Gates.column_flat p.val q k
  · exact fun
      | ⟨0, _⟩ => Gates.blockOf_flat p.val q
      | ⟨1, _⟩ => rfl
      | ⟨2, _⟩ => Gates.inBlock_flat p.val q

theorem agree : Cert.RefGateFwdIdeal.Read.val_main_v3 (F := Ideal) (left m c) (right m c) = (dats m 0 c).arrAt 2 cfg0.N := by
  rw [final2]
  funext j
  idx_vars j
  exact reference_at _ _ _ _

end Cert.GateFwdIdeal.Block

end
-- ==== Proof.GateDgrad.lean ====
/-
  The activation gradient of the gates: the call of the forward product, on the cotangent and the weight with each block
  transposed.
-/
module

public import proofs.«01_k».proof.Proof.Gen.GateDgradIdeal.Value
public import proofs.«01_k».proof.Proof.Gen.RefGateDgradIdeal.Read
public import proofs.«01_k».proof.Proof.GateFwd

@[expose] public section

noncomputable section

namespace Cert.GateDgradIdeal.Block

open Cert.GateDgradIdeal Cert.GateDgradIdeal.Gen Cert.GateDgradIdeal.Value Idealize.ShloMosaic Idealize.ShloMosaic.TcCoe Idealize.SL.Sem

/-- The body is the forward product's. -/
theorem written_at (x0 : Vec Ideal S1088x128 .f32) (x1 : Vec Ideal S1x128x128 .f32) (y : Fin 1088) (z : Fin 128) :
    out0_2 x0 x1 (ix2 y z) = ∑ k : Fin 128, (x0 (ix2 y k) : EReal) * (x1 (ix3 0 k z) : EReal) :=
  (congrFun (Cert.GateFwdIdeal.Block.written x0 x1) (ix2 y z)).trans (Cert.GateFwdIdeal.Block.written_at x0 x1 y z)

variable (m : (ℓ : Loc nD τ sig) → Buf (Elt Ideal) ℓ) (c : Dev nD)

/-- The cotangent and the weight. -/
abbrev left : S4352x1024.Idx → EReal := m ((c : Thread nD τ).loc main_arg2)
abbrev right : S8x128x128.Idx → EReal := m ((c : Thread nD τ).loc main_arg1)

theorem left_at (t : Fin cfg0.N) (y : Fin 1088) (k : Fin 128) (p : Fin 4352) (q : Fin 1024) (hp : p.val = t.val / 8 * 1088 + y.val)
    (hq : q.val = t.val % 8 * 128 + k.val) : (iblk m c 0 t (ix2 y k) : EReal) = left m c (ix2 p q) := by
  obtain ⟨e0, e1⟩ := Cert.GateFwdIdeal.Block.index0 t
  unfold iblk; rw [View.read_apply]
  show V m c main_arg2 _ = _
  rw [V_main_arg2]
  exact Product.at_eq (left m c) _ _ fun
    | ⟨0, _⟩ => by show Cert.GateFwdIdeal.win0_0.index t 0 * 1088 + 1 * y.val = p.val; omega
    | ⟨1, _⟩ => by show Cert.GateFwdIdeal.win0_0.index t 1 * 128 + 1 * k.val = q.val; omega

theorem transposed : V m c main_v0 = transpose S8x128x128 [0, 2, 1] (right m c) transposes_S8x128x128_S8x128x128_0_2_1 := by
  unfold V
  after_results

theorem right_at (t : Fin cfg0.N) (b : Fin 8) (k z : Fin 128) (hb : b.val = t.val % 8) :
    (iblk m c 1 t (ix3 0 k z) : EReal) = right m c (ix3 b z k) := by
  obtain ⟨e0, e1, e2⟩ := Cert.GateFwdIdeal.Block.index1 t
  unfold iblk; rw [View.read_apply]
  show V m c main_v0 _ = _
  rw [transposed]
  exact Product.at_eq (right m c) _ _ fun
    | ⟨0, _⟩ => by show Cert.GateFwdIdeal.win0_1.index t 0 * 1 + 1 * 0 = b.val; omega
    | ⟨1, _⟩ => by show Cert.GateFwdIdeal.win0_1.index t 2 * 128 + 1 * z.val = z.val; omega
    | ⟨2, _⟩ => by show Cert.GateFwdIdeal.win0_1.index t 1 * 128 + 1 * k.val = k.val; omega

/-- The result. -/
abbrev result : S4352x1024.Idx → EReal := fun j =>
  Gates.product (fun p q => left m c (ix2 p q)) (fun b k z => right m c (ix3 b z k)) (j 0) (j 1)

theorem final2 : (dats m 0 c).arrAt 2 cfg0.N = result m c := by
  refine (dats m 0 c).arrAt_eq_of_covers 2 _ (by decide +kernel) fun t _ y => ?_
  obtain ⟨e0, e1⟩ := Cert.GateFwdIdeal.Block.index2 t
  refine (congrFun (after0_2 m c t) _).trans ((Product.at_eq (out0_2 (F := Ideal) (iblk m c 0 t) (iblk m c 1 t)) _ (ix2 (y 0) (y 1)) ?_).trans
    ((written_at _ _ _ _).trans (Gates.product_of_block _ _ (fun y k => iblk m c 0 t (ix2 y k)) (fun k z => iblk m c 1 t (ix3 0 k z)) (t.val / 8) (t.val % 8)
      (left_at m c t) (right_at m c t) (y 0) (y 1) (((cfg0.win 2).blk t).view.emb y 0) (((cfg0.win 2).blk t).view.emb y 1) ?_ ?_)))
  · exact fun | ⟨0, _⟩ => rfl | ⟨1, _⟩ => rfl
  · show Cert.GateFwdIdeal.win0_2.index t 0 * 1088 + 1 * (y 0).val = _; omega
  · show Cert.GateFwdIdeal.win0_2.index t 1 * 128 + 1 * (y 1).val = _; omega

theorem reference_at (w : S8x128x128.Idx → EReal) (g : S4352x1024.Idx → EReal) (p : Fin 4352) (q : Fin 1024) :
    Cert.RefGateDgradIdeal.Read.val_main_v10 (F := Ideal) w g (ix2 p q)
      = Gates.product (fun p q => g (ix2 p q)) (fun b k z => w (ix3 b z k)) p q := by
  rw [Cert.RefGateDgradIdeal.Read.val_main_v10_apply, Cert.RefGateDgradIdeal.Read.val_main_v7_apply, Cert.RefGateDgradIdeal.Read.val_main_v6_apply]
  refine Finset.sum_congr rfl fun k _ => congrArg₂ (· * ·) ?_ (Product.at_eq w _ _ ?_)
  · rw [Cert.RefGateDgradIdeal.Read.val_main_v5_apply, Cert.RefGateDgradIdeal.Read.val_main_v4_apply]
    exact Product.at_eq g _ _ fun
      | ⟨0, _⟩ => Gates.row_flat p.val q k
      | ⟨1, _⟩ => Gates.column_flat p.val q k
  · exact fun
      | ⟨0, _⟩ => Gates.blockOf_flat p.val q
      | ⟨1, _⟩ => Gates.inBlock_flat p.val q
      | ⟨2, _⟩ => rfl

theorem agree : Cert.RefGateDgradIdeal.Read.val_main_v10 (F := Ideal) (right m c) (left m c) = (dats m 0 c).arrAt 2 cfg0.N := by
  rw [final2]
  funext j
  idx_vars j
  exact reference_at _ _ _ _

end Cert.GateDgradIdeal.Block

end
-- ==== Proof.GateWgrad.lean ====
/-
  The weight gradient of the gates: the kernel's fold over blocks of tokens is, in every block of the diagonal, the product of
  the block's columns of the activations, transposed, with those of the cotangent.
-/
module

public import proofs.«01_k».proof.Proof.Gen.GateWgradIdeal.Value
public import proofs.«01_k».proof.Proof.Gen.RefGateWgradIdeal.Read
public import proofs.«01_k».proof.Proof.Gates

@[expose] public section

noncomputable section

namespace Cert.GateWgradIdeal.Block

open Cert.GateWgradIdeal Cert.GateWgradIdeal.Gen Cert.GateWgradIdeal.Value Idealize.ShloMosaic Idealize.ShloMosaic.TcCoe Idealize.SL.Sem

variable (m : (ℓ : Loc nD τ sig) → Buf (Elt Ideal) ℓ) (c : Dev nD)

theorem index0 : ∀ t : Fin grid0.N, win0_0.index t 0 = t.val % 4 ∧ win0_0.index t 1 = t.val / 4 := by decide +kernel
theorem index1 : ∀ t : Fin grid0.N, win0_1.index t 0 = t.val % 4 ∧ win0_1.index t 1 = t.val / 4 := by decide +kernel

/-- The two factors, and a grid point's blocks of them. -/
abbrev left : S4352x1024.Idx → EReal := m ((c : Thread nD τ).loc main_arg0)
abbrev right : S4352x1024.Idx → EReal := m ((c : Thread nD τ).loc main_arg2)
abbrev leftBlock (t : Fin cfg0.N) : S1088x128.Idx → EReal := iblk m c 0 t
abbrev rightBlock (t : Fin cfg0.N) : S1088x128.Idx → EReal := iblk m c 1 t

theorem left_at (t : Fin cfg0.N) (y : Fin 1088) (x : Fin 128) (k : Fin 4352) (q : Fin 1024) (hk : k.val = t.val % 4 * 1088 + y.val)
    (hq : q.val = t.val / 4 * 128 + x.val) : leftBlock m c t (ix2 y x) = left m c (ix2 k q) := by
  obtain ⟨e0, e1⟩ := index0 t
  unfold leftBlock iblk; rw [View.read_apply]
  show V m c main_arg0 _ = _
  rw [V_main_arg0]
  exact Product.at_eq (left m c) _ _ fun
    | ⟨0, _⟩ => by show win0_0.index t 0 * 1088 + 1 * y.val = k.val; omega
    | ⟨1, _⟩ => by show win0_0.index t 1 * 128 + 1 * x.val = q.val; omega

theorem right_at (t : Fin cfg0.N) (y : Fin 1088) (z : Fin 128) (k : Fin 4352) (q : Fin 1024) (hk : k.val = t.val % 4 * 1088 + y.val)
    (hq : q.val = t.val / 4 * 128 + z.val) : rightBlock m c t (ix2 y z) = right m c (ix2 k q) := by
  obtain ⟨e0, e1⟩ := index1 t
  unfold rightBlock iblk; rw [View.read_apply]
  show V m c main_arg2 _ = _
  rw [V_main_arg2]
  exact Product.at_eq (right m c) _ _ fun
    | ⟨0, _⟩ => by show win0_1.index t 0 * 1088 + 1 * y.val = k.val; omega
    | ⟨1, _⟩ => by show win0_1.index t 1 * 128 + 1 * z.val = q.val; omega

/-- What a grid point adds at an entry. -/
abbrev addend (n : ℕ) (h : n < cfg0.N) (i : S1x128x128.Idx) : EReal :=
  ∑ y : Fin 1088, leftBlock m c ⟨n, h⟩ (ix2 y (i 1)) * rightBlock m c ⟨n, h⟩ (ix2 y (i 2))

theorem step_at (n : ℕ) (h : n < cfg0.N) (acc : Vec Ideal S1x128x128 .f32) (i : S1x128x128.Idx) :
    step2 (F := Ideal) m c n h acc i = (acc i : EReal) + addend m c n h i := by
  obtain ⟨x, z, rfl⟩ : ∃ x z : Fin 128, i = ix3 0 x z := ⟨i 1, i 2, funext fun
    | ⟨0, _⟩ => Subsingleton.elim (α := Fin 1) _ _
    | ⟨1, _⟩ => rfl
    | ⟨2, _⟩ => rfl⟩
  unfold step2
  pointwise [k0_pay2]
  rfl

theorem reset_at (n : ℕ) (h : n < cfg0.N) (i : S1x128x128.Idx) : reset2 (F := Ideal) m c n h i = 0 + addend m c n h i :=
  (step_at m c n h (k0_pay1 (F := Ideal)) i).trans (by pointwise [k0_pay1])

theorem result_at (b : Fin 8) (x z : Fin 128) :
    G2 m c (ix3 b x z) = ∑ k : Fin 4352, left m c (ix2 k (Gates.column b x)) * right m c (ix2 k (Gates.column b z)) := by
  have hb := b.isLt
  have hrun : run2Of (ix3 b x z) = b.val := by
    have hx := x.isLt
    have hz := z.isLt
    show 1 * (b.val / 1 - 0) + 1 * (x.val / 128 - 0) + 1 * (z.val / 128 - 0) = _
    omega
  have hin : 4 * run2Of (ix3 b x z) + 3 < cfg0.N := by rw [hrun, show cfg0.N = 32 from N_0]; omega
  unfold G2
  rw [dif_pos hin]
  refine Product.fold_tiles (fun n h i => reset2 m c n h i) (fun n h acc i => step2 m c n h acc i) (addend m c) (reset_at m c) (step_at m c)
    (J := 4) (T := 1088) (K := 4352) (by decide) rfl hin _ _ fun j hn => ?_
  have hj := j.isLt
  refine Finset.sum_congr rfl fun y _ => congrArg₂ (· * ·) (left_at m c _ _ _ _ _ ?_ ?_) (right_at m c _ _ _ _ _ ?_ ?_)
  · show j.val * 1088 + y.val = (4 * run2Of (ix3 b x z) + j.val) % 4 * 1088 + y.val; omega
  · show b.val * 128 + x.val = (4 * run2Of (ix3 b x z) + j.val) / 4 * 128 + x.val % 128
    rw [Nat.mod_eq_of_lt x.isLt, hrun]; omega
  · show j.val * 1088 + y.val = (4 * run2Of (ix3 b x z) + j.val) % 4 * 1088 + y.val; omega
  · show b.val * 128 + z.val = (4 * run2Of (ix3 b x z) + j.val) / 4 * 128 + z.val % 128
    rw [Nat.mod_eq_of_lt z.isLt, hrun]; omega

theorem reference_at (a g : S4352x1024.Idx → EReal) (b : Fin 8) (x z : Fin 128) :
    Cert.RefGateWgradIdeal.Read.val_main_v9 (F := Ideal) a g (ix3 b x z)
      = ∑ k : Fin 4352, a (ix2 k (Gates.column b x)) * g (ix2 k (Gates.column b z)) := by
  have hb := b.isLt
  have hx := x.isLt
  have hz := z.isLt
  rw [Cert.RefGateWgradIdeal.Read.val_main_v9_apply, Cert.RefGateWgradIdeal.Read.val_main_v8_apply]
  refine Finset.sum_congr rfl fun k _ => (mul_comm _ _).trans (congrArg₂ (· * ·) ?_ ?_)
  · rw [Cert.RefGateWgradIdeal.Read.val_main_v0_apply]
    exact Product.at_eq a _ _ fun
      | ⟨0, _⟩ => by show ((k.val * 8 + b.val) * 128 + x.val) / 1024 = k.val; omega
      | ⟨1, _⟩ => by show ((k.val * 8 + b.val) * 128 + x.val) % 1024 = b.val * 128 + x.val; omega
  · rw [Cert.RefGateWgradIdeal.Read.val_main_v5_apply, Cert.RefGateWgradIdeal.Read.val_main_v4_apply]
    exact Product.at_eq g _ _ fun
      | ⟨0, _⟩ => by show ((k.val * 8 + b.val) * 128 + z.val) / 1024 = k.val; omega
      | ⟨1, _⟩ => by show ((k.val * 8 + b.val) * 128 + z.val) % 1024 = b.val * 128 + z.val; omega

theorem agree : Cert.RefGateWgradIdeal.Read.val_main_v9 (F := Ideal) (left m c) (right m c) = G2 m c := by
  funext j
  idx_vars j
  exact (reference_at _ _ _ _ _).trans (result_at m c _ _ _).symm

end Cert.GateWgradIdeal.Block

end
-- ==== Proof.Norm.lean ====
/-
  The norm of a row: its entries over the root of their mean square, and the same modulated by a weight, a shift and a scale.
-/
module

public import proofs.«01_k».proof.Proof.Product
public import Idealize.ShloMosaic.Lib.Pointwise

@[expose] public section

noncomputable section

namespace Cert.Norm

open Idealize.ShloMosaic

/-- An entry of a row over the root of the row's mean square; `count` is the number of entries. -/
def unit {n : ℕ} (count : EReal) (x : Fin n → EReal) (k : Fin n) : EReal :=
  x k * Ideal.rsqrt (Ideal.div (∑ j, x j * x j) count + Ideal.ofBits FTy.f32 0x358637BD#32)

/-- The same, weighted. -/
def weighted {n : ℕ} (count : EReal) (x g : Fin n → EReal) (k : Fin n) : EReal := unit count x k * g k

/-- The same, scaled and shifted. -/
def modulated {n : ℕ} (count : EReal) (x g shift scale : Fin n → EReal) (k : Fin n) : EReal :=
  weighted count x g k * (1 + scale k) + shift k

/-- Without a scale and without a shift. -/
theorem modulated_zero {n : ℕ} (count : EReal) (x g : Fin n → EReal) (k : Fin n) :
    modulated count x g (fun _ => 0) (fun _ => 0) k = weighted count x g k := by
  show weighted count x g k * (1 + 0) + 0 = _
  rw [add_zero, add_zero, mul_one]

/-! ## The gradient

A row's root, and the gradient of the norm along the row in two forms: over the normalised row, and through the derivative
of the root. They agree whatever the row and the cotangent hold: where the mean square is infinite both are zero, and
elsewhere the root is a positive real, which distributes over every sum. -/

/-- The mean square of a row and its small addend. -/
def square {n : ℕ} (count small : EReal) (x : Fin n → EReal) : EReal := Ideal.div (∑ j, x j * x j) count + small

theorem sum_scale {n : ℕ} (f : Fin n → EReal) (r : ℝ) (hr : 0 ≤ r) : ∑ j, f j * (r : EReal) = (∑ j, f j) * (r : EReal) := by
  classical
  induction (Finset.univ : Finset (Fin n)) using Finset.induction_on with
  | empty => simp
  | insert a s ha ih =>
    rw [Finset.sum_insert ha, Finset.sum_insert ha, ih, EReal.right_distrib_of_nonneg_of_ne_top (EReal.coe_nonneg.mpr hr) (EReal.coe_ne_top r)]

theorem add_self (e : EReal) (r : ℝ) : e * (r : EReal) + e * (r : EReal) = e * ((r * 2 : ℝ) : EReal) := by
  have h : ((2 : ℝ) : EReal) = 1 + 1 := by rw [← one_add_one_eq_two, EReal.coe_add, EReal.coe_one]
  rw [EReal.coe_mul, h, ← mul_assoc, EReal.left_distrib_of_nonneg zero_le_one zero_le_one, mul_one]

theorem square_cases {n : ℕ} (count small : ℝ) (hc : 0 < count) (hs : 0 < small) (x : Fin n → EReal) :
    square count small x = ⊤ ∨ ∃ v : ℝ, 0 < v ∧ square count small x = v := by
  have h0 : 0 ≤ ∑ j, x j * x j := Finset.sum_nonneg fun j _ => by
    rcases le_total 0 (x j) with h | h
    · exact mul_nonneg h h
    · have := mul_nonneg (EReal.neg_nonneg.mpr h) (EReal.neg_nonneg.mpr h)
      rwa [EReal.neg_mul, mul_comm, EReal.neg_mul, neg_neg] at this
  unfold square
  revert h0
  generalize ∑ j, x j * x j = s
  rw [Ideal.div_coe hc.ne']
  refine EReal.rec ?_ (fun r hr => Or.inr ⟨r * (1 / count) + small, ?_, ?_⟩) ?_ s
  · intro h; simp at h
  · have : 0 ≤ r := EReal.coe_nonneg.mp hr
    positivity
  · rw [EReal.coe_add, EReal.coe_mul]
  · intro _
    left
    rw [EReal.top_mul_coe_of_pos (by positivity), EReal.top_add_coe]

/-- The two forms at the root `r` of a positive real `v`. -/
theorem gradient_real {n : ℕ} (count v : ℝ) (hc : 0 < count) (hv : 0 < v) (x d : Fin n → EReal) (k : Fin n) (r : ℝ) (hr : r = (Real.sqrt v)⁻¹) :
    (r : EReal) * (d k - x k * r * Ideal.div (∑ j, d j * (x j * r)) count)
      = d k * r + x k * Ideal.div ((∑ j, x j * d j) * (((-(1 / 2) : ℝ) : EReal) * Ideal.div r v)) count
        + Ideal.div ((∑ j, x j * d j) * (((-(1 / 2) : ℝ) : EReal) * Ideal.div r v)) count * x k := by
  have h0 : 0 ≤ r := hr ▸ by positivity
  have h2 : r * r = 1 / v := by rw [hr, ← mul_inv, Real.mul_self_sqrt hv.le, one_div]
  have hs : ∑ j, d j * (x j * (r : EReal)) = (∑ j, x j * d j) * (r : EReal) := by
    rw [← sum_scale _ r h0]
    exact Finset.sum_congr rfl fun j _ => by rw [← mul_assoc, mul_comm (d j)]
  rw [hs, Ideal.div_coe hc.ne', Ideal.div_coe hc.ne', Ideal.div_coe hv.ne']
  generalize ∑ j, x j * d j = s
  have hw : s * (((-(1 / 2) : ℝ) : EReal) * ((r : EReal) * ((1 / v : ℝ) : EReal))) * ((1 / count : ℝ) : EReal)
      = s * ((-(1 / 2) * (r * (1 / v)) * (1 / count) : ℝ) : EReal) := by
    rw [← EReal.coe_mul, ← EReal.coe_mul, mul_assoc, ← EReal.coe_mul]
  rw [hw, mul_comm (s * _) (x k), add_assoc, ← mul_assoc (x k) s, add_self, sub_eq_add_neg, mul_comm (r : EReal),
    EReal.right_distrib_of_nonneg_of_ne_top (EReal.coe_nonneg.mpr h0) (EReal.coe_ne_top r)]
  refine congrArg (d k * (r : EReal) + ·) ?_
  have hk : x k * (r : EReal) * (s * (r : EReal) * ((1 / count : ℝ) : EReal)) * (r : EReal) = x k * s * ((r * (r * (1 / count)) * r : ℝ) : EReal) := by
    simp only [EReal.coe_mul]
    ac_rfl
  rw [EReal.neg_mul, hk, ← mul_neg, ← EReal.coe_neg]
  congr 2
  rw [← h2]
  ring

theorem gradient_eq {n : ℕ} (count small : ℝ) (hc : 0 < count) (hs : 0 < small) (x d : Fin n → EReal) (k : Fin n) :
    Ideal.rsqrt (square count small x) * (d k - x k * Ideal.rsqrt (square count small x)
        * Ideal.div (∑ j, d j * (x j * Ideal.rsqrt (square count small x))) count)
      = d k * Ideal.rsqrt (square count small x)
        + x k * Ideal.div ((∑ j, x j * d j) * (((-(1 / 2) : ℝ) : EReal) * Ideal.div (Ideal.rsqrt (square count small x)) (square count small x))) count
        + Ideal.div ((∑ j, x j * d j) * (((-(1 / 2) : ℝ) : EReal) * Ideal.div (Ideal.rsqrt (square count small x)) (square count small x))) count * x k := by
  rcases square_cases count small hc hs x with h | ⟨v, hv, h⟩
  · have hz : Ideal.div 0 (count : EReal) = 0 := by rw [Ideal.div_coe hc.ne', zero_mul]
    have ht : Ideal.div 0 ⊤ = 0 := by unfold Ideal.div; simp
    rw [h, Ideal.rsqrt_top, ht]
    simp only [zero_mul, mul_zero, hz, add_zero]
  · rw [h, Ideal.rsqrt_coe, if_neg hv.not_gt, if_neg hv.ne']
    exact gradient_real count v hc hv x d k _ rfl

end Cert.Norm

end
-- ==== Proof.NormFwd.lean ====
/-
  The norm that is not modulated, forward: the kernel's shift and scale are zero, and every block of rows it writes is the
  weighted norm of its rows.
-/
module

public import proofs.«01_k».proof.Proof.Gen.NormFwdIdeal.Value
public import proofs.«01_k».proof.Proof.Gen.RefNormFwdIdeal.Read
public import proofs.«01_k».proof.Proof.Norm
public import Idealize.ShloMosaic.Lib.Pipeline.ValueKit.Geometry
public import Idealize.ShloMosaic.Lib.Tactic

@[expose] public section

noncomputable section

namespace Cert.NormFwdIdeal.Block

open Cert.NormFwdIdeal Cert.NormFwdIdeal.Gen Cert.NormFwdIdeal.Value Idealize.ShloMosaic Idealize.ShloMosaic.TcCoe Idealize.SL.Sem

/-- The block the body writes, from its four blocks. -/
theorem written (x0 : Vec Ideal S256x512 .f32) (x1 : Vec Ideal S1x512 .f32) (x2 x3 : Vec Ideal S1x1x512 .f32) : out0_4 x0 x1 x2 x3 = k0_pay1 x0 x1 x3 x2 := by
  unfold out0_4
  rw [View.canon_unit_zero (funext fun a => by fin_cases a <;> rfl), View.ld_unit_zero (S := S256x512) (funext fun a => by fin_cases a <;> rfl),
    View.ld_unit_zero (S := S1x512) (funext fun a => by fin_cases a <;> rfl), View.ld_unit_zero (S := S1x1x512) (funext fun a => by fin_cases a <;> rfl),
    View.ld_unit_zero (S := S1x1x512) (funext fun a => by fin_cases a <;> rfl)]

abbrev count : EReal := Ideal.ofBits FTy.f32 0x44000000#32

theorem written_at (x0 : Vec Ideal S256x512 .f32) (x1 : Vec Ideal S1x512 .f32) (x2 x3 : Vec Ideal S1x1x512 .f32) (y : Fin 256) (z : Fin 512) :
    k0_pay1 x0 x1 x3 x2 (ix2 y z) = Norm.modulated count (fun j => x0 (ix2 y j)) (fun j => x1 (ix2 0 j)) (fun j => x2 (ix3 0 0 j)) (fun j => x3 (ix3 0 0 j)) z := by
  unfold Norm.modulated Norm.weighted Norm.unit
  pointwise [k0_pay1]

section Reference
open Cert.RefNormFwdIdeal.Read

theorem reference_at (x : S4352x512.Idx → EReal) (g : S512.Idx → EReal) (p : Fin 4352) (q : Fin 512) :
    val_main_v12 (F := Ideal) x g (ix2 p q) = Norm.weighted count (fun j => x (ix2 p j)) (fun j => g (ix1 j)) q := by
  unfold Norm.weighted Norm.unit
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]

end Reference

variable (m : (ℓ : Loc nD τ sig) → Buf (Elt Ideal) ℓ) (c : Dev nD)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index4 : ∀ t : Fin grid0.N, win0_4.index t 0 = t.val ∧ win0_4.index t 1 = 0 := by decide +kernel

/-- The arguments, and a grid point's blocks of them and of the zeros. -/
abbrev array : S4352x512.Idx → EReal := m ((c : Thread nD τ).loc main_arg0)
abbrev weight : S512.Idx → EReal := m ((c : Thread nD τ).loc main_arg1)
abbrev arrayBlock (t : Fin cfg0.N) : S256x512.Idx → EReal := iblk m c 0 t
abbrev weightBlock (t : Fin cfg0.N) : S1x512.Idx → EReal := iblk m c 1 t
abbrev shiftBlock (t : Fin cfg0.N) : S1x1x512.Idx → EReal := iblk m c 2 t
abbrev scaleBlock (t : Fin cfg0.N) : S1x1x512.Idx → EReal := iblk m c 3 t

theorem array_at (t : Fin cfg0.N) (y : Fin 256) (k : Fin 512) (p : Fin 4352) (hp : p.val = t.val * 256 + y.val) :
    arrayBlock m c t (ix2 y k) = array m c (ix2 p k) := by
  obtain ⟨e0, e1⟩ := index0 t
  unfold arrayBlock iblk; rw [View.read_apply]
  show V m c main_arg0 _ = _
  rw [V_main_arg0]
  exact Product.at_eq (array m c) _ _ fun
    | ⟨0, _⟩ => by show win0_0.index t 0 * 256 + 1 * y.val = p.val; omega
    | ⟨1, _⟩ => by show win0_0.index t 1 * 512 + 1 * k.val = k.val; omega

theorem weight_at (t : Fin cfg0.N) (k : Fin 512) : weightBlock m c t (ix2 0 k) = weight m c (ix1 k) := by
  obtain ⟨e0, e1⟩ := index1 t
  unfold weightBlock iblk; rw [View.read_apply]
  show V m c main_v1 _ = _
  unfold V
  after_results
  refine (Product.at_eq (shapeCast S1x512 (weight m c) shapeCasts_S512_S1x512) _ (ix2 0 k) fun
    | ⟨0, _⟩ => by show win0_1.index t 0 * 1 + 1 * 0 = 0; omega
    | ⟨1, _⟩ => by show win0_1.index t 1 * 512 + 1 * k.val = k.val; omega).trans ?_
  pointwise []

/-- The host's zeros. -/
theorem zeros_at (i : S1x1x512.Idx) :
    shapeCast S1x1x512 (broadcastInDim S1x512 ![] bcast_S_S1x512 (constant (F := Ideal) S_ .f32 0x00000000#32)) shapeCasts_S1x512_S1x1x512 i = 0 := by
  idx_vars i
  pointwise []

theorem shift_at (t : Fin cfg0.N) (k : Fin 512) : shiftBlock m c t (ix3 0 0 k) = 0 := by
  unfold shiftBlock iblk; rw [View.read_apply]
  show V m c main_v2 _ = _
  unfold V
  after_results
  exact zeros_at _

theorem scale_at (t : Fin cfg0.N) (k : Fin 512) : scaleBlock m c t (ix3 0 0 k) = 0 := by
  unfold scaleBlock iblk; rw [View.read_apply]
  show V m c main_v3 _ = _
  unfold V
  after_results
  exact zeros_at _

/-- The result. -/
abbrev result : S4352x512.Idx → EReal := fun j => Norm.weighted count (fun k => array m c (ix2 (j 0) k)) (fun k => weight m c (ix1 k)) (j 1)

theorem block_at (t : Fin cfg0.N) (y : Fin 256) (z : Fin 512) (j : S4352x512.Idx) (h0 : (j 0).val = t.val * 256 + y.val) (h1 : (j 1).val = z.val) :
    k0_pay1 (F := Ideal) (arrayBlock m c t) (weightBlock m c t) (scaleBlock m c t) (shiftBlock m c t) (ix2 y z) = result m c j := by
  rw [written_at, funext fun k => array_at m c t y k (j 0) h0, funext fun k => weight_at m c t k, funext fun k => shift_at m c t k,
    funext fun k => scale_at m c t k, Norm.modulated_zero]
  exact congrArg (Norm.weighted count (fun k => array m c (ix2 (j 0) k)) (fun k => weight m c (ix1 k))) (Fin.ext h1.symm)

theorem final4 : (dats m 0 c).arrAt 4 cfg0.N = result m c := by
  refine (dats m 0 c).arrAt_eq_of_covers 4 _ (by decide +kernel) fun t _ y => ?_
  obtain ⟨e0, e1⟩ := index4 t
  refine (congrFun ((after0_4 m c t).trans (written _ _ _ _)) _).trans
    ((Product.at_eq (k0_pay1 (F := Ideal) (arrayBlock m c t) (weightBlock m c t) (scaleBlock m c t) (shiftBlock m c t)) _ (ix2 (y 0) (y 1)) ?_).trans
      (block_at m c t (y 0) (y 1) (((cfg0.win 4).blk t).view.emb y) ?_ ?_))
  · exact fun | ⟨0, _⟩ => rfl | ⟨1, _⟩ => rfl
  · show win0_4.index t 0 * 256 + 1 * (y 0).val = _; omega
  · show win0_4.index t 1 * 512 + 1 * (y 1).val = _; omega

theorem agree : Cert.RefNormFwdIdeal.Read.val_main_v12 (F := Ideal) (array m c) (weight m c) = (dats m 0 c).arrAt 4 cfg0.N := by
  rw [final4]
  funext j
  idx_vars j
  exact reference_at _ _ _ _

end Cert.NormFwdIdeal.Block

end
-- ==== Proof.ModFwd.lean ====
/-
  The modulated norm, forward: every block of rows the kernel writes is the norm of its rows, modulated by the shift and the
  scale of the segment the block lies in.
-/
module

public import proofs.«01_k».proof.Proof.Gen.ModFwdIdeal.Value
public import proofs.«01_k».proof.Proof.Gen.RefModFwdIdeal.Read
public import proofs.«01_k».proof.Proof.Norm
public import Idealize.ShloMosaic.Lib.Pipeline.ValueKit.Geometry
public import Idealize.ShloMosaic.Lib.Tactic

@[expose] public section

noncomputable section

namespace Cert.ModFwdIdeal.Block

open Cert.ModFwdIdeal Cert.ModFwdIdeal.Gen Cert.ModFwdIdeal.Value Idealize.ShloMosaic Idealize.ShloMosaic.TcCoe Idealize.SL.Sem

/-- The block the body writes, from its four blocks. -/
theorem written (x0 : Vec Ideal S256x2048 .f32) (x1 : Vec Ideal S1x2048 .f32) (x2 x3 : Vec Ideal S1x1x2048 .f32) : out0_4 x0 x1 x2 x3 = k0_pay1 x0 x1 x3 x2 := by
  unfold out0_4
  rw [View.canon_unit_zero (funext fun a => by fin_cases a <;> rfl), View.ld_unit_zero (S := S256x2048) (funext fun a => by fin_cases a <;> rfl),
    View.ld_unit_zero (S := S1x2048) (funext fun a => by fin_cases a <;> rfl), View.ld_unit_zero (S := S1x1x2048) (funext fun a => by fin_cases a <;> rfl),
    View.ld_unit_zero (S := S1x1x2048) (funext fun a => by fin_cases a <;> rfl)]

abbrev count : EReal := Ideal.ofBits FTy.f32 0x45000000#32

theorem written_at (x0 : Vec Ideal S256x2048 .f32) (x1 : Vec Ideal S1x2048 .f32) (x2 x3 : Vec Ideal S1x1x2048 .f32) (y : Fin 256) (z : Fin 2048) :
    k0_pay1 x0 x1 x3 x2 (ix2 y z) = Norm.modulated count (fun j => x0 (ix2 y j)) (fun j => x1 (ix2 0 j)) (fun j => x2 (ix3 0 0 j)) (fun j => x3 (ix3 0 0 j)) z := by
  unfold Norm.modulated Norm.weighted Norm.unit
  pointwise [k0_pay1]

section Reference
open Cert.RefModFwdIdeal.Read

variable (x : S4352x2048.Idx → EReal) (g : S2048.Idx → EReal) (sh sc : S2x2048.Idx → EReal) (q : Fin 2048)

/-- A row of the result, of row `p` of the array under the shift and the scale of segment `s`. -/
abbrev value (p : Fin 4352) (s : Fin 2) : EReal :=
  Norm.modulated count (fun j => x (ix2 p j)) (fun j => g (ix1 j)) (fun j => sh (ix2 s j)) (fun j => sc (ix2 s j)) q

/-- The reference's rows of the first segment, … -/
theorem first_at (p : Fin 4096) : val_main_v25 (F := Ideal) x g sh sc (ix2 p q) = value x g sh sc q ⟨p.val, by omega⟩ 0 := by
  unfold value Norm.modulated Norm.weighted Norm.unit
  pointwise [val_main_v25, val_main_v24, val_main_v23, val_main_v22, val_main_v21, val_main_v20, val_main_v19, val_main_v18, val_main_cst_2,
    val_main_v17, val_main_v16, val_main_v15, val_main_v14, val_main_v13, val_main_v12, val_main_v11, val_main_v10, val_main_v9, val_main_v8,
    val_main_v7, val_main_v6, val_main_cst_1, val_main_v5, val_main_v4, val_main_cst_0, val_main_v3, val_main_v2, val_main_cst, val_main_v1, val_main_v0]

/-- … and of the second. -/
theorem rest_at (p : Fin 256) : val_main_v51 (F := Ideal) x g sh sc (ix2 p q) = value x g sh sc q ⟨4096 + p.val, by omega⟩ 1 := by
  unfold value Norm.modulated Norm.weighted Norm.unit
  pointwise [val_main_v51, val_main_v50, val_main_v49, val_main_v48, val_main_v47, val_main_v46, val_main_v45, val_main_v44, val_main_cst_6,
    val_main_v43, val_main_v42, val_main_v41, val_main_v40, val_main_v39, val_main_v38, val_main_v37, val_main_v36, val_main_v35, val_main_v34,
    val_main_v33, val_main_v32, val_main_cst_5, val_main_v31, val_main_v30, val_main_cst_4, val_main_v29, val_main_v28, val_main_cst_3, val_main_v27, val_main_v26]

theorem reference_at (p : Fin 4352) : val_main_v52 (F := Ideal) x g sh sc (ix2 p q) = value x g sh sc q p ⟨p.val / 4096, by omega⟩ := by
  pointwise [val_main_v52]
  split
  · next h => exact (first_at x g sh sc q ⟨p.val, h⟩).trans (congrArg (value x g sh sc q p) (Fin.ext (by show 0 = p.val / 4096; omega)))
  · next h => exact (rest_at x g sh sc q ⟨p.val - 4096, by omega⟩).trans (congrArg₂ (value x g sh sc q)
      (Fin.ext (by show 4096 + (p.val - 4096) = p.val; omega)) (Fin.ext (by show 1 = p.val / 4096; omega)))

end Reference

variable (m : (ℓ : Loc nD τ sig) → Buf (Elt Ideal) ℓ) (c : Dev nD)

/-- A grid point's segment. -/
abbrev segment (t : Fin cfg0.N) : Fin 2 := ⟨t.val / 16, by have := lt_of_lt_of_eq t.isLt (show cfg0.N = 17 from N_0); omega⟩

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val / 16 ∧ win0_2.index t 1 = 0 ∧ win0_2.index t 2 = 0 := by decide +kernel
theorem index3 : ∀ t : Fin grid0.N, win0_3.index t 0 = t.val / 16 ∧ win0_3.index t 1 = 0 ∧ win0_3.index t 2 = 0 := by decide +kernel
theorem index4 : ∀ t : Fin grid0.N, win0_4.index t 0 = t.val ∧ win0_4.index t 1 = 0 := by decide +kernel

/-- The arguments, and a grid point's blocks of them. -/
abbrev array : S4352x2048.Idx → EReal := m ((c : Thread nD τ).loc main_arg0)
abbrev weight : S2048.Idx → EReal := m ((c : Thread nD τ).loc main_arg1)
abbrev shift : S2x2048.Idx → EReal := m ((c : Thread nD τ).loc main_arg2)
abbrev scale : S2x2048.Idx → EReal := m ((c : Thread nD τ).loc main_arg3)
abbrev arrayBlock (t : Fin cfg0.N) : S256x2048.Idx → EReal := iblk m c 0 t
abbrev weightBlock (t : Fin cfg0.N) : S1x2048.Idx → EReal := iblk m c 1 t
abbrev shiftBlock (t : Fin cfg0.N) : S1x1x2048.Idx → EReal := iblk m c 2 t
abbrev scaleBlock (t : Fin cfg0.N) : S1x1x2048.Idx → EReal := iblk m c 3 t

theorem array_at (t : Fin cfg0.N) (y : Fin 256) (k : Fin 2048) (p : Fin 4352) (hp : p.val = t.val * 256 + y.val) :
    arrayBlock m c t (ix2 y k) = array m c (ix2 p k) := by
  obtain ⟨e0, e1⟩ := index0 t
  unfold arrayBlock iblk; rw [View.read_apply]
  show V m c main_arg0 _ = _
  rw [V_main_arg0]
  exact Product.at_eq (array m c) _ _ fun
    | ⟨0, _⟩ => by show win0_0.index t 0 * 256 + 1 * y.val = p.val; omega
    | ⟨1, _⟩ => by show win0_0.index t 1 * 2048 + 1 * k.val = k.val; omega

theorem weight_at (t : Fin cfg0.N) (k : Fin 2048) : weightBlock m c t (ix2 0 k) = weight m c (ix1 k) := by
  obtain ⟨e0, e1⟩ := index1 t
  unfold weightBlock iblk; rw [View.read_apply]
  show V m c main_v0 _ = _
  unfold V
  after_results
  refine (Product.at_eq (shapeCast S1x2048 (weight m c) shapeCasts_S2048_S1x2048) _ (ix2 0 k) fun
    | ⟨0, _⟩ => by show win0_1.index t 0 * 1 + 1 * 0 = 0; omega
    | ⟨1, _⟩ => by show win0_1.index t 1 * 2048 + 1 * k.val = k.val; omega).trans ?_
  pointwise []

/-- A row of a pair of rows laid out one above the other. -/
theorem slab_at (a : S2x2048.Idx → EReal) (s : Fin 2) (k : Fin 2048) : shapeCast S2x1x2048 a shapeCasts_S2x2048_S2x1x2048 (ix3 s 0 k) = a (ix2 s k) := by
  pointwise []

theorem shift_at (t : Fin cfg0.N) (k : Fin 2048) : shiftBlock m c t (ix3 0 0 k) = shift m c (ix2 (segment t) k) := by
  obtain ⟨e0, e1, e2⟩ := index2 t
  unfold shiftBlock iblk; rw [View.read_apply]
  show V m c main_v1 _ = _
  unfold V
  after_results
  exact (Product.at_eq (shapeCast S2x1x2048 (shift m c) shapeCasts_S2x2048_S2x1x2048) _ (ix3 (segment t) 0 k) fun
    | ⟨0, _⟩ => by show win0_2.index t 0 * 1 + 1 * 0 = t.val / 16; omega
    | ⟨1, _⟩ => by show win0_2.index t 1 * 1 + 1 * 0 = 0; omega
    | ⟨2, _⟩ => by show win0_2.index t 2 * 2048 + 1 * k.val = k.val; omega).trans (slab_at _ _ _)

theorem scale_at (t : Fin cfg0.N) (k : Fin 2048) : scaleBlock m c t (ix3 0 0 k) = scale m c (ix2 (segment t) k) := by
  obtain ⟨e0, e1, e2⟩ := index3 t
  unfold scaleBlock iblk; rw [View.read_apply]
  show V m c main_v2 _ = _
  unfold V
  after_results
  exact (Product.at_eq (shapeCast S2x1x2048 (scale m c) shapeCasts_S2x2048_S2x1x2048) _ (ix3 (segment t) 0 k) fun
    | ⟨0, _⟩ => by show win0_3.index t 0 * 1 + 1 * 0 = t.val / 16; omega
    | ⟨1, _⟩ => by show win0_3.index t 1 * 1 + 1 * 0 = 0; omega
    | ⟨2, _⟩ => by show win0_3.index t 2 * 2048 + 1 * k.val = k.val; omega).trans (slab_at _ _ _)

/-- The result. -/
abbrev result : S4352x2048.Idx → EReal := fun j =>
  value (array m c) (weight m c) (shift m c) (scale m c) (j 1) (j 0) ⟨(j 0).val / 4096, by have : (j 0).val < 4352 := (j 0).isLt; omega⟩

theorem block_at (t : Fin cfg0.N) (y : Fin 256) (z : Fin 2048) (j : S4352x2048.Idx) (h0 : (j 0).val = t.val * 256 + y.val) (h1 : (j 1).val = z.val) :
    k0_pay1 (F := Ideal) (arrayBlock m c t) (weightBlock m c t) (scaleBlock m c t) (shiftBlock m c t) (ix2 y z) = result m c j := by
  rw [written_at, funext fun k => array_at m c t y k (j 0) h0, funext fun k => weight_at m c t k, funext fun k => shift_at m c t k,
    funext fun k => scale_at m c t k]
  exact congrArg₂ (fun q s => value (array m c) (weight m c) (shift m c) (scale m c) q (j 0) s) (Fin.ext h1.symm)
    (Fin.ext (by show t.val / 16 = (j 0).val / 4096; have := y.isLt; omega))

theorem final4 : (dats m 0 c).arrAt 4 cfg0.N = result m c := by
  refine (dats m 0 c).arrAt_eq_of_covers 4 _ (by decide +kernel) fun t _ y => ?_
  obtain ⟨e0, e1⟩ := index4 t
  refine (congrFun ((after0_4 m c t).trans (written _ _ _ _)) _).trans
    ((Product.at_eq (k0_pay1 (F := Ideal) (arrayBlock m c t) (weightBlock m c t) (scaleBlock m c t) (shiftBlock m c t)) _ (ix2 (y 0) (y 1)) ?_).trans
      (block_at m c t (y 0) (y 1) (((cfg0.win 4).blk t).view.emb y) ?_ ?_))
  · exact fun | ⟨0, _⟩ => rfl | ⟨1, _⟩ => rfl
  · show win0_4.index t 0 * 256 + 1 * (y 0).val = _; omega
  · show win0_4.index t 1 * 2048 + 1 * (y 1).val = _; omega

theorem agree : Cert.RefModFwdIdeal.Read.val_main_v52 (F := Ideal) (array m c) (weight m c) (shift m c) (scale m c) = (dats m 0 c).arrAt 4 cfg0.N := by
  rw [final4]
  funext j
  idx_vars j
  exact reference_at _ _ _ _ _ _

end Cert.ModFwdIdeal.Block

end
-- ==== Proof.NormBwd.lean ====
/-
  The norm, backward: block by block the body writes the array's gradient, and over the seventeen blocks it adds up the
  weight's. Both are what differentiating the weighted norm gives.
-/
module

public import proofs.«01_k».proof.Proof.Gen.NormBwdIdeal.Value
public import proofs.«01_k».proof.Proof.Gen.RefNormBwdIdeal.Read
public import proofs.«01_k».proof.Proof.Norm
public import Idealize.ShloMosaic.Lib.Pipeline.ValueKit.Geometry
public import Idealize.ShloMosaic.Lib.VecWindow
public import Idealize.ShloMosaic.Lib.Tactic

@[expose] public section

noncomputable section

namespace Cert.NormBwdIdeal.Block

open Cert.NormBwdIdeal Cert.NormBwdIdeal.Gen Cert.NormBwdIdeal.Value Idealize.ShloMosaic Idealize.ShloMosaic.TcCoe Idealize.SL.Sem

/-- The block of the array's gradient the body writes, and what it leaves of the weight's from what it finds. -/
abbrev gradArray {F : FTy → Type} [FloatOps F] (x : Vec F S256x512 .f32) (g : Vec F S1x512 .f32) (sc : Vec F S1x1x512 .f32) (dy : Vec F S256x512 .f32) : Vec F S256x512 .f32 :=
  k0_pay4 dy (k0_pay8 g) (k0_pay9 x) (k0_pay10 x) sc
abbrev gradWeight {F : FTy → Type} [FloatOps F] (x : Vec F S256x512 .f32) (sc : Vec F S1x1x512 .f32) (dy : Vec F S256x512 .f32) (acc : Vec F S1x512 .f32) : Vec F S1x512 .f32 :=
  k0_pay3 dy (k0_pay10 x) sc acc

section Body

variable {F : FTy → Type} [FloatOps F] (c : Dev nD) (i : grid0.Coords)
  (a1 : Memref sig .tc .vmem S256x512 .f32) (h1 : a1.IsWhole) (a2 : Memref sig .tc .vmem S1x512 .f32) (h2 : a2.IsWhole)
  (a3 : Memref sig .tc .vmem S1x1x512 .f32) (h3 : a3.IsWhole) (a4 : Memref sig .tc .vmem S256x512 .f32) (h4 : a4.IsWhole)
  (a5 : Memref sig .tc .vmem S256x512 .f32) (h5 : a5.IsWhole) (a6 : Memref sig .tc .vmem S1x512 .f32) (h6 : a6.IsWhole)
  (a7 : Memref sig .tc .vmem S1x1x512 .f32) (h7 : a7.IsWhole) (a8 : Memref sig .tc .vmem S1x1x512 .f32) (h8 : a8.IsWhole)
  (x0 : Vec F S256x512 .f32) (x1 : Vec F S1x512 .f32) (x2 : Vec F S1x1x512 .f32) (x3 : Vec F S256x512 .f32)
  (p5 : Vec F S1x512 .f32) (p6 p7 : Vec F S1x1x512 .f32)

/-- At the first point the body writes the array's gradient, … -/
theorem array_first (hc0 : cond0_0 i) (hc1 : cond0_1 i) :
    out0_A_4 c i a1 h1 a2 h2 a3 h3 a4 h4 a5 h5 a6 h6 a7 h7 a8 h8 hc0 hc1 x0 x1 x2 x3 = gradArray x0 x1 x2 x3 := by
  unfold out0_A_4 kernelRun0_A; dsimp only; sl_unfold_words
  rw [View.read_writes_full]
  simp only [View.readAt_full (s := S256x512), View.readAt_full (s := S1x512), View.readAt_full (s := S1x1x512), h1.read_unread, h2.read_unread, h3.read_unread, h4.read_unread]

/-- … and adds to the zeros it has just stored; … -/
theorem weight_first (hc0 : cond0_0 i) (hc1 : cond0_1 i) :
    out0_A_5 c i a1 h1 a2 h2 a3 h3 a4 h4 a5 h5 a6 h6 a7 h7 a8 h8 hc0 hc1 x0 x1 x2 x3 = gradWeight x0 x2 x3 k0_pay5 := by
  unfold out0_A_5 kernelRun0_A; dsimp only; sl_unfold_words
  rw [View.read_writes_full]
  simp only [View.readAt_full (s := S256x512), View.readAt_full (s := S1x1x512), View.readCov_full (s := S1x512), h1.read_unread, h3.read_unread, h4.read_unread]

/-- … at a later point it writes the same of the array's gradient, … -/
theorem array_later (hc0 : ¬cond0_0 i) (hc1 : ¬cond0_1 i) :
    out0_B_4 c i a1 h1 a2 h2 a3 h3 a4 h4 a5 h5 a6 h6 a7 h7 a8 h8 hc0 hc1 x0 x1 x2 x3 p5 p6 p7 = gradArray x0 x1 x2 x3 := by
  unfold out0_B_4 kernelRun0_B; dsimp only; sl_unfold_words
  rw [View.read_writes_full]
  simp only [View.readAt_full (s := S256x512), View.readAt_full (s := S1x512), View.readAt_full (s := S1x1x512), h1.read_unread, h2.read_unread, h3.read_unread, h4.read_unread]

/-- … and adds to what it finds. -/
theorem weight_later (hc0 : ¬cond0_0 i) (hc1 : ¬cond0_1 i) :
    out0_B_5 c i a1 h1 a2 h2 a3 h3 a4 h4 a5 h5 a6 h6 a7 h7 a8 h8 hc0 hc1 x0 x1 x2 x3 p5 p6 p7 = gradWeight x0 x2 x3 p5 := by
  unfold out0_B_5 kernelRun0_B; dsimp only; sl_unfold_words
  rw [View.read_writes_full]
  simp only [View.readAt_full (s := S256x512), View.readAt_full (s := S1x512), View.readAt_full (s := S1x1x512), h1.read_unread, h3.read_unread, h4.read_unread, h6.read_unread]

end Body

/-- The number of entries of a row, what is added to the mean square, and minus a half. -/
abbrev count : EReal := Ideal.ofBits FTy.f32 0x44000000#32
abbrev small : EReal := Ideal.ofBits FTy.f32 0x358637BD#32
abbrev minusHalf : EReal := Ideal.ofBits FTy.f32 0xBF000000#32

theorem count_eq : ∃ r : ℝ, 0 < r ∧ count = (r : EReal) := by
  refine ⟨count.toReal, ?_, ?_⟩ <;> unfold count
  · simp [Ideal.ofBits, Ideal.ieee, Nat.shiftRight_eq_div_pow, -EReal.coe_mul]
  · rw [EReal.coe_toReal] <;> simp [Ideal.ofBits, Ideal.ieee, Nat.shiftRight_eq_div_pow, -EReal.coe_mul]

theorem small_eq : ∃ r : ℝ, 0 < r ∧ small = (r : EReal) := by
  refine ⟨small.toReal, ?_, ?_⟩ <;> unfold small
  · simp [Ideal.ofBits, Ideal.ieee, Nat.shiftRight_eq_div_pow, -EReal.coe_mul]
  · rw [EReal.coe_toReal] <;> simp [Ideal.ofBits, Ideal.ieee, Nat.shiftRight_eq_div_pow, -EReal.coe_mul]

theorem minusHalf_eq : minusHalf = ((-(1 / 2) : ℝ) : EReal) := by
  simp [Ideal.ofBits, Ideal.ieee, Nat.shiftRight_eq_div_pow, -EReal.coe_mul]
  norm_num

/-- One over the root of a row's mean square. -/
def scale (x : Fin 512 → EReal) : EReal := Ideal.rsqrt (Norm.square count small x)

/-- An entry of the gradient of a row, from the row and the gradient of the row's norm: as the body computes it. -/
def gradient (x d : Fin 512 → EReal) (k : Fin 512) : EReal :=
  scale x * (d k - x k * scale x * Ideal.div (∑ j, d j * (x j * scale x)) count)

theorem gradArray_at (x : Vec Ideal S256x512 .f32) (g : Vec Ideal S1x512 .f32) (sc : Vec Ideal S1x1x512 .f32) (dy : Vec Ideal S256x512 .f32) (y : Fin 256) (z : Fin 512) :
    gradArray x g sc dy (ix2 y z) = gradient (fun j => x (ix2 y j)) (fun j => dy (ix2 y j) * (1 + sc (ix3 0 0 j)) * g (ix2 0 j)) z := by
  unfold gradient scale Norm.square
  pointwise [gradArray, k0_pay4, k0_pay8, k0_pay9, k0_pay10, k0_pay2]

theorem gradWeight_at (x : Vec Ideal S256x512 .f32) (sc : Vec Ideal S1x1x512 .f32) (dy : Vec Ideal S256x512 .f32) (acc : Vec Ideal S1x512 .f32) (z : Fin 512) :
    gradWeight x sc dy acc (ix2 0 z)
      = acc (ix2 0 z) + ∑ y : Fin 256, dy (ix2 y z) * (1 + sc (ix3 0 0 z)) * (x (ix2 y z) * scale fun j => x (ix2 y j)) := by
  unfold scale Norm.square
  pointwise [gradWeight, k0_pay3, k0_pay8, k0_pay9, k0_pay10, k0_pay2]

section Reference
open Cert.RefNormBwdIdeal.Read

theorem reference_array_at (x : S4352x512.Idx → EReal) (g : S512.Idx → EReal) (dy : S4352x512.Idx → EReal) (p : Fin 4352) (q : Fin 512) :
    val_main_v35 (F := Ideal) x g dy (ix2 p q) = gradient (fun j => x (ix2 p j)) (fun j => dy (ix2 p j) * g (ix1 j)) q := by
  obtain ⟨n, hn, en⟩ := count_eq
  obtain ⟨s, hs, es⟩ := small_eq
  unfold gradient scale
  rw [en, es]
  refine Eq.trans ?_ (Norm.gradient_eq n s hn hs (fun j => x (ix2 p j)) (fun j => dy (ix2 p j) * g (ix1 j)) q).symm
  rw [← en, ← es, ← minusHalf_eq]
  unfold Norm.square
  pointwise [val_main_v35, val_main_v34, val_main_v33, val_main_v32, val_main_v31, val_main_v30, val_main_cst_7, val_main_v29, val_main_v28, val_main_cst_6,
    val_main_v27, val_main_v26, val_main_v25, val_main_v24, val_main_v23, val_main_cst_5, val_main_v22, val_main_v20, val_main_v19, val_main_v13,
    val_main_v10, val_main_v9, val_main_cst_2, val_main_v8, val_main_v7, val_main_v6, val_main_v5, val_main_cst_1, val_main_v4, val_main_v3,
    val_main_cst_0, val_main_v2, val_main_v1, val_main_cst, val_main_v0]
  simp only [Finset.univ_unique, Finset.sum_singleton]

theorem reference_weight_at (x : S4352x512.Idx → EReal) (dy : S4352x512.Idx → EReal) (q : Fin 512) :
    val_main_v36 (F := Ideal) x dy (ix2 0 q) = ∑ p : Fin 4352, x (ix2 p q) * scale (fun j => x (ix2 p j)) * dy (ix2 p q) := by
  unfold scale Norm.square
  pointwise [val_main_v36, val_main_v21, val_main_cst_4, val_main_v18, val_main_v17, val_main_cst_3, val_main_v16, val_main_v12, val_main_v11,
    val_main_v7, val_main_v6, val_main_v5, val_main_cst_1, val_main_v4, val_main_v3,
    val_main_cst_0, val_main_v2, val_main_v1, val_main_cst, val_main_v0]
  simp only [Finset.univ_unique, Finset.sum_singleton]

end Reference

variable (m : (ℓ : Loc nD τ sig) → Buf (Elt Ideal) ℓ) (c : Dev nD)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = 0 ∧ win0_5.index t 1 = 0 := by decide +kernel

/-- The arguments, and a grid point's blocks of them and of the zeros. -/
abbrev array : S4352x512.Idx → EReal := m ((c : Thread nD τ).loc main_arg0)
abbrev weight : S512.Idx → EReal := m ((c : Thread nD τ).loc main_arg1)
abbrev cotangent : S4352x512.Idx → EReal := m ((c : Thread nD τ).loc main_arg2)
abbrev arrayBlock (t : Fin cfg0.N) : S256x512.Idx → EReal := iblk m c 0 t
abbrev weightBlock (t : Fin cfg0.N) : S1x512.Idx → EReal := iblk m c 1 t
abbrev scaleBlock (t : Fin cfg0.N) : S1x1x512.Idx → EReal := iblk m c 2 t
abbrev cotangentBlock (t : Fin cfg0.N) : S256x512.Idx → EReal := iblk m c 3 t

theorem array_at (t : Fin cfg0.N) (y : Fin 256) (k : Fin 512) (p : Fin 4352) (hp : p.val = t.val * 256 + y.val) :
    arrayBlock m c t (ix2 y k) = array m c (ix2 p k) := by
  obtain ⟨e0, e1⟩ := index0 t
  unfold arrayBlock iblk; rw [View.read_apply]
  show V m c main_arg0 _ = _
  rw [V_main_arg0]
  exact Product.at_eq (array m c) _ _ fun
    | ⟨0, _⟩ => by show win0_0.index t 0 * 256 + 1 * y.val = p.val; omega
    | ⟨1, _⟩ => by show win0_0.index t 1 * 512 + 1 * k.val = k.val; omega

theorem cotangent_at (t : Fin cfg0.N) (y : Fin 256) (k : Fin 512) (p : Fin 4352) (hp : p.val = t.val * 256 + y.val) :
    cotangentBlock m c t (ix2 y k) = cotangent m c (ix2 p k) := by
  obtain ⟨e0, e1⟩ := index3 t
  unfold cotangentBlock iblk; rw [View.read_apply]
  show V m c main_arg2 _ = _
  rw [V_main_arg2]
  exact Product.at_eq (cotangent m c) _ _ fun
    | ⟨0, _⟩ => by show win0_3.index t 0 * 256 + 1 * y.val = p.val; omega
    | ⟨1, _⟩ => by show win0_3.index t 1 * 512 + 1 * k.val = k.val; omega

theorem weight_at (t : Fin cfg0.N) (k : Fin 512) : weightBlock m c t (ix2 0 k) = weight m c (ix1 k) := by
  obtain ⟨e0, e1⟩ := index1 t
  unfold weightBlock iblk; rw [View.read_apply]
  show V m c main_v1 _ = _
  unfold V
  after_results
  refine (Product.at_eq (shapeCast S1x512 (weight m c) shapeCasts_S512_S1x512) _ (ix2 0 k) fun
    | ⟨0, _⟩ => by show win0_1.index t 0 * 1 + 1 * 0 = 0; omega
    | ⟨1, _⟩ => by show win0_1.index t 1 * 512 + 1 * k.val = k.val; omega).trans ?_
  pointwise []

/-- The host's zeros. -/
theorem zeros_at (i : S1x1x512.Idx) :
    shapeCast S1x1x512 (broadcastInDim S1x512 ![] bcast_S_S1x512 (constant (F := Ideal) S_ .f32 0x00000000#32)) shapeCasts_S1x512_S1x1x512 i = 0 := by
  idx_vars i
  pointwise []

theorem scale_at (t : Fin cfg0.N) (k : Fin 512) : scaleBlock m c t (ix3 0 0 k) = 0 := by
  unfold scaleBlock iblk; rw [View.read_apply]
  show V m c main_v2 _ = _
  unfold V
  after_results
  exact zeros_at _

/-- The body's outputs at a point: the array's gradient, … -/
theorem outs_array (t : Fin cfg0.N) :
    (outsAt0 m c t.val t.isLt).1 = gradArray (F := Ideal) (arrayBlock m c t) (weightBlock m c t) (scaleBlock m c t) (cotangentBlock m c t) := by
  by_cases h : t.val % 17 = 0
  · rw [outsAt0_A m c t h h]; dsimp only; exact array_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ _ _ _ _
  · rw [outsAt0_B m c t h h]; dsimp only; exact array_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ _ _ _ _ _ _ _

/-- … and the weight's, from the zeros at the first and from what the point before left at a later one. -/
def step (n : ℕ) (h : n < cfg0.N) (acc : S1x512.Idx → EReal) : S1x512.Idx → EReal :=
  gradWeight (F := Ideal) (arrayBlock m c ⟨n, h⟩) (scaleBlock m c ⟨n, h⟩) (cotangentBlock m c ⟨n, h⟩) acc
def reset (n : ℕ) (h : n < cfg0.N) : S1x512.Idx → EReal := step m c n h (k0_pay5 (F := Ideal))

theorem outs_first (t : Fin cfg0.N) (h : t.val % 17 = 0) : (outsAt0 m c t.val t.isLt).2.1 = reset m c t.val t.isLt := by
  rw [outsAt0_A m c t h h]; dsimp only; unfold reset step
  exact weight_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ _ _ _ _

theorem outs_later (t : Fin cfg0.N) (h : ¬t.val % 17 = 0) :
    (outsAt0 m c t.val t.isLt).2.1 = step m c t.val t.isLt (outsAt0 m c (t.val - 1) (Nat.lt_of_le_of_lt (Nat.sub_le _ _) t.isLt)).2.1 := by
  rw [outsAt0_B m c t h h]; dsimp only; unfold step
  exact weight_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) _ _ _ _ _ _ _ _ _

theorem outs_weight : ∀ (n : ℕ) (h : 0 + n < cfg0.N), (outsAt0 m c (0 + n) h).2.1 = Pipeline.accAt (reset m c) (step m c) 0 n h
  | 0, h => outs_first m c ⟨0, h⟩ rfl
  | n + 1, h => by
    have hN : cfg0.N = 17 := N_0
    rw [Pipeline.accAt_succ, ← outs_weight n (Nat.lt_of_succ_lt h)]
    exact outs_later m c ⟨0 + (n + 1), h⟩ (by show ¬(0 + (n + 1)) % 17 = 0; omega)

/-- The results. -/
abbrev resultArray : S4352x512.Idx → EReal := fun j =>
  gradient (fun k => array m c (ix2 (j 0) k)) (fun k => cotangent m c (ix2 (j 0) k) * weight m c (ix1 k)) (j 1)
def term (q : Fin 512) (p : Fin 4352) : EReal := array m c (ix2 p q) * scale (fun k => array m c (ix2 p k)) * cotangent m c (ix2 p q)
def resultWeight : S1x512.Idx → EReal := fun j => ∑ p : Fin 4352, term m c (j 1) p

theorem block_at (t : Fin cfg0.N) (y : Fin 256) (z : Fin 512) (j : S4352x512.Idx) (h0 : (j 0).val = t.val * 256 + y.val) (h1 : (j 1).val = z.val) :
    gradArray (F := Ideal) (arrayBlock m c t) (weightBlock m c t) (scaleBlock m c t) (cotangentBlock m c t) (ix2 y z) = resultArray m c j := by
  rw [gradArray_at, funext fun k => array_at m c t y k (j 0) h0, show (fun k => cotangentBlock m c t (ix2 y k) * (1 + scaleBlock m c t (ix3 0 0 k)) * weightBlock m c t (ix2 0 k))
    = fun k => cotangent m c (ix2 (j 0) k) * weight m c (ix1 k) from
    funext fun k => by rw [cotangent_at m c t y k (j 0) h0, scale_at, weight_at, add_zero, mul_one]]
  exact congrArg (gradient (fun k => array m c (ix2 (j 0) k)) fun k => cotangent m c (ix2 (j 0) k) * weight m c (ix1 k)) (Fin.ext h1.symm)

theorem final4 : (dats m 0 c).arrAt 4 cfg0.N = resultArray m c := by
  refine (dats m 0 c).arrAt_eq_of_covers 4 _ (by decide +kernel) fun t _ y => ?_
  obtain ⟨e0, e1⟩ := index4 t
  refine (congrFun ((after0_4 m c t).trans (outs_array m c t)) _).trans
    ((Product.at_eq (gradArray (F := Ideal) (arrayBlock m c t) (weightBlock m c t) (scaleBlock m c t) (cotangentBlock m c t)) _ (ix2 (y 0) (y 1)) ?_).trans
      (block_at m c t (y 0) (y 1) (((cfg0.win 4).blk t).view.emb y) ?_ ?_))
  · exact fun | ⟨0, _⟩ => rfl | ⟨1, _⟩ => rfl
  · show win0_4.index t 0 * 256 + 1 * (y 0).val = _; omega
  · show win0_4.index t 1 * 512 + 1 * (y 1).val = _; omega

/-- What a point adds to an entry of the weight's gradient. -/
def addend (n : ℕ) (h : n < cfg0.N) (i : S1x512.Idx) : EReal :=
  ∑ y : Fin 256, cotangentBlock m c ⟨n, h⟩ (ix2 y (i 1)) * (1 + scaleBlock m c ⟨n, h⟩ (ix3 0 0 (i 1)))
    * (arrayBlock m c ⟨n, h⟩ (ix2 y (i 1)) * scale fun j => arrayBlock m c ⟨n, h⟩ (ix2 y j))

theorem step_at (n : ℕ) (h : n < cfg0.N) (acc : S1x512.Idx → EReal) (i : S1x512.Idx) : step m c n h acc i = acc i + addend m c n h i := by
  obtain ⟨z, rfl⟩ : ∃ z : Fin 512, i = ix2 0 z := ⟨i 1, funext fun | ⟨0, _⟩ => Subsingleton.elim (α := Fin 1) _ _ | ⟨1, _⟩ => rfl⟩
  exact gradWeight_at (arrayBlock m c ⟨n, h⟩) (scaleBlock m c ⟨n, h⟩) (cotangentBlock m c ⟨n, h⟩) acc z

theorem reset_at (n : ℕ) (h : n < cfg0.N) (i : S1x512.Idx) : reset m c n h i = 0 + addend m c n h i :=
  (step_at m c n h (k0_pay5 (F := Ideal)) i).trans (by pointwise [k0_pay5])

theorem place_eq (hK : 17 * 256 = 4352) (j : Fin 17) (y : Fin 256) : (Product.place hK j y).val = (0 + j.val) * 256 + y.val := by
  show j.val * 256 + y.val = _
  omega

theorem addend_at (i : S1x512.Idx) (j : Fin 17) (hn : 0 + j.val < cfg0.N) (hK : 17 * 256 = 4352) :
    addend m c (0 + j.val) hn i = ∑ y : Fin 256, term m c (i 1) (Product.place hK j y) := by
  unfold addend term
  refine Finset.sum_congr rfl fun y _ => ?_
  have hp := place_eq hK j y
  rw [cotangent_at m c ⟨0 + j.val, hn⟩ y (i 1) _ hp, scale_at m c ⟨0 + j.val, hn⟩ (i 1), array_at m c ⟨0 + j.val, hn⟩ y (i 1) _ hp,
    funext fun k => array_at m c ⟨0 + j.val, hn⟩ y k _ hp, add_zero, mul_one]
  exact mul_comm _ _

theorem total_at (e : ℕ) (he : e + 1 = 17) (h : 0 + e < cfg0.N) (i : S1x512.Idx) : Pipeline.accAt (reset m c) (step m c) 0 e h i = resultWeight m c i := by
  refine Product.fold_tiles (fun n h i => reset m c n h i) (fun n h acc i => step m c n h acc i) (addend m c) (reset_at m c) (step_at m c)
    (J := 17) (T := 256) (K := 4352) (by decide) he h i (term m c (i 1)) fun j hn => ?_
  exact addend_at m c i j hn _

theorem final5 : (dats m 0 c).arrAt 5 cfg0.N = resultWeight m c := by
  refine (dats m 0 c).arrAt_eq_of_covers 5 _ (by decide +kernel) fun t ht y => ?_
  obtain ⟨e0, e1⟩ := index5 t
  have hN : cfg0.N = 17 := N_0
  have hlast : t.val = 16 := (by decide +kernel : ∀ t : Fin grid0.N, win0_5.flush t = true → t.val = 16) t ht
  have hw : (outsAt0 m c t.val t.isLt).2.1 = Pipeline.accAt (reset m c) (step m c) 0 t.val (by omega) :=
    (by simp only [Nat.zero_add] : _ = (outsAt0 m c (0 + t.val) (by omega)).2.1).trans (outs_weight m c t.val (by omega))
  refine (congrFun ((after0_5 m c t).trans hw) _).trans ((total_at m c t.val (by omega) _ _).trans (Product.at_eq (resultWeight m c) _ _ fun
    | ⟨0, _⟩ => ?_
    | ⟨1, _⟩ => ?_))
  · show (y 0).val = win0_5.index t 0 * 1 + 1 * (y 0).val; omega
  · show (y 1).val = win0_5.index t 1 * 512 + 1 * (y 1).val; omega

theorem agree_array : Cert.RefNormBwdIdeal.Read.val_main_v35 (F := Ideal) (array m c) (weight m c) (cotangent m c) = (dats m 0 c).arrAt 4 cfg0.N := by
  rw [final4]
  funext j
  idx_vars j
  exact reference_array_at _ _ _ _ _

theorem agree_weight : Cert.RefNormBwdIdeal.Read.val_main_v36 (F := Ideal) (array m c) (cotangent m c) = (dats m 0 c).arrAt 5 cfg0.N := by
  rw [final5]
  funext i
  obtain ⟨z, rfl⟩ : ∃ z : Fin 512, i = ix2 0 z := ⟨i 1, funext fun | ⟨0, _⟩ => Subsingleton.elim (α := Fin 1) _ _ | ⟨1, _⟩ => rfl⟩
  exact reference_weight_at (array m c) (cotangent m c) z

end Cert.NormBwdIdeal.Block

end
-- ==== Proof.Products.lean ====
/-
  The products and the norms: each program leaves in its result what its reference leaves in its own, whatever the argument arrays
  hold.
-/
module

public import proofs.«01_k».proof.Defs
public import proofs.«01_k».proof.Proof.InFwd
public import proofs.«01_k».proof.Proof.Gen.RefInFwdIdeal.Run
public import proofs.«01_k».proof.Proof.UpFwd
public import proofs.«01_k».proof.Proof.Gen.RefUpFwdIdeal.Run
public import proofs.«01_k».proof.Proof.BranchFwd
public import proofs.«01_k».proof.Proof.Gen.RefBranchFwdIdeal.Run
public import proofs.«01_k».proof.Proof.OutFwd
public import proofs.«01_k».proof.Proof.Gen.RefOutFwdIdeal.Run
public import proofs.«01_k».proof.Proof.InWgrad
public import proofs.«01_k».proof.Proof.Gen.RefInWgradIdeal.Run
public import proofs.«01_k».proof.Proof.InDgrad
public import proofs.«01_k».proof.Proof.Gen.RefInDgradIdeal.Run
public import proofs.«01_k».proof.Proof.UpWgrad
public import proofs.«01_k».proof.Proof.Gen.RefUpWgradIdeal.Run
public import proofs.«01_k».proof.Proof.UpDgrad
public import proofs.«01_k».proof.Proof.Gen.RefUpDgradIdeal.Run
public import proofs.«01_k».proof.Proof.DownWgrad
public import proofs.«01_k».proof.Proof.Gen.RefDownWgradIdeal.Run
public import proofs.«01_k».proof.Proof.DownDgrad
public import proofs.«01_k».proof.Proof.Gen.RefDownDgradIdeal.Run
public import proofs.«01_k».proof.Proof.DownFwd
public import proofs.«01_k».proof.Proof.Gen.RefDownFwdIdeal.Run
public import proofs.«01_k».proof.Proof.BranchWgrad
public import proofs.«01_k».proof.Proof.Gen.RefBranchWgradIdeal.Run
public import proofs.«01_k».proof.Proof.BranchDgrad
public import proofs.«01_k».proof.Proof.Gen.RefBranchDgradIdeal.Run
public import proofs.«01_k».proof.Proof.OutWgrad
public import proofs.«01_k».proof.Proof.Gen.RefOutWgradIdeal.Run
public import proofs.«01_k».proof.Proof.OutDgrad
public import proofs.«01_k».proof.Proof.Gen.RefOutDgradIdeal.Run
public import proofs.«01_k».proof.Proof.GateDgrad
public import proofs.«01_k».proof.Proof.GateWgrad
public import proofs.«01_k».proof.Proof.Gen.RefGateDgradIdeal.Run
public import proofs.«01_k».proof.Proof.Gen.RefGateWgradIdeal.Run
public import proofs.«01_k».proof.Proof.Gen.RefGateFwdIdeal.Run
public import proofs.«01_k».proof.Proof.NormFwd
public import proofs.«01_k».proof.Proof.Gen.RefNormFwdIdeal.Run
public import proofs.«01_k».proof.Proof.ModFwd
public import proofs.«01_k».proof.Proof.Gen.RefModFwdIdeal.Run
public import proofs.«01_k».proof.Proof.NormBwd
public import proofs.«01_k».proof.Proof.Gen.RefNormBwdIdeal.Run
public import Idealize.ShloMosaic.Lib.Tactic.ValueTie
public import Idealize.ShloMosaic.Adequacy
public import Idealize.ShloMosaic.Init

@[expose] public section

noncomputable section

namespace Cert.Products

open Idealize.ShloMosaic Idealize.SL.Sem

theorem value_InFwd : algebraic_InFwdIdeal_RefInFwdIdeal := by
  intro m ρ m' ρ' _ hagree
  refine ⟨_, _, Cert.InFwdIdeal.Block.run m ρ, ?_⟩
  refine (θ_run Cert.RefInFwdIdeal.defs _ _).mono (fun _ h c => ⟨?_, ?_, (h c).2.2⟩) (Cert.RefInFwdIdeal.Value.run (F := Ideal) m' ρ')
  · rw [(h c).1, Cert.RefInFwdIdeal.Read.val_main_v0_eq, (hagree c).1, (hagree c).2]
    exact Cert.InFwdIdeal.Block.agree m c
  · rw [(h c).2.1, Cert.RefInFwdIdeal.Read.val_main_v1_eq, (hagree c).1]
    exact Cert.InFwdIdeal.Block.agree_cast m c

theorem value_UpFwd : algebraic_UpFwdIdeal_RefUpFwdIdeal := by
  intro m ρ m' ρ' _ hagree
  refine ⟨_, _, Cert.UpFwdIdeal.Block.run m ρ, ?_⟩
  refine (θ_run Cert.RefUpFwdIdeal.defs _ _).mono (fun _ h c => ⟨?_, ?_, (h c).2.2⟩) (Cert.RefUpFwdIdeal.Value.run (F := Ideal) m' ρ')
  · rw [(h c).1, Cert.RefUpFwdIdeal.Read.val_main_v0_eq, (hagree c).1, (hagree c).2]
    exact Cert.UpFwdIdeal.Block.agree m c
  · rw [(h c).2.1, Cert.RefUpFwdIdeal.Read.val_main_v1_eq, (hagree c).1]
    exact Cert.UpFwdIdeal.Block.agree_cast m c

theorem value_BranchFwd : algebraic_BranchFwdIdeal_RefBranchFwdIdeal := by
  intro m ρ m' ρ' _ hagree
  refine ⟨_, _, Cert.BranchFwdIdeal.Block.run m ρ, ?_⟩
  refine (θ_run Cert.RefBranchFwdIdeal.defs _ _).mono (fun _ h c => ⟨?_, ?_, (h c).2.2⟩) (Cert.RefBranchFwdIdeal.Value.run (F := Ideal) m' ρ')
  · rw [(h c).1, Cert.RefBranchFwdIdeal.Read.val_main_v0_eq, (hagree c).1, (hagree c).2]
    exact Cert.BranchFwdIdeal.Block.agree m c
  · rw [(h c).2.1, Cert.RefBranchFwdIdeal.Read.val_main_v1_eq, (hagree c).1]
    exact Cert.BranchFwdIdeal.Block.agree_cast m c

theorem value_OutFwd : algebraic_OutFwdIdeal_RefOutFwdIdeal := by
  intro m ρ m' ρ' _ hagree
  refine ⟨_, _, Cert.OutFwdIdeal.Block.run m ρ, ?_⟩
  refine (θ_run Cert.RefOutFwdIdeal.defs _ _).mono (fun _ h c => ⟨?_, ?_, (h c).2.2⟩) (Cert.RefOutFwdIdeal.Value.run (F := Ideal) m' ρ')
  · rw [(h c).1, Cert.RefOutFwdIdeal.Read.val_main_v0_eq, (hagree c).1, (hagree c).2]
    exact Cert.OutFwdIdeal.Block.agree m c
  · rw [(h c).2.1, Cert.RefOutFwdIdeal.Read.val_main_v1_eq, (hagree c).1]
    exact Cert.OutFwdIdeal.Block.agree_cast m c

theorem value_InWgrad : algebraic_InWgradIdeal_RefInWgradIdeal := by
  intro m ρ m' ρ' _ hagree
  refine ⟨_, Cert.InWgradIdeal.Value.run (F := Ideal) m ρ, ?_⟩
  refine (θ_run Cert.RefInWgradIdeal.defs _ _).mono (fun _ h c => ⟨?_, (h c).2⟩) (Cert.RefInWgradIdeal.Value.run (F := Ideal) m' ρ')
  rw [(h c).1, Cert.RefInWgradIdeal.Read.val_main_v2_eq, (hagree c).1, (hagree c).2.2]
  exact Cert.InWgradIdeal.Block.agree m c

theorem value_InDgrad : algebraic_InDgradIdeal_RefInDgradIdeal := by
  intro m ρ m' ρ' _ hagree
  refine ⟨_, Cert.InDgradIdeal.Value.run (F := Ideal) m ρ, ?_⟩
  refine (θ_run Cert.RefInDgradIdeal.defs _ _).mono (fun _ h c => ⟨?_, (h c).2⟩) (Cert.RefInDgradIdeal.Value.run (F := Ideal) m' ρ')
  rw [(h c).1, Cert.RefInDgradIdeal.Read.val_main_v3_eq, (hagree c).2.1, (hagree c).2.2]
  exact Cert.InDgradIdeal.Block.agree m c

theorem value_UpWgrad : algebraic_UpWgradIdeal_RefUpWgradIdeal := by
  intro m ρ m' ρ' _ hagree
  refine ⟨_, Cert.UpWgradIdeal.Value.run (F := Ideal) m ρ, ?_⟩
  refine (θ_run Cert.RefUpWgradIdeal.defs _ _).mono (fun _ h c => ⟨?_, (h c).2⟩) (Cert.RefUpWgradIdeal.Value.run (F := Ideal) m' ρ')
  rw [(h c).1, Cert.RefUpWgradIdeal.Read.val_main_v2_eq, (hagree c).1, (hagree c).2.2]
  exact Cert.UpWgradIdeal.Block.agree m c

theorem value_UpDgrad : algebraic_UpDgradIdeal_RefUpDgradIdeal := by
  intro m ρ m' ρ' _ hagree
  refine ⟨_, Cert.UpDgradIdeal.Value.run (F := Ideal) m ρ, ?_⟩
  refine (θ_run Cert.RefUpDgradIdeal.defs _ _).mono (fun _ h c => ⟨?_, (h c).2⟩) (Cert.RefUpDgradIdeal.Value.run (F := Ideal) m' ρ')
  rw [(h c).1, Cert.RefUpDgradIdeal.Read.val_main_v3_eq, (hagree c).2.1, (hagree c).2.2]
  exact Cert.UpDgradIdeal.Block.agree m c

theorem value_DownWgrad : algebraic_DownWgradIdeal_RefDownWgradIdeal := by
  intro m ρ m' ρ' _ hagree
  refine ⟨_, Cert.DownWgradIdeal.Value.run (F := Ideal) m ρ, ?_⟩
  refine (θ_run Cert.RefDownWgradIdeal.defs _ _).mono (fun _ h c => ⟨?_, (h c).2⟩) (Cert.RefDownWgradIdeal.Value.run (F := Ideal) m' ρ')
  rw [(h c).1, Cert.RefDownWgradIdeal.Read.val_main_v2_eq, (hagree c).1, (hagree c).2.2]
  exact Cert.DownWgradIdeal.Block.agree m c

theorem value_DownDgrad : algebraic_DownDgradIdeal_RefDownDgradIdeal := by
  intro m ρ m' ρ' _ hagree
  refine ⟨_, Cert.DownDgradIdeal.Value.run (F := Ideal) m ρ, ?_⟩
  refine (θ_run Cert.RefDownDgradIdeal.defs _ _).mono (fun _ h c => ⟨?_, (h c).2⟩) (Cert.RefDownDgradIdeal.Value.run (F := Ideal) m' ρ')
  rw [(h c).1, Cert.RefDownDgradIdeal.Read.val_main_v3_eq, (hagree c).2.1, (hagree c).2.2]
  exact Cert.DownDgradIdeal.Block.agree m c

theorem value_DownFwd : algebraic_DownFwdIdeal_RefDownFwdIdeal := by
  intro m ρ m' ρ' _ hagree
  refine ⟨_, Cert.DownFwdIdeal.Value.run (F := Ideal) m ρ, ?_⟩
  refine (θ_run Cert.RefDownFwdIdeal.defs _ _).mono (fun _ h c => ⟨?_, (h c).2⟩) (Cert.RefDownFwdIdeal.Value.run (F := Ideal) m' ρ')
  rw [(h c).1, Cert.RefDownFwdIdeal.Read.val_main_v0_eq, (hagree c).1, (hagree c).2]
  exact Cert.DownFwdIdeal.Block.agree m c

theorem value_BranchWgrad : algebraic_BranchWgradIdeal_RefBranchWgradIdeal := by
  intro m ρ m' ρ' _ hagree
  refine ⟨_, Cert.BranchWgradIdeal.Value.run (F := Ideal) m ρ, ?_⟩
  refine (θ_run Cert.RefBranchWgradIdeal.defs _ _).mono (fun _ h c => ⟨?_, (h c).2⟩) (Cert.RefBranchWgradIdeal.Value.run (F := Ideal) m' ρ')
  rw [(h c).1, Cert.RefBranchWgradIdeal.Read.val_main_v2_eq, (hagree c).1, (hagree c).2.2]
  exact Cert.BranchWgradIdeal.Block.agree m c

theorem value_BranchDgrad : algebraic_BranchDgradIdeal_RefBranchDgradIdeal := by
  intro m ρ m' ρ' _ hagree
  refine ⟨_, Cert.BranchDgradIdeal.Value.run (F := Ideal) m ρ, ?_⟩
  refine (θ_run Cert.RefBranchDgradIdeal.defs _ _).mono (fun _ h c => ⟨?_, (h c).2⟩) (Cert.RefBranchDgradIdeal.Value.run (F := Ideal) m' ρ')
  rw [(h c).1, Cert.RefBranchDgradIdeal.Read.val_main_v3_eq, (hagree c).2.1, (hagree c).2.2]
  exact Cert.BranchDgradIdeal.Block.agree m c

theorem value_OutWgrad : algebraic_OutWgradIdeal_RefOutWgradIdeal := by
  intro m ρ m' ρ' _ hagree
  refine ⟨_, Cert.OutWgradIdeal.Value.run (F := Ideal) m ρ, ?_⟩
  refine (θ_run Cert.RefOutWgradIdeal.defs _ _).mono (fun _ h c => ⟨?_, (h c).2⟩) (Cert.RefOutWgradIdeal.Value.run (F := Ideal) m' ρ')
  rw [(h c).1, Cert.RefOutWgradIdeal.Read.val_main_v2_eq, (hagree c).1, (hagree c).2.2]
  exact Cert.OutWgradIdeal.Block.agree m c

theorem value_OutDgrad : algebraic_OutDgradIdeal_RefOutDgradIdeal := by
  intro m ρ m' ρ' _ hagree
  refine ⟨_, Cert.OutDgradIdeal.Value.run (F := Ideal) m ρ, ?_⟩
  refine (θ_run Cert.RefOutDgradIdeal.defs _ _).mono (fun _ h c => ⟨?_, (h c).2⟩) (Cert.RefOutDgradIdeal.Value.run (F := Ideal) m' ρ')
  rw [(h c).1, Cert.RefOutDgradIdeal.Read.val_main_v3_eq, (hagree c).2.1, (hagree c).2.2]
  exact Cert.OutDgradIdeal.Block.agree m c

theorem value_GateDgrad : algebraic_GateDgradIdeal_RefGateDgradIdeal := by
  intro m ρ m' ρ' _ hagree
  refine ⟨_, Cert.GateDgradIdeal.Value.run_blocks (F := Ideal) m ρ, ?_⟩
  refine (θ_run Cert.RefGateDgradIdeal.defs _ _).mono (fun _ h c => ⟨?_, (h c).2⟩) (Cert.RefGateDgradIdeal.Value.run (F := Ideal) m' ρ')
  rw [(h c).1, Cert.RefGateDgradIdeal.Read.val_main_v10_eq, (hagree c).2.1, (hagree c).2.2]
  exact Cert.GateDgradIdeal.Block.agree m c

theorem value_GateWgrad : algebraic_GateWgradIdeal_RefGateWgradIdeal := by
  intro m ρ m' ρ' _ hagree
  refine ⟨_, Cert.GateWgradIdeal.Value.run (F := Ideal) m ρ, ?_⟩
  refine (θ_run Cert.RefGateWgradIdeal.defs _ _).mono (fun _ h c => ⟨?_, (h c).2⟩) (Cert.RefGateWgradIdeal.Value.run (F := Ideal) m' ρ')
  rw [(h c).1, Cert.RefGateWgradIdeal.Read.val_main_v9_eq, (hagree c).1, (hagree c).2.2]
  exact Cert.GateWgradIdeal.Block.agree m c

theorem value_GateFwd : algebraic_GateFwdIdeal_RefGateFwdIdeal := by
  intro m ρ m' ρ' _ hagree
  refine ⟨_, Cert.GateFwdIdeal.Value.run_blocks (F := Ideal) m ρ, ?_⟩
  refine (θ_run Cert.RefGateFwdIdeal.defs _ _).mono (fun _ h c => ⟨?_, (h c).2⟩) (Cert.RefGateFwdIdeal.Value.run (F := Ideal) m' ρ')
  rw [(h c).1, Cert.RefGateFwdIdeal.Read.val_main_v3_eq, (hagree c).1, (hagree c).2]
  exact Cert.GateFwdIdeal.Block.agree m c

theorem value_NormFwd : algebraic_NormFwdIdeal_RefNormFwdIdeal := by
  intro m ρ m' ρ' _ hagree
  refine ⟨_, Cert.NormFwdIdeal.Value.run_blocks (F := Ideal) m ρ, ?_⟩
  refine (θ_run Cert.RefNormFwdIdeal.defs _ _).mono (fun _ h c => ⟨?_, (h c).2⟩) (Cert.RefNormFwdIdeal.Value.run (F := Ideal) m' ρ')
  rw [(h c).1, Cert.RefNormFwdIdeal.Read.val_main_v12_eq, (hagree c).1, (hagree c).2]
  exact Cert.NormFwdIdeal.Block.agree m c

theorem value_ModFwd : algebraic_ModFwdIdeal_RefModFwdIdeal := by
  intro m ρ m' ρ' _ hagree
  refine ⟨_, Cert.ModFwdIdeal.Value.run_blocks (F := Ideal) m ρ, ?_⟩
  refine (θ_run Cert.RefModFwdIdeal.defs _ _).mono (fun _ h c => ⟨?_, (h c).2⟩) (Cert.RefModFwdIdeal.Value.run (F := Ideal) m' ρ')
  rw [(h c).1, Cert.RefModFwdIdeal.Read.val_main_v52_eq, (hagree c).1, (hagree c).2.1, (hagree c).2.2.1, (hagree c).2.2.2]
  exact Cert.ModFwdIdeal.Block.agree m c

theorem value_NormBwd : algebraic_NormBwdIdeal_RefNormBwdIdeal := by
  intro m ρ m' ρ' _ hagree
  refine ⟨_, _, (θ_run Cert.NormBwdIdeal.defs _ _).mono (fun _ h c => ⟨(h c).1, (h c).2.1, (h c).2.2.2.2⟩)
    (Cert.NormBwdIdeal.Value.run_blocks (F := Ideal) m ρ), ?_⟩
  refine (θ_run Cert.RefNormBwdIdeal.defs _ _).mono (fun _ h c => ⟨?_, ?_, (h c).2.2⟩) (Cert.RefNormBwdIdeal.Value.run (F := Ideal) m' ρ')
  · rw [(h c).1, Cert.RefNormBwdIdeal.Read.val_main_v35_eq, (hagree c).1, (hagree c).2.1, (hagree c).2.2]
    exact Cert.NormBwdIdeal.Block.agree_array m c
  · rw [(h c).2.1, Cert.RefNormBwdIdeal.Read.val_main_v36_eq, (hagree c).1, (hagree c).2.2]
    exact Cert.NormBwdIdeal.Block.agree_weight m c

end Cert.Products

end
-- ==== Proof.Finite.lean ====
/-
  What the precondition says: an array whose entries all compare below infinity in absolute value is an array of real
  numbers.
-/
module

public import Idealize.ShloMosaic.Lib.Pointwise

@[expose] public section

noncomputable section

namespace Cert.Finite

open Idealize.ShloMosaic

theorem ofBits_top : Ideal.ofBits FTy.f32 0x7F800000#32 = ⊤ := by
  simp [Ideal.ofBits, Ideal.ieee]

/-- A value below infinity in absolute value is a real number. -/
theorem real_of_below (x : Ideal .f32)
    (h : FloatOps.cmpf .olt (FloatOps.hostAbsf x) (FloatOps.ofBits (F := Ideal) .f32 0x7F800000#32) = 1#1) : ∃ r : ℝ, x = (r : EReal) := by
  change Ideal.cmp .olt (max (x : EReal) (-(x : EReal))) (Ideal.ofBits .f32 0x7F800000#32) = 1#1 at h
  rw [ofBits_top] at h
  revert h
  refine EReal.rec ?_ (fun r _ => ⟨r, rfl⟩) ?_ (x : EReal) <;> intro h <;> simp [Ideal.cmp] at h

/-- An array every entry of which is below infinity in absolute value is an array of real numbers. -/
theorem real_array {s z : Shape} (x : FVec Ideal s .f32) (d : Fin z.rank → Fin s.rank) (hb : z.BroadcastsInDim s d)
    (h : cmpf .olt (Host.absf x) (broadcastInDim s d hb (constant (F := Ideal) z .f32 0x7F800000#32)) = fun _ => 1#1) :
    ∃ y : s.Idx → ℝ, x = fun i => (y i : EReal) := by
  have hx := fun i => real_of_below (x i) (congrFun h i)
  choose y hy using hx
  exact ⟨y, funext hy⟩

end Cert.Finite

end
-- ==== Proof.DqBlock.lean ====
/-
  The query-gradient kernel, block by block: what its body leaves in the output block and in the two scratch
  buffers it carries along a head, as the payloads of its stores, and the whole result as a function of the
  argument arrays.
-/
module

public import proofs.«01_k».proof.Proof.Gen.AttnDqIdeal.Value
public import Idealize.ShloMosaic.Lib.Tactic
public import Idealize.ShloMosaic.Lib.Pointwise

@[expose] public section

noncomputable section

namespace Cert.AttnDqIdeal.Block

open Cert.AttnDqIdeal Cert.AttnDqIdeal.Gen Cert.AttnDqIdeal.Value Idealize.ShloMosaic Idealize.ShloMosaic.TcCoe Idealize.SL.Sem

variable {F : FTy → Type} [FloatOps F]
variable (m : (ℓ : Loc nD τ sig) → Buf (Elt F) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The block of query gradients from the query block, the head's keys and values, and the rows' cotangent,
    logarithm of the normaliser and correction. -/
abbrev grad (q : Vec F S1x256x192 .f32) (k : Vec F S4352x192 .bf16) (v : Vec F S4352x128 .bf16) (g : Vec F S1x256x128 .f32)
    (lse dl : Vec F S1x256x1 .f32) : Vec F S1x256x192 .f32 := k0_pay1 (k0_pay4 k q lse g v dl)

/-- At a head's first block the body stores the head's keys, … -/
theorem keys_first (c : Dev nD) (i : grid0.Coords) (a2 : Memref sig .tc .vmem S1x256x192 .f32) (h2 : a2.IsWhole) (a3 : Memref sig .tc .vmem S1x4352x192 .f32) (h3 : a3.IsWhole) (a4 : Memref sig .tc .vmem S1x4352x128 .f32) (h4 : a4.IsWhole) (a5 : Memref sig .tc .vmem S1x256x128 .f32) (h5 : a5.IsWhole) (a6 : Memref sig .tc .vmem S1x256x1 .f32) (h6 : a6.IsWhole) (a7 : Memref sig .tc .vmem S1x256x1 .f32) (h7 : a7.IsWhole) (a8 : Memref sig .tc .vmem S1x256x192 .f32) (h8 : a8.IsWhole) (a9 : Memref sig .tc .vmem S4352x192 .bf16) (h9 : a9.IsWhole) (a10 : Memref sig .tc .vmem S4352x128 .bf16) (h10 : a10.IsWhole) (hc : cond0_0 i)
    (x0 : Vec F S1x256x192 .f32) (x1 : Vec F S1x4352x192 .f32) (x2 : Vec F S1x4352x128 .f32) (x3 : Vec F S1x256x128 .f32) (x4 : Vec F S1x256x1 .f32) (x5 : Vec F S1x256x1 .f32) : sout0_A_0 c i a2 h2 a3 h3 a4 h4 a5 h5 a6 h6 a7 h7 a8 h8 a9 h9 a10 h10 hc x0 x1 x2 x3 x4 x5 = k0_pay2 x1 := by
  unfold sout0_A_0
  rw [View.read_writes_eq_canon _ _ _ (scover0_A_0 c i a2 h2 a3 h3 a4 h4 a5 h5 a6 h6 a7 h7 a8 h8 a9 h9 a10 h10 hc x0 x1 x2 x3 x4 x5)]
  unfold kernelRun0_A
  dsimp only
  sl_unfold_words
  rw [View.canon_unit_zero zero2]
  simp only [View.readAt_eq_ld, h3.read_unread, View.ld_unit_zero (S := S1x4352x192) zero3]

/-- … its values, … -/
theorem values_first (c : Dev nD) (i : grid0.Coords) (a2 : Memref sig .tc .vmem S1x256x192 .f32) (h2 : a2.IsWhole) (a3 : Memref sig .tc .vmem S1x4352x192 .f32) (h3 : a3.IsWhole) (a4 : Memref sig .tc .vmem S1x4352x128 .f32) (h4 : a4.IsWhole) (a5 : Memref sig .tc .vmem S1x256x128 .f32) (h5 : a5.IsWhole) (a6 : Memref sig .tc .vmem S1x256x1 .f32) (h6 : a6.IsWhole) (a7 : Memref sig .tc .vmem S1x256x1 .f32) (h7 : a7.IsWhole) (a8 : Memref sig .tc .vmem S1x256x192 .f32) (h8 : a8.IsWhole) (a9 : Memref sig .tc .vmem S4352x192 .bf16) (h9 : a9.IsWhole) (a10 : Memref sig .tc .vmem S4352x128 .bf16) (h10 : a10.IsWhole) (hc : cond0_0 i)
    (x0 : Vec F S1x256x192 .f32) (x1 : Vec F S1x4352x192 .f32) (x2 : Vec F S1x4352x128 .f32) (x3 : Vec F S1x256x128 .f32) (x4 : Vec F S1x256x1 .f32) (x5 : Vec F S1x256x1 .f32) : sout0_A_1 c i a2 h2 a3 h3 a4 h4 a5 h5 a6 h6 a7 h7 a8 h8 a9 h9 a10 h10 hc x0 x1 x2 x3 x4 x5 = k0_pay3 x2 := by
  unfold sout0_A_1
  rw [View.read_writes_eq_canon _ _ _ (scover0_A_1 c i a2 h2 a3 h3 a4 h4 a5 h5 a6 h6 a7 h7 a8 h8 a9 h9 a10 h10 hc x0 x1 x2 x3 x4 x5)]
  unfold kernelRun0_A
  dsimp only
  sl_unfold_words
  rw [View.canon_unit_zero zero2]
  simp only [View.readAt_eq_ld, h4.read_unread, View.ld_unit_zero (S := S1x4352x128) zero3]

/-- … and the gradient block computed from what it has just stored. -/
theorem grad_first (c : Dev nD) (i : grid0.Coords) (a2 : Memref sig .tc .vmem S1x256x192 .f32) (h2 : a2.IsWhole) (a3 : Memref sig .tc .vmem S1x4352x192 .f32) (h3 : a3.IsWhole) (a4 : Memref sig .tc .vmem S1x4352x128 .f32) (h4 : a4.IsWhole) (a5 : Memref sig .tc .vmem S1x256x128 .f32) (h5 : a5.IsWhole) (a6 : Memref sig .tc .vmem S1x256x1 .f32) (h6 : a6.IsWhole) (a7 : Memref sig .tc .vmem S1x256x1 .f32) (h7 : a7.IsWhole) (a8 : Memref sig .tc .vmem S1x256x192 .f32) (h8 : a8.IsWhole) (a9 : Memref sig .tc .vmem S4352x192 .bf16) (h9 : a9.IsWhole) (a10 : Memref sig .tc .vmem S4352x128 .bf16) (h10 : a10.IsWhole) (hc : cond0_0 i)
    (x0 : Vec F S1x256x192 .f32) (x1 : Vec F S1x4352x192 .f32) (x2 : Vec F S1x4352x128 .f32) (x3 : Vec F S1x256x128 .f32) (x4 : Vec F S1x256x1 .f32) (x5 : Vec F S1x256x1 .f32) : out0_A_6 c i a2 h2 a3 h3 a4 h4 a5 h5 a6 h6 a7 h7 a8 h8 a9 h9 a10 h10 hc x0 x1 x2 x3 x4 x5 = grad x0 (k0_pay2 x1) (k0_pay3 x2) x3 x4 x5 := by
  unfold out0_A_6
  rw [View.read_writes_eq_canon _ _ _ (cover0_A_6 c i a2 h2 a3 h3 a4 h4 a5 h5 a6 h6 a7 h7 a8 h8 a9 h9 a10 h10 hc x0 x1 x2 x3 x4 x5)]
  unfold kernelRun0_A
  dsimp only
  sl_unfold_words
  rw [View.canon_unit_zero zero3]
  simp only [View.readAt_eq_ld, View.readCov_unit_zero (S := S4352x192) _ zero2, View.readCov_unit_zero (S := S4352x128) _ zero2, h2.read_unread, h3.read_unread, h4.read_unread, h5.read_unread, h6.read_unread, h7.read_unread,
    View.ld_unit_zero (S := S1x256x192) zero3, View.ld_unit_zero (S := S1x4352x192) zero3, View.ld_unit_zero (S := S1x4352x128) zero3,
    View.ld_unit_zero (S := S1x256x128) zero3, View.ld_unit_zero (S := S1x256x1) zero3]

/-- At a later block of the head the body reads the scratch. -/
theorem grad_later (c : Dev nD) (i : grid0.Coords) (a2 : Memref sig .tc .vmem S1x256x192 .f32) (h2 : a2.IsWhole) (a3 : Memref sig .tc .vmem S1x4352x192 .f32) (h3 : a3.IsWhole) (a4 : Memref sig .tc .vmem S1x4352x128 .f32) (h4 : a4.IsWhole) (a5 : Memref sig .tc .vmem S1x256x128 .f32) (h5 : a5.IsWhole) (a6 : Memref sig .tc .vmem S1x256x1 .f32) (h6 : a6.IsWhole) (a7 : Memref sig .tc .vmem S1x256x1 .f32) (h7 : a7.IsWhole) (a8 : Memref sig .tc .vmem S1x256x192 .f32) (h8 : a8.IsWhole) (a9 : Memref sig .tc .vmem S4352x192 .bf16) (h9 : a9.IsWhole) (a10 : Memref sig .tc .vmem S4352x128 .bf16) (h10 : a10.IsWhole) (hc : ¬cond0_0 i)
    (x0 : Vec F S1x256x192 .f32) (x1 : Vec F S1x4352x192 .f32) (x2 : Vec F S1x4352x128 .f32) (x3 : Vec F S1x256x128 .f32) (x4 : Vec F S1x256x1 .f32) (x5 : Vec F S1x256x1 .f32) (xs0 : Vec F S4352x192 .bf16) (xs1 : Vec F S4352x128 .bf16) : out0_B_6 c i a2 h2 a3 h3 a4 h4 a5 h5 a6 h6 a7 h7 a8 h8 a9 h9 a10 h10 hc x0 x1 x2 x3 x4 x5 xs0 xs1 = grad x0 xs0 xs1 x3 x4 x5 := by
  unfold out0_B_6
  rw [View.read_writes_eq_canon _ _ _ (cover0_B_6 c i a2 h2 a3 h3 a4 h4 a5 h5 a6 h6 a7 h7 a8 h8 a9 h9 a10 h10 hc x0 x1 x2 x3 x4 x5 xs0 xs1)]
  unfold kernelRun0_B
  dsimp only
  sl_unfold_words
  rw [View.canon_unit_zero zero3]
  simp only [View.readAt_eq_ld, h2.read_unread, h5.read_unread, h6.read_unread, h7.read_unread, h9.read_unread, h10.read_unread,
    View.ld_unit_zero (S := S1x256x192) zero3, View.ld_unit_zero (S := S4352x192) zero2, View.ld_unit_zero (S := S4352x128) zero2,
    View.ld_unit_zero (S := S1x256x128) zero3, View.ld_unit_zero (S := S1x256x1) zero3]

/-! ## The blocks the points read -/

/-- A point's head, and the array row of a row of its query block. -/
def head (t : Fin cfg0.N) : Fin 8 := ⟨t.val / 16, by have := lt_of_lt_of_eq t.isLt (show cfg0.N = 128 from N_0); omega⟩
def row (t : Fin cfg0.N) (r : Fin 256) : Fin 4096 := ⟨256 * (t.val % 16) + r.val, by have := r.isLt; omega⟩

theorem at_block0 : ∀ t : Fin grid0.N, win0_0.index t 0 = t.val / 16 ∧ win0_0.index t 1 = t.val % 16 ∧ win0_0.index t 2 = 0 := by decide +kernel
theorem at_block1 : ∀ t : Fin grid0.N, win0_1.index t 0 = t.val / 16 ∧ win0_1.index t 1 = 0 ∧ win0_1.index t 2 = 0 := by decide +kernel
theorem at_block2 : ∀ t : Fin grid0.N, win0_2.index t 0 = t.val / 16 ∧ win0_2.index t 1 = 0 ∧ win0_2.index t 2 = 0 := by decide +kernel
theorem at_block3 : ∀ t : Fin grid0.N, win0_3.index t 0 = t.val / 16 ∧ win0_3.index t 1 = t.val % 16 ∧ win0_3.index t 2 = 0 := by decide +kernel
theorem at_block4 : ∀ t : Fin grid0.N, win0_4.index t 0 = t.val / 16 ∧ win0_4.index t 1 = t.val % 16 ∧ win0_4.index t 2 = 0 := by decide +kernel
theorem at_block5 : ∀ t : Fin grid0.N, win0_5.index t 0 = t.val / 16 ∧ win0_5.index t 1 = t.val % 16 ∧ win0_5.index t 2 = 0 := by decide +kernel

theorem queries (c : Dev nD) (t : Fin cfg0.N) (r : Fin 256) (d : Fin 192) :
    (iblk m c 0 t : Vec F S1x256x192 .f32) (ix3 0 r d) = m ((c : Thread nD τ).loc main_arg0) (ix3 (head t) (row t r) d) := by
  obtain ⟨e0, e1, e2⟩ := at_block0 t
  unfold iblk; rw [View.read_apply]
  show V m c main_arg0 _ = _
  rw [V_main_arg0]
  congr 1; funext a; apply Fin.ext
  match a with
  | ⟨0, _⟩ => show win0_0.index t 0 * 1 + 1 * 0 = t.val / 16; omega
  | ⟨1, _⟩ => show win0_0.index t 1 * 256 + 1 * r.val = 256 * (t.val % 16) + r.val; omega
  | ⟨2, _⟩ => show win0_0.index t 2 * 192 + 1 * d.val = d.val; omega

theorem keys (c : Dev nD) (t : Fin cfg0.N) (r : Fin 4352) (d : Fin 192) :
    (iblk m c 1 t : Vec F S1x4352x192 .f32) (ix3 0 r d) = m ((c : Thread nD τ).loc main_arg1) (ix3 (head t) r d) := by
  obtain ⟨e0, e1, e2⟩ := at_block1 t
  unfold iblk; rw [View.read_apply]
  show V m c main_arg1 _ = _
  rw [V_main_arg1]
  congr 1; funext a; apply Fin.ext
  match a with
  | ⟨0, _⟩ => show win0_1.index t 0 * 1 + 1 * 0 = t.val / 16; omega
  | ⟨1, _⟩ => show win0_1.index t 1 * 4352 + 1 * r.val = r.val; omega
  | ⟨2, _⟩ => show win0_1.index t 2 * 192 + 1 * d.val = d.val; omega

theorem values (c : Dev nD) (t : Fin cfg0.N) (r : Fin 4352) (d : Fin 128) :
    (iblk m c 2 t : Vec F S1x4352x128 .f32) (ix3 0 r d) = m ((c : Thread nD τ).loc main_arg2) (ix3 (head t) r d) := by
  obtain ⟨e0, e1, e2⟩ := at_block2 t
  unfold iblk; rw [View.read_apply]
  show V m c main_arg2 _ = _
  rw [V_main_arg2]
  congr 1; funext a; apply Fin.ext
  match a with
  | ⟨0, _⟩ => show win0_2.index t 0 * 1 + 1 * 0 = t.val / 16; omega
  | ⟨1, _⟩ => show win0_2.index t 1 * 4352 + 1 * r.val = r.val; omega
  | ⟨2, _⟩ => show win0_2.index t 2 * 128 + 1 * d.val = d.val; omega

theorem cotangents (c : Dev nD) (t : Fin cfg0.N) (r : Fin 256) (d : Fin 128) :
    (iblk m c 3 t : Vec F S1x256x128 .f32) (ix3 0 r d) = m ((c : Thread nD τ).loc main_arg3) (ix3 (head t) (row t r) d) := by
  obtain ⟨e0, e1, e2⟩ := at_block3 t
  unfold iblk; rw [View.read_apply]
  show V m c main_arg3 _ = _
  rw [V_main_arg3]
  congr 1; funext a; apply Fin.ext
  match a with
  | ⟨0, _⟩ => show win0_3.index t 0 * 1 + 1 * 0 = t.val / 16; omega
  | ⟨1, _⟩ => show win0_3.index t 1 * 256 + 1 * r.val = 256 * (t.val % 16) + r.val; omega
  | ⟨2, _⟩ => show win0_3.index t 2 * 128 + 1 * d.val = d.val; omega

/-- The two arrays the host prepares: the rows' logarithms of the normaliser and their corrections. -/
abbrev lseArr (c : Dev nD) : Vec F S8x4096x1 .f32 := V m c (Pipeline.arrRef spec0 4)
abbrev corrArr (c : Dev nD) : Vec F S8x4096x1 .f32 := V m c (Pipeline.arrRef spec0 5)

theorem lses (c : Dev nD) (t : Fin cfg0.N) (r : Fin 256) :
    (iblk m c 4 t : Vec F S1x256x1 .f32) (ix3 0 r 0) = lseArr m c (ix3 (head t) (row t r) 0) := by
  obtain ⟨e0, e1, e2⟩ := at_block4 t
  unfold iblk; rw [View.read_apply]
  show lseArr m c _ = _
  congr 1; funext a; apply Fin.ext
  match a with
  | ⟨0, _⟩ => show win0_4.index t 0 * 1 + 1 * 0 = t.val / 16; omega
  | ⟨1, _⟩ => show win0_4.index t 1 * 256 + 1 * r.val = 256 * (t.val % 16) + r.val; omega
  | ⟨2, _⟩ => show win0_4.index t 2 * 1 + 1 * 0 = 0; omega

theorem corrs (c : Dev nD) (t : Fin cfg0.N) (r : Fin 256) :
    (iblk m c 5 t : Vec F S1x256x1 .f32) (ix3 0 r 0) = corrArr m c (ix3 (head t) (row t r) 0) := by
  obtain ⟨e0, e1, e2⟩ := at_block5 t
  unfold iblk; rw [View.read_apply]
  show corrArr m c _ = _
  congr 1; funext a; apply Fin.ext
  match a with
  | ⟨0, _⟩ => show win0_5.index t 0 * 1 + 1 * 0 = t.val / 16; omega
  | ⟨1, _⟩ => show win0_5.index t 1 * 256 + 1 * r.val = 256 * (t.val % 16) + r.val; omega
  | ⟨2, _⟩ => show win0_5.index t 2 * 1 + 1 * 0 = 0; omega

/-- The points of one head read the same keys and values. -/
theorem keys_same (c : Dev nD) (t t' : Fin cfg0.N) (h : t.val / 16 = t'.val / 16) :
    (iblk m c 1 t : Vec F S1x4352x192 .f32) = iblk m c 1 t' := by
  have hh : head t = head t' := Fin.ext h
  funext j
  idx_vars j
  obtain rfl : j0 = (0 : Fin 1) := Subsingleton.elim _ _
  rw [keys, keys, hh]

theorem values_same (c : Dev nD) (t t' : Fin cfg0.N) (h : t.val / 16 = t'.val / 16) :
    (iblk m c 2 t : Vec F S1x4352x128 .f32) = iblk m c 2 t' := by
  have hh : head t = head t' := Fin.ext h
  funext j
  idx_vars j
  obtain rfl : j0 = (0 : Fin 1) := Subsingleton.elim _ _
  rw [values, values, hh]

/-- What the body leaves after point `n`: the gradient block of that point, and the head's keys and values. -/
theorem outs (c : Dev nD) : ∀ (n : ℕ) (hn : n < cfg0.N), outsAt0 m c n hn =
    (grad (iblk m c 0 ⟨n, hn⟩) (k0_pay2 (iblk m c 1 ⟨n, hn⟩)) (k0_pay3 (iblk m c 2 ⟨n, hn⟩)) (iblk m c 3 ⟨n, hn⟩) (iblk m c 4 ⟨n, hn⟩) (iblk m c 5 ⟨n, hn⟩),
      k0_pay2 (iblk m c 1 ⟨n, hn⟩), k0_pay3 (iblk m c 2 ⟨n, hn⟩)) := by
  intro n
  induction n with
  | zero =>
    intro hn
    rw [outsAt0_A m c ⟨0, hn⟩ rfl, grad_first, keys_first, values_first]
  | succ n ih =>
    intro hn
    by_cases h0 : (n + 1) % 16 = 0
    · rw [outsAt0_A m c ⟨n + 1, hn⟩ h0, grad_first, keys_first, values_first]
    · have ek : (iblk m c 1 ⟨n, Nat.lt_of_succ_lt hn⟩ : Vec F S1x4352x192 .f32) = iblk m c 1 ⟨n + 1, hn⟩ := keys_same m c _ _ (by show n / 16 = (n + 1) / 16; omega)
      have ev : (iblk m c 2 ⟨n, Nat.lt_of_succ_lt hn⟩ : Vec F S1x4352x128 .f32) = iblk m c 2 ⟨n + 1, hn⟩ := values_same m c _ _ (by show n / 16 = (n + 1) / 16; omega)
      rw [outsAt0_B m c ⟨n + 1, hn⟩ h0, grad_later]
      unfold sout0_B_0 sout0_B_1
      have e := ih (Nat.lt_of_succ_lt hn)
      show (grad _ (outsAt0 m c n _).2.1 (outsAt0 m c n _).2.2 _ _ _, (outsAt0 m c n _).2.1, (outsAt0 m c n _).2.2) = _
      rw [e, ek, ev]

/-! ## The result array -/

/-- The result array at an entry, from the arrays the kernel is given. -/
theorem result_at (m : (ℓ : Loc nD τ sig) → Buf (Elt Ideal) ℓ) (c : Dev nD) (h : Fin 8) (r : Fin 4096) (d : Fin 192)
    (q : Vec Ideal S8x4096x192 .f32) (k : Vec Ideal S8x4352x192 .f32) (v : Vec Ideal S8x4352x128 .f32) (g : Vec Ideal S8x4096x128 .f32)
    (lse dl : Vec Ideal S8x4096x1 .f32)
    (hq : m ((c : Thread nD τ).loc main_arg0) = q) (hk : m ((c : Thread nD τ).loc main_arg1) = k) (hv : m ((c : Thread nD τ).loc main_arg2) = v) (hg : m ((c : Thread nD τ).loc main_arg3) = g)
    (hlse : lseArr m c = lse) (hdl : corrArr m c = dl) :
    (G6 m c : Vec Ideal S8x4096x192 .f32) (ix3 h r d) =
      (∑ x : Fin 4352, Ideal.exp ((∑ y : Fin 192, q (ix3 h r y) * k (ix3 h x y)) * Ideal.ofBits FTy.f32 1033096506#32 - lse (ix3 h r 0))
          * ((∑ y : Fin 128, g (ix3 h r y) * v (ix3 h x y)) - dl (ix3 h r 0)) * k (ix3 h x d)) * Ideal.ofBits FTy.f32 1033096506#32 := by
  subst hq hk hv hg hlse hdl
  have hr := r.isLt
  have hh := h.isLt
  have hd := d.isLt
  have ept : pt6Of (ix3 h r d : S8x4096x192.Idx) = 16 * h.val + r.val / 256 := by
    show 16 * (h.val / 1 - 0) + 1 * (r.val / 256 - 0) + 1 * (d.val / 192 - 0) = _
    omega
  have hlt : pt6Of (ix3 h r d : S8x4096x192.Idx) < cfg0.N := by rw [ept, show cfg0.N = 128 from N_0]; omega
  have eloc : loc6Of (ix3 h r d : S8x4096x192.Idx) = ix3 0 ⟨r.val % 256, Nat.mod_lt _ (by decide)⟩ d := by
    funext a; apply Fin.ext
    match a with
    | ⟨0, _⟩ => show h.val % 1 = 0; omega
    | ⟨1, _⟩ => rfl
    | ⟨2, _⟩ => show d.val % 192 = d.val; omega
  have ehead : head ⟨pt6Of (ix3 h r d : S8x4096x192.Idx), hlt⟩ = h := Fin.ext (by show pt6Of (ix3 h r d : S8x4096x192.Idx) / 16 = _; rw [ept]; omega)
  have erow : row ⟨pt6Of (ix3 h r d : S8x4096x192.Idx), hlt⟩ ⟨r.val % 256, Nat.mod_lt _ (by decide)⟩ = r :=
    Fin.ext (by show 256 * (pt6Of (ix3 h r d : S8x4096x192.Idx) % 16) + r.val % 256 = _; rw [ept]; omega)
  unfold G6
  rw [dif_pos hlt, ← outsAt0_sweep m c _ hlt, outs, eloc]
  show grad _ _ _ _ _ _ (ix3 0 ⟨r.val % 256, Nat.mod_lt _ (by decide)⟩ d) = _
  pointwise [grad, k0_pay1, k0_pay4, k0_pay2, k0_pay3]
  simp only [queries, keys, values, cotangents, lses, corrs, ehead, erow]

end Cert.AttnDqIdeal.Block

end
-- ==== Proof.Softmax.lean ====
/-
  Attention over the real numbers: the scores, the normalised weights, the output, and the three gradients, with the
  extended-real facts that bring the programs' expressions at finite arguments to these.
-/
module

public import Idealize.ShloMosaic.Lib.Tactic
public import Idealize.ShloMosaic.Lib.Pointwise

@[expose] public section

noncomputable section

namespace Cert.Softmax

open Idealize.ShloMosaic

/-! ## Extended reals that are real -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real (x y : ℝ) (h : y ≠ 0) : Ideal.div (x : EReal) (y : EReal) = ((x / y : ℝ) : EReal) := by
  rw [Ideal.div_coe h, ← EReal.coe_mul, mul_one_div]

theorem ofBits_bot : Ideal.ofBits FTy.f32 4286578688#32 = ⊥ := by simp [Ideal.ofBits, Ideal.ieee, Nat.shiftRight_eq_div_pow]

/-- The scale of the scores, as the number its bit pattern denotes. -/
def scale : ℝ := (Ideal.ofBits FTy.f32 1033096506#32).toReal
theorem ofBits_scale : Ideal.ofBits FTy.f32 1033096506#32 = (scale : EReal) := by
  unfold scale
  rw [EReal.coe_toReal] <;> simp [Ideal.ofBits, Ideal.ieee, Nat.shiftRight_eq_div_pow, -EReal.coe_mul]

/-- The greatest of finitely many reals, at least one, is a real. -/
theorem fold_real {n : ℕ} (f : Fin (n + 1) → ℝ) :
    Finset.fold max ⊥ (fun x => (f x : EReal)) Finset.univ = ((Finset.fold max ⊥ (fun x => (f x : EReal)) Finset.univ).toReal : EReal) := by
  have hlo : (f 0 : EReal) ≤ Finset.fold max ⊥ (fun x => (f x : EReal)) Finset.univ :=
    (Finset.le_fold_max _).mpr (Or.inr ⟨0, Finset.mem_univ _, le_refl _⟩)
  have hhi : Finset.fold max ⊥ (fun x => (f x : EReal)) Finset.univ < ⊤ :=
    (Finset.fold_max_lt _).mpr ⟨bot_lt_top, fun x _ => EReal.coe_lt_top _⟩
  rw [EReal.coe_toReal hhi.ne (fun h => by rw [h] at hlo; exact absurd hlo (not_le.mpr (EReal.bot_lt_coe _)))]

/-- The host's greatest element over the last axis of a box, at an entry. -/
theorem hostMax_last {n0 n1 n2 : ℕ} {u : Shape} (x : (⟨3, ![n0, n1, n2]⟩ : Shape).Idx → Ideal .f32) (init : u.Idx → Ideal .f32)
    (h : (⟨3, ![n0, n1, n2]⟩ : Shape).ReducesTo [2] (⟨2, ![n0, n1]⟩ : Shape)) (hu : 0 < u.numel) (a : Fin n0) (b : Fin n1) :
    Host.reduce (FloatOps.maximumf (F := Ideal) (φ := .f32)) x init h hu (ix2 a b)
      = Finset.fold max (init (Shape.Idx.first hu)) (fun k => x (ix3 a b k)) Finset.univ := by
  rw [Host.reduce_eq_fold, Shape.ReducesTo.fold_fiber_r3_a2]
  rfl

/-! ## Attention -/

abbrev Queries := (⟨3, ![8, 4096, 192]⟩ : Shape).Idx → ℝ
abbrev Keys := (⟨3, ![8, 4352, 192]⟩ : Shape).Idx → ℝ
abbrev Values := (⟨3, ![8, 4352, 128]⟩ : Shape).Idx → ℝ
abbrev Outputs := (⟨3, ![8, 4096, 128]⟩ : Shape).Idx → ℝ

/-- The score of row `r` against key `x`, the greatest score of the row, and the row's exponentials and their sum. -/
def score (q : Queries) (k : Keys) (h : Fin 8) (r : Fin 4096) (x : Fin 4352) : ℝ := (∑ y : Fin 192, q (ix3 h r y) * k (ix3 h x y)) * scale
def top (q : Queries) (k : Keys) (h : Fin 8) (r : Fin 4096) : ℝ :=
  (Finset.fold max ⊥ (fun x => (score q k h r x : EReal)) Finset.univ).toReal
def ex (q : Queries) (k : Keys) (h : Fin 8) (r : Fin 4096) (x : Fin 4352) : ℝ := Real.exp (score q k h r x - top q k h r)
def norm (q : Queries) (k : Keys) (h : Fin 8) (r : Fin 4096) : ℝ := ∑ x, ex q k h r x
/-- The weights, and the output and the logarithm of the normaliser. -/
def weight (q : Queries) (k : Keys) (h : Fin 8) (r : Fin 4096) (x : Fin 4352) : ℝ := ex q k h r x / norm q k h r
def out (q : Queries) (k : Keys) (v : Values) (h : Fin 8) (r : Fin 4096) (d : Fin 128) : ℝ := ∑ x, weight q k h r x * v (ix3 h x d)
def lse (q : Queries) (k : Keys) (h : Fin 8) (r : Fin 4096) : ℝ := top q k h r + Real.log (norm q k h r)
/-- The gradient of the weights, the rows' corrections, and the gradient of the scaled scores. -/
def dweight (v : Values) (g : Outputs) (h : Fin 8) (r : Fin 4096) (x : Fin 4352) : ℝ := ∑ y : Fin 128, g (ix3 h r y) * v (ix3 h x y)
def corr (q : Queries) (k : Keys) (v : Values) (g : Outputs) (h : Fin 8) (r : Fin 4096) : ℝ := ∑ y : Fin 128, g (ix3 h r y) * out q k v h r y
def dscore (q : Queries) (k : Keys) (v : Values) (g : Outputs) (h : Fin 8) (r : Fin 4096) (x : Fin 4352) : ℝ :=
  weight q k h r x * (dweight v g h r x - corr q k v g h r)
/-- The gradients of the queries, the keys and the values. -/
def dq (q : Queries) (k : Keys) (v : Values) (g : Outputs) (h : Fin 8) (r : Fin 4096) (d : Fin 192) : ℝ :=
  (∑ x, dscore q k v g h r x * k (ix3 h x d)) * scale
def dk (q : Queries) (k : Keys) (v : Values) (g : Outputs) (h : Fin 8) (x : Fin 4352) (d : Fin 192) : ℝ :=
  (∑ r, dscore q k v g h r x * q (ix3 h r d)) * scale
def dv (q : Queries) (k : Keys) (g : Outputs) (h : Fin 8) (x : Fin 4352) (d : Fin 128) : ℝ :=
  ∑ r, weight q k h r x * g (ix3 h r d)

theorem norm_pos (q : Queries) (k : Keys) (h : Fin 8) (r : Fin 4096) : 0 < norm q k h r :=
  Finset.sum_pos (fun x _ => Real.exp_pos _) Finset.univ_nonempty

theorem top_eq (q : Queries) (k : Keys) (h : Fin 8) (r : Fin 4096) :
    Finset.fold max ⊥ (fun x : Fin 4352 => (score q k h r x : EReal)) Finset.univ = (top q k h r : EReal) := fold_real (n := 4351) _

/-- The weight from the saved logarithm of the normaliser. -/
theorem exp_lse (q : Queries) (k : Keys) (h : Fin 8) (r : Fin 4096) (x : Fin 4352) :
    Real.exp (score q k h r x - lse q k h r) = weight q k h r x := by
  unfold lse weight ex
  rw [← sub_sub, Real.exp_sub, Real.exp_log (norm_pos q k h r)]

/-- The correction as the weighted sum of the gradients of the weights. -/
theorem corr_eq (q : Queries) (k : Keys) (v : Values) (g : Outputs) (h : Fin 8) (r : Fin 4096) :
    corr q k v g h r = ∑ x, dweight v g h r x * weight q k h r x := by
  unfold corr dweight out
  simp only [Finset.mul_sum, Finset.sum_mul]
  rw [Finset.sum_comm]
  exact Finset.sum_congr rfl fun x _ => Finset.sum_congr rfl fun y _ => by ring

/-- The gradient of the scores as the quotient rule writes it. -/
theorem dscore_quotient (q : Queries) (k : Keys) (v : Values) (g : Outputs) (h : Fin 8) (r : Fin 4096) (x : Fin 4352) :
    (dweight v g h r x / norm q k h r + -(∑ x, dweight v g h r x * (1 / (norm q k h r * norm q k h r)) * ex q k h r x)) * ex q k h r x
      = dscore q k v g h r x := by
  have hn := (norm_pos q k h r).ne'
  have e : ∑ x, dweight v g h r x * (1 / (norm q k h r * norm q k h r)) * ex q k h r x = corr q k v g h r / norm q k h r := by
    rw [corr_eq, Finset.sum_div]
    refine Finset.sum_congr rfl fun x _ => ?_
    unfold weight
    field_simp
  rw [e]
  unfold dscore weight
  field_simp
  ring

/-- A sum whose terms carry the scale. -/
theorem sum_scaled {n : ℕ} (f g : Fin n → ℝ) : ∑ x, f x * scale * g x = (∑ x, f x * g x) * scale := by
  rw [Finset.sum_mul]
  exact Finset.sum_congr rfl fun x _ => by ring

/-- The output from the unnormalised weights. -/
theorem out_eq (q : Queries) (k : Keys) (v : Values) (h : Fin 8) (r : Fin 4096) (d : Fin 128) :
    (∑ x, ex q k h r x * v (ix3 h x d)) / norm q k h r = out q k v h r d := by
  unfold out weight
  rw [Finset.sum_div]
  exact Finset.sum_congr rfl fun x _ => by ring

end Cert.Softmax

end
-- ==== Proof.RefFwd.lean ====
/-
  The reference's forward attention at finite arguments: every array of the printed reference, read at an entry, is
  the real number `Softmax` names.
-/
module

public import proofs.«01_k».proof.Proof.Gen.RefAttnIdeal.Read
public import proofs.«01_k».proof.Proof.Softmax

@[expose] public section

noncomputable section

namespace Cert.RefAttnIdeal.AtReals

open Cert.RefAttnIdeal Cert.RefAttnIdeal.Read Cert.Softmax Idealize.ShloMosaic

variable (q : Queries) (k : Keys) (v : Values) (h : Fin 8) (r : Fin 4096) (x : Fin 4352)

theorem score_at : val_main_v2 (F := Ideal) (fun i => (q i : EReal)) (fun i => (k i : EReal)) (ix3 h r x) = (score q k h r x : EReal) := by
  pointwise [val_main_v2, val_main_v1, val_main_v0, val_main_cst]
  simp only [ofBits_scale, ← EReal.coe_mul, coe_sum]
  rfl

theorem max_at : val_main_v3 (F := Ideal) (fun i => (q i : EReal)) (fun i => (k i : EReal)) (ix2 h r) = (top q k h r : EReal) := by
  unfold val_main_v3
  refine (hostMax_last _ _ _ _ h r).trans ?_
  rw [funext fun x => score_at q k h r x]
  rw [← top_eq, ← ofBits_bot]
  rfl

theorem floor_at : val_main_v4 (F := Ideal) (ix2 h r) = ⊥ := by
  pointwise [val_main_v4, val_main_cst_1]
  exact ofBits_bot

theorem top_at : val_main_v5 (F := Ideal) (fun i => (q i : EReal)) (fun i => (k i : EReal)) (ix2 h r) = (top q k h r : EReal) := by
  rw [val_main_v5_apply, max_at, floor_at]
  generalize top q k h r = y
  exact max_eq_right bot_le

theorem shift_at : val_main_v7 (F := Ideal) (fun i => (q i : EReal)) (fun i => (k i : EReal)) (ix3 h r x) = (top q k h r : EReal) := by
  pointwise [val_main_v7, val_main_v6]
  rw [top_at]

theorem ex_at : val_main_v9 (F := Ideal) (fun i => (q i : EReal)) (fun i => (k i : EReal)) (ix3 h r x) = (ex q k h r x : EReal) := by
  rw [val_main_v9_apply, val_main_v8_apply, score_at, shift_at]
  unfold ex
  generalize top q k h r = y
  generalize score q k h r x = z
  show Ideal.exp ((z : EReal) - (y : EReal)) = _
  rw [← EReal.coe_sub, Ideal.exp_coe]

theorem norm_at : val_main_v11 (F := Ideal) (fun i => (q i : EReal)) (fun i => (k i : EReal)) (ix3 h r 0) = (norm q k h r : EReal) := by
  pointwise [val_main_v11, val_main_v10, val_main_cst_2]
  simp only [ex_at, coe_sum]
  rfl

theorem weight_at : val_main_v13 (F := Ideal) (fun i => (q i : EReal)) (fun i => (k i : EReal)) (ix3 h r x) = (weight q k h r x : EReal) := by
  pointwise [val_main_v13, val_main_v12]
  simp only [ex_at, norm_at, div_real _ _ (norm_pos q k h r).ne']
  rfl

theorem out_at (d : Fin 128) : val_main_v14 (F := Ideal) (fun i => (q i : EReal)) (fun i => (k i : EReal)) (fun i => (v i : EReal)) (ix3 h r d)
    = (out q k v h r d : EReal) := by
  pointwise [val_main_v14]
  simp only [weight_at, ← EReal.coe_mul, coe_sum]
  rfl

/-! The second function's own scores and normaliser. -/

theorem score_at' : val_main_v17 (F := Ideal) (fun i => (q i : EReal)) (fun i => (k i : EReal)) (ix3 h r x) = (score q k h r x : EReal) := by
  pointwise [val_main_v17, val_main_v16, val_main_v15, val_main_cst_3]
  simp only [ofBits_scale, ← EReal.coe_mul, coe_sum]
  rfl

theorem max_at' : val_main_v18 (F := Ideal) (fun i => (q i : EReal)) (fun i => (k i : EReal)) (ix2 h r) = (top q k h r : EReal) := by
  unfold val_main_v18
  refine (hostMax_last _ _ _ _ h r).trans ?_
  rw [funext fun x => score_at' q k h r x]
  rw [← top_eq, ← ofBits_bot]
  rfl

theorem top_at' : val_main_v19 (F := Ideal) (fun i => (q i : EReal)) (fun i => (k i : EReal)) (ix3 h r 0) = (top q k h r : EReal) := by
  pointwise [val_main_v19]
  rw [max_at']

theorem shift_at' : val_main_v20 (F := Ideal) (fun i => (q i : EReal)) (fun i => (k i : EReal)) (ix3 h r x) = (top q k h r : EReal) := by
  pointwise [val_main_v20]
  rw [top_at']

theorem ex_at' : val_main_v22 (F := Ideal) (fun i => (q i : EReal)) (fun i => (k i : EReal)) (ix3 h r x) = (ex q k h r x : EReal) := by
  rw [val_main_v22_apply, val_main_v21_apply, score_at', shift_at']
  unfold ex
  generalize top q k h r = y
  generalize score q k h r x = z
  show Ideal.exp ((z : EReal) - (y : EReal)) = _
  rw [← EReal.coe_sub, Ideal.exp_coe]

theorem norm_at' : val_main_v24 (F := Ideal) (fun i => (q i : EReal)) (fun i => (k i : EReal)) (ix3 h r 0) = (norm q k h r : EReal) := by
  pointwise [val_main_v24, val_main_v23, val_main_cst_5]
  simp only [ex_at', coe_sum]
  rfl

theorem lse_at : val_main_v26 (F := Ideal) (fun i => (q i : EReal)) (fun i => (k i : EReal)) (ix3 h r 0) = (lse q k h r : EReal) := by
  rw [val_main_v26_apply, val_main_v25_apply, top_at', norm_at']
  have hn := norm_pos q k h r
  unfold lse
  generalize top q k h r = y at *
  generalize norm q k h r = z at *
  show (y : EReal) + Ideal.log (z : EReal) = _
  rw [Ideal.log_coe, if_neg (not_le.mpr hn), ← EReal.coe_add]

end Cert.RefAttnIdeal.AtReals

end
-- ==== Proof.DqHost.lean ====
/-
  The arrays the host prepares for the query-gradient kernel: the rows' logarithms of the normaliser are the reference
  forward's, and the corrections are the products of cotangent and output summed along a row.
-/
module

public import proofs.«01_k».proof.Proof.DqBlock
public import proofs.«01_k».proof.Proof.RefFwd

@[expose] public section

noncomputable section

namespace Cert.AttnDqIdeal.Block

open Cert.AttnDqIdeal Cert.AttnDqIdeal.Gen Cert.AttnDqIdeal.Value Idealize.ShloMosaic Idealize.ShloMosaic.TcCoe Idealize.SL.Sem

variable {F : FTy → Type} [FloatOps F]
variable (m : (ℓ : Loc nD τ sig) → Buf (Elt F) ℓ)

theorem lse_host (c : Dev nD) : lseArr m c = Cert.RefAttnIdeal.Read.val_main_v26 (F := F) (m ((c : Thread nD τ).loc main_arg0)) (m ((c : Thread nD τ).loc main_arg1)) := by
  show V m c main_v26 = _
  unfold V
  after_results
  rfl

theorem corr_host (c : Dev nD) : corrArr m c = broadcastInDim S8x4096x1 ![0, 1] bcast_S8x4096_S8x4096x1_0_1
    (Host.reduceAdd (mulf (m ((c : Thread nD τ).loc main_arg3)) (Cert.RefAttnIdeal.Read.val_main_v14 (F := F) (m ((c : Thread nD τ).loc main_arg0)) (m ((c : Thread nD τ).loc main_arg1)) (m ((c : Thread nD τ).loc main_arg2))))
      (constant S_ .f32 0x00000000#32) reducesTo_S8x4096x128_S8x4096_d2 h_S_) := by
  show V m c main_v29 = _
  unfold V
  after_results
  rfl

/-! ## At finite arguments -/

section Reals
open Cert.Softmax

variable (m : (ℓ : Loc nD τ sig) → Buf (Elt Ideal) ℓ) (c : Dev nD) (q : Queries) (k : Keys) (v : Values) (g : Outputs)
  (hq : m ((c : Thread nD τ).loc main_arg0) = fun i => (q i : EReal)) (hk : m ((c : Thread nD τ).loc main_arg1) = fun i => (k i : EReal))
  (hv : m ((c : Thread nD τ).loc main_arg2) = fun i => (v i : EReal)) (hg : m ((c : Thread nD τ).loc main_arg3) = fun i => (g i : EReal))

include hq hk in
theorem lse_real (h : Fin 8) (r : Fin 4096) : lseArr m c (ix3 h r 0) = (lse q k h r : EReal) := by
  rw [lse_host, hq, hk]
  exact Cert.RefAttnIdeal.AtReals.lse_at q k h r

include hq hk hv hg in
theorem corr_real (h : Fin 8) (r : Fin 4096) : corrArr m c (ix3 h r 0) = (corr q k v g h r : EReal) := by
  rw [corr_host, hq, hk, hv, hg]
  pointwise []
  simp only [Cert.RefAttnIdeal.AtReals.out_at, ← EReal.coe_mul, coe_sum]
  rfl

include hq hk hv hg in
theorem result_real (h : Fin 8) (r : Fin 4096) (d : Fin 192) :
    (G6 m c : Vec Ideal S8x4096x192 .f32) (ix3 h r d) = (dq q k v g h r d : EReal) := by
  rw [result_at m c h r d _ _ _ _ _ _ hq hk hv hg rfl rfl, lse_real m c q k hq hk, corr_real m c q k v g hq hk hv hg]
  simp only [ofBits_scale, ← EReal.coe_mul, coe_sum, ← EReal.coe_sub, Ideal.exp_coe]
  unfold dq dscore
  simp only [← exp_lse]
  unfold score dweight
  rfl

end Reals

end Cert.AttnDqIdeal.Block

end
-- ==== Proof.DkvBlock.lean ====
/-
  The key- and value-gradient kernel, block by block: what its body leaves in the two output blocks and in the two
  scratch buffers it carries along a head, as the payloads of its stores, and the results as functions of the
  argument arrays.
-/
module

public import proofs.«01_k».proof.Proof.Gen.AttnDkvIdeal.Value
public import Idealize.ShloMosaic.Lib.Tactic
public import Idealize.ShloMosaic.Lib.Pointwise

@[expose] public section

noncomputable section

namespace Cert.AttnDkvIdeal.Block

open Cert.AttnDkvIdeal Cert.AttnDkvIdeal.Gen Cert.AttnDkvIdeal.Value Idealize.ShloMosaic Idealize.ShloMosaic.TcCoe Idealize.SL.Sem

variable {F : FTy → Type} [FloatOps F]
variable (m : (ℓ : Loc nD τ sig) → Buf (Elt F) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The block of key gradients. -/
abbrev gradK (q : Vec F S4096x192 .bf16) (g : Vec F S4096x128 .bf16) (k : Vec F S1x256x192 .f32) (lse : Vec F S1x1x4096 .f32) (v : Vec F S1x256x128 .f32) (dl : Vec F S1x1x4096 .f32) : Vec F S1x256x192 .f32 := k0_pay1 (k0_pay6 q g k lse v dl)

/-- The block of value gradients. -/
abbrev gradV (q : Vec F S4096x192 .bf16) (g : Vec F S4096x128 .bf16) (k : Vec F S1x256x192 .f32) (lse : Vec F S1x1x4096 .f32) : Vec F S1x256x128 .f32 := k0_pay2 g (k0_pay5 q k lse)

/-- At a head's first block the body stores the head's queries_sc in scratch. -/
theorem queries_sc_first (c : Dev nD) (i : grid0.Coords) (a2 : Memref sig .tc .vmem S1x4096x192 .f32) (h2 : a2.IsWhole) (a3 : Memref sig .tc .vmem S1x256x192 .f32) (h3 : a3.IsWhole) (a4 : Memref sig .tc .vmem S1x256x128 .f32) (h4 : a4.IsWhole) (a5 : Memref sig .tc .vmem S1x4096x128 .f32) (h5 : a5.IsWhole) (a6 : Memref sig .tc .vmem S1x1x4096 .f32) (h6 : a6.IsWhole) (a7 : Memref sig .tc .vmem S1x1x4096 .f32) (h7 : a7.IsWhole) (a8 : Memref sig .tc .vmem S1x256x192 .f32) (h8 : a8.IsWhole) (a9 : Memref sig .tc .vmem S1x256x128 .f32) (h9 : a9.IsWhole) (a10 : Memref sig .tc .vmem S4096x192 .bf16) (h10 : a10.IsWhole) (a11 : Memref sig .tc .vmem S4096x128 .bf16) (h11 : a11.IsWhole) (hc : cond0_0 i)
    (x0 : Vec F S1x4096x192 .f32) (x1 : Vec F S1x256x192 .f32) (x2 : Vec F S1x256x128 .f32) (x3 : Vec F S1x4096x128 .f32) (x4 : Vec F S1x1x4096 .f32) (x5 : Vec F S1x1x4096 .f32) : sout0_A_0 c i a2 h2 a3 h3 a4 h4 a5 h5 a6 h6 a7 h7 a8 h8 a9 h9 a10 h10 a11 h11 hc x0 x1 x2 x3 x4 x5 = k0_pay3 x0 := by
  unfold sout0_A_0
  rw [View.read_writes_eq_canon _ _ _ (scover0_A_0 c i a2 h2 a3 h3 a4 h4 a5 h5 a6 h6 a7 h7 a8 h8 a9 h9 a10 h10 a11 h11 hc x0 x1 x2 x3 x4 x5)]
  unfold kernelRun0_A
  dsimp only
  sl_unfold_words
  rw [View.canon_unit_zero zero2]
  simp only [View.readAt_eq_ld, h2.read_unread, h3.read_unread, h4.read_unread, h5.read_unread, h6.read_unread, h7.read_unread, h8.read_unread, h9.read_unread, h10.read_unread, h11.read_unread, View.ld_unit_zero (S := S1x4096x192) zero3, View.ld_unit_zero (S := S1x256x192) zero3, View.ld_unit_zero (S := S1x256x128) zero3, View.ld_unit_zero (S := S1x4096x128) zero3, View.ld_unit_zero (S := S1x1x4096) zero3, View.ld_unit_zero (S := S4096x192) zero2, View.ld_unit_zero (S := S4096x128) zero2]

/-- At a head's first block the body stores the head's cotangents_sc in scratch. -/
theorem cotangents_sc_first (c : Dev nD) (i : grid0.Coords) (a2 : Memref sig .tc .vmem S1x4096x192 .f32) (h2 : a2.IsWhole) (a3 : Memref sig .tc .vmem S1x256x192 .f32) (h3 : a3.IsWhole) (a4 : Memref sig .tc .vmem S1x256x128 .f32) (h4 : a4.IsWhole) (a5 : Memref sig .tc .vmem S1x4096x128 .f32) (h5 : a5.IsWhole) (a6 : Memref sig .tc .vmem S1x1x4096 .f32) (h6 : a6.IsWhole) (a7 : Memref sig .tc .vmem S1x1x4096 .f32) (h7 : a7.IsWhole) (a8 : Memref sig .tc .vmem S1x256x192 .f32) (h8 : a8.IsWhole) (a9 : Memref sig .tc .vmem S1x256x128 .f32) (h9 : a9.IsWhole) (a10 : Memref sig .tc .vmem S4096x192 .bf16) (h10 : a10.IsWhole) (a11 : Memref sig .tc .vmem S4096x128 .bf16) (h11 : a11.IsWhole) (hc : cond0_0 i)
    (x0 : Vec F S1x4096x192 .f32) (x1 : Vec F S1x256x192 .f32) (x2 : Vec F S1x256x128 .f32) (x3 : Vec F S1x4096x128 .f32) (x4 : Vec F S1x1x4096 .f32) (x5 : Vec F S1x1x4096 .f32) : sout0_A_1 c i a2 h2 a3 h3 a4 h4 a5 h5 a6 h6 a7 h7 a8 h8 a9 h9 a10 h10 a11 h11 hc x0 x1 x2 x3 x4 x5 = k0_pay4 x3 := by
  unfold sout0_A_1
  rw [View.read_writes_eq_canon _ _ _ (scover0_A_1 c i a2 h2 a3 h3 a4 h4 a5 h5 a6 h6 a7 h7 a8 h8 a9 h9 a10 h10 a11 h11 hc x0 x1 x2 x3 x4 x5)]
  unfold kernelRun0_A
  dsimp only
  sl_unfold_words
  rw [View.canon_unit_zero zero2]
  simp only [View.readAt_eq_ld, h2.read_unread, h3.read_unread, h4.read_unread, h5.read_unread, h6.read_unread, h7.read_unread, h8.read_unread, h9.read_unread, h10.read_unread, h11.read_unread, View.ld_unit_zero (S := S1x4096x192) zero3, View.ld_unit_zero (S := S1x256x192) zero3, View.ld_unit_zero (S := S1x256x128) zero3, View.ld_unit_zero (S := S1x4096x128) zero3, View.ld_unit_zero (S := S1x1x4096) zero3, View.ld_unit_zero (S := S4096x192) zero2, View.ld_unit_zero (S := S4096x128) zero2]

/-- At a head's first block the body computes from what it has just stored, … -/
theorem gradK_first (c : Dev nD) (i : grid0.Coords) (a2 : Memref sig .tc .vmem S1x4096x192 .f32) (h2 : a2.IsWhole) (a3 : Memref sig .tc .vmem S1x256x192 .f32) (h3 : a3.IsWhole) (a4 : Memref sig .tc .vmem S1x256x128 .f32) (h4 : a4.IsWhole) (a5 : Memref sig .tc .vmem S1x4096x128 .f32) (h5 : a5.IsWhole) (a6 : Memref sig .tc .vmem S1x1x4096 .f32) (h6 : a6.IsWhole) (a7 : Memref sig .tc .vmem S1x1x4096 .f32) (h7 : a7.IsWhole) (a8 : Memref sig .tc .vmem S1x256x192 .f32) (h8 : a8.IsWhole) (a9 : Memref sig .tc .vmem S1x256x128 .f32) (h9 : a9.IsWhole) (a10 : Memref sig .tc .vmem S4096x192 .bf16) (h10 : a10.IsWhole) (a11 : Memref sig .tc .vmem S4096x128 .bf16) (h11 : a11.IsWhole) (hc : cond0_0 i)
    (x0 : Vec F S1x4096x192 .f32) (x1 : Vec F S1x256x192 .f32) (x2 : Vec F S1x256x128 .f32) (x3 : Vec F S1x4096x128 .f32) (x4 : Vec F S1x1x4096 .f32) (x5 : Vec F S1x1x4096 .f32) : out0_A_6 c i a2 h2 a3 h3 a4 h4 a5 h5 a6 h6 a7 h7 a8 h8 a9 h9 a10 h10 a11 h11 hc x0 x1 x2 x3 x4 x5 = gradK (k0_pay3 x0) (k0_pay4 x3) x1 x4 x2 x5 := by
  unfold out0_A_6
  rw [View.read_writes_eq_canon _ _ _ (cover0_A_6 c i a2 h2 a3 h3 a4 h4 a5 h5 a6 h6 a7 h7 a8 h8 a9 h9 a10 h10 a11 h11 hc x0 x1 x2 x3 x4 x5)]
  unfold kernelRun0_A
  dsimp only
  sl_unfold_words
  rw [View.canon_unit_zero zero3]
  simp only [View.readAt_eq_ld, View.readCov_unit_zero (S := S4096x192) _ zero2, View.readCov_unit_zero (S := S4096x128) _ zero2, h2.read_unread, h3.read_unread, h4.read_unread, h5.read_unread, h6.read_unread, h7.read_unread, h8.read_unread, h9.read_unread, h10.read_unread, h11.read_unread,
    View.ld_unit_zero (S := S1x4096x192) zero3, View.ld_unit_zero (S := S1x256x192) zero3, View.ld_unit_zero (S := S1x256x128) zero3, View.ld_unit_zero (S := S1x4096x128) zero3, View.ld_unit_zero (S := S1x1x4096) zero3, View.ld_unit_zero (S := S4096x192) zero2, View.ld_unit_zero (S := S4096x128) zero2]

/-- … and at a later block from the scratch. -/
theorem gradK_later (c : Dev nD) (i : grid0.Coords) (a2 : Memref sig .tc .vmem S1x4096x192 .f32) (h2 : a2.IsWhole) (a3 : Memref sig .tc .vmem S1x256x192 .f32) (h3 : a3.IsWhole) (a4 : Memref sig .tc .vmem S1x256x128 .f32) (h4 : a4.IsWhole) (a5 : Memref sig .tc .vmem S1x4096x128 .f32) (h5 : a5.IsWhole) (a6 : Memref sig .tc .vmem S1x1x4096 .f32) (h6 : a6.IsWhole) (a7 : Memref sig .tc .vmem S1x1x4096 .f32) (h7 : a7.IsWhole) (a8 : Memref sig .tc .vmem S1x256x192 .f32) (h8 : a8.IsWhole) (a9 : Memref sig .tc .vmem S1x256x128 .f32) (h9 : a9.IsWhole) (a10 : Memref sig .tc .vmem S4096x192 .bf16) (h10 : a10.IsWhole) (a11 : Memref sig .tc .vmem S4096x128 .bf16) (h11 : a11.IsWhole) (hc : ¬cond0_0 i)
    (x0 : Vec F S1x4096x192 .f32) (x1 : Vec F S1x256x192 .f32) (x2 : Vec F S1x256x128 .f32) (x3 : Vec F S1x4096x128 .f32) (x4 : Vec F S1x1x4096 .f32) (x5 : Vec F S1x1x4096 .f32) (xs0 : Vec F S4096x192 .bf16) (xs1 : Vec F S4096x128 .bf16) : out0_B_6 c i a2 h2 a3 h3 a4 h4 a5 h5 a6 h6 a7 h7 a8 h8 a9 h9 a10 h10 a11 h11 hc x0 x1 x2 x3 x4 x5 xs0 xs1 = gradK xs0 xs1 x1 x4 x2 x5 := by
  unfold out0_B_6
  rw [View.read_writes_eq_canon _ _ _ (cover0_B_6 c i a2 h2 a3 h3 a4 h4 a5 h5 a6 h6 a7 h7 a8 h8 a9 h9 a10 h10 a11 h11 hc x0 x1 x2 x3 x4 x5 xs0 xs1)]
  unfold kernelRun0_B
  dsimp only
  sl_unfold_words
  rw [View.canon_unit_zero zero3]
  simp only [View.readAt_eq_ld, h2.read_unread, h3.read_unread, h4.read_unread, h5.read_unread, h6.read_unread, h7.read_unread, h8.read_unread, h9.read_unread, h10.read_unread, h11.read_unread,
    View.ld_unit_zero (S := S1x4096x192) zero3, View.ld_unit_zero (S := S1x256x192) zero3, View.ld_unit_zero (S := S1x256x128) zero3, View.ld_unit_zero (S := S1x4096x128) zero3, View.ld_unit_zero (S := S1x1x4096) zero3, View.ld_unit_zero (S := S4096x192) zero2, View.ld_unit_zero (S := S4096x128) zero2]

/-- At a head's first block the body computes from what it has just stored, … -/
theorem gradV_first (c : Dev nD) (i : grid0.Coords) (a2 : Memref sig .tc .vmem S1x4096x192 .f32) (h2 : a2.IsWhole) (a3 : Memref sig .tc .vmem S1x256x192 .f32) (h3 : a3.IsWhole) (a4 : Memref sig .tc .vmem S1x256x128 .f32) (h4 : a4.IsWhole) (a5 : Memref sig .tc .vmem S1x4096x128 .f32) (h5 : a5.IsWhole) (a6 : Memref sig .tc .vmem S1x1x4096 .f32) (h6 : a6.IsWhole) (a7 : Memref sig .tc .vmem S1x1x4096 .f32) (h7 : a7.IsWhole) (a8 : Memref sig .tc .vmem S1x256x192 .f32) (h8 : a8.IsWhole) (a9 : Memref sig .tc .vmem S1x256x128 .f32) (h9 : a9.IsWhole) (a10 : Memref sig .tc .vmem S4096x192 .bf16) (h10 : a10.IsWhole) (a11 : Memref sig .tc .vmem S4096x128 .bf16) (h11 : a11.IsWhole) (hc : cond0_0 i)
    (x0 : Vec F S1x4096x192 .f32) (x1 : Vec F S1x256x192 .f32) (x2 : Vec F S1x256x128 .f32) (x3 : Vec F S1x4096x128 .f32) (x4 : Vec F S1x1x4096 .f32) (x5 : Vec F S1x1x4096 .f32) : out0_A_7 c i a2 h2 a3 h3 a4 h4 a5 h5 a6 h6 a7 h7 a8 h8 a9 h9 a10 h10 a11 h11 hc x0 x1 x2 x3 x4 x5 = gradV (k0_pay3 x0) (k0_pay4 x3) x1 x4 := by
  unfold out0_A_7
  rw [View.read_writes_eq_canon _ _ _ (cover0_A_7 c i a2 h2 a3 h3 a4 h4 a5 h5 a6 h6 a7 h7 a8 h8 a9 h9 a10 h10 a11 h11 hc x0 x1 x2 x3 x4 x5)]
  unfold kernelRun0_A
  dsimp only
  sl_unfold_words
  rw [View.canon_unit_zero zero3]
  simp only [View.readAt_eq_ld, View.readCov_unit_zero (S := S4096x192) _ zero2, View.readCov_unit_zero (S := S4096x128) _ zero2, h2.read_unread, h3.read_unread, h4.read_unread, h5.read_unread, h6.read_unread, h7.read_unread, h8.read_unread, h9.read_unread, h10.read_unread, h11.read_unread,
    View.ld_unit_zero (S := S1x4096x192) zero3, View.ld_unit_zero (S := S1x256x192) zero3, View.ld_unit_zero (S := S1x256x128) zero3, View.ld_unit_zero (S := S1x4096x128) zero3, View.ld_unit_zero (S := S1x1x4096) zero3, View.ld_unit_zero (S := S4096x192) zero2, View.ld_unit_zero (S := S4096x128) zero2]

/-- … and at a later block from the scratch. -/
theorem gradV_later (c : Dev nD) (i : grid0.Coords) (a2 : Memref sig .tc .vmem S1x4096x192 .f32) (h2 : a2.IsWhole) (a3 : Memref sig .tc .vmem S1x256x192 .f32) (h3 : a3.IsWhole) (a4 : Memref sig .tc .vmem S1x256x128 .f32) (h4 : a4.IsWhole) (a5 : Memref sig .tc .vmem S1x4096x128 .f32) (h5 : a5.IsWhole) (a6 : Memref sig .tc .vmem S1x1x4096 .f32) (h6 : a6.IsWhole) (a7 : Memref sig .tc .vmem S1x1x4096 .f32) (h7 : a7.IsWhole) (a8 : Memref sig .tc .vmem S1x256x192 .f32) (h8 : a8.IsWhole) (a9 : Memref sig .tc .vmem S1x256x128 .f32) (h9 : a9.IsWhole) (a10 : Memref sig .tc .vmem S4096x192 .bf16) (h10 : a10.IsWhole) (a11 : Memref sig .tc .vmem S4096x128 .bf16) (h11 : a11.IsWhole) (hc : ¬cond0_0 i)
    (x0 : Vec F S1x4096x192 .f32) (x1 : Vec F S1x256x192 .f32) (x2 : Vec F S1x256x128 .f32) (x3 : Vec F S1x4096x128 .f32) (x4 : Vec F S1x1x4096 .f32) (x5 : Vec F S1x1x4096 .f32) (xs0 : Vec F S4096x192 .bf16) (xs1 : Vec F S4096x128 .bf16) : out0_B_7 c i a2 h2 a3 h3 a4 h4 a5 h5 a6 h6 a7 h7 a8 h8 a9 h9 a10 h10 a11 h11 hc x0 x1 x2 x3 x4 x5 xs0 xs1 = gradV xs0 xs1 x1 x4 := by
  unfold out0_B_7
  rw [View.read_writes_eq_canon _ _ _ (cover0_B_7 c i a2 h2 a3 h3 a4 h4 a5 h5 a6 h6 a7 h7 a8 h8 a9 h9 a10 h10 a11 h11 hc x0 x1 x2 x3 x4 x5 xs0 xs1)]
  unfold kernelRun0_B
  dsimp only
  sl_unfold_words
  rw [View.canon_unit_zero zero3]
  simp only [View.readAt_eq_ld, h2.read_unread, h3.read_unread, h4.read_unread, h5.read_unread, h6.read_unread, h7.read_unread, h8.read_unread, h9.read_unread, h10.read_unread, h11.read_unread,
    View.ld_unit_zero (S := S1x4096x192) zero3, View.ld_unit_zero (S := S1x256x192) zero3, View.ld_unit_zero (S := S1x256x128) zero3, View.ld_unit_zero (S := S1x4096x128) zero3, View.ld_unit_zero (S := S1x1x4096) zero3, View.ld_unit_zero (S := S4096x192) zero2, View.ld_unit_zero (S := S4096x128) zero2]

/-! ## The blocks the points read -/

/-- A point's head, and the array row of a row of its tile. -/
def head (t : Fin cfg0.N) : Fin 8 := ⟨t.val / 17, by have := lt_of_lt_of_eq t.isLt (show cfg0.N = 136 from N_0); omega⟩
def row (t : Fin cfg0.N) (r : Fin 256) : Fin 4352 := ⟨256 * (t.val % 17) + r.val, by have := r.isLt; omega⟩

/-- The arrays the host prepares: the rows' logarithms of the normaliser and their corrections. -/
abbrev lseArr (c : Dev nD) : Vec F S8x1x4096 .f32 := V m c (Pipeline.arrRef spec0 4)
abbrev corrArr (c : Dev nD) : Vec F S8x1x4096 .f32 := V m c (Pipeline.arrRef spec0 5)

theorem at_block0 : ∀ t : Fin grid0.N, win0_0.index t 0 = t.val / 17 ∧ win0_0.index t 1 = 0 ∧ win0_0.index t 2 = 0 := by decide +kernel
theorem at_block1 : ∀ t : Fin grid0.N, win0_1.index t 0 = t.val / 17 ∧ win0_1.index t 1 = t.val % 17 ∧ win0_1.index t 2 = 0 := by decide +kernel
theorem at_block2 : ∀ t : Fin grid0.N, win0_2.index t 0 = t.val / 17 ∧ win0_2.index t 1 = t.val % 17 ∧ win0_2.index t 2 = 0 := by decide +kernel
theorem at_block3 : ∀ t : Fin grid0.N, win0_3.index t 0 = t.val / 17 ∧ win0_3.index t 1 = 0 ∧ win0_3.index t 2 = 0 := by decide +kernel
theorem at_block4 : ∀ t : Fin grid0.N, win0_4.index t 0 = t.val / 17 ∧ win0_4.index t 1 = 0 ∧ win0_4.index t 2 = 0 := by decide +kernel
theorem at_block5 : ∀ t : Fin grid0.N, win0_5.index t 0 = t.val / 17 ∧ win0_5.index t 1 = 0 ∧ win0_5.index t 2 = 0 := by decide +kernel

theorem queries (c : Dev nD) (t : Fin cfg0.N) (r : Fin 4096) (d : Fin 192) :
    (iblk m c 0 t : Vec F S1x4096x192 .f32) (ix3 0 r d) = m ((c : Thread nD τ).loc main_arg0) (ix3 (head t) r d) := by
  obtain ⟨e0, e1, e2⟩ := at_block0 t
  unfold iblk; rw [View.read_apply]
  show V m c main_arg0 _ = _
  rw [V_main_arg0]
  congr 1; funext a; apply Fin.ext
  match a with
  | ⟨0, _⟩ => show win0_0.index t 0 * 1 + 1 * 0 = t.val / 17; omega
  | ⟨1, _⟩ => show win0_0.index t 1 * 4096 + 1 * r.val = r.val; omega
  | ⟨2, _⟩ => show win0_0.index t 2 * 192 + 1 * d.val = d.val; omega

theorem keys (c : Dev nD) (t : Fin cfg0.N) (r : Fin 256) (d : Fin 192) :
    (iblk m c 1 t : Vec F S1x256x192 .f32) (ix3 0 r d) = m ((c : Thread nD τ).loc main_arg1) (ix3 (head t) (row t r) d) := by
  obtain ⟨e0, e1, e2⟩ := at_block1 t
  unfold iblk; rw [View.read_apply]
  show V m c main_arg1 _ = _
  rw [V_main_arg1]
  congr 1; funext a; apply Fin.ext
  match a with
  | ⟨0, _⟩ => show win0_1.index t 0 * 1 + 1 * 0 = t.val / 17; omega
  | ⟨1, _⟩ => show win0_1.index t 1 * 256 + 1 * r.val = 256 * (t.val % 17) + r.val; omega
  | ⟨2, _⟩ => show win0_1.index t 2 * 192 + 1 * d.val = d.val; omega

theorem values (c : Dev nD) (t : Fin cfg0.N) (r : Fin 256) (d : Fin 128) :
    (iblk m c 2 t : Vec F S1x256x128 .f32) (ix3 0 r d) = m ((c : Thread nD τ).loc main_arg2) (ix3 (head t) (row t r) d) := by
  obtain ⟨e0, e1, e2⟩ := at_block2 t
  unfold iblk; rw [View.read_apply]
  show V m c main_arg2 _ = _
  rw [V_main_arg2]
  congr 1; funext a; apply Fin.ext
  match a with
  | ⟨0, _⟩ => show win0_2.index t 0 * 1 + 1 * 0 = t.val / 17; omega
  | ⟨1, _⟩ => show win0_2.index t 1 * 256 + 1 * r.val = 256 * (t.val % 17) + r.val; omega
  | ⟨2, _⟩ => show win0_2.index t 2 * 128 + 1 * d.val = d.val; omega

theorem cotangents (c : Dev nD) (t : Fin cfg0.N) (r : Fin 4096) (d : Fin 128) :
    (iblk m c 3 t : Vec F S1x4096x128 .f32) (ix3 0 r d) = m ((c : Thread nD τ).loc main_arg3) (ix3 (head t) r d) := by
  obtain ⟨e0, e1, e2⟩ := at_block3 t
  unfold iblk; rw [View.read_apply]
  show V m c main_arg3 _ = _
  rw [V_main_arg3]
  congr 1; funext a; apply Fin.ext
  match a with
  | ⟨0, _⟩ => show win0_3.index t 0 * 1 + 1 * 0 = t.val / 17; omega
  | ⟨1, _⟩ => show win0_3.index t 1 * 4096 + 1 * r.val = r.val; omega
  | ⟨2, _⟩ => show win0_3.index t 2 * 128 + 1 * d.val = d.val; omega

theorem lses (c : Dev nD) (t : Fin cfg0.N) (d : Fin 4096) :
    (iblk m c 4 t : Vec F S1x1x4096 .f32) (ix3 0 0 d) = lseArr m c (ix3 (head t) 0 d) := by
  obtain ⟨e0, e1, e2⟩ := at_block4 t
  unfold iblk; rw [View.read_apply]
  show lseArr m c _ = _
  congr 1; funext a; apply Fin.ext
  match a with
  | ⟨0, _⟩ => show win0_4.index t 0 * 1 + 1 * 0 = t.val / 17; omega
  | ⟨1, _⟩ => show win0_4.index t 1 * 1 + 1 * 0 = 0; omega
  | ⟨2, _⟩ => show win0_4.index t 2 * 4096 + 1 * d.val = d.val; omega

theorem corrs (c : Dev nD) (t : Fin cfg0.N) (d : Fin 4096) :
    (iblk m c 5 t : Vec F S1x1x4096 .f32) (ix3 0 0 d) = corrArr m c (ix3 (head t) 0 d) := by
  obtain ⟨e0, e1, e2⟩ := at_block5 t
  unfold iblk; rw [View.read_apply]
  show corrArr m c _ = _
  congr 1; funext a; apply Fin.ext
  match a with
  | ⟨0, _⟩ => show win0_5.index t 0 * 1 + 1 * 0 = t.val / 17; omega
  | ⟨1, _⟩ => show win0_5.index t 1 * 1 + 1 * 0 = 0; omega
  | ⟨2, _⟩ => show win0_5.index t 2 * 4096 + 1 * d.val = d.val; omega

/-- The points of one head read the same queries_sc. -/
theorem queries_sc_same (c : Dev nD) (t t' : Fin cfg0.N) (h : t.val / 17 = t'.val / 17) :
    (iblk m c 0 t : Vec F S1x4096x192 .f32) = iblk m c 0 t' := by
  have hh : head t = head t' := Fin.ext h
  funext j
  idx_vars j
  obtain rfl : j0 = (0 : Fin 1) := Subsingleton.elim _ _
  rw [queries, queries, hh]

/-- The points of one head read the same cotangents_sc. -/
theorem cotangents_sc_same (c : Dev nD) (t t' : Fin cfg0.N) (h : t.val / 17 = t'.val / 17) :
    (iblk m c 3 t : Vec F S1x4096x128 .f32) = iblk m c 3 t' := by
  have hh : head t = head t' := Fin.ext h
  funext j
  idx_vars j
  obtain rfl : j0 = (0 : Fin 1) := Subsingleton.elim _ _
  rw [cotangents, cotangents, hh]

/-- What the body leaves after point `n`: the output blocks of that point, and the head's scratch. -/
theorem outs (c : Dev nD) : ∀ (n : ℕ) (hn : n < cfg0.N), outsAt0 m c n hn =
    (gradK (k0_pay3 (iblk m c 0 ⟨n, hn⟩)) (k0_pay4 (iblk m c 3 ⟨n, hn⟩)) (iblk m c 1 ⟨n, hn⟩) (iblk m c 4 ⟨n, hn⟩) (iblk m c 2 ⟨n, hn⟩) (iblk m c 5 ⟨n, hn⟩), gradV (k0_pay3 (iblk m c 0 ⟨n, hn⟩)) (k0_pay4 (iblk m c 3 ⟨n, hn⟩)) (iblk m c 1 ⟨n, hn⟩) (iblk m c 4 ⟨n, hn⟩), k0_pay3 (iblk m c 0 ⟨n, hn⟩), k0_pay4 (iblk m c 3 ⟨n, hn⟩)) := by
  intro n
  induction n with
  | zero =>
    intro hn
    rw [outsAt0_A m c ⟨0, hn⟩ rfl, gradK_first, gradV_first, queries_sc_first, cotangents_sc_first]
  | succ n ih =>
    intro hn
    by_cases h0 : (n + 1) % 17 = 0
    · rw [outsAt0_A m c ⟨n + 1, hn⟩ h0, gradK_first, gradV_first, queries_sc_first, cotangents_sc_first]
    ·
      have e0 : (iblk m c 0 ⟨n, Nat.lt_of_succ_lt hn⟩ : Vec F S1x4096x192 .f32) = iblk m c 0 ⟨n + 1, hn⟩ := queries_sc_same m c _ _ (by show n / 17 = (n + 1) / 17; omega)
      have e1 : (iblk m c 3 ⟨n, Nat.lt_of_succ_lt hn⟩ : Vec F S1x4096x128 .f32) = iblk m c 3 ⟨n + 1, hn⟩ := cotangents_sc_same m c _ _ (by show n / 17 = (n + 1) / 17; omega)
      rw [outsAt0_B m c ⟨n + 1, hn⟩ h0, gradK_later, gradV_later]
      unfold sout0_B_0 sout0_B_1
      have e := ih (Nat.lt_of_succ_lt hn)
      show ((gradK (outsAt0 m c n _).2.2.1 (outsAt0 m c n _).2.2.2 _ _ _ _), (gradV (outsAt0 m c n _).2.2.1 (outsAt0 m c n _).2.2.2 _ _), (outsAt0 m c n _).2.2.1, (outsAt0 m c n _).2.2.2) = _
      rw [e, e0, e1]

/-! ## The result arrays -/

/-- The result array at an entry, from the arrays the kernel is given. -/
theorem gradK_at (m : (ℓ : Loc nD τ sig) → Buf (Elt Ideal) ℓ) (c : Dev nD) (h : Fin 8) (r : Fin 4352) (d : Fin 192)
    (queriesA : Vec Ideal S8x4096x192 .f32) (keysA : Vec Ideal S8x4352x192 .f32) (valuesA : Vec Ideal S8x4352x128 .f32) (cotangentsA : Vec Ideal S8x4096x128 .f32) (lsesA : Vec Ideal S8x1x4096 .f32) (corrsA : Vec Ideal S8x1x4096 .f32)
    (e_queries : m ((c : Thread nD τ).loc main_arg0) = queriesA) (e_keys : m ((c : Thread nD τ).loc main_arg1) = keysA) (e_values : m ((c : Thread nD τ).loc main_arg2) = valuesA) (e_cotangents : m ((c : Thread nD τ).loc main_arg3) = cotangentsA) (e_lses : lseArr m c = lsesA) (e_corrs : corrArr m c = corrsA) :
    (G6 m c : Vec Ideal S8x4352x192 .f32) (ix3 h r d) = (∑ x : Fin 4096, Ideal.exp ((∑ y : Fin 192, keysA (ix3 h r y) * queriesA (ix3 h x y)) * Ideal.ofBits FTy.f32 1033096506#32 - lsesA (ix3 h 0 x))
          * ((∑ y : Fin 128, valuesA (ix3 h r y) * cotangentsA (ix3 h x y)) - corrsA (ix3 h 0 x)) * queriesA (ix3 h x d)) * Ideal.ofBits FTy.f32 1033096506#32 := by
  subst e_queries e_keys e_values e_cotangents e_lses e_corrs
  have hr := r.isLt
  have hh := h.isLt
  have hd := d.isLt
  have ept : pt6Of (ix3 h r d : S8x4352x192.Idx) = 17 * h.val + r.val / 256 := by
    show 17 * (h.val / 1 - 0) + 1 * (r.val / 256 - 0) + 1 * (d.val / 192 - 0) = _
    omega
  have hlt : pt6Of (ix3 h r d : S8x4352x192.Idx) < cfg0.N := by rw [ept, show cfg0.N = 136 from N_0]; omega
  have eloc : loc6Of (ix3 h r d : S8x4352x192.Idx) = ix3 0 ⟨r.val % 256, Nat.mod_lt _ (by decide)⟩ d := by
    funext a; apply Fin.ext
    match a with
    | ⟨0, _⟩ => show h.val % 1 = 0; omega
    | ⟨1, _⟩ => rfl
    | ⟨2, _⟩ => show d.val % 192 = d.val; omega
  have ehead : head ⟨pt6Of (ix3 h r d : S8x4352x192.Idx), hlt⟩ = h := Fin.ext (by show pt6Of (ix3 h r d : S8x4352x192.Idx) / 17 = _; rw [ept]; omega)
  have erow : row ⟨pt6Of (ix3 h r d : S8x4352x192.Idx), hlt⟩ ⟨r.val % 256, Nat.mod_lt _ (by decide)⟩ = r :=
    Fin.ext (by show 256 * (pt6Of (ix3 h r d : S8x4352x192.Idx) % 17) + r.val % 256 = _; rw [ept]; omega)
  unfold G6
  rw [dif_pos hlt, ← outsAt0_sweep m c _ hlt, outs, eloc]
  show gradK _ _ _ _ _ _ (ix3 0 ⟨r.val % 256, Nat.mod_lt _ (by decide)⟩ d) = _
  pointwise [gradK, k0_pay1, k0_pay3, k0_pay4, k0_pay5, k0_pay6]
  simp only [queries, keys, values, cotangents, lses, corrs, ehead, erow]

/-- The result array at an entry, from the arrays the kernel is given. -/
theorem gradV_at (m : (ℓ : Loc nD τ sig) → Buf (Elt Ideal) ℓ) (c : Dev nD) (h : Fin 8) (r : Fin 4352) (d : Fin 128)
    (queriesA : Vec Ideal S8x4096x192 .f32) (keysA : Vec Ideal S8x4352x192 .f32) (valuesA : Vec Ideal S8x4352x128 .f32) (cotangentsA : Vec Ideal S8x4096x128 .f32) (lsesA : Vec Ideal S8x1x4096 .f32) (corrsA : Vec Ideal S8x1x4096 .f32)
    (e_queries : m ((c : Thread nD τ).loc main_arg0) = queriesA) (e_keys : m ((c : Thread nD τ).loc main_arg1) = keysA) (e_values : m ((c : Thread nD τ).loc main_arg2) = valuesA) (e_cotangents : m ((c : Thread nD τ).loc main_arg3) = cotangentsA) (e_lses : lseArr m c = lsesA) (e_corrs : corrArr m c = corrsA) :
    (G7 m c : Vec Ideal S8x4352x128 .f32) (ix3 h r d) = ∑ x : Fin 4096, Ideal.exp ((∑ y : Fin 192, keysA (ix3 h r y) * queriesA (ix3 h x y)) * Ideal.ofBits FTy.f32 1033096506#32 - lsesA (ix3 h 0 x)) * cotangentsA (ix3 h x d) := by
  subst e_queries e_keys e_values e_cotangents e_lses e_corrs
  have hr := r.isLt
  have hh := h.isLt
  have hd := d.isLt
  have ept : pt7Of (ix3 h r d : S8x4352x128.Idx) = 17 * h.val + r.val / 256 := by
    show 17 * (h.val / 1 - 0) + 1 * (r.val / 256 - 0) + 1 * (d.val / 128 - 0) = _
    omega
  have hlt : pt7Of (ix3 h r d : S8x4352x128.Idx) < cfg0.N := by rw [ept, show cfg0.N = 136 from N_0]; omega
  have eloc : loc7Of (ix3 h r d : S8x4352x128.Idx) = ix3 0 ⟨r.val % 256, Nat.mod_lt _ (by decide)⟩ d := by
    funext a; apply Fin.ext
    match a with
    | ⟨0, _⟩ => show h.val % 1 = 0; omega
    | ⟨1, _⟩ => rfl
    | ⟨2, _⟩ => show d.val % 128 = d.val; omega
  have ehead : head ⟨pt7Of (ix3 h r d : S8x4352x128.Idx), hlt⟩ = h := Fin.ext (by show pt7Of (ix3 h r d : S8x4352x128.Idx) / 17 = _; rw [ept]; omega)
  have erow : row ⟨pt7Of (ix3 h r d : S8x4352x128.Idx), hlt⟩ ⟨r.val % 256, Nat.mod_lt _ (by decide)⟩ = r :=
    Fin.ext (by show 256 * (pt7Of (ix3 h r d : S8x4352x128.Idx) % 17) + r.val % 256 = _; rw [ept]; omega)
  unfold G7
  rw [dif_pos hlt, ← outsAt0_sweep m c _ hlt, outs, eloc]
  show gradV _ _ _ _ (ix3 0 ⟨r.val % 256, Nat.mod_lt _ (by decide)⟩ d) = _
  pointwise [gradV, k0_pay2, k0_pay3, k0_pay4, k0_pay5]
  simp only [queries, keys, values, cotangents, lses, corrs, ehead, erow]

end Cert.AttnDkvIdeal.Block

end
-- ==== Proof.DkvHost.lean ====
/-
  The arrays the host prepares for the key- and value-gradient kernel: the rows' logarithms of the normaliser are the reference
  forward's, and the corrections are the products of cotangent and output summed along a row, each laid out as a row.
-/
module

public import proofs.«01_k».proof.Proof.DkvBlock
public import proofs.«01_k».proof.Proof.RefFwd

@[expose] public section

noncomputable section

namespace Cert.AttnDkvIdeal.Block

open Cert.AttnDkvIdeal Cert.AttnDkvIdeal.Gen Cert.AttnDkvIdeal.Value Idealize.ShloMosaic Idealize.ShloMosaic.TcCoe Idealize.SL.Sem

variable {F : FTy → Type} [FloatOps F]
variable (m : (ℓ : Loc nD τ sig) → Buf (Elt F) ℓ)

theorem lse_host (c : Dev nD) : lseArr m c = shapeCast S8x1x4096
    (Cert.RefAttnIdeal.Read.val_main_v26 (F := F) (m ((c : Thread nD τ).loc main_arg0)) (m ((c : Thread nD τ).loc main_arg1))) shapeCasts_S8x4096x1_S8x1x4096 := by
  show V m c main_v30 = _
  unfold V
  after_results
  rfl

theorem corr_host (c : Dev nD) : corrArr m c = shapeCast S8x1x4096
    (broadcastInDim S8x4096x1 ![0, 1] bcast_S8x4096_S8x4096x1_0_1
      (Host.reduceAdd (mulf (m ((c : Thread nD τ).loc main_arg3))
          (Cert.RefAttnIdeal.Read.val_main_v14 (F := F) (m ((c : Thread nD τ).loc main_arg0)) (m ((c : Thread nD τ).loc main_arg1)) (m ((c : Thread nD τ).loc main_arg2))))
        (constant S_ .f32 0x00000000#32) reducesTo_S8x4096x128_S8x4096_d2 h_S_)) shapeCasts_S8x4096x1_S8x1x4096 := by
  show V m c main_v31 = _
  unfold V
  after_results
  rfl

/-- A column laid out as a row, read at an entry. -/
theorem row_at (y : Vec Ideal S8x4096x1 .f32) (h : Fin 8) (x : Fin 4096) :
    (shapeCast S8x1x4096 y shapeCasts_S8x4096x1_S8x1x4096 : Vec Ideal S8x1x4096 .f32) (ix3 h 0 x) = y (ix3 h x 0) := by
  pointwise []

/-! ## At finite arguments -/

section Reals
open Cert.Softmax

variable (m : (ℓ : Loc nD τ sig) → Buf (Elt Ideal) ℓ) (c : Dev nD) (q : Queries) (k : Keys) (v : Values) (g : Outputs)
  (hq : m ((c : Thread nD τ).loc main_arg0) = fun i => (q i : EReal)) (hk : m ((c : Thread nD τ).loc main_arg1) = fun i => (k i : EReal))
  (hv : m ((c : Thread nD τ).loc main_arg2) = fun i => (v i : EReal)) (hg : m ((c : Thread nD τ).loc main_arg3) = fun i => (g i : EReal))

include hq hk in
theorem lse_real (h : Fin 8) (x : Fin 4096) : lseArr m c (ix3 h 0 x) = (lse q k h x : EReal) := by
  rw [lse_host, hq, hk, row_at]
  exact Cert.RefAttnIdeal.AtReals.lse_at q k h x

include hq hk hv hg in
theorem corr_real (h : Fin 8) (x : Fin 4096) : corrArr m c (ix3 h 0 x) = (corr q k v g h x : EReal) := by
  rw [corr_host, hq, hk, hv, hg, row_at]
  pointwise []
  simp only [Cert.RefAttnIdeal.AtReals.out_at, ← EReal.coe_mul, coe_sum]
  rfl

/-- The score with its factors exchanged, as the kernel forms it. -/
theorem score_comm (h : Fin 8) (x : Fin 4096) (r : Fin 4352) :
    (∑ y : Fin 192, k (ix3 h r y) * q (ix3 h x y)) * scale = score q k h x r := by
  unfold score
  simp only [mul_comm (k _)]

theorem dweight_comm (h : Fin 8) (x : Fin 4096) (r : Fin 4352) :
    ∑ y : Fin 128, v (ix3 h r y) * g (ix3 h x y) = dweight v g h x r := by
  unfold dweight
  simp only [mul_comm (v _)]

include hq hk hv hg in
theorem gradK_real (h : Fin 8) (r : Fin 4352) (d : Fin 192) :
    (G6 m c : Vec Ideal S8x4352x192 .f32) (ix3 h r d) = (dk q k v g h r d : EReal) := by
  rw [gradK_at m c h r d _ _ _ _ _ _ hq hk hv hg rfl rfl]
  simp only [lse_real m c q k hq hk, corr_real m c q k v g hq hk hv hg]
  simp only [ofBits_scale, ← EReal.coe_mul, coe_sum, ← EReal.coe_sub, Ideal.exp_coe]
  unfold dk dscore
  simp only [score_comm, dweight_comm, exp_lse]

include hq hk hv hg in
theorem gradV_real (h : Fin 8) (r : Fin 4352) (d : Fin 128) :
    (G7 m c : Vec Ideal S8x4352x128 .f32) (ix3 h r d) = (dv q k g h r d : EReal) := by
  rw [gradV_at m c h r d _ _ _ _ _ _ hq hk hv hg rfl rfl]
  simp only [lse_real m c q k hq hk]
  simp only [ofBits_scale, ← EReal.coe_mul, coe_sum, ← EReal.coe_sub, Ideal.exp_coe]
  unfold dv
  simp only [score_comm, exp_lse]

end Reals

end Cert.AttnDkvIdeal.Block

end
-- ==== Proof.FwdBlock.lean ====
/-
  The forward kernel, block by block: what its body leaves in the two output blocks and in the two scratch buffers it
  carries along a head, as the payloads of its stores, and the results as functions of the argument arrays.
-/
module

public import proofs.«01_k».proof.Proof.Gen.AttnIdeal.Value
public import Idealize.ShloMosaic.Lib.Tactic
public import Idealize.ShloMosaic.Lib.Pointwise

@[expose] public section

noncomputable section

namespace Cert.AttnIdeal.Block

open Cert.AttnIdeal Cert.AttnIdeal.Gen Cert.AttnIdeal.Value Idealize.ShloMosaic Idealize.ShloMosaic.TcCoe Idealize.SL.Sem

variable {F : FTy → Type} [FloatOps F]
variable (m : (ℓ : Loc nD τ sig) → Buf (Elt F) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The block of the attention's output. -/
abbrev attend (q : Vec F S1x256x192 .f32) (k : Vec F S4352x192 .bf16) (v : Vec F S4352x128 .bf16) : Vec F S1x256x128 .f32 := k0_pay7 q k v

/-- The block of the rows' logarithms of the normaliser. -/
abbrev normaliser (q : Vec F S1x256x192 .f32) (k : Vec F S4352x192 .bf16) : Vec F S1x256x1 .f32 := k0_pay8 q k

/-- At a head's first block the body stores the head's keys_sc in scratch. -/
theorem keys_sc_first (c : Dev nD) (i : grid0.Coords) (a2 : Memref sig .tc .vmem S1x256x192 .f32) (h2 : a2.IsWhole) (a3 : Memref sig .tc .vmem S1x4352x192 .f32) (h3 : a3.IsWhole) (a4 : Memref sig .tc .vmem S1x4352x128 .f32) (h4 : a4.IsWhole) (a5 : Memref sig .tc .vmem S1x256x128 .f32) (h5 : a5.IsWhole) (a6 : Memref sig .tc .vmem S1x256x1 .f32) (h6 : a6.IsWhole) (a7 : Memref sig .tc .vmem S4352x192 .bf16) (h7 : a7.IsWhole) (a8 : Memref sig .tc .vmem S4352x128 .bf16) (h8 : a8.IsWhole) (hc : cond0_0 i)
    (x0 : Vec F S1x256x192 .f32) (x1 : Vec F S1x4352x192 .f32) (x2 : Vec F S1x4352x128 .f32) : sout0_A_0 c i a2 h2 a3 h3 a4 h4 a5 h5 a6 h6 a7 h7 a8 h8 hc x0 x1 x2 = k0_pay1 x1 := by
  unfold sout0_A_0
  rw [View.read_writes_eq_canon _ _ _ (scover0_A_0 c i a2 h2 a3 h3 a4 h4 a5 h5 a6 h6 a7 h7 a8 h8 hc x0 x1 x2)]
  unfold kernelRun0_A
  dsimp only
  sl_unfold_words
  rw [View.canon_unit_zero zero2]
  simp only [View.readAt_eq_ld, h2.read_unread, h3.read_unread, h4.read_unread, h5.read_unread, h6.read_unread, h7.read_unread, h8.read_unread, View.ld_unit_zero (S := S1x256x192) zero3, View.ld_unit_zero (S := S1x4352x192) zero3, View.ld_unit_zero (S := S1x4352x128) zero3, View.ld_unit_zero (S := S1x256x128) zero3, View.ld_unit_zero (S := S1x256x1) zero3, View.ld_unit_zero (S := S4352x192) zero2, View.ld_unit_zero (S := S4352x128) zero2]

/-- At a head's first block the body stores the head's values_sc in scratch. -/
theorem values_sc_first (c : Dev nD) (i : grid0.Coords) (a2 : Memref sig .tc .vmem S1x256x192 .f32) (h2 : a2.IsWhole) (a3 : Memref sig .tc .vmem S1x4352x192 .f32) (h3 : a3.IsWhole) (a4 : Memref sig .tc .vmem S1x4352x128 .f32) (h4 : a4.IsWhole) (a5 : Memref sig .tc .vmem S1x256x128 .f32) (h5 : a5.IsWhole) (a6 : Memref sig .tc .vmem S1x256x1 .f32) (h6 : a6.IsWhole) (a7 : Memref sig .tc .vmem S4352x192 .bf16) (h7 : a7.IsWhole) (a8 : Memref sig .tc .vmem S4352x128 .bf16) (h8 : a8.IsWhole) (hc : cond0_0 i)
    (x0 : Vec F S1x256x192 .f32) (x1 : Vec F S1x4352x192 .f32) (x2 : Vec F S1x4352x128 .f32) : sout0_A_1 c i a2 h2 a3 h3 a4 h4 a5 h5 a6 h6 a7 h7 a8 h8 hc x0 x1 x2 = k0_pay2 x2 := by
  unfold sout0_A_1
  rw [View.read_writes_eq_canon _ _ _ (scover0_A_1 c i a2 h2 a3 h3 a4 h4 a5 h5 a6 h6 a7 h7 a8 h8 hc x0 x1 x2)]
  unfold kernelRun0_A
  dsimp only
  sl_unfold_words
  rw [View.canon_unit_zero zero2]
  simp only [View.readAt_eq_ld, h2.read_unread, h3.read_unread, h4.read_unread, h5.read_unread, h6.read_unread, h7.read_unread, h8.read_unread, View.ld_unit_zero (S := S1x256x192) zero3, View.ld_unit_zero (S := S1x4352x192) zero3, View.ld_unit_zero (S := S1x4352x128) zero3, View.ld_unit_zero (S := S1x256x128) zero3, View.ld_unit_zero (S := S1x256x1) zero3, View.ld_unit_zero (S := S4352x192) zero2, View.ld_unit_zero (S := S4352x128) zero2]

/-- At a head's first block the body computes from what it has just stored, … -/
theorem attend_first (c : Dev nD) (i : grid0.Coords) (a2 : Memref sig .tc .vmem S1x256x192 .f32) (h2 : a2.IsWhole) (a3 : Memref sig .tc .vmem S1x4352x192 .f32) (h3 : a3.IsWhole) (a4 : Memref sig .tc .vmem S1x4352x128 .f32) (h4 : a4.IsWhole) (a5 : Memref sig .tc .vmem S1x256x128 .f32) (h5 : a5.IsWhole) (a6 : Memref sig .tc .vmem S1x256x1 .f32) (h6 : a6.IsWhole) (a7 : Memref sig .tc .vmem S4352x192 .bf16) (h7 : a7.IsWhole) (a8 : Memref sig .tc .vmem S4352x128 .bf16) (h8 : a8.IsWhole) (hc : cond0_0 i)
    (x0 : Vec F S1x256x192 .f32) (x1 : Vec F S1x4352x192 .f32) (x2 : Vec F S1x4352x128 .f32) : out0_A_3 c i a2 h2 a3 h3 a4 h4 a5 h5 a6 h6 a7 h7 a8 h8 hc x0 x1 x2 = attend x0 (k0_pay1 x1) (k0_pay2 x2) := by
  unfold out0_A_3
  rw [View.read_writes_eq_canon _ _ _ (cover0_A_3 c i a2 h2 a3 h3 a4 h4 a5 h5 a6 h6 a7 h7 a8 h8 hc x0 x1 x2)]
  unfold kernelRun0_A
  dsimp only
  sl_unfold_words
  rw [View.canon_unit_zero zero3]
  simp only [View.readAt_eq_ld, View.readCov_unit_zero (S := S4352x192) _ zero2, View.readCov_unit_zero (S := S4352x128) _ zero2, h2.read_unread, h3.read_unread, h4.read_unread, h5.read_unread, h6.read_unread, h7.read_unread, h8.read_unread,
    View.ld_unit_zero (S := S1x256x192) zero3, View.ld_unit_zero (S := S1x4352x192) zero3, View.ld_unit_zero (S := S1x4352x128) zero3, View.ld_unit_zero (S := S1x256x128) zero3, View.ld_unit_zero (S := S1x256x1) zero3, View.ld_unit_zero (S := S4352x192) zero2, View.ld_unit_zero (S := S4352x128) zero2]

/-- … and at a later block from the scratch. -/
theorem attend_later (c : Dev nD) (i : grid0.Coords) (a2 : Memref sig .tc .vmem S1x256x192 .f32) (h2 : a2.IsWhole) (a3 : Memref sig .tc .vmem S1x4352x192 .f32) (h3 : a3.IsWhole) (a4 : Memref sig .tc .vmem S1x4352x128 .f32) (h4 : a4.IsWhole) (a5 : Memref sig .tc .vmem S1x256x128 .f32) (h5 : a5.IsWhole) (a6 : Memref sig .tc .vmem S1x256x1 .f32) (h6 : a6.IsWhole) (a7 : Memref sig .tc .vmem S4352x192 .bf16) (h7 : a7.IsWhole) (a8 : Memref sig .tc .vmem S4352x128 .bf16) (h8 : a8.IsWhole) (hc : ¬cond0_0 i)
    (x0 : Vec F S1x256x192 .f32) (x1 : Vec F S1x4352x192 .f32) (x2 : Vec F S1x4352x128 .f32) (xs0 : Vec F S4352x192 .bf16) (xs1 : Vec F S4352x128 .bf16) : out0_B_3 c i a2 h2 a3 h3 a4 h4 a5 h5 a6 h6 a7 h7 a8 h8 hc x0 x1 x2 xs0 xs1 = attend x0 xs0 xs1 := by
  unfold out0_B_3
  rw [View.read_writes_eq_canon _ _ _ (cover0_B_3 c i a2 h2 a3 h3 a4 h4 a5 h5 a6 h6 a7 h7 a8 h8 hc x0 x1 x2 xs0 xs1)]
  unfold kernelRun0_B
  dsimp only
  sl_unfold_words
  rw [View.canon_unit_zero zero3]
  simp only [View.readAt_eq_ld, h2.read_unread, h3.read_unread, h4.read_unread, h5.read_unread, h6.read_unread, h7.read_unread, h8.read_unread,
    View.ld_unit_zero (S := S1x256x192) zero3, View.ld_unit_zero (S := S1x4352x192) zero3, View.ld_unit_zero (S := S1x4352x128) zero3, View.ld_unit_zero (S := S1x256x128) zero3, View.ld_unit_zero (S := S1x256x1) zero3, View.ld_unit_zero (S := S4352x192) zero2, View.ld_unit_zero (S := S4352x128) zero2]

/-- At a head's first block the body computes from what it has just stored, … -/
theorem normaliser_first (c : Dev nD) (i : grid0.Coords) (a2 : Memref sig .tc .vmem S1x256x192 .f32) (h2 : a2.IsWhole) (a3 : Memref sig .tc .vmem S1x4352x192 .f32) (h3 : a3.IsWhole) (a4 : Memref sig .tc .vmem S1x4352x128 .f32) (h4 : a4.IsWhole) (a5 : Memref sig .tc .vmem S1x256x128 .f32) (h5 : a5.IsWhole) (a6 : Memref sig .tc .vmem S1x256x1 .f32) (h6 : a6.IsWhole) (a7 : Memref sig .tc .vmem S4352x192 .bf16) (h7 : a7.IsWhole) (a8 : Memref sig .tc .vmem S4352x128 .bf16) (h8 : a8.IsWhole) (hc : cond0_0 i)
    (x0 : Vec F S1x256x192 .f32) (x1 : Vec F S1x4352x192 .f32) (x2 : Vec F S1x4352x128 .f32) : out0_A_4 c i a2 h2 a3 h3 a4 h4 a5 h5 a6 h6 a7 h7 a8 h8 hc x0 x1 x2 = normaliser x0 (k0_pay1 x1) := by
  unfold out0_A_4
  rw [View.read_writes_eq_canon _ _ _ (cover0_A_4 c i a2 h2 a3 h3 a4 h4 a5 h5 a6 h6 a7 h7 a8 h8 hc x0 x1 x2)]
  unfold kernelRun0_A
  dsimp only
  sl_unfold_words
  rw [View.canon_unit_zero zero3]
  simp only [View.readAt_eq_ld, View.readCov_unit_zero (S := S4352x192) _ zero2, View.readCov_unit_zero (S := S4352x128) _ zero2, h2.read_unread, h3.read_unread, h4.read_unread, h5.read_unread, h6.read_unread, h7.read_unread, h8.read_unread,
    View.ld_unit_zero (S := S1x256x192) zero3, View.ld_unit_zero (S := S1x4352x192) zero3, View.ld_unit_zero (S := S1x4352x128) zero3, View.ld_unit_zero (S := S1x256x128) zero3, View.ld_unit_zero (S := S1x256x1) zero3, View.ld_unit_zero (S := S4352x192) zero2, View.ld_unit_zero (S := S4352x128) zero2]

/-- … and at a later block from the scratch. -/
theorem normaliser_later (c : Dev nD) (i : grid0.Coords) (a2 : Memref sig .tc .vmem S1x256x192 .f32) (h2 : a2.IsWhole) (a3 : Memref sig .tc .vmem S1x4352x192 .f32) (h3 : a3.IsWhole) (a4 : Memref sig .tc .vmem S1x4352x128 .f32) (h4 : a4.IsWhole) (a5 : Memref sig .tc .vmem S1x256x128 .f32) (h5 : a5.IsWhole) (a6 : Memref sig .tc .vmem S1x256x1 .f32) (h6 : a6.IsWhole) (a7 : Memref sig .tc .vmem S4352x192 .bf16) (h7 : a7.IsWhole) (a8 : Memref sig .tc .vmem S4352x128 .bf16) (h8 : a8.IsWhole) (hc : ¬cond0_0 i)
    (x0 : Vec F S1x256x192 .f32) (x1 : Vec F S1x4352x192 .f32) (x2 : Vec F S1x4352x128 .f32) (xs0 : Vec F S4352x192 .bf16) (xs1 : Vec F S4352x128 .bf16) : out0_B_4 c i a2 h2 a3 h3 a4 h4 a5 h5 a6 h6 a7 h7 a8 h8 hc x0 x1 x2 xs0 xs1 = normaliser x0 xs0 := by
  unfold out0_B_4
  rw [View.read_writes_eq_canon _ _ _ (cover0_B_4 c i a2 h2 a3 h3 a4 h4 a5 h5 a6 h6 a7 h7 a8 h8 hc x0 x1 x2 xs0 xs1)]
  unfold kernelRun0_B
  dsimp only
  sl_unfold_words
  rw [View.canon_unit_zero zero3]
  simp only [View.readAt_eq_ld, h2.read_unread, h3.read_unread, h4.read_unread, h5.read_unread, h6.read_unread, h7.read_unread, h8.read_unread,
    View.ld_unit_zero (S := S1x256x192) zero3, View.ld_unit_zero (S := S1x4352x192) zero3, View.ld_unit_zero (S := S1x4352x128) zero3, View.ld_unit_zero (S := S1x256x128) zero3, View.ld_unit_zero (S := S1x256x1) zero3, View.ld_unit_zero (S := S4352x192) zero2, View.ld_unit_zero (S := S4352x128) zero2]

/-! ## The blocks the points read -/

/-- A point's head, and the array row of a row of its tile. -/
def head (t : Fin cfg0.N) : Fin 8 := ⟨t.val / 16, by have := lt_of_lt_of_eq t.isLt (show cfg0.N = 128 from N_0); omega⟩
def row (t : Fin cfg0.N) (r : Fin 256) : Fin 4096 := ⟨256 * (t.val % 16) + r.val, by have := r.isLt; omega⟩

theorem at_block0 : ∀ t : Fin grid0.N, win0_0.index t 0 = t.val / 16 ∧ win0_0.index t 1 = t.val % 16 ∧ win0_0.index t 2 = 0 := by decide +kernel
theorem at_block1 : ∀ t : Fin grid0.N, win0_1.index t 0 = t.val / 16 ∧ win0_1.index t 1 = 0 ∧ win0_1.index t 2 = 0 := by decide +kernel
theorem at_block2 : ∀ t : Fin grid0.N, win0_2.index t 0 = t.val / 16 ∧ win0_2.index t 1 = 0 ∧ win0_2.index t 2 = 0 := by decide +kernel

theorem queries (c : Dev nD) (t : Fin cfg0.N) (r : Fin 256) (d : Fin 192) :
    (iblk m c 0 t : Vec F S1x256x192 .f32) (ix3 0 r d) = m ((c : Thread nD τ).loc main_arg0) (ix3 (head t) (row t r) d) := by
  obtain ⟨e0, e1, e2⟩ := at_block0 t
  unfold iblk; rw [View.read_apply]
  show V m c main_arg0 _ = _
  rw [V_main_arg0]
  congr 1; funext a; apply Fin.ext
  match a with
  | ⟨0, _⟩ => show win0_0.index t 0 * 1 + 1 * 0 = t.val / 16; omega
  | ⟨1, _⟩ => show win0_0.index t 1 * 256 + 1 * r.val = 256 * (t.val % 16) + r.val; omega
  | ⟨2, _⟩ => show win0_0.index t 2 * 192 + 1 * d.val = d.val; omega

theorem keys (c : Dev nD) (t : Fin cfg0.N) (r : Fin 4352) (d : Fin 192) :
    (iblk m c 1 t : Vec F S1x4352x192 .f32) (ix3 0 r d) = m ((c : Thread nD τ).loc main_arg1) (ix3 (head t) r d) := by
  obtain ⟨e0, e1, e2⟩ := at_block1 t
  unfold iblk; rw [View.read_apply]
  show V m c main_arg1 _ = _
  rw [V_main_arg1]
  congr 1; funext a; apply Fin.ext
  match a with
  | ⟨0, _⟩ => show win0_1.index t 0 * 1 + 1 * 0 = t.val / 16; omega
  | ⟨1, _⟩ => show win0_1.index t 1 * 4352 + 1 * r.val = r.val; omega
  | ⟨2, _⟩ => show win0_1.index t 2 * 192 + 1 * d.val = d.val; omega

theorem values (c : Dev nD) (t : Fin cfg0.N) (r : Fin 4352) (d : Fin 128) :
    (iblk m c 2 t : Vec F S1x4352x128 .f32) (ix3 0 r d) = m ((c : Thread nD τ).loc main_arg2) (ix3 (head t) r d) := by
  obtain ⟨e0, e1, e2⟩ := at_block2 t
  unfold iblk; rw [View.read_apply]
  show V m c main_arg2 _ = _
  rw [V_main_arg2]
  congr 1; funext a; apply Fin.ext
  match a with
  | ⟨0, _⟩ => show win0_2.index t 0 * 1 + 1 * 0 = t.val / 16; omega
  | ⟨1, _⟩ => show win0_2.index t 1 * 4352 + 1 * r.val = r.val; omega
  | ⟨2, _⟩ => show win0_2.index t 2 * 128 + 1 * d.val = d.val; omega

/-- The points of one head read the same keys_sc. -/
theorem keys_sc_same (c : Dev nD) (t t' : Fin cfg0.N) (h : t.val / 16 = t'.val / 16) :
    (iblk m c 1 t : Vec F S1x4352x192 .f32) = iblk m c 1 t' := by
  have hh : head t = head t' := Fin.ext h
  funext j
  idx_vars j
  obtain rfl : j0 = (0 : Fin 1) := Subsingleton.elim _ _
  rw [keys, keys, hh]

/-- The points of one head read the same values_sc. -/
theorem values_sc_same (c : Dev nD) (t t' : Fin cfg0.N) (h : t.val / 16 = t'.val / 16) :
    (iblk m c 2 t : Vec F S1x4352x128 .f32) = iblk m c 2 t' := by
  have hh : head t = head t' := Fin.ext h
  funext j
  idx_vars j
  obtain rfl : j0 = (0 : Fin 1) := Subsingleton.elim _ _
  rw [values, values, hh]

/-- What the body leaves after point `n`: the output blocks of that point, and the head's scratch. -/
theorem outs (c : Dev nD) : ∀ (n : ℕ) (hn : n < cfg0.N), outsAt0 m c n hn =
    (attend (iblk m c 0 ⟨n, hn⟩) (k0_pay1 (iblk m c 1 ⟨n, hn⟩)) (k0_pay2 (iblk m c 2 ⟨n, hn⟩)), normaliser (iblk m c 0 ⟨n, hn⟩) (k0_pay1 (iblk m c 1 ⟨n, hn⟩)), k0_pay1 (iblk m c 1 ⟨n, hn⟩), k0_pay2 (iblk m c 2 ⟨n, hn⟩)) := by
  intro n
  induction n with
  | zero =>
    intro hn
    rw [outsAt0_A m c ⟨0, hn⟩ rfl, attend_first, normaliser_first, keys_sc_first, values_sc_first]
  | succ n ih =>
    intro hn
    by_cases h0 : (n + 1) % 16 = 0
    · rw [outsAt0_A m c ⟨n + 1, hn⟩ h0, attend_first, normaliser_first, keys_sc_first, values_sc_first]
    ·
      have e0 : (iblk m c 1 ⟨n, Nat.lt_of_succ_lt hn⟩ : Vec F S1x4352x192 .f32) = iblk m c 1 ⟨n + 1, hn⟩ := keys_sc_same m c _ _ (by show n / 16 = (n + 1) / 16; omega)
      have e1 : (iblk m c 2 ⟨n, Nat.lt_of_succ_lt hn⟩ : Vec F S1x4352x128 .f32) = iblk m c 2 ⟨n + 1, hn⟩ := values_sc_same m c _ _ (by show n / 16 = (n + 1) / 16; omega)
      rw [outsAt0_B m c ⟨n + 1, hn⟩ h0, attend_later, normaliser_later]
      unfold sout0_B_0 sout0_B_1
      have e := ih (Nat.lt_of_succ_lt hn)
      show ((attend _ (outsAt0 m c n _).2.2.1 (outsAt0 m c n _).2.2.2), (normaliser _ (outsAt0 m c n _).2.2.1), (outsAt0 m c n _).2.2.1, (outsAt0 m c n _).2.2.2) = _
      rw [e, e0, e1]

/-! ## The result arrays -/

/-- The result array at an entry, from the arrays the kernel is given. -/
theorem attend_at (m : (ℓ : Loc nD τ sig) → Buf (Elt Ideal) ℓ) (c : Dev nD) (h : Fin 8) (r : Fin 4096) (d : Fin 128)
    (queriesA : Vec Ideal S8x4096x192 .f32) (keysA : Vec Ideal S8x4352x192 .f32) (valuesA : Vec Ideal S8x4352x128 .f32)
    (e_queries : m ((c : Thread nD τ).loc main_arg0) = queriesA) (e_keys : m ((c : Thread nD τ).loc main_arg1) = keysA) (e_values : m ((c : Thread nD τ).loc main_arg2) = valuesA) :
    (G3 m c : Vec Ideal S8x4096x128 .f32) (ix3 h r d) = Ideal.div (∑ x : Fin 4352, Ideal.exp ((∑ y : Fin 192, queriesA (ix3 h r y) * keysA (ix3 h x y)) * Ideal.ofBits FTy.f32 1033096506#32 - Finset.fold max (Ideal.ofBits FTy.f32 4286578688#32) (fun x : Fin 4352 => (∑ y : Fin 192, queriesA (ix3 h r y) * keysA (ix3 h x y)) * Ideal.ofBits FTy.f32 1033096506#32) Finset.univ) * valuesA (ix3 h x d)) (∑ x : Fin 4352, Ideal.exp ((∑ y : Fin 192, queriesA (ix3 h r y) * keysA (ix3 h x y)) * Ideal.ofBits FTy.f32 1033096506#32 - Finset.fold max (Ideal.ofBits FTy.f32 4286578688#32) (fun x : Fin 4352 => (∑ y : Fin 192, queriesA (ix3 h r y) * keysA (ix3 h x y)) * Ideal.ofBits FTy.f32 1033096506#32) Finset.univ)) := by
  subst e_queries e_keys e_values
  have hr := r.isLt
  have hh := h.isLt
  have hd := d.isLt
  have ept : pt3Of (ix3 h r d : S8x4096x128.Idx) = 16 * h.val + r.val / 256 := by
    show 16 * (h.val / 1 - 0) + 1 * (r.val / 256 - 0) + 1 * (d.val / 128 - 0) = _
    omega
  have hlt : pt3Of (ix3 h r d : S8x4096x128.Idx) < cfg0.N := by rw [ept, show cfg0.N = 128 from N_0]; omega
  have eloc : loc3Of (ix3 h r d : S8x4096x128.Idx) = ix3 0 ⟨r.val % 256, Nat.mod_lt _ (by decide)⟩ d := by
    funext a; apply Fin.ext
    match a with
    | ⟨0, _⟩ => show h.val % 1 = 0; omega
    | ⟨1, _⟩ => rfl
    | ⟨2, _⟩ => show d.val % 128 = d.val; omega
  have ehead : head ⟨pt3Of (ix3 h r d : S8x4096x128.Idx), hlt⟩ = h := Fin.ext (by show pt3Of (ix3 h r d : S8x4096x128.Idx) / 16 = _; rw [ept]; omega)
  have erow : row ⟨pt3Of (ix3 h r d : S8x4096x128.Idx), hlt⟩ ⟨r.val % 256, Nat.mod_lt _ (by decide)⟩ = r :=
    Fin.ext (by show 256 * (pt3Of (ix3 h r d : S8x4096x128.Idx) % 16) + r.val % 256 = _; rw [ept]; omega)
  unfold G3
  rw [dif_pos hlt, ← outsAt0_sweep m c _ hlt, outs, eloc]
  show attend _ _ _ (ix3 0 ⟨r.val % 256, Nat.mod_lt _ (by decide)⟩ d) = _
  pointwise [attend, k0_pay1, k0_pay2, k0_pay3, k0_pay4, k0_pay5, k0_pay6, k0_pay7]
  simp only [queries, keys, values, ehead, erow]

/-- The result array at an entry, from the arrays the kernel is given. -/
theorem normaliser_at (m : (ℓ : Loc nD τ sig) → Buf (Elt Ideal) ℓ) (c : Dev nD) (h : Fin 8) (r : Fin 4096)
    (queriesA : Vec Ideal S8x4096x192 .f32) (keysA : Vec Ideal S8x4352x192 .f32) (valuesA : Vec Ideal S8x4352x128 .f32)
    (e_queries : m ((c : Thread nD τ).loc main_arg0) = queriesA) (e_keys : m ((c : Thread nD τ).loc main_arg1) = keysA) (e_values : m ((c : Thread nD τ).loc main_arg2) = valuesA) :
    (G4 m c : Vec Ideal S8x4096x1 .f32) (ix3 h r 0) = Finset.fold max (Ideal.ofBits FTy.f32 4286578688#32) (fun x : Fin 4352 => (∑ y : Fin 192, queriesA (ix3 h r y) * keysA (ix3 h x y)) * Ideal.ofBits FTy.f32 1033096506#32) Finset.univ + Ideal.log (∑ x : Fin 4352, Ideal.exp ((∑ y : Fin 192, queriesA (ix3 h r y) * keysA (ix3 h x y)) * Ideal.ofBits FTy.f32 1033096506#32 - Finset.fold max (Ideal.ofBits FTy.f32 4286578688#32) (fun x : Fin 4352 => (∑ y : Fin 192, queriesA (ix3 h r y) * keysA (ix3 h x y)) * Ideal.ofBits FTy.f32 1033096506#32) Finset.univ)) := by
  subst e_queries e_keys e_values
  have hr := r.isLt
  have hh := h.isLt
  have ept : pt4Of (ix3 h r 0 : S8x4096x1.Idx) = 16 * h.val + r.val / 256 := by
    show 16 * (h.val / 1 - 0) + 1 * (r.val / 256 - 0) + 1 * (0 / 1 - 0) = _
    omega
  have hlt : pt4Of (ix3 h r 0 : S8x4096x1.Idx) < cfg0.N := by rw [ept, show cfg0.N = 128 from N_0]; omega
  have eloc : loc4Of (ix3 h r 0 : S8x4096x1.Idx) = ix3 0 ⟨r.val % 256, Nat.mod_lt _ (by decide)⟩ 0 := by
    funext a; apply Fin.ext
    match a with
    | ⟨0, _⟩ => show h.val % 1 = 0; omega
    | ⟨1, _⟩ => rfl
    | ⟨2, _⟩ => show 0 % 1 = 0; omega
  have ehead : head ⟨pt4Of (ix3 h r 0 : S8x4096x1.Idx), hlt⟩ = h := Fin.ext (by show pt4Of (ix3 h r 0 : S8x4096x1.Idx) / 16 = _; rw [ept]; omega)
  have erow : row ⟨pt4Of (ix3 h r 0 : S8x4096x1.Idx), hlt⟩ ⟨r.val % 256, Nat.mod_lt _ (by decide)⟩ = r :=
    Fin.ext (by show 256 * (pt4Of (ix3 h r 0 : S8x4096x1.Idx) % 16) + r.val % 256 = _; rw [ept]; omega)
  unfold G4
  rw [dif_pos hlt, ← outsAt0_sweep m c _ hlt, outs, eloc]
  show normaliser _ _ (ix3 0 ⟨r.val % 256, Nat.mod_lt _ (by decide)⟩ 0) = _
  pointwise [normaliser, k0_pay1, k0_pay3, k0_pay4, k0_pay5, k0_pay6, k0_pay8]
  simp only [queries, keys, values, ehead, erow]

end Cert.AttnIdeal.Block

end
-- ==== Proof.FwdReal.lean ====
/-
  The forward kernel at finite arguments: its two results are the real attention and the real logarithm of the
  normaliser.
-/
module

public import proofs.«01_k».proof.Proof.FwdBlock
public import proofs.«01_k».proof.Proof.Softmax

@[expose] public section

noncomputable section

namespace Cert.AttnIdeal.Block

open Cert.AttnIdeal Cert.AttnIdeal.Gen Cert.AttnIdeal.Value Cert.Softmax Idealize.ShloMosaic Idealize.ShloMosaic.TcCoe Idealize.SL.Sem

variable (m : (ℓ : Loc nD τ sig) → Buf (Elt Ideal) ℓ) (c : Dev nD) (q : Queries) (k : Keys) (v : Values)
  (hq : m ((c : Thread nD τ).loc main_arg0) = fun i => (q i : EReal)) (hk : m ((c : Thread nD τ).loc main_arg1) = fun i => (k i : EReal))
  (hv : m ((c : Thread nD τ).loc main_arg2) = fun i => (v i : EReal))

theorem score_real (h : Fin 8) (r : Fin 4096) (x : Fin 4352) :
    (∑ y : Fin 192, (q (ix3 h r y) : EReal) * (k (ix3 h x y) : EReal)) * Ideal.ofBits FTy.f32 1033096506#32 = (score q k h r x : EReal) := by
  simp only [ofBits_scale, ← EReal.coe_mul, coe_sum]
  rfl

include hq hk hv in
theorem attend_real (h : Fin 8) (r : Fin 4096) (d : Fin 128) :
    (G3 m c : Vec Ideal S8x4096x128 .f32) (ix3 h r d) = (out q k v h r d : EReal) := by
  rw [attend_at m c h r d _ _ _ hq hk hv]
  simp only [score_real]
  rw [ofBits_bot, top_eq]
  rw [← out_eq]
  have hn := (norm_pos q k h r).ne'
  unfold Softmax.norm at hn ⊢
  unfold ex at hn ⊢
  generalize top q k h r = y at hn ⊢
  simp only [← EReal.coe_mul, ← EReal.coe_sub, Ideal.exp_coe, coe_sum]
  exact div_real _ _ hn

include hq hk hv in
theorem normaliser_real (h : Fin 8) (r : Fin 4096) :
    (G4 m c : Vec Ideal S8x4096x1 .f32) (ix3 h r 0) = (lse q k h r : EReal) := by
  rw [normaliser_at m c h r _ _ _ hq hk hv]
  simp only [score_real]
  rw [ofBits_bot, top_eq]
  have hn := norm_pos q k h r
  unfold lse
  unfold Softmax.norm at hn ⊢
  unfold ex at hn ⊢
  generalize top q k h r = y at hn ⊢
  simp only [← EReal.coe_mul, ← EReal.coe_sub, Ideal.exp_coe, coe_sum]
  rw [Ideal.log_coe, if_neg (not_le.2 hn), ← EReal.coe_add]

end Cert.AttnIdeal.Block

end
-- ==== Proof.RefDq.lean ====
/-
  The reference's gradients at finite arguments: every array of the printed reference, read at an entry, is the real
  number `Softmax` names.
-/
module

public import proofs.«01_k».proof.Proof.Gen.RefAttnDqIdeal.Read
public import proofs.«01_k».proof.Proof.Softmax

@[expose] public section

noncomputable section

namespace Cert.RefAttnDqIdeal.AtReals

open Cert.RefAttnDqIdeal Cert.RefAttnDqIdeal.Read Cert.Softmax Idealize.ShloMosaic

variable (q : Queries) (k : Keys) (v : Values) (g : Outputs) (h : Fin 8) (r : Fin 4096) (x : Fin 4352)

theorem score_at : val_main_v2 (F := Ideal) (fun i => (q i : EReal)) (fun i => (k i : EReal)) (ix3 h r x) = (score q k h r x : EReal) := by
  pointwise [val_main_v2, val_main_v1, val_main_v0, val_main_cst]
  simp only [ofBits_scale, ← EReal.coe_mul, coe_sum]
  rfl

theorem max_at : val_main_v3 (F := Ideal) (fun i => (q i : EReal)) (fun i => (k i : EReal)) (ix2 h r) = (top q k h r : EReal) := by
  unfold val_main_v3
  refine (hostMax_last _ _ _ _ h r).trans ?_
  rw [funext fun x => score_at q k h r x]
  rw [← top_eq, ← ofBits_bot]
  rfl

theorem floor_at : val_main_v9 (F := Ideal) (ix2 h r) = ⊥ := by
  pointwise [val_main_v9, val_main_cst_2]
  exact ofBits_bot

theorem top_at : val_main_v10 (F := Ideal) (fun i => (q i : EReal)) (fun i => (k i : EReal)) (ix2 h r) = (top q k h r : EReal) := by
  rw [val_main_v10_apply, max_at, floor_at]
  generalize top q k h r = y
  exact max_eq_right bot_le

theorem shift_at : val_main_v21 (F := Ideal) (fun i => (q i : EReal)) (fun i => (k i : EReal)) (ix3 h r x) = (top q k h r : EReal) := by
  pointwise [val_main_v21, val_main_v20]
  rw [top_at]

theorem ex_at : val_main_v23 (F := Ideal) (fun i => (q i : EReal)) (fun i => (k i : EReal)) (ix3 h r x) = (ex q k h r x : EReal) := by
  rw [val_main_v23_apply, val_main_v22_apply, score_at, shift_at]
  unfold ex
  generalize top q k h r = y
  generalize score q k h r x = z
  show Ideal.exp ((z : EReal) - (y : EReal)) = _
  rw [← EReal.coe_sub, Ideal.exp_coe]

theorem norm_at : val_main_v25 (F := Ideal) (fun i => (q i : EReal)) (fun i => (k i : EReal)) (ix3 h r 0) = (norm q k h r : EReal) := by
  pointwise [val_main_v25, val_main_v24, val_main_cst_8]
  simp only [ex_at, coe_sum]
  rfl

theorem weight_at : val_main_v27 (F := Ideal) (fun i => (q i : EReal)) (fun i => (k i : EReal)) (ix3 h r x) = (weight q k h r x : EReal) := by
  pointwise [val_main_v27, val_main_v26]
  simp only [ex_at, norm_at, div_real _ _ (norm_pos q k h r).ne']
  rfl

theorem dweight_at : val_main_v34 (F := Ideal) (fun i => (v i : EReal)) (fun i => (g i : EReal)) (ix3 h r x) = (dweight v g h r x : EReal) := by
  pointwise [val_main_v34]
  simp only [← EReal.coe_mul, coe_sum]
  rfl

theorem recip_at : val_main_v30 (F := Ideal) (fun i => (q i : EReal)) (fun i => (k i : EReal)) (ix3 h r 0) = ((1 / (norm q k h r * norm q k h r) : ℝ) : EReal) := by
  have hn := (norm_pos q k h r).ne'
  pointwise [val_main_v30, val_main_v29, val_main_v28, val_main_cst_9]
  rw [norm_at, ← EReal.coe_mul, ← EReal.coe_one, div_real _ _ (mul_ne_zero hn hn)]

/-- The sum the quotient rule subtracts. -/
abbrev quot : ℝ := ∑ x, dweight v g h r x * (1 / (norm q k h r * norm q k h r)) * ex q k h r x

theorem term_at : val_main_v37 (F := Ideal) (fun i => (q i : EReal)) (fun i => (k i : EReal)) (fun i => (v i : EReal)) (fun i => (g i : EReal)) (ix3 h r x)
    = ((dweight v g h r x * (1 / (norm q k h r * norm q k h r)) * ex q k h r x : ℝ) : EReal) := by
  pointwise [val_main_v37, val_main_v36, val_main_v35]
  rw [ex_at, recip_at, dweight_at, ← EReal.coe_mul, ← EReal.coe_mul]

theorem quot_at : val_main_v38 (F := Ideal) (fun i => (q i : EReal)) (fun i => (k i : EReal)) (fun i => (v i : EReal)) (fun i => (g i : EReal)) (ix2 h r) = (quot q k v g h r : EReal) := by
  pointwise [val_main_v38, val_main_cst_10]
  simp only [term_at, coe_sum]

theorem minus_at : val_main_v40 (F := Ideal) (fun i => (q i : EReal)) (fun i => (k i : EReal)) (fun i => (v i : EReal)) (fun i => (g i : EReal)) (ix3 h r 0) = ((-quot q k v g h r : ℝ) : EReal) := by
  pointwise [val_main_v40, val_main_v39]
  rw [quot_at, ← EReal.coe_neg]

theorem minus_sum_at : val_main_v43 (F := Ideal) (fun i => (q i : EReal)) (fun i => (k i : EReal)) (fun i => (v i : EReal)) (fun i => (g i : EReal)) (ix2 h r) = ((-quot q k v g h r : ℝ) : EReal) := by
  pointwise [val_main_v43, val_main_cst_11]
  rw [Fin.sum_univ_one]
  exact minus_at q k v g h r

theorem dscore_at : val_main_v46 (F := Ideal) (fun i => (q i : EReal)) (fun i => (k i : EReal)) (fun i => (v i : EReal)) (fun i => (g i : EReal)) (ix3 h r x) = (dscore q k v g h r x : EReal) := by
  have hn := (norm_pos q k h r).ne'
  pointwise [val_main_v46, val_main_v45, val_main_v44, val_main_v42, val_main_v41]
  rw [ex_at, minus_sum_at, norm_at, dweight_at, div_real _ _ hn, ← EReal.coe_add, ← EReal.coe_mul, dscore_quotient]

theorem dq_at (d : Fin 192) : val_main_v50 (F := Ideal) (fun i => (q i : EReal)) (fun i => (k i : EReal)) (fun i => (v i : EReal)) (fun i => (g i : EReal)) (ix3 h r d)
    = (dq q k v g h r d : EReal) := by
  pointwise [val_main_v50, val_main_v48, val_main_v47, val_main_cst_12]
  simp only [dscore_at, ofBits_scale, ← EReal.coe_mul, coe_sum]
  rw [sum_scaled]
  rfl

theorem dk_at (d : Fin 192) : val_main_v49 (F := Ideal) (fun i => (q i : EReal)) (fun i => (k i : EReal)) (fun i => (v i : EReal)) (fun i => (g i : EReal)) (ix3 h x d)
    = (dk q k v g h x d : EReal) := by
  pointwise [val_main_v49, val_main_v48, val_main_v47, val_main_cst_12]
  simp only [dscore_at, ofBits_scale, ← EReal.coe_mul, coe_sum]
  rw [sum_scaled]
  rfl

theorem dv_at (d : Fin 128) : val_main_v33 (F := Ideal) (fun i => (q i : EReal)) (fun i => (k i : EReal)) (fun i => (g i : EReal)) (ix3 h x d)
    = (dv q k g h x d : EReal) := by
  pointwise [val_main_v33, val_main_v32]
  simp only [weight_at, ← EReal.coe_mul, coe_sum]
  congr 1
  exact Finset.sum_congr rfl fun r _ => mul_comm _ _

end Cert.RefAttnDqIdeal.AtReals

end
-- ==== Proof.RefDkv.lean ====
/-
  The reference's key and value gradients at finite arguments: its arrays are those of the query gradient's reference.
-/
module

public import proofs.«01_k».proof.Proof.Gen.RefAttnDkvIdeal.Read
public import proofs.«01_k».proof.Proof.RefDq

@[expose] public section

noncomputable section

namespace Cert.RefAttnDkvIdeal.AtReals

open Cert.RefAttnDkvIdeal Cert.RefAttnDkvIdeal.Read Cert.Softmax Idealize.ShloMosaic

variable (q : Queries) (k : Keys) (v : Values) (g : Outputs) (h : Fin 8) (x : Fin 4352)

theorem dk_at (d : Fin 192) : val_main_v49 (F := Ideal) (fun i => (q i : EReal)) (fun i => (k i : EReal)) (fun i => (v i : EReal)) (fun i => (g i : EReal))
    (ix3 h x d) = (dk q k v g h x d : EReal) :=
  Cert.RefAttnDqIdeal.AtReals.dk_at q k v g h x d

theorem dv_at (d : Fin 128) : val_main_v33 (F := Ideal) (fun i => (q i : EReal)) (fun i => (k i : EReal)) (fun i => (g i : EReal))
    (ix3 h x d) = (dv q k g h x d : EReal) :=
  Cert.RefAttnDqIdeal.AtReals.dv_at q k g h x d

end Cert.RefAttnDkvIdeal.AtReals

end
-- ==== Proof.Agree.lean ====
/-
  The three value claims: at finite arguments the kernels' results and the reference's are the same real numbers.
-/
module

public import proofs.«01_k».proof.Defs
public import proofs.«01_k».proof.Proof.Gen.AttnDq
public import proofs.«01_k».proof.Proof.Gen.AttnDkv
public import proofs.«01_k».proof.Proof.Gen.Attn
public import proofs.«01_k».proof.Proof.Gen.Pre_finite_ct
public import proofs.«01_k».proof.Proof.Gen.Pre_finite
public import proofs.«01_k».proof.Proof.Gen.RefAttnDqIdeal.Run
public import proofs.«01_k».proof.Proof.Gen.RefAttnDkvIdeal.Run
public import proofs.«01_k».proof.Proof.Gen.RefAttnIdeal.Run
public import proofs.«01_k».proof.Proof.Finite
public import proofs.«01_k».proof.Proof.DqHost
public import proofs.«01_k».proof.Proof.DkvHost
public import proofs.«01_k».proof.Proof.FwdReal
public import proofs.«01_k».proof.Proof.RefDkv

@[expose] public section

noncomputable section

namespace Cert.Attention

open Cert.Softmax Idealize.ShloMosaic Idealize.ShloMosaic.TcCoe Idealize.SL.Sem

/-- On every device the argument arrays of `AttnDqIdeal` are arrays of real numbers. -/
theorem AttnDqIdeal_reals (m : (ℓ : Loc Cert.AttnDqIdeal.nD Cert.AttnDqIdeal.τ Cert.AttnDqIdeal.sig) → Buf (Elt Ideal) ℓ) (hpre : Pre_AttnDqIdeal_finite_ct m) (c : Dev Cert.AttnDqIdeal.nD) :
    ∃ (q : Queries) (k : Keys) (v : Values) (g : Outputs), m ((c : Thread Cert.AttnDqIdeal.nD Cert.AttnDqIdeal.τ).loc Cert.AttnDqIdeal.main_arg0) = (fun i => (q i : EReal))
      ∧ m ((c : Thread Cert.AttnDqIdeal.nD Cert.AttnDqIdeal.τ).loc Cert.AttnDqIdeal.main_arg1) = (fun i => (k i : EReal))
      ∧ m ((c : Thread Cert.AttnDqIdeal.nD Cert.AttnDqIdeal.τ).loc Cert.AttnDqIdeal.main_arg2) = (fun i => (v i : EReal))
      ∧ m ((c : Thread Cert.AttnDqIdeal.nD Cert.AttnDqIdeal.τ).loc Cert.AttnDqIdeal.main_arg3) = (fun i => (g i : EReal)) := by
  have h := hpre c
  obtain ⟨q, hq⟩ := Finite.real_array (m ((c : Thread Cert.AttnDqIdeal.nD Cert.AttnDqIdeal.τ).loc Cert.AttnDqIdeal.main_arg0)) _ _ h.1
  obtain ⟨k, hk⟩ := Finite.real_array (m ((c : Thread Cert.AttnDqIdeal.nD Cert.AttnDqIdeal.τ).loc Cert.AttnDqIdeal.main_arg1)) _ _ h.2.1
  obtain ⟨v, hv⟩ := Finite.real_array (m ((c : Thread Cert.AttnDqIdeal.nD Cert.AttnDqIdeal.τ).loc Cert.AttnDqIdeal.main_arg2)) _ _ h.2.2.1
  obtain ⟨g, hg⟩ := Finite.real_array (m ((c : Thread Cert.AttnDqIdeal.nD Cert.AttnDqIdeal.τ).loc Cert.AttnDqIdeal.main_arg3)) _ _ h.2.2.2
  exact ⟨q, k, v, g, hq, hk, hv, hg⟩

/-- On every device the argument arrays of `AttnDkvIdeal` are arrays of real numbers. -/
theorem AttnDkvIdeal_reals (m : (ℓ : Loc Cert.AttnDkvIdeal.nD Cert.AttnDkvIdeal.τ Cert.AttnDkvIdeal.sig) → Buf (Elt Ideal) ℓ) (hpre : Pre_AttnDkvIdeal_finite_ct m) (c : Dev Cert.AttnDkvIdeal.nD) :
    ∃ (q : Queries) (k : Keys) (v : Values) (g : Outputs), m ((c : Thread Cert.AttnDkvIdeal.nD Cert.AttnDkvIdeal.τ).loc Cert.AttnDkvIdeal.main_arg0) = (fun i => (q i : EReal))
      ∧ m ((c : Thread Cert.AttnDkvIdeal.nD Cert.AttnDkvIdeal.τ).loc Cert.AttnDkvIdeal.main_arg1) = (fun i => (k i : EReal))
      ∧ m ((c : Thread Cert.AttnDkvIdeal.nD Cert.AttnDkvIdeal.τ).loc Cert.AttnDkvIdeal.main_arg2) = (fun i => (v i : EReal))
      ∧ m ((c : Thread Cert.AttnDkvIdeal.nD Cert.AttnDkvIdeal.τ).loc Cert.AttnDkvIdeal.main_arg3) = (fun i => (g i : EReal)) := by
  have h := hpre c
  obtain ⟨q, hq⟩ := Finite.real_array (m ((c : Thread Cert.AttnDkvIdeal.nD Cert.AttnDkvIdeal.τ).loc Cert.AttnDkvIdeal.main_arg0)) _ _ h.1
  obtain ⟨k, hk⟩ := Finite.real_array (m ((c : Thread Cert.AttnDkvIdeal.nD Cert.AttnDkvIdeal.τ).loc Cert.AttnDkvIdeal.main_arg1)) _ _ h.2.1
  obtain ⟨v, hv⟩ := Finite.real_array (m ((c : Thread Cert.AttnDkvIdeal.nD Cert.AttnDkvIdeal.τ).loc Cert.AttnDkvIdeal.main_arg2)) _ _ h.2.2.1
  obtain ⟨g, hg⟩ := Finite.real_array (m ((c : Thread Cert.AttnDkvIdeal.nD Cert.AttnDkvIdeal.τ).loc Cert.AttnDkvIdeal.main_arg3)) _ _ h.2.2.2
  exact ⟨q, k, v, g, hq, hk, hv, hg⟩

/-- On every device the argument arrays of `AttnIdeal` are arrays of real numbers. -/
theorem AttnIdeal_reals (m : (ℓ : Loc Cert.AttnIdeal.nD Cert.AttnIdeal.τ Cert.AttnIdeal.sig) → Buf (Elt Ideal) ℓ) (hpre : Pre_AttnIdeal_finite m) (c : Dev Cert.AttnIdeal.nD) :
    ∃ (q : Queries) (k : Keys) (v : Values), m ((c : Thread Cert.AttnIdeal.nD Cert.AttnIdeal.τ).loc Cert.AttnIdeal.main_arg0) = (fun i => (q i : EReal))
      ∧ m ((c : Thread Cert.AttnIdeal.nD Cert.AttnIdeal.τ).loc Cert.AttnIdeal.main_arg1) = (fun i => (k i : EReal))
      ∧ m ((c : Thread Cert.AttnIdeal.nD Cert.AttnIdeal.τ).loc Cert.AttnIdeal.main_arg2) = (fun i => (v i : EReal)) := by
  have h := hpre c
  obtain ⟨q, hq⟩ := Finite.real_array (m ((c : Thread Cert.AttnIdeal.nD Cert.AttnIdeal.τ).loc Cert.AttnIdeal.main_arg0)) _ _ h.1
  obtain ⟨k, hk⟩ := Finite.real_array (m ((c : Thread Cert.AttnIdeal.nD Cert.AttnIdeal.τ).loc Cert.AttnIdeal.main_arg1)) _ _ h.2.1
  obtain ⟨v, hv⟩ := Finite.real_array (m ((c : Thread Cert.AttnIdeal.nD Cert.AttnIdeal.τ).loc Cert.AttnIdeal.main_arg2)) _ _ h.2.2
  exact ⟨q, k, v, hq, hk, hv⟩

theorem queryGradient : algebraic_AttnDqIdeal_RefAttnDqIdeal_pre_finite_ct := by
  intro m ρ m' ρ' hpre hagree
  refine ⟨_, Cert.AttnDqIdeal.Value.run (F := Ideal) m ρ, ?_⟩
  refine (θ_run Cert.RefAttnDqIdeal.defs _ _).mono (fun _ h c => ⟨?_, (h c).2⟩) (Cert.RefAttnDqIdeal.Value.run (F := Ideal) m' ρ')
  obtain ⟨q, k, v, g, hq, hk, hv, hg⟩ := AttnDqIdeal_reals m hpre c
  rw [(h c).1, Cert.RefAttnDqIdeal.Read.val_main_v50_eq, (hagree c).1, (hagree c).2.1, (hagree c).2.2.1, (hagree c).2.2.2, hq, hk, hv, hg]
  funext j
  idx_vars j
  exact (Cert.RefAttnDqIdeal.AtReals.dq_at q k v g j0 j1 j2).trans (Cert.AttnDqIdeal.Block.result_real m c q k v g hq hk hv hg j0 j1 j2).symm

theorem keyValueGradient : algebraic_AttnDkvIdeal_RefAttnDkvIdeal_pre_finite_ct := by
  intro m ρ m' ρ' hpre hagree
  refine ⟨_, _, Cert.AttnDkvIdeal.Value.run (F := Ideal) m ρ, ?_⟩
  refine (θ_run Cert.RefAttnDkvIdeal.defs _ _).mono (fun _ h c => ⟨?_, ?_, (h c).2.2⟩) (Cert.RefAttnDkvIdeal.Value.run (F := Ideal) m' ρ')
  · obtain ⟨q, k, v, g, hq, hk, hv, hg⟩ := AttnDkvIdeal_reals m hpre c
    rw [(h c).1, Cert.RefAttnDkvIdeal.Read.val_main_v49_eq, (hagree c).1, (hagree c).2.1, (hagree c).2.2.1, (hagree c).2.2.2, hq, hk, hv, hg]
    funext j
    idx_vars j
    exact (Cert.RefAttnDkvIdeal.AtReals.dk_at q k v g j0 j1 j2).trans (Cert.AttnDkvIdeal.Block.gradK_real m c q k v g hq hk hv hg j0 j1 j2).symm
  · obtain ⟨q, k, v, g, hq, hk, hv, hg⟩ := AttnDkvIdeal_reals m hpre c
    rw [(h c).2.1, Cert.RefAttnDkvIdeal.Read.val_main_v33_eq, (hagree c).1, (hagree c).2.1, (hagree c).2.2.2, hq, hk, hg]
    funext j
    idx_vars j
    exact (Cert.RefAttnDkvIdeal.AtReals.dv_at q k g j0 j1 j2).trans (Cert.AttnDkvIdeal.Block.gradV_real m c q k v g hq hk hv hg j0 j1 j2).symm

theorem forward : algebraic_AttnIdeal_RefAttnIdeal_pre_finite := by
  intro m ρ m' ρ' hpre hagree
  refine ⟨_, _, Cert.AttnIdeal.Value.run (F := Ideal) m ρ, ?_⟩
  refine (θ_run Cert.RefAttnIdeal.defs _ _).mono (fun _ h c => ⟨?_, ?_, (h c).2.2⟩) (Cert.RefAttnIdeal.Value.run (F := Ideal) m' ρ')
  · obtain ⟨q, k, v, hq, hk, hv⟩ := AttnIdeal_reals m hpre c
    rw [(h c).1, Cert.RefAttnIdeal.Read.val_main_v14_eq, (hagree c).1, (hagree c).2.1, (hagree c).2.2, hq, hk, hv]
    funext j
    idx_vars j
    exact (Cert.RefAttnIdeal.AtReals.out_at q k v j0 j1 j2).trans (Cert.AttnIdeal.Block.attend_real m c q k v hq hk hv j0 j1 j2).symm
  · obtain ⟨q, k, v, hq, hk, hv⟩ := AttnIdeal_reals m hpre c
    rw [(h c).2.1, Cert.RefAttnIdeal.Read.val_main_v26_eq, (hagree c).1, (hagree c).2.1, hq, hk]
    funext j
    idx_vars j
    obtain rfl : j2 = 0 := Subsingleton.elim _ _
    exact (Cert.RefAttnIdeal.AtReals.lse_at q k j0 j1).trans (Cert.AttnIdeal.Block.normaliser_real m c q k v hq hk hv j0 j1).symm

end Cert.Attention

end
-- ==== Proof.lean ====
module

public import proofs.«01_k».proof.Defs
public import proofs.«01_k».proof.Proof.Gen.AttnDqIdeal.Value
public import proofs.«01_k».proof.Proof.Gen.RefAttnDqIdeal.Run
public import proofs.«01_k».proof.Proof.Gen.RefAttnDqIdeal.Read
public import proofs.«01_k».proof.Proof.Gen.AttnDkvIdeal.Value
public import proofs.«01_k».proof.Proof.Gen.RefAttnDkvIdeal.Run
public import proofs.«01_k».proof.Proof.Gen.RefAttnDkvIdeal.Read
public import proofs.«01_k».proof.Proof.Gen.AttnIdeal.Value
public import proofs.«01_k».proof.Proof.Gen.RefAttnIdeal.Run
public import proofs.«01_k».proof.Proof.Gen.RefAttnIdeal.Read
public import proofs.«01_k».proof.Proof.Gen.AttnDq
public import proofs.«01_k».proof.Proof.Gen.AttnDq.Skeleton
public import proofs.«01_k».proof.Proof.Gen.AttnDq.Launch
public import proofs.«01_k».proof.Proof.Gen.AttnDq.Points
public import proofs.«01_k».proof.Proof.Gen.AttnDq.Frame
public import proofs.«01_k».proof.Proof.Gen.AttnDqIdeal
public import proofs.«01_k».proof.Proof.Gen.AttnDqIdeal.Skeleton
public import proofs.«01_k».proof.Proof.Gen.AttnDqIdeal.Launch
public import proofs.«01_k».proof.Proof.Gen.AttnDqIdeal.Points
public import proofs.«01_k».proof.Proof.Gen.AttnDqIdeal.Frame
public import proofs.«01_k».proof.Proof.Gen.RefAttnDqIdeal
public import proofs.«01_k».proof.Proof.Gen.AttnDkv
public import proofs.«01_k».proof.Proof.Gen.AttnDkv.Skeleton
public import proofs.«01_k».proof.Proof.Gen.AttnDkv.Launch
public import proofs.«01_k».proof.Proof.Gen.AttnDkv.Points
public import proofs.«01_k».proof.Proof.Gen.AttnDkv.Frame
public import proofs.«01_k».proof.Proof.Gen.AttnDkvIdeal
public import proofs.«01_k».proof.Proof.Gen.AttnDkvIdeal.Skeleton
public import proofs.«01_k».proof.Proof.Gen.AttnDkvIdeal.Launch
public import proofs.«01_k».proof.Proof.Gen.AttnDkvIdeal.Points
public import proofs.«01_k».proof.Proof.Gen.AttnDkvIdeal.Frame
public import proofs.«01_k».proof.Proof.Gen.RefAttnDkvIdeal
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.RefAttnIdeal
public import proofs.«01_k».proof.Proof.Gen.Pre_finite_ct
public import proofs.«01_k».proof.Proof.Gen.Pre_finite
public import proofs.«01_k».proof.Proof.Gen.InWgrad.Frame
public import proofs.«01_k».proof.Proof.Gen.InDgrad.Frame
public import proofs.«01_k».proof.Proof.Gen.UpWgrad.Frame
public import proofs.«01_k».proof.Proof.Gen.UpDgrad.Frame
public import proofs.«01_k».proof.Proof.Gen.DownWgrad.Frame
public import proofs.«01_k».proof.Proof.Gen.DownDgrad.Frame
public import proofs.«01_k».proof.Proof.Gen.DownFwd.Frame
public import proofs.«01_k».proof.Proof.Gen.BranchWgrad.Frame
public import proofs.«01_k».proof.Proof.Gen.BranchDgrad.Frame
public import proofs.«01_k».proof.Proof.Gen.OutWgrad.Frame
public import proofs.«01_k».proof.Proof.Gen.OutDgrad.Frame
public import proofs.«01_k».proof.Proof.Gen.GateDgrad.Frame
public import proofs.«01_k».proof.Proof.Gen.GateDgradIdeal.Value
public import proofs.«01_k».proof.Proof.Gen.RefGateDgradIdeal.Run
public import proofs.«01_k».proof.Proof.Gen.RefGateDgradIdeal.Read
public import proofs.«01_k».proof.Proof.Gen.GateWgrad.Frame
public import proofs.«01_k».proof.Proof.Gen.GateWgradIdeal.Value
public import proofs.«01_k».proof.Proof.Gen.RefGateWgradIdeal.Run
public import proofs.«01_k».proof.Proof.Gen.RefGateWgradIdeal.Read
public import proofs.«01_k».proof.Proof.Gen.GateFwd.Frame
public import proofs.«01_k».proof.Proof.Gen.GateFwdIdeal.Value
public import proofs.«01_k».proof.Proof.Gen.RefGateFwdIdeal.Run
public import proofs.«01_k».proof.Proof.Gen.RefGateFwdIdeal.Read
public import proofs.«01_k».proof.Proof.Gen.NormFwd.Frame
public import proofs.«01_k».proof.Proof.Gen.NormFwdIdeal.Value
public import proofs.«01_k».proof.Proof.Gen.RefNormFwdIdeal.Run
public import proofs.«01_k».proof.Proof.Gen.RefNormFwdIdeal.Read
public import proofs.«01_k».proof.Proof.Gen.ModFwd.Frame
public import proofs.«01_k».proof.Proof.Gen.ModFwdIdeal.Value
public import proofs.«01_k».proof.Proof.Gen.RefModFwdIdeal.Run
public import proofs.«01_k».proof.Proof.Gen.RefModFwdIdeal.Read
public import proofs.«01_k».proof.Proof.Gen.NormBwd.Frame
public import proofs.«01_k».proof.Proof.Gen.NormBwdIdeal.Value
public import proofs.«01_k».proof.Proof.Gen.RefNormBwdIdeal.Run
public import proofs.«01_k».proof.Proof.Gen.RefNormBwdIdeal.Read
public import proofs.«01_k».proof.Proof.InFwd
public import proofs.«01_k».proof.Proof.UpFwd
public import proofs.«01_k».proof.Proof.BranchFwd
public import proofs.«01_k».proof.Proof.OutFwd
public import proofs.«01_k».proof.Proof.Products
public import proofs.«01_k».proof.Proof.Agree
public import Idealize.ShloMosaic.Lib.Quiescent
public import Idealize.ShloMosaic.Lib.Tactic.ValueTie
public import Idealize.ShloMosaic.Adequacy
public import Idealize.ShloMosaic.Init

@[expose] public section

noncomputable section

namespace Cert.Proof

open Idealize.ShloMosaic Idealize.SL.Sem

theorem frame_AttnDq : quiescent_AttnDq := fun m ρ _ => Cert.AttnDq.Gen.frame m ρ

theorem frame_AttnDqIdeal : quiescent_AttnDqIdeal := fun m ρ _ => Cert.AttnDqIdeal.Gen.frame m ρ

theorem frame_AttnDqIdeal_finite : quiescent_AttnDqIdeal_pre_finite_ct := fun m ρ _ => Cert.AttnDqIdeal.Gen.frame m ρ

theorem frame_RefAttnDqIdeal : quiescent_RefAttnDqIdeal := fun m ρ _ =>
  (θ_run Cert.RefAttnDqIdeal.defs _ _).mono (fun r h => ⟨fun c => (h c).2, sem_eq_zero_of_no_sems (by decide) r.2⟩)
    (Cert.RefAttnDqIdeal.Value.run (F := Ideal) m ρ)

theorem frame_RefAttnDqIdeal_finite : quiescent_RefAttnDqIdeal_pre_finite_ct := fun m ρ _ => frame_RefAttnDqIdeal m ρ trivial

theorem frame_AttnDkv : quiescent_AttnDkv := fun m ρ _ => Cert.AttnDkv.Gen.frame m ρ

theorem frame_AttnDkvIdeal : quiescent_AttnDkvIdeal := fun m ρ _ => Cert.AttnDkvIdeal.Gen.frame m ρ

theorem frame_AttnDkvIdeal_finite : quiescent_AttnDkvIdeal_pre_finite_ct := fun m ρ _ => Cert.AttnDkvIdeal.Gen.frame m ρ

theorem frame_RefAttnDkvIdeal : quiescent_RefAttnDkvIdeal := fun m ρ _ =>
  (θ_run Cert.RefAttnDkvIdeal.defs _ _).mono (fun r h => ⟨fun c => (h c).2.2, sem_eq_zero_of_no_sems (by decide) r.2⟩)
    (Cert.RefAttnDkvIdeal.Value.run (F := Ideal) m ρ)

theorem frame_RefAttnDkvIdeal_finite : quiescent_RefAttnDkvIdeal_pre_finite_ct := fun m ρ _ => frame_RefAttnDkvIdeal m ρ trivial

theorem frame_Attn : quiescent_Attn := fun m ρ _ => Cert.Attn.Gen.frame m ρ

theorem frame_AttnIdeal : quiescent_AttnIdeal := fun m ρ _ => Cert.AttnIdeal.Gen.frame m ρ

theorem frame_AttnIdeal_finite : quiescent_AttnIdeal_pre_finite := fun m ρ _ => Cert.AttnIdeal.Gen.frame m ρ

theorem frame_RefAttnIdeal : quiescent_RefAttnIdeal := fun m ρ _ =>
  (θ_run Cert.RefAttnIdeal.defs _ _).mono (fun r h => ⟨fun c => (h c).2.2, sem_eq_zero_of_no_sems (by decide) r.2⟩)
    (Cert.RefAttnIdeal.Value.run (F := Ideal) m ρ)

theorem frame_RefAttnIdeal_finite : quiescent_RefAttnIdeal_pre_finite := fun m ρ _ => frame_RefAttnIdeal m ρ trivial

theorem frame_InFwd : quiescent_InFwd := fun m ρ _ => Cert.InFwd.Block.frame m ρ

theorem frame_InFwdIdeal : quiescent_InFwdIdeal := fun m ρ _ => Cert.InFwdIdeal.Block.frame m ρ

theorem frame_RefInFwdIdeal : quiescent_RefInFwdIdeal := fun m ρ _ =>
  (θ_run Cert.RefInFwdIdeal.defs _ _).mono (fun r h => ⟨fun c => (h c).2.2, sem_eq_zero_of_no_sems (by decide) r.2⟩)
    (Cert.RefInFwdIdeal.Value.run (F := Ideal) m ρ)

theorem frame_UpFwd : quiescent_UpFwd := fun m ρ _ => Cert.UpFwd.Block.frame m ρ

theorem frame_UpFwdIdeal : quiescent_UpFwdIdeal := fun m ρ _ => Cert.UpFwdIdeal.Block.frame m ρ

theorem frame_RefUpFwdIdeal : quiescent_RefUpFwdIdeal := fun m ρ _ =>
  (θ_run Cert.RefUpFwdIdeal.defs _ _).mono (fun r h => ⟨fun c => (h c).2.2, sem_eq_zero_of_no_sems (by decide) r.2⟩)
    (Cert.RefUpFwdIdeal.Value.run (F := Ideal) m ρ)

theorem frame_BranchFwd : quiescent_BranchFwd := fun m ρ _ => Cert.BranchFwd.Block.frame m ρ

theorem frame_BranchFwdIdeal : quiescent_BranchFwdIdeal := fun m ρ _ => Cert.BranchFwdIdeal.Block.frame m ρ

theorem frame_RefBranchFwdIdeal : quiescent_RefBranchFwdIdeal := fun m ρ _ =>
  (θ_run Cert.RefBranchFwdIdeal.defs _ _).mono (fun r h => ⟨fun c => (h c).2.2, sem_eq_zero_of_no_sems (by decide) r.2⟩)
    (Cert.RefBranchFwdIdeal.Value.run (F := Ideal) m ρ)

theorem frame_OutFwd : quiescent_OutFwd := fun m ρ _ => Cert.OutFwd.Block.frame m ρ

theorem frame_OutFwdIdeal : quiescent_OutFwdIdeal := fun m ρ _ => Cert.OutFwdIdeal.Block.frame m ρ

theorem frame_RefOutFwdIdeal : quiescent_RefOutFwdIdeal := fun m ρ _ =>
  (θ_run Cert.RefOutFwdIdeal.defs _ _).mono (fun r h => ⟨fun c => (h c).2.2, sem_eq_zero_of_no_sems (by decide) r.2⟩)
    (Cert.RefOutFwdIdeal.Value.run (F := Ideal) m ρ)

theorem frame_InWgrad : quiescent_InWgrad := fun m ρ _ => Cert.InWgrad.Gen.frame m ρ

theorem frame_InWgradIdeal : quiescent_InWgradIdeal := fun m ρ _ => Cert.InWgradIdeal.Gen.frame m ρ

theorem frame_RefInWgradIdeal : quiescent_RefInWgradIdeal := fun m ρ _ =>
  (θ_run Cert.RefInWgradIdeal.defs _ _).mono (fun r h => ⟨fun c => (h c).2, sem_eq_zero_of_no_sems (by decide) r.2⟩)
    (Cert.RefInWgradIdeal.Value.run (F := Ideal) m ρ)

theorem frame_InDgrad : quiescent_InDgrad := fun m ρ _ => Cert.InDgrad.Gen.frame m ρ

theorem frame_InDgradIdeal : quiescent_InDgradIdeal := fun m ρ _ => Cert.InDgradIdeal.Gen.frame m ρ

theorem frame_RefInDgradIdeal : quiescent_RefInDgradIdeal := fun m ρ _ =>
  (θ_run Cert.RefInDgradIdeal.defs _ _).mono (fun r h => ⟨fun c => (h c).2, sem_eq_zero_of_no_sems (by decide) r.2⟩)
    (Cert.RefInDgradIdeal.Value.run (F := Ideal) m ρ)

theorem frame_UpWgrad : quiescent_UpWgrad := fun m ρ _ => Cert.UpWgrad.Gen.frame m ρ

theorem frame_UpWgradIdeal : quiescent_UpWgradIdeal := fun m ρ _ => Cert.UpWgradIdeal.Gen.frame m ρ

theorem frame_RefUpWgradIdeal : quiescent_RefUpWgradIdeal := fun m ρ _ =>
  (θ_run Cert.RefUpWgradIdeal.defs _ _).mono (fun r h => ⟨fun c => (h c).2, sem_eq_zero_of_no_sems (by decide) r.2⟩)
    (Cert.RefUpWgradIdeal.Value.run (F := Ideal) m ρ)

theorem frame_UpDgrad : quiescent_UpDgrad := fun m ρ _ => Cert.UpDgrad.Gen.frame m ρ

theorem frame_UpDgradIdeal : quiescent_UpDgradIdeal := fun m ρ _ => Cert.UpDgradIdeal.Gen.frame m ρ

theorem frame_RefUpDgradIdeal : quiescent_RefUpDgradIdeal := fun m ρ _ =>
  (θ_run Cert.RefUpDgradIdeal.defs _ _).mono (fun r h => ⟨fun c => (h c).2, sem_eq_zero_of_no_sems (by decide) r.2⟩)
    (Cert.RefUpDgradIdeal.Value.run (F := Ideal) m ρ)

theorem frame_DownWgrad : quiescent_DownWgrad := fun m ρ _ => Cert.DownWgrad.Gen.frame m ρ

theorem frame_DownWgradIdeal : quiescent_DownWgradIdeal := fun m ρ _ => Cert.DownWgradIdeal.Gen.frame m ρ

theorem frame_RefDownWgradIdeal : quiescent_RefDownWgradIdeal := fun m ρ _ =>
  (θ_run Cert.RefDownWgradIdeal.defs _ _).mono (fun r h => ⟨fun c => (h c).2, sem_eq_zero_of_no_sems (by decide) r.2⟩)
    (Cert.RefDownWgradIdeal.Value.run (F := Ideal) m ρ)

theorem frame_DownDgrad : quiescent_DownDgrad := fun m ρ _ => Cert.DownDgrad.Gen.frame m ρ

theorem frame_DownDgradIdeal : quiescent_DownDgradIdeal := fun m ρ _ => Cert.DownDgradIdeal.Gen.frame m ρ

theorem frame_RefDownDgradIdeal : quiescent_RefDownDgradIdeal := fun m ρ _ =>
  (θ_run Cert.RefDownDgradIdeal.defs _ _).mono (fun r h => ⟨fun c => (h c).2, sem_eq_zero_of_no_sems (by decide) r.2⟩)
    (Cert.RefDownDgradIdeal.Value.run (F := Ideal) m ρ)

theorem frame_DownFwd : quiescent_DownFwd := fun m ρ _ => Cert.DownFwd.Gen.frame m ρ

theorem frame_DownFwdIdeal : quiescent_DownFwdIdeal := fun m ρ _ => Cert.DownFwdIdeal.Gen.frame m ρ

theorem frame_RefDownFwdIdeal : quiescent_RefDownFwdIdeal := fun m ρ _ =>
  (θ_run Cert.RefDownFwdIdeal.defs _ _).mono (fun r h => ⟨fun c => (h c).2, sem_eq_zero_of_no_sems (by decide) r.2⟩)
    (Cert.RefDownFwdIdeal.Value.run (F := Ideal) m ρ)

theorem frame_BranchWgrad : quiescent_BranchWgrad := fun m ρ _ => Cert.BranchWgrad.Gen.frame m ρ

theorem frame_BranchWgradIdeal : quiescent_BranchWgradIdeal := fun m ρ _ => Cert.BranchWgradIdeal.Gen.frame m ρ

theorem frame_RefBranchWgradIdeal : quiescent_RefBranchWgradIdeal := fun m ρ _ =>
  (θ_run Cert.RefBranchWgradIdeal.defs _ _).mono (fun r h => ⟨fun c => (h c).2, sem_eq_zero_of_no_sems (by decide) r.2⟩)
    (Cert.RefBranchWgradIdeal.Value.run (F := Ideal) m ρ)

theorem frame_BranchDgrad : quiescent_BranchDgrad := fun m ρ _ => Cert.BranchDgrad.Gen.frame m ρ

theorem frame_BranchDgradIdeal : quiescent_BranchDgradIdeal := fun m ρ _ => Cert.BranchDgradIdeal.Gen.frame m ρ

theorem frame_RefBranchDgradIdeal : quiescent_RefBranchDgradIdeal := fun m ρ _ =>
  (θ_run Cert.RefBranchDgradIdeal.defs _ _).mono (fun r h => ⟨fun c => (h c).2, sem_eq_zero_of_no_sems (by decide) r.2⟩)
    (Cert.RefBranchDgradIdeal.Value.run (F := Ideal) m ρ)

theorem frame_OutWgrad : quiescent_OutWgrad := fun m ρ _ => Cert.OutWgrad.Gen.frame m ρ

theorem frame_OutWgradIdeal : quiescent_OutWgradIdeal := fun m ρ _ => Cert.OutWgradIdeal.Gen.frame m ρ

theorem frame_RefOutWgradIdeal : quiescent_RefOutWgradIdeal := fun m ρ _ =>
  (θ_run Cert.RefOutWgradIdeal.defs _ _).mono (fun r h => ⟨fun c => (h c).2, sem_eq_zero_of_no_sems (by decide) r.2⟩)
    (Cert.RefOutWgradIdeal.Value.run (F := Ideal) m ρ)

theorem frame_OutDgrad : quiescent_OutDgrad := fun m ρ _ => Cert.OutDgrad.Gen.frame m ρ

theorem frame_OutDgradIdeal : quiescent_OutDgradIdeal := fun m ρ _ => Cert.OutDgradIdeal.Gen.frame m ρ

theorem frame_RefOutDgradIdeal : quiescent_RefOutDgradIdeal := fun m ρ _ =>
  (θ_run Cert.RefOutDgradIdeal.defs _ _).mono (fun r h => ⟨fun c => (h c).2, sem_eq_zero_of_no_sems (by decide) r.2⟩)
    (Cert.RefOutDgradIdeal.Value.run (F := Ideal) m ρ)

theorem frame_GateDgrad : quiescent_GateDgrad := fun m ρ _ => Cert.GateDgrad.Gen.frame m ρ

theorem frame_GateDgradIdeal : quiescent_GateDgradIdeal := fun m ρ _ => Cert.GateDgradIdeal.Gen.frame m ρ

theorem frame_RefGateDgradIdeal : quiescent_RefGateDgradIdeal := fun m ρ _ =>
  (θ_run Cert.RefGateDgradIdeal.defs _ _).mono (fun r h => ⟨fun c => (h c).2, sem_eq_zero_of_no_sems (by decide) r.2⟩)
    (Cert.RefGateDgradIdeal.Value.run (F := Ideal) m ρ)

theorem frame_GateWgrad : quiescent_GateWgrad := fun m ρ _ => Cert.GateWgrad.Gen.frame m ρ

theorem frame_GateWgradIdeal : quiescent_GateWgradIdeal := fun m ρ _ => Cert.GateWgradIdeal.Gen.frame m ρ

theorem frame_RefGateWgradIdeal : quiescent_RefGateWgradIdeal := fun m ρ _ =>
  (θ_run Cert.RefGateWgradIdeal.defs _ _).mono (fun r h => ⟨fun c => (h c).2, sem_eq_zero_of_no_sems (by decide) r.2⟩)
    (Cert.RefGateWgradIdeal.Value.run (F := Ideal) m ρ)

theorem frame_GateFwd : quiescent_GateFwd := fun m ρ _ => Cert.GateFwd.Gen.frame m ρ

theorem frame_GateFwdIdeal : quiescent_GateFwdIdeal := fun m ρ _ => Cert.GateFwdIdeal.Gen.frame m ρ

theorem frame_RefGateFwdIdeal : quiescent_RefGateFwdIdeal := fun m ρ _ =>
  (θ_run Cert.RefGateFwdIdeal.defs _ _).mono (fun r h => ⟨fun c => (h c).2, sem_eq_zero_of_no_sems (by decide) r.2⟩)
    (Cert.RefGateFwdIdeal.Value.run (F := Ideal) m ρ)

theorem frame_NormFwd : quiescent_NormFwd := fun m ρ _ => Cert.NormFwd.Gen.frame m ρ

theorem frame_NormFwdIdeal : quiescent_NormFwdIdeal := fun m ρ _ => Cert.NormFwdIdeal.Gen.frame m ρ

theorem frame_RefNormFwdIdeal : quiescent_RefNormFwdIdeal := fun m ρ _ =>
  (θ_run Cert.RefNormFwdIdeal.defs _ _).mono (fun r h => ⟨fun c => (h c).2, sem_eq_zero_of_no_sems (by decide) r.2⟩)
    (Cert.RefNormFwdIdeal.Value.run (F := Ideal) m ρ)

theorem frame_ModFwd : quiescent_ModFwd := fun m ρ _ => Cert.ModFwd.Gen.frame m ρ

theorem frame_ModFwdIdeal : quiescent_ModFwdIdeal := fun m ρ _ => Cert.ModFwdIdeal.Gen.frame m ρ

theorem frame_RefModFwdIdeal : quiescent_RefModFwdIdeal := fun m ρ _ =>
  (θ_run Cert.RefModFwdIdeal.defs _ _).mono (fun r h => ⟨fun c => (h c).2, sem_eq_zero_of_no_sems (by decide) r.2⟩)
    (Cert.RefModFwdIdeal.Value.run (F := Ideal) m ρ)

theorem frame_NormBwd : quiescent_NormBwd := fun m ρ _ => Cert.NormBwd.Gen.frame m ρ

theorem frame_NormBwdIdeal : quiescent_NormBwdIdeal := fun m ρ _ => Cert.NormBwdIdeal.Gen.frame m ρ

theorem frame_RefNormBwdIdeal : quiescent_RefNormBwdIdeal := fun m ρ _ =>
  (θ_run Cert.RefNormBwdIdeal.defs _ _).mono (fun r h => ⟨fun c => (h c).2.2, sem_eq_zero_of_no_sems (by decide) r.2⟩)
    (Cert.RefNormBwdIdeal.Value.run (F := Ideal) m ρ)

theorem claim : Cert.Claim :=
  ⟨Cert.AttnDq.Gen.facts, Cert.AttnDqIdeal.Gen.facts, Cert.RefAttnDqIdeal.Gen.facts,
    Cert.AttnDkv.Gen.facts, Cert.AttnDkvIdeal.Gen.facts, Cert.RefAttnDkvIdeal.Gen.facts,
    Cert.Attn.Gen.facts, Cert.AttnIdeal.Gen.facts, Cert.RefAttnIdeal.Gen.facts,
    Cert.InFwd.Gen.facts, Cert.InFwdIdeal.Gen.facts, Cert.RefInFwdIdeal.Gen.facts,
    Cert.UpFwd.Gen.facts, Cert.UpFwdIdeal.Gen.facts, Cert.RefUpFwdIdeal.Gen.facts,
    Cert.BranchFwd.Gen.facts, Cert.BranchFwdIdeal.Gen.facts, Cert.RefBranchFwdIdeal.Gen.facts,
    Cert.OutFwd.Gen.facts, Cert.OutFwdIdeal.Gen.facts, Cert.RefOutFwdIdeal.Gen.facts,
    Cert.InWgrad.Gen.facts, Cert.InWgradIdeal.Gen.facts, Cert.RefInWgradIdeal.Gen.facts,
    Cert.InDgrad.Gen.facts, Cert.InDgradIdeal.Gen.facts, Cert.RefInDgradIdeal.Gen.facts,
    Cert.UpWgrad.Gen.facts, Cert.UpWgradIdeal.Gen.facts, Cert.RefUpWgradIdeal.Gen.facts,
    Cert.UpDgrad.Gen.facts, Cert.UpDgradIdeal.Gen.facts, Cert.RefUpDgradIdeal.Gen.facts,
    Cert.DownWgrad.Gen.facts, Cert.DownWgradIdeal.Gen.facts, Cert.RefDownWgradIdeal.Gen.facts,
    Cert.DownDgrad.Gen.facts, Cert.DownDgradIdeal.Gen.facts, Cert.RefDownDgradIdeal.Gen.facts,
    Cert.DownFwd.Gen.facts, Cert.DownFwdIdeal.Gen.facts, Cert.RefDownFwdIdeal.Gen.facts,
    Cert.BranchWgrad.Gen.facts, Cert.BranchWgradIdeal.Gen.facts, Cert.RefBranchWgradIdeal.Gen.facts,
    Cert.BranchDgrad.Gen.facts, Cert.BranchDgradIdeal.Gen.facts, Cert.RefBranchDgradIdeal.Gen.facts,
    Cert.OutWgrad.Gen.facts, Cert.OutWgradIdeal.Gen.facts, Cert.RefOutWgradIdeal.Gen.facts,
    Cert.OutDgrad.Gen.facts, Cert.OutDgradIdeal.Gen.facts, Cert.RefOutDgradIdeal.Gen.facts,
    Cert.GateDgrad.Gen.facts, Cert.GateDgradIdeal.Gen.facts, Cert.RefGateDgradIdeal.Gen.facts,
    Cert.GateWgrad.Gen.facts, Cert.GateWgradIdeal.Gen.facts, Cert.RefGateWgradIdeal.Gen.facts,
    Cert.GateFwd.Gen.facts, Cert.GateFwdIdeal.Gen.facts, Cert.RefGateFwdIdeal.Gen.facts,
    Cert.NormFwd.Gen.facts, Cert.NormFwdIdeal.Gen.facts, Cert.RefNormFwdIdeal.Gen.facts,
    Cert.ModFwd.Gen.facts, Cert.ModFwdIdeal.Gen.facts, Cert.RefModFwdIdeal.Gen.facts,
    Cert.NormBwd.Gen.facts, Cert.NormBwdIdeal.Gen.facts, Cert.RefNormBwdIdeal.Gen.facts,
    Cert.Pre_finite_ct.Gen.facts, Cert.Pre_finite.Gen.facts,
    frame_AttnDq, frame_AttnDqIdeal, frame_AttnDqIdeal_finite, frame_RefAttnDqIdeal, frame_RefAttnDqIdeal_finite,
    frame_AttnDkv, frame_AttnDkvIdeal, frame_AttnDkvIdeal_finite, frame_RefAttnDkvIdeal, frame_RefAttnDkvIdeal_finite,
    frame_Attn, frame_AttnIdeal, frame_AttnIdeal_finite, frame_RefAttnIdeal, frame_RefAttnIdeal_finite,
    frame_InFwd, frame_InFwdIdeal, frame_RefInFwdIdeal,
    frame_UpFwd, frame_UpFwdIdeal, frame_RefUpFwdIdeal,
    frame_BranchFwd, frame_BranchFwdIdeal, frame_RefBranchFwdIdeal,
    frame_OutFwd, frame_OutFwdIdeal, frame_RefOutFwdIdeal,
    frame_InWgrad, frame_InWgradIdeal, frame_RefInWgradIdeal,
    frame_InDgrad, frame_InDgradIdeal, frame_RefInDgradIdeal,
    frame_UpWgrad, frame_UpWgradIdeal, frame_RefUpWgradIdeal,
    frame_UpDgrad, frame_UpDgradIdeal, frame_RefUpDgradIdeal,
    frame_DownWgrad, frame_DownWgradIdeal, frame_RefDownWgradIdeal,
    frame_DownDgrad, frame_DownDgradIdeal, frame_RefDownDgradIdeal,
    frame_DownFwd, frame_DownFwdIdeal, frame_RefDownFwdIdeal,
    frame_BranchWgrad, frame_BranchWgradIdeal, frame_RefBranchWgradIdeal,
    frame_BranchDgrad, frame_BranchDgradIdeal, frame_RefBranchDgradIdeal,
    frame_OutWgrad, frame_OutWgradIdeal, frame_RefOutWgradIdeal,
    frame_OutDgrad, frame_OutDgradIdeal, frame_RefOutDgradIdeal,
    frame_GateDgrad, frame_GateDgradIdeal, frame_RefGateDgradIdeal,
    frame_GateWgrad, frame_GateWgradIdeal, frame_RefGateWgradIdeal,
    frame_GateFwd, frame_GateFwdIdeal, frame_RefGateFwdIdeal,
    frame_NormFwd, frame_NormFwdIdeal, frame_RefNormFwdIdeal,
    frame_ModFwd, frame_ModFwdIdeal, frame_RefModFwdIdeal,
    frame_NormBwd, frame_NormBwdIdeal, frame_RefNormBwdIdeal,
    trivial, Cert.Attention.queryGradient, trivial, Cert.Attention.keyValueGradient, trivial, Cert.Attention.forward,
    trivial, Cert.Products.value_InFwd,
    trivial, Cert.Products.value_UpFwd,
    trivial, Cert.Products.value_BranchFwd,
    trivial, Cert.Products.value_OutFwd,
    trivial, Cert.Products.value_InWgrad,
    trivial, Cert.Products.value_InDgrad,
    trivial, Cert.Products.value_UpWgrad,
    trivial, Cert.Products.value_UpDgrad,
    trivial, Cert.Products.value_DownWgrad,
    trivial, Cert.Products.value_DownDgrad,
    trivial, Cert.Products.value_DownFwd,
    trivial, Cert.Products.value_BranchWgrad,
    trivial, Cert.Products.value_BranchDgrad,
    trivial, Cert.Products.value_OutWgrad,
    trivial, Cert.Products.value_OutDgrad,
    trivial, Cert.Products.value_GateDgrad,
    trivial, Cert.Products.value_GateWgrad,
    trivial, Cert.Products.value_GateFwd,
    trivial, Cert.Products.value_NormFwd,
    trivial, Cert.Products.value_ModFwd,
    trivial, Cert.Products.value_NormBwd⟩

end Cert.Proof

end
